-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinRefIdeal (m : (ℓ : Loc Cert.AinRefIdeal.nD Cert.AinRefIdeal.τ Cert.AinRefIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutRefIdeal (m : (ℓ : Loc Cert.AoutRefIdeal.nD Cert.AoutRefIdeal.τ Cert.AoutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ow (m : (ℓ : Loc Cert.Ow.nD Cert.Ow.τ Cert.Ow.sig) → Buf (Elt Bits) ℓ) : Prop :=
  True

def Pre_OwIdeal (m : (ℓ : Loc Cert.OwIdeal.nD Cert.OwIdeal.τ Cert.OwIdeal.sig) → Buf (Elt Ideal) ℓ) : Prop :=
  True

def Pre_OwRefIdeal (m : (ℓ : Loc Cert.OwRefIdeal.nD Cert.OwRefIdeal.τ Cert.OwRefIdeal.sig) → Buf (Elt Ideal) ℓ) : Prop :=
  True

def Pre_Qw (m : (ℓ : Loc Cert.Qw.nD Cert.Qw.τ Cert.Qw.sig) → Buf (Elt Bits) ℓ) : Prop :=
  True

def Pre_QwIdeal (m : (ℓ : Loc Cert.QwIdeal.nD Cert.QwIdeal.τ Cert.QwIdeal.sig) → Buf (Elt Ideal) ℓ) : Prop :=
  True

def Pre_QwRefIdeal (m : (ℓ : Loc Cert.QwRefIdeal.nD Cert.QwRefIdeal.τ Cert.QwRefIdeal.sig) → Buf (Elt Ideal) ℓ) : Prop :=
  True

def Pre_AoutB (m : (ℓ : Loc Cert.AoutB.nD Cert.AoutB.τ Cert.AoutB.sig) → Buf (Elt Bits) ℓ) : Prop :=
  True

def Pre_AoutBIdeal (m : (ℓ : Loc Cert.AoutBIdeal.nD Cert.AoutBIdeal.τ Cert.AoutBIdeal.sig) → Buf (Elt Ideal) ℓ) : Prop :=
  True

def Pre_AoutBRefIdeal (m : (ℓ : Loc Cert.AoutBRefIdeal.nD Cert.AoutBRefIdeal.τ Cert.AoutBRefIdeal.sig) → Buf (Elt Ideal) ℓ) : Prop :=
  True

def Pre_Ob (m : (ℓ : Loc Cert.Ob.nD Cert.Ob.τ Cert.Ob.sig) → Buf (Elt Bits) ℓ) : Prop :=
  True

def Pre_ObIdeal (m : (ℓ : Loc Cert.ObIdeal.nD Cert.ObIdeal.τ Cert.ObIdeal.sig) → Buf (Elt Ideal) ℓ) : Prop :=
  True

def Pre_ObRefIdeal (m : (ℓ : Loc Cert.ObRefIdeal.nD Cert.ObRefIdeal.τ Cert.ObRefIdeal.sig) → Buf (Elt Ideal) ℓ) : Prop :=
  True

def Pre_AinB (m : (ℓ : Loc Cert.AinB.nD Cert.AinB.τ Cert.AinB.sig) → Buf (Elt Bits) ℓ) : Prop :=
  True

def Pre_AinBIdeal (m : (ℓ : Loc Cert.AinBIdeal.nD Cert.AinBIdeal.τ Cert.AinBIdeal.sig) → Buf (Elt Ideal) ℓ) : Prop :=
  True

def Pre_AinBRefIdeal (m : (ℓ : Loc Cert.AinBRefIdeal.nD Cert.AinBRefIdeal.τ Cert.AinBRefIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_KvB (m : (ℓ : Loc Cert.KvB.nD Cert.KvB.τ Cert.KvB.sig) → Buf (Elt Bits) ℓ) : Prop :=
  True

def Pre_KvBIdeal (m : (ℓ : Loc Cert.KvBIdeal.nD Cert.KvBIdeal.τ Cert.KvBIdeal.sig) → Buf (Elt Ideal) ℓ) : Prop :=
  True

def Pre_KvBRefIdeal (m : (ℓ : Loc Cert.KvBRefIdeal.nD Cert.KvBRefIdeal.τ Cert.KvBRefIdeal.sig) → Buf (Elt Ideal) ℓ) : Prop :=
  True

def Pre_MlpF (m : (ℓ : Loc Cert.MlpF.nD Cert.MlpF.τ Cert.MlpF.sig) → Buf (Elt Bits) ℓ) : Prop :=
  True

def Pre_MlpFIdeal (m : (ℓ : Loc Cert.MlpFIdeal.nD Cert.MlpFIdeal.τ Cert.MlpFIdeal.sig) → Buf (Elt Ideal) ℓ) : Prop :=
  True

def Pre_MlpFRefIdeal (m : (ℓ : Loc Cert.MlpFRefIdeal.nD Cert.MlpFRefIdeal.τ Cert.MlpFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_AinF (m : (ℓ : Loc Cert.AinF.nD Cert.AinF.τ Cert.AinF.sig) → Buf (Elt Bits) ℓ) : Prop :=
  True

def Pre_AinFIdeal (m : (ℓ : Loc Cert.AinFIdeal.nD Cert.AinFIdeal.τ Cert.AinFIdeal.sig) → Buf (Elt Ideal) ℓ) : Prop :=
  True

def Pre_AinFRefIdeal (m : (ℓ : Loc Cert.AinFRefIdeal.nD Cert.AinFRefIdeal.τ Cert.AinFRefIdeal.sig) → Buf (Elt Ideal) ℓ) : Prop :=
  True

def Pre_AoutF (m : (ℓ : Loc Cert.AoutF.nD Cert.AoutF.τ Cert.AoutF.sig) → Buf (Elt Bits) ℓ) : Prop :=
  True

def Pre_AoutFIdeal (m : (ℓ : Loc Cert.AoutFIdeal.nD Cert.AoutFIdeal.τ Cert.AoutFIdeal.sig) → Buf (Elt Ideal) ℓ) : Prop :=
  True

def Pre_AoutFRefIdeal (m : (ℓ : Loc Cert.AoutFRefIdeal.nD Cert.AoutFRefIdeal.τ Cert.AoutFRefIdeal.sig) → Buf (Elt Ideal) ℓ) : Prop :=
  True

def Pre_KvF (m : (ℓ : Loc Cert.KvF.nD Cert.KvF.τ Cert.KvF.sig) → Buf (Elt Bits) ℓ) : Prop :=
  True

def Pre_KvFIdeal (m : (ℓ : Loc Cert.KvFIdeal.nD Cert.KvFIdeal.τ Cert.KvFIdeal.sig) → Buf (Elt Ideal) ℓ) : Prop :=
  True

def Pre_KvFRefIdeal (m : (ℓ : Loc Cert.KvFRefIdeal.nD Cert.KvFRefIdeal.τ Cert.KvFRefIdeal.sig) → Buf (Elt Ideal) ℓ) : Prop :=
  True

def Pre_QF (m : (ℓ : Loc Cert.QF.nD Cert.QF.τ Cert.QF.sig) → Buf (Elt Bits) ℓ) : Prop :=
  True

def Pre_QFIdeal (m : (ℓ : Loc Cert.QFIdeal.nD Cert.QFIdeal.τ Cert.QFIdeal.sig) → Buf (Elt Ideal) ℓ) : Prop :=
  True

def Pre_QFRefIdeal (m : (ℓ : Loc Cert.QFRefIdeal.nD Cert.QFRefIdeal.τ Cert.QFRefIdeal.sig) → Buf (Elt Ideal) ℓ) : Prop :=
  True

def Pre_OF (m : (ℓ : Loc Cert.OF.nD Cert.OF.τ Cert.OF.sig) → Buf (Elt Bits) ℓ) : Prop :=
  True

def Pre_OFIdeal (m : (ℓ : Loc Cert.OFIdeal.nD Cert.OFIdeal.τ Cert.OFIdeal.sig) → Buf (Elt Ideal) ℓ) : Prop :=
  True

def Pre_OFRefIdeal (m : (ℓ : Loc Cert.OFRefIdeal.nD Cert.OFRefIdeal.τ Cert.OFRefIdeal.sig) → Buf (Elt Ideal) ℓ) : Prop :=
  True

def Pre_LossB (m : (ℓ : Loc Cert.LossB.nD Cert.LossB.τ Cert.LossB.sig) → Buf (Elt Bits) ℓ) : Prop :=
  True

def Pre_LossBIdeal (m : (ℓ : Loc Cert.LossBIdeal.nD Cert.LossBIdeal.τ Cert.LossBIdeal.sig) → Buf (Elt Ideal) ℓ) : Prop :=
  True

def Pre_LossBRefIdeal (m : (ℓ : Loc Cert.LossBRefIdeal.nD Cert.LossBRefIdeal.τ Cert.LossBRefIdeal.sig) → Buf (Elt Ideal) ℓ) : Prop :=
  True

def Pre_AinN (m : (ℓ : Loc Cert.AinN.nD Cert.AinN.τ Cert.AinN.sig) → Buf (Elt Bits) ℓ) : Prop :=
  True

def Pre_AinNIdeal (m : (ℓ : Loc Cert.AinNIdeal.nD Cert.AinNIdeal.τ Cert.AinNIdeal.sig) → Buf (Elt Ideal) ℓ) : Prop :=
  True

def Pre_AinNRefIdeal (m : (ℓ : Loc Cert.AinNRefIdeal.nD Cert.AinNRefIdeal.τ Cert.AinNRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdKv (m : (ℓ : Loc Cert.AdKv.nD Cert.AdKv.τ Cert.AdKv.sig) → Buf (Elt Bits) ℓ) : Prop :=
  True

def Pre_AdKvIdeal (m : (ℓ : Loc Cert.AdKvIdeal.nD Cert.AdKvIdeal.τ Cert.AdKvIdeal.sig) → Buf (Elt Ideal) ℓ) : Prop :=
  True

def Pre_AdKvRefIdeal (m : (ℓ : Loc Cert.AdKvRefIdeal.nD Cert.AdKvRefIdeal.τ Cert.AdKvRefIdeal.sig) → Buf (Elt Ideal) ℓ) : Prop :=
  True

def Pre_AdQ (m : (ℓ : Loc Cert.AdQ.nD Cert.AdQ.τ Cert.AdQ.sig) → Buf (Elt Bits) ℓ) : Prop :=
  True

def Pre_AdQIdeal (m : (ℓ : Loc Cert.AdQIdeal.nD Cert.AdQIdeal.τ Cert.AdQIdeal.sig) → Buf (Elt Ideal) ℓ) : Prop :=
  True

def Pre_AdQRefIdeal (m : (ℓ : Loc Cert.AdQRefIdeal.nD Cert.AdQRefIdeal.τ Cert.AdQRefIdeal.sig) → Buf (Elt Ideal) ℓ) : Prop :=
  True

def Pre_AdO (m : (ℓ : Loc Cert.AdO.nD Cert.AdO.τ Cert.AdO.sig) → Buf (Elt Bits) ℓ) : Prop :=
  True

def Pre_AdOIdeal (m : (ℓ : Loc Cert.AdOIdeal.nD Cert.AdOIdeal.τ Cert.AdOIdeal.sig) → Buf (Elt Ideal) ℓ) : Prop :=
  True

def Pre_AdORefIdeal (m : (ℓ : Loc Cert.AdORefIdeal.nD Cert.AdORefIdeal.τ Cert.AdORefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvRefIdeal (m : (ℓ : Loc Cert.AdConvRefIdeal.nD Cert.AdConvRefIdeal.τ Cert.AdConvRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1)
      ∧ r.2.mem ((c.tc : Thread Cert.Ain.nD Cert.Ain.τ).loc Cert.Ain.main_arg2) = m ((c.tc : Thread Cert.Ain.nD Cert.Ain.τ).loc Cert.Ain.main_arg2))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1)
      ∧ r.2.mem ((c.tc : Thread Cert.AinRefIdeal.nD Cert.AinRefIdeal.τ).loc Cert.AinRefIdeal.main_arg2) = m ((c.tc : Thread Cert.AinRefIdeal.nD Cert.AinRefIdeal.τ).loc Cert.AinRefIdeal.main_arg2))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1))
      ∧ r.2.sem = fun _ => 0)

def quiescent_AoutRefIdeal [hAoutRefIdeal : Cert.AoutRefIdeal.Facts] : Prop :=
  ∀ (m : (ℓ : Loc Cert.AoutRefIdeal.nD Cert.AoutRefIdeal.τ Cert.AoutRefIdeal.sig) → Buf (Elt Ideal) ℓ) (g : Dev Cert.AoutRefIdeal.nD → PrngReg), Pre_AoutRefIdeal m →
    θ_run (Cert.AoutRefIdeal.defs (F := Ideal)) (onTc (τ := Cert.AoutRefIdeal.τ) (Cert.AoutRefIdeal.main (F := Ideal))) ⟨m, fun _ => 0, g⟩ (fun r => (∀ c : Dev Cert.AoutRefIdeal.nD,
      r.2.mem ((c.tc : Thread Cert.AoutRefIdeal.nD Cert.AoutRefIdeal.τ).loc Cert.AoutRefIdeal.main_arg0) = m ((c.tc : Thread Cert.AoutRefIdeal.nD Cert.AoutRefIdeal.τ).loc Cert.AoutRefIdeal.main_arg0)
      ∧ r.2.mem ((c.tc : Thread Cert.AoutRefIdeal.nD Cert.AoutRefIdeal.τ).loc Cert.AoutRefIdeal.main_arg1) = m ((c.tc : Thread Cert.AoutRefIdeal.nD Cert.AoutRefIdeal.τ).loc Cert.AoutRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Ow [hOw : Cert.Ow.Facts] : Prop :=
  ∀ (m : (ℓ : Loc Cert.Ow.nD Cert.Ow.τ Cert.Ow.sig) → Buf (Elt Bits) ℓ) (g : Dev Cert.Ow.nD → PrngReg), Pre_Ow m →
    θ_run (Cert.Ow.defs (F := Bits)) (onTc (τ := Cert.Ow.τ) (Cert.Ow.main (F := Bits))) ⟨m, fun _ => 0, g⟩ (fun r => (∀ c : Dev Cert.Ow.nD,
      r.2.mem ((c.tc : Thread Cert.Ow.nD Cert.Ow.τ).loc Cert.Ow.main_arg0) = m ((c.tc : Thread Cert.Ow.nD Cert.Ow.τ).loc Cert.Ow.main_arg0)
      ∧ r.2.mem ((c.tc : Thread Cert.Ow.nD Cert.Ow.τ).loc Cert.Ow.main_arg1) = m ((c.tc : Thread Cert.Ow.nD Cert.Ow.τ).loc Cert.Ow.main_arg1))
      ∧ r.2.sem = fun _ => 0)

def quiescent_OwIdeal [hOwIdeal : Cert.OwIdeal.Facts] : Prop :=
  ∀ (m : (ℓ : Loc Cert.OwIdeal.nD Cert.OwIdeal.τ Cert.OwIdeal.sig) → Buf (Elt Ideal) ℓ) (g : Dev Cert.OwIdeal.nD → PrngReg), Pre_OwIdeal m →
    θ_run (Cert.OwIdeal.defs (F := Ideal)) (onTc (τ := Cert.OwIdeal.τ) (Cert.OwIdeal.main (F := Ideal))) ⟨m, fun _ => 0, g⟩ (fun r => (∀ c : Dev Cert.OwIdeal.nD,
      r.2.mem ((c.tc : Thread Cert.OwIdeal.nD Cert.OwIdeal.τ).loc Cert.OwIdeal.main_arg0) = m ((c.tc : Thread Cert.OwIdeal.nD Cert.OwIdeal.τ).loc Cert.OwIdeal.main_arg0)
      ∧ r.2.mem ((c.tc : Thread Cert.OwIdeal.nD Cert.OwIdeal.τ).loc Cert.OwIdeal.main_arg1) = m ((c.tc : Thread Cert.OwIdeal.nD Cert.OwIdeal.τ).loc Cert.OwIdeal.main_arg1))
      ∧ r.2.sem = fun _ => 0)

def quiescent_OwRefIdeal [hOwRefIdeal : Cert.OwRefIdeal.Facts] : Prop :=
  ∀ (m : (ℓ : Loc Cert.OwRefIdeal.nD Cert.OwRefIdeal.τ Cert.OwRefIdeal.sig) → Buf (Elt Ideal) ℓ) (g : Dev Cert.OwRefIdeal.nD → PrngReg), Pre_OwRefIdeal m →
    θ_run (Cert.OwRefIdeal.defs (F := Ideal)) (onTc (τ := Cert.OwRefIdeal.τ) (Cert.OwRefIdeal.main (F := Ideal))) ⟨m, fun _ => 0, g⟩ (fun r => (∀ c : Dev Cert.OwRefIdeal.nD,
      r.2.mem ((c.tc : Thread Cert.OwRefIdeal.nD Cert.OwRefIdeal.τ).loc Cert.OwRefIdeal.main_arg0) = m ((c.tc : Thread Cert.OwRefIdeal.nD Cert.OwRefIdeal.τ).loc Cert.OwRefIdeal.main_arg0)
      ∧ r.2.mem ((c.tc : Thread Cert.OwRefIdeal.nD Cert.OwRefIdeal.τ).loc Cert.OwRefIdeal.main_arg1) = m ((c.tc : Thread Cert.OwRefIdeal.nD Cert.OwRefIdeal.τ).loc Cert.OwRefIdeal.main_arg1))
      ∧ r.2.sem = fun _ => 0)

def quiescent_Qw [hQw : Cert.Qw.Facts] : Prop :=
  ∀ (m : (ℓ : Loc Cert.Qw.nD Cert.Qw.τ Cert.Qw.sig) → Buf (Elt Bits) ℓ) (g : Dev Cert.Qw.nD → PrngReg), Pre_Qw m →
    θ_run (Cert.Qw.defs (F := Bits)) (onTc (τ := Cert.Qw.τ) (Cert.Qw.main (F := Bits))) ⟨m, fun _ => 0, g⟩ (fun r => (∀ c : Dev Cert.Qw.nD,
      r.2.mem ((c.tc : Thread Cert.Qw.nD Cert.Qw.τ).loc Cert.Qw.main_arg0) = m ((c.tc : Thread Cert.Qw.nD Cert.Qw.τ).loc Cert.Qw.main_arg0)
      ∧ r.2.mem ((c.tc : Thread Cert.Qw.nD Cert.Qw.τ).loc Cert.Qw.main_arg1) = m ((c.tc : Thread Cert.Qw.nD Cert.Qw.τ).loc Cert.Qw.main_arg1)
      ∧ r.2.mem ((c.tc : Thread Cert.Qw.nD Cert.Qw.τ).loc Cert.Qw.main_arg2) = m ((c.tc : Thread Cert.Qw.nD Cert.Qw.τ).loc Cert.Qw.main_arg2))
      ∧ r.2.sem = fun _ => 0)

def quiescent_QwIdeal [hQwIdeal : Cert.QwIdeal.Facts] : Prop :=
  ∀ (m : (ℓ : Loc Cert.QwIdeal.nD Cert.QwIdeal.τ Cert.QwIdeal.sig) → Buf (Elt Ideal) ℓ) (g : Dev Cert.QwIdeal.nD → PrngReg), Pre_QwIdeal m →
    θ_run (Cert.QwIdeal.defs (F := Ideal)) (onTc (τ := Cert.QwIdeal.τ) (Cert.QwIdeal.main (F := Ideal))) ⟨m, fun _ => 0, g⟩ (fun r => (∀ c : Dev Cert.QwIdeal.nD,
      r.2.mem ((c.tc : Thread Cert.QwIdeal.nD Cert.QwIdeal.τ).loc Cert.QwIdeal.main_arg0) = m ((c.tc : Thread Cert.QwIdeal.nD Cert.QwIdeal.τ).loc Cert.QwIdeal.main_arg0)
      ∧ r.2.mem ((c.tc : Thread Cert.QwIdeal.nD Cert.QwIdeal.τ).loc Cert.QwIdeal.main_arg1) = m ((c.tc : Thread Cert.QwIdeal.nD Cert.QwIdeal.τ).loc Cert.QwIdeal.main_arg1)
      ∧ r.2.mem ((c.tc : Thread Cert.QwIdeal.nD Cert.QwIdeal.τ).loc Cert.QwIdeal.main_arg2) = m ((c.tc : Thread Cert.QwIdeal.nD Cert.QwIdeal.τ).loc Cert.QwIdeal.main_arg2))
      ∧ r.2.sem = fun _ => 0)

def quiescent_QwRefIdeal [hQwRefIdeal : Cert.QwRefIdeal.Facts] : Prop :=
  ∀ (m : (ℓ : Loc Cert.QwRefIdeal.nD Cert.QwRefIdeal.τ Cert.QwRefIdeal.sig) → Buf (Elt Ideal) ℓ) (g : Dev Cert.QwRefIdeal.nD → PrngReg), Pre_QwRefIdeal m →
    θ_run (Cert.QwRefIdeal.defs (F := Ideal)) (onTc (τ := Cert.QwRefIdeal.τ) (Cert.QwRefIdeal.main (F := Ideal))) ⟨m, fun _ => 0, g⟩ (fun r => (∀ c : Dev Cert.QwRefIdeal.nD,
      r.2.mem ((c.tc : Thread Cert.QwRefIdeal.nD Cert.QwRefIdeal.τ).loc Cert.QwRefIdeal.main_arg0) = m ((c.tc : Thread Cert.QwRefIdeal.nD Cert.QwRefIdeal.τ).loc Cert.QwRefIdeal.main_arg0)
      ∧ r.2.mem ((c.tc : Thread Cert.QwRefIdeal.nD Cert.QwRefIdeal.τ).loc Cert.QwRefIdeal.main_arg1) = m ((c.tc : Thread Cert.QwRefIdeal.nD Cert.QwRefIdeal.τ).loc Cert.QwRefIdeal.main_arg1)
      ∧ r.2.mem ((c.tc : Thread Cert.QwRefIdeal.nD Cert.QwRefIdeal.τ).loc Cert.QwRefIdeal.main_arg2) = m ((c.tc : Thread Cert.QwRefIdeal.nD Cert.QwRefIdeal.τ).loc Cert.QwRefIdeal.main_arg2))
      ∧ r.2.sem = fun _ => 0)

def quiescent_AoutB [hAoutB : Cert.AoutB.Facts] : Prop :=
  ∀ (m : (ℓ : Loc Cert.AoutB.nD Cert.AoutB.τ Cert.AoutB.sig) → Buf (Elt Bits) ℓ) (g : Dev Cert.AoutB.nD → PrngReg), Pre_AoutB m →
    θ_run (Cert.AoutB.defs (F := Bits)) (onTc (τ := Cert.AoutB.τ) (Cert.AoutB.main (F := Bits))) ⟨m, fun _ => 0, g⟩ (fun r => (∀ c : Dev Cert.AoutB.nD,
      r.2.mem ((c.tc : Thread Cert.AoutB.nD Cert.AoutB.τ).loc Cert.AoutB.main_arg0) = m ((c.tc : Thread Cert.AoutB.nD Cert.AoutB.τ).loc Cert.AoutB.main_arg0)
      ∧ r.2.mem ((c.tc : Thread Cert.AoutB.nD Cert.AoutB.τ).loc Cert.AoutB.main_arg1) = m ((c.tc : Thread Cert.AoutB.nD Cert.AoutB.τ).loc Cert.AoutB.main_arg1))
      ∧ r.2.sem = fun _ => 0)

def quiescent_AoutBIdeal [hAoutBIdeal : Cert.AoutBIdeal.Facts] : Prop :=
  ∀ (m : (ℓ : Loc Cert.AoutBIdeal.nD Cert.AoutBIdeal.τ Cert.AoutBIdeal.sig) → Buf (Elt Ideal) ℓ) (g : Dev Cert.AoutBIdeal.nD → PrngReg), Pre_AoutBIdeal m →
    θ_run (Cert.AoutBIdeal.defs (F := Ideal)) (onTc (τ := Cert.AoutBIdeal.τ) (Cert.AoutBIdeal.main (F := Ideal))) ⟨m, fun _ => 0, g⟩ (fun r => (∀ c : Dev Cert.AoutBIdeal.nD,
      r.2.mem ((c.tc : Thread Cert.AoutBIdeal.nD Cert.AoutBIdeal.τ).loc Cert.AoutBIdeal.main_arg0) = m ((c.tc : Thread Cert.AoutBIdeal.nD Cert.AoutBIdeal.τ).loc Cert.AoutBIdeal.main_arg0)
      ∧ r.2.mem ((c.tc : Thread Cert.AoutBIdeal.nD Cert.AoutBIdeal.τ).loc Cert.AoutBIdeal.main_arg1) = m ((c.tc : Thread Cert.AoutBIdeal.nD Cert.AoutBIdeal.τ).loc Cert.AoutBIdeal.main_arg1))
      ∧ r.2.sem = fun _ => 0)

def quiescent_AoutBRefIdeal [hAoutBRefIdeal : Cert.AoutBRefIdeal.Facts] : Prop :=
  ∀ (m : (ℓ : Loc Cert.AoutBRefIdeal.nD Cert.AoutBRefIdeal.τ Cert.AoutBRefIdeal.sig) → Buf (Elt Ideal) ℓ) (g : Dev Cert.AoutBRefIdeal.nD → PrngReg), Pre_AoutBRefIdeal m →
    θ_run (Cert.AoutBRefIdeal.defs (F := Ideal)) (onTc (τ := Cert.AoutBRefIdeal.τ) (Cert.AoutBRefIdeal.main (F := Ideal))) ⟨m, fun _ => 0, g⟩ (fun r => (∀ c : Dev Cert.AoutBRefIdeal.nD,
      r.2.mem ((c.tc : Thread Cert.AoutBRefIdeal.nD Cert.AoutBRefIdeal.τ).loc Cert.AoutBRefIdeal.main_arg0) = m ((c.tc : Thread Cert.AoutBRefIdeal.nD Cert.AoutBRefIdeal.τ).loc Cert.AoutBRefIdeal.main_arg0)
      ∧ r.2.mem ((c.tc : Thread Cert.AoutBRefIdeal.nD Cert.AoutBRefIdeal.τ).loc Cert.AoutBRefIdeal.main_arg1) = m ((c.tc : Thread Cert.AoutBRefIdeal.nD Cert.AoutBRefIdeal.τ).loc Cert.AoutBRefIdeal.main_arg1))
      ∧ r.2.sem = fun _ => 0)

def quiescent_Ob [hOb : Cert.Ob.Facts] : Prop :=
  ∀ (m : (ℓ : Loc Cert.Ob.nD Cert.Ob.τ Cert.Ob.sig) → Buf (Elt Bits) ℓ) (g : Dev Cert.Ob.nD → PrngReg), Pre_Ob m →
    θ_run (Cert.Ob.defs (F := Bits)) (onTc (τ := Cert.Ob.τ) (Cert.Ob.main (F := Bits))) ⟨m, fun _ => 0, g⟩ (fun r => (∀ c : Dev Cert.Ob.nD,
      r.2.mem ((c.tc : Thread Cert.Ob.nD Cert.Ob.τ).loc Cert.Ob.main_arg0) = m ((c.tc : Thread Cert.Ob.nD Cert.Ob.τ).loc Cert.Ob.main_arg0)
      ∧ r.2.mem ((c.tc : Thread Cert.Ob.nD Cert.Ob.τ).loc Cert.Ob.main_arg1) = m ((c.tc : Thread Cert.Ob.nD Cert.Ob.τ).loc Cert.Ob.main_arg1))
      ∧ r.2.sem = fun _ => 0)

def quiescent_ObIdeal [hObIdeal : Cert.ObIdeal.Facts] : Prop :=
  ∀ (m : (ℓ : Loc Cert.ObIdeal.nD Cert.ObIdeal.τ Cert.ObIdeal.sig) → Buf (Elt Ideal) ℓ) (g : Dev Cert.ObIdeal.nD → PrngReg), Pre_ObIdeal m →
    θ_run (Cert.ObIdeal.defs (F := Ideal)) (onTc (τ := Cert.ObIdeal.τ) (Cert.ObIdeal.main (F := Ideal))) ⟨m, fun _ => 0, g⟩ (fun r => (∀ c : Dev Cert.ObIdeal.nD,
      r.2.mem ((c.tc : Thread Cert.ObIdeal.nD Cert.ObIdeal.τ).loc Cert.ObIdeal.main_arg0) = m ((c.tc : Thread Cert.ObIdeal.nD Cert.ObIdeal.τ).loc Cert.ObIdeal.main_arg0)
      ∧ r.2.mem ((c.tc : Thread Cert.ObIdeal.nD Cert.ObIdeal.τ).loc Cert.ObIdeal.main_arg1) = m ((c.tc : Thread Cert.ObIdeal.nD Cert.ObIdeal.τ).loc Cert.ObIdeal.main_arg1))
      ∧ r.2.sem = fun _ => 0)

def quiescent_ObRefIdeal [hObRefIdeal : Cert.ObRefIdeal.Facts] : Prop :=
  ∀ (m : (ℓ : Loc Cert.ObRefIdeal.nD Cert.ObRefIdeal.τ Cert.ObRefIdeal.sig) → Buf (Elt Ideal) ℓ) (g : Dev Cert.ObRefIdeal.nD → PrngReg), Pre_ObRefIdeal m →
    θ_run (Cert.ObRefIdeal.defs (F := Ideal)) (onTc (τ := Cert.ObRefIdeal.τ) (Cert.ObRefIdeal.main (F := Ideal))) ⟨m, fun _ => 0, g⟩ (fun r => (∀ c : Dev Cert.ObRefIdeal.nD,
      r.2.mem ((c.tc : Thread Cert.ObRefIdeal.nD Cert.ObRefIdeal.τ).loc Cert.ObRefIdeal.main_arg0) = m ((c.tc : Thread Cert.ObRefIdeal.nD Cert.ObRefIdeal.τ).loc Cert.ObRefIdeal.main_arg0)
      ∧ r.2.mem ((c.tc : Thread Cert.ObRefIdeal.nD Cert.ObRefIdeal.τ).loc Cert.ObRefIdeal.main_arg1) = m ((c.tc : Thread Cert.ObRefIdeal.nD Cert.ObRefIdeal.τ).loc Cert.ObRefIdeal.main_arg1))
      ∧ r.2.sem = fun _ => 0)

def quiescent_AinB [hAinB : Cert.AinB.Facts] : Prop :=
  ∀ (m : (ℓ : Loc Cert.AinB.nD Cert.AinB.τ Cert.AinB.sig) → Buf (Elt Bits) ℓ) (g : Dev Cert.AinB.nD → PrngReg), Pre_AinB m →
    θ_run (Cert.AinB.defs (F := Bits)) (onTc (τ := Cert.AinB.τ) (Cert.AinB.main (F := Bits))) ⟨m, fun _ => 0, g⟩ (fun r => (∀ c : Dev Cert.AinB.nD,
      r.2.mem ((c.tc : Thread Cert.AinB.nD Cert.AinB.τ).loc Cert.AinB.main_arg0) = m ((c.tc : Thread Cert.AinB.nD Cert.AinB.τ).loc Cert.AinB.main_arg0)
      ∧ r.2.mem ((c.tc : Thread Cert.AinB.nD Cert.AinB.τ).loc Cert.AinB.main_arg1) = m ((c.tc : Thread Cert.AinB.nD Cert.AinB.τ).loc Cert.AinB.main_arg1)
      ∧ r.2.mem ((c.tc : Thread Cert.AinB.nD Cert.AinB.τ).loc Cert.AinB.main_arg2) = m ((c.tc : Thread Cert.AinB.nD Cert.AinB.τ).loc Cert.AinB.main_arg2)
      ∧ r.2.mem ((c.tc : Thread Cert.AinB.nD Cert.AinB.τ).loc Cert.AinB.main_arg3) = m ((c.tc : Thread Cert.AinB.nD Cert.AinB.τ).loc Cert.AinB.main_arg3)
      ∧ r.2.mem ((c.tc : Thread Cert.AinB.nD Cert.AinB.τ).loc Cert.AinB.main_arg4) = m ((c.tc : Thread Cert.AinB.nD Cert.AinB.τ).loc Cert.AinB.main_arg4))
      ∧ r.2.sem = fun _ => 0)

def quiescent_AinBIdeal [hAinBIdeal : Cert.AinBIdeal.Facts] : Prop :=
  ∀ (m : (ℓ : Loc Cert.AinBIdeal.nD Cert.AinBIdeal.τ Cert.AinBIdeal.sig) → Buf (Elt Ideal) ℓ) (g : Dev Cert.AinBIdeal.nD → PrngReg), Pre_AinBIdeal m →
    θ_run (Cert.AinBIdeal.defs (F := Ideal)) (onTc (τ := Cert.AinBIdeal.τ) (Cert.AinBIdeal.main (F := Ideal))) ⟨m, fun _ => 0, g⟩ (fun r => (∀ c : Dev Cert.AinBIdeal.nD,
      r.2.mem ((c.tc : Thread Cert.AinBIdeal.nD Cert.AinBIdeal.τ).loc Cert.AinBIdeal.main_arg0) = m ((c.tc : Thread Cert.AinBIdeal.nD Cert.AinBIdeal.τ).loc Cert.AinBIdeal.main_arg0)
      ∧ r.2.mem ((c.tc : Thread Cert.AinBIdeal.nD Cert.AinBIdeal.τ).loc Cert.AinBIdeal.main_arg1) = m ((c.tc : Thread Cert.AinBIdeal.nD Cert.AinBIdeal.τ).loc Cert.AinBIdeal.main_arg1)
      ∧ r.2.mem ((c.tc : Thread Cert.AinBIdeal.nD Cert.AinBIdeal.τ).loc Cert.AinBIdeal.main_arg2) = m ((c.tc : Thread Cert.AinBIdeal.nD Cert.AinBIdeal.τ).loc Cert.AinBIdeal.main_arg2)
      ∧ r.2.mem ((c.tc : Thread Cert.AinBIdeal.nD Cert.AinBIdeal.τ).loc Cert.AinBIdeal.main_arg3) = m ((c.tc : Thread Cert.AinBIdeal.nD Cert.AinBIdeal.τ).loc Cert.AinBIdeal.main_arg3)
      ∧ r.2.mem ((c.tc : Thread Cert.AinBIdeal.nD Cert.AinBIdeal.τ).loc Cert.AinBIdeal.main_arg4) = m ((c.tc : Thread Cert.AinBIdeal.nD Cert.AinBIdeal.τ).loc Cert.AinBIdeal.main_arg4))
      ∧ r.2.sem = fun _ => 0)

def quiescent_AinBRefIdeal [hAinBRefIdeal : Cert.AinBRefIdeal.Facts] : Prop :=
  ∀ (m : (ℓ : Loc Cert.AinBRefIdeal.nD Cert.AinBRefIdeal.τ Cert.AinBRefIdeal.sig) → Buf (Elt Ideal) ℓ) (g : Dev Cert.AinBRefIdeal.nD → PrngReg), Pre_AinBRefIdeal m →
    θ_run (Cert.AinBRefIdeal.defs (F := Ideal)) (onTc (τ := Cert.AinBRefIdeal.τ) (Cert.AinBRefIdeal.main (F := Ideal))) ⟨m, fun _ => 0, g⟩ (fun r => (∀ c : Dev Cert.AinBRefIdeal.nD,
      r.2.mem ((c.tc : Thread Cert.AinBRefIdeal.nD Cert.AinBRefIdeal.τ).loc Cert.AinBRefIdeal.main_arg0) = m ((c.tc : Thread Cert.AinBRefIdeal.nD Cert.AinBRefIdeal.τ).loc Cert.AinBRefIdeal.main_arg0)
      ∧ r.2.mem ((c.tc : Thread Cert.AinBRefIdeal.nD Cert.AinBRefIdeal.τ).loc Cert.AinBRefIdeal.main_arg1) = m ((c.tc : Thread Cert.AinBRefIdeal.nD Cert.AinBRefIdeal.τ).loc Cert.AinBRefIdeal.main_arg1)
      ∧ r.2.mem ((c.tc : Thread Cert.AinBRefIdeal.nD Cert.AinBRefIdeal.τ).loc Cert.AinBRefIdeal.main_arg2) = m ((c.tc : Thread Cert.AinBRefIdeal.nD Cert.AinBRefIdeal.τ).loc Cert.AinBRefIdeal.main_arg2)
      ∧ r.2.mem ((c.tc : Thread Cert.AinBRefIdeal.nD Cert.AinBRefIdeal.τ).loc Cert.AinBRefIdeal.main_arg3) = m ((c.tc : Thread Cert.AinBRefIdeal.nD Cert.AinBRefIdeal.τ).loc Cert.AinBRefIdeal.main_arg3)
      ∧ r.2.mem ((c.tc : Thread Cert.AinBRefIdeal.nD Cert.AinBRefIdeal.τ).loc Cert.AinBRefIdeal.main_arg4) = m ((c.tc : Thread Cert.AinBRefIdeal.nD Cert.AinBRefIdeal.τ).loc Cert.AinBRefIdeal.main_arg4))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1)
      ∧ r.2.mem ((c.tc : Thread Cert.Qb.nD Cert.Qb.τ).loc Cert.Qb.main_arg2) = m ((c.tc : Thread Cert.Qb.nD Cert.Qb.τ).loc Cert.Qb.main_arg2)
      ∧ r.2.mem ((c.tc : Thread Cert.Qb.nD Cert.Qb.τ).loc Cert.Qb.main_arg3) = m ((c.tc : Thread Cert.Qb.nD Cert.Qb.τ).loc Cert.Qb.main_arg3)
      ∧ r.2.mem ((c.tc : Thread Cert.Qb.nD Cert.Qb.τ).loc Cert.Qb.main_arg4) = m ((c.tc : Thread Cert.Qb.nD Cert.Qb.τ).loc Cert.Qb.main_arg4))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
      ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
      ∧ r.2.mem ((c.tc : Thread Cert.QbIdeal.nD Cert.QbIdeal.τ).loc Cert.QbIdeal.main_arg3) = m ((c.tc : Thread Cert.QbIdeal.nD Cert.QbIdeal.τ).loc Cert.QbIdeal.main_arg3)
      ∧ r.2.mem ((c.tc : Thread Cert.QbIdeal.nD Cert.QbIdeal.τ).loc Cert.QbIdeal.main_arg4) = m ((c.tc : Thread Cert.QbIdeal.nD Cert.QbIdeal.τ).loc Cert.QbIdeal.main_arg4))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1)
      ∧ r.2.mem ((c.tc : Thread Cert.QbRefIdeal.nD Cert.QbRefIdeal.τ).loc Cert.QbRefIdeal.main_arg2) = m ((c.tc : Thread Cert.QbRefIdeal.nD Cert.QbRefIdeal.τ).loc Cert.QbRefIdeal.main_arg2)
      ∧ r.2.mem ((c.tc : Thread Cert.QbRefIdeal.nD Cert.QbRefIdeal.τ).loc Cert.QbRefIdeal.main_arg3) = m ((c.tc : Thread Cert.QbRefIdeal.nD Cert.QbRefIdeal.τ).loc Cert.QbRefIdeal.main_arg3)
      ∧ r.2.mem ((c.tc : Thread Cert.QbRefIdeal.nD Cert.QbRefIdeal.τ).loc Cert.QbRefIdeal.main_arg4) = m ((c.tc : Thread Cert.QbRefIdeal.nD Cert.QbRefIdeal.τ).loc Cert.QbRefIdeal.main_arg4))
      ∧ r.2.sem = fun _ => 0)

def quiescent_KvB [hKvB : Cert.KvB.Facts] : Prop :=
  ∀ (m : (ℓ : Loc Cert.KvB.nD Cert.KvB.τ Cert.KvB.sig) → Buf (Elt Bits) ℓ) (g : Dev Cert.KvB.nD → PrngReg), Pre_KvB m →
    θ_run (Cert.KvB.defs (F := Bits)) (onTc (τ := Cert.KvB.τ) (Cert.KvB.main (F := Bits))) ⟨m, fun _ => 0, g⟩ (fun r => (∀ c : Dev Cert.KvB.nD,
      r.2.mem ((c.tc : Thread Cert.KvB.nD Cert.KvB.τ).loc Cert.KvB.main_arg0) = m ((c.tc : Thread Cert.KvB.nD Cert.KvB.τ).loc Cert.KvB.main_arg0)
      ∧ r.2.mem ((c.tc : Thread Cert.KvB.nD Cert.KvB.τ).loc Cert.KvB.main_arg1) = m ((c.tc : Thread Cert.KvB.nD Cert.KvB.τ).loc Cert.KvB.main_arg1)
      ∧ r.2.mem ((c.tc : Thread Cert.KvB.nD Cert.KvB.τ).loc Cert.KvB.main_arg2) = m ((c.tc : Thread Cert.KvB.nD Cert.KvB.τ).loc Cert.KvB.main_arg2)
      ∧ r.2.mem ((c.tc : Thread Cert.KvB.nD Cert.KvB.τ).loc Cert.KvB.main_arg3) = m ((c.tc : Thread Cert.KvB.nD Cert.KvB.τ).loc Cert.KvB.main_arg3)
      ∧ r.2.mem ((c.tc : Thread Cert.KvB.nD Cert.KvB.τ).loc Cert.KvB.main_arg4) = m ((c.tc : Thread Cert.KvB.nD Cert.KvB.τ).loc Cert.KvB.main_arg4)
      ∧ r.2.mem ((c.tc : Thread Cert.KvB.nD Cert.KvB.τ).loc Cert.KvB.main_arg5) = m ((c.tc : Thread Cert.KvB.nD Cert.KvB.τ).loc Cert.KvB.main_arg5))
      ∧ r.2.sem = fun _ => 0)

def quiescent_KvBIdeal [hKvBIdeal : Cert.KvBIdeal.Facts] : Prop :=
  ∀ (m : (ℓ : Loc Cert.KvBIdeal.nD Cert.KvBIdeal.τ Cert.KvBIdeal.sig) → Buf (Elt Ideal) ℓ) (g : Dev Cert.KvBIdeal.nD → PrngReg), Pre_KvBIdeal m →
    θ_run (Cert.KvBIdeal.defs (F := Ideal)) (onTc (τ := Cert.KvBIdeal.τ) (Cert.KvBIdeal.main (F := Ideal))) ⟨m, fun _ => 0, g⟩ (fun r => (∀ c : Dev Cert.KvBIdeal.nD,
      r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
      ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
      ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
      ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3)
      ∧ r.2.mem ((c.tc : Thread Cert.KvBIdeal.nD Cert.KvBIdeal.τ).loc Cert.KvBIdeal.main_arg4) = m ((c.tc : Thread Cert.KvBIdeal.nD Cert.KvBIdeal.τ).loc Cert.KvBIdeal.main_arg4)
      ∧ r.2.mem ((c.tc : Thread Cert.KvBIdeal.nD Cert.KvBIdeal.τ).loc Cert.KvBIdeal.main_arg5) = m ((c.tc : Thread Cert.KvBIdeal.nD Cert.KvBIdeal.τ).loc Cert.KvBIdeal.main_arg5))
      ∧ r.2.sem = fun _ => 0)

def quiescent_KvBRefIdeal [hKvBRefIdeal : Cert.KvBRefIdeal.Facts] : Prop :=
  ∀ (m : (ℓ : Loc Cert.KvBRefIdeal.nD Cert.KvBRefIdeal.τ Cert.KvBRefIdeal.sig) → Buf (Elt Ideal) ℓ) (g : Dev Cert.KvBRefIdeal.nD → PrngReg), Pre_KvBRefIdeal m →
    θ_run (Cert.KvBRefIdeal.defs (F := Ideal)) (onTc (τ := Cert.KvBRefIdeal.τ) (Cert.KvBRefIdeal.main (F := Ideal))) ⟨m, fun _ => 0, g⟩ (fun r => (∀ c : Dev Cert.KvBRefIdeal.nD,
      r.2.mem ((c.tc : Thread Cert.KvBRefIdeal.nD Cert.KvBRefIdeal.τ).loc Cert.KvBRefIdeal.main_arg0) = m ((c.tc : Thread Cert.KvBRefIdeal.nD Cert.KvBRefIdeal.τ).loc Cert.KvBRefIdeal.main_arg0)
      ∧ r.2.mem ((c.tc : Thread Cert.KvBRefIdeal.nD Cert.KvBRefIdeal.τ).loc Cert.KvBRefIdeal.main_arg1) = m ((c.tc : Thread Cert.KvBRefIdeal.nD Cert.KvBRefIdeal.τ).loc Cert.KvBRefIdeal.main_arg1)
      ∧ r.2.mem ((c.tc : Thread Cert.KvBRefIdeal.nD Cert.KvBRefIdeal.τ).loc Cert.KvBRefIdeal.main_arg2) = m ((c.tc : Thread Cert.KvBRefIdeal.nD Cert.KvBRefIdeal.τ).loc Cert.KvBRefIdeal.main_arg2)
      ∧ r.2.mem ((c.tc : Thread Cert.KvBRefIdeal.nD Cert.KvBRefIdeal.τ).loc Cert.KvBRefIdeal.main_arg3) = m ((c.tc : Thread Cert.KvBRefIdeal.nD Cert.KvBRefIdeal.τ).loc Cert.KvBRefIdeal.main_arg3)
      ∧ r.2.mem ((c.tc : Thread Cert.KvBRefIdeal.nD Cert.KvBRefIdeal.τ).loc Cert.KvBRefIdeal.main_arg4) = m ((c.tc : Thread Cert.KvBRefIdeal.nD Cert.KvBRefIdeal.τ).loc Cert.KvBRefIdeal.main_arg4)
      ∧ r.2.mem ((c.tc : Thread Cert.KvBRefIdeal.nD Cert.KvBRefIdeal.τ).loc Cert.KvBRefIdeal.main_arg5) = m ((c.tc : Thread Cert.KvBRefIdeal.nD Cert.KvBRefIdeal.τ).loc Cert.KvBRefIdeal.main_arg5))
      ∧ r.2.sem = fun _ => 0)

def quiescent_MlpF [hMlpF : Cert.MlpF.Facts] : Prop :=
  ∀ (m : (ℓ : Loc Cert.MlpF.nD Cert.MlpF.τ Cert.MlpF.sig) → Buf (Elt Bits) ℓ) (g : Dev Cert.MlpF.nD → PrngReg), Pre_MlpF m →
    θ_run (Cert.MlpF.defs (F := Bits)) (onTc (τ := Cert.MlpF.τ) (Cert.MlpF.main (F := Bits))) ⟨m, fun _ => 0, g⟩ (fun r => (∀ c : Dev Cert.MlpF.nD,
      r.2.mem ((c.tc : Thread Cert.MlpF.nD Cert.MlpF.τ).loc Cert.MlpF.main_arg0) = m ((c.tc : Thread Cert.MlpF.nD Cert.MlpF.τ).loc Cert.MlpF.main_arg0)
      ∧ r.2.mem ((c.tc : Thread Cert.MlpF.nD Cert.MlpF.τ).loc Cert.MlpF.main_arg1) = m ((c.tc : Thread Cert.MlpF.nD Cert.MlpF.τ).loc Cert.MlpF.main_arg1)
      ∧ r.2.mem ((c.tc : Thread Cert.MlpF.nD Cert.MlpF.τ).loc Cert.MlpF.main_arg2) = m ((c.tc : Thread Cert.MlpF.nD Cert.MlpF.τ).loc Cert.MlpF.main_arg2)
      ∧ r.2.mem ((c.tc : Thread Cert.MlpF.nD Cert.MlpF.τ).loc Cert.MlpF.main_arg3) = m ((c.tc : Thread Cert.MlpF.nD Cert.MlpF.τ).loc Cert.MlpF.main_arg3))
      ∧ r.2.sem = fun _ => 0)

def quiescent_MlpFIdeal [hMlpFIdeal : Cert.MlpFIdeal.Facts] : Prop :=
  ∀ (m : (ℓ : Loc Cert.MlpFIdeal.nD Cert.MlpFIdeal.τ Cert.MlpFIdeal.sig) → Buf (Elt Ideal) ℓ) (g : Dev Cert.MlpFIdeal.nD → PrngReg), Pre_MlpFIdeal m →
    θ_run (Cert.MlpFIdeal.defs (F := Ideal)) (onTc (τ := Cert.MlpFIdeal.τ) (Cert.MlpFIdeal.main (F := Ideal))) ⟨m, fun _ => 0, g⟩ (fun r => (∀ c : Dev Cert.MlpFIdeal.nD,
      r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
      ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
      ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
      ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ r.2.sem = fun _ => 0)

def quiescent_MlpFRefIdeal [hMlpFRefIdeal : Cert.MlpFRefIdeal.Facts] : Prop :=
  ∀ (m : (ℓ : Loc Cert.MlpFRefIdeal.nD Cert.MlpFRefIdeal.τ Cert.MlpFRefIdeal.sig) → Buf (Elt Ideal) ℓ) (g : Dev Cert.MlpFRefIdeal.nD → PrngReg), Pre_MlpFRefIdeal m →
    θ_run (Cert.MlpFRefIdeal.defs (F := Ideal)) (onTc (τ := Cert.MlpFRefIdeal.τ) (Cert.MlpFRefIdeal.main (F := Ideal))) ⟨m, fun _ => 0, g⟩ (fun r => (∀ c : Dev Cert.MlpFRefIdeal.nD,
      r.2.mem ((c.tc : Thread Cert.MlpFRefIdeal.nD Cert.MlpFRefIdeal.τ).loc Cert.MlpFRefIdeal.main_arg0) = m ((c.tc : Thread Cert.MlpFRefIdeal.nD Cert.MlpFRefIdeal.τ).loc Cert.MlpFRefIdeal.main_arg0)
      ∧ r.2.mem ((c.tc : Thread Cert.MlpFRefIdeal.nD Cert.MlpFRefIdeal.τ).loc Cert.MlpFRefIdeal.main_arg1) = m ((c.tc : Thread Cert.MlpFRefIdeal.nD Cert.MlpFRefIdeal.τ).loc Cert.MlpFRefIdeal.main_arg1)
      ∧ r.2.mem ((c.tc : Thread Cert.MlpFRefIdeal.nD Cert.MlpFRefIdeal.τ).loc Cert.MlpFRefIdeal.main_arg2) = m ((c.tc : Thread Cert.MlpFRefIdeal.nD Cert.MlpFRefIdeal.τ).loc Cert.MlpFRefIdeal.main_arg2)
      ∧ r.2.mem ((c.tc : Thread Cert.MlpFRefIdeal.nD Cert.MlpFRefIdeal.τ).loc Cert.MlpFRefIdeal.main_arg3) = m ((c.tc : Thread Cert.MlpFRefIdeal.nD Cert.MlpFRefIdeal.τ).loc Cert.MlpFRefIdeal.main_arg3))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1)
      ∧ r.2.mem ((c.tc : Thread Cert.UpF.nD Cert.UpF.τ).loc Cert.UpF.main_arg2) = m ((c.tc : Thread Cert.UpF.nD Cert.UpF.τ).loc Cert.UpF.main_arg2))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
      ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1)
      ∧ r.2.mem ((c.tc : Thread Cert.UpFRefIdeal.nD Cert.UpFRefIdeal.τ).loc Cert.UpFRefIdeal.main_arg2) = m ((c.tc : Thread Cert.UpFRefIdeal.nD Cert.UpFRefIdeal.τ).loc Cert.UpFRefIdeal.main_arg2))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2))
      ∧ r.2.sem = fun _ => 0)

def quiescent_AinF [hAinF : Cert.AinF.Facts] : Prop :=
  ∀ (m : (ℓ : Loc Cert.AinF.nD Cert.AinF.τ Cert.AinF.sig) → Buf (Elt Bits) ℓ) (g : Dev Cert.AinF.nD → PrngReg), Pre_AinF m →
    θ_run (Cert.AinF.defs (F := Bits)) (onTc (τ := Cert.AinF.τ) (Cert.AinF.main (F := Bits))) ⟨m, fun _ => 0, g⟩ (fun r => (∀ c : Dev Cert.AinF.nD,
      r.2.mem ((c.tc : Thread Cert.AinF.nD Cert.AinF.τ).loc Cert.AinF.main_arg0) = m ((c.tc : Thread Cert.AinF.nD Cert.AinF.τ).loc Cert.AinF.main_arg0)
      ∧ r.2.mem ((c.tc : Thread Cert.AinF.nD Cert.AinF.τ).loc Cert.AinF.main_arg1) = m ((c.tc : Thread Cert.AinF.nD Cert.AinF.τ).loc Cert.AinF.main_arg1)
      ∧ r.2.mem ((c.tc : Thread Cert.AinF.nD Cert.AinF.τ).loc Cert.AinF.main_arg2) = m ((c.tc : Thread Cert.AinF.nD Cert.AinF.τ).loc Cert.AinF.main_arg2))
      ∧ r.2.sem = fun _ => 0)

def quiescent_AinFIdeal [hAinFIdeal : Cert.AinFIdeal.Facts] : Prop :=
  ∀ (m : (ℓ : Loc Cert.AinFIdeal.nD Cert.AinFIdeal.τ Cert.AinFIdeal.sig) → Buf (Elt Ideal) ℓ) (g : Dev Cert.AinFIdeal.nD → PrngReg), Pre_AinFIdeal m →
    θ_run (Cert.AinFIdeal.defs (F := Ideal)) (onTc (τ := Cert.AinFIdeal.τ) (Cert.AinFIdeal.main (F := Ideal))) ⟨m, fun _ => 0, g⟩ (fun r => (∀ c : Dev Cert.AinFIdeal.nD,
      r.2.mem ((c.tc : Thread Cert.AinFIdeal.nD Cert.AinFIdeal.τ).loc Cert.AinFIdeal.main_arg0) = m ((c.tc : Thread Cert.AinFIdeal.nD Cert.AinFIdeal.τ).loc Cert.AinFIdeal.main_arg0)
      ∧ r.2.mem ((c.tc : Thread Cert.AinFIdeal.nD Cert.AinFIdeal.τ).loc Cert.AinFIdeal.main_arg1) = m ((c.tc : Thread Cert.AinFIdeal.nD Cert.AinFIdeal.τ).loc Cert.AinFIdeal.main_arg1)
      ∧ r.2.mem ((c.tc : Thread Cert.AinFIdeal.nD Cert.AinFIdeal.τ).loc Cert.AinFIdeal.main_arg2) = m ((c.tc : Thread Cert.AinFIdeal.nD Cert.AinFIdeal.τ).loc Cert.AinFIdeal.main_arg2))
      ∧ r.2.sem = fun _ => 0)

def quiescent_AinFRefIdeal [hAinFRefIdeal : Cert.AinFRefIdeal.Facts] : Prop :=
  ∀ (m : (ℓ : Loc Cert.AinFRefIdeal.nD Cert.AinFRefIdeal.τ Cert.AinFRefIdeal.sig) → Buf (Elt Ideal) ℓ) (g : Dev Cert.AinFRefIdeal.nD → PrngReg), Pre_AinFRefIdeal m →
    θ_run (Cert.AinFRefIdeal.defs (F := Ideal)) (onTc (τ := Cert.AinFRefIdeal.τ) (Cert.AinFRefIdeal.main (F := Ideal))) ⟨m, fun _ => 0, g⟩ (fun r => (∀ c : Dev Cert.AinFRefIdeal.nD,
      r.2.mem ((c.tc : Thread Cert.AinFRefIdeal.nD Cert.AinFRefIdeal.τ).loc Cert.AinFRefIdeal.main_arg0) = m ((c.tc : Thread Cert.AinFRefIdeal.nD Cert.AinFRefIdeal.τ).loc Cert.AinFRefIdeal.main_arg0)
      ∧ r.2.mem ((c.tc : Thread Cert.AinFRefIdeal.nD Cert.AinFRefIdeal.τ).loc Cert.AinFRefIdeal.main_arg1) = m ((c.tc : Thread Cert.AinFRefIdeal.nD Cert.AinFRefIdeal.τ).loc Cert.AinFRefIdeal.main_arg1)
      ∧ r.2.mem ((c.tc : Thread Cert.AinFRefIdeal.nD Cert.AinFRefIdeal.τ).loc Cert.AinFRefIdeal.main_arg2) = m ((c.tc : Thread Cert.AinFRefIdeal.nD Cert.AinFRefIdeal.τ).loc Cert.AinFRefIdeal.main_arg2))
      ∧ r.2.sem = fun _ => 0)

def quiescent_AoutF [hAoutF : Cert.AoutF.Facts] : Prop :=
  ∀ (m : (ℓ : Loc Cert.AoutF.nD Cert.AoutF.τ Cert.AoutF.sig) → Buf (Elt Bits) ℓ) (g : Dev Cert.AoutF.nD → PrngReg), Pre_AoutF m →
    θ_run (Cert.AoutF.defs (F := Bits)) (onTc (τ := Cert.AoutF.τ) (Cert.AoutF.main (F := Bits))) ⟨m, fun _ => 0, g⟩ (fun r => (∀ c : Dev Cert.AoutF.nD,
      r.2.mem ((c.tc : Thread Cert.AoutF.nD Cert.AoutF.τ).loc Cert.AoutF.main_arg0) = m ((c.tc : Thread Cert.AoutF.nD Cert.AoutF.τ).loc Cert.AoutF.main_arg0)
      ∧ r.2.mem ((c.tc : Thread Cert.AoutF.nD Cert.AoutF.τ).loc Cert.AoutF.main_arg1) = m ((c.tc : Thread Cert.AoutF.nD Cert.AoutF.τ).loc Cert.AoutF.main_arg1)
      ∧ r.2.mem ((c.tc : Thread Cert.AoutF.nD Cert.AoutF.τ).loc Cert.AoutF.main_arg2) = m ((c.tc : Thread Cert.AoutF.nD Cert.AoutF.τ).loc Cert.AoutF.main_arg2))
      ∧ r.2.sem = fun _ => 0)

def quiescent_AoutFIdeal [hAoutFIdeal : Cert.AoutFIdeal.Facts] : Prop :=
  ∀ (m : (ℓ : Loc Cert.AoutFIdeal.nD Cert.AoutFIdeal.τ Cert.AoutFIdeal.sig) → Buf (Elt Ideal) ℓ) (g : Dev Cert.AoutFIdeal.nD → PrngReg), Pre_AoutFIdeal m →
    θ_run (Cert.AoutFIdeal.defs (F := Ideal)) (onTc (τ := Cert.AoutFIdeal.τ) (Cert.AoutFIdeal.main (F := Ideal))) ⟨m, fun _ => 0, g⟩ (fun r => (∀ c : Dev Cert.AoutFIdeal.nD,
      r.2.mem ((c.tc : Thread Cert.AoutFIdeal.nD Cert.AoutFIdeal.τ).loc Cert.AoutFIdeal.main_arg0) = m ((c.tc : Thread Cert.AoutFIdeal.nD Cert.AoutFIdeal.τ).loc Cert.AoutFIdeal.main_arg0)
      ∧ r.2.mem ((c.tc : Thread Cert.AoutFIdeal.nD Cert.AoutFIdeal.τ).loc Cert.AoutFIdeal.main_arg1) = m ((c.tc : Thread Cert.AoutFIdeal.nD Cert.AoutFIdeal.τ).loc Cert.AoutFIdeal.main_arg1)
      ∧ r.2.mem ((c.tc : Thread Cert.AoutFIdeal.nD Cert.AoutFIdeal.τ).loc Cert.AoutFIdeal.main_arg2) = m ((c.tc : Thread Cert.AoutFIdeal.nD Cert.AoutFIdeal.τ).loc Cert.AoutFIdeal.main_arg2))
      ∧ r.2.sem = fun _ => 0)

def quiescent_AoutFRefIdeal [hAoutFRefIdeal : Cert.AoutFRefIdeal.Facts] : Prop :=
  ∀ (m : (ℓ : Loc Cert.AoutFRefIdeal.nD Cert.AoutFRefIdeal.τ Cert.AoutFRefIdeal.sig) → Buf (Elt Ideal) ℓ) (g : Dev Cert.AoutFRefIdeal.nD → PrngReg), Pre_AoutFRefIdeal m →
    θ_run (Cert.AoutFRefIdeal.defs (F := Ideal)) (onTc (τ := Cert.AoutFRefIdeal.τ) (Cert.AoutFRefIdeal.main (F := Ideal))) ⟨m, fun _ => 0, g⟩ (fun r => (∀ c : Dev Cert.AoutFRefIdeal.nD,
      r.2.mem ((c.tc : Thread Cert.AoutFRefIdeal.nD Cert.AoutFRefIdeal.τ).loc Cert.AoutFRefIdeal.main_arg0) = m ((c.tc : Thread Cert.AoutFRefIdeal.nD Cert.AoutFRefIdeal.τ).loc Cert.AoutFRefIdeal.main_arg0)
      ∧ r.2.mem ((c.tc : Thread Cert.AoutFRefIdeal.nD Cert.AoutFRefIdeal.τ).loc Cert.AoutFRefIdeal.main_arg1) = m ((c.tc : Thread Cert.AoutFRefIdeal.nD Cert.AoutFRefIdeal.τ).loc Cert.AoutFRefIdeal.main_arg1)
      ∧ r.2.mem ((c.tc : Thread Cert.AoutFRefIdeal.nD Cert.AoutFRefIdeal.τ).loc Cert.AoutFRefIdeal.main_arg2) = m ((c.tc : Thread Cert.AoutFRefIdeal.nD Cert.AoutFRefIdeal.τ).loc Cert.AoutFRefIdeal.main_arg2))
      ∧ r.2.sem = fun _ => 0)

def quiescent_KvF [hKvF : Cert.KvF.Facts] : Prop :=
  ∀ (m : (ℓ : Loc Cert.KvF.nD Cert.KvF.τ Cert.KvF.sig) → Buf (Elt Bits) ℓ) (g : Dev Cert.KvF.nD → PrngReg), Pre_KvF m →
    θ_run (Cert.KvF.defs (F := Bits)) (onTc (τ := Cert.KvF.τ) (Cert.KvF.main (F := Bits))) ⟨m, fun _ => 0, g⟩ (fun r => (∀ c : Dev Cert.KvF.nD,
      r.2.mem ((c.tc : Thread Cert.KvF.nD Cert.KvF.τ).loc Cert.KvF.main_arg0) = m ((c.tc : Thread Cert.KvF.nD Cert.KvF.τ).loc Cert.KvF.main_arg0)
      ∧ r.2.mem ((c.tc : Thread Cert.KvF.nD Cert.KvF.τ).loc Cert.KvF.main_arg1) = m ((c.tc : Thread Cert.KvF.nD Cert.KvF.τ).loc Cert.KvF.main_arg1)
      ∧ r.2.mem ((c.tc : Thread Cert.KvF.nD Cert.KvF.τ).loc Cert.KvF.main_arg2) = m ((c.tc : Thread Cert.KvF.nD Cert.KvF.τ).loc Cert.KvF.main_arg2))
      ∧ r.2.sem = fun _ => 0)

def quiescent_KvFIdeal [hKvFIdeal : Cert.KvFIdeal.Facts] : Prop :=
  ∀ (m : (ℓ : Loc Cert.KvFIdeal.nD Cert.KvFIdeal.τ Cert.KvFIdeal.sig) → Buf (Elt Ideal) ℓ) (g : Dev Cert.KvFIdeal.nD → PrngReg), Pre_KvFIdeal m →
    θ_run (Cert.KvFIdeal.defs (F := Ideal)) (onTc (τ := Cert.KvFIdeal.τ) (Cert.KvFIdeal.main (F := Ideal))) ⟨m, fun _ => 0, g⟩ (fun r => (∀ c : Dev Cert.KvFIdeal.nD,
      r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
      ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1)
      ∧ r.2.mem ((c.tc : Thread Cert.KvFIdeal.nD Cert.KvFIdeal.τ).loc Cert.KvFIdeal.main_arg2) = m ((c.tc : Thread Cert.KvFIdeal.nD Cert.KvFIdeal.τ).loc Cert.KvFIdeal.main_arg2))
      ∧ r.2.sem = fun _ => 0)

def quiescent_KvFRefIdeal [hKvFRefIdeal : Cert.KvFRefIdeal.Facts] : Prop :=
  ∀ (m : (ℓ : Loc Cert.KvFRefIdeal.nD Cert.KvFRefIdeal.τ Cert.KvFRefIdeal.sig) → Buf (Elt Ideal) ℓ) (g : Dev Cert.KvFRefIdeal.nD → PrngReg), Pre_KvFRefIdeal m →
    θ_run (Cert.KvFRefIdeal.defs (F := Ideal)) (onTc (τ := Cert.KvFRefIdeal.τ) (Cert.KvFRefIdeal.main (F := Ideal))) ⟨m, fun _ => 0, g⟩ (fun r => (∀ c : Dev Cert.KvFRefIdeal.nD,
      r.2.mem ((c.tc : Thread Cert.KvFRefIdeal.nD Cert.KvFRefIdeal.τ).loc Cert.KvFRefIdeal.main_arg0) = m ((c.tc : Thread Cert.KvFRefIdeal.nD Cert.KvFRefIdeal.τ).loc Cert.KvFRefIdeal.main_arg0)
      ∧ r.2.mem ((c.tc : Thread Cert.KvFRefIdeal.nD Cert.KvFRefIdeal.τ).loc Cert.KvFRefIdeal.main_arg1) = m ((c.tc : Thread Cert.KvFRefIdeal.nD Cert.KvFRefIdeal.τ).loc Cert.KvFRefIdeal.main_arg1)
      ∧ r.2.mem ((c.tc : Thread Cert.KvFRefIdeal.nD Cert.KvFRefIdeal.τ).loc Cert.KvFRefIdeal.main_arg2) = m ((c.tc : Thread Cert.KvFRefIdeal.nD Cert.KvFRefIdeal.τ).loc Cert.KvFRefIdeal.main_arg2))
      ∧ r.2.sem = fun _ => 0)

def quiescent_QF [hQF : Cert.QF.Facts] : Prop :=
  ∀ (m : (ℓ : Loc Cert.QF.nD Cert.QF.τ Cert.QF.sig) → Buf (Elt Bits) ℓ) (g : Dev Cert.QF.nD → PrngReg), Pre_QF m →
    θ_run (Cert.QF.defs (F := Bits)) (onTc (τ := Cert.QF.τ) (Cert.QF.main (F := Bits))) ⟨m, fun _ => 0, g⟩ (fun r => (∀ c : Dev Cert.QF.nD,
      r.2.mem ((c.tc : Thread Cert.QF.nD Cert.QF.τ).loc Cert.QF.main_arg0) = m ((c.tc : Thread Cert.QF.nD Cert.QF.τ).loc Cert.QF.main_arg0)
      ∧ r.2.mem ((c.tc : Thread Cert.QF.nD Cert.QF.τ).loc Cert.QF.main_arg1) = m ((c.tc : Thread Cert.QF.nD Cert.QF.τ).loc Cert.QF.main_arg1)
      ∧ r.2.mem ((c.tc : Thread Cert.QF.nD Cert.QF.τ).loc Cert.QF.main_arg2) = m ((c.tc : Thread Cert.QF.nD Cert.QF.τ).loc Cert.QF.main_arg2))
      ∧ r.2.sem = fun _ => 0)

def quiescent_QFIdeal [hQFIdeal : Cert.QFIdeal.Facts] : Prop :=
  ∀ (m : (ℓ : Loc Cert.QFIdeal.nD Cert.QFIdeal.τ Cert.QFIdeal.sig) → Buf (Elt Ideal) ℓ) (g : Dev Cert.QFIdeal.nD → PrngReg), Pre_QFIdeal m →
    θ_run (Cert.QFIdeal.defs (F := Ideal)) (onTc (τ := Cert.QFIdeal.τ) (Cert.QFIdeal.main (F := Ideal))) ⟨m, fun _ => 0, g⟩ (fun r => (∀ c : Dev Cert.QFIdeal.nD,
      r.2.mem ((c.tc : Thread Cert.QFIdeal.nD Cert.QFIdeal.τ).loc Cert.QFIdeal.main_arg0) = m ((c.tc : Thread Cert.QFIdeal.nD Cert.QFIdeal.τ).loc Cert.QFIdeal.main_arg0)
      ∧ r.2.mem ((c.tc : Thread Cert.QFIdeal.nD Cert.QFIdeal.τ).loc Cert.QFIdeal.main_arg1) = m ((c.tc : Thread Cert.QFIdeal.nD Cert.QFIdeal.τ).loc Cert.QFIdeal.main_arg1)
      ∧ r.2.mem ((c.tc : Thread Cert.QFIdeal.nD Cert.QFIdeal.τ).loc Cert.QFIdeal.main_arg2) = m ((c.tc : Thread Cert.QFIdeal.nD Cert.QFIdeal.τ).loc Cert.QFIdeal.main_arg2))
      ∧ r.2.sem = fun _ => 0)

def quiescent_QFRefIdeal [hQFRefIdeal : Cert.QFRefIdeal.Facts] : Prop :=
  ∀ (m : (ℓ : Loc Cert.QFRefIdeal.nD Cert.QFRefIdeal.τ Cert.QFRefIdeal.sig) → Buf (Elt Ideal) ℓ) (g : Dev Cert.QFRefIdeal.nD → PrngReg), Pre_QFRefIdeal m →
    θ_run (Cert.QFRefIdeal.defs (F := Ideal)) (onTc (τ := Cert.QFRefIdeal.τ) (Cert.QFRefIdeal.main (F := Ideal))) ⟨m, fun _ => 0, g⟩ (fun r => (∀ c : Dev Cert.QFRefIdeal.nD,
      r.2.mem ((c.tc : Thread Cert.QFRefIdeal.nD Cert.QFRefIdeal.τ).loc Cert.QFRefIdeal.main_arg0) = m ((c.tc : Thread Cert.QFRefIdeal.nD Cert.QFRefIdeal.τ).loc Cert.QFRefIdeal.main_arg0)
      ∧ r.2.mem ((c.tc : Thread Cert.QFRefIdeal.nD Cert.QFRefIdeal.τ).loc Cert.QFRefIdeal.main_arg1) = m ((c.tc : Thread Cert.QFRefIdeal.nD Cert.QFRefIdeal.τ).loc Cert.QFRefIdeal.main_arg1)
      ∧ r.2.mem ((c.tc : Thread Cert.QFRefIdeal.nD Cert.QFRefIdeal.τ).loc Cert.QFRefIdeal.main_arg2) = m ((c.tc : Thread Cert.QFRefIdeal.nD Cert.QFRefIdeal.τ).loc Cert.QFRefIdeal.main_arg2))
      ∧ r.2.sem = fun _ => 0)

def quiescent_OF [hOF : Cert.OF.Facts] : Prop :=
  ∀ (m : (ℓ : Loc Cert.OF.nD Cert.OF.τ Cert.OF.sig) → Buf (Elt Bits) ℓ) (g : Dev Cert.OF.nD → PrngReg), Pre_OF m →
    θ_run (Cert.OF.defs (F := Bits)) (onTc (τ := Cert.OF.τ) (Cert.OF.main (F := Bits))) ⟨m, fun _ => 0, g⟩ (fun r => (∀ c : Dev Cert.OF.nD,
      r.2.mem ((c.tc : Thread Cert.OF.nD Cert.OF.τ).loc Cert.OF.main_arg0) = m ((c.tc : Thread Cert.OF.nD Cert.OF.τ).loc Cert.OF.main_arg0)
      ∧ r.2.mem ((c.tc : Thread Cert.OF.nD Cert.OF.τ).loc Cert.OF.main_arg1) = m ((c.tc : Thread Cert.OF.nD Cert.OF.τ).loc Cert.OF.main_arg1)
      ∧ r.2.mem ((c.tc : Thread Cert.OF.nD Cert.OF.τ).loc Cert.OF.main_arg2) = m ((c.tc : Thread Cert.OF.nD Cert.OF.τ).loc Cert.OF.main_arg2))
      ∧ r.2.sem = fun _ => 0)

def quiescent_OFIdeal [hOFIdeal : Cert.OFIdeal.Facts] : Prop :=
  ∀ (m : (ℓ : Loc Cert.OFIdeal.nD Cert.OFIdeal.τ Cert.OFIdeal.sig) → Buf (Elt Ideal) ℓ) (g : Dev Cert.OFIdeal.nD → PrngReg), Pre_OFIdeal m →
    θ_run (Cert.OFIdeal.defs (F := Ideal)) (onTc (τ := Cert.OFIdeal.τ) (Cert.OFIdeal.main (F := Ideal))) ⟨m, fun _ => 0, g⟩ (fun r => (∀ c : Dev Cert.OFIdeal.nD,
      r.2.mem ((c.tc : Thread Cert.OFIdeal.nD Cert.OFIdeal.τ).loc Cert.OFIdeal.main_arg0) = m ((c.tc : Thread Cert.OFIdeal.nD Cert.OFIdeal.τ).loc Cert.OFIdeal.main_arg0)
      ∧ r.2.mem ((c.tc : Thread Cert.OFIdeal.nD Cert.OFIdeal.τ).loc Cert.OFIdeal.main_arg1) = m ((c.tc : Thread Cert.OFIdeal.nD Cert.OFIdeal.τ).loc Cert.OFIdeal.main_arg1)
      ∧ r.2.mem ((c.tc : Thread Cert.OFIdeal.nD Cert.OFIdeal.τ).loc Cert.OFIdeal.main_arg2) = m ((c.tc : Thread Cert.OFIdeal.nD Cert.OFIdeal.τ).loc Cert.OFIdeal.main_arg2))
      ∧ r.2.sem = fun _ => 0)

def quiescent_OFRefIdeal [hOFRefIdeal : Cert.OFRefIdeal.Facts] : Prop :=
  ∀ (m : (ℓ : Loc Cert.OFRefIdeal.nD Cert.OFRefIdeal.τ Cert.OFRefIdeal.sig) → Buf (Elt Ideal) ℓ) (g : Dev Cert.OFRefIdeal.nD → PrngReg), Pre_OFRefIdeal m →
    θ_run (Cert.OFRefIdeal.defs (F := Ideal)) (onTc (τ := Cert.OFRefIdeal.τ) (Cert.OFRefIdeal.main (F := Ideal))) ⟨m, fun _ => 0, g⟩ (fun r => (∀ c : Dev Cert.OFRefIdeal.nD,
      r.2.mem ((c.tc : Thread Cert.OFRefIdeal.nD Cert.OFRefIdeal.τ).loc Cert.OFRefIdeal.main_arg0) = m ((c.tc : Thread Cert.OFRefIdeal.nD Cert.OFRefIdeal.τ).loc Cert.OFRefIdeal.main_arg0)
      ∧ r.2.mem ((c.tc : Thread Cert.OFRefIdeal.nD Cert.OFRefIdeal.τ).loc Cert.OFRefIdeal.main_arg1) = m ((c.tc : Thread Cert.OFRefIdeal.nD Cert.OFRefIdeal.τ).loc Cert.OFRefIdeal.main_arg1)
      ∧ r.2.mem ((c.tc : Thread Cert.OFRefIdeal.nD Cert.OFRefIdeal.τ).loc Cert.OFRefIdeal.main_arg2) = m ((c.tc : Thread Cert.OFRefIdeal.nD Cert.OFRefIdeal.τ).loc Cert.OFRefIdeal.main_arg2))
      ∧ r.2.sem = fun _ => 0)

def quiescent_LossB [hLossB : Cert.LossB.Facts] : Prop :=
  ∀ (m : (ℓ : Loc Cert.LossB.nD Cert.LossB.τ Cert.LossB.sig) → Buf (Elt Bits) ℓ) (g : Dev Cert.LossB.nD → PrngReg), Pre_LossB m →
    θ_run (Cert.LossB.defs (F := Bits)) (onTc (τ := Cert.LossB.τ) (Cert.LossB.main (F := Bits))) ⟨m, fun _ => 0, g⟩ (fun r => (∀ c : Dev Cert.LossB.nD,
      r.2.mem ((c.tc : Thread Cert.LossB.nD Cert.LossB.τ).loc Cert.LossB.main_arg0) = m ((c.tc : Thread Cert.LossB.nD Cert.LossB.τ).loc Cert.LossB.main_arg0)
      ∧ r.2.mem ((c.tc : Thread Cert.LossB.nD Cert.LossB.τ).loc Cert.LossB.main_arg1) = m ((c.tc : Thread Cert.LossB.nD Cert.LossB.τ).loc Cert.LossB.main_arg1)
      ∧ r.2.mem ((c.tc : Thread Cert.LossB.nD Cert.LossB.τ).loc Cert.LossB.main_arg2) = m ((c.tc : Thread Cert.LossB.nD Cert.LossB.τ).loc Cert.LossB.main_arg2))
      ∧ r.2.sem = fun _ => 0)

def quiescent_LossBIdeal [hLossBIdeal : Cert.LossBIdeal.Facts] : Prop :=
  ∀ (m : (ℓ : Loc Cert.LossBIdeal.nD Cert.LossBIdeal.τ Cert.LossBIdeal.sig) → Buf (Elt Ideal) ℓ) (g : Dev Cert.LossBIdeal.nD → PrngReg), Pre_LossBIdeal m →
    θ_run (Cert.LossBIdeal.defs (F := Ideal)) (onTc (τ := Cert.LossBIdeal.τ) (Cert.LossBIdeal.main (F := Ideal))) ⟨m, fun _ => 0, g⟩ (fun r => (∀ c : Dev Cert.LossBIdeal.nD,
      r.2.mem ((c.tc : Thread Cert.LossBIdeal.nD Cert.LossBIdeal.τ).loc Cert.LossBIdeal.main_arg0) = m ((c.tc : Thread Cert.LossBIdeal.nD Cert.LossBIdeal.τ).loc Cert.LossBIdeal.main_arg0)
      ∧ r.2.mem ((c.tc : Thread Cert.LossBIdeal.nD Cert.LossBIdeal.τ).loc Cert.LossBIdeal.main_arg1) = m ((c.tc : Thread Cert.LossBIdeal.nD Cert.LossBIdeal.τ).loc Cert.LossBIdeal.main_arg1)
      ∧ r.2.mem ((c.tc : Thread Cert.LossBIdeal.nD Cert.LossBIdeal.τ).loc Cert.LossBIdeal.main_arg2) = m ((c.tc : Thread Cert.LossBIdeal.nD Cert.LossBIdeal.τ).loc Cert.LossBIdeal.main_arg2))
      ∧ r.2.sem = fun _ => 0)

def quiescent_LossBRefIdeal [hLossBRefIdeal : Cert.LossBRefIdeal.Facts] : Prop :=
  ∀ (m : (ℓ : Loc Cert.LossBRefIdeal.nD Cert.LossBRefIdeal.τ Cert.LossBRefIdeal.sig) → Buf (Elt Ideal) ℓ) (g : Dev Cert.LossBRefIdeal.nD → PrngReg), Pre_LossBRefIdeal m →
    θ_run (Cert.LossBRefIdeal.defs (F := Ideal)) (onTc (τ := Cert.LossBRefIdeal.τ) (Cert.LossBRefIdeal.main (F := Ideal))) ⟨m, fun _ => 0, g⟩ (fun r => (∀ c : Dev Cert.LossBRefIdeal.nD,
      r.2.mem ((c.tc : Thread Cert.LossBRefIdeal.nD Cert.LossBRefIdeal.τ).loc Cert.LossBRefIdeal.main_arg0) = m ((c.tc : Thread Cert.LossBRefIdeal.nD Cert.LossBRefIdeal.τ).loc Cert.LossBRefIdeal.main_arg0)
      ∧ r.2.mem ((c.tc : Thread Cert.LossBRefIdeal.nD Cert.LossBRefIdeal.τ).loc Cert.LossBRefIdeal.main_arg1) = m ((c.tc : Thread Cert.LossBRefIdeal.nD Cert.LossBRefIdeal.τ).loc Cert.LossBRefIdeal.main_arg1)
      ∧ r.2.mem ((c.tc : Thread Cert.LossBRefIdeal.nD Cert.LossBRefIdeal.τ).loc Cert.LossBRefIdeal.main_arg2) = m ((c.tc : Thread Cert.LossBRefIdeal.nD Cert.LossBRefIdeal.τ).loc Cert.LossBRefIdeal.main_arg2))
      ∧ r.2.sem = fun _ => 0)

def quiescent_AinN [hAinN : Cert.AinN.Facts] : Prop :=
  ∀ (m : (ℓ : Loc Cert.AinN.nD Cert.AinN.τ Cert.AinN.sig) → Buf (Elt Bits) ℓ) (g : Dev Cert.AinN.nD → PrngReg), Pre_AinN m →
    θ_run (Cert.AinN.defs (F := Bits)) (onTc (τ := Cert.AinN.τ) (Cert.AinN.main (F := Bits))) ⟨m, fun _ => 0, g⟩ (fun r => (∀ c : Dev Cert.AinN.nD,
      r.2.mem ((c.tc : Thread Cert.AinN.nD Cert.AinN.τ).loc Cert.AinN.main_arg0) = m ((c.tc : Thread Cert.AinN.nD Cert.AinN.τ).loc Cert.AinN.main_arg0)
      ∧ r.2.mem ((c.tc : Thread Cert.AinN.nD Cert.AinN.τ).loc Cert.AinN.main_arg1) = m ((c.tc : Thread Cert.AinN.nD Cert.AinN.τ).loc Cert.AinN.main_arg1)
      ∧ r.2.mem ((c.tc : Thread Cert.AinN.nD Cert.AinN.τ).loc Cert.AinN.main_arg2) = m ((c.tc : Thread Cert.AinN.nD Cert.AinN.τ).loc Cert.AinN.main_arg2))
      ∧ r.2.sem = fun _ => 0)

def quiescent_AinNIdeal [hAinNIdeal : Cert.AinNIdeal.Facts] : Prop :=
  ∀ (m : (ℓ : Loc Cert.AinNIdeal.nD Cert.AinNIdeal.τ Cert.AinNIdeal.sig) → Buf (Elt Ideal) ℓ) (g : Dev Cert.AinNIdeal.nD → PrngReg), Pre_AinNIdeal m →
    θ_run (Cert.AinNIdeal.defs (F := Ideal)) (onTc (τ := Cert.AinNIdeal.τ) (Cert.AinNIdeal.main (F := Ideal))) ⟨m, fun _ => 0, g⟩ (fun r => (∀ c : Dev Cert.AinNIdeal.nD,
      r.2.mem ((c.tc : Thread Cert.AinNIdeal.nD Cert.AinNIdeal.τ).loc Cert.AinNIdeal.main_arg0) = m ((c.tc : Thread Cert.AinNIdeal.nD Cert.AinNIdeal.τ).loc Cert.AinNIdeal.main_arg0)
      ∧ r.2.mem ((c.tc : Thread Cert.AinNIdeal.nD Cert.AinNIdeal.τ).loc Cert.AinNIdeal.main_arg1) = m ((c.tc : Thread Cert.AinNIdeal.nD Cert.AinNIdeal.τ).loc Cert.AinNIdeal.main_arg1)
      ∧ r.2.mem ((c.tc : Thread Cert.AinNIdeal.nD Cert.AinNIdeal.τ).loc Cert.AinNIdeal.main_arg2) = m ((c.tc : Thread Cert.AinNIdeal.nD Cert.AinNIdeal.τ).loc Cert.AinNIdeal.main_arg2))
      ∧ r.2.sem = fun _ => 0)

def quiescent_AinNRefIdeal [hAinNRefIdeal : Cert.AinNRefIdeal.Facts] : Prop :=
  ∀ (m : (ℓ : Loc Cert.AinNRefIdeal.nD Cert.AinNRefIdeal.τ Cert.AinNRefIdeal.sig) → Buf (Elt Ideal) ℓ) (g : Dev Cert.AinNRefIdeal.nD → PrngReg), Pre_AinNRefIdeal m →
    θ_run (Cert.AinNRefIdeal.defs (F := Ideal)) (onTc (τ := Cert.AinNRefIdeal.τ) (Cert.AinNRefIdeal.main (F := Ideal))) ⟨m, fun _ => 0, g⟩ (fun r => (∀ c : Dev Cert.AinNRefIdeal.nD,
      r.2.mem ((c.tc : Thread Cert.AinNRefIdeal.nD Cert.AinNRefIdeal.τ).loc Cert.AinNRefIdeal.main_arg0) = m ((c.tc : Thread Cert.AinNRefIdeal.nD Cert.AinNRefIdeal.τ).loc Cert.AinNRefIdeal.main_arg0)
      ∧ r.2.mem ((c.tc : Thread Cert.AinNRefIdeal.nD Cert.AinNRefIdeal.τ).loc Cert.AinNRefIdeal.main_arg1) = m ((c.tc : Thread Cert.AinNRefIdeal.nD Cert.AinNRefIdeal.τ).loc Cert.AinNRefIdeal.main_arg1)
      ∧ r.2.mem ((c.tc : Thread Cert.AinNRefIdeal.nD Cert.AinNRefIdeal.τ).loc Cert.AinNRefIdeal.main_arg2) = m ((c.tc : Thread Cert.AinNRefIdeal.nD Cert.AinNRefIdeal.τ).loc Cert.AinNRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3)
      ∧ r.2.mem ((c.tc : Thread Cert.AdUp.nD Cert.AdUp.τ).loc Cert.AdUp.main_arg4) = m ((c.tc : Thread Cert.AdUp.nD Cert.AdUp.τ).loc Cert.AdUp.main_arg4)
      ∧ r.2.mem ((c.tc : Thread Cert.AdUp.nD Cert.AdUp.τ).loc Cert.AdUp.main_arg5) = m ((c.tc : Thread Cert.AdUp.nD Cert.AdUp.τ).loc Cert.AdUp.main_arg5)
      ∧ r.2.mem ((c.tc : Thread Cert.AdUp.nD Cert.AdUp.τ).loc Cert.AdUp.main_arg6) = m ((c.tc : Thread Cert.AdUp.nD Cert.AdUp.τ).loc Cert.AdUp.main_arg6))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
      ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4)
      ∧ r.2.mem ((c.tc : Thread Cert.AdUpIdeal.nD Cert.AdUpIdeal.τ).loc Cert.AdUpIdeal.main_arg5) = m ((c.tc : Thread Cert.AdUpIdeal.nD Cert.AdUpIdeal.τ).loc Cert.AdUpIdeal.main_arg5)
      ∧ r.2.mem ((c.tc : Thread Cert.AdUpIdeal.nD Cert.AdUpIdeal.τ).loc Cert.AdUpIdeal.main_arg6) = m ((c.tc : Thread Cert.AdUpIdeal.nD Cert.AdUpIdeal.τ).loc Cert.AdUpIdeal.main_arg6))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3)
      ∧ r.2.mem ((c.tc : Thread Cert.AdUpRefIdeal.nD Cert.AdUpRefIdeal.τ).loc Cert.AdUpRefIdeal.main_arg4) = m ((c.tc : Thread Cert.AdUpRefIdeal.nD Cert.AdUpRefIdeal.τ).loc Cert.AdUpRefIdeal.main_arg4)
      ∧ r.2.mem ((c.tc : Thread Cert.AdUpRefIdeal.nD Cert.AdUpRefIdeal.τ).loc Cert.AdUpRefIdeal.main_arg5) = m ((c.tc : Thread Cert.AdUpRefIdeal.nD Cert.AdUpRefIdeal.τ).loc Cert.AdUpRefIdeal.main_arg5)
      ∧ r.2.mem ((c.tc : Thread Cert.AdUpRefIdeal.nD Cert.AdUpRefIdeal.τ).loc Cert.AdUpRefIdeal.main_arg6) = m ((c.tc : Thread Cert.AdUpRefIdeal.nD Cert.AdUpRefIdeal.τ).loc Cert.AdUpRefIdeal.main_arg6))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3)
      ∧ r.2.mem ((c.tc : Thread Cert.AdIn.nD Cert.AdIn.τ).loc Cert.AdIn.main_arg4) = m ((c.tc : Thread Cert.AdIn.nD Cert.AdIn.τ).loc Cert.AdIn.main_arg4))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
      ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3)
      ∧ r.2.mem ((c.tc : Thread Cert.AdInRefIdeal.nD Cert.AdInRefIdeal.τ).loc Cert.AdInRefIdeal.main_arg4) = m ((c.tc : Thread Cert.AdInRefIdeal.nD Cert.AdInRefIdeal.τ).loc Cert.AdInRefIdeal.main_arg4))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3)
      ∧ r.2.mem ((c.tc : Thread Cert.AdOut.nD Cert.AdOut.τ).loc Cert.AdOut.main_arg4) = m ((c.tc : Thread Cert.AdOut.nD Cert.AdOut.τ).loc Cert.AdOut.main_arg4))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
      ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3)
      ∧ r.2.mem ((c.tc : Thread Cert.AdOutRefIdeal.nD Cert.AdOutRefIdeal.τ).loc Cert.AdOutRefIdeal.main_arg4) = m ((c.tc : Thread Cert.AdOutRefIdeal.nD Cert.AdOutRefIdeal.τ).loc Cert.AdOutRefIdeal.main_arg4))
      ∧ r.2.sem = fun _ => 0)

def quiescent_AdKv [hAdKv : Cert.AdKv.Facts] : Prop :=
  ∀ (m : (ℓ : Loc Cert.AdKv.nD Cert.AdKv.τ Cert.AdKv.sig) → Buf (Elt Bits) ℓ) (g : Dev Cert.AdKv.nD → PrngReg), Pre_AdKv m →
    θ_run (Cert.AdKv.defs (F := Bits)) (onTc (τ := Cert.AdKv.τ) (Cert.AdKv.main (F := Bits))) ⟨m, fun _ => 0, g⟩ (fun r => (∀ c : Dev Cert.AdKv.nD,
      r.2.mem ((c.tc : Thread Cert.AdKv.nD Cert.AdKv.τ).loc Cert.AdKv.main_arg0) = m ((c.tc : Thread Cert.AdKv.nD Cert.AdKv.τ).loc Cert.AdKv.main_arg0)
      ∧ r.2.mem ((c.tc : Thread Cert.AdKv.nD Cert.AdKv.τ).loc Cert.AdKv.main_arg1) = m ((c.tc : Thread Cert.AdKv.nD Cert.AdKv.τ).loc Cert.AdKv.main_arg1)
      ∧ r.2.mem ((c.tc : Thread Cert.AdKv.nD Cert.AdKv.τ).loc Cert.AdKv.main_arg2) = m ((c.tc : Thread Cert.AdKv.nD Cert.AdKv.τ).loc Cert.AdKv.main_arg2)
      ∧ r.2.mem ((c.tc : Thread Cert.AdKv.nD Cert.AdKv.τ).loc Cert.AdKv.main_arg3) = m ((c.tc : Thread Cert.AdKv.nD Cert.AdKv.τ).loc Cert.AdKv.main_arg3))
      ∧ r.2.sem = fun _ => 0)

def quiescent_AdKvIdeal [hAdKvIdeal : Cert.AdKvIdeal.Facts] : Prop :=
  ∀ (m : (ℓ : Loc Cert.AdKvIdeal.nD Cert.AdKvIdeal.τ Cert.AdKvIdeal.sig) → Buf (Elt Ideal) ℓ) (g : Dev Cert.AdKvIdeal.nD → PrngReg), Pre_AdKvIdeal m →
    θ_run (Cert.AdKvIdeal.defs (F := Ideal)) (onTc (τ := Cert.AdKvIdeal.τ) (Cert.AdKvIdeal.main (F := Ideal))) ⟨m, fun _ => 0, g⟩ (fun r => (∀ c : Dev Cert.AdKvIdeal.nD,
      r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
      ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
      ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
      ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ r.2.sem = fun _ => 0)

def quiescent_AdKvRefIdeal [hAdKvRefIdeal : Cert.AdKvRefIdeal.Facts] : Prop :=
  ∀ (m : (ℓ : Loc Cert.AdKvRefIdeal.nD Cert.AdKvRefIdeal.τ Cert.AdKvRefIdeal.sig) → Buf (Elt Ideal) ℓ) (g : Dev Cert.AdKvRefIdeal.nD → PrngReg), Pre_AdKvRefIdeal m →
    θ_run (Cert.AdKvRefIdeal.defs (F := Ideal)) (onTc (τ := Cert.AdKvRefIdeal.τ) (Cert.AdKvRefIdeal.main (F := Ideal))) ⟨m, fun _ => 0, g⟩ (fun r => (∀ c : Dev Cert.AdKvRefIdeal.nD,
      r.2.mem ((c.tc : Thread Cert.AdKvRefIdeal.nD Cert.AdKvRefIdeal.τ).loc Cert.AdKvRefIdeal.main_arg0) = m ((c.tc : Thread Cert.AdKvRefIdeal.nD Cert.AdKvRefIdeal.τ).loc Cert.AdKvRefIdeal.main_arg0)
      ∧ r.2.mem ((c.tc : Thread Cert.AdKvRefIdeal.nD Cert.AdKvRefIdeal.τ).loc Cert.AdKvRefIdeal.main_arg1) = m ((c.tc : Thread Cert.AdKvRefIdeal.nD Cert.AdKvRefIdeal.τ).loc Cert.AdKvRefIdeal.main_arg1)
      ∧ r.2.mem ((c.tc : Thread Cert.AdKvRefIdeal.nD Cert.AdKvRefIdeal.τ).loc Cert.AdKvRefIdeal.main_arg2) = m ((c.tc : Thread Cert.AdKvRefIdeal.nD Cert.AdKvRefIdeal.τ).loc Cert.AdKvRefIdeal.main_arg2)
      ∧ r.2.mem ((c.tc : Thread Cert.AdKvRefIdeal.nD Cert.AdKvRefIdeal.τ).loc Cert.AdKvRefIdeal.main_arg3) = m ((c.tc : Thread Cert.AdKvRefIdeal.nD Cert.AdKvRefIdeal.τ).loc Cert.AdKvRefIdeal.main_arg3))
      ∧ r.2.sem = fun _ => 0)

def quiescent_AdQ [hAdQ : Cert.AdQ.Facts] : Prop :=
  ∀ (m : (ℓ : Loc Cert.AdQ.nD Cert.AdQ.τ Cert.AdQ.sig) → Buf (Elt Bits) ℓ) (g : Dev Cert.AdQ.nD → PrngReg), Pre_AdQ m →
    θ_run (Cert.AdQ.defs (F := Bits)) (onTc (τ := Cert.AdQ.τ) (Cert.AdQ.main (F := Bits))) ⟨m, fun _ => 0, g⟩ (fun r => (∀ c : Dev Cert.AdQ.nD,
      r.2.mem ((c.tc : Thread Cert.AdQ.nD Cert.AdQ.τ).loc Cert.AdQ.main_arg0) = m ((c.tc : Thread Cert.AdQ.nD Cert.AdQ.τ).loc Cert.AdQ.main_arg0)
      ∧ r.2.mem ((c.tc : Thread Cert.AdQ.nD Cert.AdQ.τ).loc Cert.AdQ.main_arg1) = m ((c.tc : Thread Cert.AdQ.nD Cert.AdQ.τ).loc Cert.AdQ.main_arg1)
      ∧ r.2.mem ((c.tc : Thread Cert.AdQ.nD Cert.AdQ.τ).loc Cert.AdQ.main_arg2) = m ((c.tc : Thread Cert.AdQ.nD Cert.AdQ.τ).loc Cert.AdQ.main_arg2)
      ∧ r.2.mem ((c.tc : Thread Cert.AdQ.nD Cert.AdQ.τ).loc Cert.AdQ.main_arg3) = m ((c.tc : Thread Cert.AdQ.nD Cert.AdQ.τ).loc Cert.AdQ.main_arg3)
      ∧ r.2.mem ((c.tc : Thread Cert.AdQ.nD Cert.AdQ.τ).loc Cert.AdQ.main_arg4) = m ((c.tc : Thread Cert.AdQ.nD Cert.AdQ.τ).loc Cert.AdQ.main_arg4))
      ∧ r.2.sem = fun _ => 0)

def quiescent_AdQIdeal [hAdQIdeal : Cert.AdQIdeal.Facts] : Prop :=
  ∀ (m : (ℓ : Loc Cert.AdQIdeal.nD Cert.AdQIdeal.τ Cert.AdQIdeal.sig) → Buf (Elt Ideal) ℓ) (g : Dev Cert.AdQIdeal.nD → PrngReg), Pre_AdQIdeal m →
    θ_run (Cert.AdQIdeal.defs (F := Ideal)) (onTc (τ := Cert.AdQIdeal.τ) (Cert.AdQIdeal.main (F := Ideal))) ⟨m, fun _ => 0, g⟩ (fun r => (∀ c : Dev Cert.AdQIdeal.nD,
      r.2.mem ((c.tc : Thread Cert.AdQIdeal.nD Cert.AdQIdeal.τ).loc Cert.AdQIdeal.main_arg0) = m ((c.tc : Thread Cert.AdQIdeal.nD Cert.AdQIdeal.τ).loc Cert.AdQIdeal.main_arg0)
      ∧ r.2.mem ((c.tc : Thread Cert.AdQIdeal.nD Cert.AdQIdeal.τ).loc Cert.AdQIdeal.main_arg1) = m ((c.tc : Thread Cert.AdQIdeal.nD Cert.AdQIdeal.τ).loc Cert.AdQIdeal.main_arg1)
      ∧ r.2.mem ((c.tc : Thread Cert.AdQIdeal.nD Cert.AdQIdeal.τ).loc Cert.AdQIdeal.main_arg2) = m ((c.tc : Thread Cert.AdQIdeal.nD Cert.AdQIdeal.τ).loc Cert.AdQIdeal.main_arg2)
      ∧ r.2.mem ((c.tc : Thread Cert.AdQIdeal.nD Cert.AdQIdeal.τ).loc Cert.AdQIdeal.main_arg3) = m ((c.tc : Thread Cert.AdQIdeal.nD Cert.AdQIdeal.τ).loc Cert.AdQIdeal.main_arg3)
      ∧ r.2.mem ((c.tc : Thread Cert.AdQIdeal.nD Cert.AdQIdeal.τ).loc Cert.AdQIdeal.main_arg4) = m ((c.tc : Thread Cert.AdQIdeal.nD Cert.AdQIdeal.τ).loc Cert.AdQIdeal.main_arg4))
      ∧ r.2.sem = fun _ => 0)

def quiescent_AdQRefIdeal [hAdQRefIdeal : Cert.AdQRefIdeal.Facts] : Prop :=
  ∀ (m : (ℓ : Loc Cert.AdQRefIdeal.nD Cert.AdQRefIdeal.τ Cert.AdQRefIdeal.sig) → Buf (Elt Ideal) ℓ) (g : Dev Cert.AdQRefIdeal.nD → PrngReg), Pre_AdQRefIdeal m →
    θ_run (Cert.AdQRefIdeal.defs (F := Ideal)) (onTc (τ := Cert.AdQRefIdeal.τ) (Cert.AdQRefIdeal.main (F := Ideal))) ⟨m, fun _ => 0, g⟩ (fun r => (∀ c : Dev Cert.AdQRefIdeal.nD,
      r.2.mem ((c.tc : Thread Cert.AdQRefIdeal.nD Cert.AdQRefIdeal.τ).loc Cert.AdQRefIdeal.main_arg0) = m ((c.tc : Thread Cert.AdQRefIdeal.nD Cert.AdQRefIdeal.τ).loc Cert.AdQRefIdeal.main_arg0)
      ∧ r.2.mem ((c.tc : Thread Cert.AdQRefIdeal.nD Cert.AdQRefIdeal.τ).loc Cert.AdQRefIdeal.main_arg1) = m ((c.tc : Thread Cert.AdQRefIdeal.nD Cert.AdQRefIdeal.τ).loc Cert.AdQRefIdeal.main_arg1)
      ∧ r.2.mem ((c.tc : Thread Cert.AdQRefIdeal.nD Cert.AdQRefIdeal.τ).loc Cert.AdQRefIdeal.main_arg2) = m ((c.tc : Thread Cert.AdQRefIdeal.nD Cert.AdQRefIdeal.τ).loc Cert.AdQRefIdeal.main_arg2)
      ∧ r.2.mem ((c.tc : Thread Cert.AdQRefIdeal.nD Cert.AdQRefIdeal.τ).loc Cert.AdQRefIdeal.main_arg3) = m ((c.tc : Thread Cert.AdQRefIdeal.nD Cert.AdQRefIdeal.τ).loc Cert.AdQRefIdeal.main_arg3)
      ∧ r.2.mem ((c.tc : Thread Cert.AdQRefIdeal.nD Cert.AdQRefIdeal.τ).loc Cert.AdQRefIdeal.main_arg4) = m ((c.tc : Thread Cert.AdQRefIdeal.nD Cert.AdQRefIdeal.τ).loc Cert.AdQRefIdeal.main_arg4))
      ∧ r.2.sem = fun _ => 0)

def quiescent_AdO [hAdO : Cert.AdO.Facts] : Prop :=
  ∀ (m : (ℓ : Loc Cert.AdO.nD Cert.AdO.τ Cert.AdO.sig) → Buf (Elt Bits) ℓ) (g : Dev Cert.AdO.nD → PrngReg), Pre_AdO m →
    θ_run (Cert.AdO.defs (F := Bits)) (onTc (τ := Cert.AdO.τ) (Cert.AdO.main (F := Bits))) ⟨m, fun _ => 0, g⟩ (fun r => (∀ c : Dev Cert.AdO.nD,
      r.2.mem ((c.tc : Thread Cert.AdO.nD Cert.AdO.τ).loc Cert.AdO.main_arg0) = m ((c.tc : Thread Cert.AdO.nD Cert.AdO.τ).loc Cert.AdO.main_arg0)
      ∧ r.2.mem ((c.tc : Thread Cert.AdO.nD Cert.AdO.τ).loc Cert.AdO.main_arg1) = m ((c.tc : Thread Cert.AdO.nD Cert.AdO.τ).loc Cert.AdO.main_arg1)
      ∧ r.2.mem ((c.tc : Thread Cert.AdO.nD Cert.AdO.τ).loc Cert.AdO.main_arg2) = m ((c.tc : Thread Cert.AdO.nD Cert.AdO.τ).loc Cert.AdO.main_arg2)
      ∧ r.2.mem ((c.tc : Thread Cert.AdO.nD Cert.AdO.τ).loc Cert.AdO.main_arg3) = m ((c.tc : Thread Cert.AdO.nD Cert.AdO.τ).loc Cert.AdO.main_arg3)
      ∧ r.2.mem ((c.tc : Thread Cert.AdO.nD Cert.AdO.τ).loc Cert.AdO.main_arg4) = m ((c.tc : Thread Cert.AdO.nD Cert.AdO.τ).loc Cert.AdO.main_arg4))
      ∧ r.2.sem = fun _ => 0)

def quiescent_AdOIdeal [hAdOIdeal : Cert.AdOIdeal.Facts] : Prop :=
  ∀ (m : (ℓ : Loc Cert.AdOIdeal.nD Cert.AdOIdeal.τ Cert.AdOIdeal.sig) → Buf (Elt Ideal) ℓ) (g : Dev Cert.AdOIdeal.nD → PrngReg), Pre_AdOIdeal m →
    θ_run (Cert.AdOIdeal.defs (F := Ideal)) (onTc (τ := Cert.AdOIdeal.τ) (Cert.AdOIdeal.main (F := Ideal))) ⟨m, fun _ => 0, g⟩ (fun r => (∀ c : Dev Cert.AdOIdeal.nD,
      r.2.mem ((c.tc : Thread Cert.AdOIdeal.nD Cert.AdOIdeal.τ).loc Cert.AdOIdeal.main_arg0) = m ((c.tc : Thread Cert.AdOIdeal.nD Cert.AdOIdeal.τ).loc Cert.AdOIdeal.main_arg0)
      ∧ r.2.mem ((c.tc : Thread Cert.AdOIdeal.nD Cert.AdOIdeal.τ).loc Cert.AdOIdeal.main_arg1) = m ((c.tc : Thread Cert.AdOIdeal.nD Cert.AdOIdeal.τ).loc Cert.AdOIdeal.main_arg1)
      ∧ r.2.mem ((c.tc : Thread Cert.AdOIdeal.nD Cert.AdOIdeal.τ).loc Cert.AdOIdeal.main_arg2) = m ((c.tc : Thread Cert.AdOIdeal.nD Cert.AdOIdeal.τ).loc Cert.AdOIdeal.main_arg2)
      ∧ r.2.mem ((c.tc : Thread Cert.AdOIdeal.nD Cert.AdOIdeal.τ).loc Cert.AdOIdeal.main_arg3) = m ((c.tc : Thread Cert.AdOIdeal.nD Cert.AdOIdeal.τ).loc Cert.AdOIdeal.main_arg3)
      ∧ r.2.mem ((c.tc : Thread Cert.AdOIdeal.nD Cert.AdOIdeal.τ).loc Cert.AdOIdeal.main_arg4) = m ((c.tc : Thread Cert.AdOIdeal.nD Cert.AdOIdeal.τ).loc Cert.AdOIdeal.main_arg4))
      ∧ r.2.sem = fun _ => 0)

def quiescent_AdORefIdeal [hAdORefIdeal : Cert.AdORefIdeal.Facts] : Prop :=
  ∀ (m : (ℓ : Loc Cert.AdORefIdeal.nD Cert.AdORefIdeal.τ Cert.AdORefIdeal.sig) → Buf (Elt Ideal) ℓ) (g : Dev Cert.AdORefIdeal.nD → PrngReg), Pre_AdORefIdeal m →
    θ_run (Cert.AdORefIdeal.defs (F := Ideal)) (onTc (τ := Cert.AdORefIdeal.τ) (Cert.AdORefIdeal.main (F := Ideal))) ⟨m, fun _ => 0, g⟩ (fun r => (∀ c : Dev Cert.AdORefIdeal.nD,
      r.2.mem ((c.tc : Thread Cert.AdORefIdeal.nD Cert.AdORefIdeal.τ).loc Cert.AdORefIdeal.main_arg0) = m ((c.tc : Thread Cert.AdORefIdeal.nD Cert.AdORefIdeal.τ).loc Cert.AdORefIdeal.main_arg0)
      ∧ r.2.mem ((c.tc : Thread Cert.AdORefIdeal.nD Cert.AdORefIdeal.τ).loc Cert.AdORefIdeal.main_arg1) = m ((c.tc : Thread Cert.AdORefIdeal.nD Cert.AdORefIdeal.τ).loc Cert.AdORefIdeal.main_arg1)
      ∧ r.2.mem ((c.tc : Thread Cert.AdORefIdeal.nD Cert.AdORefIdeal.τ).loc Cert.AdORefIdeal.main_arg2) = m ((c.tc : Thread Cert.AdORefIdeal.nD Cert.AdORefIdeal.τ).loc Cert.AdORefIdeal.main_arg2)
      ∧ r.2.mem ((c.tc : Thread Cert.AdORefIdeal.nD Cert.AdORefIdeal.τ).loc Cert.AdORefIdeal.main_arg3) = m ((c.tc : Thread Cert.AdORefIdeal.nD Cert.AdORefIdeal.τ).loc Cert.AdORefIdeal.main_arg3)
      ∧ r.2.mem ((c.tc : Thread Cert.AdORefIdeal.nD Cert.AdORefIdeal.τ).loc Cert.AdORefIdeal.main_arg4) = m ((c.tc : Thread Cert.AdORefIdeal.nD Cert.AdORefIdeal.τ).loc Cert.AdORefIdeal.main_arg4))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvRefIdeal [hAdConvRefIdeal : Cert.AdConvRefIdeal.Facts] : Prop :=
  ∀ (m : (ℓ : Loc Cert.AdConvRefIdeal.nD Cert.AdConvRefIdeal.τ Cert.AdConvRefIdeal.sig) → Buf (Elt Ideal) ℓ) (g : Dev Cert.AdConvRefIdeal.nD → PrngReg), Pre_AdConvRefIdeal m →
    θ_run (Cert.AdConvRefIdeal.defs (F := Ideal)) (onTc (τ := Cert.AdConvRefIdeal.τ) (Cert.AdConvRefIdeal.main (F := Ideal))) ⟨m, fun _ => 0, g⟩ (fun r => (∀ c : Dev Cert.AdConvRefIdeal.nD,
      r.2.mem ((c.tc : Thread Cert.AdConvRefIdeal.nD Cert.AdConvRefIdeal.τ).loc Cert.AdConvRefIdeal.main_arg0) = m ((c.tc : Thread Cert.AdConvRefIdeal.nD Cert.AdConvRefIdeal.τ).loc Cert.AdConvRefIdeal.main_arg0)
      ∧ r.2.mem ((c.tc : Thread Cert.AdConvRefIdeal.nD Cert.AdConvRefIdeal.τ).loc Cert.AdConvRefIdeal.main_arg1) = m ((c.tc : Thread Cert.AdConvRefIdeal.nD Cert.AdConvRefIdeal.τ).loc Cert.AdConvRefIdeal.main_arg1)
      ∧ r.2.mem ((c.tc : Thread Cert.AdConvRefIdeal.nD Cert.AdConvRefIdeal.τ).loc Cert.AdConvRefIdeal.main_arg2) = m ((c.tc : Thread Cert.AdConvRefIdeal.nD Cert.AdConvRefIdeal.τ).loc Cert.AdConvRefIdeal.main_arg2)
      ∧ r.2.mem ((c.tc : Thread Cert.AdConvRefIdeal.nD Cert.AdConvRefIdeal.τ).loc Cert.AdConvRefIdeal.main_arg3) = m ((c.tc : Thread Cert.AdConvRefIdeal.nD Cert.AdConvRefIdeal.τ).loc Cert.AdConvRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v68) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v23_0)) (v1 : (c : Dev Cert.MlpIdeal.nD) → Buf (Elt Ideal) ((c.tc : Thread Cert.MlpIdeal.nD Cert.MlpIdeal.τ).loc Cert.MlpIdeal.main_v23_1)) (v2 : (c : Dev Cert.MlpIdeal.nD) → Buf (Elt Ideal) ((c.tc : Thread Cert.MlpIdeal.nD Cert.MlpIdeal.τ).loc Cert.MlpIdeal.main_v23_2)) (v3 : (c : Dev Cert.MlpIdeal.nD) → Buf (Elt Ideal) ((c.tc : Thread Cert.MlpIdeal.nD Cert.MlpIdeal.τ).loc Cert.MlpIdeal.main_v23_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v23_0) = v0 c
          ∧ r.2.mem ((c.tc : Thread Cert.MlpIdeal.nD Cert.MlpIdeal.τ).loc Cert.MlpIdeal.main_v23_1) = v1 c
          ∧ r.2.mem ((c.tc : Thread Cert.MlpIdeal.nD Cert.MlpIdeal.τ).loc Cert.MlpIdeal.main_v23_2) = v2 c
          ∧ r.2.mem ((c.tc : Thread Cert.MlpIdeal.nD Cert.MlpIdeal.τ).loc Cert.MlpIdeal.main_v23_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v79) = v0 c
          ∧ r.2.mem ((c.tc : Thread Cert.MlpRefIdeal.nD Cert.MlpRefIdeal.τ).loc Cert.MlpRefIdeal.main_v78) = v1 c
          ∧ r.2.mem ((c.tc : Thread Cert.MlpRefIdeal.nD Cert.MlpRefIdeal.τ).loc Cert.MlpRefIdeal.main_v80) = v2 c
          ∧ r.2.mem ((c.tc : Thread Cert.MlpRefIdeal.nD Cert.MlpRefIdeal.τ).loc Cert.MlpRefIdeal.main_v81) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v16)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v16) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v21) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v14)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v14) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v20) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Ain_AinIdeal : Prop :=
  True

def algebraic_AinIdeal_AinRefIdeal [hAinIdeal : Cert.AinIdeal.Facts] [hAinRefIdeal : Cert.AinRefIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)
      ∧ m' ((c.tc : Thread Cert.AinRefIdeal.nD Cert.AinRefIdeal.τ).loc Cert.AinRefIdeal.main_arg2) = m ((c.tc : Thread Cert.AinIdeal.nD Cert.AinIdeal.τ).loc Cert.AinIdeal.main_arg2)) →
    ∃ (v0 : (c : Dev Cert.AinIdeal.nD) → Buf (Elt Ideal) ((c.tc : Thread Cert.AinIdeal.nD Cert.AinIdeal.τ).loc Cert.AinIdeal.main_v14)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v14) = v0 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
          ∧ r.2.mem ((c.tc : Thread Cert.AinIdeal.nD Cert.AinIdeal.τ).loc Cert.AinIdeal.main_arg2) = m ((c.tc : Thread Cert.AinIdeal.nD Cert.AinIdeal.τ).loc Cert.AinIdeal.main_arg2))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v34) = v0 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1)
          ∧ r.2.mem ((c.tc : Thread Cert.AinRefIdeal.nD Cert.AinRefIdeal.τ).loc Cert.AinRefIdeal.main_arg2) = m' ((c.tc : Thread Cert.AinRefIdeal.nD Cert.AinRefIdeal.τ).loc Cert.AinRefIdeal.main_arg2))

def preserves_Aout_AoutIdeal : Prop :=
  True

def algebraic_AoutIdeal_AoutRefIdeal [hAoutIdeal : Cert.AoutIdeal.Facts] [hAoutRefIdeal : Cert.AoutRefIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutRefIdeal.nD Cert.AoutRefIdeal.τ Cert.AoutRefIdeal.sig) → Buf (Elt Ideal) ℓ) (g' : Dev Cert.AoutRefIdeal.nD → PrngReg), Pre_AoutIdeal m →
    (∀ c : Dev Cert.AoutIdeal.nD,
      m' ((c.tc : Thread Cert.AoutRefIdeal.nD Cert.AoutRefIdeal.τ).loc Cert.AoutRefIdeal.main_arg0) = m ((c.tc : Thread Cert.AoutIdeal.nD Cert.AoutIdeal.τ).loc Cert.AoutIdeal.main_arg0)
      ∧ m' ((c.tc : Thread Cert.AoutRefIdeal.nD Cert.AoutRefIdeal.τ).loc Cert.AoutRefIdeal.main_arg1) = m ((c.tc : Thread Cert.AoutIdeal.nD Cert.AoutIdeal.τ).loc Cert.AoutIdeal.main_arg1)) →
    ∃ (v0 : (c : Dev Cert.AoutIdeal.nD) → Buf (Elt Ideal) ((c.tc : Thread Cert.AoutIdeal.nD Cert.AoutIdeal.τ).loc Cert.AoutIdeal.main_v1)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v1) = v0 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1))
      ∧ θ_run (Cert.AoutRefIdeal.defs (F := Ideal)) (onTc (τ := Cert.AoutRefIdeal.τ) (Cert.AoutRefIdeal.main (F := Ideal))) ⟨m', fun _ => 0, g'⟩ (fun r => ∀ c : Dev Cert.AoutRefIdeal.nD,
          r.2.mem ((c.tc : Thread Cert.AoutRefIdeal.nD Cert.AoutRefIdeal.τ).loc Cert.AoutRefIdeal.main_v5) = v0 c
          ∧ r.2.mem ((c.tc : Thread Cert.AoutRefIdeal.nD Cert.AoutRefIdeal.τ).loc Cert.AoutRefIdeal.main_arg0) = m' ((c.tc : Thread Cert.AoutRefIdeal.nD Cert.AoutRefIdeal.τ).loc Cert.AoutRefIdeal.main_arg0)
          ∧ r.2.mem ((c.tc : Thread Cert.AoutRefIdeal.nD Cert.AoutRefIdeal.τ).loc Cert.AoutRefIdeal.main_arg1) = m' ((c.tc : Thread Cert.AoutRefIdeal.nD Cert.AoutRefIdeal.τ).loc Cert.AoutRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v14)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v14) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v34) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Ow_OwIdeal : Prop :=
  True

def algebraic_OwIdeal_OwRefIdeal [hOwIdeal : Cert.OwIdeal.Facts] [hOwRefIdeal : Cert.OwRefIdeal.Facts] : Prop :=
  ∀ (m : (ℓ : Loc Cert.OwIdeal.nD Cert.OwIdeal.τ Cert.OwIdeal.sig) → Buf (Elt Ideal) ℓ) (g : Dev Cert.OwIdeal.nD → PrngReg)
    (m' : (ℓ : Loc Cert.OwRefIdeal.nD Cert.OwRefIdeal.τ Cert.OwRefIdeal.sig) → Buf (Elt Ideal) ℓ) (g' : Dev Cert.OwRefIdeal.nD → PrngReg), Pre_OwIdeal m →
    (∀ c : Dev Cert.OwIdeal.nD,
      m' ((c.tc : Thread Cert.OwRefIdeal.nD Cert.OwRefIdeal.τ).loc Cert.OwRefIdeal.main_arg0) = m ((c.tc : Thread Cert.OwIdeal.nD Cert.OwIdeal.τ).loc Cert.OwIdeal.main_arg0)
      ∧ m' ((c.tc : Thread Cert.OwRefIdeal.nD Cert.OwRefIdeal.τ).loc Cert.OwRefIdeal.main_arg1) = m ((c.tc : Thread Cert.OwIdeal.nD Cert.OwIdeal.τ).loc Cert.OwIdeal.main_arg1)) →
    ∃ (v0 : (c : Dev Cert.OwIdeal.nD) → Buf (Elt Ideal) ((c.tc : Thread Cert.OwIdeal.nD Cert.OwIdeal.τ).loc Cert.OwIdeal.main_v1)),
      θ_run (Cert.OwIdeal.defs (F := Ideal)) (onTc (τ := Cert.OwIdeal.τ) (Cert.OwIdeal.main (F := Ideal))) ⟨m, fun _ => 0, g⟩ (fun r => ∀ c : Dev Cert.OwIdeal.nD,
          r.2.mem ((c.tc : Thread Cert.OwIdeal.nD Cert.OwIdeal.τ).loc Cert.OwIdeal.main_v1) = v0 c
          ∧ r.2.mem ((c.tc : Thread Cert.OwIdeal.nD Cert.OwIdeal.τ).loc Cert.OwIdeal.main_arg0) = m ((c.tc : Thread Cert.OwIdeal.nD Cert.OwIdeal.τ).loc Cert.OwIdeal.main_arg0)
          ∧ r.2.mem ((c.tc : Thread Cert.OwIdeal.nD Cert.OwIdeal.τ).loc Cert.OwIdeal.main_arg1) = m ((c.tc : Thread Cert.OwIdeal.nD Cert.OwIdeal.τ).loc Cert.OwIdeal.main_arg1))
      ∧ θ_run (Cert.OwRefIdeal.defs (F := Ideal)) (onTc (τ := Cert.OwRefIdeal.τ) (Cert.OwRefIdeal.main (F := Ideal))) ⟨m', fun _ => 0, g'⟩ (fun r => ∀ c : Dev Cert.OwRefIdeal.nD,
          r.2.mem ((c.tc : Thread Cert.OwRefIdeal.nD Cert.OwRefIdeal.τ).loc Cert.OwRefIdeal.main_v6) = v0 c
          ∧ r.2.mem ((c.tc : Thread Cert.OwRefIdeal.nD Cert.OwRefIdeal.τ).loc Cert.OwRefIdeal.main_arg0) = m' ((c.tc : Thread Cert.OwRefIdeal.nD Cert.OwRefIdeal.τ).loc Cert.OwRefIdeal.main_arg0)
          ∧ r.2.mem ((c.tc : Thread Cert.OwRefIdeal.nD Cert.OwRefIdeal.τ).loc Cert.OwRefIdeal.main_arg1) = m' ((c.tc : Thread Cert.OwRefIdeal.nD Cert.OwRefIdeal.τ).loc Cert.OwRefIdeal.main_arg1))

def preserves_Qw_QwIdeal : Prop :=
  True

def algebraic_QwIdeal_QwRefIdeal [hQwIdeal : Cert.QwIdeal.Facts] [hQwRefIdeal : Cert.QwRefIdeal.Facts] : Prop :=
  ∀ (m : (ℓ : Loc Cert.QwIdeal.nD Cert.QwIdeal.τ Cert.QwIdeal.sig) → Buf (Elt Ideal) ℓ) (g : Dev Cert.QwIdeal.nD → PrngReg)
    (m' : (ℓ : Loc Cert.QwRefIdeal.nD Cert.QwRefIdeal.τ Cert.QwRefIdeal.sig) → Buf (Elt Ideal) ℓ) (g' : Dev Cert.QwRefIdeal.nD → PrngReg), Pre_QwIdeal m →
    (∀ c : Dev Cert.QwIdeal.nD,
      m' ((c.tc : Thread Cert.QwRefIdeal.nD Cert.QwRefIdeal.τ).loc Cert.QwRefIdeal.main_arg0) = m ((c.tc : Thread Cert.QwIdeal.nD Cert.QwIdeal.τ).loc Cert.QwIdeal.main_arg0)
      ∧ m' ((c.tc : Thread Cert.QwRefIdeal.nD Cert.QwRefIdeal.τ).loc Cert.QwRefIdeal.main_arg1) = m ((c.tc : Thread Cert.QwIdeal.nD Cert.QwIdeal.τ).loc Cert.QwIdeal.main_arg1)
      ∧ m' ((c.tc : Thread Cert.QwRefIdeal.nD Cert.QwRefIdeal.τ).loc Cert.QwRefIdeal.main_arg2) = m ((c.tc : Thread Cert.QwIdeal.nD Cert.QwIdeal.τ).loc Cert.QwIdeal.main_arg2)) →
    ∃ (v0 : (c : Dev Cert.QwIdeal.nD) → Buf (Elt Ideal) ((c.tc : Thread Cert.QwIdeal.nD Cert.QwIdeal.τ).loc Cert.QwIdeal.main_v14)),
      θ_run (Cert.QwIdeal.defs (F := Ideal)) (onTc (τ := Cert.QwIdeal.τ) (Cert.QwIdeal.main (F := Ideal))) ⟨m, fun _ => 0, g⟩ (fun r => ∀ c : Dev Cert.QwIdeal.nD,
          r.2.mem ((c.tc : Thread Cert.QwIdeal.nD Cert.QwIdeal.τ).loc Cert.QwIdeal.main_v14) = v0 c
          ∧ r.2.mem ((c.tc : Thread Cert.QwIdeal.nD Cert.QwIdeal.τ).loc Cert.QwIdeal.main_arg0) = m ((c.tc : Thread Cert.QwIdeal.nD Cert.QwIdeal.τ).loc Cert.QwIdeal.main_arg0)
          ∧ r.2.mem ((c.tc : Thread Cert.QwIdeal.nD Cert.QwIdeal.τ).loc Cert.QwIdeal.main_arg1) = m ((c.tc : Thread Cert.QwIdeal.nD Cert.QwIdeal.τ).loc Cert.QwIdeal.main_arg1)
          ∧ r.2.mem ((c.tc : Thread Cert.QwIdeal.nD Cert.QwIdeal.τ).loc Cert.QwIdeal.main_arg2) = m ((c.tc : Thread Cert.QwIdeal.nD Cert.QwIdeal.τ).loc Cert.QwIdeal.main_arg2))
      ∧ θ_run (Cert.QwRefIdeal.defs (F := Ideal)) (onTc (τ := Cert.QwRefIdeal.τ) (Cert.QwRefIdeal.main (F := Ideal))) ⟨m', fun _ => 0, g'⟩ (fun r => ∀ c : Dev Cert.QwRefIdeal.nD,
          r.2.mem ((c.tc : Thread Cert.QwRefIdeal.nD Cert.QwRefIdeal.τ).loc Cert.QwRefIdeal.main_v19) = v0 c
          ∧ r.2.mem ((c.tc : Thread Cert.QwRefIdeal.nD Cert.QwRefIdeal.τ).loc Cert.QwRefIdeal.main_arg0) = m' ((c.tc : Thread Cert.QwRefIdeal.nD Cert.QwRefIdeal.τ).loc Cert.QwRefIdeal.main_arg0)
          ∧ r.2.mem ((c.tc : Thread Cert.QwRefIdeal.nD Cert.QwRefIdeal.τ).loc Cert.QwRefIdeal.main_arg1) = m' ((c.tc : Thread Cert.QwRefIdeal.nD Cert.QwRefIdeal.τ).loc Cert.QwRefIdeal.main_arg1)
          ∧ r.2.mem ((c.tc : Thread Cert.QwRefIdeal.nD Cert.QwRefIdeal.τ).loc Cert.QwRefIdeal.main_arg2) = m' ((c.tc : Thread Cert.QwRefIdeal.nD Cert.QwRefIdeal.τ).loc Cert.QwRefIdeal.main_arg2))

def preserves_AoutB_AoutBIdeal : Prop :=
  True

def algebraic_AoutBIdeal_AoutBRefIdeal [hAoutBIdeal : Cert.AoutBIdeal.Facts] [hAoutBRefIdeal : Cert.AoutBRefIdeal.Facts] : Prop :=
  ∀ (m : (ℓ : Loc Cert.AoutBIdeal.nD Cert.AoutBIdeal.τ Cert.AoutBIdeal.sig) → Buf (Elt Ideal) ℓ) (g : Dev Cert.AoutBIdeal.nD → PrngReg)
    (m' : (ℓ : Loc Cert.AoutBRefIdeal.nD Cert.AoutBRefIdeal.τ Cert.AoutBRefIdeal.sig) → Buf (Elt Ideal) ℓ) (g' : Dev Cert.AoutBRefIdeal.nD → PrngReg), Pre_AoutBIdeal m →
    (∀ c : Dev Cert.AoutBIdeal.nD,
      m' ((c.tc : Thread Cert.AoutBRefIdeal.nD Cert.AoutBRefIdeal.τ).loc Cert.AoutBRefIdeal.main_arg0) = m ((c.tc : Thread Cert.AoutBIdeal.nD Cert.AoutBIdeal.τ).loc Cert.AoutBIdeal.main_arg0)
      ∧ m' ((c.tc : Thread Cert.AoutBRefIdeal.nD Cert.AoutBRefIdeal.τ).loc Cert.AoutBRefIdeal.main_arg1) = m ((c.tc : Thread Cert.AoutBIdeal.nD Cert.AoutBIdeal.τ).loc Cert.AoutBIdeal.main_arg1)) →
    ∃ (v0 : (c : Dev Cert.AoutBIdeal.nD) → Buf (Elt Ideal) ((c.tc : Thread Cert.AoutBIdeal.nD Cert.AoutBIdeal.τ).loc Cert.AoutBIdeal.main_v3)),
      θ_run (Cert.AoutBIdeal.defs (F := Ideal)) (onTc (τ := Cert.AoutBIdeal.τ) (Cert.AoutBIdeal.main (F := Ideal))) ⟨m, fun _ => 0, g⟩ (fun r => ∀ c : Dev Cert.AoutBIdeal.nD,
          r.2.mem ((c.tc : Thread Cert.AoutBIdeal.nD Cert.AoutBIdeal.τ).loc Cert.AoutBIdeal.main_v3) = v0 c
          ∧ r.2.mem ((c.tc : Thread Cert.AoutBIdeal.nD Cert.AoutBIdeal.τ).loc Cert.AoutBIdeal.main_arg0) = m ((c.tc : Thread Cert.AoutBIdeal.nD Cert.AoutBIdeal.τ).loc Cert.AoutBIdeal.main_arg0)
          ∧ r.2.mem ((c.tc : Thread Cert.AoutBIdeal.nD Cert.AoutBIdeal.τ).loc Cert.AoutBIdeal.main_arg1) = m ((c.tc : Thread Cert.AoutBIdeal.nD Cert.AoutBIdeal.τ).loc Cert.AoutBIdeal.main_arg1))
      ∧ θ_run (Cert.AoutBRefIdeal.defs (F := Ideal)) (onTc (τ := Cert.AoutBRefIdeal.τ) (Cert.AoutBRefIdeal.main (F := Ideal))) ⟨m', fun _ => 0, g'⟩ (fun r => ∀ c : Dev Cert.AoutBRefIdeal.nD,
          r.2.mem ((c.tc : Thread Cert.AoutBRefIdeal.nD Cert.AoutBRefIdeal.τ).loc Cert.AoutBRefIdeal.main_v2) = v0 c
          ∧ r.2.mem ((c.tc : Thread Cert.AoutBRefIdeal.nD Cert.AoutBRefIdeal.τ).loc Cert.AoutBRefIdeal.main_arg0) = m' ((c.tc : Thread Cert.AoutBRefIdeal.nD Cert.AoutBRefIdeal.τ).loc Cert.AoutBRefIdeal.main_arg0)
          ∧ r.2.mem ((c.tc : Thread Cert.AoutBRefIdeal.nD Cert.AoutBRefIdeal.τ).loc Cert.AoutBRefIdeal.main_arg1) = m' ((c.tc : Thread Cert.AoutBRefIdeal.nD Cert.AoutBRefIdeal.τ).loc Cert.AoutBRefIdeal.main_arg1))

def preserves_Ob_ObIdeal : Prop :=
  True

def algebraic_ObIdeal_ObRefIdeal [hObIdeal : Cert.ObIdeal.Facts] [hObRefIdeal : Cert.ObRefIdeal.Facts] : Prop :=
  ∀ (m : (ℓ : Loc Cert.ObIdeal.nD Cert.ObIdeal.τ Cert.ObIdeal.sig) → Buf (Elt Ideal) ℓ) (g : Dev Cert.ObIdeal.nD → PrngReg)
    (m' : (ℓ : Loc Cert.ObRefIdeal.nD Cert.ObRefIdeal.τ Cert.ObRefIdeal.sig) → Buf (Elt Ideal) ℓ) (g' : Dev Cert.ObRefIdeal.nD → PrngReg), Pre_ObIdeal m →
    (∀ c : Dev Cert.ObIdeal.nD,
      m' ((c.tc : Thread Cert.ObRefIdeal.nD Cert.ObRefIdeal.τ).loc Cert.ObRefIdeal.main_arg0) = m ((c.tc : Thread Cert.ObIdeal.nD Cert.ObIdeal.τ).loc Cert.ObIdeal.main_arg0)
      ∧ m' ((c.tc : Thread Cert.ObRefIdeal.nD Cert.ObRefIdeal.τ).loc Cert.ObRefIdeal.main_arg1) = m ((c.tc : Thread Cert.ObIdeal.nD Cert.ObIdeal.τ).loc Cert.ObIdeal.main_arg1)) →
    ∃ (v0 : (c : Dev Cert.ObIdeal.nD) → Buf (Elt Ideal) ((c.tc : Thread Cert.ObIdeal.nD Cert.ObIdeal.τ).loc Cert.ObIdeal.main_v5)),
      θ_run (Cert.ObIdeal.defs (F := Ideal)) (onTc (τ := Cert.ObIdeal.τ) (Cert.ObIdeal.main (F := Ideal))) ⟨m, fun _ => 0, g⟩ (fun r => ∀ c : Dev Cert.ObIdeal.nD,
          r.2.mem ((c.tc : Thread Cert.ObIdeal.nD Cert.ObIdeal.τ).loc Cert.ObIdeal.main_v5) = v0 c
          ∧ r.2.mem ((c.tc : Thread Cert.ObIdeal.nD Cert.ObIdeal.τ).loc Cert.ObIdeal.main_arg0) = m ((c.tc : Thread Cert.ObIdeal.nD Cert.ObIdeal.τ).loc Cert.ObIdeal.main_arg0)
          ∧ r.2.mem ((c.tc : Thread Cert.ObIdeal.nD Cert.ObIdeal.τ).loc Cert.ObIdeal.main_arg1) = m ((c.tc : Thread Cert.ObIdeal.nD Cert.ObIdeal.τ).loc Cert.ObIdeal.main_arg1))
      ∧ θ_run (Cert.ObRefIdeal.defs (F := Ideal)) (onTc (τ := Cert.ObRefIdeal.τ) (Cert.ObRefIdeal.main (F := Ideal))) ⟨m', fun _ => 0, g'⟩ (fun r => ∀ c : Dev Cert.ObRefIdeal.nD,
          r.2.mem ((c.tc : Thread Cert.ObRefIdeal.nD Cert.ObRefIdeal.τ).loc Cert.ObRefIdeal.main_v2) = v0 c
          ∧ r.2.mem ((c.tc : Thread Cert.ObRefIdeal.nD Cert.ObRefIdeal.τ).loc Cert.ObRefIdeal.main_arg0) = m' ((c.tc : Thread Cert.ObRefIdeal.nD Cert.ObRefIdeal.τ).loc Cert.ObRefIdeal.main_arg0)
          ∧ r.2.mem ((c.tc : Thread Cert.ObRefIdeal.nD Cert.ObRefIdeal.τ).loc Cert.ObRefIdeal.main_arg1) = m' ((c.tc : Thread Cert.ObRefIdeal.nD Cert.ObRefIdeal.τ).loc Cert.ObRefIdeal.main_arg1))

def preserves_AinB_AinBIdeal : Prop :=
  True

def algebraic_AinBIdeal_AinBRefIdeal [hAinBIdeal : Cert.AinBIdeal.Facts] [hAinBRefIdeal : Cert.AinBRefIdeal.Facts] : Prop :=
  ∀ (m : (ℓ : Loc Cert.AinBIdeal.nD Cert.AinBIdeal.τ Cert.AinBIdeal.sig) → Buf (Elt Ideal) ℓ) (g : Dev Cert.AinBIdeal.nD → PrngReg)
    (m' : (ℓ : Loc Cert.AinBRefIdeal.nD Cert.AinBRefIdeal.τ Cert.AinBRefIdeal.sig) → Buf (Elt Ideal) ℓ) (g' : Dev Cert.AinBRefIdeal.nD → PrngReg), Pre_AinBIdeal m →
    (∀ c : Dev Cert.AinBIdeal.nD,
      m' ((c.tc : Thread Cert.AinBRefIdeal.nD Cert.AinBRefIdeal.τ).loc Cert.AinBRefIdeal.main_arg0) = m ((c.tc : Thread Cert.AinBIdeal.nD Cert.AinBIdeal.τ).loc Cert.AinBIdeal.main_arg0)
      ∧ m' ((c.tc : Thread Cert.AinBRefIdeal.nD Cert.AinBRefIdeal.τ).loc Cert.AinBRefIdeal.main_arg1) = m ((c.tc : Thread Cert.AinBIdeal.nD Cert.AinBIdeal.τ).loc Cert.AinBIdeal.main_arg1)
      ∧ m' ((c.tc : Thread Cert.AinBRefIdeal.nD Cert.AinBRefIdeal.τ).loc Cert.AinBRefIdeal.main_arg2) = m ((c.tc : Thread Cert.AinBIdeal.nD Cert.AinBIdeal.τ).loc Cert.AinBIdeal.main_arg2)
      ∧ m' ((c.tc : Thread Cert.AinBRefIdeal.nD Cert.AinBRefIdeal.τ).loc Cert.AinBRefIdeal.main_arg3) = m ((c.tc : Thread Cert.AinBIdeal.nD Cert.AinBIdeal.τ).loc Cert.AinBIdeal.main_arg3)
      ∧ m' ((c.tc : Thread Cert.AinBRefIdeal.nD Cert.AinBRefIdeal.τ).loc Cert.AinBRefIdeal.main_arg4) = m ((c.tc : Thread Cert.AinBIdeal.nD Cert.AinBIdeal.τ).loc Cert.AinBIdeal.main_arg4)) →
    ∃ (v0 : (c : Dev Cert.AinBIdeal.nD) → Buf (Elt Ideal) ((c.tc : Thread Cert.AinBIdeal.nD Cert.AinBIdeal.τ).loc Cert.AinBIdeal.main_v5_0)) (v1 : (c : Dev Cert.AinBIdeal.nD) → Buf (Elt Ideal) ((c.tc : Thread Cert.AinBIdeal.nD Cert.AinBIdeal.τ).loc Cert.AinBIdeal.main_v5_1)) (v2 : (c : Dev Cert.AinBIdeal.nD) → Buf (Elt Ideal) ((c.tc : Thread Cert.AinBIdeal.nD Cert.AinBIdeal.τ).loc Cert.AinBIdeal.main_v5_2)),
      θ_run (Cert.AinBIdeal.defs (F := Ideal)) (onTc (τ := Cert.AinBIdeal.τ) (Cert.AinBIdeal.main (F := Ideal))) ⟨m, fun _ => 0, g⟩ (fun r => ∀ c : Dev Cert.AinBIdeal.nD,
          r.2.mem ((c.tc : Thread Cert.AinBIdeal.nD Cert.AinBIdeal.τ).loc Cert.AinBIdeal.main_v5_0) = v0 c
          ∧ r.2.mem ((c.tc : Thread Cert.AinBIdeal.nD Cert.AinBIdeal.τ).loc Cert.AinBIdeal.main_v5_1) = v1 c
          ∧ r.2.mem ((c.tc : Thread Cert.AinBIdeal.nD Cert.AinBIdeal.τ).loc Cert.AinBIdeal.main_v5_2) = v2 c
          ∧ r.2.mem ((c.tc : Thread Cert.AinBIdeal.nD Cert.AinBIdeal.τ).loc Cert.AinBIdeal.main_arg0) = m ((c.tc : Thread Cert.AinBIdeal.nD Cert.AinBIdeal.τ).loc Cert.AinBIdeal.main_arg0)
          ∧ r.2.mem ((c.tc : Thread Cert.AinBIdeal.nD Cert.AinBIdeal.τ).loc Cert.AinBIdeal.main_arg1) = m ((c.tc : Thread Cert.AinBIdeal.nD Cert.AinBIdeal.τ).loc Cert.AinBIdeal.main_arg1)
          ∧ r.2.mem ((c.tc : Thread Cert.AinBIdeal.nD Cert.AinBIdeal.τ).loc Cert.AinBIdeal.main_arg2) = m ((c.tc : Thread Cert.AinBIdeal.nD Cert.AinBIdeal.τ).loc Cert.AinBIdeal.main_arg2)
          ∧ r.2.mem ((c.tc : Thread Cert.AinBIdeal.nD Cert.AinBIdeal.τ).loc Cert.AinBIdeal.main_arg3) = m ((c.tc : Thread Cert.AinBIdeal.nD Cert.AinBIdeal.τ).loc Cert.AinBIdeal.main_arg3)
          ∧ r.2.mem ((c.tc : Thread Cert.AinBIdeal.nD Cert.AinBIdeal.τ).loc Cert.AinBIdeal.main_arg4) = m ((c.tc : Thread Cert.AinBIdeal.nD Cert.AinBIdeal.τ).loc Cert.AinBIdeal.main_arg4))
      ∧ θ_run (Cert.AinBRefIdeal.defs (F := Ideal)) (onTc (τ := Cert.AinBRefIdeal.τ) (Cert.AinBRefIdeal.main (F := Ideal))) ⟨m', fun _ => 0, g'⟩ (fun r => ∀ c : Dev Cert.AinBRefIdeal.nD,
          r.2.mem ((c.tc : Thread Cert.AinBRefIdeal.nD Cert.AinBRefIdeal.τ).loc Cert.AinBRefIdeal.main_v53) = v0 c
          ∧ r.2.mem ((c.tc : Thread Cert.AinBRefIdeal.nD Cert.AinBRefIdeal.τ).loc Cert.AinBRefIdeal.main_v54) = v1 c
          ∧ r.2.mem ((c.tc : Thread Cert.AinBRefIdeal.nD Cert.AinBRefIdeal.τ).loc Cert.AinBRefIdeal.main_v55) = v2 c
          ∧ r.2.mem ((c.tc : Thread Cert.AinBRefIdeal.nD Cert.AinBRefIdeal.τ).loc Cert.AinBRefIdeal.main_arg0) = m' ((c.tc : Thread Cert.AinBRefIdeal.nD Cert.AinBRefIdeal.τ).loc Cert.AinBRefIdeal.main_arg0)
          ∧ r.2.mem ((c.tc : Thread Cert.AinBRefIdeal.nD Cert.AinBRefIdeal.τ).loc Cert.AinBRefIdeal.main_arg1) = m' ((c.tc : Thread Cert.AinBRefIdeal.nD Cert.AinBRefIdeal.τ).loc Cert.AinBRefIdeal.main_arg1)
          ∧ r.2.mem ((c.tc : Thread Cert.AinBRefIdeal.nD Cert.AinBRefIdeal.τ).loc Cert.AinBRefIdeal.main_arg2) = m' ((c.tc : Thread Cert.AinBRefIdeal.nD Cert.AinBRefIdeal.τ).loc Cert.AinBRefIdeal.main_arg2)
          ∧ r.2.mem ((c.tc : Thread Cert.AinBRefIdeal.nD Cert.AinBRefIdeal.τ).loc Cert.AinBRefIdeal.main_arg3) = m' ((c.tc : Thread Cert.AinBRefIdeal.nD Cert.AinBRefIdeal.τ).loc Cert.AinBRefIdeal.main_arg3)
          ∧ r.2.mem ((c.tc : Thread Cert.AinBRefIdeal.nD Cert.AinBRefIdeal.τ).loc Cert.AinBRefIdeal.main_arg4) = m' ((c.tc : Thread Cert.AinBRefIdeal.nD Cert.AinBRefIdeal.τ).loc Cert.AinBRefIdeal.main_arg4))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)
      ∧ m' ((c.tc : Thread Cert.QbRefIdeal.nD Cert.QbRefIdeal.τ).loc Cert.QbRefIdeal.main_arg2) = m ((c.tc : Thread Cert.QbIdeal.nD Cert.QbIdeal.τ).loc Cert.QbIdeal.main_arg2)
      ∧ m' ((c.tc : Thread Cert.QbRefIdeal.nD Cert.QbRefIdeal.τ).loc Cert.QbRefIdeal.main_arg3) = m ((c.tc : Thread Cert.QbIdeal.nD Cert.QbIdeal.τ).loc Cert.QbIdeal.main_arg3)
      ∧ m' ((c.tc : Thread Cert.QbRefIdeal.nD Cert.QbRefIdeal.τ).loc Cert.QbRefIdeal.main_arg4) = m ((c.tc : Thread Cert.QbIdeal.nD Cert.QbIdeal.τ).loc Cert.QbIdeal.main_arg4)) →
    ∃ (v0 : (c : Dev Cert.QbIdeal.nD) → Buf (Elt Ideal) ((c.tc : Thread Cert.QbIdeal.nD Cert.QbIdeal.τ).loc Cert.QbIdeal.main_v5_0)) (v1 : (c : Dev Cert.QbIdeal.nD) → Buf (Elt Ideal) ((c.tc : Thread Cert.QbIdeal.nD Cert.QbIdeal.τ).loc Cert.QbIdeal.main_v5_1)) (v2 : (c : Dev Cert.QbIdeal.nD) → Buf (Elt Ideal) ((c.tc : Thread Cert.QbIdeal.nD Cert.QbIdeal.τ).loc Cert.QbIdeal.main_v5_2)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v5_0) = v0 c
          ∧ r.2.mem ((c.tc : Thread Cert.QbIdeal.nD Cert.QbIdeal.τ).loc Cert.QbIdeal.main_v5_1) = v1 c
          ∧ r.2.mem ((c.tc : Thread Cert.QbIdeal.nD Cert.QbIdeal.τ).loc Cert.QbIdeal.main_v5_2) = v2 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
          ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
          ∧ r.2.mem ((c.tc : Thread Cert.QbIdeal.nD Cert.QbIdeal.τ).loc Cert.QbIdeal.main_arg3) = m ((c.tc : Thread Cert.QbIdeal.nD Cert.QbIdeal.τ).loc Cert.QbIdeal.main_arg3)
          ∧ r.2.mem ((c.tc : Thread Cert.QbIdeal.nD Cert.QbIdeal.τ).loc Cert.QbIdeal.main_arg4) = m ((c.tc : Thread Cert.QbIdeal.nD Cert.QbIdeal.τ).loc Cert.QbIdeal.main_arg4))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v38) = v0 c
          ∧ r.2.mem ((c.tc : Thread Cert.QbRefIdeal.nD Cert.QbRefIdeal.τ).loc Cert.QbRefIdeal.main_v39) = v1 c
          ∧ r.2.mem ((c.tc : Thread Cert.QbRefIdeal.nD Cert.QbRefIdeal.τ).loc Cert.QbRefIdeal.main_v40) = v2 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1)
          ∧ r.2.mem ((c.tc : Thread Cert.QbRefIdeal.nD Cert.QbRefIdeal.τ).loc Cert.QbRefIdeal.main_arg2) = m' ((c.tc : Thread Cert.QbRefIdeal.nD Cert.QbRefIdeal.τ).loc Cert.QbRefIdeal.main_arg2)
          ∧ r.2.mem ((c.tc : Thread Cert.QbRefIdeal.nD Cert.QbRefIdeal.τ).loc Cert.QbRefIdeal.main_arg3) = m' ((c.tc : Thread Cert.QbRefIdeal.nD Cert.QbRefIdeal.τ).loc Cert.QbRefIdeal.main_arg3)
          ∧ r.2.mem ((c.tc : Thread Cert.QbRefIdeal.nD Cert.QbRefIdeal.τ).loc Cert.QbRefIdeal.main_arg4) = m' ((c.tc : Thread Cert.QbRefIdeal.nD Cert.QbRefIdeal.τ).loc Cert.QbRefIdeal.main_arg4))

def preserves_KvB_KvBIdeal : Prop :=
  True

def algebraic_KvBIdeal_KvBRefIdeal [hKvBIdeal : Cert.KvBIdeal.Facts] [hKvBRefIdeal : Cert.KvBRefIdeal.Facts] : Prop :=
  ∀ (m : (ℓ : Loc Cert.KvBIdeal.nD Cert.KvBIdeal.τ Cert.KvBIdeal.sig) → Buf (Elt Ideal) ℓ) (g : Dev Cert.KvBIdeal.nD → PrngReg)
    (m' : (ℓ : Loc Cert.KvBRefIdeal.nD Cert.KvBRefIdeal.τ Cert.KvBRefIdeal.sig) → Buf (Elt Ideal) ℓ) (g' : Dev Cert.KvBRefIdeal.nD → PrngReg), Pre_KvBIdeal m →
    (∀ c : Dev Cert.KvBIdeal.nD,
      m' ((c.tc : Thread Cert.KvBRefIdeal.nD Cert.KvBRefIdeal.τ).loc Cert.KvBRefIdeal.main_arg0) = m ((c.tc : Thread Cert.KvBIdeal.nD Cert.KvBIdeal.τ).loc Cert.KvBIdeal.main_arg0)
      ∧ m' ((c.tc : Thread Cert.KvBRefIdeal.nD Cert.KvBRefIdeal.τ).loc Cert.KvBRefIdeal.main_arg1) = m ((c.tc : Thread Cert.KvBIdeal.nD Cert.KvBIdeal.τ).loc Cert.KvBIdeal.main_arg1)
      ∧ m' ((c.tc : Thread Cert.KvBRefIdeal.nD Cert.KvBRefIdeal.τ).loc Cert.KvBRefIdeal.main_arg2) = m ((c.tc : Thread Cert.KvBIdeal.nD Cert.KvBIdeal.τ).loc Cert.KvBIdeal.main_arg2)
      ∧ m' ((c.tc : Thread Cert.KvBRefIdeal.nD Cert.KvBRefIdeal.τ).loc Cert.KvBRefIdeal.main_arg3) = m ((c.tc : Thread Cert.KvBIdeal.nD Cert.KvBIdeal.τ).loc Cert.KvBIdeal.main_arg3)
      ∧ m' ((c.tc : Thread Cert.KvBRefIdeal.nD Cert.KvBRefIdeal.τ).loc Cert.KvBRefIdeal.main_arg4) = m ((c.tc : Thread Cert.KvBIdeal.nD Cert.KvBIdeal.τ).loc Cert.KvBIdeal.main_arg4)
      ∧ m' ((c.tc : Thread Cert.KvBRefIdeal.nD Cert.KvBRefIdeal.τ).loc Cert.KvBRefIdeal.main_arg5) = m ((c.tc : Thread Cert.KvBIdeal.nD Cert.KvBIdeal.τ).loc Cert.KvBIdeal.main_arg5)) →
    ∃ (v0 : (c : Dev Cert.KvBIdeal.nD) → Buf (Elt Ideal) ((c.tc : Thread Cert.KvBIdeal.nD Cert.KvBIdeal.τ).loc Cert.KvBIdeal.main_v5_0)) (v1 : (c : Dev Cert.KvBIdeal.nD) → Buf (Elt Ideal) ((c.tc : Thread Cert.KvBIdeal.nD Cert.KvBIdeal.τ).loc Cert.KvBIdeal.main_v5_1)) (v2 : (c : Dev Cert.KvBIdeal.nD) → Buf (Elt Ideal) ((c.tc : Thread Cert.KvBIdeal.nD Cert.KvBIdeal.τ).loc Cert.KvBIdeal.main_v5_2)),
      θ_run (Cert.KvBIdeal.defs (F := Ideal)) (onTc (τ := Cert.KvBIdeal.τ) (Cert.KvBIdeal.main (F := Ideal))) ⟨m, fun _ => 0, g⟩ (fun r => ∀ c : Dev Cert.KvBIdeal.nD,
          r.2.mem ((c.tc : Thread Cert.KvBIdeal.nD Cert.KvBIdeal.τ).loc Cert.KvBIdeal.main_v5_0) = v0 c
          ∧ r.2.mem ((c.tc : Thread Cert.KvBIdeal.nD Cert.KvBIdeal.τ).loc Cert.KvBIdeal.main_v5_1) = v1 c
          ∧ r.2.mem ((c.tc : Thread Cert.KvBIdeal.nD Cert.KvBIdeal.τ).loc Cert.KvBIdeal.main_v5_2) = v2 c
          ∧ r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
          ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
          ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
          ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3)
          ∧ r.2.mem ((c.tc : Thread Cert.KvBIdeal.nD Cert.KvBIdeal.τ).loc Cert.KvBIdeal.main_arg4) = m ((c.tc : Thread Cert.KvBIdeal.nD Cert.KvBIdeal.τ).loc Cert.KvBIdeal.main_arg4)
          ∧ r.2.mem ((c.tc : Thread Cert.KvBIdeal.nD Cert.KvBIdeal.τ).loc Cert.KvBIdeal.main_arg5) = m ((c.tc : Thread Cert.KvBIdeal.nD Cert.KvBIdeal.τ).loc Cert.KvBIdeal.main_arg5))
      ∧ θ_run (Cert.KvBRefIdeal.defs (F := Ideal)) (onTc (τ := Cert.KvBRefIdeal.τ) (Cert.KvBRefIdeal.main (F := Ideal))) ⟨m', fun _ => 0, g'⟩ (fun r => ∀ c : Dev Cert.KvBRefIdeal.nD,
          r.2.mem ((c.tc : Thread Cert.KvBRefIdeal.nD Cert.KvBRefIdeal.τ).loc Cert.KvBRefIdeal.main_v53) = v0 c
          ∧ r.2.mem ((c.tc : Thread Cert.KvBRefIdeal.nD Cert.KvBRefIdeal.τ).loc Cert.KvBRefIdeal.main_v54) = v1 c
          ∧ r.2.mem ((c.tc : Thread Cert.KvBRefIdeal.nD Cert.KvBRefIdeal.τ).loc Cert.KvBRefIdeal.main_v55) = v2 c
          ∧ r.2.mem ((c.tc : Thread Cert.KvBRefIdeal.nD Cert.KvBRefIdeal.τ).loc Cert.KvBRefIdeal.main_arg0) = m' ((c.tc : Thread Cert.KvBRefIdeal.nD Cert.KvBRefIdeal.τ).loc Cert.KvBRefIdeal.main_arg0)
          ∧ r.2.mem ((c.tc : Thread Cert.KvBRefIdeal.nD Cert.KvBRefIdeal.τ).loc Cert.KvBRefIdeal.main_arg1) = m' ((c.tc : Thread Cert.KvBRefIdeal.nD Cert.KvBRefIdeal.τ).loc Cert.KvBRefIdeal.main_arg1)
          ∧ r.2.mem ((c.tc : Thread Cert.KvBRefIdeal.nD Cert.KvBRefIdeal.τ).loc Cert.KvBRefIdeal.main_arg2) = m' ((c.tc : Thread Cert.KvBRefIdeal.nD Cert.KvBRefIdeal.τ).loc Cert.KvBRefIdeal.main_arg2)
          ∧ r.2.mem ((c.tc : Thread Cert.KvBRefIdeal.nD Cert.KvBRefIdeal.τ).loc Cert.KvBRefIdeal.main_arg3) = m' ((c.tc : Thread Cert.KvBRefIdeal.nD Cert.KvBRefIdeal.τ).loc Cert.KvBRefIdeal.main_arg3)
          ∧ r.2.mem ((c.tc : Thread Cert.KvBRefIdeal.nD Cert.KvBRefIdeal.τ).loc Cert.KvBRefIdeal.main_arg4) = m' ((c.tc : Thread Cert.KvBRefIdeal.nD Cert.KvBRefIdeal.τ).loc Cert.KvBRefIdeal.main_arg4)
          ∧ r.2.mem ((c.tc : Thread Cert.KvBRefIdeal.nD Cert.KvBRefIdeal.τ).loc Cert.KvBRefIdeal.main_arg5) = m' ((c.tc : Thread Cert.KvBRefIdeal.nD Cert.KvBRefIdeal.τ).loc Cert.KvBRefIdeal.main_arg5))

def preserves_MlpF_MlpFIdeal : Prop :=
  True

def algebraic_MlpFIdeal_MlpFRefIdeal [hMlpFIdeal : Cert.MlpFIdeal.Facts] [hMlpFRefIdeal : Cert.MlpFRefIdeal.Facts] : Prop :=
  ∀ (m : (ℓ : Loc Cert.MlpFIdeal.nD Cert.MlpFIdeal.τ Cert.MlpFIdeal.sig) → Buf (Elt Ideal) ℓ) (g : Dev Cert.MlpFIdeal.nD → PrngReg)
    (m' : (ℓ : Loc Cert.MlpFRefIdeal.nD Cert.MlpFRefIdeal.τ Cert.MlpFRefIdeal.sig) → Buf (Elt Ideal) ℓ) (g' : Dev Cert.MlpFRefIdeal.nD → PrngReg), Pre_MlpFIdeal m →
    (∀ c : Dev Cert.MlpFIdeal.nD,
      m' ((c.tc : Thread Cert.MlpFRefIdeal.nD Cert.MlpFRefIdeal.τ).loc Cert.MlpFRefIdeal.main_arg0) = m ((c.tc : Thread Cert.MlpFIdeal.nD Cert.MlpFIdeal.τ).loc Cert.MlpFIdeal.main_arg0)
      ∧ m' ((c.tc : Thread Cert.MlpFRefIdeal.nD Cert.MlpFRefIdeal.τ).loc Cert.MlpFRefIdeal.main_arg1) = m ((c.tc : Thread Cert.MlpFIdeal.nD Cert.MlpFIdeal.τ).loc Cert.MlpFIdeal.main_arg1)
      ∧ m' ((c.tc : Thread Cert.MlpFRefIdeal.nD Cert.MlpFRefIdeal.τ).loc Cert.MlpFRefIdeal.main_arg2) = m ((c.tc : Thread Cert.MlpFIdeal.nD Cert.MlpFIdeal.τ).loc Cert.MlpFIdeal.main_arg2)
      ∧ m' ((c.tc : Thread Cert.MlpFRefIdeal.nD Cert.MlpFRefIdeal.τ).loc Cert.MlpFRefIdeal.main_arg3) = m ((c.tc : Thread Cert.MlpFIdeal.nD Cert.MlpFIdeal.τ).loc Cert.MlpFIdeal.main_arg3)) →
    ∃ (v0 : (c : Dev Cert.MlpFIdeal.nD) → Buf (Elt Ideal) ((c.tc : Thread Cert.MlpFIdeal.nD Cert.MlpFIdeal.τ).loc Cert.MlpFIdeal.main_v7_0)) (v1 : (c : Dev Cert.MlpFIdeal.nD) → Buf (Elt Ideal) ((c.tc : Thread Cert.MlpFIdeal.nD Cert.MlpFIdeal.τ).loc Cert.MlpFIdeal.main_v7_1)) (v2 : (c : Dev Cert.MlpFIdeal.nD) → Buf (Elt Ideal) ((c.tc : Thread Cert.MlpFIdeal.nD Cert.MlpFIdeal.τ).loc Cert.MlpFIdeal.main_v7_2)),
      θ_run (Cert.MlpFIdeal.defs (F := Ideal)) (onTc (τ := Cert.MlpFIdeal.τ) (Cert.MlpFIdeal.main (F := Ideal))) ⟨m, fun _ => 0, g⟩ (fun r => ∀ c : Dev Cert.MlpFIdeal.nD,
          r.2.mem ((c.tc : Thread Cert.MlpFIdeal.nD Cert.MlpFIdeal.τ).loc Cert.MlpFIdeal.main_v7_0) = v0 c
          ∧ r.2.mem ((c.tc : Thread Cert.MlpFIdeal.nD Cert.MlpFIdeal.τ).loc Cert.MlpFIdeal.main_v7_1) = v1 c
          ∧ r.2.mem ((c.tc : Thread Cert.MlpFIdeal.nD Cert.MlpFIdeal.τ).loc Cert.MlpFIdeal.main_v7_2) = v2 c
          ∧ r.2.mem ((c.tc : Thread Cert.MlpFIdeal.nD Cert.MlpFIdeal.τ).loc Cert.MlpFIdeal.main_arg0) = m ((c.tc : Thread Cert.MlpFIdeal.nD Cert.MlpFIdeal.τ).loc Cert.MlpFIdeal.main_arg0)
          ∧ r.2.mem ((c.tc : Thread Cert.MlpFIdeal.nD Cert.MlpFIdeal.τ).loc Cert.MlpFIdeal.main_arg1) = m ((c.tc : Thread Cert.MlpFIdeal.nD Cert.MlpFIdeal.τ).loc Cert.MlpFIdeal.main_arg1)
          ∧ r.2.mem ((c.tc : Thread Cert.MlpFIdeal.nD Cert.MlpFIdeal.τ).loc Cert.MlpFIdeal.main_arg2) = m ((c.tc : Thread Cert.MlpFIdeal.nD Cert.MlpFIdeal.τ).loc Cert.MlpFIdeal.main_arg2)
          ∧ r.2.mem ((c.tc : Thread Cert.MlpFIdeal.nD Cert.MlpFIdeal.τ).loc Cert.MlpFIdeal.main_arg3) = m ((c.tc : Thread Cert.MlpFIdeal.nD Cert.MlpFIdeal.τ).loc Cert.MlpFIdeal.main_arg3))
      ∧ θ_run (Cert.MlpFRefIdeal.defs (F := Ideal)) (onTc (τ := Cert.MlpFRefIdeal.τ) (Cert.MlpFRefIdeal.main (F := Ideal))) ⟨m', fun _ => 0, g'⟩ (fun r => ∀ c : Dev Cert.MlpFRefIdeal.nD,
          r.2.mem ((c.tc : Thread Cert.MlpFRefIdeal.nD Cert.MlpFRefIdeal.τ).loc Cert.MlpFRefIdeal.main_v14) = v0 c
          ∧ r.2.mem ((c.tc : Thread Cert.MlpFRefIdeal.nD Cert.MlpFRefIdeal.τ).loc Cert.MlpFRefIdeal.main_v15) = v1 c
          ∧ r.2.mem ((c.tc : Thread Cert.MlpFRefIdeal.nD Cert.MlpFRefIdeal.τ).loc Cert.MlpFRefIdeal.main_v19) = v2 c
          ∧ r.2.mem ((c.tc : Thread Cert.MlpFRefIdeal.nD Cert.MlpFRefIdeal.τ).loc Cert.MlpFRefIdeal.main_arg0) = m' ((c.tc : Thread Cert.MlpFRefIdeal.nD Cert.MlpFRefIdeal.τ).loc Cert.MlpFRefIdeal.main_arg0)
          ∧ r.2.mem ((c.tc : Thread Cert.MlpFRefIdeal.nD Cert.MlpFRefIdeal.τ).loc Cert.MlpFRefIdeal.main_arg1) = m' ((c.tc : Thread Cert.MlpFRefIdeal.nD Cert.MlpFRefIdeal.τ).loc Cert.MlpFRefIdeal.main_arg1)
          ∧ r.2.mem ((c.tc : Thread Cert.MlpFRefIdeal.nD Cert.MlpFRefIdeal.τ).loc Cert.MlpFRefIdeal.main_arg2) = m' ((c.tc : Thread Cert.MlpFRefIdeal.nD Cert.MlpFRefIdeal.τ).loc Cert.MlpFRefIdeal.main_arg2)
          ∧ r.2.mem ((c.tc : Thread Cert.MlpFRefIdeal.nD Cert.MlpFRefIdeal.τ).loc Cert.MlpFRefIdeal.main_arg3) = m' ((c.tc : Thread Cert.MlpFRefIdeal.nD Cert.MlpFRefIdeal.τ).loc Cert.MlpFRefIdeal.main_arg3))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)
      ∧ m' ((c.tc : Thread Cert.UpFRefIdeal.nD Cert.UpFRefIdeal.τ).loc Cert.UpFRefIdeal.main_arg2) = m ((c.tc : Thread Cert.UpFIdeal.nD Cert.UpFIdeal.τ).loc Cert.UpFIdeal.main_arg2)) →
    ∃ (v0 : (c : Dev Cert.UpFIdeal.nD) → Buf (Elt Ideal) ((c.tc : Thread Cert.UpFIdeal.nD Cert.UpFIdeal.τ).loc Cert.UpFIdeal.main_v5_0)) (v1 : (c : Dev Cert.UpFIdeal.nD) → Buf (Elt Ideal) ((c.tc : Thread Cert.UpFIdeal.nD Cert.UpFIdeal.τ).loc Cert.UpFIdeal.main_v5_1)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v5_0) = v0 c
          ∧ r.2.mem ((c.tc : Thread Cert.UpFIdeal.nD Cert.UpFIdeal.τ).loc Cert.UpFIdeal.main_v5_1) = v1 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1)
          ∧ r.2.mem ((c.tc : Thread Cert.UpFIdeal.nD Cert.UpFIdeal.τ).loc Cert.UpFIdeal.main_arg2) = m ((c.tc : Thread Cert.UpFIdeal.nD Cert.UpFIdeal.τ).loc Cert.UpFIdeal.main_arg2))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v13) = v0 c
          ∧ r.2.mem ((c.tc : Thread Cert.UpFRefIdeal.nD Cert.UpFRefIdeal.τ).loc Cert.UpFRefIdeal.main_v16) = v1 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1)
          ∧ r.2.mem ((c.tc : Thread Cert.UpFRefIdeal.nD Cert.UpFRefIdeal.τ).loc Cert.UpFRefIdeal.main_arg2) = m' ((c.tc : Thread Cert.UpFRefIdeal.nD Cert.UpFRefIdeal.τ).loc Cert.UpFRefIdeal.main_arg2))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)) →
    ∃ (v0 : (c : Dev Cert.DownFIdeal.nD) → Buf (Elt Ideal) ((c.tc : Thread Cert.DownFIdeal.nD Cert.DownFIdeal.τ).loc Cert.DownFIdeal.main_v2)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v2) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v4) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2))

def preserves_AinF_AinFIdeal : Prop :=
  True

def algebraic_AinFIdeal_AinFRefIdeal [hAinFIdeal : Cert.AinFIdeal.Facts] [hAinFRefIdeal : Cert.AinFRefIdeal.Facts] : Prop :=
  ∀ (m : (ℓ : Loc Cert.AinFIdeal.nD Cert.AinFIdeal.τ Cert.AinFIdeal.sig) → Buf (Elt Ideal) ℓ) (g : Dev Cert.AinFIdeal.nD → PrngReg)
    (m' : (ℓ : Loc Cert.AinFRefIdeal.nD Cert.AinFRefIdeal.τ Cert.AinFRefIdeal.sig) → Buf (Elt Ideal) ℓ) (g' : Dev Cert.AinFRefIdeal.nD → PrngReg), Pre_AinFIdeal m →
    (∀ c : Dev Cert.AinFIdeal.nD,
      m' ((c.tc : Thread Cert.AinFRefIdeal.nD Cert.AinFRefIdeal.τ).loc Cert.AinFRefIdeal.main_arg0) = m ((c.tc : Thread Cert.AinFIdeal.nD Cert.AinFIdeal.τ).loc Cert.AinFIdeal.main_arg0)
      ∧ m' ((c.tc : Thread Cert.AinFRefIdeal.nD Cert.AinFRefIdeal.τ).loc Cert.AinFRefIdeal.main_arg1) = m ((c.tc : Thread Cert.AinFIdeal.nD Cert.AinFIdeal.τ).loc Cert.AinFIdeal.main_arg1)
      ∧ m' ((c.tc : Thread Cert.AinFRefIdeal.nD Cert.AinFRefIdeal.τ).loc Cert.AinFRefIdeal.main_arg2) = m ((c.tc : Thread Cert.AinFIdeal.nD Cert.AinFIdeal.τ).loc Cert.AinFIdeal.main_arg2)) →
    ∃ (v0 : (c : Dev Cert.AinFIdeal.nD) → Buf (Elt Ideal) ((c.tc : Thread Cert.AinFIdeal.nD Cert.AinFIdeal.τ).loc Cert.AinFIdeal.main_v5_0)) (v1 : (c : Dev Cert.AinFIdeal.nD) → Buf (Elt Ideal) ((c.tc : Thread Cert.AinFIdeal.nD Cert.AinFIdeal.τ).loc Cert.AinFIdeal.main_v5_1)),
      θ_run (Cert.AinFIdeal.defs (F := Ideal)) (onTc (τ := Cert.AinFIdeal.τ) (Cert.AinFIdeal.main (F := Ideal))) ⟨m, fun _ => 0, g⟩ (fun r => ∀ c : Dev Cert.AinFIdeal.nD,
          r.2.mem ((c.tc : Thread Cert.AinFIdeal.nD Cert.AinFIdeal.τ).loc Cert.AinFIdeal.main_v5_0) = v0 c
          ∧ r.2.mem ((c.tc : Thread Cert.AinFIdeal.nD Cert.AinFIdeal.τ).loc Cert.AinFIdeal.main_v5_1) = v1 c
          ∧ r.2.mem ((c.tc : Thread Cert.AinFIdeal.nD Cert.AinFIdeal.τ).loc Cert.AinFIdeal.main_arg0) = m ((c.tc : Thread Cert.AinFIdeal.nD Cert.AinFIdeal.τ).loc Cert.AinFIdeal.main_arg0)
          ∧ r.2.mem ((c.tc : Thread Cert.AinFIdeal.nD Cert.AinFIdeal.τ).loc Cert.AinFIdeal.main_arg1) = m ((c.tc : Thread Cert.AinFIdeal.nD Cert.AinFIdeal.τ).loc Cert.AinFIdeal.main_arg1)
          ∧ r.2.mem ((c.tc : Thread Cert.AinFIdeal.nD Cert.AinFIdeal.τ).loc Cert.AinFIdeal.main_arg2) = m ((c.tc : Thread Cert.AinFIdeal.nD Cert.AinFIdeal.τ).loc Cert.AinFIdeal.main_arg2))
      ∧ θ_run (Cert.AinFRefIdeal.defs (F := Ideal)) (onTc (τ := Cert.AinFRefIdeal.τ) (Cert.AinFRefIdeal.main (F := Ideal))) ⟨m', fun _ => 0, g'⟩ (fun r => ∀ c : Dev Cert.AinFRefIdeal.nD,
          r.2.mem ((c.tc : Thread Cert.AinFRefIdeal.nD Cert.AinFRefIdeal.τ).loc Cert.AinFRefIdeal.main_v13) = v0 c
          ∧ r.2.mem ((c.tc : Thread Cert.AinFRefIdeal.nD Cert.AinFRefIdeal.τ).loc Cert.AinFRefIdeal.main_v22) = v1 c
          ∧ r.2.mem ((c.tc : Thread Cert.AinFRefIdeal.nD Cert.AinFRefIdeal.τ).loc Cert.AinFRefIdeal.main_arg0) = m' ((c.tc : Thread Cert.AinFRefIdeal.nD Cert.AinFRefIdeal.τ).loc Cert.AinFRefIdeal.main_arg0)
          ∧ r.2.mem ((c.tc : Thread Cert.AinFRefIdeal.nD Cert.AinFRefIdeal.τ).loc Cert.AinFRefIdeal.main_arg1) = m' ((c.tc : Thread Cert.AinFRefIdeal.nD Cert.AinFRefIdeal.τ).loc Cert.AinFRefIdeal.main_arg1)
          ∧ r.2.mem ((c.tc : Thread Cert.AinFRefIdeal.nD Cert.AinFRefIdeal.τ).loc Cert.AinFRefIdeal.main_arg2) = m' ((c.tc : Thread Cert.AinFRefIdeal.nD Cert.AinFRefIdeal.τ).loc Cert.AinFRefIdeal.main_arg2))

def preserves_AoutF_AoutFIdeal : Prop :=
  True

def algebraic_AoutFIdeal_AoutFRefIdeal [hAoutFIdeal : Cert.AoutFIdeal.Facts] [hAoutFRefIdeal : Cert.AoutFRefIdeal.Facts] : Prop :=
  ∀ (m : (ℓ : Loc Cert.AoutFIdeal.nD Cert.AoutFIdeal.τ Cert.AoutFIdeal.sig) → Buf (Elt Ideal) ℓ) (g : Dev Cert.AoutFIdeal.nD → PrngReg)
    (m' : (ℓ : Loc Cert.AoutFRefIdeal.nD Cert.AoutFRefIdeal.τ Cert.AoutFRefIdeal.sig) → Buf (Elt Ideal) ℓ) (g' : Dev Cert.AoutFRefIdeal.nD → PrngReg), Pre_AoutFIdeal m →
    (∀ c : Dev Cert.AoutFIdeal.nD,
      m' ((c.tc : Thread Cert.AoutFRefIdeal.nD Cert.AoutFRefIdeal.τ).loc Cert.AoutFRefIdeal.main_arg0) = m ((c.tc : Thread Cert.AoutFIdeal.nD Cert.AoutFIdeal.τ).loc Cert.AoutFIdeal.main_arg0)
      ∧ m' ((c.tc : Thread Cert.AoutFRefIdeal.nD Cert.AoutFRefIdeal.τ).loc Cert.AoutFRefIdeal.main_arg1) = m ((c.tc : Thread Cert.AoutFIdeal.nD Cert.AoutFIdeal.τ).loc Cert.AoutFIdeal.main_arg1)
      ∧ m' ((c.tc : Thread Cert.AoutFRefIdeal.nD Cert.AoutFRefIdeal.τ).loc Cert.AoutFRefIdeal.main_arg2) = m ((c.tc : Thread Cert.AoutFIdeal.nD Cert.AoutFIdeal.τ).loc Cert.AoutFIdeal.main_arg2)) →
    ∃ (v0 : (c : Dev Cert.AoutFIdeal.nD) → Buf (Elt Ideal) ((c.tc : Thread Cert.AoutFIdeal.nD Cert.AoutFIdeal.τ).loc Cert.AoutFIdeal.main_v2)),
      θ_run (Cert.AoutFIdeal.defs (F := Ideal)) (onTc (τ := Cert.AoutFIdeal.τ) (Cert.AoutFIdeal.main (F := Ideal))) ⟨m, fun _ => 0, g⟩ (fun r => ∀ c : Dev Cert.AoutFIdeal.nD,
          r.2.mem ((c.tc : Thread Cert.AoutFIdeal.nD Cert.AoutFIdeal.τ).loc Cert.AoutFIdeal.main_v2) = v0 c
          ∧ r.2.mem ((c.tc : Thread Cert.AoutFIdeal.nD Cert.AoutFIdeal.τ).loc Cert.AoutFIdeal.main_arg0) = m ((c.tc : Thread Cert.AoutFIdeal.nD Cert.AoutFIdeal.τ).loc Cert.AoutFIdeal.main_arg0)
          ∧ r.2.mem ((c.tc : Thread Cert.AoutFIdeal.nD Cert.AoutFIdeal.τ).loc Cert.AoutFIdeal.main_arg1) = m ((c.tc : Thread Cert.AoutFIdeal.nD Cert.AoutFIdeal.τ).loc Cert.AoutFIdeal.main_arg1)
          ∧ r.2.mem ((c.tc : Thread Cert.AoutFIdeal.nD Cert.AoutFIdeal.τ).loc Cert.AoutFIdeal.main_arg2) = m ((c.tc : Thread Cert.AoutFIdeal.nD Cert.AoutFIdeal.τ).loc Cert.AoutFIdeal.main_arg2))
      ∧ θ_run (Cert.AoutFRefIdeal.defs (F := Ideal)) (onTc (τ := Cert.AoutFRefIdeal.τ) (Cert.AoutFRefIdeal.main (F := Ideal))) ⟨m', fun _ => 0, g'⟩ (fun r => ∀ c : Dev Cert.AoutFRefIdeal.nD,
          r.2.mem ((c.tc : Thread Cert.AoutFRefIdeal.nD Cert.AoutFRefIdeal.τ).loc Cert.AoutFRefIdeal.main_v2) = v0 c
          ∧ r.2.mem ((c.tc : Thread Cert.AoutFRefIdeal.nD Cert.AoutFRefIdeal.τ).loc Cert.AoutFRefIdeal.main_arg0) = m' ((c.tc : Thread Cert.AoutFRefIdeal.nD Cert.AoutFRefIdeal.τ).loc Cert.AoutFRefIdeal.main_arg0)
          ∧ r.2.mem ((c.tc : Thread Cert.AoutFRefIdeal.nD Cert.AoutFRefIdeal.τ).loc Cert.AoutFRefIdeal.main_arg1) = m' ((c.tc : Thread Cert.AoutFRefIdeal.nD Cert.AoutFRefIdeal.τ).loc Cert.AoutFRefIdeal.main_arg1)
          ∧ r.2.mem ((c.tc : Thread Cert.AoutFRefIdeal.nD Cert.AoutFRefIdeal.τ).loc Cert.AoutFRefIdeal.main_arg2) = m' ((c.tc : Thread Cert.AoutFRefIdeal.nD Cert.AoutFRefIdeal.τ).loc Cert.AoutFRefIdeal.main_arg2))

def preserves_KvF_KvFIdeal : Prop :=
  True

def algebraic_KvFIdeal_KvFRefIdeal [hKvFIdeal : Cert.KvFIdeal.Facts] [hKvFRefIdeal : Cert.KvFRefIdeal.Facts] : Prop :=
  ∀ (m : (ℓ : Loc Cert.KvFIdeal.nD Cert.KvFIdeal.τ Cert.KvFIdeal.sig) → Buf (Elt Ideal) ℓ) (g : Dev Cert.KvFIdeal.nD → PrngReg)
    (m' : (ℓ : Loc Cert.KvFRefIdeal.nD Cert.KvFRefIdeal.τ Cert.KvFRefIdeal.sig) → Buf (Elt Ideal) ℓ) (g' : Dev Cert.KvFRefIdeal.nD → PrngReg), Pre_KvFIdeal m →
    (∀ c : Dev Cert.KvFIdeal.nD,
      m' ((c.tc : Thread Cert.KvFRefIdeal.nD Cert.KvFRefIdeal.τ).loc Cert.KvFRefIdeal.main_arg0) = m ((c.tc : Thread Cert.KvFIdeal.nD Cert.KvFIdeal.τ).loc Cert.KvFIdeal.main_arg0)
      ∧ m' ((c.tc : Thread Cert.KvFRefIdeal.nD Cert.KvFRefIdeal.τ).loc Cert.KvFRefIdeal.main_arg1) = m ((c.tc : Thread Cert.KvFIdeal.nD Cert.KvFIdeal.τ).loc Cert.KvFIdeal.main_arg1)
      ∧ m' ((c.tc : Thread Cert.KvFRefIdeal.nD Cert.KvFRefIdeal.τ).loc Cert.KvFRefIdeal.main_arg2) = m ((c.tc : Thread Cert.KvFIdeal.nD Cert.KvFIdeal.τ).loc Cert.KvFIdeal.main_arg2)) →
    ∃ (v0 : (c : Dev Cert.KvFIdeal.nD) → Buf (Elt Ideal) ((c.tc : Thread Cert.KvFIdeal.nD Cert.KvFIdeal.τ).loc Cert.KvFIdeal.main_v5_0)) (v1 : (c : Dev Cert.KvFIdeal.nD) → Buf (Elt Ideal) ((c.tc : Thread Cert.KvFIdeal.nD Cert.KvFIdeal.τ).loc Cert.KvFIdeal.main_v5_1)),
      θ_run (Cert.KvFIdeal.defs (F := Ideal)) (onTc (τ := Cert.KvFIdeal.τ) (Cert.KvFIdeal.main (F := Ideal))) ⟨m, fun _ => 0, g⟩ (fun r => ∀ c : Dev Cert.KvFIdeal.nD,
          r.2.mem ((c.tc : Thread Cert.KvFIdeal.nD Cert.KvFIdeal.τ).loc Cert.KvFIdeal.main_v5_0) = v0 c
          ∧ r.2.mem ((c.tc : Thread Cert.KvFIdeal.nD Cert.KvFIdeal.τ).loc Cert.KvFIdeal.main_v5_1) = v1 c
          ∧ r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
          ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1)
          ∧ r.2.mem ((c.tc : Thread Cert.KvFIdeal.nD Cert.KvFIdeal.τ).loc Cert.KvFIdeal.main_arg2) = m ((c.tc : Thread Cert.KvFIdeal.nD Cert.KvFIdeal.τ).loc Cert.KvFIdeal.main_arg2))
      ∧ θ_run (Cert.KvFRefIdeal.defs (F := Ideal)) (onTc (τ := Cert.KvFRefIdeal.τ) (Cert.KvFRefIdeal.main (F := Ideal))) ⟨m', fun _ => 0, g'⟩ (fun r => ∀ c : Dev Cert.KvFRefIdeal.nD,
          r.2.mem ((c.tc : Thread Cert.KvFRefIdeal.nD Cert.KvFRefIdeal.τ).loc Cert.KvFRefIdeal.main_v13) = v0 c
          ∧ r.2.mem ((c.tc : Thread Cert.KvFRefIdeal.nD Cert.KvFRefIdeal.τ).loc Cert.KvFRefIdeal.main_v15) = v1 c
          ∧ r.2.mem ((c.tc : Thread Cert.KvFRefIdeal.nD Cert.KvFRefIdeal.τ).loc Cert.KvFRefIdeal.main_arg0) = m' ((c.tc : Thread Cert.KvFRefIdeal.nD Cert.KvFRefIdeal.τ).loc Cert.KvFRefIdeal.main_arg0)
          ∧ r.2.mem ((c.tc : Thread Cert.KvFRefIdeal.nD Cert.KvFRefIdeal.τ).loc Cert.KvFRefIdeal.main_arg1) = m' ((c.tc : Thread Cert.KvFRefIdeal.nD Cert.KvFRefIdeal.τ).loc Cert.KvFRefIdeal.main_arg1)
          ∧ r.2.mem ((c.tc : Thread Cert.KvFRefIdeal.nD Cert.KvFRefIdeal.τ).loc Cert.KvFRefIdeal.main_arg2) = m' ((c.tc : Thread Cert.KvFRefIdeal.nD Cert.KvFRefIdeal.τ).loc Cert.KvFRefIdeal.main_arg2))

def preserves_QF_QFIdeal : Prop :=
  True

def algebraic_QFIdeal_QFRefIdeal [hQFIdeal : Cert.QFIdeal.Facts] [hQFRefIdeal : Cert.QFRefIdeal.Facts] : Prop :=
  ∀ (m : (ℓ : Loc Cert.QFIdeal.nD Cert.QFIdeal.τ Cert.QFIdeal.sig) → Buf (Elt Ideal) ℓ) (g : Dev Cert.QFIdeal.nD → PrngReg)
    (m' : (ℓ : Loc Cert.QFRefIdeal.nD Cert.QFRefIdeal.τ Cert.QFRefIdeal.sig) → Buf (Elt Ideal) ℓ) (g' : Dev Cert.QFRefIdeal.nD → PrngReg), Pre_QFIdeal m →
    (∀ c : Dev Cert.QFIdeal.nD,
      m' ((c.tc : Thread Cert.QFRefIdeal.nD Cert.QFRefIdeal.τ).loc Cert.QFRefIdeal.main_arg0) = m ((c.tc : Thread Cert.QFIdeal.nD Cert.QFIdeal.τ).loc Cert.QFIdeal.main_arg0)
      ∧ m' ((c.tc : Thread Cert.QFRefIdeal.nD Cert.QFRefIdeal.τ).loc Cert.QFRefIdeal.main_arg1) = m ((c.tc : Thread Cert.QFIdeal.nD Cert.QFIdeal.τ).loc Cert.QFIdeal.main_arg1)
      ∧ m' ((c.tc : Thread Cert.QFRefIdeal.nD Cert.QFRefIdeal.τ).loc Cert.QFRefIdeal.main_arg2) = m ((c.tc : Thread Cert.QFIdeal.nD Cert.QFIdeal.τ).loc Cert.QFIdeal.main_arg2)) →
    ∃ (v0 : (c : Dev Cert.QFIdeal.nD) → Buf (Elt Ideal) ((c.tc : Thread Cert.QFIdeal.nD Cert.QFIdeal.τ).loc Cert.QFIdeal.main_v5_0)) (v1 : (c : Dev Cert.QFIdeal.nD) → Buf (Elt Ideal) ((c.tc : Thread Cert.QFIdeal.nD Cert.QFIdeal.τ).loc Cert.QFIdeal.main_v5_1)),
      θ_run (Cert.QFIdeal.defs (F := Ideal)) (onTc (τ := Cert.QFIdeal.τ) (Cert.QFIdeal.main (F := Ideal))) ⟨m, fun _ => 0, g⟩ (fun r => ∀ c : Dev Cert.QFIdeal.nD,
          r.2.mem ((c.tc : Thread Cert.QFIdeal.nD Cert.QFIdeal.τ).loc Cert.QFIdeal.main_v5_0) = v0 c
          ∧ r.2.mem ((c.tc : Thread Cert.QFIdeal.nD Cert.QFIdeal.τ).loc Cert.QFIdeal.main_v5_1) = v1 c
          ∧ r.2.mem ((c.tc : Thread Cert.QFIdeal.nD Cert.QFIdeal.τ).loc Cert.QFIdeal.main_arg0) = m ((c.tc : Thread Cert.QFIdeal.nD Cert.QFIdeal.τ).loc Cert.QFIdeal.main_arg0)
          ∧ r.2.mem ((c.tc : Thread Cert.QFIdeal.nD Cert.QFIdeal.τ).loc Cert.QFIdeal.main_arg1) = m ((c.tc : Thread Cert.QFIdeal.nD Cert.QFIdeal.τ).loc Cert.QFIdeal.main_arg1)
          ∧ r.2.mem ((c.tc : Thread Cert.QFIdeal.nD Cert.QFIdeal.τ).loc Cert.QFIdeal.main_arg2) = m ((c.tc : Thread Cert.QFIdeal.nD Cert.QFIdeal.τ).loc Cert.QFIdeal.main_arg2))
      ∧ θ_run (Cert.QFRefIdeal.defs (F := Ideal)) (onTc (τ := Cert.QFRefIdeal.τ) (Cert.QFRefIdeal.main (F := Ideal))) ⟨m', fun _ => 0, g'⟩ (fun r => ∀ c : Dev Cert.QFRefIdeal.nD,
          r.2.mem ((c.tc : Thread Cert.QFRefIdeal.nD Cert.QFRefIdeal.τ).loc Cert.QFRefIdeal.main_v13) = v0 c
          ∧ r.2.mem ((c.tc : Thread Cert.QFRefIdeal.nD Cert.QFRefIdeal.τ).loc Cert.QFRefIdeal.main_v15) = v1 c
          ∧ r.2.mem ((c.tc : Thread Cert.QFRefIdeal.nD Cert.QFRefIdeal.τ).loc Cert.QFRefIdeal.main_arg0) = m' ((c.tc : Thread Cert.QFRefIdeal.nD Cert.QFRefIdeal.τ).loc Cert.QFRefIdeal.main_arg0)
          ∧ r.2.mem ((c.tc : Thread Cert.QFRefIdeal.nD Cert.QFRefIdeal.τ).loc Cert.QFRefIdeal.main_arg1) = m' ((c.tc : Thread Cert.QFRefIdeal.nD Cert.QFRefIdeal.τ).loc Cert.QFRefIdeal.main_arg1)
          ∧ r.2.mem ((c.tc : Thread Cert.QFRefIdeal.nD Cert.QFRefIdeal.τ).loc Cert.QFRefIdeal.main_arg2) = m' ((c.tc : Thread Cert.QFRefIdeal.nD Cert.QFRefIdeal.τ).loc Cert.QFRefIdeal.main_arg2))

def preserves_OF_OFIdeal : Prop :=
  True

def algebraic_OFIdeal_OFRefIdeal [hOFIdeal : Cert.OFIdeal.Facts] [hOFRefIdeal : Cert.OFRefIdeal.Facts] : Prop :=
  ∀ (m : (ℓ : Loc Cert.OFIdeal.nD Cert.OFIdeal.τ Cert.OFIdeal.sig) → Buf (Elt Ideal) ℓ) (g : Dev Cert.OFIdeal.nD → PrngReg)
    (m' : (ℓ : Loc Cert.OFRefIdeal.nD Cert.OFRefIdeal.τ Cert.OFRefIdeal.sig) → Buf (Elt Ideal) ℓ) (g' : Dev Cert.OFRefIdeal.nD → PrngReg), Pre_OFIdeal m →
    (∀ c : Dev Cert.OFIdeal.nD,
      m' ((c.tc : Thread Cert.OFRefIdeal.nD Cert.OFRefIdeal.τ).loc Cert.OFRefIdeal.main_arg0) = m ((c.tc : Thread Cert.OFIdeal.nD Cert.OFIdeal.τ).loc Cert.OFIdeal.main_arg0)
      ∧ m' ((c.tc : Thread Cert.OFRefIdeal.nD Cert.OFRefIdeal.τ).loc Cert.OFRefIdeal.main_arg1) = m ((c.tc : Thread Cert.OFIdeal.nD Cert.OFIdeal.τ).loc Cert.OFIdeal.main_arg1)
      ∧ m' ((c.tc : Thread Cert.OFRefIdeal.nD Cert.OFRefIdeal.τ).loc Cert.OFRefIdeal.main_arg2) = m ((c.tc : Thread Cert.OFIdeal.nD Cert.OFIdeal.τ).loc Cert.OFIdeal.main_arg2)) →
    ∃ (v0 : (c : Dev Cert.OFIdeal.nD) → Buf (Elt Ideal) ((c.tc : Thread Cert.OFIdeal.nD Cert.OFIdeal.τ).loc Cert.OFIdeal.main_v4)),
      θ_run (Cert.OFIdeal.defs (F := Ideal)) (onTc (τ := Cert.OFIdeal.τ) (Cert.OFIdeal.main (F := Ideal))) ⟨m, fun _ => 0, g⟩ (fun r => ∀ c : Dev Cert.OFIdeal.nD,
          r.2.mem ((c.tc : Thread Cert.OFIdeal.nD Cert.OFIdeal.τ).loc Cert.OFIdeal.main_v4) = v0 c
          ∧ r.2.mem ((c.tc : Thread Cert.OFIdeal.nD Cert.OFIdeal.τ).loc Cert.OFIdeal.main_arg0) = m ((c.tc : Thread Cert.OFIdeal.nD Cert.OFIdeal.τ).loc Cert.OFIdeal.main_arg0)
          ∧ r.2.mem ((c.tc : Thread Cert.OFIdeal.nD Cert.OFIdeal.τ).loc Cert.OFIdeal.main_arg1) = m ((c.tc : Thread Cert.OFIdeal.nD Cert.OFIdeal.τ).loc Cert.OFIdeal.main_arg1)
          ∧ r.2.mem ((c.tc : Thread Cert.OFIdeal.nD Cert.OFIdeal.τ).loc Cert.OFIdeal.main_arg2) = m ((c.tc : Thread Cert.OFIdeal.nD Cert.OFIdeal.τ).loc Cert.OFIdeal.main_arg2))
      ∧ θ_run (Cert.OFRefIdeal.defs (F := Ideal)) (onTc (τ := Cert.OFRefIdeal.τ) (Cert.OFRefIdeal.main (F := Ideal))) ⟨m', fun _ => 0, g'⟩ (fun r => ∀ c : Dev Cert.OFRefIdeal.nD,
          r.2.mem ((c.tc : Thread Cert.OFRefIdeal.nD Cert.OFRefIdeal.τ).loc Cert.OFRefIdeal.main_v1) = v0 c
          ∧ r.2.mem ((c.tc : Thread Cert.OFRefIdeal.nD Cert.OFRefIdeal.τ).loc Cert.OFRefIdeal.main_arg0) = m' ((c.tc : Thread Cert.OFRefIdeal.nD Cert.OFRefIdeal.τ).loc Cert.OFRefIdeal.main_arg0)
          ∧ r.2.mem ((c.tc : Thread Cert.OFRefIdeal.nD Cert.OFRefIdeal.τ).loc Cert.OFRefIdeal.main_arg1) = m' ((c.tc : Thread Cert.OFRefIdeal.nD Cert.OFRefIdeal.τ).loc Cert.OFRefIdeal.main_arg1)
          ∧ r.2.mem ((c.tc : Thread Cert.OFRefIdeal.nD Cert.OFRefIdeal.τ).loc Cert.OFRefIdeal.main_arg2) = m' ((c.tc : Thread Cert.OFRefIdeal.nD Cert.OFRefIdeal.τ).loc Cert.OFRefIdeal.main_arg2))

def preserves_LossB_LossBIdeal : Prop :=
  True

def algebraic_LossBIdeal_LossBRefIdeal [hLossBIdeal : Cert.LossBIdeal.Facts] [hLossBRefIdeal : Cert.LossBRefIdeal.Facts] : Prop :=
  ∀ (m : (ℓ : Loc Cert.LossBIdeal.nD Cert.LossBIdeal.τ Cert.LossBIdeal.sig) → Buf (Elt Ideal) ℓ) (g : Dev Cert.LossBIdeal.nD → PrngReg)
    (m' : (ℓ : Loc Cert.LossBRefIdeal.nD Cert.LossBRefIdeal.τ Cert.LossBRefIdeal.sig) → Buf (Elt Ideal) ℓ) (g' : Dev Cert.LossBRefIdeal.nD → PrngReg), Pre_LossBIdeal m →
    (∀ c : Dev Cert.LossBIdeal.nD,
      m' ((c.tc : Thread Cert.LossBRefIdeal.nD Cert.LossBRefIdeal.τ).loc Cert.LossBRefIdeal.main_arg0) = m ((c.tc : Thread Cert.LossBIdeal.nD Cert.LossBIdeal.τ).loc Cert.LossBIdeal.main_arg0)
      ∧ m' ((c.tc : Thread Cert.LossBRefIdeal.nD Cert.LossBRefIdeal.τ).loc Cert.LossBRefIdeal.main_arg1) = m ((c.tc : Thread Cert.LossBIdeal.nD Cert.LossBIdeal.τ).loc Cert.LossBIdeal.main_arg1)
      ∧ m' ((c.tc : Thread Cert.LossBRefIdeal.nD Cert.LossBRefIdeal.τ).loc Cert.LossBRefIdeal.main_arg2) = m ((c.tc : Thread Cert.LossBIdeal.nD Cert.LossBIdeal.τ).loc Cert.LossBIdeal.main_arg2)) →
    ∃ (v0 : (c : Dev Cert.LossBIdeal.nD) → Buf (Elt Ideal) ((c.tc : Thread Cert.LossBIdeal.nD Cert.LossBIdeal.τ).loc Cert.LossBIdeal.main_v1_0)) (v1 : (c : Dev Cert.LossBIdeal.nD) → Buf (Elt Ideal) ((c.tc : Thread Cert.LossBIdeal.nD Cert.LossBIdeal.τ).loc Cert.LossBIdeal.main_v1_1)) (v2 : (c : Dev Cert.LossBIdeal.nD) → Buf (Elt Ideal) ((c.tc : Thread Cert.LossBIdeal.nD Cert.LossBIdeal.τ).loc Cert.LossBIdeal.main_v1_2)) (v3 : (c : Dev Cert.LossBIdeal.nD) → Buf (Elt Ideal) ((c.tc : Thread Cert.LossBIdeal.nD Cert.LossBIdeal.τ).loc Cert.LossBIdeal.main_v1_3)),
      θ_run (Cert.LossBIdeal.defs (F := Ideal)) (onTc (τ := Cert.LossBIdeal.τ) (Cert.LossBIdeal.main (F := Ideal))) ⟨m, fun _ => 0, g⟩ (fun r => ∀ c : Dev Cert.LossBIdeal.nD,
          r.2.mem ((c.tc : Thread Cert.LossBIdeal.nD Cert.LossBIdeal.τ).loc Cert.LossBIdeal.main_v1_0) = v0 c
          ∧ r.2.mem ((c.tc : Thread Cert.LossBIdeal.nD Cert.LossBIdeal.τ).loc Cert.LossBIdeal.main_v1_1) = v1 c
          ∧ r.2.mem ((c.tc : Thread Cert.LossBIdeal.nD Cert.LossBIdeal.τ).loc Cert.LossBIdeal.main_v1_2) = v2 c
          ∧ r.2.mem ((c.tc : Thread Cert.LossBIdeal.nD Cert.LossBIdeal.τ).loc Cert.LossBIdeal.main_v1_3) = v3 c
          ∧ r.2.mem ((c.tc : Thread Cert.LossBIdeal.nD Cert.LossBIdeal.τ).loc Cert.LossBIdeal.main_arg0) = m ((c.tc : Thread Cert.LossBIdeal.nD Cert.LossBIdeal.τ).loc Cert.LossBIdeal.main_arg0)
          ∧ r.2.mem ((c.tc : Thread Cert.LossBIdeal.nD Cert.LossBIdeal.τ).loc Cert.LossBIdeal.main_arg1) = m ((c.tc : Thread Cert.LossBIdeal.nD Cert.LossBIdeal.τ).loc Cert.LossBIdeal.main_arg1)
          ∧ r.2.mem ((c.tc : Thread Cert.LossBIdeal.nD Cert.LossBIdeal.τ).loc Cert.LossBIdeal.main_arg2) = m ((c.tc : Thread Cert.LossBIdeal.nD Cert.LossBIdeal.τ).loc Cert.LossBIdeal.main_arg2))
      ∧ θ_run (Cert.LossBRefIdeal.defs (F := Ideal)) (onTc (τ := Cert.LossBRefIdeal.τ) (Cert.LossBRefIdeal.main (F := Ideal))) ⟨m', fun _ => 0, g'⟩ (fun r => ∀ c : Dev Cert.LossBRefIdeal.nD,
          r.2.mem ((c.tc : Thread Cert.LossBRefIdeal.nD Cert.LossBRefIdeal.τ).loc Cert.LossBRefIdeal.main_v51) = v0 c
          ∧ r.2.mem ((c.tc : Thread Cert.LossBRefIdeal.nD Cert.LossBRefIdeal.τ).loc Cert.LossBRefIdeal.main_v50) = v1 c
          ∧ r.2.mem ((c.tc : Thread Cert.LossBRefIdeal.nD Cert.LossBRefIdeal.τ).loc Cert.LossBRefIdeal.main_v52) = v2 c
          ∧ r.2.mem ((c.tc : Thread Cert.LossBRefIdeal.nD Cert.LossBRefIdeal.τ).loc Cert.LossBRefIdeal.main_v53) = v3 c
          ∧ r.2.mem ((c.tc : Thread Cert.LossBRefIdeal.nD Cert.LossBRefIdeal.τ).loc Cert.LossBRefIdeal.main_arg0) = m' ((c.tc : Thread Cert.LossBRefIdeal.nD Cert.LossBRefIdeal.τ).loc Cert.LossBRefIdeal.main_arg0)
          ∧ r.2.mem ((c.tc : Thread Cert.LossBRefIdeal.nD Cert.LossBRefIdeal.τ).loc Cert.LossBRefIdeal.main_arg1) = m' ((c.tc : Thread Cert.LossBRefIdeal.nD Cert.LossBRefIdeal.τ).loc Cert.LossBRefIdeal.main_arg1)
          ∧ r.2.mem ((c.tc : Thread Cert.LossBRefIdeal.nD Cert.LossBRefIdeal.τ).loc Cert.LossBRefIdeal.main_arg2) = m' ((c.tc : Thread Cert.LossBRefIdeal.nD Cert.LossBRefIdeal.τ).loc Cert.LossBRefIdeal.main_arg2))

def preserves_AinN_AinNIdeal : Prop :=
  True

def algebraic_AinNIdeal_AinNRefIdeal [hAinNIdeal : Cert.AinNIdeal.Facts] [hAinNRefIdeal : Cert.AinNRefIdeal.Facts] : Prop :=
  ∀ (m : (ℓ : Loc Cert.AinNIdeal.nD Cert.AinNIdeal.τ Cert.AinNIdeal.sig) → Buf (Elt Ideal) ℓ) (g : Dev Cert.AinNIdeal.nD → PrngReg)
    (m' : (ℓ : Loc Cert.AinNRefIdeal.nD Cert.AinNRefIdeal.τ Cert.AinNRefIdeal.sig) → Buf (Elt Ideal) ℓ) (g' : Dev Cert.AinNRefIdeal.nD → PrngReg), Pre_AinNIdeal m →
    (∀ c : Dev Cert.AinNIdeal.nD,
      m' ((c.tc : Thread Cert.AinNRefIdeal.nD Cert.AinNRefIdeal.τ).loc Cert.AinNRefIdeal.main_arg0) = m ((c.tc : Thread Cert.AinNIdeal.nD Cert.AinNIdeal.τ).loc Cert.AinNIdeal.main_arg0)
      ∧ m' ((c.tc : Thread Cert.AinNRefIdeal.nD Cert.AinNRefIdeal.τ).loc Cert.AinNRefIdeal.main_arg1) = m ((c.tc : Thread Cert.AinNIdeal.nD Cert.AinNIdeal.τ).loc Cert.AinNIdeal.main_arg1)
      ∧ m' ((c.tc : Thread Cert.AinNRefIdeal.nD Cert.AinNRefIdeal.τ).loc Cert.AinNRefIdeal.main_arg2) = m ((c.tc : Thread Cert.AinNIdeal.nD Cert.AinNIdeal.τ).loc Cert.AinNIdeal.main_arg2)) →
    ∃ (v0 : (c : Dev Cert.AinNIdeal.nD) → Buf (Elt Ideal) ((c.tc : Thread Cert.AinNIdeal.nD Cert.AinNIdeal.τ).loc Cert.AinNIdeal.main_v19_0)) (v1 : (c : Dev Cert.AinNIdeal.nD) → Buf (Elt Ideal) ((c.tc : Thread Cert.AinNIdeal.nD Cert.AinNIdeal.τ).loc Cert.AinNIdeal.main_v19_1)),
      θ_run (Cert.AinNIdeal.defs (F := Ideal)) (onTc (τ := Cert.AinNIdeal.τ) (Cert.AinNIdeal.main (F := Ideal))) ⟨m, fun _ => 0, g⟩ (fun r => ∀ c : Dev Cert.AinNIdeal.nD,
          r.2.mem ((c.tc : Thread Cert.AinNIdeal.nD Cert.AinNIdeal.τ).loc Cert.AinNIdeal.main_v19_0) = v0 c
          ∧ r.2.mem ((c.tc : Thread Cert.AinNIdeal.nD Cert.AinNIdeal.τ).loc Cert.AinNIdeal.main_v19_1) = v1 c
          ∧ r.2.mem ((c.tc : Thread Cert.AinNIdeal.nD Cert.AinNIdeal.τ).loc Cert.AinNIdeal.main_arg0) = m ((c.tc : Thread Cert.AinNIdeal.nD Cert.AinNIdeal.τ).loc Cert.AinNIdeal.main_arg0)
          ∧ r.2.mem ((c.tc : Thread Cert.AinNIdeal.nD Cert.AinNIdeal.τ).loc Cert.AinNIdeal.main_arg1) = m ((c.tc : Thread Cert.AinNIdeal.nD Cert.AinNIdeal.τ).loc Cert.AinNIdeal.main_arg1)
          ∧ r.2.mem ((c.tc : Thread Cert.AinNIdeal.nD Cert.AinNIdeal.τ).loc Cert.AinNIdeal.main_arg2) = m ((c.tc : Thread Cert.AinNIdeal.nD Cert.AinNIdeal.τ).loc Cert.AinNIdeal.main_arg2))
      ∧ θ_run (Cert.AinNRefIdeal.defs (F := Ideal)) (onTc (τ := Cert.AinNRefIdeal.τ) (Cert.AinNRefIdeal.main (F := Ideal))) ⟨m', fun _ => 0, g'⟩ (fun r => ∀ c : Dev Cert.AinNRefIdeal.nD,
          r.2.mem ((c.tc : Thread Cert.AinNRefIdeal.nD Cert.AinNRefIdeal.τ).loc Cert.AinNRefIdeal.main_v13) = v0 c
          ∧ r.2.mem ((c.tc : Thread Cert.AinNRefIdeal.nD Cert.AinNRefIdeal.τ).loc Cert.AinNRefIdeal.main_v22) = v1 c
          ∧ r.2.mem ((c.tc : Thread Cert.AinNRefIdeal.nD Cert.AinNRefIdeal.τ).loc Cert.AinNRefIdeal.main_arg0) = m' ((c.tc : Thread Cert.AinNRefIdeal.nD Cert.AinNRefIdeal.τ).loc Cert.AinNRefIdeal.main_arg0)
          ∧ r.2.mem ((c.tc : Thread Cert.AinNRefIdeal.nD Cert.AinNRefIdeal.τ).loc Cert.AinNRefIdeal.main_arg1) = m' ((c.tc : Thread Cert.AinNRefIdeal.nD Cert.AinNRefIdeal.τ).loc Cert.AinNRefIdeal.main_arg1)
          ∧ r.2.mem ((c.tc : Thread Cert.AinNRefIdeal.nD Cert.AinNRefIdeal.τ).loc Cert.AinNRefIdeal.main_arg2) = m' ((c.tc : Thread Cert.AinNRefIdeal.nD Cert.AinNRefIdeal.τ).loc Cert.AinNRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)
      ∧ m' ((c.tc : Thread Cert.AdUpRefIdeal.nD Cert.AdUpRefIdeal.τ).loc Cert.AdUpRefIdeal.main_arg4) = m ((c.tc : Thread Cert.AdUpIdeal.nD Cert.AdUpIdeal.τ).loc Cert.AdUpIdeal.main_arg4)
      ∧ m' ((c.tc : Thread Cert.AdUpRefIdeal.nD Cert.AdUpRefIdeal.τ).loc Cert.AdUpRefIdeal.main_arg5) = m ((c.tc : Thread Cert.AdUpIdeal.nD Cert.AdUpIdeal.τ).loc Cert.AdUpIdeal.main_arg5)
      ∧ m' ((c.tc : Thread Cert.AdUpRefIdeal.nD Cert.AdUpRefIdeal.τ).loc Cert.AdUpRefIdeal.main_arg6) = m ((c.tc : Thread Cert.AdUpIdeal.nD Cert.AdUpIdeal.τ).loc Cert.AdUpIdeal.main_arg6)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)) (v3 : (c : Dev Cert.AdUpIdeal.nD) → Buf (Elt Ideal) ((c.tc : Thread Cert.AdUpIdeal.nD Cert.AdUpIdeal.τ).loc Cert.AdUpIdeal.main_v0_3)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_v0_3) = v3 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
          ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4)
          ∧ r.2.mem ((c.tc : Thread Cert.AdUpIdeal.nD Cert.AdUpIdeal.τ).loc Cert.AdUpIdeal.main_arg5) = m ((c.tc : Thread Cert.AdUpIdeal.nD Cert.AdUpIdeal.τ).loc Cert.AdUpIdeal.main_arg5)
          ∧ r.2.mem ((c.tc : Thread Cert.AdUpIdeal.nD Cert.AdUpIdeal.τ).loc Cert.AdUpIdeal.main_arg6) = m ((c.tc : Thread Cert.AdUpIdeal.nD Cert.AdUpIdeal.τ).loc Cert.AdUpIdeal.main_arg6))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v4) = v0 c
          ∧ r.2.mem ((c.tc : Thread Cert.AdUpRefIdeal.nD Cert.AdUpRefIdeal.τ).loc Cert.AdUpRefIdeal.main_v28) = v1 c
          ∧ r.2.mem ((c.tc : Thread Cert.AdUpRefIdeal.nD Cert.AdUpRefIdeal.τ).loc Cert.AdUpRefIdeal.main_v9) = v2 c
          ∧ r.2.mem ((c.tc : Thread Cert.AdUpRefIdeal.nD Cert.AdUpRefIdeal.τ).loc Cert.AdUpRefIdeal.main_v15) = v3 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3)
          ∧ r.2.mem ((c.tc : Thread Cert.AdUpRefIdeal.nD Cert.AdUpRefIdeal.τ).loc Cert.AdUpRefIdeal.main_arg4) = m' ((c.tc : Thread Cert.AdUpRefIdeal.nD Cert.AdUpRefIdeal.τ).loc Cert.AdUpRefIdeal.main_arg4)
          ∧ r.2.mem ((c.tc : Thread Cert.AdUpRefIdeal.nD Cert.AdUpRefIdeal.τ).loc Cert.AdUpRefIdeal.main_arg5) = m' ((c.tc : Thread Cert.AdUpRefIdeal.nD Cert.AdUpRefIdeal.τ).loc Cert.AdUpRefIdeal.main_arg5)
          ∧ r.2.mem ((c.tc : Thread Cert.AdUpRefIdeal.nD Cert.AdUpRefIdeal.τ).loc Cert.AdUpRefIdeal.main_arg6) = m' ((c.tc : Thread Cert.AdUpRefIdeal.nD Cert.AdUpRefIdeal.τ).loc Cert.AdUpRefIdeal.main_arg6))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)
      ∧ m' ((c.tc : Thread Cert.AdInRefIdeal.nD Cert.AdInRefIdeal.τ).loc Cert.AdInRefIdeal.main_arg4) = m ((c.tc : Thread Cert.AdInIdeal.nD Cert.AdInIdeal.τ).loc Cert.AdInIdeal.main_arg4)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
          ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v2) = v0 c
          ∧ r.2.mem ((c.tc : Thread Cert.AdInRefIdeal.nD Cert.AdInRefIdeal.τ).loc Cert.AdInRefIdeal.main_v26) = v1 c
          ∧ r.2.mem ((c.tc : Thread Cert.AdInRefIdeal.nD Cert.AdInRefIdeal.τ).loc Cert.AdInRefIdeal.main_v7) = v2 c
          ∧ r.2.mem ((c.tc : Thread Cert.AdInRefIdeal.nD Cert.AdInRefIdeal.τ).loc Cert.AdInRefIdeal.main_v13) = v3 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3)
          ∧ r.2.mem ((c.tc : Thread Cert.AdInRefIdeal.nD Cert.AdInRefIdeal.τ).loc Cert.AdInRefIdeal.main_arg4) = m' ((c.tc : Thread Cert.AdInRefIdeal.nD Cert.AdInRefIdeal.τ).loc Cert.AdInRefIdeal.main_arg4))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)
      ∧ m' ((c.tc : Thread Cert.AdOutRefIdeal.nD Cert.AdOutRefIdeal.τ).loc Cert.AdOutRefIdeal.main_arg4) = m ((c.tc : Thread Cert.AdOutIdeal.nD Cert.AdOutIdeal.τ).loc Cert.AdOutIdeal.main_arg4)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
          ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v2) = v0 c
          ∧ r.2.mem ((c.tc : Thread Cert.AdOutRefIdeal.nD Cert.AdOutRefIdeal.τ).loc Cert.AdOutRefIdeal.main_v26) = v1 c
          ∧ r.2.mem ((c.tc : Thread Cert.AdOutRefIdeal.nD Cert.AdOutRefIdeal.τ).loc Cert.AdOutRefIdeal.main_v7) = v2 c
          ∧ r.2.mem ((c.tc : Thread Cert.AdOutRefIdeal.nD Cert.AdOutRefIdeal.τ).loc Cert.AdOutRefIdeal.main_v13) = v3 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3)
          ∧ r.2.mem ((c.tc : Thread Cert.AdOutRefIdeal.nD Cert.AdOutRefIdeal.τ).loc Cert.AdOutRefIdeal.main_arg4) = m' ((c.tc : Thread Cert.AdOutRefIdeal.nD Cert.AdOutRefIdeal.τ).loc Cert.AdOutRefIdeal.main_arg4))

def preserves_AdKv_AdKvIdeal : Prop :=
  True

def algebraic_AdKvIdeal_AdKvRefIdeal [hAdKvIdeal : Cert.AdKvIdeal.Facts] [hAdKvRefIdeal : Cert.AdKvRefIdeal.Facts] : Prop :=
  ∀ (m : (ℓ : Loc Cert.AdKvIdeal.nD Cert.AdKvIdeal.τ Cert.AdKvIdeal.sig) → Buf (Elt Ideal) ℓ) (g : Dev Cert.AdKvIdeal.nD → PrngReg)
    (m' : (ℓ : Loc Cert.AdKvRefIdeal.nD Cert.AdKvRefIdeal.τ Cert.AdKvRefIdeal.sig) → Buf (Elt Ideal) ℓ) (g' : Dev Cert.AdKvRefIdeal.nD → PrngReg), Pre_AdKvIdeal m →
    (∀ c : Dev Cert.AdKvIdeal.nD,
      m' ((c.tc : Thread Cert.AdKvRefIdeal.nD Cert.AdKvRefIdeal.τ).loc Cert.AdKvRefIdeal.main_arg0) = m ((c.tc : Thread Cert.AdKvIdeal.nD Cert.AdKvIdeal.τ).loc Cert.AdKvIdeal.main_arg0)
      ∧ m' ((c.tc : Thread Cert.AdKvRefIdeal.nD Cert.AdKvRefIdeal.τ).loc Cert.AdKvRefIdeal.main_arg1) = m ((c.tc : Thread Cert.AdKvIdeal.nD Cert.AdKvIdeal.τ).loc Cert.AdKvIdeal.main_arg1)
      ∧ m' ((c.tc : Thread Cert.AdKvRefIdeal.nD Cert.AdKvRefIdeal.τ).loc Cert.AdKvRefIdeal.main_arg2) = m ((c.tc : Thread Cert.AdKvIdeal.nD Cert.AdKvIdeal.τ).loc Cert.AdKvIdeal.main_arg2)
      ∧ m' ((c.tc : Thread Cert.AdKvRefIdeal.nD Cert.AdKvRefIdeal.τ).loc Cert.AdKvRefIdeal.main_arg3) = m ((c.tc : Thread Cert.AdKvIdeal.nD Cert.AdKvIdeal.τ).loc Cert.AdKvIdeal.main_arg3)) →
    ∃ (v0 : (c : Dev Cert.AdKvIdeal.nD) → Buf (Elt Ideal) ((c.tc : Thread Cert.AdKvIdeal.nD Cert.AdKvIdeal.τ).loc Cert.AdKvIdeal.main_v0_0)) (v1 : (c : Dev Cert.AdKvIdeal.nD) → Buf (Elt Ideal) ((c.tc : Thread Cert.AdKvIdeal.nD Cert.AdKvIdeal.τ).loc Cert.AdKvIdeal.main_v0_1)) (v2 : (c : Dev Cert.AdKvIdeal.nD) → Buf (Elt Ideal) ((c.tc : Thread Cert.AdKvIdeal.nD Cert.AdKvIdeal.τ).loc Cert.AdKvIdeal.main_v0_2)) (v3 : (c : Dev Cert.AdKvIdeal.nD) → Buf (Elt Ideal) ((c.tc : Thread Cert.AdKvIdeal.nD Cert.AdKvIdeal.τ).loc Cert.AdKvIdeal.main_v0_3)),
      θ_run (Cert.AdKvIdeal.defs (F := Ideal)) (onTc (τ := Cert.AdKvIdeal.τ) (Cert.AdKvIdeal.main (F := Ideal))) ⟨m, fun _ => 0, g⟩ (fun r => ∀ c : Dev Cert.AdKvIdeal.nD,
          r.2.mem ((c.tc : Thread Cert.AdKvIdeal.nD Cert.AdKvIdeal.τ).loc Cert.AdKvIdeal.main_v0_0) = v0 c
          ∧ r.2.mem ((c.tc : Thread Cert.AdKvIdeal.nD Cert.AdKvIdeal.τ).loc Cert.AdKvIdeal.main_v0_1) = v1 c
          ∧ r.2.mem ((c.tc : Thread Cert.AdKvIdeal.nD Cert.AdKvIdeal.τ).loc Cert.AdKvIdeal.main_v0_2) = v2 c
          ∧ r.2.mem ((c.tc : Thread Cert.AdKvIdeal.nD Cert.AdKvIdeal.τ).loc Cert.AdKvIdeal.main_v0_3) = v3 c
          ∧ r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
          ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
          ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
          ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ θ_run (Cert.AdKvRefIdeal.defs (F := Ideal)) (onTc (τ := Cert.AdKvRefIdeal.τ) (Cert.AdKvRefIdeal.main (F := Ideal))) ⟨m', fun _ => 0, g'⟩ (fun r => ∀ c : Dev Cert.AdKvRefIdeal.nD,
          r.2.mem ((c.tc : Thread Cert.AdKvRefIdeal.nD Cert.AdKvRefIdeal.τ).loc Cert.AdKvRefIdeal.main_v0) = v0 c
          ∧ r.2.mem ((c.tc : Thread Cert.AdKvRefIdeal.nD Cert.AdKvRefIdeal.τ).loc Cert.AdKvRefIdeal.main_v24) = v1 c
          ∧ r.2.mem ((c.tc : Thread Cert.AdKvRefIdeal.nD Cert.AdKvRefIdeal.τ).loc Cert.AdKvRefIdeal.main_v5) = v2 c
          ∧ r.2.mem ((c.tc : Thread Cert.AdKvRefIdeal.nD Cert.AdKvRefIdeal.τ).loc Cert.AdKvRefIdeal.main_v11) = v3 c
          ∧ r.2.mem ((c.tc : Thread Cert.AdKvRefIdeal.nD Cert.AdKvRefIdeal.τ).loc Cert.AdKvRefIdeal.main_arg0) = m' ((c.tc : Thread Cert.AdKvRefIdeal.nD Cert.AdKvRefIdeal.τ).loc Cert.AdKvRefIdeal.main_arg0)
          ∧ r.2.mem ((c.tc : Thread Cert.AdKvRefIdeal.nD Cert.AdKvRefIdeal.τ).loc Cert.AdKvRefIdeal.main_arg1) = m' ((c.tc : Thread Cert.AdKvRefIdeal.nD Cert.AdKvRefIdeal.τ).loc Cert.AdKvRefIdeal.main_arg1)
          ∧ r.2.mem ((c.tc : Thread Cert.AdKvRefIdeal.nD Cert.AdKvRefIdeal.τ).loc Cert.AdKvRefIdeal.main_arg2) = m' ((c.tc : Thread Cert.AdKvRefIdeal.nD Cert.AdKvRefIdeal.τ).loc Cert.AdKvRefIdeal.main_arg2)
          ∧ r.2.mem ((c.tc : Thread Cert.AdKvRefIdeal.nD Cert.AdKvRefIdeal.τ).loc Cert.AdKvRefIdeal.main_arg3) = m' ((c.tc : Thread Cert.AdKvRefIdeal.nD Cert.AdKvRefIdeal.τ).loc Cert.AdKvRefIdeal.main_arg3))

def preserves_AdQ_AdQIdeal : Prop :=
  True

def algebraic_AdQIdeal_AdQRefIdeal [hAdQIdeal : Cert.AdQIdeal.Facts] [hAdQRefIdeal : Cert.AdQRefIdeal.Facts] : Prop :=
  ∀ (m : (ℓ : Loc Cert.AdQIdeal.nD Cert.AdQIdeal.τ Cert.AdQIdeal.sig) → Buf (Elt Ideal) ℓ) (g : Dev Cert.AdQIdeal.nD → PrngReg)
    (m' : (ℓ : Loc Cert.AdQRefIdeal.nD Cert.AdQRefIdeal.τ Cert.AdQRefIdeal.sig) → Buf (Elt Ideal) ℓ) (g' : Dev Cert.AdQRefIdeal.nD → PrngReg), Pre_AdQIdeal m →
    (∀ c : Dev Cert.AdQIdeal.nD,
      m' ((c.tc : Thread Cert.AdQRefIdeal.nD Cert.AdQRefIdeal.τ).loc Cert.AdQRefIdeal.main_arg0) = m ((c.tc : Thread Cert.AdQIdeal.nD Cert.AdQIdeal.τ).loc Cert.AdQIdeal.main_arg0)
      ∧ m' ((c.tc : Thread Cert.AdQRefIdeal.nD Cert.AdQRefIdeal.τ).loc Cert.AdQRefIdeal.main_arg1) = m ((c.tc : Thread Cert.AdQIdeal.nD Cert.AdQIdeal.τ).loc Cert.AdQIdeal.main_arg1)
      ∧ m' ((c.tc : Thread Cert.AdQRefIdeal.nD Cert.AdQRefIdeal.τ).loc Cert.AdQRefIdeal.main_arg2) = m ((c.tc : Thread Cert.AdQIdeal.nD Cert.AdQIdeal.τ).loc Cert.AdQIdeal.main_arg2)
      ∧ m' ((c.tc : Thread Cert.AdQRefIdeal.nD Cert.AdQRefIdeal.τ).loc Cert.AdQRefIdeal.main_arg3) = m ((c.tc : Thread Cert.AdQIdeal.nD Cert.AdQIdeal.τ).loc Cert.AdQIdeal.main_arg3)
      ∧ m' ((c.tc : Thread Cert.AdQRefIdeal.nD Cert.AdQRefIdeal.τ).loc Cert.AdQRefIdeal.main_arg4) = m ((c.tc : Thread Cert.AdQIdeal.nD Cert.AdQIdeal.τ).loc Cert.AdQIdeal.main_arg4)) →
    ∃ (v0 : (c : Dev Cert.AdQIdeal.nD) → Buf (Elt Ideal) ((c.tc : Thread Cert.AdQIdeal.nD Cert.AdQIdeal.τ).loc Cert.AdQIdeal.main_v0_0)) (v1 : (c : Dev Cert.AdQIdeal.nD) → Buf (Elt Ideal) ((c.tc : Thread Cert.AdQIdeal.nD Cert.AdQIdeal.τ).loc Cert.AdQIdeal.main_v0_1)) (v2 : (c : Dev Cert.AdQIdeal.nD) → Buf (Elt Ideal) ((c.tc : Thread Cert.AdQIdeal.nD Cert.AdQIdeal.τ).loc Cert.AdQIdeal.main_v0_2)) (v3 : (c : Dev Cert.AdQIdeal.nD) → Buf (Elt Ideal) ((c.tc : Thread Cert.AdQIdeal.nD Cert.AdQIdeal.τ).loc Cert.AdQIdeal.main_v0_3)),
      θ_run (Cert.AdQIdeal.defs (F := Ideal)) (onTc (τ := Cert.AdQIdeal.τ) (Cert.AdQIdeal.main (F := Ideal))) ⟨m, fun _ => 0, g⟩ (fun r => ∀ c : Dev Cert.AdQIdeal.nD,
          r.2.mem ((c.tc : Thread Cert.AdQIdeal.nD Cert.AdQIdeal.τ).loc Cert.AdQIdeal.main_v0_0) = v0 c
          ∧ r.2.mem ((c.tc : Thread Cert.AdQIdeal.nD Cert.AdQIdeal.τ).loc Cert.AdQIdeal.main_v0_1) = v1 c
          ∧ r.2.mem ((c.tc : Thread Cert.AdQIdeal.nD Cert.AdQIdeal.τ).loc Cert.AdQIdeal.main_v0_2) = v2 c
          ∧ r.2.mem ((c.tc : Thread Cert.AdQIdeal.nD Cert.AdQIdeal.τ).loc Cert.AdQIdeal.main_v0_3) = v3 c
          ∧ r.2.mem ((c.tc : Thread Cert.AdQIdeal.nD Cert.AdQIdeal.τ).loc Cert.AdQIdeal.main_arg0) = m ((c.tc : Thread Cert.AdQIdeal.nD Cert.AdQIdeal.τ).loc Cert.AdQIdeal.main_arg0)
          ∧ r.2.mem ((c.tc : Thread Cert.AdQIdeal.nD Cert.AdQIdeal.τ).loc Cert.AdQIdeal.main_arg1) = m ((c.tc : Thread Cert.AdQIdeal.nD Cert.AdQIdeal.τ).loc Cert.AdQIdeal.main_arg1)
          ∧ r.2.mem ((c.tc : Thread Cert.AdQIdeal.nD Cert.AdQIdeal.τ).loc Cert.AdQIdeal.main_arg2) = m ((c.tc : Thread Cert.AdQIdeal.nD Cert.AdQIdeal.τ).loc Cert.AdQIdeal.main_arg2)
          ∧ r.2.mem ((c.tc : Thread Cert.AdQIdeal.nD Cert.AdQIdeal.τ).loc Cert.AdQIdeal.main_arg3) = m ((c.tc : Thread Cert.AdQIdeal.nD Cert.AdQIdeal.τ).loc Cert.AdQIdeal.main_arg3)
          ∧ r.2.mem ((c.tc : Thread Cert.AdQIdeal.nD Cert.AdQIdeal.τ).loc Cert.AdQIdeal.main_arg4) = m ((c.tc : Thread Cert.AdQIdeal.nD Cert.AdQIdeal.τ).loc Cert.AdQIdeal.main_arg4))
      ∧ θ_run (Cert.AdQRefIdeal.defs (F := Ideal)) (onTc (τ := Cert.AdQRefIdeal.τ) (Cert.AdQRefIdeal.main (F := Ideal))) ⟨m', fun _ => 0, g'⟩ (fun r => ∀ c : Dev Cert.AdQRefIdeal.nD,
          r.2.mem ((c.tc : Thread Cert.AdQRefIdeal.nD Cert.AdQRefIdeal.τ).loc Cert.AdQRefIdeal.main_v2) = v0 c
          ∧ r.2.mem ((c.tc : Thread Cert.AdQRefIdeal.nD Cert.AdQRefIdeal.τ).loc Cert.AdQRefIdeal.main_v26) = v1 c
          ∧ r.2.mem ((c.tc : Thread Cert.AdQRefIdeal.nD Cert.AdQRefIdeal.τ).loc Cert.AdQRefIdeal.main_v7) = v2 c
          ∧ r.2.mem ((c.tc : Thread Cert.AdQRefIdeal.nD Cert.AdQRefIdeal.τ).loc Cert.AdQRefIdeal.main_v13) = v3 c
          ∧ r.2.mem ((c.tc : Thread Cert.AdQRefIdeal.nD Cert.AdQRefIdeal.τ).loc Cert.AdQRefIdeal.main_arg0) = m' ((c.tc : Thread Cert.AdQRefIdeal.nD Cert.AdQRefIdeal.τ).loc Cert.AdQRefIdeal.main_arg0)
          ∧ r.2.mem ((c.tc : Thread Cert.AdQRefIdeal.nD Cert.AdQRefIdeal.τ).loc Cert.AdQRefIdeal.main_arg1) = m' ((c.tc : Thread Cert.AdQRefIdeal.nD Cert.AdQRefIdeal.τ).loc Cert.AdQRefIdeal.main_arg1)
          ∧ r.2.mem ((c.tc : Thread Cert.AdQRefIdeal.nD Cert.AdQRefIdeal.τ).loc Cert.AdQRefIdeal.main_arg2) = m' ((c.tc : Thread Cert.AdQRefIdeal.nD Cert.AdQRefIdeal.τ).loc Cert.AdQRefIdeal.main_arg2)
          ∧ r.2.mem ((c.tc : Thread Cert.AdQRefIdeal.nD Cert.AdQRefIdeal.τ).loc Cert.AdQRefIdeal.main_arg3) = m' ((c.tc : Thread Cert.AdQRefIdeal.nD Cert.AdQRefIdeal.τ).loc Cert.AdQRefIdeal.main_arg3)
          ∧ r.2.mem ((c.tc : Thread Cert.AdQRefIdeal.nD Cert.AdQRefIdeal.τ).loc Cert.AdQRefIdeal.main_arg4) = m' ((c.tc : Thread Cert.AdQRefIdeal.nD Cert.AdQRefIdeal.τ).loc Cert.AdQRefIdeal.main_arg4))

def preserves_AdO_AdOIdeal : Prop :=
  True

def algebraic_AdOIdeal_AdORefIdeal [hAdOIdeal : Cert.AdOIdeal.Facts] [hAdORefIdeal : Cert.AdORefIdeal.Facts] : Prop :=
  ∀ (m : (ℓ : Loc Cert.AdOIdeal.nD Cert.AdOIdeal.τ Cert.AdOIdeal.sig) → Buf (Elt Ideal) ℓ) (g : Dev Cert.AdOIdeal.nD → PrngReg)
    (m' : (ℓ : Loc Cert.AdORefIdeal.nD Cert.AdORefIdeal.τ Cert.AdORefIdeal.sig) → Buf (Elt Ideal) ℓ) (g' : Dev Cert.AdORefIdeal.nD → PrngReg), Pre_AdOIdeal m →
    (∀ c : Dev Cert.AdOIdeal.nD,
      m' ((c.tc : Thread Cert.AdORefIdeal.nD Cert.AdORefIdeal.τ).loc Cert.AdORefIdeal.main_arg0) = m ((c.tc : Thread Cert.AdOIdeal.nD Cert.AdOIdeal.τ).loc Cert.AdOIdeal.main_arg0)
      ∧ m' ((c.tc : Thread Cert.AdORefIdeal.nD Cert.AdORefIdeal.τ).loc Cert.AdORefIdeal.main_arg1) = m ((c.tc : Thread Cert.AdOIdeal.nD Cert.AdOIdeal.τ).loc Cert.AdOIdeal.main_arg1)
      ∧ m' ((c.tc : Thread Cert.AdORefIdeal.nD Cert.AdORefIdeal.τ).loc Cert.AdORefIdeal.main_arg2) = m ((c.tc : Thread Cert.AdOIdeal.nD Cert.AdOIdeal.τ).loc Cert.AdOIdeal.main_arg2)
      ∧ m' ((c.tc : Thread Cert.AdORefIdeal.nD Cert.AdORefIdeal.τ).loc Cert.AdORefIdeal.main_arg3) = m ((c.tc : Thread Cert.AdOIdeal.nD Cert.AdOIdeal.τ).loc Cert.AdOIdeal.main_arg3)
      ∧ m' ((c.tc : Thread Cert.AdORefIdeal.nD Cert.AdORefIdeal.τ).loc Cert.AdORefIdeal.main_arg4) = m ((c.tc : Thread Cert.AdOIdeal.nD Cert.AdOIdeal.τ).loc Cert.AdOIdeal.main_arg4)) →
    ∃ (v0 : (c : Dev Cert.AdOIdeal.nD) → Buf (Elt Ideal) ((c.tc : Thread Cert.AdOIdeal.nD Cert.AdOIdeal.τ).loc Cert.AdOIdeal.main_v0_0)) (v1 : (c : Dev Cert.AdOIdeal.nD) → Buf (Elt Ideal) ((c.tc : Thread Cert.AdOIdeal.nD Cert.AdOIdeal.τ).loc Cert.AdOIdeal.main_v0_1)) (v2 : (c : Dev Cert.AdOIdeal.nD) → Buf (Elt Ideal) ((c.tc : Thread Cert.AdOIdeal.nD Cert.AdOIdeal.τ).loc Cert.AdOIdeal.main_v0_2)) (v3 : (c : Dev Cert.AdOIdeal.nD) → Buf (Elt Ideal) ((c.tc : Thread Cert.AdOIdeal.nD Cert.AdOIdeal.τ).loc Cert.AdOIdeal.main_v0_3)),
      θ_run (Cert.AdOIdeal.defs (F := Ideal)) (onTc (τ := Cert.AdOIdeal.τ) (Cert.AdOIdeal.main (F := Ideal))) ⟨m, fun _ => 0, g⟩ (fun r => ∀ c : Dev Cert.AdOIdeal.nD,
          r.2.mem ((c.tc : Thread Cert.AdOIdeal.nD Cert.AdOIdeal.τ).loc Cert.AdOIdeal.main_v0_0) = v0 c
          ∧ r.2.mem ((c.tc : Thread Cert.AdOIdeal.nD Cert.AdOIdeal.τ).loc Cert.AdOIdeal.main_v0_1) = v1 c
          ∧ r.2.mem ((c.tc : Thread Cert.AdOIdeal.nD Cert.AdOIdeal.τ).loc Cert.AdOIdeal.main_v0_2) = v2 c
          ∧ r.2.mem ((c.tc : Thread Cert.AdOIdeal.nD Cert.AdOIdeal.τ).loc Cert.AdOIdeal.main_v0_3) = v3 c
          ∧ r.2.mem ((c.tc : Thread Cert.AdOIdeal.nD Cert.AdOIdeal.τ).loc Cert.AdOIdeal.main_arg0) = m ((c.tc : Thread Cert.AdOIdeal.nD Cert.AdOIdeal.τ).loc Cert.AdOIdeal.main_arg0)
          ∧ r.2.mem ((c.tc : Thread Cert.AdOIdeal.nD Cert.AdOIdeal.τ).loc Cert.AdOIdeal.main_arg1) = m ((c.tc : Thread Cert.AdOIdeal.nD Cert.AdOIdeal.τ).loc Cert.AdOIdeal.main_arg1)
          ∧ r.2.mem ((c.tc : Thread Cert.AdOIdeal.nD Cert.AdOIdeal.τ).loc Cert.AdOIdeal.main_arg2) = m ((c.tc : Thread Cert.AdOIdeal.nD Cert.AdOIdeal.τ).loc Cert.AdOIdeal.main_arg2)
          ∧ r.2.mem ((c.tc : Thread Cert.AdOIdeal.nD Cert.AdOIdeal.τ).loc Cert.AdOIdeal.main_arg3) = m ((c.tc : Thread Cert.AdOIdeal.nD Cert.AdOIdeal.τ).loc Cert.AdOIdeal.main_arg3)
          ∧ r.2.mem ((c.tc : Thread Cert.AdOIdeal.nD Cert.AdOIdeal.τ).loc Cert.AdOIdeal.main_arg4) = m ((c.tc : Thread Cert.AdOIdeal.nD Cert.AdOIdeal.τ).loc Cert.AdOIdeal.main_arg4))
      ∧ θ_run (Cert.AdORefIdeal.defs (F := Ideal)) (onTc (τ := Cert.AdORefIdeal.τ) (Cert.AdORefIdeal.main (F := Ideal))) ⟨m', fun _ => 0, g'⟩ (fun r => ∀ c : Dev Cert.AdORefIdeal.nD,
          r.2.mem ((c.tc : Thread Cert.AdORefIdeal.nD Cert.AdORefIdeal.τ).loc Cert.AdORefIdeal.main_v2) = v0 c
          ∧ r.2.mem ((c.tc : Thread Cert.AdORefIdeal.nD Cert.AdORefIdeal.τ).loc Cert.AdORefIdeal.main_v26) = v1 c
          ∧ r.2.mem ((c.tc : Thread Cert.AdORefIdeal.nD Cert.AdORefIdeal.τ).loc Cert.AdORefIdeal.main_v7) = v2 c
          ∧ r.2.mem ((c.tc : Thread Cert.AdORefIdeal.nD Cert.AdORefIdeal.τ).loc Cert.AdORefIdeal.main_v13) = v3 c
          ∧ r.2.mem ((c.tc : Thread Cert.AdORefIdeal.nD Cert.AdORefIdeal.τ).loc Cert.AdORefIdeal.main_arg0) = m' ((c.tc : Thread Cert.AdORefIdeal.nD Cert.AdORefIdeal.τ).loc Cert.AdORefIdeal.main_arg0)
          ∧ r.2.mem ((c.tc : Thread Cert.AdORefIdeal.nD Cert.AdORefIdeal.τ).loc Cert.AdORefIdeal.main_arg1) = m' ((c.tc : Thread Cert.AdORefIdeal.nD Cert.AdORefIdeal.τ).loc Cert.AdORefIdeal.main_arg1)
          ∧ r.2.mem ((c.tc : Thread Cert.AdORefIdeal.nD Cert.AdORefIdeal.τ).loc Cert.AdORefIdeal.main_arg2) = m' ((c.tc : Thread Cert.AdORefIdeal.nD Cert.AdORefIdeal.τ).loc Cert.AdORefIdeal.main_arg2)
          ∧ r.2.mem ((c.tc : Thread Cert.AdORefIdeal.nD Cert.AdORefIdeal.τ).loc Cert.AdORefIdeal.main_arg3) = m' ((c.tc : Thread Cert.AdORefIdeal.nD Cert.AdORefIdeal.τ).loc Cert.AdORefIdeal.main_arg3)
          ∧ r.2.mem ((c.tc : Thread Cert.AdORefIdeal.nD Cert.AdORefIdeal.τ).loc Cert.AdORefIdeal.main_arg4) = m' ((c.tc : Thread Cert.AdORefIdeal.nD Cert.AdORefIdeal.τ).loc Cert.AdORefIdeal.main_arg4))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdConv_AdConvIdeal : Prop :=
  True

def algebraic_AdConvIdeal_AdConvRefIdeal [hAdConvIdeal : Cert.AdConvIdeal.Facts] [hAdConvRefIdeal : Cert.AdConvRefIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvRefIdeal.nD Cert.AdConvRefIdeal.τ Cert.AdConvRefIdeal.sig) → Buf (Elt Ideal) ℓ) (g' : Dev Cert.AdConvRefIdeal.nD → PrngReg), Pre_AdConvIdeal m →
    (∀ c : Dev Cert.AdConvIdeal.nD,
      m' ((c.tc : Thread Cert.AdConvRefIdeal.nD Cert.AdConvRefIdeal.τ).loc Cert.AdConvRefIdeal.main_arg0) = m ((c.tc : Thread Cert.AdConvIdeal.nD Cert.AdConvIdeal.τ).loc Cert.AdConvIdeal.main_arg0)
      ∧ m' ((c.tc : Thread Cert.AdConvRefIdeal.nD Cert.AdConvRefIdeal.τ).loc Cert.AdConvRefIdeal.main_arg1) = m ((c.tc : Thread Cert.AdConvIdeal.nD Cert.AdConvIdeal.τ).loc Cert.AdConvIdeal.main_arg1)
      ∧ m' ((c.tc : Thread Cert.AdConvRefIdeal.nD Cert.AdConvRefIdeal.τ).loc Cert.AdConvRefIdeal.main_arg2) = m ((c.tc : Thread Cert.AdConvIdeal.nD Cert.AdConvIdeal.τ).loc Cert.AdConvIdeal.main_arg2)
      ∧ m' ((c.tc : Thread Cert.AdConvRefIdeal.nD Cert.AdConvRefIdeal.τ).loc Cert.AdConvRefIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v0_0)) (v1 : (c : Dev Cert.AdConvIdeal.nD) → Buf (Elt Ideal) ((c.tc : Thread Cert.AdConvIdeal.nD Cert.AdConvIdeal.τ).loc Cert.AdConvIdeal.main_v0_1)) (v2 : (c : Dev Cert.AdConvIdeal.nD) → Buf (Elt Ideal) ((c.tc : Thread Cert.AdConvIdeal.nD Cert.AdConvIdeal.τ).loc Cert.AdConvIdeal.main_v0_2)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v0_0) = v0 c
          ∧ r.2.mem ((c.tc : Thread Cert.AdConvIdeal.nD Cert.AdConvIdeal.τ).loc Cert.AdConvIdeal.main_v0_1) = v1 c
          ∧ r.2.mem ((c.tc : Thread Cert.AdConvIdeal.nD Cert.AdConvIdeal.τ).loc Cert.AdConvIdeal.main_v0_2) = v2 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvRefIdeal.defs (F := Ideal)) (onTc (τ := Cert.AdConvRefIdeal.τ) (Cert.AdConvRefIdeal.main (F := Ideal))) ⟨m', fun _ => 0, g'⟩ (fun r => ∀ c : Dev Cert.AdConvRefIdeal.nD,
          r.2.mem ((c.tc : Thread Cert.AdConvRefIdeal.nD Cert.AdConvRefIdeal.τ).loc Cert.AdConvRefIdeal.main_v23) = v0 c
          ∧ r.2.mem ((c.tc : Thread Cert.AdConvRefIdeal.nD Cert.AdConvRefIdeal.τ).loc Cert.AdConvRefIdeal.main_v4) = v1 c
          ∧ r.2.mem ((c.tc : Thread Cert.AdConvRefIdeal.nD Cert.AdConvRefIdeal.τ).loc Cert.AdConvRefIdeal.main_v10) = v2 c
          ∧ r.2.mem ((c.tc : Thread Cert.AdConvRefIdeal.nD Cert.AdConvRefIdeal.τ).loc Cert.AdConvRefIdeal.main_arg0) = m' ((c.tc : Thread Cert.AdConvRefIdeal.nD Cert.AdConvRefIdeal.τ).loc Cert.AdConvRefIdeal.main_arg0)
          ∧ r.2.mem ((c.tc : Thread Cert.AdConvRefIdeal.nD Cert.AdConvRefIdeal.τ).loc Cert.AdConvRefIdeal.main_arg1) = m' ((c.tc : Thread Cert.AdConvRefIdeal.nD Cert.AdConvRefIdeal.τ).loc Cert.AdConvRefIdeal.main_arg1)
          ∧ r.2.mem ((c.tc : Thread Cert.AdConvRefIdeal.nD Cert.AdConvRefIdeal.τ).loc Cert.AdConvRefIdeal.main_arg2) = m' ((c.tc : Thread Cert.AdConvRefIdeal.nD Cert.AdConvRefIdeal.τ).loc Cert.AdConvRefIdeal.main_arg2)
          ∧ r.2.mem ((c.tc : Thread Cert.AdConvRefIdeal.nD Cert.AdConvRefIdeal.τ).loc Cert.AdConvRefIdeal.main_arg3) = m' ((c.tc : Thread Cert.AdConvRefIdeal.nD Cert.AdConvRefIdeal.τ).loc Cert.AdConvRefIdeal.main_arg3))

def Claim : Prop :=
  ∃ (hConv : Cert.Conv.Facts) (hConvIdeal : Cert.ConvIdeal.Facts) (hConvRefIdeal : Cert.ConvRefIdeal.Facts) (hMlp : Cert.Mlp.Facts) (hMlpIdeal : Cert.MlpIdeal.Facts) (hMlpRefIdeal : Cert.MlpRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hAin : Cert.Ain.Facts) (hAinIdeal : Cert.AinIdeal.Facts) (hAinRefIdeal : Cert.AinRefIdeal.Facts) (hAout : Cert.Aout.Facts) (hAoutIdeal : Cert.AoutIdeal.Facts) (hAoutRefIdeal : Cert.AoutRefIdeal.Facts) (hKv : Cert.Kv.Facts) (hKvIdeal : Cert.KvIdeal.Facts) (hKvRefIdeal : Cert.KvRefIdeal.Facts) (hOw : Cert.Ow.Facts) (hOwIdeal : Cert.OwIdeal.Facts) (hOwRefIdeal : Cert.OwRefIdeal.Facts) (hQw : Cert.Qw.Facts) (hQwIdeal : Cert.QwIdeal.Facts) (hQwRefIdeal : Cert.QwRefIdeal.Facts) (hAoutB : Cert.AoutB.Facts) (hAoutBIdeal : Cert.AoutBIdeal.Facts) (hAoutBRefIdeal : Cert.AoutBRefIdeal.Facts) (hOb : Cert.Ob.Facts) (hObIdeal : Cert.ObIdeal.Facts) (hObRefIdeal : Cert.ObRefIdeal.Facts) (hAinB : Cert.AinB.Facts) (hAinBIdeal : Cert.AinBIdeal.Facts) (hAinBRefIdeal : Cert.AinBRefIdeal.Facts) (hQb : Cert.Qb.Facts) (hQbIdeal : Cert.QbIdeal.Facts) (hQbRefIdeal : Cert.QbRefIdeal.Facts) (hKvB : Cert.KvB.Facts) (hKvBIdeal : Cert.KvBIdeal.Facts) (hKvBRefIdeal : Cert.KvBRefIdeal.Facts) (hMlpF : Cert.MlpF.Facts) (hMlpFIdeal : Cert.MlpFIdeal.Facts) (hMlpFRefIdeal : Cert.MlpFRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hAinF : Cert.AinF.Facts) (hAinFIdeal : Cert.AinFIdeal.Facts) (hAinFRefIdeal : Cert.AinFRefIdeal.Facts) (hAoutF : Cert.AoutF.Facts) (hAoutFIdeal : Cert.AoutFIdeal.Facts) (hAoutFRefIdeal : Cert.AoutFRefIdeal.Facts) (hKvF : Cert.KvF.Facts) (hKvFIdeal : Cert.KvFIdeal.Facts) (hKvFRefIdeal : Cert.KvFRefIdeal.Facts) (hQF : Cert.QF.Facts) (hQFIdeal : Cert.QFIdeal.Facts) (hQFRefIdeal : Cert.QFRefIdeal.Facts) (hOF : Cert.OF.Facts) (hOFIdeal : Cert.OFIdeal.Facts) (hOFRefIdeal : Cert.OFRefIdeal.Facts) (hLossB : Cert.LossB.Facts) (hLossBIdeal : Cert.LossBIdeal.Facts) (hLossBRefIdeal : Cert.LossBRefIdeal.Facts) (hAinN : Cert.AinN.Facts) (hAinNIdeal : Cert.AinNIdeal.Facts) (hAinNRefIdeal : Cert.AinNRefIdeal.Facts) (hRms : Cert.Rms.Facts) (hRmsIdeal : Cert.RmsIdeal.Facts) (hRmsRefIdeal : Cert.RmsRefIdeal.Facts) (hAdUp : Cert.AdUp.Facts) (hAdUpIdeal : Cert.AdUpIdeal.Facts) (hAdUpRefIdeal : Cert.AdUpRefIdeal.Facts) (hAdIn : Cert.AdIn.Facts) (hAdInIdeal : Cert.AdInIdeal.Facts) (hAdInRefIdeal : Cert.AdInRefIdeal.Facts) (hAdOut : Cert.AdOut.Facts) (hAdOutIdeal : Cert.AdOutIdeal.Facts) (hAdOutRefIdeal : Cert.AdOutRefIdeal.Facts) (hAdKv : Cert.AdKv.Facts) (hAdKvIdeal : Cert.AdKvIdeal.Facts) (hAdKvRefIdeal : Cert.AdKvRefIdeal.Facts) (hAdQ : Cert.AdQ.Facts) (hAdQIdeal : Cert.AdQIdeal.Facts) (hAdQRefIdeal : Cert.AdQRefIdeal.Facts) (hAdO : Cert.AdO.Facts) (hAdOIdeal : Cert.AdOIdeal.Facts) (hAdORefIdeal : Cert.AdORefIdeal.Facts) (hAdNorm : Cert.AdNorm.Facts) (hAdNormIdeal : Cert.AdNormIdeal.Facts) (hAdNormRefIdeal : Cert.AdNormRefIdeal.Facts) (hAdConv : Cert.AdConv.Facts) (hAdConvIdeal : Cert.AdConvIdeal.Facts) (hAdConvRefIdeal : Cert.AdConvRefIdeal.Facts),
    quiescent_Conv (hConv := hConv)
    ∧ quiescent_ConvIdeal (hConvIdeal := hConvIdeal)
    ∧ quiescent_ConvRefIdeal (hConvRefIdeal := hConvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Ain (hAin := hAin)
    ∧ quiescent_AinIdeal (hAinIdeal := hAinIdeal)
    ∧ quiescent_AinRefIdeal (hAinRefIdeal := hAinRefIdeal)
    ∧ quiescent_Aout (hAout := hAout)
    ∧ quiescent_AoutIdeal (hAoutIdeal := hAoutIdeal)
    ∧ quiescent_AoutRefIdeal (hAoutRefIdeal := hAoutRefIdeal)
    ∧ quiescent_Kv (hKv := hKv)
    ∧ quiescent_KvIdeal (hKvIdeal := hKvIdeal)
    ∧ quiescent_KvRefIdeal (hKvRefIdeal := hKvRefIdeal)
    ∧ quiescent_Ow (hOw := hOw)
    ∧ quiescent_OwIdeal (hOwIdeal := hOwIdeal)
    ∧ quiescent_OwRefIdeal (hOwRefIdeal := hOwRefIdeal)
    ∧ quiescent_Qw (hQw := hQw)
    ∧ quiescent_QwIdeal (hQwIdeal := hQwIdeal)
    ∧ quiescent_QwRefIdeal (hQwRefIdeal := hQwRefIdeal)
    ∧ quiescent_AoutB (hAoutB := hAoutB)
    ∧ quiescent_AoutBIdeal (hAoutBIdeal := hAoutBIdeal)
    ∧ quiescent_AoutBRefIdeal (hAoutBRefIdeal := hAoutBRefIdeal)
    ∧ quiescent_Ob (hOb := hOb)
    ∧ quiescent_ObIdeal (hObIdeal := hObIdeal)
    ∧ quiescent_ObRefIdeal (hObRefIdeal := hObRefIdeal)
    ∧ quiescent_AinB (hAinB := hAinB)
    ∧ quiescent_AinBIdeal (hAinBIdeal := hAinBIdeal)
    ∧ quiescent_AinBRefIdeal (hAinBRefIdeal := hAinBRefIdeal)
    ∧ quiescent_Qb (hQb := hQb)
    ∧ quiescent_QbIdeal (hQbIdeal := hQbIdeal)
    ∧ quiescent_QbRefIdeal (hQbRefIdeal := hQbRefIdeal)
    ∧ quiescent_KvB (hKvB := hKvB)
    ∧ quiescent_KvBIdeal (hKvBIdeal := hKvBIdeal)
    ∧ quiescent_KvBRefIdeal (hKvBRefIdeal := hKvBRefIdeal)
    ∧ quiescent_MlpF (hMlpF := hMlpF)
    ∧ quiescent_MlpFIdeal (hMlpFIdeal := hMlpFIdeal)
    ∧ quiescent_MlpFRefIdeal (hMlpFRefIdeal := hMlpFRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_AinF (hAinF := hAinF)
    ∧ quiescent_AinFIdeal (hAinFIdeal := hAinFIdeal)
    ∧ quiescent_AinFRefIdeal (hAinFRefIdeal := hAinFRefIdeal)
    ∧ quiescent_AoutF (hAoutF := hAoutF)
    ∧ quiescent_AoutFIdeal (hAoutFIdeal := hAoutFIdeal)
    ∧ quiescent_AoutFRefIdeal (hAoutFRefIdeal := hAoutFRefIdeal)
    ∧ quiescent_KvF (hKvF := hKvF)
    ∧ quiescent_KvFIdeal (hKvFIdeal := hKvFIdeal)
    ∧ quiescent_KvFRefIdeal (hKvFRefIdeal := hKvFRefIdeal)
    ∧ quiescent_QF (hQF := hQF)
    ∧ quiescent_QFIdeal (hQFIdeal := hQFIdeal)
    ∧ quiescent_QFRefIdeal (hQFRefIdeal := hQFRefIdeal)
    ∧ quiescent_OF (hOF := hOF)
    ∧ quiescent_OFIdeal (hOFIdeal := hOFIdeal)
    ∧ quiescent_OFRefIdeal (hOFRefIdeal := hOFRefIdeal)
    ∧ quiescent_LossB (hLossB := hLossB)
    ∧ quiescent_LossBIdeal (hLossBIdeal := hLossBIdeal)
    ∧ quiescent_LossBRefIdeal (hLossBRefIdeal := hLossBRefIdeal)
    ∧ quiescent_AinN (hAinN := hAinN)
    ∧ quiescent_AinNIdeal (hAinNIdeal := hAinNIdeal)
    ∧ quiescent_AinNRefIdeal (hAinNRefIdeal := hAinNRefIdeal)
    ∧ quiescent_Rms (hRms := hRms)
    ∧ quiescent_RmsIdeal (hRmsIdeal := hRmsIdeal)
    ∧ quiescent_RmsRefIdeal (hRmsRefIdeal := hRmsRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdKv (hAdKv := hAdKv)
    ∧ quiescent_AdKvIdeal (hAdKvIdeal := hAdKvIdeal)
    ∧ quiescent_AdKvRefIdeal (hAdKvRefIdeal := hAdKvRefIdeal)
    ∧ quiescent_AdQ (hAdQ := hAdQ)
    ∧ quiescent_AdQIdeal (hAdQIdeal := hAdQIdeal)
    ∧ quiescent_AdQRefIdeal (hAdQRefIdeal := hAdQRefIdeal)
    ∧ quiescent_AdO (hAdO := hAdO)
    ∧ quiescent_AdOIdeal (hAdOIdeal := hAdOIdeal)
    ∧ quiescent_AdORefIdeal (hAdORefIdeal := hAdORefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdConv (hAdConv := hAdConv)
    ∧ quiescent_AdConvIdeal (hAdConvIdeal := hAdConvIdeal)
    ∧ quiescent_AdConvRefIdeal (hAdConvRefIdeal := hAdConvRefIdeal)
    ∧ preserves_Conv_ConvIdeal
    ∧ algebraic_ConvIdeal_ConvRefIdeal (hConvIdeal := hConvIdeal) (hConvRefIdeal := hConvRefIdeal)
    ∧ preserves_Mlp_MlpIdeal
    ∧ algebraic_MlpIdeal_MlpRefIdeal (hMlpIdeal := hMlpIdeal) (hMlpRefIdeal := hMlpRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Ain_AinIdeal
    ∧ algebraic_AinIdeal_AinRefIdeal (hAinIdeal := hAinIdeal) (hAinRefIdeal := hAinRefIdeal)
    ∧ preserves_Aout_AoutIdeal
    ∧ algebraic_AoutIdeal_AoutRefIdeal (hAoutIdeal := hAoutIdeal) (hAoutRefIdeal := hAoutRefIdeal)
    ∧ preserves_Kv_KvIdeal
    ∧ algebraic_KvIdeal_KvRefIdeal (hKvIdeal := hKvIdeal) (hKvRefIdeal := hKvRefIdeal)
    ∧ preserves_Ow_OwIdeal
    ∧ algebraic_OwIdeal_OwRefIdeal (hOwIdeal := hOwIdeal) (hOwRefIdeal := hOwRefIdeal)
    ∧ preserves_Qw_QwIdeal
    ∧ algebraic_QwIdeal_QwRefIdeal (hQwIdeal := hQwIdeal) (hQwRefIdeal := hQwRefIdeal)
    ∧ preserves_AoutB_AoutBIdeal
    ∧ algebraic_AoutBIdeal_AoutBRefIdeal (hAoutBIdeal := hAoutBIdeal) (hAoutBRefIdeal := hAoutBRefIdeal)
    ∧ preserves_Ob_ObIdeal
    ∧ algebraic_ObIdeal_ObRefIdeal (hObIdeal := hObIdeal) (hObRefIdeal := hObRefIdeal)
    ∧ preserves_AinB_AinBIdeal
    ∧ algebraic_AinBIdeal_AinBRefIdeal (hAinBIdeal := hAinBIdeal) (hAinBRefIdeal := hAinBRefIdeal)
    ∧ preserves_Qb_QbIdeal
    ∧ algebraic_QbIdeal_QbRefIdeal (hQbIdeal := hQbIdeal) (hQbRefIdeal := hQbRefIdeal)
    ∧ preserves_KvB_KvBIdeal
    ∧ algebraic_KvBIdeal_KvBRefIdeal (hKvBIdeal := hKvBIdeal) (hKvBRefIdeal := hKvBRefIdeal)
    ∧ preserves_MlpF_MlpFIdeal
    ∧ algebraic_MlpFIdeal_MlpFRefIdeal (hMlpFIdeal := hMlpFIdeal) (hMlpFRefIdeal := hMlpFRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_AinF_AinFIdeal
    ∧ algebraic_AinFIdeal_AinFRefIdeal (hAinFIdeal := hAinFIdeal) (hAinFRefIdeal := hAinFRefIdeal)
    ∧ preserves_AoutF_AoutFIdeal
    ∧ algebraic_AoutFIdeal_AoutFRefIdeal (hAoutFIdeal := hAoutFIdeal) (hAoutFRefIdeal := hAoutFRefIdeal)
    ∧ preserves_KvF_KvFIdeal
    ∧ algebraic_KvFIdeal_KvFRefIdeal (hKvFIdeal := hKvFIdeal) (hKvFRefIdeal := hKvFRefIdeal)
    ∧ preserves_QF_QFIdeal
    ∧ algebraic_QFIdeal_QFRefIdeal (hQFIdeal := hQFIdeal) (hQFRefIdeal := hQFRefIdeal)
    ∧ preserves_OF_OFIdeal
    ∧ algebraic_OFIdeal_OFRefIdeal (hOFIdeal := hOFIdeal) (hOFRefIdeal := hOFRefIdeal)
    ∧ preserves_LossB_LossBIdeal
    ∧ algebraic_LossBIdeal_LossBRefIdeal (hLossBIdeal := hLossBIdeal) (hLossBRefIdeal := hLossBRefIdeal)
    ∧ preserves_AinN_AinNIdeal
    ∧ algebraic_AinNIdeal_AinNRefIdeal (hAinNIdeal := hAinNIdeal) (hAinNRefIdeal := hAinNRefIdeal)
    ∧ preserves_Rms_RmsIdeal
    ∧ algebraic_RmsIdeal_RmsRefIdeal (hRmsIdeal := hRmsIdeal) (hRmsRefIdeal := hRmsRefIdeal)
    ∧ preserves_AdUp_AdUpIdeal
    ∧ algebraic_AdUpIdeal_AdUpRefIdeal (hAdUpIdeal := hAdUpIdeal) (hAdUpRefIdeal := hAdUpRefIdeal)
    ∧ preserves_AdIn_AdInIdeal
    ∧ algebraic_AdInIdeal_AdInRefIdeal (hAdInIdeal := hAdInIdeal) (hAdInRefIdeal := hAdInRefIdeal)
    ∧ preserves_AdOut_AdOutIdeal
    ∧ algebraic_AdOutIdeal_AdOutRefIdeal (hAdOutIdeal := hAdOutIdeal) (hAdOutRefIdeal := hAdOutRefIdeal)
    ∧ preserves_AdKv_AdKvIdeal
    ∧ algebraic_AdKvIdeal_AdKvRefIdeal (hAdKvIdeal := hAdKvIdeal) (hAdKvRefIdeal := hAdKvRefIdeal)
    ∧ preserves_AdQ_AdQIdeal
    ∧ algebraic_AdQIdeal_AdQRefIdeal (hAdQIdeal := hAdQIdeal) (hAdQRefIdeal := hAdQRefIdeal)
    ∧ preserves_AdO_AdOIdeal
    ∧ algebraic_AdOIdeal_AdORefIdeal (hAdOIdeal := hAdOIdeal) (hAdORefIdeal := hAdORefIdeal)
    ∧ preserves_AdNorm_AdNormIdeal
    ∧ algebraic_AdNormIdeal_AdNormRefIdeal (hAdNormIdeal := hAdNormIdeal) (hAdNormRefIdeal := hAdNormRefIdeal)
    ∧ preserves_AdConv_AdConvIdeal
    ∧ algebraic_AdConvIdeal_AdConvRefIdeal (hAdConvIdeal := hAdConvIdeal) (hAdConvRefIdeal := hAdConvRefIdeal)
-- ==== Conv.lean ====
abbrev S3x2x4096x1024 : Shape := ⟨4, ![3, 2, 4096, 1024]⟩
abbrev S2x4096x1024 : Shape := ⟨3, ![2, 4096, 1024]⟩
abbrev S2x3x1024 : Shape := ⟨3, ![2, 3, 1024]⟩
abbrev S2x3x4x256 : Shape := ⟨4, ![2, 3, 4, 256]⟩
abbrev S4x2x3x256 : Shape := ⟨4, ![4, 2, 3, 256]⟩
abbrev S3x1024 : Shape := ⟨2, ![3, 1024]⟩
abbrev S3x1x4096x256 : Shape := ⟨4, ![3, 1, 4096, 256]⟩
abbrev S1x4096x256 : Shape := ⟨3, ![1, 4096, 256]⟩
abbrev S1x1x3x256 : Shape := ⟨4, ![1, 1, 3, 256]⟩
abbrev S3x256 : Shape := ⟨2, ![3, 256]⟩
abbrev S1x1x1x256 : Shape := ⟨4, ![1, 1, 1, 256]⟩
abbrev S1x256 : Shape := ⟨2, ![1, 256]⟩
abbrev S1x1x256x256 : Shape := ⟨4, ![1, 1, 256, 256]⟩
abbrev S256x256 : Shape := ⟨2, ![256, 256]⟩
abbrev S1x256x256 : Shape := ⟨3, ![1, 256, 256]⟩
abbrev S1x1x16x256 : Shape := ⟨4, ![1, 1, 16, 256]⟩
abbrev S16x256 : Shape := ⟨2, ![16, 256]⟩
abbrev S272x256 : Shape := ⟨2, ![272, 256]⟩
abbrev S1x16x256 : Shape := ⟨3, ![1, 16, 256]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S3x2x4096x1024, .bf16⟩
  | .hbm, ⟨1, _⟩ => ⟨S2x4096x1024, .f32⟩
  | .hbm, ⟨2, _⟩ => ⟨S2x3x1024, .f32⟩
  | .hbm, ⟨3, _⟩ => ⟨S2x3x4x256, .f32⟩
  | .hbm, ⟨4, _⟩ => ⟨S4x2x3x256, .f32⟩
  | .hbm, ⟨5, _⟩ => ⟨S3x2x4096x1024, .bf16⟩
  | .hbm, ⟨6, _⟩ => ⟨S3x1024, .f32⟩
  | .local _ .vmem, ⟨0, _⟩ => ⟨S3x1x4096x256, .bf16⟩
  | .local _ .vmem, ⟨1, _⟩ => ⟨S3x1x4096x256, .bf16⟩
  | .local _ .vmem, ⟨2, _⟩ => ⟨S1x4096x256, .f32⟩
  | .local _ .vmem, ⟨3, _⟩ => ⟨S1x4096x256, .f32⟩
  | .local _ .vmem, ⟨4, _⟩ => ⟨S1x1x3x256, .f32⟩
  | .local _ .vmem, ⟨5, _⟩ => ⟨S1x1x3x256, .f32⟩
  | .local _ .vmem, ⟨6, _⟩ => ⟨S3x1x4096x256, .bf16⟩
  | .local _ .vmem, ⟨7, _⟩ => ⟨S3x1x4096x256, .bf16⟩
  | .local _ .vmem, ⟨8, _⟩ => ⟨S3x256, .f32⟩
  | .local _ .vmem, ⟨9, _⟩ => ⟨S3x256, .f32⟩
  | _, _ => ⟨S3x2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 : BitVec 32 :=
  let c0_i32_10 : BitVec 32 := 0#32
  c0_i32_10
def k0_mult2 : BitVec 32 :=
  let c0_i32_10 : BitVec 32 := 0#32
  let v10 : BitVec 32 := c0_i32_10
  let c16_i32 : BitVec 32 := 16#32
  let v11 : BitVec 32 := Scalar.subi v10 c16_i32
  let c0_i32_11 : BitVec 32 := 0#32
  let v12 : BitVec 32 := Scalar.maxsi v11 c0_i32_11
  v12
def k0_mult3 : BitVec 32 :=
  let c0_i32_10 : BitVec 32 := 0#32
  let v10 : BitVec 32 := c0_i32_10
  let c256_i32 : BitVec 32 := 256#32
  let v14 : BitVec 32 := Scalar.addi v10 c256_i32
  let c4080_i32 : BitVec 32 := 4080#32
  let v15 : BitVec 32 := Scalar.minsi v14 c4080_i32
  v15
def k0_off1 (c0_i32_10 : BitVec 32) : Fin 4 → Nat :=
  let c1_23 : Index := 1#32
  let c0_24 : Index := 0#32
  let v10 : BitVec 32 := c0_i32_10
  let c16_i32 : BitVec 32 := 16#32
  let v11 : BitVec 32 := Scalar.subi v10 c16_i32
  let c0_i32_11 : BitVec 32 := 0#32
  let v12 : BitVec 32 := Scalar.maxsi v11 c0_i32_11
  let v13 : BitVec 32 := v12
  let v32 : Index := Scalar.indexCast v13
  let c0_25 : Index := 0#32
  ![1, 0, v32.toNat, 0]
def k0_off2 (c0_i32_10 : BitVec 32) : Fin 4 → Nat :=
  let c2_26 : Index := 2#32
  let c0_27 : Index := 0#32
  let v10 : BitVec 32 := c0_i32_10
  let c16_i32 : BitVec 32 := 16#32
  let v11 : BitVec 32 := Scalar.subi v10 c16_i32
  let c0_i32_11 : BitVec 32 := 0#32
  let v12 : BitVec 32 := Scalar.maxsi v11 c0_i32_11
  let v13 : BitVec 32 := v12
  let v36 : Index := Scalar.indexCast v13
  let c0_28 : Index := 0#32
  ![2, 0, v36.toNat, 0]
def k0_off3 (c0_i32_10 : BitVec 32) : Fin 3 → Nat :=
  let c0_33 : Index := 0#32
  let v10 : BitVec 32 := c0_i32_10
  let c256_i32 : BitVec 32 := 256#32
  let v14 : BitVec 32 := Scalar.addi v10 c256_i32
  let c4080_i32 : BitVec 32 := 4080#32
  let v15 : BitVec 32 := Scalar.minsi v14 c4080_i32
  let v16 : BitVec 32 := v15
  let v71 : Index := Scalar.indexCast v16
  let c0_34 : Index := 0#32
  ![0, v71.toNat, 0]
def k0_off4 (c0_i32_10 : BitVec 32) : Fin 4 → Nat :=
  let c0_35 : Index := 0#32
  let c0_36 : Index := 0#32
  let v10 : BitVec 32 := c0_i32_10
  let c256_i32 : BitVec 32 := 256#32
  let v14 : BitVec 32 := Scalar.addi v10 c256_i32
  let c4080_i32 : BitVec 32 := 4080#32
  let v15 : BitVec 32 := Scalar.minsi v14 c4080_i32
  let v16 : BitVec 32 := v15
  let v74 : Index := Scalar.indexCast v16
  let c0_37 : Index := 0#32
  ![0, 0, v74.toNat, 0]
@[reducible] def k0_t1_loop : Scf.Loop 32 :=
  let c1_i32_50 : BitVec 32 := 1#32
  let c14_i32 : BitVec 32 := 14#32
  let v123 : BitVec 32 := Scalar.addi c1_i32_50 c14_i32
  let c1_i32_51 : BitVec 32 := 1#32
  ⟨c1_i32_50, v123, c1_i32_51⟩
def k0_mult4 (k0_t1 : Fin k0_t1_loop.trips) : BitVec 32 :=
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  v254
def k0_mult5 (k0_t1 : Fin k0_t1_loop.trips) : BitVec 32 :=
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c16_i32_113 : BitVec 32 := 16#32
  let v256 : BitVec 32 := Scalar.subi v255 c16_i32_113
  let c0_i32_114 : BitVec 32 := 0#32
  let v257 : BitVec 32 := Scalar.maxsi v256 c0_i32_114
  v257
def k0_mult6 (k0_t1 : Fin k0_t1_loop.trips) : BitVec 32 :=
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c256_i32_115 : BitVec 32 := 256#32
  let v259 : BitVec 32 := Scalar.addi v255 c256_i32_115
  let c4080_i32_116 : BitVec 32 := 4080#32
  let v260 : BitVec 32 := Scalar.minsi v259 c4080_i32_116
  v260
def k0_off5 (k0_t1 : Fin k0_t1_loop.trips) : Fin 4 → Nat :=
  let c0_117 : Index := 0#32
  let c0_118 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let v262 : Index := Scalar.indexCast v255
  let c0_119 : Index := 0#32
  ![0, 0, v262.toNat, 0]
def k0_off6 (k0_t1 : Fin k0_t1_loop.trips) : Fin 4 → Nat :=
  let c1_120 : Index := 1#32
  let c0_121 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let v266 : Index := Scalar.indexCast v255
  let c0_122 : Index := 0#32
  ![1, 0, v266.toNat, 0]
def k0_off7 (k0_t1 : Fin k0_t1_loop.trips) : Fin 4 → Nat :=
  let c2_123 : Index := 2#32
  let c0_124 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let v270 : Index := Scalar.indexCast v255
  let c0_125 : Index := 0#32
  ![2, 0, v270.toNat, 0]
def k0_off8 (k0_t1 : Fin k0_t1_loop.trips) : Fin 3 → Nat :=
  let c0_126 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let v274 : Index := Scalar.indexCast v255
  let c0_127 : Index := 0#32
  ![0, v274.toNat, 0]
def k0_off9 (k0_t1 : Fin k0_t1_loop.trips) : Fin 4 → Nat :=
  let c1_128 : Index := 1#32
  let c0_129 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c16_i32_113 : BitVec 32 := 16#32
  let v256 : BitVec 32 := Scalar.subi v255 c16_i32_113
  let c0_i32_114 : BitVec 32 := 0#32
  let v257 : BitVec 32 := Scalar.maxsi v256 c0_i32_114
  let v258 : BitVec 32 := v257
  let v277 : Index := Scalar.indexCast v258
  let c0_130 : Index := 0#32
  ![1, 0, v277.toNat, 0]
def k0_off10 (k0_t1 : Fin k0_t1_loop.trips) : Fin 4 → Nat :=
  let c2_131 : Index := 2#32
  let c0_132 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c16_i32_113 : BitVec 32 := 16#32
  let v256 : BitVec 32 := Scalar.subi v255 c16_i32_113
  let c0_i32_114 : BitVec 32 := 0#32
  let v257 : BitVec 32 := Scalar.maxsi v256 c0_i32_114
  let v258 : BitVec 32 := v257
  let v281 : Index := Scalar.indexCast v258
  let c0_133 : Index := 0#32
  ![2, 0, v281.toNat, 0]
def k0_off11 (k0_t1 : Fin k0_t1_loop.trips) : Fin 3 → Nat :=
  let c0_136 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c256_i32_115 : BitVec 32 := 256#32
  let v259 : BitVec 32 := Scalar.addi v255 c256_i32_115
  let c4080_i32_116 : BitVec 32 := 4080#32
  let v260 : BitVec 32 := Scalar.minsi v259 c4080_i32_116
  let v261 : BitVec 32 := v260
  let v302 : Index := Scalar.indexCast v261
  let c0_137 : Index := 0#32
  ![0, v302.toNat, 0]
def k0_off12 (k0_t1 : Fin k0_t1_loop.trips) : Fin 4 → Nat :=
  let c0_138 : Index := 0#32
  let c0_139 : Index := 0#32
  let c1_i32_50 : BitVec 32 := 1#32
  let c1_i32_51 : BitVec 32 := 1#32
  let arg7 : BitVec 32 := Scf.iv c1_i32_50 c1_i32_51 k0_t1
  let c256_i32_112 : BitVec 32 := 256#32
  let v254 : BitVec 32 := Scalar.muli arg7 c256_i32_112
  let v255 : BitVec 32 := v254
  let c256_i32_115 : BitVec 32 := 256#32
  let v259 : BitVec 32 := Scalar.addi v255 c256_i32_115
  let c4080_i32_116 : BitVec 32 := 4080#32
  let v260 : BitVec 32 := Scalar.minsi v259 c4080_i32_116
  let v261 : BitVec 32 := v260
  let v305 : Index := Scalar.indexCast v261
  let c0_140 : Index := 0#32
  ![0, 0, v305.toNat, 0]
def k0_mult7 : BitVec 32 :=
  let c3840_i32 : BitVec 32 := 3840#32
  c3840_i32
def k0_mult8 : BitVec 32 :=
  let c3840_i32 : BitVec 32 := 3840#32
  let v125 : BitVec 32 := c3840_i32
  let c16_i32_53 : BitVec 32 := 16#32
  let v126 : BitVec 32 := Scalar.subi v125 c16_i32_53
  let c0_i32_54 : BitVec 32 := 0#32
  let v127 : BitVec 32 := Scalar.maxsi v126 c0_i32_54
  v127
def k0_mult9 : BitVec 32 :=
  let c3840_i32 : BitVec 32 := 3840#32
  let v125 : BitVec 32 := c3840_i32
  let c256_i32_55 : BitVec 32 := 256#32
  let v129 : BitVec 32 := Scalar.addi v125 c256_i32_55
  let c4080_i32_56 : BitVec 32 := 4080#32
  let v130 : BitVec 32 := Scalar.minsi v129 c4080_i32_56
  v130
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S3x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvRefIdeal.lean ====
abbrev S3x2x4096x1024 : Shape := ⟨4, ![3, 2, 4096, 1024]⟩
abbrev S2x4096x1024 : Shape := ⟨3, ![2, 4096, 1024]⟩
abbrev S2x3x1024 : Shape := ⟨3, ![2, 3, 1024]⟩
abbrev S1x3x1024 : Shape := ⟨3, ![1, 3, 1024]⟩
abbrev S3x1024 : Shape := ⟨2, ![3, 1024]⟩
abbrev S1x2x4096x1024 : Shape := ⟨4, ![1, 2, 4096, 1024]⟩
abbrev S_ : Shape := ⟨0, ![]⟩
abbrev S2x2x1024 : Shape := ⟨3, ![2, 2, 1024]⟩
abbrev S2x4098x1024 : Shape := ⟨3, ![2, 4098, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S3x2x4096x1024, .bf16⟩
  | .hbm, ⟨1, _⟩ => ⟨S2x4096x1024, .f32⟩
  | .hbm, ⟨2, _⟩ => ⟨S2x3x1024, .f32⟩
  | .hbm, ⟨3, _⟩ => ⟨S3x2x4096x1024, .f32⟩
  | .hbm, ⟨4, _⟩ => ⟨S1x3x1024, .f32⟩
  | .hbm, ⟨5, _⟩ => ⟨S3x1024, .f32⟩
  | .hbm, ⟨6, _⟩ => ⟨S1x2x4096x1024, .f32⟩
  | .hbm, ⟨7, _⟩ => ⟨S2x4096x1024, .f32⟩
  | .hbm, ⟨8, _⟩ => ⟨S1x2x4096x1024, .f32⟩
  | .hbm, ⟨9, _⟩ => ⟨S2x4096x1024, .f32⟩
  | .hbm, ⟨10, _⟩ => ⟨S1x2x4096x1024, .f32⟩
  | .hbm, ⟨11, _⟩ => ⟨S2x4096x1024, .f32⟩
  | .hbm, ⟨12, _⟩ => ⟨S_, .f32⟩
  | .hbm, ⟨13, _⟩ => ⟨S2x2x1024, .f32⟩
  | .hbm, ⟨14, _⟩ => ⟨S2x4096x1024, .f32⟩
  | .hbm, ⟨15, _⟩ => ⟨S2x4098x1024, .f32⟩
  | .hbm, ⟨16, _⟩ => ⟨S_, .f32⟩
  | .hbm, ⟨17, _⟩ => ⟨S2x2x1024, .f32⟩
  | .hbm, ⟨18, _⟩ => ⟨S1x1024, .f32⟩
  | .hbm, ⟨19, _⟩ => ⟨S1024, .f32⟩
  | .hbm, ⟨20, _⟩ => ⟨S2x4096x1024, .f32⟩
  | .hbm, ⟨21, _⟩ => ⟨S1x1x1024, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096x1024, .f32⟩
  | .hbm, ⟨26, _⟩ => ⟨S2x4096x1024, .f32⟩
  | .hbm, ⟨27, _⟩ => ⟨S1x1024, .f32⟩
  | .hbm, ⟨28, _⟩ => ⟨S1024, .f32⟩
  | .hbm, ⟨29, _⟩ => ⟨S2x4096x1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S1x1024, .f32⟩
  | .hbm, ⟨35, _⟩ => ⟨S1024, .f32⟩
  | .hbm, ⟨36, _⟩ => ⟨S2x4096x1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S2x4098x1024, .f32⟩
  | .hbm, ⟨54, _⟩ => ⟨S1x1024, .f32⟩
  | .hbm, ⟨55, _⟩ => ⟨S_, .f32⟩
  | .hbm, ⟨56, _⟩ => ⟨S3x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S2x4098x1024, .f32⟩
  | .hbm, ⟨67, _⟩ => ⟨S2x4098x1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S2x4096x1024, .f32⟩
  | .hbm, ⟨73, _⟩ => ⟨S2x4096x1024, .f32⟩
  | .hbm, ⟨74, _⟩ => ⟨S2x4096x1024, .f32⟩
  | .hbm, ⟨75, _⟩ => ⟨S_, .f32⟩
  | .hbm, ⟨76, _⟩ => ⟨S1024, .f32⟩
  | .hbm, ⟨77, _⟩ => ⟨S1x1x1024, .f32⟩
  | .hbm, ⟨78, _⟩ => ⟨S_, .f32⟩
  | .hbm, ⟨79, _⟩ => ⟨S1024, .f32⟩
  | .hbm, ⟨80, _⟩ => ⟨S_, .f32⟩
  | .hbm, ⟨81, _⟩ => ⟨S2x4098x1024, .f32⟩
  | .hbm, ⟨82, _⟩ => ⟨S2x4098x1024, .f32⟩
  | .hbm, ⟨83, _⟩ => ⟨S1x1024, .f32⟩
  | .hbm, ⟨84, _⟩ => ⟨S_, .f32⟩
  | .hbm, ⟨85, _⟩ => ⟨S3x1024, .f32⟩
  | .hbm, ⟨86, _⟩ => ⟨S3x1024, .f32⟩
  | .hbm, ⟨87, _⟩ => ⟨S2x2x1024, .f32⟩
  | .hbm, ⟨88, _⟩ => ⟨S2x4096x1024, .f32⟩
  | .hbm, ⟨89, _⟩ => ⟨S2x4096x1024, .f32⟩
  | .hbm, ⟨90, _⟩ => ⟨S2x4096x1024, .f32⟩
  | .hbm, ⟨91, _⟩ => ⟨S1x2x4096x1024, .f32⟩
  | .hbm, ⟨92, _⟩ => ⟨S_, .f32⟩
  | .hbm, ⟨93, _⟩ => ⟨S3x2x4096x1024, .f32⟩
  | .hbm, ⟨94, _⟩ => ⟨S1x2x4096x1024, .f32⟩
  | .hbm, ⟨95, _⟩ => ⟨S_, .f32⟩
  | .hbm, ⟨96, _⟩ => ⟨S3x2x4096x1024, .f32⟩
  | .hbm, ⟨97, _⟩ => ⟨S3x2x4096x1024, .f32⟩
  | .hbm, ⟨98, _⟩ => ⟨S1x2x4096x1024, .f32⟩
  | .hbm, ⟨99, _⟩ => ⟨S_, .f32⟩
  | .hbm, ⟨100, _⟩ => ⟨S3x2x4096x1024, .f32⟩
  | .hbm, ⟨101, _⟩ => ⟨S3x2x4096x1024, .f32⟩
  | .hbm, ⟨102, _⟩ => ⟨S3x2x4096x1024, .bf16⟩
  | _, _ => ⟨S3x2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_v75 : Ref sig .tc := ⟨.hbm, 94, rfl⟩
abbrev main_cst_15 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_16 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S1024x4096, .bf16⟩
  | .hbm, ⟨24, _⟩ => ⟨S1024x4x1024, .bf16⟩
  | .hbm, ⟨25, _⟩ => ⟨S4x1024x1024, .bf16⟩
  | .hbm, ⟨26, _⟩ => ⟨S4x1x1024x1024, .bf16⟩
  | .hbm, ⟨27, _⟩ => ⟨S4096x1024, .bf16⟩
  | .hbm, ⟨28, _⟩ => ⟨S4x1x1024x1024, .bf16⟩
  | .hbm, ⟨29, _⟩ => ⟨S8192x1024, .bf16⟩
  | .hbm, ⟨30, _⟩ => ⟨S1x1024, .f32⟩
  | .hbm, ⟨31, _⟩ => ⟨S8192x4096, .bf16⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S4x1x1024x1024, .bf16⟩
  | .local _ .vmem, ⟨7, _⟩ => ⟨S4x1x1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v102 : BitVec 1 := Scalar.cmpi .eq arg0 c0_i32
  let v103 : BitVec 32 := Scalar.extui v102
  let c0_i32_74 : BitVec 32 := 0#32
  let v104 : BitVec 1 := Scalar.cmpi .ne v103 c0_i32_74
  v104

def k0_cond2 (i : grid0.Coords) : BitVec 1 :=
  let arg0 : BitVec 32 := BitVec.ofNat 32 (i 0).val
  let c0_i32_75 : BitVec 32 := 0#32
  let v105 : BitVec 1 := Scalar.cmpi .sgt arg0 c0_i32_75
  let v106 : BitVec 32 := Scalar.extui v105
  let c0_i32_76 : BitVec 32 := 0#32
  let v107 : BitVec 1 := Scalar.cmpi .ne v106 c0_i32_76
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .i1⟩
  | .hbm, ⟨67, _⟩ => ⟨S_, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x4096, .f32⟩
  | .hbm, ⟨77, _⟩ => ⟨S8192x4096, .f32⟩
  | .hbm, ⟨78, _⟩ => ⟨S_, .f32⟩
  | .hbm, ⟨79, _⟩ => ⟨S8192x4096, .f32⟩
  | .hbm, ⟨80, _⟩ => ⟨S8192x4096, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x4096, .bf16⟩
  | .hbm, ⟨109, _⟩ => ⟨S8192x1024, .bf16⟩
  | .hbm, ⟨110, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Down.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 24
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .bf16⟩
  | .hbm, ⟨22, _⟩ => ⟨S8192x1024, .bf16⟩
  | .hbm, ⟨23, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S4096x1024, .f32⟩
  | .hbm, ⟨31, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Up.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1024 : Shape := ⟨3, ![4, 1024, 1024]⟩
abbrev S512x1024 : Shape := ⟨2, ![512, 1024]⟩
abbrev S512x4096 : Shape := ⟨2, ![512, 4096]⟩
abbrev S1024x1024 : Shape := ⟨2, ![1024, 1024]⟩
abbrev S1x1024x1024 : Shape := ⟨3, ![1, 1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S4x1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_31 : BitVec 32 := 0#32
  let v39 : BitVec 1 := Scalar.cmpi .ne v38 c0_i32_31
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== UpRefIdeal.lean ====
abbrev S8192x4096 : Shape := ⟨2, ![8192, 4096]⟩
abbrev S8192x1024 : Shape := ⟨2, ![8192, 1024]⟩
abbrev S1024 : Shape := ⟨1, ![1024]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S1024x4096, .f32⟩
  | .hbm, ⟨25, _⟩ => ⟨S1024x4096, .bf16⟩
  | .hbm, ⟨26, _⟩ => ⟨S1024x4x1024, .bf16⟩
  | .hbm, ⟨27, _⟩ => ⟨S4x1024x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Ain.lean ====
abbrev S3x8192x1024 : Shape := ⟨3, ![3, 8192, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x768 : Shape := ⟨3, ![4, 1024, 768]⟩
abbrev S512x1024 : Shape := ⟨2, ![512, 1024]⟩
abbrev S1x512x1024 : Shape := ⟨3, ![1, 512, 1024]⟩
abbrev S1x512x768 : Shape := ⟨3, ![1, 512, 768]⟩
abbrev S512x768 : Shape := ⟨2, ![512, 768]⟩
abbrev S1024x768 : Shape := ⟨2, ![1024, 768]⟩
abbrev S1x1024x768 : Shape := ⟨3, ![1, 1024, 768]⟩
abbrev S1x512x256 : Shape := ⟨3, ![1, 512, 256]⟩
abbrev S512x256 : Shape := ⟨2, ![512, 256]⟩
abbrev S1024x256 : Shape := ⟨2, ![1024, 256]⟩
abbrev S1x1024x256 : Shape := ⟨3, ![1, 1024, 256]⟩
abbrev S1x512x512 : Shape := ⟨3, ![1, 512, 512]⟩
abbrev S512x512 : Shape := ⟨2, ![512, 512]⟩
abbrev S1024x512 : Shape := ⟨2, ![1024, 512]⟩
abbrev S1x1024x512 : Shape := ⟨3, ![1, 1024, 512]⟩

abbrev nBuf : Space → Nat
  | .hbm => 21
  | .vmem => 10
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x768, .bf16⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S4x1024x768, .bf16⟩
  | .local _ .vmem, ⟨9, _⟩ => ⟨S4x1024x768, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_55 : BitVec 32 := 0#32
  let v61 : BitVec 1 := Scalar.cmpi .ne v60 c0_i32_55
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== AinRefIdeal.lean ====
abbrev S3x8192x1024 : Shape := ⟨3, ![3, 8192, 1024]⟩
abbrev S8192x1024 : Shape := ⟨2, ![8192, 1024]⟩
abbrev S1024 : Shape := ⟨1, ![1024]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x1024 : Shape := ⟨3, ![1, 8192, 1024]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 42
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S3x8192x1024, .f32⟩
  | .hbm, ⟨29, _⟩ => ⟨S3x8192x1024, .f32⟩
  | .hbm, ⟨30, _⟩ => ⟨S1x8192x1024, .f32⟩
  | .hbm, ⟨31, _⟩ => ⟨S8192x1024, .f32⟩
  | .hbm, ⟨32, _⟩ => ⟨S1x8192x1024, .f32⟩
  | .hbm, ⟨33, _⟩ => ⟨S8192x1024, .f32⟩
  | .hbm, ⟨34, _⟩ => ⟨S1x8192x1024, .f32⟩
  | .hbm, ⟨35, _⟩ => ⟨S8192x1024, .f32⟩
  | .hbm, ⟨36, _⟩ => ⟨S8192x3072, .f32⟩
  | .hbm, ⟨37, _⟩ => ⟨S3072x1024, .f32⟩
  | .hbm, ⟨38, _⟩ => ⟨S1024x3072, .f32⟩
  | .hbm, ⟨39, _⟩ => ⟨S1024x3072, .bf16⟩
  | .hbm, ⟨40, _⟩ => ⟨S1024x4x768, .bf16⟩
  | .hbm, ⟨41, _⟩ => ⟨S4x1024x768, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Aout.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kv.lean ====
abbrev S8192x1536 : Shape := ⟨2, ![8192, 1536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x768 : Shape := ⟨3, ![4, 1024, 768]⟩
abbrev S512x1024 : Shape := ⟨2, ![512, 1024]⟩
abbrev S512x512 : Shape := ⟨2, ![512, 512]⟩
abbrev S1024x512 : Shape := ⟨2, ![1024, 512]⟩
abbrev S1x1024x512 : Shape := ⟨3, ![1, 1024, 512]⟩
abbrev S512x256 : Shape := ⟨2, ![512, 256]⟩
abbrev S1024x256 : Shape := ⟨2, ![1024, 256]⟩
abbrev S1x1024x256 : Shape := ⟨3, ![1, 1024, 256]⟩

abbrev nBuf : Space → Nat
  | .hbm => 22
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S4x1024x768, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S4x1024x768, .bf16⟩
  | .local _ .vmem, ⟨15, _⟩ => ⟨S4x1024x768, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v77 : BitVec 1 := Scalar.cmpi .eq arg1 c15_i32
  let v78 : BitVec 32 := Scalar.extui v77
  let c0_i32_68 : BitVec 32 := 0#32
  let v79 : BitVec 1 := Scalar.cmpi .ne v78 c0_i32_68
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== KvRefIdeal.lean ====
abbrev S8192x1536 : Shape := ⟨2, ![8192, 1536]⟩
abbrev S8192x1024 : Shape := ⟨2, ![8192, 1024]⟩
abbrev S1024 : Shape := ⟨1, ![1024]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x3x2x512 : Shape := ⟨4, ![8192, 3, 2, 512]⟩
abbrev S8192x3x1x512 : Shape := ⟨4, ![8192, 3, 1, 512]⟩
abbrev S8192x3x512 : Shape := ⟨3, ![8192, 3, 512]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1024, .f32⟩
  | .hbm, ⟨3, _⟩ => ⟨S1024, .f32⟩
  | .hbm, ⟨4, _⟩ => ⟨S_, .f32⟩
  | .hbm, ⟨5, _⟩ => ⟨S1024x3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x3072, .f32⟩
  | .hbm, ⟨23, _⟩ => ⟨S8192x3x2x512, .f32⟩
  | .hbm, ⟨24, _⟩ => ⟨S8192x3x1x512, .f32⟩
  | .hbm, ⟨25, _⟩ => ⟨S8192x3x512, .f32⟩
  | .hbm, ⟨26, _⟩ => ⟨S8192x1536, .f32⟩
  | .hbm, ⟨27, _⟩ => ⟨S8192x3x1x512, .f32⟩
  | .hbm, ⟨28, _⟩ => ⟨S8192x3x512, .f32⟩
  | .hbm, ⟨29, _⟩ => ⟨S8192x1536, .f32⟩
  | .hbm, ⟨30, _⟩ => ⟨S8192x3x512, .f32⟩
  | .hbm, ⟨31, _⟩ => ⟨S8192x3x1x512, .f32⟩
  | .hbm, ⟨32, _⟩ => ⟨S_, .f32⟩
  | .hbm, ⟨33, _⟩ => ⟨S8192x3x2x512, .f32⟩
  | .hbm, ⟨34, _⟩ => ⟨S8192x3x512, .f32⟩
  | .hbm, ⟨35, _⟩ => ⟨S8192x3x1x512, .f32⟩
  | .hbm, ⟨36, _⟩ => ⟨S_, .f32⟩
  | .hbm, ⟨37, _⟩ => ⟨S8192x3x2x512, .f32⟩
  | .hbm, ⟨38, _⟩ => ⟨S8192x3x2x512, .f32⟩
  | .hbm, ⟨39, _⟩ => ⟨S8192x3072, .f32⟩
  | .hbm, ⟨40, _⟩ => ⟨S3072x1024, .f32⟩
  | .hbm, ⟨41, _⟩ => ⟨S1024x3072, .f32⟩
  | .hbm, ⟨42, _⟩ => ⟨S1024x3072, .bf16⟩
  | .hbm, ⟨43, _⟩ => ⟨S1024x4x768, .bf16⟩
  | .hbm, ⟨44, _⟩ => ⟨S4x1024x768, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Ow.lean ====
abbrev S8192x1024 : Shape := ⟨2, ![8192, 1024]⟩
abbrev S8192x512 : Shape := ⟨2, ![8192, 512]⟩
abbrev S4x512x256 : Shape := ⟨3, ![4, 512, 256]⟩
abbrev S512x512 : Shape := ⟨2, ![512, 512]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S4x512x256, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S4x512x256, .bf16⟩
  | .local _ .vmem, ⟨5, _⟩ => ⟨S4x512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OwRefIdeal.lean ====
abbrev S8192x1024 : Shape := ⟨2, ![8192, 1024]⟩
abbrev S8192x512 : Shape := ⟨2, ![8192, 512]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | .hbm, ⟨8, _⟩ => ⟨S512x4x256, .bf16⟩
  | .hbm, ⟨9, _⟩ => ⟨S4x512x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qw.lean ====
abbrev S8192x1536 : Shape := ⟨2, ![8192, 1536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x384 : Shape := ⟨3, ![4, 1024, 384]⟩
abbrev S512x1024 : Shape := ⟨2, ![512, 1024]⟩
abbrev S512x1536 : Shape := ⟨2, ![512, 1536]⟩
abbrev S512x384 : Shape := ⟨2, ![512, 384]⟩
abbrev S1024x384 : Shape := ⟨2, ![1024, 384]⟩
abbrev S1x1024x384 : Shape := ⟨3, ![1, 1024, 384]⟩

abbrev nBuf : Space → Nat
  | .hbm => 21
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x384, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .f32⟩
  | .local _ .vmem, ⟨3, _⟩ => ⟨S512x1536, .f32⟩
  | .local _ .vmem, ⟨4, _⟩ => ⟨S4x1024x384, .bf16⟩
  | .local _ .vmem, ⟨5, _⟩ => ⟨S4x1024x384, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== QwRefIdeal.lean ====
abbrev S8192x1536 : Shape := ⟨2, ![8192, 1536]⟩
abbrev S8192x1024 : Shape := ⟨2, ![8192, 1024]⟩
abbrev S1024 : Shape := ⟨1, ![1024]⟩
abbrev S_ : Shape := ⟨0, ![]⟩
abbrev S1024x1536 : Shape := ⟨2, ![1024, 1536]⟩
abbrev S8192 : Shape := ⟨1, ![8192]⟩
abbrev S8192x1 : Shape := ⟨2, ![8192, 1]⟩
abbrev S1x1024 : Shape := ⟨2, ![1, 1024]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 27
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S1024, .f32⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1536, .f32⟩
  | .hbm, ⟨22, _⟩ => ⟨S1536x1024, .f32⟩
  | .hbm, ⟨23, _⟩ => ⟨S1024x1536, .f32⟩
  | .hbm, ⟨24, _⟩ => ⟨S1024x1536, .bf16⟩
  | .hbm, ⟨25, _⟩ => ⟨S1024x4x384, .bf16⟩
  | .hbm, ⟨26, _⟩ => ⟨S4x1024x384, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AoutB.lean ====
abbrev S8192x1024 : Shape := ⟨2, ![8192, 1024]⟩
abbrev S1024x1024 : Shape := ⟨2, ![1024, 1024]⟩
abbrev S4x1x256x1024 : Shape := ⟨4, ![4, 1, 256, 1024]⟩
abbrev S512x1024 : Shape := ⟨2, ![512, 1024]⟩
abbrev S1x1x256x1024 : Shape := ⟨4, ![1, 1, 256, 1024]⟩
abbrev S256x1024 : Shape := ⟨2, ![256, 1024]⟩
abbrev S512x256 : Shape := ⟨2, ![512, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S4x1x256x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AoutBRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ob.lean ====
abbrev S8192x1024 : Shape := ⟨2, ![8192, 1024]⟩
abbrev S512x1024 : Shape := ⟨2, ![512, 1024]⟩
abbrev S512x4x256 : Shape := ⟨3, ![512, 4, 256]⟩
abbrev S4x512x256 : Shape := ⟨3, ![4, 512, 256]⟩
abbrev S4x1x512x256 : Shape := ⟨4, ![4, 1, 512, 256]⟩
abbrev S8192x512 : Shape := ⟨2, ![8192, 512]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x1024, .bf16⟩
  | .hbm, ⟨3, _⟩ => ⟨S512x1024, .bf16⟩
  | .hbm, ⟨4, _⟩ => ⟨S512x4x256, .bf16⟩
  | .hbm, ⟨5, _⟩ => ⟨S4x512x256, .bf16⟩
  | .hbm, ⟨6, _⟩ => ⟨S4x1x512x256, .bf16⟩
  | .hbm, ⟨7, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S4x1x512x256, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ObRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AinB.lean ====
abbrev S3x8192x1024 : Shape := ⟨3, ![3, 8192, 1024]⟩
abbrev S1024x3072 : Shape := ⟨2, ![1024, 3072]⟩
abbrev S8192x1024 : Shape := ⟨2, ![8192, 1024]⟩
abbrev S1024 : Shape := ⟨1, ![1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S1x1024 : Shape := ⟨2, ![1, 1024]⟩
abbrev S1x512x1024 : Shape := ⟨3, ![1, 512, 1024]⟩
abbrev S512x1024 : Shape := ⟨2, ![512, 1024]⟩
abbrev S1x512x768 : Shape := ⟨3, ![1, 512, 768]⟩
abbrev S512x768 : Shape := ⟨2, ![512, 768]⟩
abbrev S1x1x1024x768 : Shape := ⟨4, ![1, 1, 1024, 768]⟩
abbrev S1024x768 : Shape := ⟨2, ![1024, 768]⟩
abbrev S1x512x256 : Shape := ⟨3, ![1, 512, 256]⟩
abbrev S512x256 : Shape := ⟨2, ![512, 256]⟩
abbrev S1x1x1024x256 : Shape := ⟨4, ![1, 1, 1024, 256]⟩
abbrev S1024x256 : Shape := ⟨2, ![1024, 256]⟩
abbrev S1x512x512 : Shape := ⟨3, ![1, 512, 512]⟩
abbrev S512x512 : Shape := ⟨2, ![512, 512]⟩
abbrev S1x1x1024x512 : Shape := ⟨4, ![1, 1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S4x1x1024x768, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S4x1x1024x768, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S512x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v92 : BitVec 1 := Scalar.cmpi .eq arg0 c0_i32
  let v93 : BitVec 32 := Scalar.extui v92
  let c0_i32_80 : BitVec 32 := 0#32
  let v94 : BitVec 1 := Scalar.cmpi .ne v93 c0_i32_80
  v94

def k0_cond2 (i : grid0.Coords) : BitVec 1 :=
  let arg0 : BitVec 32 := BitVec.ofNat 32 (i 0).val
  let c0_i32_81 : BitVec 32 := 0#32
  let v95 : BitVec 1 := Scalar.cmpi .sgt arg0 c0_i32_81
  let v96 : BitVec 32 := Scalar.extui v95
  let c0_i32_82 : BitVec 32 := 0#32
  let v97 : BitVec 1 := Scalar.cmpi .ne v96 c0_i32_82
  v97

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AinBRefIdeal.lean ====
abbrev S3x8192x1024 : Shape := ⟨3, ![3, 8192, 1024]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x1024 : Shape := ⟨3, ![1, 8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S3x8192x1024, .f32⟩
  | .hbm, ⟨33, _⟩ => ⟨S3x8192x1024, .f32⟩
  | .hbm, ⟨34, _⟩ => ⟨S1x8192x1024, .f32⟩
  | .hbm, ⟨35, _⟩ => ⟨S8192x1024, .f32⟩
  | .hbm, ⟨36, _⟩ => ⟨S1x8192x1024, .f32⟩
  | .hbm, ⟨37, _⟩ => ⟨S8192x1024, .f32⟩
  | .hbm, ⟨38, _⟩ => ⟨S1x8192x1024, .f32⟩
  | .hbm, ⟨39, _⟩ => ⟨S8192x1024, .f32⟩
  | .hbm, ⟨40, _⟩ => ⟨S8192x3072, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S1x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Qb.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S1024x4x384 : Shape := ⟨3, ![1024, 4, 384]⟩
abbrev S4x1024x384 : Shape := ⟨3, ![4, 1024, 384]⟩
abbrev S4x1x1024x384 : Shape := ⟨4, ![4, 1, 1024, 384]⟩
abbrev S1x1024 : Shape := ⟨2, ![1, 1024]⟩
abbrev S512x1536 : Shape := ⟨2, ![512, 1536]⟩
abbrev S512x1024 : Shape := ⟨2, ![512, 1024]⟩
abbrev S512x384 : Shape := ⟨2, ![512, 384]⟩
abbrev S1x1x1024x384 : Shape := ⟨4, ![1, 1, 1024, 384]⟩
abbrev S1024x384 : Shape := ⟨2, ![1024, 384]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1536, .bf16⟩
  | .hbm, ⟨6, _⟩ => ⟨S1024x4x384, .bf16⟩
  | .hbm, ⟨7, _⟩ => ⟨S4x1024x384, .bf16⟩
  | .hbm, ⟨8, _⟩ => ⟨S4x1x1024x384, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x1536, .f32⟩
  | .local _ .vmem, ⟨1, _⟩ => ⟨S512x1536, .f32⟩
  | .local _ .vmem, ⟨2, _⟩ => ⟨S4x1x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let v73 : BitVec 32 := Scalar.extui v72
  let c0_i32_52 : BitVec 32 := 0#32
  let v74 : BitVec 1 := Scalar.cmpi .ne v73 c0_i32_52
  v74

def k0_cond2 (i : grid0.Coords) : BitVec 1 :=
  let arg0 : BitVec 32 := BitVec.ofNat 32 (i 0).val
  let c0_i32_53 : BitVec 32 := 0#32
  let v75 : BitVec 1 := Scalar.cmpi .sgt arg0 c0_i32_53
  let v76 : BitVec 32 := Scalar.extui v75
  let c0_i32_54 : BitVec 32 := 0#32
  let v77 : BitVec 1 := Scalar.cmpi .ne v76 c0_i32_54
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QbRefIdeal.lean ====
abbrev S8192x1536 : Shape := ⟨2, ![8192, 1536]⟩
abbrev S1024x1536 : Shape := ⟨2, ![1024, 1536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1024x1536, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KvB.lean ====
abbrev S8192x1536 : Shape := ⟨2, ![8192, 1536]⟩
abbrev S1024x3072 : Shape := ⟨2, ![1024, 3072]⟩
abbrev S8192x1024 : Shape := ⟨2, ![8192, 1024]⟩
abbrev S1024 : Shape := ⟨1, ![1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S1x1024 : Shape := ⟨2, ![1, 1024]⟩
abbrev S512x512 : Shape := ⟨2, ![512, 512]⟩
abbrev S512x1024 : Shape := ⟨2, ![512, 1024]⟩
abbrev S1x1x1024x512 : Shape := ⟨4, ![1, 1, 1024, 512]⟩
abbrev S1024x512 : Shape := ⟨2, ![1024, 512]⟩
abbrev S512x256 : Shape := ⟨2, ![512, 256]⟩
abbrev S1x1x1024x256 : Shape := ⟨4, ![1, 1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1024x3072, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1024x3072, .bf16⟩
  | .hbm, ⟨7, _⟩ => ⟨S1024x4x768, .bf16⟩
  | .hbm, ⟨8, _⟩ => ⟨S4x1024x768, .bf16⟩
  | .hbm, ⟨9, _⟩ => ⟨S4x1x1024x768, .bf16⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x1x1024x768, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v112 : BitVec 1 := Scalar.cmpi .eq arg0 c0_i32
  let v113 : BitVec 32 := Scalar.extui v112
  let c0_i32_97 : BitVec 32 := 0#32
  let v114 : BitVec 1 := Scalar.cmpi .ne v113 c0_i32_97
  v114

def k0_cond2 (i : grid0.Coords) : BitVec 1 :=
  let arg0 : BitVec 32 := BitVec.ofNat 32 (i 0).val
  let c0_i32_98 : BitVec 32 := 0#32
  let v115 : BitVec 1 := Scalar.cmpi .sgt arg0 c0_i32_98
  let v116 : BitVec 32 := Scalar.extui v115
  let c0_i32_99 : BitVec 32 := 0#32
  let v117 : BitVec 1 := Scalar.cmpi .ne v116 c0_i32_99
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1x1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KvBRefIdeal.lean ====
abbrev S8192x1536 : Shape := ⟨2, ![8192, 1536]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x3x2x512 : Shape := ⟨4, ![8192, 3, 2, 512]⟩
abbrev S8192x3x1x512 : Shape := ⟨4, ![8192, 3, 1, 512]⟩
abbrev S8192x3x512 : Shape := ⟨3, ![8192, 3, 512]⟩

abbrev nBuf : Space → Nat
  | .hbm => 73
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1024x3072, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x3x2x512, .f32⟩
  | .hbm, ⟨28, _⟩ => ⟨S8192x3x1x512, .f32⟩
  | .hbm, ⟨29, _⟩ => ⟨S8192x3x512, .f32⟩
  | .hbm, ⟨30, _⟩ => ⟨S8192x1536, .f32⟩
  | .hbm, ⟨31, _⟩ => ⟨S8192x3x1x512, .f32⟩
  | .hbm, ⟨32, _⟩ => ⟨S8192x3x512, .f32⟩
  | .hbm, ⟨33, _⟩ => ⟨S8192x1536, .f32⟩
  | .hbm, ⟨34, _⟩ => ⟨S8192x3x512, .f32⟩
  | .hbm, ⟨35, _⟩ => ⟨S8192x3x1x512, .f32⟩
  | .hbm, ⟨36, _⟩ => ⟨S_, .f32⟩
  | .hbm, ⟨37, _⟩ => ⟨S8192x3x2x512, .f32⟩
  | .hbm, ⟨38, _⟩ => ⟨S8192x3x512, .f32⟩
  | .hbm, ⟨39, _⟩ => ⟨S8192x3x1x512, .f32⟩
  | .hbm, ⟨40, _⟩ => ⟨S_, .f32⟩
  | .hbm, ⟨41, _⟩ => ⟨S8192x3x2x512, .f32⟩
  | .hbm, ⟨42, _⟩ => ⟨S8192x3x2x512, .f32⟩
  | .hbm, ⟨43, _⟩ => ⟨S8192x3072, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== MlpF.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4x1x1024x1024, .bf16⟩
  | .hbm, ⟨9, _⟩ => ⟨S4096x1024, .bf16⟩
  | .hbm, ⟨10, _⟩ => ⟨S4x1x1024x1024, .bf16⟩
  | .hbm, ⟨11, _⟩ => ⟨S8192x1024, .bf16⟩
  | .hbm, ⟨12, _⟩ => ⟨S8192x4096, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1024, .bf16⟩
  | .local _ .vmem, ⟨4, _⟩ => ⟨S4x1x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlpFRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x1024, .bf16⟩
  | .hbm, ⟨22, _⟩ => ⟨S8192x4096, .bf16⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== UpF.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S1x8192x4096 : Shape := ⟨3, ![1, 8192, 4096]⟩
abbrev S512x1024 : Shape := ⟨2, ![512, 1024]⟩
abbrev S1x512x4096 : Shape := ⟨3, ![1, 512, 4096]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x4x1024, .bf16⟩
  | .hbm, ⟨6, _⟩ => ⟨S4x1024x1024, .bf16⟩
  | .hbm, ⟨7, _⟩ => ⟨S4x1x1024x1024, .bf16⟩
  | .hbm, ⟨8, _⟩ => ⟨S8192x1024, .bf16⟩
  | .hbm, ⟨9, _⟩ => ⟨S1x8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x4096, .bf16⟩
  | .local _ .vmem, ⟨7, _⟩ => ⟨S1x512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpFRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1x8192x4096 : Shape := ⟨3, ![1, 8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4096, .f32⟩
  | .hbm, ⟨21, _⟩ => ⟨S1x8192x4096, .f32⟩
  | .hbm, ⟨22, _⟩ => ⟨S1x8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DownF.lean ====
abbrev S8192x4096 : Shape := ⟨2, ![8192, 4096]⟩
abbrev S4096x1024 : Shape := ⟨2, ![4096, 1024]⟩
abbrev S8192x1024 : Shape := ⟨2, ![8192, 1024]⟩
abbrev S4x1x1024x1024 : Shape := ⟨4, ![4, 1, 1024, 1024]⟩
abbrev S512x4096 : Shape := ⟨2, ![512, 4096]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S4x1x1024x1024, .bf16⟩
  | .hbm, ⟨5, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownFRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== AinF.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S3x8192x1024 : Shape := ⟨3, ![3, 8192, 1024]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x512 : Shape := ⟨3, ![1, 512, 512]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1024x4x768, .bf16⟩
  | .hbm, ⟨6, _⟩ => ⟨S4x1024x768, .bf16⟩
  | .hbm, ⟨7, _⟩ => ⟨S4x1x1024x768, .bf16⟩
  | .hbm, ⟨8, _⟩ => ⟨S8192x1024, .bf16⟩
  | .hbm, ⟨9, _⟩ => ⟨S3x8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x768, .bf16⟩
  | .local _ .vmem, ⟨4, _⟩ => ⟨S512x1024, .bf16⟩
  | .local _ .vmem, ⟨5, _⟩ => ⟨S512x1024, .bf16⟩
  | .local _ .vmem, ⟨6, _⟩ => ⟨S3x512x1024, .bf16⟩
  | .local _ .vmem, ⟨7, _⟩ => ⟨S3x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AinFRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x1024 : Shape := ⟨3, ![1, 8192, 1024]⟩
abbrev S3x8192x1024 : Shape := ⟨3, ![3, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S3x8192x1024, .f32⟩
  | .hbm, ⟨28, _⟩ => ⟨S3x8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== AoutF.lean ====
abbrev S8192x1024 : Shape := ⟨2, ![8192, 1024]⟩
abbrev S1024x1024 : Shape := ⟨2, ![1024, 1024]⟩
abbrev S4x1x256x1024 : Shape := ⟨4, ![4, 1, 256, 1024]⟩
abbrev S512x1024 : Shape := ⟨2, ![512, 1024]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S4x1x256x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AoutFRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvF.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S1x8192x3072 : Shape := ⟨3, ![1, 8192, 3072]⟩
abbrev S512x1024 : Shape := ⟨2, ![512, 1024]⟩
abbrev S1x512x3072 : Shape := ⟨3, ![1, 512, 3072]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x512 : Shape := ⟨3, ![1, 512, 512]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1024x4x768, .bf16⟩
  | .hbm, ⟨6, _⟩ => ⟨S4x1024x768, .bf16⟩
  | .hbm, ⟨7, _⟩ => ⟨S4x1x1024x768, .bf16⟩
  | .hbm, ⟨8, _⟩ => ⟨S8192x1024, .bf16⟩
  | .hbm, ⟨9, _⟩ => ⟨S1x8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x768, .bf16⟩
  | .local _ .vmem, ⟨4, _⟩ => ⟨S512x1024, .bf16⟩
  | .local _ .vmem, ⟨5, _⟩ => ⟨S512x1024, .bf16⟩
  | .local _ .vmem, ⟨6, _⟩ => ⟨S1x512x3072, .f32⟩
  | .local _ .vmem, ⟨7, _⟩ => ⟨S1x512x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KvFRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x3072 : Shape := ⟨3, ![1, 8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | .hbm, ⟨21, _⟩ => ⟨S1x8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== QF.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S1024x4x384 : Shape := ⟨3, ![1024, 4, 384]⟩
abbrev S4x1024x384 : Shape := ⟨3, ![4, 1024, 384]⟩
abbrev S4x1x1024x384 : Shape := ⟨4, ![4, 1, 1024, 384]⟩
abbrev S1x8192x1536 : Shape := ⟨3, ![1, 8192, 1536]⟩
abbrev S512x1024 : Shape := ⟨2, ![512, 1024]⟩
abbrev S1x512x1536 : Shape := ⟨3, ![1, 512, 1536]⟩
abbrev S512 : Shape := ⟨1, ![512]⟩
abbrev S512x1 : Shape := ⟨2, ![512, 1]⟩
abbrev S1x1x1024x384 : Shape := ⟨4, ![1, 1, 1024, 384]⟩
abbrev S1024x384 : Shape := ⟨2, ![1024, 384]⟩
abbrev S512x384 : Shape := ⟨2, ![512, 384]⟩
abbrev S1x512x384 : Shape := ⟨3, ![1, 512, 384]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S1024x4x384, .bf16⟩
  | .hbm, ⟨6, _⟩ => ⟨S4x1024x384, .bf16⟩
  | .hbm, ⟨7, _⟩ => ⟨S4x1x1024x384, .bf16⟩
  | .hbm, ⟨8, _⟩ => ⟨S8192x1024, .bf16⟩
  | .hbm, ⟨9, _⟩ => ⟨S1x8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x384, .bf16⟩
  | .local _ .vmem, ⟨4, _⟩ => ⟨S512x1024, .bf16⟩
  | .local _ .vmem, ⟨5, _⟩ => ⟨S512x1024, .bf16⟩
  | .local _ .vmem, ⟨6, _⟩ => ⟨S1x512x1536, .f32⟩
  | .local _ .vmem, ⟨7, _⟩ => ⟨S1x512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QFRefIdeal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S1x8192x1536 : Shape := ⟨3, ![1, 8192, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1536, .f32⟩
  | .hbm, ⟨21, _⟩ => ⟨S1x8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OF.lean ====
abbrev S8192x512 : Shape := ⟨2, ![8192, 512]⟩
abbrev S512x1024 : Shape := ⟨2, ![512, 1024]⟩
abbrev S8192x1024 : Shape := ⟨2, ![8192, 1024]⟩
abbrev S512x4x256 : Shape := ⟨3, ![512, 4, 256]⟩
abbrev S4x512x256 : Shape := ⟨3, ![4, 512, 256]⟩
abbrev S4x1x512x256 : Shape := ⟨4, ![4, 1, 512, 256]⟩
abbrev S512x512 : Shape := ⟨2, ![512, 512]⟩
abbrev S512x256 : Shape := ⟨2, ![512, 256]⟩
abbrev S1x1x512x256 : Shape := ⟨4, ![1, 1, 512, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S512x1024, .bf16⟩
  | .hbm, ⟨4, _⟩ => ⟨S512x4x256, .bf16⟩
  | .hbm, ⟨5, _⟩ => ⟨S4x512x256, .bf16⟩
  | .hbm, ⟨6, _⟩ => ⟨S4x1x512x256, .bf16⟩
  | .hbm, ⟨7, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S4x1x512x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OFRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== LossB.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_19 : BitVec 32 := 0#32
  let v48 : BitVec 1 := Scalar.cmpi .ne v47 c0_i32_19
  v48

def k0_cond2 (i : grid0.Coords) : BitVec 1 :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossBRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S8192x1024, .bf16⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AinN.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S3x8192x1024 : Shape := ⟨3, ![3, 8192, 1024]⟩
abbrev S512x1024 : Shape := ⟨2, ![512, 1024]⟩
abbrev S3x512x1024 : Shape := ⟨3, ![3, 512, 1024]⟩
abbrev S1x1x1024x512 : Shape := ⟨4, ![1, 1, 1024, 512]⟩
abbrev S1024x512 : Shape := ⟨2, ![1024, 512]⟩
abbrev S512x512 : Shape := ⟨2, ![512, 512]⟩
abbrev S1x512x512 : Shape := ⟨3, ![1, 512, 512]⟩
abbrev S1x1x1024x256 : Shape := ⟨4, ![1, 1, 1024, 256]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 27
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024, .f32⟩
  | .hbm, ⟨21, _⟩ => ⟨S1024x3072, .bf16⟩
  | .hbm, ⟨22, _⟩ => ⟨S1024x4x768, .bf16⟩
  | .hbm, ⟨23, _⟩ => ⟨S4x1024x768, .bf16⟩
  | .hbm, ⟨24, _⟩ => ⟨S4x1x1024x768, .bf16⟩
  | .hbm, ⟨25, _⟩ => ⟨S8192x1024, .bf16⟩
  | .hbm, ⟨26, _⟩ => ⟨S3x8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S4x1x1024x768, .bf16⟩
  | .local _ .vmem, ⟨4, _⟩ => ⟨S512x1024, .bf16⟩
  | .local _ .vmem, ⟨5, _⟩ => ⟨S512x1024, .bf16⟩
  | .local _ .vmem, ⟨6, _⟩ => ⟨S3x512x1024, .bf16⟩
  | .local _ .vmem, ⟨7, _⟩ => ⟨S3x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AinNRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x1024 : Shape := ⟨3, ![1, 8192, 1024]⟩
abbrev S3x8192x1024 : Shape := ⟨3, ![3, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S3x8192x1024, .f32⟩
  | .hbm, ⟨28, _⟩ => ⟨S3x8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Rms.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdUp.lean ====
abbrev S4x1024x1024 : Shape := ⟨3, ![4, 1024, 1024]⟩
abbrev S1024x1024 : Shape := ⟨2, ![1024, 1024]⟩
abbrev S4x64x1024 : Shape := ⟨3, ![4, 64, 1024]⟩
abbrev S64x1024 : Shape := ⟨2, ![64, 1024]⟩
abbrev S1x64x1024 : Shape := ⟨3, ![1, 64, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S4x64x1024, .f32⟩
  | .local _ .vmem, ⟨1, _⟩ => ⟨S4x64x1024, .f32⟩
  | .local _ .vmem, ⟨2, _⟩ => ⟨S4x64x1024, .f32⟩
  | .local _ .vmem, ⟨3, _⟩ => ⟨S4x64x1024, .f32⟩
  | .local _ .vmem, ⟨4, _⟩ => ⟨S4x64x1024, .f32⟩
  | .local _ .vmem, ⟨5, _⟩ => ⟨S4x64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S4x64x1024, .f32⟩
  | .local _ .vmem, ⟨15, _⟩ => ⟨S4x64x1024, .f32⟩
  | .local _ .vmem, ⟨16, _⟩ => ⟨S4x64x1024, .f32⟩
  | .local _ .vmem, ⟨17, _⟩ => ⟨S4x64x1024, .f32⟩
  | .local _ .vmem, ⟨18, _⟩ => ⟨S4x64x1024, .f32⟩
  | .local _ .vmem, ⟨19, _⟩ => ⟨S4x64x1024, .f32⟩
  | .local _ .vmem, ⟨20, _⟩ => ⟨S4x64x1024, .f32⟩
  | .local _ .vmem, ⟨21, _⟩ => ⟨S4x64x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdUpRefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S4x1024x1024, .f32⟩
  | .hbm, ⟨12, _⟩ => ⟨S_, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdIn.lean ====
abbrev S2x1024x768 : Shape := ⟨3, ![2, 1024, 768]⟩
abbrev S1024x768 : Shape := ⟨2, ![1024, 768]⟩
abbrev S2x128x768 : Shape := ⟨3, ![2, 128, 768]⟩
abbrev S128x768 : Shape := ⟨2, ![128, 768]⟩
abbrev S1x128x768 : Shape := ⟨3, ![1, 128, 768]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1024x768, .f32⟩
  | .hbm, ⟨4, _⟩ => ⟨S1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S2x128x768, .f32⟩
  | .local _ .vmem, ⟨1, _⟩ => ⟨S2x128x768, .f32⟩
  | .local _ .vmem, ⟨2, _⟩ => ⟨S2x128x768, .f32⟩
  | .local _ .vmem, ⟨3, _⟩ => ⟨S2x128x768, .f32⟩
  | .local _ .vmem, ⟨4, _⟩ => ⟨S2x128x768, .f32⟩
  | .local _ .vmem, ⟨5, _⟩ => ⟨S2x128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S2x128x768, .f32⟩
  | .local _ .vmem, ⟨11, _⟩ => ⟨S2x128x768, .f32⟩
  | .local _ .vmem, ⟨12, _⟩ => ⟨S2x128x768, .f32⟩
  | .local _ .vmem, ⟨13, _⟩ => ⟨S2x128x768, .f32⟩
  | .local _ .vmem, ⟨14, _⟩ => ⟨S2x128x768, .f32⟩
  | .local _ .vmem, ⟨15, _⟩ => ⟨S2x128x768, .f32⟩
  | .local _ .vmem, ⟨16, _⟩ => ⟨S2x128x768, .f32⟩
  | .local _ .vmem, ⟨17, _⟩ => ⟨S2x128x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdInRefIdeal.lean ====
abbrev S2x1024x768 : Shape := ⟨3, ![2, 1024, 768]⟩
abbrev S1024x768 : Shape := ⟨2, ![1024, 768]⟩
abbrev S1x1024x768 : Shape := ⟨3, ![1, 1024, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1024x768, .f32⟩
  | .hbm, ⟨4, _⟩ => ⟨S1024x768, .f32⟩
  | .hbm, ⟨5, _⟩ => ⟨S1x1024x768, .f32⟩
  | .hbm, ⟨6, _⟩ => ⟨S1x1024x768, .f32⟩
  | .hbm, ⟨7, _⟩ => ⟨S2x1024x768, .f32⟩
  | .hbm, ⟨8, _⟩ => ⟨S_, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdOut.lean ====
abbrev S2x256x1024 : Shape := ⟨3, ![2, 256, 1024]⟩
abbrev S256x1024 : Shape := ⟨2, ![256, 1024]⟩
abbrev S2x128x1024 : Shape := ⟨3, ![2, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S2x128x1024, .f32⟩
  | .local _ .vmem, ⟨1, _⟩ => ⟨S2x128x1024, .f32⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | .local _ .vmem, ⟨13, _⟩ => ⟨S2x128x1024, .f32⟩
  | .local _ .vmem, ⟨14, _⟩ => ⟨S2x128x1024, .f32⟩
  | .local _ .vmem, ⟨15, _⟩ => ⟨S2x128x1024, .f32⟩
  | .local _ .vmem, ⟨16, _⟩ => ⟨S2x128x1024, .f32⟩
  | .local _ .vmem, ⟨17, _⟩ => ⟨S2x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOutRefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdKv.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdQ.lean ====
abbrev S2x1024x384 : Shape := ⟨3, ![2, 1024, 384]⟩
abbrev S1024x384 : Shape := ⟨2, ![1024, 384]⟩
abbrev S2x256x384 : Shape := ⟨3, ![2, 256, 384]⟩
abbrev S256x384 : Shape := ⟨2, ![256, 384]⟩
abbrev S1x256x384 : Shape := ⟨3, ![1, 256, 384]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1024x384, .f32⟩
  | .hbm, ⟨4, _⟩ => ⟨S1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S2x256x384, .f32⟩
  | .local _ .vmem, ⟨1, _⟩ => ⟨S2x256x384, .f32⟩
  | .local _ .vmem, ⟨2, _⟩ => ⟨S2x256x384, .f32⟩
  | .local _ .vmem, ⟨3, _⟩ => ⟨S2x256x384, .f32⟩
  | .local _ .vmem, ⟨4, _⟩ => ⟨S2x256x384, .f32⟩
  | .local _ .vmem, ⟨5, _⟩ => ⟨S2x256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S2x256x384, .f32⟩
  | .local _ .vmem, ⟨11, _⟩ => ⟨S2x256x384, .f32⟩
  | .local _ .vmem, ⟨12, _⟩ => ⟨S2x256x384, .f32⟩
  | .local _ .vmem, ⟨13, _⟩ => ⟨S2x256x384, .f32⟩
  | .local _ .vmem, ⟨14, _⟩ => ⟨S2x256x384, .f32⟩
  | .local _ .vmem, ⟨15, _⟩ => ⟨S2x256x384, .f32⟩
  | .local _ .vmem, ⟨16, _⟩ => ⟨S2x256x384, .f32⟩
  | .local _ .vmem, ⟨17, _⟩ => ⟨S2x256x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdQRefIdeal.lean ====
abbrev S2x1024x384 : Shape := ⟨3, ![2, 1024, 384]⟩
abbrev S1024x384 : Shape := ⟨2, ![1024, 384]⟩
abbrev S1x1024x384 : Shape := ⟨3, ![1, 1024, 384]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1024x384, .f32⟩
  | .hbm, ⟨4, _⟩ => ⟨S1024x384, .f32⟩
  | .hbm, ⟨5, _⟩ => ⟨S1x1024x384, .f32⟩
  | .hbm, ⟨6, _⟩ => ⟨S1x1024x384, .f32⟩
  | .hbm, ⟨7, _⟩ => ⟨S2x1024x384, .f32⟩
  | .hbm, ⟨8, _⟩ => ⟨S_, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S2x1024x384, .f32⟩
  | .hbm, ⟨23, _⟩ => ⟨S_, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | .hbm, ⟨37, _⟩ => ⟨S2x1024x384, .f32⟩
  | .hbm, ⟨38, _⟩ => ⟨S_, .f32⟩
  | .hbm, ⟨39, _⟩ => ⟨S2x1024x384, .f32⟩
  | .hbm, ⟨40, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdO.lean ====
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .local _ .vmem, ⟨0, _⟩ => ⟨S2x512x256, .f32⟩
  | .local _ .vmem, ⟨1, _⟩ => ⟨S2x512x256, .f32⟩
  | .local _ .vmem, ⟨2, _⟩ => ⟨S2x512x256, .f32⟩
  | .local _ .vmem, ⟨3, _⟩ => ⟨S512x256, .f32⟩
  | .local _ .vmem, ⟨4, _⟩ => ⟨S512x256, .f32⟩
  | .local _ .vmem, ⟨5, _⟩ => ⟨S2x512x256, .f32⟩
  | .local _ .vmem, ⟨6, _⟩ => ⟨S2x512x256, .f32⟩
  | .local _ .vmem, ⟨7, _⟩ => ⟨S2x512x256, .f32⟩
  | .local _ .vmem, ⟨8, _⟩ => ⟨S2x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdORefIdeal.lean ====
abbrev S2x512x256 : Shape := ⟨3, ![2, 512, 256]⟩
abbrev S512x256 : Shape := ⟨2, ![512, 256]⟩
abbrev S1x512x256 : Shape := ⟨3, ![1, 512, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S1x512x256, .f32⟩
  | .hbm, ⟨6, _⟩ => ⟨S1x512x256, .f32⟩
  | .hbm, ⟨7, _⟩ => ⟨S2x512x256, .f32⟩
  | .hbm, ⟨8, _⟩ => ⟨S_, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdNorm.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdConv.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvRefIdeal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ConvRows.lean ====
/-
  The short gated convolution's backward pass, one lane at a time: the sequences the kernel's block is read as, the
  gradient's closed forms on them, and the two halo selections (rotate, slice, mask) of a chunk of 256 rows read as a
  shift of the sequence by one or two steps.
-/
module

public import proofs.«01_k».proof.Proof.Gen.ConvIdeal.Value
public import Idealize.ShloMosaic.Lib.Pipeline.ValueKit
public import Idealize.ShloMosaic.Lib.Pointwise

@[expose] public section

set_option maxRecDepth 16384

noncomputable section

namespace Cert.ConvVal

open Idealize.ShloMosaic Idealize.ShloMosaic.TcCoe Idealize.SL.Sem

/-- A sequence delayed by `k` steps, zero before its start. -/
def back (f : ℕ → EReal) (k r : ℕ) : EReal := if k ≤ r then f (r - k) else 0

/-- The three-tap causal convolution of the gated sequence `c u`. -/
def conv (w : ℕ → EReal) (c u : ℕ → EReal) (r : ℕ) : EReal :=
  w 0 * (c r * u r) + w 1 * back (fun r => c r * u r) 1 r + w 2 * back (fun r => c r * u r) 2 r

/-- The cotangent of the gated sequence: the three taps run forwards over the cotangent of the convolution. -/
def dcu (w : ℕ → EReal) (z b : ℕ → EReal) (r : ℕ) : EReal :=
  w 0 * (z r * b r) + w 1 * (z (r + 1) * b (r + 1)) + w 2 * (z (r + 2) * b (r + 2))

/-- One row's part of the cotangent of tap `k`. -/
def dwAt (z b c u : ℕ → EReal) (k r : ℕ) : EReal := z r * b r * back (fun r => c r * u r) k r

/-- The cotangents of the three gates at row `r`. -/
def dgate (w : ℕ → EReal) (z b c u : ℕ → EReal) (p r : ℕ) : EReal :=
  if p = 0 then z r * conv w c u r else if p = 1 then dcu w z b r * u r else dcu w z b r * c r

/-- The halo selection of a chunk that starts at row `o ≥ 16` reads the sequence `k` rows before. -/
theorem sel_back (f : ℕ → EReal) {o k a n : ℕ} (ho : 16 ≤ o) (hk0 : 0 < k) (hk : k ≤ 16) (ha : a < 256) (hn : n = (16 + a + 272 - k) % 272) :
    (if n < 16 then f (o - 16 + n) else f (o + (n - 16))) = back f k (o + a) := by
  have hb : back f k (o + a) = f (o + a - k) := if_pos (by omega)
  have hn' : n = 16 + a - k := by omega
  rw [hb, hn']
  by_cases h : k ≤ a
  · rw [if_neg (by omega)]; exact congrArg f (by omega)
  · rw [if_pos (by omega)]; exact congrArg f (by omega)

/-- At the first chunk the rows before the start are masked. -/
theorem sel_back_first (f : ℕ → EReal) {k a n : ℕ} (hk0 : 0 < k) (hk : k ≤ 16) (ha : a < 256) (hn : n = (16 + a + 272 - k) % 272) :
    (if k ≤ a then (if n < 16 then f (0 + n) else f (0 + (n - 16))) else 0) = back f k (0 + a) := by
  have hn' : n = 16 + a - k := by omega
  by_cases h : k ≤ a
  · have hb : back f k (0 + a) = f (0 + a - k) := if_pos (by omega)
    rw [hb, hn', if_pos h, if_neg (by omega)]; exact congrArg f (by omega)
  · have hb : back f k (0 + a) = 0 := if_neg (by omega)
    rw [hb, if_neg h]

/-- The halo selection at a chunk's end reads the sequence `k` rows ahead. -/
theorem sel_ahead (f : ℕ → EReal) {o k a n m : ℕ} (hm : m = 272 - k) (hk0 : 0 < k) (hk : k ≤ 16) (ha : a < 256) (hn : n = (a + 272 - m) % 272) :
    (if n < 256 then f (o + n) else f (o + 256 + (n - 256))) = f (o + a + k) := by
  have hn' : n = a + k := by omega
  rw [hn']
  by_cases h : a + k < 256
  · rw [if_pos h]; exact congrArg f (by omega)
  · rw [if_neg h]; exact congrArg f (by omega)

/-- At the last chunk the rows past the end are masked, where the sequence is zero. -/
theorem sel_ahead_last (f : ℕ → EReal) (hf : ∀ r, 4096 ≤ r → f r = 0) {k a n m : ℕ} (hm : m = 272 - k) (hk0 : 0 < k) (hk : k ≤ 16) (ha : a < 256)
    (hn : n = (a + 272 - m) % 272) :
    (if a + k < 256 then (if n < 256 then f (3840 + n) else f (4080 + (n - 256))) else 0) = f (3840 + a + k) := by
  have hn' : n = a + k := by omega
  rw [hn']
  by_cases h : a + k < 256
  · rw [if_pos h, if_pos h]; exact congrArg f (by omega)
  · rw [if_neg h, hf _ (by omega)]

/-- A sum over a chunk of 256 rows as a range sum. -/
theorem sum_chunk (f : ℕ → EReal) (o : ℕ) : ∑ x : Fin 256, f (o + (x : ℕ)) = ∑ r ∈ Finset.range 256, f (o + r) :=
  Fin.sum_univ_eq_sum_range (fun r => f (o + r)) 256

section Block

open Cert.ConvIdeal

/-- Lane `l` of gate `p` of a block as a sequence of rows, zero past the end. -/
def row0 (x : Vec Ideal S3x1x4096x256 .bf16) (p : ℕ) (l : Fin 256) (r : ℕ) : EReal :=
  if h : p < 3 ∧ r < 4096 then x (ix4 ⟨p, h.1⟩ 0 ⟨r, h.2⟩ l) else 0

/-- Lane `l` of the cotangent's block as a sequence of rows, zero past the end. -/
def rowZ (x : Vec Ideal S1x4096x256 .f32) (l : Fin 256) (r : ℕ) : EReal :=
  if h : r < 4096 then x (ix3 0 ⟨r, h⟩ l) else 0

/-- Lane `l` of the taps. -/
def tap (x : Vec Ideal S1x1x3x256 .f32) (l : Fin 256) (k : ℕ) : EReal :=
  if h : k < 3 then x (ix4 0 0 ⟨k, h⟩ l) else 0

theorem rowZ_end (x : Vec Ideal S1x4096x256 .f32) (l : Fin 256) (y : ℕ → EReal) (r : ℕ) (h : 4096 ≤ r) : rowZ x l r * y r = 0 := by
  unfold rowZ; rw [dif_neg (by omega), zero_mul]

/-- An element of gate `p` is the sequence's term. -/
theorem row0_mk (x : Vec Ideal S3x1x4096x256 .bf16) (p : Fin 3) (r : ℕ) (h : r < 4096) (l : Fin 256) :
    (x (ix4 p 0 ⟨r, h⟩ l) : EReal) = row0 x (p : ℕ) l r := by
  unfold row0; rw [dif_pos ⟨p.isLt, h⟩]

/-- An element of the cotangent is the sequence's term. -/
theorem rowZ_mk (x : Vec Ideal S1x4096x256 .f32) (r : ℕ) (h : r < 4096) (l : Fin 256) :
    (x (ix3 0 ⟨r, h⟩ l) : EReal) = rowZ x l r := by
  unfold rowZ; rw [dif_pos h]

/-- An element of the taps is the sequence's term. -/
theorem tap_mk (x : Vec Ideal S1x1x3x256 .f32) (k : Fin 3) (l : Fin 256) :
    (x (ix4 0 0 k l) : EReal) = tap x l (k : ℕ) := by
  unfold tap; rw [dif_pos k.isLt]

variable (x0 : Vec Ideal S3x1x4096x256 .bf16) (x1 : Vec Ideal S1x4096x256 .f32) (l : Fin 256)

/-- The gated sequence `c u` of a lane. -/
def cu (r : ℕ) : EReal := row0 x0 1 l r * row0 x0 2 l r

/-- The cotangent of the convolution of a lane. -/
def zb (r : ℕ) : EReal := rowZ x1 l r * row0 x0 0 l r

theorem zb_end (r : ℕ) (h : 4096 ≤ r) : zb x0 x1 l r = 0 := by
  unfold zb rowZ; rw [dif_neg (by omega), zero_mul]

theorem tile_back1 {o' o a : ℕ} (ho : o' + 16 = o) (ha : a < 256) :
    (if (16 + a + 272 - 1) % 272 < 16 then row0 x0 1 l (o' + (16 + a + 272 - 1) % 272) * row0 x0 2 l (o' + (16 + a + 272 - 1) % 272) else row0 x0 1 l (o + ((16 + a + 272 - 1) % 272 - 16)) * row0 x0 2 l (o + ((16 + a + 272 - 1) % 272 - 16))) = back (cu x0 l) 1 (o + a) := by
  obtain rfl : o' = o - 16 := by omega
  exact sel_back (cu x0 l) (by omega) (by decide) (by decide) ha rfl

theorem tile_back2 {o' o a : ℕ} (ho : o' + 16 = o) (ha : a < 256) :
    (if (16 + a + 272 - 2) % 272 < 16 then row0 x0 1 l (o' + (16 + a + 272 - 2) % 272) * row0 x0 2 l (o' + (16 + a + 272 - 2) % 272) else row0 x0 1 l (o + ((16 + a + 272 - 2) % 272 - 16)) * row0 x0 2 l (o + ((16 + a + 272 - 2) % 272 - 16))) = back (cu x0 l) 2 (o + a) := by
  obtain rfl : o' = o - 16 := by omega
  exact sel_back (cu x0 l) (by omega) (by decide) (by decide) ha rfl

theorem tile_first1 (w : EReal) {a : ℕ} (ha : a < 256) :
    (if 1 ≤ a then w * (if (16 + a + 272 - 1) % 272 < 16 then row0 x0 1 l ((16 + a + 272 - 1) % 272) * row0 x0 2 l ((16 + a + 272 - 1) % 272) else row0 x0 1 l ((16 + a + 272 - 1) % 272 - 16) * row0 x0 2 l ((16 + a + 272 - 1) % 272 - 16)) else 0) = w * back (cu x0 l) 1 a := by
  have h := sel_back_first (cu x0 l) (k := 1) (by decide) (by decide) ha rfl
  simp only [Nat.zero_add] at h
  rw [← h, mul_ite (1 ≤ a), mul_zero]
  rfl

theorem tile_first2 (w : EReal) {a : ℕ} (ha : a < 256) :
    (if 2 ≤ a then w * (if (16 + a + 272 - 2) % 272 < 16 then row0 x0 1 l ((16 + a + 272 - 2) % 272) * row0 x0 2 l ((16 + a + 272 - 2) % 272) else row0 x0 1 l ((16 + a + 272 - 2) % 272 - 16) * row0 x0 2 l ((16 + a + 272 - 2) % 272 - 16)) else 0) = w * back (cu x0 l) 2 a := by
  have h := sel_back_first (cu x0 l) (k := 2) (by decide) (by decide) ha rfl
  simp only [Nat.zero_add] at h
  rw [← h, mul_ite (2 ≤ a), mul_zero]
  rfl

theorem tile_ahead1 {o' o a : ℕ} (ho : o + 256 = o') (ha : a < 256) :
    (if (a + 272 - 271) % 272 < 256 then rowZ x1 l (o + (a + 272 - 271) % 272) * row0 x0 0 l (o + (a + 272 - 271) % 272) else rowZ x1 l (o' + ((a + 272 - 271) % 272 - 256)) * row0 x0 0 l (o' + ((a + 272 - 271) % 272 - 256))) = zb x0 x1 l (o + a + 1) := by
  subst ho
  exact sel_ahead (zb x0 x1 l) (k := 1) rfl (by decide) (by decide) ha rfl

theorem tile_ahead2 {o' o a : ℕ} (ho : o + 256 = o') (ha : a < 256) :
    (if (a + 272 - 270) % 272 < 256 then rowZ x1 l (o + (a + 272 - 270) % 272) * row0 x0 0 l (o + (a + 272 - 270) % 272) else rowZ x1 l (o' + ((a + 272 - 270) % 272 - 256)) * row0 x0 0 l (o' + ((a + 272 - 270) % 272 - 256))) = zb x0 x1 l (o + a + 2) := by
  subst ho
  exact sel_ahead (zb x0 x1 l) (k := 2) rfl (by decide) (by decide) ha rfl

theorem tile_start1 {a : ℕ} (ha : a < 256) :
    (if (a + 272 - 271) % 272 < 256 then rowZ x1 l ((a + 272 - 271) % 272) * row0 x0 0 l ((a + 272 - 271) % 272) else rowZ x1 l (256 + ((a + 272 - 271) % 272 - 256)) * row0 x0 0 l (256 + ((a + 272 - 271) % 272 - 256))) = zb x0 x1 l (a + 1) := by
  have h := sel_ahead (zb x0 x1 l) (k := 1) (o := 0) rfl (by decide) (by decide) ha rfl
  simp only [Nat.zero_add] at h
  exact h

theorem tile_start2 {a : ℕ} (ha : a < 256) :
    (if (a + 272 - 270) % 272 < 256 then rowZ x1 l ((a + 272 - 270) % 272) * row0 x0 0 l ((a + 272 - 270) % 272) else rowZ x1 l (256 + ((a + 272 - 270) % 272 - 256)) * row0 x0 0 l (256 + ((a + 272 - 270) % 272 - 256))) = zb x0 x1 l (a + 2) := by
  have h := sel_ahead (zb x0 x1 l) (k := 2) (o := 0) rfl (by decide) (by decide) ha rfl
  simp only [Nat.zero_add] at h
  exact h

theorem tile_last1 (w : EReal) {a : ℕ} (ha : a < 256) :
    (if a + 1 < 256 then w * (if (a + 272 - 271) % 272 < 256 then rowZ x1 l (3840 + (a + 272 - 271) % 272) * row0 x0 0 l (3840 + (a + 272 - 271) % 272)
      else rowZ x1 l (4080 + ((a + 272 - 271) % 272 - 256)) * row0 x0 0 l (4080 + ((a + 272 - 271) % 272 - 256))) else 0)
      = w * zb x0 x1 l (3840 + a + 1) := by
  rw [← sel_ahead_last (zb x0 x1 l) (zb_end x0 x1 l) (k := 1) (m := 271) rfl (by decide) (by decide) ha rfl, mul_ite (a + 1 < 256), mul_zero]
  rfl

theorem tile_last2 (w : EReal) {a : ℕ} (ha : a < 256) :
    (if a + 2 < 256 then w * (if (a + 272 - 270) % 272 < 256 then rowZ x1 l (3840 + (a + 272 - 270) % 272) * row0 x0 0 l (3840 + (a + 272 - 270) % 272)
      else rowZ x1 l (4080 + ((a + 272 - 270) % 272 - 256)) * row0 x0 0 l (4080 + ((a + 272 - 270) % 272 - 256))) else 0)
      = w * zb x0 x1 l (3840 + a + 2) := by
  rw [← sel_ahead_last (zb x0 x1 l) (zb_end x0 x1 l) (k := 2) (m := 270) rfl (by decide) (by decide) ha rfl, mul_ite (a + 2 < 256), mul_zero]
  rfl

/-- What a block's body leaves in the gates' gradient, as a whole block. -/
def blkD (x0 : Vec Ideal S3x1x4096x256 .bf16) (x1 : Vec Ideal S1x4096x256 .f32) (x2 : Vec Ideal S1x1x3x256 .f32) : Vec Ideal S3x1x4096x256 .bf16 :=
  fun y => dgate (tap x2 (y 3)) (rowZ x1 (y 3)) (row0 x0 0 (y 3)) (row0 x0 1 (y 3)) (row0 x0 2 (y 3)) (y 0 : Fin 3).val (y 2 : Fin 4096).val

/-- The same read through a store's rectangle. -/
theorem blkD_emb (x0 : Vec Ideal S3x1x4096x256 .bf16) (x1 : Vec Ideal S1x4096x256 .f32) (x2 : Vec Ideal S1x1x3x256 .f32) {p o : ℕ} (h)
    (a l : Fin 256) : blkD x0 x1 x2 ((Rect.unit (s := S3x1x4096x256) ![p, 0, o, 0] ![1, 1, 256, 256] h).emb (ix4 0 0 a l))
      = dgate (tap x2 l) (rowZ x1 l) (row0 x0 0 l) (row0 x0 1 l) (row0 x0 2 l) p (o + a) := by
  have hl : ((Rect.unit (s := S3x1x4096x256) ![p, 0, o, 0] ![1, 1, 256, 256] h).emb (ix4 0 0 a l)) 3 = l :=
    Fin.ext (by show 0 + 1 * (l : ℕ) = l; omega)
  have hp : (((Rect.unit (s := S3x1x4096x256) ![p, 0, o, 0] ![1, 1, 256, 256] h).emb (ix4 0 0 a l)) 0 : ℕ) = p := by
    show p + 1 * 0 = p; omega
  have ho : (((Rect.unit (s := S3x1x4096x256) ![p, 0, o, 0] ![1, 1, 256, 256] h).emb (ix4 0 0 a l)) 2 : ℕ) = o + a := by
    show o + 1 * (a : ℕ) = o + a; omega
  unfold blkD
  rw [hl, hp, ho]

/-- The masks of the first chunk. -/
theorem mask_ge1 (a : Fin 256) :
    IntOp.cmpi CmpIPredicate.sge (IntOp.addi (0#32) (BitVec.ofNat 32 (a : ℕ))) 1#32 = if 1 ≤ (a : ℕ) then 1#1 else 0#1 := by
  revert a; decide +kernel

theorem mask_ge2 (a : Fin 256) :
    IntOp.cmpi CmpIPredicate.sge (IntOp.addi (0#32) (BitVec.ofNat 32 (a : ℕ))) 2#32 = if 2 ≤ (a : ℕ) then 1#1 else 0#1 := by
  revert a; decide +kernel

/-- The masks of the last chunk. -/
theorem mask_lt1 (a : Fin 256) :
    IntOp.cmpi CmpIPredicate.slt (IntOp.addi (IntOp.addi (3840#32) (BitVec.ofNat 32 (a : ℕ))) 1#32) 4096#32
      = if (a : ℕ) + 1 < 256 then 1#1 else 0#1 := by
  revert a; decide +kernel

theorem mask_lt2 (a : Fin 256) :
    IntOp.cmpi CmpIPredicate.slt (IntOp.addi (IntOp.addi (3840#32) (BitVec.ofNat 32 (a : ℕ))) 2#32) 4096#32
      = if (a : ℕ) + 2 < 256 then 1#1 else 0#1 := by
  revert a; decide +kernel

theorem select_ite {α : Type} (P : Prop) [Decidable P] (x y : α) : Scalar.select (if P then 1#1 else 0#1) x y = if P then x else y := by
  by_cases h : P <;> simp [h, Scalar.select]

end Block

end Cert.ConvVal
-- ==== Proof.ConvTile.lean ====
module
public import proofs.«01_k».proof.Proof.ConvRows
public import Idealize.ShloMosaic.Lib.Pipeline.ValueKit
public import Idealize.ShloMosaic.Lib.Pointwise
@[expose] public section
set_option maxRecDepth 16384
noncomputable section
namespace Cert.ConvVal
open Idealize.ShloMosaic Idealize.ShloMosaic.TcCoe Idealize.SL.Sem Cert.ConvIdeal Cert.ConvIdeal.Gen
/-- Trip `k` starts at row `256 (k + 1)`. -/
theorem trip_start (k : Fin k0_t1_loop.trips) :
    BitVec.toNat (Scalar.indexCast (Scalar.muli (Scf.iv 1#32 1#32 (k : ℕ)) 256#32)) = 256 * ((k : ℕ) + 1) := by
  revert k; decide +kernel

/-- Its halo starts sixteen rows earlier. -/
theorem trip_halo (k : Fin k0_t1_loop.trips) :
    BitVec.toNat (Scalar.indexCast (Scalar.maxsi (Scalar.subi (Scalar.muli (Scf.iv 1#32 1#32 (k : ℕ)) 256#32) 16#32) 0#32)) = 256 * (k : ℕ) + 240 := by
  revert k; decide +kernel

/-- And the rows ahead of it start where it ends. -/
theorem trip_ahead (k : Fin k0_t1_loop.trips) :
    BitVec.toNat (Scalar.indexCast (Scalar.minsi (Scalar.addi (Scalar.muli (Scf.iv 1#32 1#32 (k : ℕ)) 256#32) 256#32) 4080#32)) = 256 * (k : ℕ) + 512 := by
  revert k; decide +kernel

variable (c : Dev nD) (i : grid0.Coords) (arg2 : Memref sig .tc .vmem S3x1x4096x256 .bf16) (harg2 : arg2.IsWhole) (arg3 : Memref sig .tc .vmem S1x4096x256 .f32) (harg3 : arg3.IsWhole) (arg4 : Memref sig .tc .vmem S1x1x3x256 .f32) (harg4 : arg4.IsWhole) (arg5 : Memref sig .tc .vmem S3x1x4096x256 .bf16) (harg5 : arg5.IsWhole) (arg6 : Memref sig .tc .vmem S3x256 .f32) (harg6 : arg6.IsWhole)
    (x0 : Vec Ideal S3x1x4096x256 .bf16) (x1 : Vec Ideal S1x4096x256 .f32) (x2 : Vec Ideal S1x1x3x256 .f32)

    (𝒱 : Variants) (bd : Option 𝒱.V) (v1 v3 v5 v9 : FVec Ideal S1x256 .f32) (v51 v60 v70 : FVec Ideal S256x256 .f32) (v113 : FVec Ideal S1x256 .f32)

/-- The part of chunk `n` (256 rows) in the cotangent of tap `j`. -/
def chunk (l : Fin 256) (j n : ℕ) : EReal :=
  ∑ a : Fin 256, dwAt (rowZ x1 l) (row0 x0 0 l) (row0 x0 1 l) (row0 x0 2 l) j (256 * n + a)

/-- The gated sequence no rows back is the sequence. -/
theorem back_zero (f : ℕ → EReal) (r : ℕ) : back f 0 r = f r := if_pos (Nat.zero_le r)

/-- One trip stores the three gates' cotangents of its 256 rows. -/
theorem trip_pieces (h1 : ∀ l, v1 (ix2 0 l) = tap x2 l 0) (h3 : ∀ l, v3 (ix2 0 l) = tap x2 l 1) (h5 : ∀ l, v5 (ix2 0 l) = tap x2 l 2) (k) (acc) :
    ∀ p ∈ tripL_k0_t1 𝒱 c bd i arg2 harg2 arg3 harg3 arg4 harg4 arg5 harg5 arg6 harg6 v1 v3 v5 v9 v51 v60 v70 v113 (harg2.unread x0) (harg3.unread x1) k acc,
      ∀ x, p.2 x = blkD x0 x1 x2 (p.1.emb x) := by
  unfold tripL_k0_t1 trip_k0_t1
  dsimp only
  sl_unfold_words
  simp only [View.readAt_eq_ld, harg2.read_unread, harg3.read_unread]
  rw [List.forall_mem_cons, List.forall_mem_cons, List.forall_mem_cons]
  refine ⟨?_, ?_, ?_, fun _ h => (List.not_mem_nil h).elim⟩
  all_goals
    intro x
    dsimp only
    change S1x1x256x256.Idx at x
    obtain ⟨q0, q1, a, l, rfl⟩ : ∃ (q0 q1 : Fin 1) (a l : Fin 256), x = ix4 q0 q1 a l := ⟨x 0, x 1, x 2, x 3, eq_ix4 x⟩
    obtain rfl : q0 = 0 := Subsingleton.elim _ _
    obtain rfl : q1 = 0 := Subsingleton.elim _ _
    refine Eq.trans ?_ (blkD_emb x0 x1 x2 _ a l).symm
    unfold_payloads
    pointwise
    simp (disch := omega) only [row0_mk x0, rowZ_mk x1, tap_mk x2, h1, h3, h5, trip_start, trip_halo, trip_ahead, mask_ge1, mask_ge2, mask_lt1, mask_lt2, select_ite, dite_eq_ite, Fin.val_zero, Fin.val_one, Fin.val_two,
      tile_first1, tile_first2, tile_last1, tile_last2, tile_back1, tile_back2, tile_start1, tile_start2, tile_ahead1, tile_ahead2]
    rfl

/-- One trip adds its 256 rows' part to each of the three carried sums. -/
theorem trip_sums (k) (acc) (l : Fin 256) :
    (tripR_k0_t1 𝒱 c bd i arg2 harg2 arg3 harg3 arg4 harg4 arg5 harg5 arg6 harg6 v1 v3 v5 v9 v51 v60 v70 v113 (harg2.unread x0) (harg3.unread x1) k acc).1 (ix2 0 l) = acc.1 (ix2 0 l) + chunk x0 x1 l 0 (k.val + 1)
    ∧ (tripR_k0_t1 𝒱 c bd i arg2 harg2 arg3 harg3 arg4 harg4 arg5 harg5 arg6 harg6 v1 v3 v5 v9 v51 v60 v70 v113 (harg2.unread x0) (harg3.unread x1) k acc).2.1 (ix2 0 l) = acc.2.1 (ix2 0 l) + chunk x0 x1 l 1 (k.val + 1)
    ∧ (tripR_k0_t1 𝒱 c bd i arg2 harg2 arg3 harg3 arg4 harg4 arg5 harg5 arg6 harg6 v1 v3 v5 v9 v51 v60 v70 v113 (harg2.unread x0) (harg3.unread x1) k acc).2.2 (ix2 0 l) = acc.2.2 (ix2 0 l) + chunk x0 x1 l 2 (k.val + 1) := by
  unfold tripR_k0_t1 trip_k0_t1
  dsimp only
  sl_unfold_words
  simp only [View.readAt_eq_ld, harg2.read_unread, harg3.read_unread]
  refine ⟨?_, ?_, ?_⟩
  all_goals
    unfold_payloads
    pointwise
    simp (disch := omega) only [row0_mk x0, rowZ_mk x1, trip_start, trip_halo, trip_ahead, chunk, dwAt, back_zero, mask_ge1, mask_ge2, mask_lt1, mask_lt2, select_ite, dite_eq_ite, Fin.val_zero, Fin.val_one, Fin.val_two,
      tile_first1, tile_first2, tile_last1, tile_last2, tile_back1, tile_back2, tile_start1, tile_start2, tile_ahead1, tile_ahead2]
  all_goals rfl

/-- Before trip `n` every stored piece holds the gates' cotangents. -/
theorem state_pieces (h1 : ∀ l, v1 (ix2 0 l) = tap x2 l 0) (h3 : ∀ l, v3 (ix2 0 l) = tap x2 l 1) (h5 : ∀ l, v5 (ix2 0 l) = tap x2 l 2) (init) :
    ∀ n, n ≤ k0_t1_loop.trips → ∀ p ∈ (st_k0_t1 𝒱 c bd i arg2 harg2 arg3 harg3 arg4 harg4 arg5 harg5 arg6 harg6 v1 v3 v5 v9 v51 v60 v70 v113 (harg2.unread x0) (harg3.unread x1) init n).2, ∀ x, p.2 x = blkD x0 x1 x2 (p.1.emb x) := by
  intro n
  induction n with
  | zero => exact fun _ _ h => (List.not_mem_nil h).elim
  | succ n ih =>
    intro hn
    have h := st_k0_t1_succ 𝒱 c bd i arg2 harg2 arg3 harg3 arg4 harg4 arg5 harg5 arg6 harg6 v1 v3 v5 v9 v51 v60 v70 v113 (harg2.unread x0) (harg3.unread x1) init ⟨n, hn⟩
    rw [show n + 1 = (⟨n, hn⟩ : Fin k0_t1_loop.trips).val + 1 from rfl, h, List.forall_mem_append]
    exact ⟨trip_pieces _ _ _ _ _ _ _ _ _ _ _ _ _ _ _ _ _ _ _ _ _ _ _ _ _ h1 h3 h5 _ _, ih (Nat.le_of_succ_le hn)⟩

/-- Before trip `n` the carried sums hold the chunks before it. -/
theorem state_sums (init) (l : Fin 256) : ∀ n, n ≤ k0_t1_loop.trips →
    (st_k0_t1 𝒱 c bd i arg2 harg2 arg3 harg3 arg4 harg4 arg5 harg5 arg6 harg6 v1 v3 v5 v9 v51 v60 v70 v113 (harg2.unread x0) (harg3.unread x1) init n).1.1 (ix2 0 l) = init.1 (ix2 0 l) + ∑ q ∈ Finset.range n, chunk x0 x1 l 0 (q + 1)
    ∧ (st_k0_t1 𝒱 c bd i arg2 harg2 arg3 harg3 arg4 harg4 arg5 harg5 arg6 harg6 v1 v3 v5 v9 v51 v60 v70 v113 (harg2.unread x0) (harg3.unread x1) init n).1.2.1 (ix2 0 l) = init.2.1 (ix2 0 l) + ∑ q ∈ Finset.range n, chunk x0 x1 l 1 (q + 1)
    ∧ (st_k0_t1 𝒱 c bd i arg2 harg2 arg3 harg3 arg4 harg4 arg5 harg5 arg6 harg6 v1 v3 v5 v9 v51 v60 v70 v113 (harg2.unread x0) (harg3.unread x1) init n).1.2.2 (ix2 0 l) = init.2.2 (ix2 0 l) + ∑ q ∈ Finset.range n, chunk x0 x1 l 2 (q + 1) := by
  intro n
  induction n with
  | zero => intro _; simp only [Finset.range_zero, Finset.sum_empty, add_zero]; exact ⟨rfl, rfl, rfl⟩
  | succ n ih =>
    intro hn
    have h := st_k0_t1_succ 𝒱 c bd i arg2 harg2 arg3 harg3 arg4 harg4 arg5 harg5 arg6 harg6 v1 v3 v5 v9 v51 v60 v70 v113 (harg2.unread x0) (harg3.unread x1) init ⟨n, hn⟩
    obtain ⟨i0, i1, i2⟩ := ih (Nat.le_of_succ_le hn)
    obtain ⟨t0, t1, t2⟩ := trip_sums c i arg2 harg2 arg3 harg3 arg4 harg4 arg5 harg5 arg6 harg6 x0 x1 𝒱 bd v1 v3 v5 v9 v51 v60 v70 v113 ⟨n, hn⟩ ((st_k0_t1 𝒱 c bd i arg2 harg2 arg3 harg3 arg4 harg4 arg5 harg5 arg6 harg6 v1 v3 v5 v9 v51 v60 v70 v113 (harg2.unread x0) (harg3.unread x1) init n).1) l
    rw [show n + 1 = (⟨n, hn⟩ : Fin k0_t1_loop.trips).val + 1 from rfl, h]
    dsimp only at t0 t1 t2 ⊢
    rw [Finset.sum_range_succ, Finset.sum_range_succ, Finset.sum_range_succ]
    exact ⟨by rw [t0, i0, add_assoc], by rw [t1, i1, add_assoc], by rw [t2, i2, add_assoc]⟩

end Cert.ConvVal
-- ==== Proof.ConvRun.lean ====
module
public import proofs.«01_k».proof.Proof.ConvTile
public import Idealize.ShloMosaic.Lib.Pipeline.ValueKit
public import Idealize.ShloMosaic.Lib.Pipeline.ReadBack
public import Idealize.ShloMosaic.Lib.Pointwise
@[expose] public section
set_option maxRecDepth 16384
noncomputable section
namespace Cert.ConvVal
open Idealize.ShloMosaic Idealize.ShloMosaic.TcCoe Idealize.SL.Sem Cert.ConvIdeal Cert.ConvIdeal.Gen
variable (c : Dev nD) (i : grid0.Coords) (arg2 : Memref sig .tc .vmem S3x1x4096x256 .bf16) (harg2 : arg2.IsWhole) (arg3 : Memref sig .tc .vmem S1x4096x256 .f32) (harg3 : arg3.IsWhole) (arg4 : Memref sig .tc .vmem S1x1x3x256 .f32) (harg4 : arg4.IsWhole) (arg5 : Memref sig .tc .vmem S3x1x4096x256 .bf16) (harg5 : arg5.IsWhole) (arg6 : Memref sig .tc .vmem S3x256 .f32) (harg6 : arg6.IsWhole)
    (x0 : Vec Ideal S3x1x4096x256 .bf16) (x1 : Vec Ideal S1x4096x256 .f32) (x2 : Vec Ideal S1x1x3x256 .f32)

/-- THE GATES' BLOCK: in both cases the body stores the same pieces into the first output's memref, and every piece holds the gates' cotangents
    at its rows. -/
theorem gates : ∃ L : List (View.Piece (Elt Ideal) S3x1x4096x256 .bf16),
    (∀ hA, (kernelRun0_A c i arg2 harg2 arg3 harg3 arg4 harg4 arg5 harg5 arg6 harg6 hA x0 x1 x2).1 = L)
    ∧ (∀ hB xo4, (kernelRun0_B c i arg2 harg2 arg3 harg3 arg4 harg4 arg5 harg5 arg6 harg6 hB x0 x1 x2 xo4).1 = L)
    ∧ ∀ p ∈ L, ∀ x, p.2 x = blkD x0 x1 x2 (p.1.emb x) := by
  apply Exists.intro
  refine ⟨fun hA => ?_, fun hB xo4 => ?_, ?_⟩
  · unfold kernelRun0_A
    dsimp only
  · unfold kernelRun0_B
    dsimp only
    exact rfl
  sl_unfold_words
  simp only [View.readAt_eq_ld, harg2.read_unread, harg3.read_unread, harg4.read_unread]
  rw [List.forall_mem_cons, List.forall_mem_cons, List.forall_mem_cons, List.forall_mem_append, List.forall_mem_cons, List.forall_mem_cons, List.forall_mem_cons]
  refine ⟨?_, ?_, ?_, ?_, ?_, ?_, ?_, fun _ h => (List.not_mem_nil h).elim⟩
  case refine_4 =>
    exact state_pieces _ _ _ _ _ _ _ _ _ _ _ _ _ _ _ _ _ _ _ _ _ _ _ _ _
      (fun l => by unfold_payloads; pointwise; simp only [tap_mk x2]; rfl) (fun l => by unfold_payloads; pointwise; simp only [tap_mk x2]; rfl)
      (fun l => by unfold_payloads; pointwise; simp only [tap_mk x2]; rfl) _ _ (by decide +kernel)
  all_goals
    intro x
    change S1x1x256x256.Idx at x
    obtain ⟨q0, q1, a, l, rfl⟩ : ∃ (q0 q1 : Fin 1) (a l : Fin 256), x = ix4 q0 q1 a l := ⟨x 0, x 1, x 2, x 3, eq_ix4 x⟩
    obtain rfl : q0 = 0 := Subsingleton.elim _ _
    obtain rfl : q1 = 0 := Subsingleton.elim _ _
    rw [blkD_emb]
    unfold_payloads
    pointwise
    simp (disch := omega) only [row0_mk x0, rowZ_mk x1, tap_mk x2, mask_ge1, mask_ge2, mask_lt1, mask_lt2, select_ite, dite_eq_ite, Fin.val_zero, Fin.val_one, Fin.val_two,
      tile_first1, tile_first2, tile_last1, tile_last2, tile_back1, tile_back2, tile_start1, tile_start2, tile_ahead1, tile_ahead2]
    rfl

/-- The cotangent of tap `j` at lane `l` of one batch row: the sum over its sixteen chunks. -/
def total (l : Fin 256) (j : ℕ) : EReal :=
  chunk x0 x1 l j 0 + ∑ q ∈ Finset.range 14, chunk x0 x1 l j (q + 1) + chunk x0 x1 l j 15

/-- The loop runs fourteen trips. -/
theorem trips_le : Scf.trips (1#32) (Scalar.addi 1#32 14#32) 1#32 ≤ k0_t1_loop.trips := by decide +kernel

theorem total_eq (l : Fin 256) (j : ℕ) {s0 s1 : EReal}
    (h0 : s0 = ∑ a : Fin 256, zb x0 x1 l a * back (cu x0 l) j a) (h1 : s1 = ∑ a : Fin 256, zb x0 x1 l (3840 + a) * back (cu x0 l) j (3840 + a)) :
    total x0 x1 l j = s0 + ∑ q ∈ Finset.range (Scf.trips (1#32) (Scalar.addi 1#32 14#32) 1#32), chunk x0 x1 l j (q + 1) + s1 := by
  subst h0; subst h1
  have h : ∀ n o, 256 * n = o → chunk x0 x1 l j n = ∑ a : Fin 256, zb x0 x1 l (o + a) * back (cu x0 l) j (o + a) := by
    rintro n _ rfl; rfl
  have ht : Scf.trips (1#32) (Scalar.addi 1#32 14#32) 1#32 = 14 := by decide +kernel
  unfold total
  rw [ht, h 0 0 rfl, h 15 3840 rfl]
  simp only [Nat.zero_add]

/-- What case B leaves in the taps' block: the block before plus this batch row's part. -/
def accW (xo4 : Vec Ideal S3x256 .f32) : Vec Ideal S3x256 .f32 :=
  fun y => xo4 y + total x0 x1 (y 1) (y 0 : Fin 3).val

theorem accW_emb (xo4 : Vec Ideal S3x256 .f32) {j : ℕ} (hj : j < 3) (h) (l : Fin 256) :
    accW x0 x1 xo4 ((Rect.unit (s := S3x256) ![j, 0] ![1, 256] h).emb (ix2 0 l)) = xo4 (ix2 ⟨j, hj⟩ l) + total x0 x1 l j := by
  have he : (Rect.unit (s := S3x256) ![j, 0] ![1, 256] h).emb (ix2 0 l) = ix2 ⟨j, hj⟩ l := by
    refine (eq_ix2 _).trans ?_
    congr 1
    exact Fin.ext (by show 0 + 1 * (l : ℕ) = l; omega)
  rw [he]; rfl

theorem taps_B (hc0 : ¬cond0_0 i) (xo4 : Vec Ideal S3x256 .f32) :
    ∀ p ∈ (kernelRun0_B c i arg2 harg2 arg3 harg3 arg4 harg4 arg5 harg5 arg6 harg6 hc0 x0 x1 x2 xo4).2.1, ∀ x, p.2 x = accW x0 x1 xo4 (p.1.emb x) := by
  unfold kernelRun0_B
  dsimp only
  sl_unfold_words
  simp only [View.readAt_eq_ld, harg2.read_unread, harg3.read_unread, harg4.read_unread, harg6.read_unread]
  rw [List.forall_mem_cons, List.forall_mem_cons, List.forall_mem_cons]
  refine ⟨?_, ?_, ?_, fun _ h => (List.not_mem_nil h).elim⟩
  all_goals
    intro x
    dsimp only
    change S1x256.Idx at x
    obtain ⟨q0, l, rfl⟩ : ∃ (q0 : Fin 1) (l : Fin 256), x = ix2 q0 l := ⟨x 0, x 1, eq_ix2 x⟩
    obtain rfl : q0 = 0 := Subsingleton.elim _ _
    refine Eq.trans ?_ (accW_emb x0 x1 xo4 (by decide) _ l).symm
    unfold_payloads
    pointwise
    simp only [(state_sums c i arg2 harg2 arg3 harg3 arg4 harg4 arg5 harg5 arg6 harg6 x0 x1 _ _ _ _ _ _ _ _ _ _ _ l _ trips_le).1,
      (state_sums c i arg2 harg2 arg3 harg3 arg4 harg4 arg5 harg5 arg6 harg6 x0 x1 _ _ _ _ _ _ _ _ _ _ _ l _ trips_le).2.1,
      (state_sums c i arg2 harg2 arg3 harg3 arg4 harg4 arg5 harg5 arg6 harg6 x0 x1 _ _ _ _ _ _ _ _ _ _ _ l _ trips_le).2.2]
    pointwise
    simp (disch := omega) only [row0_mk x0, rowZ_mk x1, tap_mk x2, mask_ge1, mask_ge2, mask_lt1, mask_lt2, select_ite, dite_eq_ite, Fin.val_zero, Fin.val_one, Fin.val_two,
      tile_first1, tile_first2, tile_last1, tile_last2, tile_back1, tile_back2, tile_start1, tile_start2, tile_ahead1, tile_ahead2]
  · exact congrArg (xo4 (ix2 2 l) + ·) (total_eq x0 x1 l 2 rfl rfl).symm
  · exact congrArg (xo4 (ix2 1 l) + ·) (total_eq x0 x1 l 1 rfl rfl).symm
  · exact congrArg (xo4 (ix2 0 l) + ·) (total_eq x0 x1 l 0 (by simp only [back_zero]; rfl) (by simp only [back_zero]; rfl)).symm

/-- Three row stores cover the taps' block. -/
theorem rows_cover (w2 : (Rect.unit (s := S3x256) ![2, 0] ![1, 256] inb_S3x256_S1x256_2_0).shape.Idx → Elt Ideal .f32)
    (w1 : (Rect.unit (s := S3x256) ![1, 0] ![1, 256] inb_S3x256_S1x256_1_0).shape.Idx → Elt Ideal .f32)
    (w0 : (Rect.unit (s := S3x256) ![0, 0] ![1, 256] inb_S3x256_S1x256_0_0).shape.Idx → Elt Ideal .f32) (y : S3x256.Idx) :
    ∃ p ∈ ([⟨Rect.unit ![2, 0] ![1, 256] inb_S3x256_S1x256_2_0, w2⟩, ⟨Rect.unit ![1, 0] ![1, 256] inb_S3x256_S1x256_1_0, w1⟩,
      ⟨Rect.unit ![0, 0] ![1, 256] inb_S3x256_S1x256_0_0, w0⟩] : List (View.Piece (Elt Ideal) S3x256 .f32)), y ∈ p.1.set :=
  View.cover_of_tiledL (Val := Elt Ideal) (s := S3x256) (e := .f32) [⟨Rect.unit ![2, 0] ![1, 256] inb_S3x256_S1x256_2_0, w2⟩, ⟨Rect.unit ![1, 0] ![1, 256] inb_S3x256_S1x256_1_0, w1⟩,
      ⟨Rect.unit ![0, 0] ![1, 256] inb_S3x256_S1x256_0_0, w0⟩] S1x256.size (by sl_kernel_rfl) y

/-- Case A zeroes the taps' block first, so it leaves this batch row's part. -/
theorem taps_A (hc0 : cond0_0 i) (y : S3x256.Idx) :
    VO0_4.read (Elt Ideal) (VO0_4.writes (Elt Ideal) VO0_4.junk (kernelRun0_A c i arg2 harg2 arg3 harg3 arg4 harg4 arg5 harg5 arg6 harg6 hc0 x0 x1 x2).2.1) y
      = accW x0 x1 (fun _ => 0) y := by
  unfold kernelRun0_A
  dsimp only
  sl_unfold_words
  simp (disch := decide) only [View.readAt_eq_ld, harg2.read_unread, harg3.read_unread, harg4.read_unread, View.readCov_skip, View.readCov_fill]
  refine View.read_writes_apply_of_pieces VO0_4 (VO0_4.writes (Elt Ideal) VO0_4.junk [_]) (accW x0 x1 (fun _ => 0)) [_, _, _] ?_ y (rows_cover _ _ _ y)
  rw [List.forall_mem_cons, List.forall_mem_cons, List.forall_mem_cons]
  refine ⟨?_, ?_, ?_, fun _ h => (List.not_mem_nil h).elim⟩
  all_goals
    intro x
    dsimp only
    change S1x256.Idx at x
    obtain ⟨q0, l, rfl⟩ : ∃ (q0 : Fin 1) (l : Fin 256), x = ix2 q0 l := ⟨x 0, x 1, eq_ix2 x⟩
    obtain rfl : q0 = 0 := Subsingleton.elim _ _
    refine Eq.trans ?_ (accW_emb x0 x1 (fun _ => 0) (by decide) _ l).symm
    unfold_payloads
    pointwise
    simp only [(state_sums c i arg2 harg2 arg3 harg3 arg4 harg4 arg5 harg5 arg6 harg6 x0 x1 _ _ _ _ _ _ _ _ _ _ _ l _ trips_le).1,
      (state_sums c i arg2 harg2 arg3 harg3 arg4 harg4 arg5 harg5 arg6 harg6 x0 x1 _ _ _ _ _ _ _ _ _ _ _ l _ trips_le).2.1,
      (state_sums c i arg2 harg2 arg3 harg3 arg4 harg4 arg5 harg5 arg6 harg6 x0 x1 _ _ _ _ _ _ _ _ _ _ _ l _ trips_le).2.2]
    pointwise
    simp (disch := omega) only [row0_mk x0, rowZ_mk x1, tap_mk x2, mask_ge1, mask_ge2, mask_lt1, mask_lt2, select_ite, dite_eq_ite, Fin.val_zero, Fin.val_one, Fin.val_two,
      tile_first1, tile_first2, tile_last1, tile_last2, tile_back1, tile_back2, tile_start1, tile_start2, tile_ahead1, tile_ahead2]
  · exact (total_eq x0 x1 l 2 rfl rfl).symm
  · exact (total_eq x0 x1 l 1 rfl rfl).symm
  · exact (total_eq x0 x1 l 0 (by simp only [back_zero]; rfl) (by simp only [back_zero]; rfl)).symm

end Cert.ConvVal
-- ==== Proof.ConvOut.lean ====
/-
  The short convolution's backward pass: what each case leaves in the two outputs' blocks, as closed blocks.
-/
module

public import proofs.«01_k».proof.Proof.ConvRun
public import Idealize.ShloMosaic.Lib.Pipeline.ValueKit

@[expose] public section

set_option maxRecDepth 16384

noncomputable section

namespace Cert.ConvVal

open Idealize.ShloMosaic Idealize.ShloMosaic.TcCoe Idealize.SL.Sem Cert.ConvIdeal Cert.ConvIdeal.Gen

variable (m : (ℓ : Loc nD τ sig) → Buf (Elt Ideal) ℓ) (c : Dev nD)

/-- After every point the first output's block holds the gates' cotangents of the point's input blocks. -/
theorem outs_gates (t : Fin cfg0.N) :
    (outsAt0 m c t.val t.isLt).1 = blkD (iblk m c 0 t) (iblk m c 1 t) (iblk m c 2 t) := by
  obtain ⟨L, hLA, hLB, hp⟩ := gates c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t)
  by_cases h0 : t.val % 2 = 0
  · rw [outsAt0_A m c t h0]
    dsimp only
    unfold out0_A_3
    funext y
    refine View.read_writes_apply_of_pieces VO0_3 _ _ _ ?_ y (cover0_A_3 ..)
    rw [hLA]
    exact hp
  · rw [outsAt0_B m c t h0]
    dsimp only
    unfold out0_B_3
    funext y
    refine View.read_writes_apply_of_pieces VO0_3 _ _ _ ?_ y (cover0_B_3 ..)
    rw [hLB]
    exact hp

/-- After an even point the taps' block holds that batch row's part. -/
theorem outs_taps_even (t : Fin cfg0.N) (h0 : t.val % 2 = 0) :
    (outsAt0 m c t.val t.isLt).2 = accW (iblk m c 0 t) (iblk m c 1 t) (fun _ => 0) := by
  rw [outsAt0_A m c t h0]
  dsimp only
  unfold out0_A_4
  funext y
  exact taps_A c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) ((hcond0_0 t).mpr h0) y

/-- After an odd point it holds both batch rows' parts. -/
theorem outs_taps_odd (t : Fin cfg0.N) (h0 : ¬t.val % 2 = 0) :
    (outsAt0 m c t.val t.isLt).2 = accW (iblk m c 0 t) (iblk m c 1 t)
      (accW (iblk m c 0 ⟨t.val - 1, Nat.lt_of_le_of_lt (Nat.sub_le _ _) t.isLt⟩) (iblk m c 1 ⟨t.val - 1, Nat.lt_of_le_of_lt (Nat.sub_le _ _) t.isLt⟩) (fun _ => 0)) := by
  rw [← outs_taps_even m c ⟨t.val - 1, Nat.lt_of_le_of_lt (Nat.sub_le _ _) t.isLt⟩ (by dsimp only; omega), outsAt0_B m c t h0]
  dsimp only
  unfold out0_B_4
  funext y
  exact View.read_writes_apply_of_pieces VO0_4 _ _ _
    (taps_B c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (fun h => h0 ((hcond0_0 t).mp h)) _) y (cover0_B_4 ..)

end Cert.ConvVal
-- ==== Proof.ConvArr.lean ====
/-
  The short convolution's backward pass on whole arrays: the gates', the cotangent's and the taps' sequences of one batch
  row and one channel, the gradient's arrays, and the kernel's two output arrays as them.
-/
module

public import proofs.«01_k».proof.Proof.ConvOut
public import Idealize.ShloMosaic.Lib.Pipeline.ValueKit
public import Idealize.ShloMosaic.Lib.Pointwise
public import Idealize.ShloMosaic.Lib.Claim

@[expose] public section

set_option maxRecDepth 16384

noncomputable section

namespace Cert.ConvVal

open Idealize.ShloMosaic Idealize.ShloMosaic.TcCoe Idealize.SL.Sem Cert.ConvIdeal Cert.ConvIdeal.Gen

/-- Gate `p` of batch row `b`, channel `d`, as a sequence of rows, zero past the end. -/
def seqG (X : Vec Ideal S3x2x4096x1024 .bf16) (p : ℕ) (b : Fin 2) (d : Fin 1024) (r : ℕ) : EReal :=
  if h : p < 3 ∧ r < 4096 then X (ix4 ⟨p, h.1⟩ b ⟨r, h.2⟩ d) else 0

/-- The cotangent of batch row `b`, channel `d`. -/
def seqZ (Z : Vec Ideal S2x4096x1024 .f32) (b : Fin 2) (d : Fin 1024) (r : ℕ) : EReal :=
  if h : r < 4096 then Z (ix3 b ⟨r, h⟩ d) else 0

/-- The first layer's taps of channel `d`. -/
def seqW (W : Vec Ideal S2x3x1024 .f32) (d : Fin 1024) (k : ℕ) : EReal :=
  if h : k < 3 then W (ix3 0 ⟨k, h⟩ d) else 0

/-- THE GATES' GRADIENT as an array. -/
def gatesGrad (X : Vec Ideal S3x2x4096x1024 .bf16) (Z : Vec Ideal S2x4096x1024 .f32) (W : Vec Ideal S2x3x1024 .f32) : Vec Ideal S3x2x4096x1024 .bf16 :=
  fun y => dgate (seqW W (y 3)) (seqZ Z (y 1) (y 3)) (seqG X 0 (y 1) (y 3)) (seqG X 1 (y 1) (y 3)) (seqG X 2 (y 1) (y 3)) (y 0 : Fin 3).val (y 2 : Fin 4096).val

/-- Batch row `b`'s part of the cotangent of tap `k` of channel `d`. -/
def tapPart (X : Vec Ideal S3x2x4096x1024 .bf16) (Z : Vec Ideal S2x4096x1024 .f32) (b : Fin 2) (d : Fin 1024) (k : ℕ) : EReal :=
  ∑ r : Fin 4096, dwAt (seqZ Z b d) (seqG X 0 b d) (seqG X 1 b d) (seqG X 2 b d) k (r : ℕ)

/-- THE TAPS' GRADIENT as an array: the sum over batch rows and rows. -/
def tapsGrad (X : Vec Ideal S3x2x4096x1024 .bf16) (Z : Vec Ideal S2x4096x1024 .f32) : Vec Ideal S3x1024 .f32 :=
  fun y => tapPart X Z 0 (y 1) (y 0 : Fin 3).val + tapPart X Z 1 (y 1) (y 0 : Fin 3).val

/-- Sixteen chunks of 256 rows are the 4096 rows. -/
theorem total_sum (x0 : Vec Ideal S3x1x4096x256 .bf16) (x1 : Vec Ideal S1x4096x256 .f32) (l : Fin 256) (j : ℕ) :
    total x0 x1 l j = ∑ r : Fin 4096, dwAt (rowZ x1 l) (row0 x0 0 l) (row0 x0 1 l) (row0 x0 2 l) j (r : ℕ) := by
  have hs : ∀ n, chunk x0 x1 l j n = ∑ a ∈ Finset.range 256, dwAt (rowZ x1 l) (row0 x0 0 l) (row0 x0 1 l) (row0 x0 2 l) j (256 * n + a) :=
    fun n => Fin.sum_univ_eq_sum_range (fun a => dwAt (rowZ x1 l) (row0 x0 0 l) (row0 x0 1 l) (row0 x0 2 l) j (256 * n + a)) 256
  have h16 : total x0 x1 l j = ∑ n ∈ Finset.range 16, chunk x0 x1 l j n := by
    unfold total
    rw [Finset.sum_range_succ _ 15, Finset.sum_range_succ' _ 14, add_comm (chunk x0 x1 l j 0)]
  rw [h16, Finset.sum_congr rfl fun n _ => hs n, Fin.sum_univ_eq_sum_range (fun r => dwAt (rowZ x1 l) (row0 x0 0 l) (row0 x0 1 l) (row0 x0 2 l) j r) 4096]
  simp only [Nat.mul_comm 256]
  exact (Finset.sum_range_mul_split 16 256 (fun r => dwAt (rowZ x1 l) (row0 x0 0 l) (row0 x0 1 l) (row0 x0 2 l) j r)).symm

/-- The windows' index maps. -/
theorem idx : ∀ t : Fin cfg0.N, win0_0.index t = ![0, t.val % 2, 0, t.val / 2] ∧ win0_1.index t = ![t.val % 2, 0, t.val / 2]
    ∧ win0_2.index t = ![t.val / 2, 0, 0, 0] ∧ win0_3.index t = ![0, t.val % 2, 0, t.val / 2] ∧ win0_4.index t = ![0, t.val / 2] :=
  (by decide +kernel : ∀ t : Fin grid0.N, win0_0.index t = ![0, t.val % 2, 0, t.val / 2] ∧ win0_1.index t = ![t.val % 2, 0, t.val / 2]
    ∧ win0_2.index t = ![t.val / 2, 0, 0, 0] ∧ win0_3.index t = ![0, t.val % 2, 0, t.val / 2] ∧ win0_4.index t = ![0, t.val / 2])

variable (m : (ℓ : Loc nD τ sig) → Buf (Elt Ideal) ℓ) (c : Dev nD)

/-- The gates' array. -/
abbrev aX : Vec Ideal S3x2x4096x1024 .bf16 := m ((c : Thread nD τ).loc main_arg0)
/-- The cotangent's array. -/
abbrev aZ : Vec Ideal S2x4096x1024 .f32 := m ((c : Thread nD τ).loc main_arg1)
/-- The taps' array. -/
abbrev aW : Vec Ideal S2x3x1024 .f32 := m ((c : Thread nD τ).loc main_arg2)

/-- Channel `l` of column block `t / 2`. -/
abbrev chan (t : Fin cfg0.N) (l : Fin 256) : Fin 1024 := ⟨256 * (t.val / 2) + l.val, by have : t.val < 8 := t.isLt; omega⟩
/-- The batch row of a point. -/
abbrev brow (t : Fin cfg0.N) : Fin 2 := ⟨t.val % 2, by omega⟩

theorem read0 (t : Fin cfg0.N) (p : Fin 3) (r : Fin 4096) (l : Fin 256) :
    (iblk m c 0 t : Vec Ideal S3x1x4096x256 .bf16) (ix4 p 0 r l) = aX m c (ix4 p (brow t) r (chan t l)) := by
  blk_ext [iblk, V, idx t]

theorem read1 (t : Fin cfg0.N) (r : Fin 4096) (l : Fin 256) :
    (iblk m c 1 t : Vec Ideal S1x4096x256 .f32) (ix3 0 r l) = aZ m c (ix3 (brow t) r (chan t l)) := by
  blk_ext [iblk, V, idx t]

theorem read2 (t : Fin cfg0.N) (k : Fin 3) (l : Fin 256) :
    (iblk m c 2 t : Vec Ideal S1x1x3x256 .f32) (ix4 0 0 k l) = aW m c (ix3 0 k (chan t l)) := by
  blk_simp [iblk, idx t]
  entry_read
  pointwise
  blk_ext [idx t]

theorem row0_eq (t : Fin cfg0.N) (p : ℕ) (l : Fin 256) : row0 (iblk m c 0 t) p l = seqG (aX m c) p (brow t) (chan t l) := by
  funext r
  unfold row0 seqG
  split
  · exact read0 m c t _ _ l
  · rfl

theorem rowZ_eq (t : Fin cfg0.N) (l : Fin 256) : rowZ (iblk m c 1 t) l = seqZ (aZ m c) (brow t) (chan t l) := by
  funext r
  unfold rowZ seqZ
  split
  · exact read1 m c t _ l
  · rfl

theorem tap_eq (t : Fin cfg0.N) (l : Fin 256) : tap (iblk m c 2 t) l = seqW (aW m c) (chan t l) := by
  funext r
  unfold tap seqW
  split
  · exact read2 m c t _ l
  · rfl

/-- THE FIRST OUTPUT ARRAY. -/
theorem arr_gates : (dats m 0 c).arrAt 3 cfg0.N = gatesGrad (aX m c) (aZ m c) (aW m c) := by
  refine (dats m 0 c).arrAt_eq_of_covers 3 _ (by decide +kernel) fun t hf y => ?_
  blk_simp
  rw [after0_3, outs_gates]
  change S3x1x4096x256.Idx at y
  obtain ⟨p, q, r, l, rfl⟩ : ∃ (p : Fin 3) (q : Fin 1) (r : Fin 4096) (l : Fin 256), y = ix4 p q r l := ⟨y 0, y 1, y 2, y 3, eq_ix4 y⟩
  obtain rfl : q = 0 := Subsingleton.elim _ _
  have he : (win0_3.blk t).view.emb (ix4 p 0 r l : S3x1x4096x256.Idx) = (ix4 p (brow t) r (chan t l) : S3x2x4096x1024.Idx) := by blk_ext [idx t]
  rw [he]
  show dgate (tap (iblk m c 2 t) l) (rowZ (iblk m c 1 t) l) (row0 (iblk m c 0 t) 0 l) (row0 (iblk m c 0 t) 1 l) (row0 (iblk m c 0 t) 2 l) p.val r.val = _
  rw [tap_eq, rowZ_eq, row0_eq, row0_eq, row0_eq]
  rfl

/-- THE SECOND OUTPUT ARRAY. -/
theorem arr_taps : (dats m 0 c).arrAt 4 cfg0.N = tapsGrad (aX m c) (aZ m c) := by
  refine (dats m 0 c).arrAt_eq_of_covers 4 _ (by decide +kernel) fun t hf y => ?_
  blk_simp
  rw [after0_4]
  have ho : ¬t.val % 2 = 0 := by have := (flush0_4 t).mp hf; omega
  rw [outs_taps_odd m c t ho]
  change S3x256.Idx at y
  obtain ⟨k, l, rfl⟩ : ∃ (k : Fin 3) (l : Fin 256), y = ix2 k l := ⟨y 0, y 1, eq_ix2 y⟩
  have he : (win0_4.blk t).view.emb (ix2 k l : S3x256.Idx) = (ix2 k (chan t l) : S3x1024.Idx) := by blk_ext [idx t]
  rw [he]
  show (0 : EReal) + total _ _ l k.val + total (iblk m c 0 t) (iblk m c 1 t) l k.val = _
  rw [zero_add, total_sum, total_sum]
  simp only [rowZ_eq, row0_eq]
  have h1 : brow t = 1 := Fin.ext (by show t.val % 2 = 1; omega)
  have h0 : brow ⟨t.val - 1, Nat.lt_of_le_of_lt (Nat.sub_le _ _) t.isLt⟩ = 0 := Fin.ext (by show (t.val - 1) % 2 = 0; omega)
  have hc : chan ⟨t.val - 1, Nat.lt_of_le_of_lt (Nat.sub_le _ _) t.isLt⟩ l = chan t l := Fin.ext (by show 256 * ((t.val - 1) / 2) + l.val = 256 * (t.val / 2) + l.val; omega)
  rw [h0, h1, hc]
  rfl

end Cert.ConvVal
-- ==== Proof.ConvRefRead.lean ====
/-
  The reference's backward pass of the short convolution read at an index: the same sequences.
-/
module

public import proofs.«01_k».proof.Proof.ConvArr
public import proofs.«01_k».proof.Proof.Gen.ConvRefIdeal.Run
public import Idealize.ShloMosaic.Lib.Pipeline.ValueKit
public import Idealize.ShloMosaic.Lib.Pointwise

@[expose] public section

set_option maxRecDepth 16384

noncomputable section

namespace Cert.ConvRefVal

open Idealize.ShloMosaic Idealize.ShloMosaic.TcCoe Idealize.SL.Sem Cert.ConvRefIdeal Cert.ConvRefIdeal.Gen Cert.ConvVal

/-- A sum over the first two axes of three, at a result index: first the batch rows, then the rows. -/
@[pointwise] theorem sum_batch_rows {n0 n1 n2 : ℕ} (h : (⟨3, ![n0, n1, n2]⟩ : Shape).ReducesTo [0, 1] ⟨1, ![n2]⟩) (v : (⟨3, ![n0, n1, n2]⟩ : Shape).Idx → EReal)
    (init : EReal) (j : (⟨1, ![n2]⟩ : Shape).Idx) :
    Ideal.hostReduceAdd h v init j = init + ∑ b : Fin n0, ∑ r : Fin n1, v (ix3 b r (j 0)) := by
  unfold Ideal.hostReduceAdd
  refine congrArg (init + ·) ?_
  refine (Finset.sum_filter_eq_sum_of_fiber (fun i => h.drop i = j) (fun k : Fin n0 × Fin n1 => ix3 k.1 k.2 (j 0)) (fun _ _ e => Prod.ext (congrFun e 0) (congrFun e 1)) ?_ v).trans ?_
  · intro i
    refine ⟨fun e => ⟨(i 0, i 1), ?_⟩, ?_⟩
    · have hj : (j 0).val = (i 2).val := (congrArg Fin.val (congrFun e 0)).symm
      refine (congrArg (fun q => ix3 (i 0) (i 1) q) (Fin.ext hj)).trans (eq_ix3 i).symm
    · rintro ⟨k, rfl⟩
      funext a
      obtain rfl : a = 0 := Subsingleton.elim _ _
      rfl
  · exact Fintype.sum_prod_type _

variable (X : Vec Ideal Cert.ConvIdeal.S3x2x4096x1024 .bf16) (Z : Vec Ideal Cert.ConvIdeal.S2x4096x1024 .f32) (W : Vec Ideal Cert.ConvIdeal.S2x3x1024 .f32) (b : Fin 2) (d : Fin 1024)

theorem seqG_at (p : Fin 3) (r : Fin 4096) : (X (ix4 p b r d) : EReal) = seqG X p.val b d r.val := by
  unfold seqG; rw [dif_pos ⟨p.isLt, r.isLt⟩]

theorem seqZ_at (r : Fin 4096) : (Z (ix3 b r d) : EReal) = seqZ Z b d r.val := by
  unfold seqZ; rw [dif_pos r.isLt]

theorem seqW_at (k : Fin 3) : (W (ix3 0 k d) : EReal) = seqW W d k.val := by
  unfold seqW; rw [dif_pos k.isLt]

/-- Two rows ahead, zero past the end. -/
theorem ahead2 (w : EReal) (r : ℕ) :
    (if 2 + r < 4096 then w * (seqG X 0 b d (2 + r) * seqZ Z b d (2 + r)) else 0) = w * (seqZ Z b d (r + 2) * seqG X 0 b d (r + 2)) := by
  rw [Nat.add_comm 2 r]
  by_cases h : r + 2 < 4096
  · rw [if_pos h, mul_comm (seqG _ _ _ _ _)]
  · have hz : seqZ Z b d (r + 2) = 0 := dif_neg h
    rw [if_neg h, hz, zero_mul, mul_zero]

/-- One row ahead, zero past the end. -/
theorem ahead1 (w : EReal) (r : ℕ) :
    (if 1 ≤ 2 + r ∧ 2 + r - 1 < 4096 then w * (seqG X 0 b d (2 + r - 1) * seqZ Z b d (2 + r - 1)) else 0) = w * (seqZ Z b d (r + 1) * seqG X 0 b d (r + 1)) := by
  obtain e : 2 + r - 1 = r + 1 := by omega
  rw [e]
  by_cases h : r + 1 < 4096
  · rw [if_pos ⟨by omega, h⟩, mul_comm (seqG _ _ _ _ _)]
  · have hz : seqZ Z b d (r + 1) = 0 := dif_neg h
    rw [if_neg fun q => h q.2, hz, zero_mul, mul_zero]

/-- Two rows before, zero before the start. -/
theorem before2 (r : ℕ) :
    (if r < 2 then 0 else seqG X 1 b d (r - 2) * seqG X 2 b d (r - 2)) = back (fun r => seqG X 1 b d r * seqG X 2 b d r) 2 r := by
  unfold back
  by_cases h : r < 2
  · rw [if_pos h, if_neg (by omega)]
  · rw [if_neg h, if_pos (by omega)]

/-- One row before is two rows before the next row. -/
theorem before1 (f : ℕ → EReal) (r : ℕ) : back f 2 (1 + r) = back f 1 r := by
  unfold back
  have e : 1 + r - 2 = r - 1 := by omega
  rw [e]
  by_cases h : 1 ≤ r
  · rw [if_pos h, if_pos (by omega)]
  · rw [if_neg h, if_neg (by omega)]

/-- The same, where the reference writes the two rows out. -/
theorem before1_ite (r : ℕ) :
    (if 1 + r < 2 then 0 else seqG X 1 b d (1 + r - 2) * seqG X 2 b d (1 + r - 2)) = back (fun r => seqG X 1 b d r * seqG X 2 b d r) 1 r :=
  (before2 X b d (1 + r)).trans (before1 _ r)

/-- The taps' sums stand in the other order, and the cotangent's product too. -/
theorem dcu_comm (w z b : ℕ → EReal) (r : ℕ) :
    w 2 * (z (r + 2) * b (r + 2)) + w 1 * (z (r + 1) * b (r + 1)) + w 0 * (b r * z r) = dcu w z b r := by
  unfold dcu
  rw [add_comm, ← add_assoc, add_right_comm, mul_comm (b r)]

/-- The rows' sum of the tap two steps back, where the reference's first two rows are multiplied by zero. -/
theorem tap2 : (∑ x : Fin 2, seqG X 0 b d x.val * seqZ Z b d x.val * 0 +
      ∑ x : Fin 4094, seqG X 0 b d (2 + x.val) * seqZ Z b d (2 + x.val) * (seqG X 1 b d x.val * seqG X 2 b d x.val)) = tapPart X Z b d 2 := by
  unfold tapPart
  rw [Fin.sum_univ_add (a := 2) (b := 4094) (fun r : Fin (2 + 4094) => dwAt (seqZ Z b d) (seqG X 0 b d) (seqG X 1 b d) (seqG X 2 b d) 2 (r : ℕ))]
  refine congrArg₂ (· + ·) (Finset.sum_congr rfl fun x _ => ?_) (Finset.sum_congr rfl fun x _ => ?_)
  · have hb : back (fun r => seqG X 1 b d r * seqG X 2 b d r) 2 x.val = 0 := if_neg (by omega)
    show _ = seqZ Z b d x.val * seqG X 0 b d x.val * back (fun r => seqG X 1 b d r * seqG X 2 b d r) 2 x.val
    rw [hb, mul_zero, mul_zero]
  · have hb : back (fun r => seqG X 1 b d r * seqG X 2 b d r) 2 (2 + x.val) = seqG X 1 b d x.val * seqG X 2 b d x.val := by
      unfold back
      rw [if_pos (by omega)]
      simp only [Nat.add_sub_cancel_left]
    show _ = seqZ Z b d (2 + x.val) * seqG X 0 b d (2 + x.val) * back (fun r => seqG X 1 b d r * seqG X 2 b d r) 2 (2 + x.val)
    rw [hb, mul_comm (seqG X 0 b d _)]

theorem tap1 : (∑ x : Fin 4096, seqG X 0 b d x.val * seqZ Z b d x.val * back (fun r => seqG X 1 b d r * seqG X 2 b d r) 1 x.val) = tapPart X Z b d 1 :=
  Finset.sum_congr rfl fun x _ => by rw [mul_comm (seqG X 0 b d _)]; rfl

theorem tap0 : (∑ x : Fin 4096, seqG X 0 b d x.val * seqZ Z b d x.val * (seqG X 1 b d x.val * seqG X 2 b d x.val)) = tapPart X Z b d 0 :=
  Finset.sum_congr rfl fun x _ => by rw [mul_comm (seqG X 0 b d _)]; rfl

variable (m : (ℓ : Loc nD τ sig) → Buf (Elt Ideal) ℓ) (c : Dev nD)

set_option maxHeartbeats 4000000 in
/-- THE REFERENCE'S GATES' GRADIENT. -/
theorem ref_gates : (Value.res_main_v81 m c : Vec Ideal Cert.ConvIdeal.S3x2x4096x1024 .bf16)
    = gatesGrad (m (c.tc.loc main_arg0)) (m (c.tc.loc main_arg1)) (m (c.tc.loc main_arg2)) := by
  funext y
  obtain ⟨p, b, r, d, rfl⟩ : ∃ (p : Fin 3) (b : Fin 2) (r : Fin 4096) (d : Fin 1024), y = ix4 p b r d := ⟨y 0, y 1, y 2, y 3, eq_ix4 y⟩
  unfold Value.res_main_v81
  pointwise
  simp only [seqG_at (m (c.tc.loc main_arg0)), seqZ_at (m (c.tc.loc main_arg1)), seqW_at (m (c.tc.loc main_arg2)), dite_eq_ite, Fin.val_zero, Fin.val_one, Fin.val_two,
    ahead1, ahead2, before1, before2]
  show _ = dgate (seqW (m (c.tc.loc main_arg2)) d) (seqZ (m (c.tc.loc main_arg1)) b d) (seqG (m (c.tc.loc main_arg0)) 0 b d) (seqG (m (c.tc.loc main_arg0)) 1 b d) (seqG (m (c.tc.loc main_arg0)) 2 b d) p.val r.val
  have hd := dcu_comm (seqW (m (c.tc.loc main_arg2)) d) (seqZ (m (c.tc.loc main_arg1)) b d) (seqG (m (c.tc.loc main_arg0)) 0 b d) r.val
  rw [hd]
  match p with
  | 0 => simp [dgate, conv]
  | 1 => simp [dgate]
  | 2 =>
    simp [dgate]
    exact mul_comm _ _

set_option maxHeartbeats 4000000 in
/-- THE REFERENCE'S TAPS' GRADIENT. -/
theorem ref_taps : (Value.res_main_v68 m c : Vec Ideal Cert.ConvIdeal.S3x1024 .f32)
    = tapsGrad (m (c.tc.loc main_arg0)) (m (c.tc.loc main_arg1)) := by
  funext y
  obtain ⟨k, d, rfl⟩ : ∃ (k : Fin 3) (d : Fin 1024), y = ix2 k d := ⟨y 0, y 1, eq_ix2 y⟩
  unfold Value.res_main_v68
  pointwise
  simp only [seqG_at (m (c.tc.loc main_arg0)), seqZ_at (m (c.tc.loc main_arg1)), dite_eq_ite, Fin.val_zero, Fin.val_one, Fin.val_two,
    before1_ite, tap0, tap1, tap2]
  show _ = tapPart (m (c.tc.loc main_arg0)) (m (c.tc.loc main_arg1)) 0 d k.val + tapPart (m (c.tc.loc main_arg0)) (m (c.tc.loc main_arg1)) 1 d k.val
  match k with
  | 0 => simp [Fin.sum_univ_two]
  | 1 => simp [Fin.sum_univ_two]
  | 2 => simp [Fin.sum_univ_two]

end Cert.ConvRefVal
-- ==== Proof.ConvClaims.lean ====
/-
  The claims about the short convolution's backward pass.
-/
module

public import proofs.«01_k».proof.Defs
public import proofs.«01_k».proof.Proof.Gen.Conv.Frame
public import proofs.«01_k».proof.Proof.ConvArr
public import proofs.«01_k».proof.Proof.ConvRefRead

@[expose] public section

noncomputable section

namespace Cert.ConvClaims

open Idealize.ShloMosaic Idealize.ShloMosaic.TcCoe Idealize.SL.Sem

/-- The kernel as printed ends, its arguments unchanged and every counter at zero. -/
theorem ends : quiescent_Conv (hConv := Cert.Conv.Gen.facts) := fun m ρ _ => Cert.Conv.Gen.frame m ρ

/-- So does its exact form. -/
theorem ideal_ends : quiescent_ConvIdeal (hConvIdeal := Cert.ConvIdeal.Gen.facts) := fun m ρ _ => Cert.ConvIdeal.Gen.frame m ρ

/-- So does the reference. -/
theorem ref_ends : quiescent_ConvRefIdeal (hConvRefIdeal := Cert.ConvRefIdeal.Gen.facts) := fun m ρ _ =>
  (θ_run _ _ _).mono (fun r h => ⟨fun c => (h c).2.2, sem_eq_zero_of_no_sems (by decide) r.2⟩) (Cert.ConvRefIdeal.Value.run m ρ)

/-- Both programs' results are the gates' gradient and the taps' gradient of the arguments. -/
theorem equal : algebraic_ConvIdeal_ConvRefIdeal (hConvIdeal := Cert.ConvIdeal.Gen.facts) (hConvRefIdeal := Cert.ConvRefIdeal.Gen.facts) := by
  intro m ρ m' ρ' _ hag
  refine ⟨fun c => Cert.ConvVal.gatesGrad (Cert.ConvVal.aX m c) (Cert.ConvVal.aZ m c) (Cert.ConvVal.aW m c),
    fun c => Cert.ConvVal.tapsGrad (Cert.ConvVal.aX m c) (Cert.ConvVal.aZ m c),
    (θ_run _ _ _).mono (fun _ h c => ⟨(h c).1.trans (Cert.ConvVal.arr_gates m c), (h c).2.1.trans (Cert.ConvVal.arr_taps m c), (h c).2.2⟩)
      (Cert.ConvIdeal.Value.run_blocks m ρ),
    (θ_run _ _ _).mono (fun _ h c => ⟨(h c).1.trans ?_, (h c).2.1.trans ?_, (h c).2.2⟩) (Cert.ConvRefIdeal.Value.run m' ρ')⟩
  · refine (Cert.ConvRefVal.ref_gates m' c).trans ?_
    rw [(hag c).1, (hag c).2.1, (hag c).2.2]
  · refine (Cert.ConvRefVal.ref_taps m' c).trans ?_
    rw [(hag c).1, (hag c).2.1]

end Cert.ConvClaims
-- ==== Proof.MlpRow.lean ====
/-
  One token of the feed-forward block's backward pass, on extended reals: the normalisation's scale, the activation's
  cotangent, and the two ways to write the normalisation's gradient, which agree for every input.
-/
module

public import Idealize.ShloMosaic.Lib.Pipeline.ValueKit
public import Idealize.ShloMosaic.Lib.Pointwise

@[expose] public section

noncomputable section

namespace Cert.MlpRow

open Idealize.ShloMosaic

/-- The width, as the programs spell it. -/
abbrev width : EReal := Ideal.ofBits .f32 1149239296#32
/-- The constant under the root. -/
abbrev small : EReal := Ideal.ofBits .f32 925353388#32
/-- Two. -/
abbrev two : EReal := Ideal.ofBits .f32 1073741824#32
/-- Minus one half. -/
abbrev mhalf : EReal := Ideal.ofBits .f32 3204448256#32

theorem width_eq : width = ((1024 : ℝ) : EReal) := by
  simp [width, Ideal.ofBits, Ideal.ieee, -EReal.coe_mul] <;> norm_num

theorem mhalf_eq : mhalf = ((-(1 / 2) : ℝ) : EReal) := by
  simp [mhalf, Ideal.ofBits, Ideal.ieee, -EReal.coe_mul] <;> norm_num

theorem small_eq : ∃ e : ℝ, 0 < e ∧ small = (e : EReal) := by
  simp [small, Ideal.ofBits, Ideal.ieee, -EReal.coe_mul] <;> norm_num

variable {n : ℕ}

/-- The mean square of a token, with the small constant added. -/
def meanSq (h : Fin n → EReal) : EReal := Ideal.div (∑ x, h x * h x) width + small

/-- The normalisation's scale of a token. -/
def scale (h : Fin n → EReal) : EReal := Ideal.rsqrt (meanSq h)

/-- The pre-activation of one hidden unit: the normalised token times the gain, against the unit's weights. -/
def act (h g w : Fin n → EReal) : EReal := ∑ x, h x * scale h * g x * w x

/-- The cotangent of one hidden unit before the activation: the incoming cotangent times the derivative of the squared ramp. -/
def rampBack (d a : EReal) : EReal := d * (two * max a 0)

/-- The gradient of a token through the normalisation and the residual branch. -/
def rmsBack (h g z dn : Fin n → EReal) (d : Fin n) : EReal :=
  z d + scale h * (dn d * g d - h d * scale h * Ideal.div (∑ x, dn x * g x * (h x * scale h)) width)

/-- Where the ramp is flat the derivative is zero already. -/
theorem rampBack_ite (d a : EReal) [Decidable (0 < a)] : (if 0 < a then d * (two * max a 0) else 0) = rampBack d a := by
  unfold rampBack
  split
  · rfl
  · rename_i h
    rw [max_eq_right (not_lt.mp h), mul_zero, mul_zero]

theorem sq_nonneg' (x : EReal) : 0 ≤ x * x := by
  induction x with
  | bot => simp
  | top => simp
  | coe r => rw [← EReal.coe_mul]; exact_mod_cast mul_self_nonneg r

/-- A finite non-negative factor goes into a sum. -/
theorem mul_sum_coe {ι : Type} (s : Finset ι) (r : ℝ) (hr : 0 ≤ r) (f : ι → EReal) : (r : EReal) * ∑ x ∈ s, f x = ∑ x ∈ s, (r : EReal) * f x := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The mean square is plus infinity, or a positive real and then every entry of the token is real. -/
theorem meanSq_cases (h : Fin n → EReal) : meanSq h = ⊤ ∨ ∃ s : ℝ, 0 < s ∧ meanSq h = (s : EReal) ∧ ∀ x, ∃ v : ℝ, h x = (v : EReal) := by
  obtain ⟨e, he, hs⟩ := small_eq
  unfold meanSq
  rw [width_eq, hs, Ideal.div_coe (by norm_num : (1024 : ℝ) ≠ 0)]
  have h0 : 0 ≤ ∑ x, h x * h x := Finset.sum_nonneg fun x _ => sq_nonneg' (h x)
  by_cases ht : ∑ x, h x * h x = ⊤
  · left
    rw [ht, EReal.top_mul_coe_of_pos (by norm_num)]
    rfl
  · right
    have hb : ∑ x, h x * h x ≠ ⊥ := fun q => by rw [q] at h0; exact absurd h0 (by simp)
    have hr : ∀ x, ∃ v : ℝ, h x = (v : EReal) := by
      intro x
      have hx : h x * h x ≤ ∑ x, h x * h x := Finset.single_le_sum (f := fun x => h x * h x) (fun x _ => sq_nonneg' (h x)) (Finset.mem_univ x)
      generalize h x = v at hx
      induction v with
      | bot => exact absurd (top_le_iff.mp (by simpa using hx)) ht
      | top => exact absurd (top_le_iff.mp (by simpa using hx)) ht
      | coe r => exact ⟨r, rfl⟩
    lift (∑ x, h x * h x) to ℝ using ⟨ht, hb⟩ with S hS
    refine ⟨S * (1 / 1024) + e, ?_, ?_, hr⟩
    · have : (0 : ℝ) ≤ S := by exact_mod_cast h0
      positivity
    · rw [← EReal.coe_mul, ← EReal.coe_add]

/-- THE NORMALISATION'S GRADIENT: the chain rule through the mean square, each half of its product separately, is the projection
    off the token's own direction. -/
theorem rmsBack_chain (h g z dn : Fin n → EReal) (d : Fin n) :
    z d + dn d * g d * scale h + h d * Ideal.div ((∑ x, h x * (dn x * g x)) * (mhalf * Ideal.div (scale h) (meanSq h))) width
      + Ideal.div ((∑ x, h x * (dn x * g x)) * (mhalf * Ideal.div (scale h) (meanSq h))) width * h d = rmsBack h g z dn d := by
  unfold rmsBack scale
  rw [width_eq, mhalf_eq]
  simp only [Ideal.div_coe (by norm_num : (1024 : ℝ) ≠ 0)]
  rcases meanSq_cases h with ht | ⟨s, hs, he, hv⟩
  · rw [ht]
    have : Ideal.div 0 ⊤ = 0 := by simp [Ideal.div]
    simp [this]
  · rw [he, Ideal.rsqrt_coe, if_neg (not_lt.mpr hs.le), if_neg hs.ne', Ideal.div_coe hs.ne']
    obtain ⟨r, hr, hr0⟩ : ∃ r : ℝ, (Real.sqrt s)⁻¹ = r ∧ 0 < r := ⟨_, rfl, by positivity⟩
    have hsr : 1 / s = r * r := by
      rw [← hr, ← mul_inv, Real.mul_self_sqrt hs.le, one_div]
    rw [hr, hsr]
    obtain ⟨v, hvd⟩ := hv d
    rw [hvd]
    generalize hT : ∑ x, h x * (dn x * g x) = T
    have hsum : ∑ x, dn x * g x * (h x * (r : EReal)) = (r : EReal) * T := by
      rw [← hT, mul_sum_coe _ r hr0.le]
      exact Finset.sum_congr rfl fun x _ => by ac_rfl
    rw [hsum]
    generalize dn d * g d = p
    rw [sub_eq_add_neg, EReal.left_distrib_of_nonneg_of_ne_top (by exact_mod_cast hr0.le) (EReal.coe_ne_top r), mul_comm p, add_assoc, add_assoc]
    rw [mul_neg]
    have hA : (v : EReal) * (T * (((-(1 / 2) : ℝ) : EReal) * ((r : EReal) * ((r * r : ℝ) : EReal))) * ((1 / 1024 : ℝ) : EReal))
        = ((-(1 / 2) * (v * (r * (r * r)) * (1 / 1024)) : ℝ) : EReal) * T := by
      simp only [EReal.coe_mul]
      ac_rfl
    have hB : (r : EReal) * ((v : EReal) * (r : EReal) * ((r : EReal) * T * ((1 / 1024 : ℝ) : EReal))) = ((v * (r * (r * r)) * (1 / 1024) : ℝ) : EReal) * T := by
      simp only [EReal.coe_mul]
      ac_rfl
    rw [mul_comm _ (v : EReal), hA, hB]
    generalize v * (r * (r * r)) * (1 / 1024) = q
    have hC : ((-(1 / 2) * q : ℝ) : EReal) * T + ((-(1 / 2) * q : ℝ) : EReal) * T = -((q : EReal) * T) := by
      have e2 : ((-(1 / 2) * q : ℝ) : EReal) = ((-(1/2) : ℝ) : EReal) * (q : EReal) := EReal.coe_mul _ _
      rw [e2, mul_assoc]
      generalize (q : EReal) * T = u
      induction u with
      | bot => rw [EReal.coe_mul_bot_of_neg (by norm_num)]; rfl
      | top => rw [EReal.coe_mul_top_of_neg (by norm_num)]; rfl
      | coe u => rw [← EReal.coe_mul, ← EReal.coe_add, ← EReal.coe_neg]; congr 1; ring
    rw [hC]

end Cert.MlpRow
-- ==== Proof.Tiles.lean ====
/-
  Rectangles of a matrix that take every row: which index of the matrix an index of the rectangle is.
-/
module

public import Idealize.ShloMosaic.Lib.Pipeline.ValueKit
public import Idealize.ShloMosaic.Lib.Pointwise

@[expose] public section

namespace Cert.Tiles

open Idealize.ShloMosaic

/-- A rectangle of the columns from `o` on: the column moves by `o`. -/
theorem emb_cols {A B C o : ℕ} (h) (r : Fin A) (d : Fin C) (hd : o + d.val < B) :
    (Rect.unit (s := ⟨2, ![A, B]⟩) ![0, o] ![A, C] h).emb (ix2 r d) = ix2 r ⟨o + d.val, hd⟩ := by
  refine (eq_ix2 _).trans ?_
  congr 1
  · exact Fin.ext (by show 0 + 1 * (r : ℕ) = r; omega)
  · exact Fin.ext (by show o + 1 * (d : ℕ) = o + d; omega)

/-- The rectangle that is the whole matrix. -/
theorem emb_whole {A B : ℕ} (h) (r : Fin A) (d : Fin B) :
    (Rect.unit (s := ⟨2, ![A, B]⟩) ![0, 0] ![A, B] h).emb (ix2 r d) = ix2 r d := by
  refine (eq_ix2 _).trans ?_
  congr 1
  · exact Fin.ext (by show 0 + 1 * (r : ℕ) = r; omega)
  · exact Fin.ext (by show 0 + 1 * (d : ℕ) = d; omega)

end Cert.Tiles
-- ==== Proof.MlpRun.lean ====
/-
  The feed-forward block's backward pass on one block of 512 tokens: the hidden units' cotangents, the tokens' gradient and
  the block's part of the gain's gradient as closed blocks, and the pieces the body stores as them.
-/
module

public import proofs.«01_k».proof.Proof.MlpRow
public import proofs.«01_k».proof.Proof.Tiles
public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpVal

open Idealize.ShloMosaic Idealize.ShloMosaic.TcCoe Idealize.SL.Sem Cert.MlpIdeal Cert.MlpIdeal.Gen Cert.MlpRow

/-- Hidden unit `f` of chunk `ch`. -/
def hid (ch : Fin 4) (f : Fin 1024) : Fin 4096 :=
  (![⟨f.val, by omega⟩, ⟨1024 + f.val, by omega⟩, ⟨2048 + f.val, by omega⟩, ⟨3072 + f.val, by omega⟩] : Fin 4 → Fin 4096) ch

/-- The cotangent of hidden unit `f` of chunk `ch` at token `r` of the block. -/
def bda (x1 : Vec Ideal S512x1024 .bf16) (x2 : Vec Ideal S512x4096 .bf16) (x3 : Vec Ideal S4x1x1024x1024 .bf16) (r : Fin 512) (ch : Fin 4) (f : Fin 1024) : EReal :=
  rampBack (∑ k, x1 (ix2 r k) * x3 (ix4 ch 0 f k)) (x2 (ix2 r (hid ch f)))

/-- The cotangent of the normalised token: the hidden units' cotangents through the first weights, chunk by chunk. -/
def bdn (x1 : Vec Ideal S512x1024 .bf16) (x2 : Vec Ideal S512x4096 .bf16) (x3 x4 : Vec Ideal S4x1x1024x1024 .bf16) (r : Fin 512) (d : Fin 1024) : EReal :=
  ∑ f, bda x1 x2 x3 r 0 f * x4 (ix4 0 0 d f) + ∑ f, bda x1 x2 x3 r 1 f * x4 (ix4 1 0 d f)
    + ∑ f, bda x1 x2 x3 r 2 f * x4 (ix4 2 0 d f) + ∑ f, bda x1 x2 x3 r 3 f * x4 (ix4 3 0 d f)

/-- The hidden units' cotangents of the block. -/
def blkDa (x1 : Vec Ideal S512x1024 .bf16) (x2 : Vec Ideal S512x4096 .bf16) (x3 : Vec Ideal S4x1x1024x1024 .bf16) : Vec Ideal S512x4096 .bf16 :=
  fun y => bda x1 x2 x3 (y 0) ⟨(y 1 : Fin 4096).val / 1024, by have : (y 1 : Fin 4096).val < 4096 := (y 1 : Fin 4096).isLt; omega⟩ ⟨(y 1 : Fin 4096).val % 1024, by omega⟩

/-- The tokens' gradient of the block, at either width. -/
def blkD (x0 : Vec Ideal S512x1024 .f32) (x1 : Vec Ideal S512x1024 .bf16) (x2 : Vec Ideal S512x4096 .bf16) (x3 x4 : Vec Ideal S4x1x1024x1024 .bf16)
    (x5 : Vec Ideal S512x1024 .f32) (x6 : Vec Ideal S1x1024 .f32) : S512x1024.Idx → EReal :=
  fun y => rmsBack (fun k => x5 (ix2 (y 0) k)) (fun k => x6 (ix2 0 k)) (fun k => x0 (ix2 (y 0) k)) (fun k => bdn x1 x2 x3 x4 (y 0) k) (y 1)

/-- The block's part of the gain's gradient. -/
def partG (x1 : Vec Ideal S512x1024 .bf16) (x2 : Vec Ideal S512x4096 .bf16) (x3 x4 : Vec Ideal S4x1x1024x1024 .bf16) (x5 : Vec Ideal S512x1024 .f32) : Vec Ideal S1x1024 .f32 :=
  fun y => ∑ r, bdn x1 x2 x3 x4 r (y 1) * (x5 (ix2 r (y 1)) * scale (fun k => x5 (ix2 r k)))

/-- The same added to what the block held. -/
def accG (x1 : Vec Ideal S512x1024 .bf16) (x2 : Vec Ideal S512x4096 .bf16) (x3 x4 : Vec Ideal S4x1x1024x1024 .bf16) (x5 : Vec Ideal S512x1024 .f32)
    (xo : Vec Ideal S1x1024 .f32) : Vec Ideal S1x1024 .f32 :=
  fun y => xo y + partG x1 x2 x3 x4 x5 y

theorem hid_eq (ch : Fin 4) (d : Fin 1024) : (hid ch d).val = 1024 * ch.val + d.val := by
  fin_cases ch <;> simp [hid]

theorem blkDa_at (x1 : Vec Ideal S512x1024 .bf16) (x2 : Vec Ideal S512x4096 .bf16) (x3 : Vec Ideal S4x1x1024x1024 .bf16) (ch : Fin 4) (r : Fin 512) (d : Fin 1024) :
    blkDa x1 x2 x3 (ix2 r (hid ch d)) = bda x1 x2 x3 r ch d := by
  have h := hid_eq ch d
  show bda x1 x2 x3 r _ _ = _
  congr 1
  · exact Fin.ext (by show (hid ch d).val / 1024 = ch.val; omega)
  · exact Fin.ext (by show (hid ch d).val % 1024 = d.val; omega)

/-- A chunk of the hidden units' cotangents read through the store's rectangle. -/
theorem blkDa_emb (x1 : Vec Ideal S512x1024 .bf16) (x2 : Vec Ideal S512x4096 .bf16) (x3 : Vec Ideal S4x1x1024x1024 .bf16) {o : ℕ} (ch : Fin 4) (ho : o = 1024 * ch.val)
    (h) (r : Fin 512) (d : Fin 1024) : blkDa x1 x2 x3 ((Rect.unit (s := S512x4096) ![0, o] ![512, 1024] h).emb (ix2 r d)) = bda x1 x2 x3 r ch d := by
  have hi := hid_eq ch d
  have he : (Rect.unit (s := S512x4096) ![0, o] ![512, 1024] h).emb (ix2 r d) = ix2 r (hid ch d) :=
    (Cert.Tiles.emb_cols h r d (by have := (hid ch d).isLt; omega)).trans (congrArg (ix2 r) (Fin.ext (by dsimp only; omega)))
  rw [he, blkDa_at]

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x4096 .bf16) (harg3 : arg3.IsWhole) (arg4 : Memref sig .tc .vmem S4x1x1024x1024 .bf16) (harg4 : arg4.IsWhole) (arg5 : Memref sig .tc .vmem S4x1x1024x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x4096 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1x1024 .f32) (harg11 : arg11.IsWhole)
    (x0 : Vec Ideal S512x1024 .f32) (x1 : Vec Ideal S512x1024 .bf16) (x2 : Vec Ideal S512x4096 .bf16) (x3 : Vec Ideal S4x1x1024x1024 .bf16) (x4 : Vec Ideal S4x1x1024x1024 .bf16) (x5 : Vec Ideal S512x1024 .f32) (x6 : Vec Ideal S1x1024 .f32)

/-- Every piece stored in case A for the hidden units' cotangents is its closed block. -/
theorem da_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1, ∀ x, p.2 x = blkDa x1 x2 x3 (p.1.emb x) := by
  unfold kernelRun0_A
  dsimp only
  sl_unfold_words
  simp only [View.readAt_eq_ld, harg1.read_unread, harg2.read_unread, harg3.read_unread, harg4.read_unread, harg5.read_unread, harg6.read_unread, harg7.read_unread]
  rw [List.forall_mem_cons, List.forall_mem_cons, List.forall_mem_cons, List.forall_mem_cons]
  refine ⟨?_, ?_, ?_, ?_, fun _ h => (List.not_mem_nil h).elim⟩
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 3072) 3 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 2048) 2 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 1024) 1 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 0) 0 rfl _ r d).symm
    unfold_payloads
    pointwise
    rfl

/-- Every piece stored in case B for the hidden units' cotangents is its closed block. -/
theorem da_B (hc0 : ¬cond0_0 i) (hc1 : cond0_1 i) (xo10 : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo10).1, ∀ x, p.2 x = blkDa x1 x2 x3 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg11.read_unread]
  rw [List.forall_mem_cons, List.forall_mem_cons, List.forall_mem_cons, List.forall_mem_cons]
  refine ⟨?_, ?_, ?_, ?_, fun _ h => (List.not_mem_nil h).elim⟩
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 3072) 3 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 2048) 2 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 1024) 1 rfl _ r d).symm
    unfold_payloads
    pointwise
    rfl
  · intro x
    dsimp only
    change S512x1024.Idx at x
    obtain ⟨r, d, rfl⟩ : ∃ (r : Fin 512) (d : Fin 1024), x = ix2 r d := ⟨x 0, x 1, eq_ix2 x⟩
    refine Eq.trans ?_ (blkDa_emb x1 x2 x3 (o := 0) 0 rfl _ r d).symm
    unfold_payloads
    pointwise
    rfl

/-- Every piece stored in case A for the tokens' gradient is its closed block. -/
theorem dh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, ∀ x, p.2 x = blkD x0 x1 x2 x3 x4 x5 x6 (p.1.emb x) := by
  unfold kernelRun0_A
  dsimp only
  sl_unfold_words
  simp only [View.readAt_eq_ld, harg1.read_unread, harg2.read_unread, harg3.read_unread, harg4.read_unread, harg5.read_unread, harg6.read_unread, harg7.read_unread]
  rw [List.forall_mem_cons]
  refine ⟨?_, fun _ h => (List.not_mem_nil h).elim⟩
  all_goals
    intro x
    dsimp only
    change S512x1024.Idx at x
    obtain ⟨r, d, rfl⟩ : ∃ (r : Fin 512) (d : Fin 1024), x = ix2 r d := ⟨x 0, x 1, eq_ix2 x⟩
    refine Eq.trans ?_ (congrArg _ (Cert.Tiles.emb_whole _ _ _).symm)
    unfold_payloads
    pointwise
    rfl

/-- Every piece stored in case B for the tokens' gradient is its closed block. -/
theorem dh_B (hc0 : ¬cond0_0 i) (hc1 : cond0_1 i) (xo10 : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo10).2.1, ∀ x, p.2 x = blkD x0 x1 x2 x3 x4 x5 x6 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg11.read_unread]
  rw [List.forall_mem_cons]
  refine ⟨?_, fun _ h => (List.not_mem_nil h).elim⟩
  all_goals
    intro x
    dsimp only
    change S512x1024.Idx at x
    obtain ⟨r, d, rfl⟩ : ∃ (r : Fin 512) (d : Fin 1024), x = ix2 r d := ⟨x 0, x 1, eq_ix2 x⟩
    refine Eq.trans ?_ (congrArg _ (Cert.Tiles.emb_whole _ _ _).symm)
    unfold_payloads
    pointwise
    rfl

/-- Every piece stored in case A for the tokens' gradient for the half-width copy is its closed block. -/
theorem dh_half_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1, ∀ x, p.2 x = blkD x0 x1 x2 x3 x4 x5 x6 (p.1.emb x) := by
  unfold kernelRun0_A
  dsimp only
  sl_unfold_words
  simp only [View.readAt_eq_ld, harg1.read_unread, harg2.read_unread, harg3.read_unread, harg4.read_unread, harg5.read_unread, harg6.read_unread, harg7.read_unread]
  rw [List.forall_mem_cons]
  refine ⟨?_, fun _ h => (List.not_mem_nil h).elim⟩
  all_goals
    intro x
    dsimp only
    change S512x1024.Idx at x
    obtain ⟨r, d, rfl⟩ : ∃ (r : Fin 512) (d : Fin 1024), x = ix2 r d := ⟨x 0, x 1, eq_ix2 x⟩
    refine Eq.trans ?_ (congrArg _ (Cert.Tiles.emb_whole _ _ _).symm)
    unfold_payloads
    pointwise
    rfl

/-- Every piece stored in case B for the tokens' gradient for the half-width copy is its closed block. -/
theorem dh_half_B (hc0 : ¬cond0_0 i) (hc1 : cond0_1 i) (xo10 : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo10).2.2.1, ∀ x, p.2 x = blkD x0 x1 x2 x3 x4 x5 x6 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg11.read_unread]
  rw [List.forall_mem_cons]
  refine ⟨?_, fun _ h => (List.not_mem_nil h).elim⟩
  all_goals
    intro x
    dsimp only
    change S512x1024.Idx at x
    obtain ⟨r, d, rfl⟩ : ∃ (r : Fin 512) (d : Fin 1024), x = ix2 r d := ⟨x 0, x 1, eq_ix2 x⟩
    refine Eq.trans ?_ (congrArg _ (Cert.Tiles.emb_whole _ _ _).symm)
    unfold_payloads
    pointwise
    rfl

/-- Every piece stored in case A for the gain's gradient is its closed block. -/
theorem dg_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.2.1, ∀ x, p.2 x = partG x1 x2 x3 x4 x5 (p.1.emb x) := by
  unfold kernelRun0_A
  dsimp only
  sl_unfold_words
  simp only [View.readAt_eq_ld, harg1.read_unread, harg2.read_unread, harg3.read_unread, harg4.read_unread, harg5.read_unread, harg6.read_unread, harg7.read_unread]
  rw [List.forall_mem_cons]
  refine ⟨?_, fun _ h => (List.not_mem_nil h).elim⟩
  all_goals
    intro x
    dsimp only
    change S1x1024.Idx at x
    obtain ⟨r, d, rfl⟩ : ∃ (r : Fin 1) (d : Fin 1024), x = ix2 r d := ⟨x 0, x 1, eq_ix2 x⟩
    obtain rfl : r = 0 := Subsingleton.elim _ _
    refine Eq.trans ?_ (congrArg _ (Cert.Tiles.emb_whole _ _ _).symm)
    unfold_payloads
    pointwise
    rfl

/-- Every piece stored in case B for the gain's gradient is its closed block. -/
theorem dg_B (hc0 : ¬cond0_0 i) (hc1 : cond0_1 i) (xo10 : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo10).2.2.2.1, ∀ x, p.2 x = accG x1 x2 x3 x4 x5 xo10 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg11.read_unread]
  rw [List.forall_mem_cons]
  refine ⟨?_, fun _ h => (List.not_mem_nil h).elim⟩
  all_goals
    intro x
    dsimp only
    change S1x1024.Idx at x
    obtain ⟨r, d, rfl⟩ : ∃ (r : Fin 1) (d : Fin 1024), x = ix2 r d := ⟨x 0, x 1, eq_ix2 x⟩
    obtain rfl : r = 0 := Subsingleton.elim _ _
    refine Eq.trans ?_ (congrArg _ (Cert.Tiles.emb_whole _ _ _).symm)
    unfold_payloads
    pointwise
    rfl

end Cert.MlpVal
-- ==== Proof.MlpOut.lean ====
/-
  The feed-forward block's backward pass: what each case leaves in the four outputs' blocks, as closed blocks.
-/
module

public import proofs.«01_k».proof.Proof.MlpRun
public import Idealize.ShloMosaic.Lib.Pipeline.ValueKit
public import Idealize.ShloMosaic.Lib.Pointwise

@[expose] public section

set_option maxRecDepth 16384

noncomputable section

namespace Cert.MlpVal

open Idealize.ShloMosaic Idealize.ShloMosaic.TcCoe Idealize.SL.Sem Cert.MlpIdeal Cert.MlpIdeal.Gen Cert.MlpRow

variable (m : (ℓ : Loc nD τ sig) → Buf (Elt Ideal) ℓ) (c : Dev nD)

theorem case_split (t : Fin cfg0.N) : (t.val % 16 = 0 ∧ ¬1 ≤ t.val) ∨ (¬t.val % 16 = 0 ∧ 1 ≤ t.val) := by
  have : t.val < 16 := t.isLt
  omega

/-- After every point the block holds the hidden units' cotangents. -/
theorem outs_da (t : Fin cfg0.N) : (outsAt0 m c t.val t.isLt).1 = blkDa (iblk m c 1 t) (iblk m c 2 t) (iblk m c 3 t) := by
  rcases case_split t with ⟨h0, h1⟩ | ⟨h0, h1⟩
  · rw [outsAt0_A m c t h0 h1]
    dsimp only
    unfold out0_A_7
    funext y
    refine View.read_writes_apply_of_pieces VO0_7 _ _ _ ?_ y (cover0_A_7 ..)
    exact da_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (fun h => h1 ((hcond0_1 t).mp h))
  · rw [outsAt0_B m c t h0 h1]
    dsimp only
    unfold out0_B_7
    funext y
    refine View.read_writes_apply_of_pieces VO0_7 _ _ _ ?_ y (cover0_B_7 ..)
    exact da_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun h => h0 ((hcond0_0 t).mp h)) ((hcond0_1 t).mpr h1) _

/-- After every point the block holds the tokens' gradient. -/
theorem outs_dh (t : Fin cfg0.N) : (outsAt0 m c t.val t.isLt).2.1 = blkD (iblk m c 0 t) (iblk m c 1 t) (iblk m c 2 t) (iblk m c 3 t) (iblk m c 4 t) (iblk m c 5 t) (iblk m c 6 t) := by
  rcases case_split t with ⟨h0, h1⟩ | ⟨h0, h1⟩
  · rw [outsAt0_A m c t h0 h1]
    dsimp only
    unfold out0_A_8
    funext y
    refine View.read_writes_apply_of_pieces VO0_8 _ _ _ ?_ y (cover0_A_8 ..)
    exact dh_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (fun h => h1 ((hcond0_1 t).mp h))
  · rw [outsAt0_B m c t h0 h1]
    dsimp only
    unfold out0_B_8
    funext y
    refine View.read_writes_apply_of_pieces VO0_8 _ _ _ ?_ y (cover0_B_8 ..)
    exact dh_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun h => h0 ((hcond0_0 t).mp h)) ((hcond0_1 t).mpr h1) _

/-- After every point the block holds the tokens' gradient, in the half-width copy too. -/
theorem outs_dh_half (t : Fin cfg0.N) : (outsAt0 m c t.val t.isLt).2.2.1 = blkD (iblk m c 0 t) (iblk m c 1 t) (iblk m c 2 t) (iblk m c 3 t) (iblk m c 4 t) (iblk m c 5 t) (iblk m c 6 t) := by
  rcases case_split t with ⟨h0, h1⟩ | ⟨h0, h1⟩
  · rw [outsAt0_A m c t h0 h1]
    dsimp only
    unfold out0_A_9
    funext y
    refine View.read_writes_apply_of_pieces VO0_9 _ _ _ ?_ y (cover0_A_9 ..)
    exact dh_half_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (fun h => h1 ((hcond0_1 t).mp h))
  · rw [outsAt0_B m c t h0 h1]
    dsimp only
    unfold out0_B_9
    funext y
    refine View.read_writes_apply_of_pieces VO0_9 _ _ _ ?_ y (cover0_B_9 ..)
    exact dh_half_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun h => h0 ((hcond0_0 t).mp h)) ((hcond0_1 t).mpr h1) _

/-- The first point sets the gain's gradient. -/
theorem outs_dg_first (t : Fin cfg0.N) (h0 : t.val % 16 = 0) (y : S1x1024.Idx) :
    (outsAt0 m c t.val t.isLt).2.2.2 y = 0 + partG (iblk m c 1 t) (iblk m c 2 t) (iblk m c 3 t) (iblk m c 4 t) (iblk m c 5 t) y := by
  rw [zero_add]
  have h1 : ¬1 ≤ t.val := by rcases case_split t with h | h <;> omega
  rw [outsAt0_A m c t h0 h1]
  dsimp only
  unfold out0_A_10
  refine View.read_writes_apply_of_pieces VO0_10 _ _ _ ?_ y (cover0_A_10 ..)
  exact dg_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) ((hcond0_0 t).mpr h0) (fun h => h1 ((hcond0_1 t).mp h))

/-- Every later point adds its part. -/
theorem outs_dg_step (t : Fin cfg0.N) (h0 : ¬t.val % 16 = 0) (y : S1x1024.Idx) :
    (outsAt0 m c t.val t.isLt).2.2.2 y = (outsAt0 m c (t.val - 1) (Nat.lt_of_le_of_lt (Nat.sub_le _ _) t.isLt)).2.2.2 y + partG (iblk m c 1 t) (iblk m c 2 t) (iblk m c 3 t) (iblk m c 4 t) (iblk m c 5 t) y := by
  have h1 : 1 ≤ t.val := by rcases case_split t with h | h <;> omega
  rw [outsAt0_B m c t h0 h1]
  dsimp only
  unfold out0_B_10
  refine (View.read_writes_apply_of_pieces VO0_10 _ _ _ ?_ y (cover0_B_10 ..)).trans (rfl : accG (iblk m c 1 t) (iblk m c 2 t) (iblk m c 3 t) (iblk m c 4 t) (iblk m c 5 t) _ y = _)
  exact dg_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (fun h => h0 ((hcond0_0 t).mp h)) ((hcond0_1 t).mpr h1) _

/-- After the last point it holds the sum of all points' parts. -/
theorem outs_dg (t : Fin cfg0.N) (ht : t.val % 16 = 15) (y : S1x1024.Idx) :
    (outsAt0 m c t.val t.isLt).2.2.2 y = ∑ t : Fin cfg0.N, partG (iblk m c 1 t) (iblk m c 2 t) (iblk m c 3 t) (iblk m c 4 t) (iblk m c 5 t) y := by
  refine (Pipeline.eq_sum_fin_of_reset_step_apply_last (fun n hn y => (outsAt0 m c n hn).2.2.2 y) 16 (fun _ => 0)
    (fun t y => partG (iblk m c 1 t) (iblk m c 2 t) (iblk m c 3 t) (iblk m c 4 t) (iblk m c 5 t) y) (fun t h y => outs_dg_first m c t h y) (fun t h y => outs_dg_step m c t h y) (le_of_eq (by decide +kernel)) t ?_ y).trans (zero_add _)
  have h : t.val < 16 := t.isLt
  have hN : cfg0.N = 16 := by decide +kernel
  omega

end Cert.MlpVal
-- ==== Proof.MlpRead.lean ====
/-
  The feed-forward block's backward pass on whole arrays: each token's quantities as functions of the arguments, and the
  input blocks read off the arguments.
-/
module

public import proofs.«01_k».proof.Proof.MlpOut
public import Idealize.ShloMosaic.Lib.Pipeline.ValueKit
public import Idealize.ShloMosaic.Lib.Pointwise

@[expose] public section

set_option maxRecDepth 16384

noncomputable section

namespace Cert.MlpVal

open Idealize.ShloMosaic Idealize.ShloMosaic.TcCoe Idealize.SL.Sem Cert.MlpIdeal Cert.MlpIdeal.Gen Cert.MlpRow

variable (m : (ℓ : Loc nD τ sig) → Buf (Elt Ideal) ℓ) (c : Dev nD)

/-- The windows' index maps. -/
theorem idx : ∀ t : Fin cfg0.N, win0_0.index t = ![t.val, 0] ∧ win0_1.index t = ![t.val, 0] ∧ win0_2.index t = ![t.val, 0] ∧ win0_3.index t = ![0, 0, 0, 0] ∧ win0_4.index t = ![0, 0, 0, 0] ∧ win0_5.index t = ![t.val, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0] ∧ win0_3.index t = ![0, 0, 0, 0] ∧ win0_4.index t = ![0, 0, 0, 0] ∧ win0_5.index t = ![t.val, 0] ∧ win0_6.index t = ![0, 0] ∧ win0_7.index t = ![t.val, 0] ∧ win0_8.index t = ![t.val, 0] ∧ win0_9.index t = ![t.val, 0] ∧ win0_10.index t = ![0, 0])

section arrays

variable (Z H : Vec Ideal S8192x1024 .f32) (G : Vec Ideal S1024 .f32) (U : Vec Ideal S1024x4096 .f32) (D : Vec Ideal S4096x1024 .f32)

/-- The pre-activation of hidden unit `f` at token `t`. -/
def preAct (t : Fin 8192) (f : Fin 4096) : EReal := act (fun k : Fin 1024 => H (ix2 t k)) (fun k => G (ix1 k)) (fun k => U (ix2 k f))

/-- The cotangent of hidden unit `f` at token `t`. -/
def hidBack (t : Fin 8192) (f : Fin 4096) : EReal := rampBack (∑ k : Fin 1024, Z (ix2 t k) * D (ix2 f k)) (preAct H G U t f)

/-- The cotangent of the normalised token `t` at channel `d`. -/
def normBack (t : Fin 8192) (d : Fin 1024) : EReal := ∑ f : Fin 4096, hidBack Z H G U D t f * U (ix2 d f)

/-- The gradient of token `t` at channel `d`. -/
def tokBack (t : Fin 8192) (d : Fin 1024) : EReal :=
  rmsBack (fun k => H (ix2 t k)) (fun k => G (ix1 k)) (fun k => Z (ix2 t k)) (normBack Z H G U D t) d

/-- The gradient of the gain at channel `d`. -/
def gainBack (d : Fin 1024) : EReal := ∑ t : Fin 8192, normBack Z H G U D t d * (H (ix2 t d) * scale (fun k : Fin 1024 => H (ix2 t k)))

end arrays

/-- The incoming cotangent. -/
abbrev aZ : Vec Ideal S8192x1024 .f32 := m ((c : Thread nD τ).loc main_arg0)
/-- The tokens. -/
abbrev aH : Vec Ideal S8192x1024 .f32 := m ((c : Thread nD τ).loc main_arg1)
/-- The gain. -/
abbrev aG : Vec Ideal S1024 .f32 := m ((c : Thread nD τ).loc main_arg2)
/-- The first weights. -/
abbrev aU : Vec Ideal S1024x4096 .f32 := m ((c : Thread nD τ).loc main_arg3)
/-- The second weights. -/
abbrev aD : Vec Ideal S4096x1024 .f32 := m ((c : Thread nD τ).loc main_arg4)

/-- Token `r` of block `t`. -/
abbrev tok (t : Fin cfg0.N) (r : Fin 512) : Fin 8192 := ⟨512 * t.val + r.val, by have : t.val < 16 := t.isLt; omega⟩

theorem read0 (t : Fin cfg0.N) (r : Fin 512) (k : Fin 1024) : (iblk m c 0 t : Vec Ideal S512x1024 .f32) (ix2 r k) = aZ m c (ix2 (tok t r) k) := by
  blk_ext [iblk, V, idx t]

theorem read1 (t : Fin cfg0.N) (r : Fin 512) (k : Fin 1024) : (iblk m c 1 t : Vec Ideal S512x1024 .bf16) (ix2 r k) = aZ m c (ix2 (tok t r) k) := by
  blk_simp [iblk, idx t]
  entry_read
  pointwise
  blk_ext [idx t]

theorem read2 (t : Fin cfg0.N) (r : Fin 512) (f : Fin 4096) :
    (iblk m c 2 t : Vec Ideal S512x4096 .bf16) (ix2 r f) = preAct (aH m c) (aG m c) (aU m c) (tok t r) f := by
  have he : (win0_2.blk t).view.emb (ix2 r f : S512x4096.Idx) = (ix2 (tok t r) f : S8192x4096.Idx) := by blk_ext [idx t]
  blk_simp [iblk]
  rw [he]
  entry_read
  pointwise
  rfl

theorem read3 (t : Fin cfg0.N) (ch : Fin 4) (f k : Fin 1024) :
    (iblk m c 3 t : Vec Ideal S4x1x1024x1024 .bf16) (ix4 ch 0 f k) = aD m c (ix2 (hid ch f) k) := by
  have he : (win0_3.blk t).view.emb (ix4 ch 0 f k : S4x1x1024x1024.Idx) = (ix4 ch 0 f k : S4x1x1024x1024.Idx) := by blk_ext [idx t]
  blk_simp [iblk]
  rw [he]
  entry_read
  pointwise
  exact congrArg (fun q => aD m c (ix2 q k)) (Fin.ext (by rw [hid_eq]; dsimp only; omega))

theorem read4 (t : Fin cfg0.N) (ch : Fin 4) (d f : Fin 1024) :
    (iblk m c 4 t : Vec Ideal S4x1x1024x1024 .bf16) (ix4 ch 0 d f) = aU m c (ix2 d (hid ch f)) := by
  have he : (win0_4.blk t).view.emb (ix4 ch 0 d f : S4x1x1024x1024.Idx) = (ix4 ch 0 d f : S4x1x1024x1024.Idx) := by blk_ext [idx t]
  blk_simp [iblk]
  rw [he]
  entry_read
  pointwise
  exact congrArg (fun q => aU m c (ix2 d q)) (Fin.ext (by rw [hid_eq]; dsimp only; omega))

theorem read5 (t : Fin cfg0.N) (r : Fin 512) (k : Fin 1024) : (iblk m c 5 t : Vec Ideal S512x1024 .f32) (ix2 r k) = aH m c (ix2 (tok t r) k) := by
  blk_ext [iblk, V, idx t]

theorem read6 (t : Fin cfg0.N) (k : Fin 1024) : (iblk m c 6 t : Vec Ideal S1x1024 .f32) (ix2 0 k) = aG m c (ix1 k) := by
  have he : (win0_6.blk t).view.emb (ix2 0 k : S1x1024.Idx) = (ix2 0 k : S1x1024.Idx) := by blk_ext [idx t]
  blk_simp [iblk]
  rw [he]
  entry_read
  pointwise

/-- Four chunks of 1024 are the 4096 hidden units. -/
theorem sum_hid (F : Fin 4096 → EReal) : ∑ f, F f = ∑ f, F (hid 0 f) + ∑ f, F (hid 1 f) + ∑ f, F (hid 2 f) + ∑ f, F (hid 3 f) := by
  have h := (finProdFinEquiv (m := 4) (n := 1024)).sum_comp (fun f : Fin (4 * 1024) => F f)
  rw [Fintype.sum_prod_type, Fin.sum_univ_four] at h
  refine h.symm.trans ?_
  have e : ∀ (ch : Fin 4) (f : Fin 1024), finProdFinEquiv (ch, f) = hid ch f := fun ch f => Fin.ext (by rw [hid_eq]; exact Nat.add_comm _ _)
  simp only [e]

/-- Sixteen blocks of 512 are the 8192 tokens. -/
theorem sum_tok (F : Fin 8192 → EReal) : ∑ t, F t = ∑ t : Fin cfg0.N, ∑ r, F (tok t r) := by
  have h := (finProdFinEquiv (m := 16) (n := 512)).sum_comp (fun f : Fin (16 * 512) => F f)
  rw [Fintype.sum_prod_type] at h
  refine h.symm.trans ?_
  exact Finset.sum_congr rfl fun t _ => Finset.sum_congr rfl fun r _ => congrArg F (Fin.ext (Nat.add_comm _ _))

theorem bda_eq (t : Fin cfg0.N) (r : Fin 512) (ch : Fin 4) (f : Fin 1024) :
    bda (iblk m c 1 t) (iblk m c 2 t) (iblk m c 3 t) r ch f = hidBack (aZ m c) (aH m c) (aG m c) (aU m c) (aD m c) (tok t r) (hid ch f) := by
  unfold bda hidBack
  rw [read2]
  refine congrArg (rampBack · _) (Finset.sum_congr rfl fun k _ => ?_)
  rw [read1, read3]

theorem bdn_eq (t : Fin cfg0.N) (r : Fin 512) (d : Fin 1024) :
    bdn (iblk m c 1 t) (iblk m c 2 t) (iblk m c 3 t) (iblk m c 4 t) r d = normBack (aZ m c) (aH m c) (aG m c) (aU m c) (aD m c) (tok t r) d := by
  unfold bdn normBack
  rw [sum_hid]
  simp only [bda_eq, read4]

end Cert.MlpVal
-- ==== Proof.MlpArr.lean ====
/-
  The feed-forward block's backward pass: the kernel's four output arrays.
-/
module

public import proofs.«01_k».proof.Proof.MlpRead
public import Idealize.ShloMosaic.Lib.Pipeline.ValueKit
public import Idealize.ShloMosaic.Lib.Pointwise

@[expose] public section

set_option maxRecDepth 16384

noncomputable section

namespace Cert.MlpVal

open Idealize.ShloMosaic Idealize.ShloMosaic.TcCoe Idealize.SL.Sem Cert.MlpIdeal Cert.MlpIdeal.Gen Cert.MlpRow

variable (m : (ℓ : Loc nD τ sig) → Buf (Elt Ideal) ℓ) (c : Dev nD)

section arrays

variable (Z H : Vec Ideal S8192x1024 .f32) (G : Vec Ideal S1024 .f32) (U : Vec Ideal S1024x4096 .f32) (D : Vec Ideal S4096x1024 .f32)

/-- THE HIDDEN UNITS' COTANGENTS as an array. -/
def hidArr : Vec Ideal S8192x4096 .bf16 := fun y => hidBack Z H G U D (y 0) (y 1)
/-- THE TOKENS' GRADIENT as an array. -/
def tokArr : Vec Ideal S8192x1024 .f32 := fun y => tokBack Z H G U D (y 0) (y 1)
/-- The same at half width. -/
def tokHalf : Vec Ideal S8192x1024 .bf16 := fun y => tokBack Z H G U D (y 0) (y 1)
/-- THE GAIN'S GRADIENT as an array. -/
def gainArr : Vec Ideal S1x1024 .f32 := fun y => gainBack Z H G U D (y 1)

end arrays

theorem partG_at (x1 : Vec Ideal S512x1024 .bf16) (x2 : Vec Ideal S512x4096 .bf16) (x3 x4 : Vec Ideal S4x1x1024x1024 .bf16) (x5 : Vec Ideal S512x1024 .f32) (d : Fin 1024) :
    partG x1 x2 x3 x4 x5 (ix2 0 d) = ∑ r, bdn x1 x2 x3 x4 r d * (x5 (ix2 r d) * scale (fun k => x5 (ix2 r k))) := rfl

/-- A block's part of the gain's gradient is its 512 tokens' part. -/
theorem partG_eq (t : Fin cfg0.N) (d : Fin 1024) :
    partG (iblk m c 1 t) (iblk m c 2 t) (iblk m c 3 t) (iblk m c 4 t) (iblk m c 5 t) (ix2 0 d)
      = ∑ r, normBack (aZ m c) (aH m c) (aG m c) (aU m c) (aD m c) (tok t r) d * (aH m c (ix2 (tok t r) d) * scale (fun k : Fin 1024 => aH m c (ix2 (tok t r) k))) := by
  rw [partG_at]
  refine Finset.sum_congr rfl fun r _ => ?_
  rw [bdn_eq]
  simp only [read5]

/-- THE FIRST OUTPUT ARRAY. -/
theorem arr_da : (dats m 0 c).arrAt 7 cfg0.N = hidArr (aZ m c) (aH m c) (aG m c) (aU m c) (aD m c) := by
  refine (dats m 0 c).arrAt_eq_of_covers 7 _ (by decide +kernel) fun t hf y => ?_
  blk_simp
  rw [after0_7, outs_da]
  change S512x4096.Idx at y
  obtain ⟨r, f, rfl⟩ : ∃ (r : Fin 512) (f : Fin 4096), y = ix2 r f := ⟨y 0, y 1, eq_ix2 y⟩
  have he : (win0_7.blk t).view.emb (ix2 r f : S512x4096.Idx) = (ix2 (tok t r) f : S8192x4096.Idx) := by blk_ext [idx t]
  rw [he]
  show bda _ _ _ r _ _ = hidBack (aZ m c) (aH m c) (aG m c) (aU m c) (aD m c) (tok t r) f
  rw [bda_eq]
  exact congrArg (hidBack (aZ m c) (aH m c) (aG m c) (aU m c) (aD m c) (tok t r)) (Fin.ext (by rw [hid_eq]; dsimp only; exact Nat.div_add_mod _ _))

/-- THE SECOND OUTPUT ARRAY. -/
theorem arr_dh : (dats m 0 c).arrAt 8 cfg0.N = tokArr (aZ m c) (aH m c) (aG m c) (aU m c) (aD m c) := by
  refine (dats m 0 c).arrAt_eq_of_covers 8 _ (by decide +kernel) fun t hf y => ?_
  blk_simp
  rw [after0_8, outs_dh]
  change S512x1024.Idx at y
  obtain ⟨r, d, rfl⟩ : ∃ (r : Fin 512) (d : Fin 1024), y = ix2 r d := ⟨y 0, y 1, eq_ix2 y⟩
  have he : (win0_8.blk t).view.emb (ix2 r d : S512x1024.Idx) = (ix2 (tok t r) d : S8192x1024.Idx) := by blk_ext [idx t]
  rw [he]
  show rmsBack (fun k => (iblk m c 5 t : Vec Ideal S512x1024 .f32) (ix2 r k)) (fun k => (iblk m c 6 t : Vec Ideal S1x1024 .f32) (ix2 0 k)) (fun k => (iblk m c 0 t : Vec Ideal S512x1024 .f32) (ix2 r k))
    (fun k => bdn (iblk m c 1 t) (iblk m c 2 t) (iblk m c 3 t) (iblk m c 4 t) r k) d = tokBack (aZ m c) (aH m c) (aG m c) (aU m c) (aD m c) (tok t r) d
  simp only [read0, read5, read6, bdn_eq]
  rfl

/-- THE THIRD OUTPUT ARRAY. -/
theorem arr_dh_half : (dats m 0 c).arrAt 9 cfg0.N = tokHalf (aZ m c) (aH m c) (aG m c) (aU m c) (aD m c) := by
  refine (dats m 0 c).arrAt_eq_of_covers 9 _ (by decide +kernel) fun t hf y => ?_
  blk_simp
  rw [after0_9, outs_dh_half]
  change S512x1024.Idx at y
  obtain ⟨r, d, rfl⟩ : ∃ (r : Fin 512) (d : Fin 1024), y = ix2 r d := ⟨y 0, y 1, eq_ix2 y⟩
  have he : (win0_9.blk t).view.emb (ix2 r d : S512x1024.Idx) = (ix2 (tok t r) d : S8192x1024.Idx) := by blk_ext [idx t]
  rw [he]
  show rmsBack (fun k => (iblk m c 5 t : Vec Ideal S512x1024 .f32) (ix2 r k)) (fun k => (iblk m c 6 t : Vec Ideal S1x1024 .f32) (ix2 0 k)) (fun k => (iblk m c 0 t : Vec Ideal S512x1024 .f32) (ix2 r k))
    (fun k => bdn (iblk m c 1 t) (iblk m c 2 t) (iblk m c 3 t) (iblk m c 4 t) r k) d = tokBack (aZ m c) (aH m c) (aG m c) (aU m c) (aD m c) (tok t r) d
  simp only [read0, read5, read6, bdn_eq]
  rfl

/-- THE FOURTH OUTPUT ARRAY. -/
theorem arr_dg : (dats m 0 c).arrAt 10 cfg0.N = gainArr (aZ m c) (aH m c) (aG m c) (aU m c) (aD m c) := by
  refine (dats m 0 c).arrAt_eq_of_covers 10 _ (by decide +kernel) fun t hf y => ?_
  blk_simp
  rw [after0_10]
  change S1x1024.Idx at y
  obtain ⟨q, d, rfl⟩ : ∃ (q : Fin 1) (d : Fin 1024), y = ix2 q d := ⟨y 0, y 1, eq_ix2 y⟩
  obtain rfl : q = 0 := Subsingleton.elim _ _
  rw [outs_dg m c t ((flush0_10 t).mp hf)]
  have he : (win0_10.blk t).view.emb (ix2 0 d : S1x1024.Idx) = (ix2 0 d : S1x1024.Idx) := by blk_ext [idx t]
  rw [he]
  show _ = gainBack (aZ m c) (aH m c) (aG m c) (aU m c) (aD m c) d
  unfold gainBack
  rw [sum_tok]
  exact Finset.sum_congr rfl fun t _ => partG_eq m c t d

end Cert.MlpVal
-- ==== Proof.MlpRefRead.lean ====
/-
  The reference's backward pass of the feed-forward block read at an index: the same functions of the arguments.
-/
module

public import proofs.«01_k».proof.Proof.MlpArr
public import proofs.«01_k».proof.Proof.Gen.MlpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MlpRefVal

open Idealize.ShloMosaic Idealize.ShloMosaic.TcCoe Idealize.SL.Sem Cert.MlpRefIdeal Cert.MlpRefIdeal.Gen Cert.MlpVal Cert.MlpRow

variable (m : (ℓ : Loc nD τ sig) → Buf (Elt Ideal) ℓ) (c : Dev nD)

/-- The incoming cotangent. -/
abbrev bZ : Vec Ideal Cert.MlpIdeal.S8192x1024 .f32 := m ((c : Thread nD τ).loc main_arg0)
/-- The tokens. -/
abbrev bH : Vec Ideal Cert.MlpIdeal.S8192x1024 .f32 := m ((c : Thread nD τ).loc main_arg1)
/-- The gain. -/
abbrev bG : Vec Ideal Cert.MlpIdeal.S1024 .f32 := m ((c : Thread nD τ).loc main_arg2)
/-- The first weights. -/
abbrev bU : Vec Ideal Cert.MlpIdeal.S1024x4096 .f32 := m ((c : Thread nD τ).loc main_arg3)
/-- The second weights. -/
abbrev bD : Vec Ideal Cert.MlpIdeal.S4096x1024 .f32 := m ((c : Thread nD τ).loc main_arg4)

/-- The reference's gradient of the tokens. -/
theorem ref_dh : Value.res_main_v78 m c = tokArr (bZ m c) (bH m c) (bG m c) (bU m c) (bD m c) := by
  funext y
  change Cert.MlpIdeal.S8192x1024.Idx at y
  obtain ⟨t, d, rfl⟩ : ∃ (t : Fin 8192) (d : Fin 1024), y = ix2 t d := ⟨y 0, y 1, eq_ix2 y⟩
  unfold Value.res_main_v78
  pointwise
  simp only [Finset.univ_unique, Finset.sum_singleton, rampBack_ite]
  exact rmsBack_chain (fun k => bH m c (ix2 t k)) (fun k => bG m c (ix1 k)) (fun k => bZ m c (ix2 t k)) (normBack (bZ m c) (bH m c) (bG m c) (bU m c) (bD m c) t) d

/-- The same at half width. -/
theorem ref_dh_half : Value.res_main_v80 m c = tokHalf (bZ m c) (bH m c) (bG m c) (bU m c) (bD m c) := by
  funext y
  change Cert.MlpIdeal.S8192x1024.Idx at y
  obtain ⟨t, d, rfl⟩ : ∃ (t : Fin 8192) (d : Fin 1024), y = ix2 t d := ⟨y 0, y 1, eq_ix2 y⟩
  unfold Value.res_main_v80
  pointwise
  simp only [Finset.univ_unique, Finset.sum_singleton, rampBack_ite]
  exact rmsBack_chain (fun k => bH m c (ix2 t k)) (fun k => bG m c (ix1 k)) (fun k => bZ m c (ix2 t k)) (normBack (bZ m c) (bH m c) (bG m c) (bU m c) (bD m c) t) d

/-- THE REFERENCE'S RUN: each result is the array of the same function. -/
theorem run (ρ : Dev nD → PrngReg) : θ_run defs (onTc (τ := τ) (main (F := Ideal))) ⟨m, fun _ => 0, ρ⟩ fun r => ∀ c : Dev nD,
    r.2.mem ((c.tc : Thread nD τ).loc main_v79) = hidArr (bZ m c) (bH m c) (bG m c) (bU m c) (bD m c)
    ∧ r.2.mem ((c.tc : Thread nD τ).loc main_v78) = tokArr (bZ m c) (bH m c) (bG m c) (bU m c) (bD m c)
    ∧ r.2.mem ((c.tc : Thread nD τ).loc main_v80) = tokHalf (bZ m c) (bH m c) (bG m c) (bU m c) (bD m c)
    ∧ r.2.mem ((c.tc : Thread nD τ).loc main_v81) = gainArr (bZ m c) (bH m c) (bG m c) (bU m c) (bD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2.1.trans (ref_dh m c), (h c).2.2.1.trans (ref_dh_half m c), (h c).2.2.2.1.trans ?_, (h c).2.2.2.2⟩) (Value.run m ρ)
  · funext y
    change Cert.MlpIdeal.S8192x4096.Idx at y
    obtain ⟨t, f, rfl⟩ : ∃ (t : Fin 8192) (f : Fin 4096), y = ix2 t f := ⟨y 0, y 1, eq_ix2 y⟩
    pointwise
    simp only [rampBack_ite]
    rfl
  · funext y
    change Cert.MlpIdeal.S1x1024.Idx at y
    obtain ⟨q, d, rfl⟩ : ∃ (q : Fin 1) (d : Fin 1024), y = ix2 q d := ⟨y 0, y 1, eq_ix2 y⟩
    pointwise
    simp only [Finset.univ_unique, Finset.sum_singleton, rampBack_ite]
    exact Finset.sum_congr rfl fun t _ => mul_comm _ _

end Cert.MlpRefVal
-- ==== Proof.MlpClaims.lean ====
/-
  The claims about the feed-forward block's backward pass.
-/
module

public import proofs.«01_k».proof.Defs
public import proofs.«01_k».proof.Proof.Gen.Mlp.Frame
public import proofs.«01_k».proof.Proof.MlpArr
public import proofs.«01_k».proof.Proof.MlpRefRead
public import Idealize.ShloMosaic.Lib.Quiescent

@[expose] public section

noncomputable section

namespace Cert.MlpClaims

open Idealize.ShloMosaic Idealize.ShloMosaic.TcCoe Idealize.SL.Sem

/-- The kernel as printed ends, its arguments unchanged and every counter at zero. -/
theorem ends : quiescent_Mlp (hMlp := Cert.Mlp.Gen.facts) := fun m ρ _ => Cert.Mlp.Gen.frame m ρ

/-- So does its exact form. -/
theorem ideal_ends : quiescent_MlpIdeal (hMlpIdeal := Cert.MlpIdeal.Gen.facts) := fun m ρ _ => Cert.MlpIdeal.Gen.frame m ρ

/-- So does the reference. -/
theorem ref_ends : quiescent_MlpRefIdeal (hMlpRefIdeal := Cert.MlpRefIdeal.Gen.facts) := fun m ρ _ =>
  (θ_run _ _ _).mono (fun r h => ⟨fun c => (h c).2.2.2.2, sem_eq_zero_of_no_sems (by decide) r.2⟩) (Cert.MlpRefIdeal.Value.run m ρ)

/-- Both programs' results are the hidden units' cotangents, the tokens' gradient at both widths and the gain's gradient, as
    the same functions of the arguments. -/
theorem equal : algebraic_MlpIdeal_MlpRefIdeal (hMlpIdeal := Cert.MlpIdeal.Gen.facts) (hMlpRefIdeal := Cert.MlpRefIdeal.Gen.facts) := by
  intro m ρ m' ρ' _ hag
  refine ⟨fun c => Cert.MlpVal.hidArr (Cert.MlpVal.aZ m c) (Cert.MlpVal.aH m c) (Cert.MlpVal.aG m c) (Cert.MlpVal.aU m c) (Cert.MlpVal.aD m c),
    fun c => Cert.MlpVal.tokArr (Cert.MlpVal.aZ m c) (Cert.MlpVal.aH m c) (Cert.MlpVal.aG m c) (Cert.MlpVal.aU m c) (Cert.MlpVal.aD m c),
    fun c => Cert.MlpVal.tokHalf (Cert.MlpVal.aZ m c) (Cert.MlpVal.aH m c) (Cert.MlpVal.aG m c) (Cert.MlpVal.aU m c) (Cert.MlpVal.aD m c),
    fun c => Cert.MlpVal.gainArr (Cert.MlpVal.aZ m c) (Cert.MlpVal.aH m c) (Cert.MlpVal.aG m c) (Cert.MlpVal.aU m c) (Cert.MlpVal.aD m c),
    (θ_run _ _ _).mono (fun _ h c => ⟨(h c).1.trans (Cert.MlpVal.arr_da m c), (h c).2.1.trans (Cert.MlpVal.arr_dh m c),
      (h c).2.2.1.trans (Cert.MlpVal.arr_dh_half m c), (h c).2.2.2.1.trans (Cert.MlpVal.arr_dg m c), (h c).2.2.2.2⟩)
      (Cert.MlpIdeal.Value.run_blocks m ρ),
    (θ_run _ _ _).mono (fun _ h c => ⟨(h c).1.trans ?_, (h c).2.1.trans ?_, (h c).2.2.1.trans ?_, (h c).2.2.2.1.trans ?_, (h c).2.2.2.2⟩) (Cert.MlpRefVal.run m' ρ')⟩
  all_goals
    unfold Cert.MlpRefVal.bZ Cert.MlpRefVal.bH Cert.MlpRefVal.bG Cert.MlpRefVal.bU Cert.MlpRefVal.bD
    rw [(hag c).1, (hag c).2.1, (hag c).2.2.1, (hag c).2.2.2.1, (hag c).2.2.2.2]

end Cert.MlpClaims
-- ==== Proof.Wgrad.lean ====
/-
  What the weight gradients share: a sum over the tokens by blocks, and the rectangles of a stack of matrices.
-/
module

public import proofs.«01_k».proof.Proof.Tiles
public import proofs.«01_k».proof.Proof.MlpRow

@[expose] public section

namespace Cert.Wgrad

open Idealize.ShloMosaic

/-- Token `r` of block `s` of sixteen. -/
def tok (s : ℕ) (hs : s < 16) (r : Fin 512) : Fin 8192 := ⟨512 * s + r.val, by omega⟩

/-- Sixteen blocks of 512 are the 8192 tokens. -/
theorem sum_blocks (F : Fin 8192 → EReal) : ∑ t, F t = ∑ s : Fin 16, ∑ r, F (tok s.val s.isLt r) := by
  have h := (finProdFinEquiv (m := 16) (n := 512)).sum_comp (fun f : Fin (16 * 512) => F f)
  rw [Fintype.sum_prod_type] at h
  refine h.symm.trans ?_
  exact Finset.sum_congr rfl fun t _ => Finset.sum_congr rfl fun r _ => congrArg F (Fin.ext (Nat.add_comm _ _))

/-- What blocks add up to is the sum over the tokens: `term` is block `s`'s part, for a run of sixteen points. -/
theorem sum_run {a : EReal} {term : Fin 16 → EReal} {F : Fin 8192 → EReal} (h : a = 0 + ∑ s, term s)
    (e : ∀ s : Fin 16, term s = ∑ r, F (tok s.val s.isLt r)) : a = ∑ t, F t := by
  rw [h, zero_add, sum_blocks]
  exact Finset.sum_congr rfl fun s _ => e s

/-- The square of the positive part. -/
noncomputable def ramp2 (v : EReal) : EReal := max v 0 * max v 0

/-- The normalised token `t` at channel `k`. -/
noncomputable def normed (H : Vec Ideal ⟨2, ![8192, 1024]⟩ .f32) (G : Vec Ideal ⟨1, ![1024]⟩ .f32) (t : Fin 8192) (k : Fin 1024) : EReal :=
  H (ix2 t k) * MlpRow.scale (fun x : Fin 1024 => H (ix2 t x)) * G (ix1 k)

/-- Some columns of one matrix of a stack, from column `o` on. -/
theorem emb_slab {A B C W p o : ℕ} (h) (hp : p < A) (k : Fin 1) (r : Fin B) (d : Fin W) (hd : o + d.val < C) :
    (Rect.unit (s := ⟨3, ![A, B, C]⟩) ![p, 0, o] ![1, B, W] h).emb (ix3 k r d) = ix3 ⟨p, hp⟩ r ⟨o + d.val, hd⟩ := by
  refine (eq_ix3 _).trans ?_
  congr 1
  · exact Fin.ext (by show p + 1 * (k : ℕ) = p; omega)
  · exact Fin.ext (by show 0 + 1 * (r : ℕ) = r; omega)
  · exact Fin.ext (by show o + 1 * (d : ℕ) = o + d; omega)

/-- The rectangle that is the whole stack. -/
theorem emb_whole {A B C : ℕ} (h) (k : Fin A) (r : Fin B) (d : Fin C) :
    (Rect.unit (s := ⟨3, ![A, B, C]⟩) ![0, 0, 0] ![A, B, C] h).emb (ix3 k r d) = ix3 k r d := by
  refine (eq_ix3 _).trans ?_
  congr 1
  · exact Fin.ext (by show 0 + 1 * (k : ℕ) = k; omega)
  · exact Fin.ext (by show 0 + 1 * (r : ℕ) = r; omega)
  · exact Fin.ext (by show 0 + 1 * (d : ℕ) = d; omega)

end Cert.Wgrad
-- ==== Proof.DownRun.lean ====
/-
  The down projection's weight gradient: what the kernel leaves in its accumulator and in the output's block.
-/
module

public import proofs.«01_k».proof.Proof.Wgrad
public import proofs.«01_k».proof.Proof.Gen.DownIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownVal

open Idealize.ShloMosaic Idealize.ShloMosaic.TcCoe Idealize.SL.Sem Cert.DownIdeal Cert.DownIdeal.Gen Cert.Wgrad

section blocks

variable (c : Dev nD) (i : grid0.Coords) (arg2 : Memref sig .tc .vmem S512x2048 .bf16) (harg2 : arg2.IsWhole) (arg3 : Memref sig .tc .vmem S512x1024 .bf16) (harg3 : arg3.IsWhole)
  (arg4 : Memref sig .tc .vmem S2048x1024 .bf16) (harg4 : arg4.IsWhole) (arg5 : Memref sig .tc .vmem S2048x1024 .f32) (harg5 : arg5.IsWhole)
  (x0 : Vec Ideal S512x2048 .bf16) (x1 : Vec Ideal S512x1024 .bf16) (xs : Vec Ideal S2048x1024 .f32)

/-- What one block of tokens adds to the gradient. -/
def part (y : S2048x1024.Idx) : EReal := ∑ r : Fin 512, ramp2 (x0 (ix2 r (y 0))) * x1 (ix2 r (y 1))

/-- The accumulator after one block of tokens. -/
def acc : Vec Ideal S2048x1024 .f32 := fun y => xs y + part x0 x1 y

/-- The same in the output's format. -/
def accHalf : Vec Ideal S2048x1024 .bf16 := fun y => xs y + part x0 x1 y

/-- The first block of a run zeroes the accumulator and adds its part. -/
theorem first (hc0 : cond0_0 i) (hc1 : ¬cond0_1 i) (y : S2048x1024.Idx) :
    sout0_A_0 c i arg2 harg2 arg3 harg3 arg4 harg4 arg5 harg5 hc0 hc1 x0 x1 y = acc x0 x1 (fun _ => 0) y := by
  unfold sout0_A_0 kernelRun0_A
  dsimp only
  sl_unfold_words
  simp (disch := decide) only [View.readAt_eq_ld, harg2.read_unread, harg3.read_unread, View.readCov_skip, View.readCov_fill]
  refine View.read_writes_apply_of_pieces VS0_0 (VS0_0.writes (Elt Ideal) VS0_0.junk [_]) (acc x0 x1 fun _ => 0) [_] ?_ y
    (View.cover_of_tiledL (Val := Elt Ideal) (s := S2048x1024) (e := .f32) _ S2048x1024.size (by sl_kernel_rfl) y)
  rw [List.forall_mem_cons]
  refine ⟨?_, fun _ h => (List.not_mem_nil h).elim⟩
  intro x
  dsimp only
  change S2048x1024.Idx at x
  obtain ⟨f, k, rfl⟩ : ∃ (f : Fin 2048) (k : Fin 1024), x = ix2 f k := ⟨x 0, x 1, eq_ix2 x⟩
  refine Eq.trans ?_ (congrArg (acc x0 x1 fun _ => 0) (Tiles.emb_whole _ f k)).symm
  unfold_payloads
  pointwise
  exact (zero_add _).symm

/-- A block between adds its part. -/
theorem middle (hc0 : ¬cond0_0 i) (hc1 : ¬cond0_1 i) (y : S2048x1024.Idx) :
    sout0_B_0 c i arg2 harg2 arg3 harg3 arg4 harg4 arg5 harg5 hc0 hc1 x0 x1 xs y = acc x0 x1 xs y := by
  refine View.read_writes_apply_of_pieces VS0_0 _ (acc x0 x1 xs) _ ?_ y (scover0_B_0 ..)
  unfold kernelRun0_B
  dsimp only
  sl_unfold_words
  simp only [View.readAt_eq_ld, harg2.read_unread, harg3.read_unread, harg5.read_unread]
  rw [List.forall_mem_cons]
  refine ⟨?_, fun _ h => (List.not_mem_nil h).elim⟩
  intro x
  dsimp only
  change S2048x1024.Idx at x
  obtain ⟨f, k, rfl⟩ : ∃ (f : Fin 2048) (k : Fin 1024), x = ix2 f k := ⟨x 0, x 1, eq_ix2 x⟩
  refine Eq.trans ?_ (congrArg (acc x0 x1 xs) (Tiles.emb_whole _ f k)).symm
  unfold_payloads
  pointwise
  rfl

/-- So does the last block. -/
theorem last (hc0 : ¬cond0_0 i) (hc1 : cond0_1 i) (y : S2048x1024.Idx) :
    sout0_C_0 c i arg2 harg2 arg3 harg3 arg4 harg4 arg5 harg5 hc0 hc1 x0 x1 xs y = acc x0 x1 xs y := by
  refine View.read_writes_apply_of_pieces VS0_0 _ (acc x0 x1 xs) _ ?_ y (scover0_C_0 ..)
  unfold kernelRun0_C
  dsimp only
  sl_unfold_words
  simp only [View.readAt_eq_ld, harg2.read_unread, harg3.read_unread, harg5.read_unread]
  rw [List.forall_mem_cons]
  refine ⟨?_, fun _ h => (List.not_mem_nil h).elim⟩
  intro x
  dsimp only
  change S2048x1024.Idx at x
  obtain ⟨f, k, rfl⟩ : ∃ (f : Fin 2048) (k : Fin 1024), x = ix2 f k := ⟨x 0, x 1, eq_ix2 x⟩
  refine Eq.trans ?_ (congrArg (acc x0 x1 xs) (Tiles.emb_whole _ f k)).symm
  unfold_payloads
  pointwise
  rfl

/-- The last block stores the accumulator, cut to the output format. -/
theorem out (hc0 : ¬cond0_0 i) (hc1 : cond0_1 i) (y : S2048x1024.Idx) :
    out0_C_2 c i arg2 harg2 arg3 harg3 arg4 harg4 arg5 harg5 hc0 hc1 x0 x1 xs y = accHalf x0 x1 xs y := by
  refine View.read_writes_apply_of_pieces VO0_2 _ (accHalf x0 x1 xs) _ ?_ y (cover0_C_2 ..)
  unfold kernelRun0_C
  dsimp only
  sl_unfold_words
  simp (disch := decide) only [View.readAt_eq_ld, harg2.read_unread, harg3.read_unread, harg5.read_unread, View.readCov_skip, View.readCov_fill]
  rw [List.forall_mem_cons]
  refine ⟨?_, fun _ h => (List.not_mem_nil h).elim⟩
  intro x
  dsimp only
  change S2048x1024.Idx at x
  obtain ⟨f, k, rfl⟩ : ∃ (f : Fin 2048) (k : Fin 1024), x = ix2 f k := ⟨x 0, x 1, eq_ix2 x⟩
  refine Eq.trans ?_ (congrArg (accHalf x0 x1 xs) (Tiles.emb_whole _ f k)).symm
  unfold_payloads
  pointwise
  rfl

end blocks

variable (m : (ℓ : Loc nD τ sig) → Buf (Elt Ideal) ℓ) (c : Dev nD)

/-- The first block of a run sets the accumulator. -/
theorem outs_first (t : Fin cfg0.N) (h0 : t.val % 16 = 0) (y : S2048x1024.Idx) :
    (outsAt0 m c t.val t.isLt).2 y = 0 + part (iblk m c 0 t) (iblk m c 1 t) y := by
  have h1 : ¬t.val % 16 = 15 := by omega
  rw [outsAt0_A m c t h0 h1]
  dsimp only
  apply first

/-- Every other block adds to it. -/
theorem outs_step (t : Fin cfg0.N) (h0 : ¬t.val % 16 = 0) (y : S2048x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S2048x1024.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).trans
    (last c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).symm

/-- What is copied out is the sum of a run's parts. -/
theorem outs_sum (t : Fin cfg0.N) (h1 : t.val % 16 = 16 - 1) (y : S2048x1024.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) y) (fun t h y => outs_first m c t h y) (fun t h y => outs_step m c t h y) t h1 y)

end Cert.DownVal
-- ==== Proof.DownArr.lean ====
/-
  The down projection's weight gradient: the kernel's output array as a function of the arguments.
-/
module

public import proofs.«01_k».proof.Proof.DownRun
public import proofs.«01_k».proof.Proof.MlpRow
public import Idealize.ShloMosaic.Lib.Pipeline.ValueKit
public import Idealize.ShloMosaic.Lib.Pointwise

@[expose] public section

set_option maxRecDepth 16384

noncomputable section

namespace Cert.DownVal

open Idealize.ShloMosaic Idealize.ShloMosaic.TcCoe Idealize.SL.Sem Cert.DownIdeal Cert.DownIdeal.Gen Cert.Wgrad Cert.MlpRow

variable (m : (ℓ : Loc nD τ sig) → Buf (Elt Ideal) ℓ) (c : Dev nD)

/-- The windows' index maps. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, win0_0.index t = ![t.val % 16, t.val / 16] ∧ win0_1.index t = ![t.val % 16, 0] ∧ win0_2.index t = ![t.val / 16, 0])

section arrays

variable (Z H : Vec Ideal S8192x1024 .f32) (G : Vec Ideal S1024 .f32) (U : Vec Ideal S1024x4096 .f32)

/-- The pre-activation of hidden unit `f` at token `t`. -/
def preAct (t : Fin 8192) (f : Fin 4096) : EReal := act (fun k : Fin 1024 => H (ix2 t k)) (fun k => G (ix1 k)) (fun k => U (ix2 k f))

/-- THE GRADIENT of the second weights: over the tokens, the hidden unit's activation times the cotangent. -/
def grad : Vec Ideal S4096x1024 .bf16 := fun y => ∑ t : Fin 8192, ramp2 (preAct H G U t (y 0)) * Z (ix2 t (y 1))

end arrays

/-- The incoming cotangent. -/
abbrev aZ : Vec Ideal S8192x1024 .f32 := m ((c : Thread nD τ).loc main_arg0)
/-- The tokens. -/
abbrev aH : Vec Ideal S8192x1024 .f32 := m ((c : Thread nD τ).loc main_arg1)
/-- The gain. -/
abbrev aG : Vec Ideal S1024 .f32 := m ((c : Thread nD τ).loc main_arg2)
/-- The first weights. -/
abbrev aU : Vec Ideal S1024x4096 .f32 := m ((c : Thread nD τ).loc main_arg3)

theorem lt_N (t : Fin cfg0.N) : t.val < 32 := t.isLt

/-- Hidden unit `f` of half `t / 16`. -/
abbrev unit (t : Fin cfg0.N) (f : Fin 2048) : Fin 4096 := ⟨2048 * (t.val / 16) + f.val, by have := lt_N t; omega⟩

theorem read0 (t : Fin cfg0.N) (r : Fin 512) (f : Fin 2048) :
    (iblk m c 0 t : Vec Ideal S512x2048 .bf16) (ix2 r f) = preAct (aH m c) (aG m c) (aU m c) (tok (t.val % 16) (Nat.mod_lt _ (by decide)) r) (unit t f) := by
  have he : (win0_0.blk t).view.emb (ix2 r f : S512x2048.Idx) = (ix2 (tok (t.val % 16) (Nat.mod_lt _ (by decide)) r) (unit t f) : S8192x4096.Idx) := by blk_ext [idx t, tok]
  blk_simp [iblk]
  rw [he]
  entry_read
  pointwise
  rfl

theorem read1 (t : Fin cfg0.N) (r : Fin 512) (k : Fin 1024) :
    (iblk m c 1 t : Vec Ideal S512x1024 .bf16) (ix2 r k) = aZ m c (ix2 (tok (t.val % 16) (Nat.mod_lt _ (by decide)) r) k) := by
  have he : (win0_1.blk t).view.emb (ix2 r k : S512x1024.Idx) = (ix2 (tok (t.val % 16) (Nat.mod_lt _ (by decide)) r) k : S8192x1024.Idx) := by blk_ext [idx t, tok]
  blk_simp [iblk]
  rw [he]
  entry_read
  pointwise

/-- A block's part is its 512 tokens' part. -/
theorem part_eq (t : Fin cfg0.N) (f : Fin 2048) (k : Fin 1024) :
    part (iblk m c 0 t) (iblk m c 1 t) (ix2 f k)
      = ∑ r, ramp2 (preAct (aH m c) (aG m c) (aU m c) (tok (t.val % 16) (Nat.mod_lt _ (by decide)) r) (unit t f)) * aZ m c (ix2 (tok (t.val % 16) (Nat.mod_lt _ (by decide)) r) k) := by
  refine Finset.sum_congr rfl fun r _ => ?_
  exact congrArg₂ (fun a b => ramp2 a * b) (read0 m c t r f) (read1 m c t r k)

/-- THE OUTPUT ARRAY. -/
theorem arr : (dats m 0 c).arrAt 2 cfg0.N = grad (aZ m c) (aH m c) (aG m c) (aU m c) := by
  refine (dats m 0 c).arrAt_eq_of_covers 2 _ (by decide +kernel) fun t hf y => ?_
  blk_simp
  rw [after0_2]
  change S2048x1024.Idx at y
  obtain ⟨f, k, rfl⟩ : ∃ (f : Fin 2048) (k : Fin 1024), y = ix2 f k := ⟨y 0, y 1, eq_ix2 y⟩
  have h1 := (flush0_2 t).mp hf
  have ht := lt_N t
  have he : (win0_2.blk t).view.emb (ix2 f k : S2048x1024.Idx) = (ix2 (unit t f) k : S4096x1024.Idx) := by blk_ext [idx t]
  rw [he]
  refine sum_run (F := fun q => ramp2 (preAct (aH m c) (aG m c) (aU m c) q (unit t f)) * aZ m c (ix2 q k)) (outs_sum m c t h1 (ix2 f k)) fun s => ?_
  have hs : (16 * (t.val / 16) + s.val) % 16 = s.val := by have := s.isLt; omega
  have hd : (16 * (t.val / 16) + s.val) / 16 = t.val / 16 := by have := s.isLt; omega
  rw [part_eq]
  simp only [hs, unit, hd]

end Cert.DownVal
-- ==== Proof.DownClaims.lean ====
/-
  The down projection's weight gradient: the reference's result, and the claims.
-/
module

public import proofs.«01_k».proof.Defs
public import proofs.«01_k».proof.Proof.Gen.Down.Frame
public import proofs.«01_k».proof.Proof.Gen.DownRefIdeal.Run
public import proofs.«01_k».proof.Proof.DownArr
public import Idealize.ShloMosaic.Lib.Quiescent

@[expose] public section

set_option maxRecDepth 16384

noncomputable section

namespace Cert.DownClaims

open Idealize.ShloMosaic Idealize.ShloMosaic.TcCoe Idealize.SL.Sem Cert.Wgrad

section reference

open Cert.DownRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v21)
      = DownVal.grad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2⟩) (Value.run m ρ)
  funext y
  change Cert.DownIdeal.S4096x1024.Idx at y
  obtain ⟨f, k, rfl⟩ : ∃ (f : Fin 4096) (k : Fin 1024), y = ix2 f k := ⟨y 0, y 1, eq_ix2 y⟩
  pointwise
  exact Finset.sum_congr rfl fun t _ => mul_comm _ _

end reference

/-- The kernel as printed ends, its arguments unchanged and every counter at zero. -/
theorem ends : quiescent_Down (hDown := Cert.Down.Gen.facts) := fun m ρ _ => Cert.Down.Gen.frame m ρ

/-- So does its exact form. -/
theorem ideal_ends : quiescent_DownIdeal (hDownIdeal := Cert.DownIdeal.Gen.facts) := fun m ρ _ => Cert.DownIdeal.Gen.frame m ρ

/-- So does the reference. -/
theorem ref_ends : quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run m ρ)

/-- Both programs' result is the gradient of the second weights, as the same function of the arguments. -/
theorem equal : algebraic_DownIdeal_DownRefIdeal (hDownIdeal := Cert.DownIdeal.Gen.facts) (hDownRefIdeal := Cert.DownRefIdeal.Gen.facts) := by
  intro m ρ m' ρ' _ hag
  refine ⟨fun c => DownVal.grad (DownVal.aZ m c) (DownVal.aH m c) (DownVal.aG m c) (DownVal.aU m c),
    (θ_run _ _ _).mono (fun _ h c => ⟨(h c).1.trans (DownVal.arr m c), (h c).2⟩) (Cert.DownIdeal.Value.run_blocks m ρ),
    (θ_run _ _ _).mono (fun _ h c => ⟨(h c).1.trans ?_, (h c).2⟩) (ref_run m' ρ')⟩
  rw [(hag c).1, (hag c).2.1, (hag c).2.2.1, (hag c).2.2.2]

end Cert.DownClaims
-- ==== Proof.UpRun.lean ====
/-
  The up projection's weight gradient: what the kernel leaves in its accumulator and in the output's block.
-/
module

public import proofs.«01_k».proof.Proof.Wgrad
public import proofs.«01_k».proof.Proof.Gen.UpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpVal

open Idealize.ShloMosaic Idealize.ShloMosaic.TcCoe Idealize.SL.Sem Cert.UpIdeal Cert.UpIdeal.Gen Cert.Wgrad

section blocks

variable (c : Dev nD) (i : grid0.Coords) (arg2 : Memref sig .tc .vmem S512x1024 .bf16) (harg2 : arg2.IsWhole) (arg3 : Memref sig .tc .vmem S512x4096 .bf16) (harg3 : arg3.IsWhole)
  (arg4 : Memref sig .tc .vmem S4x1024x1024 .bf16) (harg4 : arg4.IsWhole) (arg5 : Memref sig .tc .vmem S4x1024x1024 .f32) (harg5 : arg5.IsWhole)
  (x0 : Vec Ideal S512x1024 .bf16) (x1 : Vec Ideal S512x4096 .bf16) (xs : Vec Ideal S4x1024x1024 .f32)

/-- What one block of tokens adds to the gradient at quarter `p`, channel `a`, hidden unit `b` of the quarter. -/
def partAt (p : Fin 4) (a b : Fin 1024) : EReal :=
  ∑ r : Fin 512, x0 (ix2 r a) * x1 (ix2 r ⟨1024 * p.val + b.val, by omega⟩)

/-- The same as a function of an index. -/
def part (y : S4x1024x1024.Idx) : EReal := partAt x0 x1 (y 0) (y 1) (y 2)

/-- The accumulator after one block of tokens. -/
def acc : Vec Ideal S4x1024x1024 .f32 := fun y => xs y + part x0 x1 y

/-- The same in the output's format. -/
def accHalf : Vec Ideal S4x1024x1024 .bf16 := fun y => xs y + part x0 x1 y

/-- The four stores into the accumulator, the last first. -/
def pcs : List (View.Piece (Elt Ideal) S4x1024x1024 .f32) :=
  [⟨Rect.unit ![3, 0, 0] ![1, 1024, 1024] inb_S4x1024x1024_S1x1024x1024_3_0_0,
      k0_pay2 (k0_pay5 (View.ld x0 (Rect.unit ![0, 0] ![512, 1024] inb_S512x1024_S512x1024_0_0)))
        (View.ld x1 (Rect.unit ![0, 3072] ![512, 1024] inb_S512x4096_S512x1024_0_3072))
        (View.ld xs (Rect.unit ![3, 0, 0] ![1, 1024, 1024] inb_S4x1024x1024_S1x1024x1024_3_0_0))⟩,
    ⟨Rect.unit ![2, 0, 0] ![1, 1024, 1024] inb_S4x1024x1024_S1x1024x1024_2_0_0,
      k0_pay1 (k0_pay8 (View.ld x0 (Rect.unit ![0, 0] ![512, 1024] inb_S512x1024_S512x1024_0_0))
        (View.ld x1 (Rect.unit ![0, 2048] ![512, 1024] inb_S512x4096_S512x1024_0_2048))
        (View.ld xs (Rect.unit ![2, 0, 0] ![1, 1024, 1024] inb_S4x1024x1024_S1x1024x1024_2_0_0)))⟩,
    ⟨Rect.unit ![1, 0, 0] ![1, 1024, 1024] inb_S4x1024x1024_S1x1024x1024_1_0_0,
      k0_pay7 (View.ld x0 (Rect.unit ![0, 0] ![512, 1024] inb_S512x1024_S512x1024_0_0))
        (View.ld x1 (Rect.unit ![0, 1024] ![512, 1024] inb_S512x4096_S512x1024_0_1024))
        (View.ld xs (Rect.unit ![1, 0, 0] ![1, 1024, 1024] inb_S4x1024x1024_S1x1024x1024_1_0_0))⟩,
    ⟨Rect.unit ![0, 0, 0] ![1, 1024, 1024] inb_S4x1024x1024_S1x1024x1024_0_0_0,
      k0_pay6 (View.ld x0 (Rect.unit ![0, 0] ![512, 1024] inb_S512x1024_S512x1024_0_0))
        (View.ld x1 (Rect.unit ![0, 0] ![512, 1024] inb_S512x4096_S512x1024_0_0))
        (View.ld xs (Rect.unit ![0, 0, 0] ![1, 1024, 1024] inb_S4x1024x1024_S1x1024x1024_0_0_0))⟩]

/-- Each store puts the accumulator's new entries. -/
theorem pcs_acc : ∀ p ∈ pcs x0 x1 xs, ∀ x, p.2 x = acc x0 x1 xs (p.1.emb x) := by
  unfold pcs
  rw [List.forall_mem_cons, List.forall_mem_cons, List.forall_mem_cons, List.forall_mem_cons]
  refine ⟨?_, ?_, ?_, ?_, fun _ h => (List.not_mem_nil h).elim⟩
  all_goals
    intro x
    dsimp only
    change S1x1024x1024.Idx at x
    obtain ⟨q, a, b, rfl⟩ : ∃ (q : Fin 1) (a b : Fin 1024), x = ix3 q a b := ⟨x 0, x 1, x 2, eq_ix3 x⟩
    obtain rfl : q = 0 := Subsingleton.elim _ _
    refine Eq.trans ?_ (congrArg (acc x0 x1 xs) (emb_slab _ (by decide) 0 a b (by omega))).symm
    unfold_payloads
    pointwise
  · rfl
  · rfl
  · rfl
  · exact congrArg (xs _ + ·) (Finset.sum_congr rfl fun r _ => congrArg (fun q => x0 (ix2 r a) * x1 (ix2 r q)) (Fin.ext (by show b.val = 1024 * 0 + b.val; omega)))

/-- They cover it. -/
theorem pcs_cover (y : S4x1024x1024.Idx) : ∃ p ∈ pcs x0 x1 xs, y ∈ p.1.set :=
  View.cover_of_tiledL (Val := Elt Ideal) (s := S4x1024x1024) (e := .f32) (pcs x0 x1 xs) S1x1024x1024.size (by sl_kernel_rfl) y

/-- So over any contents they leave its new entries. -/
theorem pcs_read (y : S4x1024x1024.Idx) (f : VS0_0.ty.Contents (Elt Ideal)) :
    VS0_0.read (Elt Ideal) (VS0_0.writes (Elt Ideal) f (pcs x0 x1 xs)) y = acc x0 x1 xs y :=
  View.read_writes_apply_of_pieces VS0_0 f (acc x0 x1 xs) (pcs x0 x1 xs) (pcs_acc x0 x1 xs) y (pcs_cover x0 x1 xs y)

/-- The accumulator is zeroed with zeros. -/
theorem zero_eq (y : S4x1024x1024.Idx) : (k0_pay4 (F := Ideal)) y = 0 := by
  unfold_payloads
  pointwise

/-- The first block of a run zeroes the accumulator and adds its part. -/
theorem first (hc0 : cond0_0 i) (hc1 : ¬cond0_1 i) (y : S4x1024x1024.Idx) :
    sout0_A_0 c i arg2 harg2 arg3 harg3 arg4 harg4 arg5 harg5 hc0 hc1 x0 x1 y = 0 + part x0 x1 y := by
  unfold sout0_A_0 kernelRun0_A
  dsimp only
  sl_unfold_words
  simp (disch := decide) only [View.readAt_eq_ld, harg2.read_unread, harg3.read_unread, View.readCov_skip, View.readCov_fill]
  refine (congrFun (congrArg (VS0_0.read (Elt Ideal)) (View.writes_append VS0_0 VS0_0.junk (pcs x0 x1 (k0_pay4 (F := Ideal)))
    [⟨Rect.unit ![0, 0, 0] ![4, 1024, 1024] inb_S4x1024x1024_S4x1024x1024_0_0_0, k0_pay4 (F := Ideal)⟩])) y).trans ?_
  exact (pcs_read x0 x1 (k0_pay4 (F := Ideal)) y _).trans (congrArg (· + part x0 x1 y) (zero_eq y))

/-- A block between adds its part. -/
theorem middle (hc0 : ¬cond0_0 i) (hc1 : ¬cond0_1 i) (y : S4x1024x1024.Idx) :
    sout0_B_0 c i arg2 harg2 arg3 harg3 arg4 harg4 arg5 harg5 hc0 hc1 x0 x1 xs y = acc x0 x1 xs y := by
  refine View.read_writes_apply_of_pieces VS0_0 _ (acc x0 x1 xs) _ ?_ y (scover0_B_0 ..)
  unfold kernelRun0_B
  dsimp only
  sl_unfold_words
  simp (disch := decide) only [View.readAt_eq_ld, harg2.read_unread, harg3.read_unread, harg5.read_unread, View.readCov_skip, View.readCov_fill]
  exact pcs_acc x0 x1 xs

/-- So does the last block. -/
theorem last (hc0 : ¬cond0_0 i) (hc1 : cond0_1 i) (y : S4x1024x1024.Idx) :
    sout0_C_0 c i arg2 harg2 arg3 harg3 arg4 harg4 arg5 harg5 hc0 hc1 x0 x1 xs y = acc x0 x1 xs y := by
  refine View.read_writes_apply_of_pieces VS0_0 _ (acc x0 x1 xs) _ ?_ y (scover0_C_0 ..)
  unfold kernelRun0_C
  dsimp only
  sl_unfold_words
  simp (disch := decide) only [View.readAt_eq_ld, harg2.read_unread, harg3.read_unread, harg5.read_unread, View.readCov_skip, View.readCov_fill]
  exact pcs_acc x0 x1 xs

/-- The last block stores the accumulator, cut to the output format. -/
theorem out (hc0 : ¬cond0_0 i) (hc1 : cond0_1 i) (y : S4x1024x1024.Idx) :
    out0_C_2 c i arg2 harg2 arg3 harg3 arg4 harg4 arg5 harg5 hc0 hc1 x0 x1 xs y = accHalf x0 x1 xs y := by
  refine View.read_writes_apply_of_pieces VO0_2 _ (accHalf x0 x1 xs) _ ?_ y (cover0_C_2 ..)
  unfold kernelRun0_C
  dsimp only
  sl_unfold_words
  simp (disch := decide) only [View.readAt_eq_ld, harg2.read_unread, harg3.read_unread, harg5.read_unread, View.readCov_skip, View.readCov_fill]
  rw [List.forall_mem_cons]
  refine ⟨?_, fun _ h => (List.not_mem_nil h).elim⟩
  intro x
  exact View.read_writes_apply_of_pieces arg5.view arg5.view.junk (acc x0 x1 xs) (pcs x0 x1 xs) (pcs_acc x0 x1 xs) _ (pcs_cover x0 x1 xs _)

end blocks

variable (m : (ℓ : Loc nD τ sig) → Buf (Elt Ideal) ℓ) (c : Dev nD)

/-- The first block of a run sets the accumulator. -/
theorem outs_first (t : Fin cfg0.N) (h0 : t.val % 16 = 0) (y : S4x1024x1024.Idx) :
    (outsAt0 m c t.val t.isLt).2 y = 0 + part (iblk m c 0 t) (iblk m c 1 t) y := by
  have h1 : ¬t.val % 16 = 15 := by omega
  rw [outsAt0_A m c t h0 h1]
  dsimp only
  apply first

/-- Every other block adds to it. -/
theorem outs_step (t : Fin cfg0.N) (h0 : ¬t.val % 16 = 0) (y : S4x1024x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S4x1024x1024.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).trans
    (last c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).symm

/-- What is copied out is the sum of a run's parts. -/
theorem outs_sum (t : Fin cfg0.N) (h1 : t.val % 16 = 16 - 1) (y : S4x1024x1024.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) y) (fun t h y => outs_first m c t h y) (fun t h y => outs_step m c t h y) t h1 y)

end Cert.UpVal
-- ==== Proof.UpArr.lean ====
/-
  The up projection's weight gradient: the kernel's output array as a function of the arguments.
-/
module

public import proofs.«01_k».proof.Proof.UpRun
public import Idealize.ShloMosaic.Lib.Pipeline.ValueKit
public import Idealize.ShloMosaic.Lib.Pointwise

@[expose] public section

set_option maxRecDepth 16384

noncomputable section

namespace Cert.UpVal

open Idealize.ShloMosaic Idealize.ShloMosaic.TcCoe Idealize.SL.Sem Cert.UpIdeal Cert.UpIdeal.Gen Cert.Wgrad

variable (m : (ℓ : Loc nD τ sig) → Buf (Elt Ideal) ℓ) (c : Dev nD)

/-- The windows' index maps. -/
theorem idx : ∀ t : Fin cfg0.N, win0_0.index t = ![t.val % 16, 0] ∧ win0_1.index t = ![t.val % 16, 0] ∧ win0_2.index t = ![0, 0, 0] :=
  (by decide +kernel : ∀ t : Fin grid0.N, win0_0.index t = ![t.val % 16, 0] ∧ win0_1.index t = ![t.val % 16, 0] ∧ win0_2.index t = ![0, 0, 0])

section arrays

variable (A : Vec Ideal S8192x4096 .bf16) (H : Vec Ideal S8192x1024 .f32) (G : Vec Ideal S1024 .f32)

/-- The gradient at quarter `p`, channel `a`, hidden unit `b` of the quarter: over the tokens, the normalised token times
    the hidden unit's cotangent. -/
def gradAt (p : Fin 4) (a b : Fin 1024) : EReal := ∑ t : Fin 8192, normed H G t a * A (ix2 t ⟨1024 * p.val + b.val, by omega⟩)

/-- THE GRADIENT of the first weights, by quarters of the hidden units. -/
def grad : Vec Ideal S4x1024x1024 .bf16 := fun y => gradAt A H G (y 0) (y 1) (y 2)

end arrays

/-- The hidden units' cotangents. -/
abbrev aA : Vec Ideal S8192x4096 .bf16 := m ((c : Thread nD τ).loc main_arg0)
/-- The tokens. -/
abbrev aH : Vec Ideal S8192x1024 .f32 := m ((c : Thread nD τ).loc main_arg1)
/-- The gain. -/
abbrev aG : Vec Ideal S1024 .f32 := m ((c : Thread nD τ).loc main_arg2)

/-- Token `r` of the block at point `t`. -/
abbrev at16 (t : Fin cfg0.N) (r : Fin 512) : Fin 8192 := tok (t.val % 16) (Nat.mod_lt _ (by decide)) r

theorem read0 (t : Fin cfg0.N) (r : Fin 512) (k : Fin 1024) :
    (iblk m c 0 t : Vec Ideal S512x1024 .bf16) (ix2 r k) = normed (aH m c) (aG m c) (at16 t r) k := by
  have he : (win0_0.blk t).view.emb (ix2 r k : S512x1024.Idx) = (ix2 (at16 t r) k : S8192x1024.Idx) := by blk_ext [idx t, tok]
  blk_simp [iblk]
  rw [he]
  entry_read
  pointwise
  rfl

theorem read1 (t : Fin cfg0.N) (r : Fin 512) (f : Fin 4096) :
    (iblk m c 1 t : Vec Ideal S512x4096 .bf16) (ix2 r f) = aA m c (ix2 (at16 t r) f) := by
  blk_ext [iblk, V, idx t, tok]

/-- A block's part is its 512 tokens' part. -/
theorem part_eq (t : Fin cfg0.N) (p : Fin 4) (a b : Fin 1024) :
    part (iblk m c 0 t) (iblk m c 1 t) (ix3 p a b)
      = ∑ r, normed (aH m c) (aG m c) (at16 t r) a * aA m c (ix2 (at16 t r) ⟨1024 * p.val + b.val, by omega⟩) := by
  show partAt _ _ p a b = _
  unfold partAt
  refine Finset.sum_congr rfl fun r _ => ?_
  exact congrArg₂ (· * ·) (read0 m c t r a) (read1 m c t r _)

/-- THE OUTPUT ARRAY. -/
theorem arr : (dats m 0 c).arrAt 2 cfg0.N = grad (aA m c) (aH m c) (aG m c) := by
  refine (dats m 0 c).arrAt_eq_of_covers 2 _ (by decide +kernel) fun t hf y => ?_
  blk_simp
  rw [after0_2]
  change S4x1024x1024.Idx at y
  obtain ⟨p, a, b, rfl⟩ : ∃ (p : Fin 4) (a b : Fin 1024), y = ix3 p a b := ⟨y 0, y 1, y 2, eq_ix3 y⟩
  have h1 := (flush0_2 t).mp hf
  have he : (win0_2.blk t).view.emb (ix3 p a b : S4x1024x1024.Idx) = (ix3 p a b : S4x1024x1024.Idx) := by blk_ext [idx t]
  rw [he]
  refine sum_run (F := fun q => normed (aH m c) (aG m c) q a * aA m c (ix2 q ⟨1024 * p.val + b.val, by omega⟩)) (outs_sum m c t h1 (ix3 p a b)) fun s => ?_
  have hs : (16 * (t.val / 16) + s.val) % 16 = s.val := by have := s.isLt; omega
  rw [part_eq]
  simp only [at16, hs]

end Cert.UpVal
-- ==== Proof.UpClaims.lean ====
/-
  The up projection's weight gradient: the reference's result, and the claims.
-/
module

public import proofs.«01_k».proof.Defs
public import proofs.«01_k».proof.Proof.Gen.Up.Frame
public import proofs.«01_k».proof.Proof.Gen.UpRefIdeal.Run
public import proofs.«01_k».proof.Proof.UpArr
public import Idealize.ShloMosaic.Lib.Quiescent

@[expose] public section

set_option maxRecDepth 16384

noncomputable section

namespace Cert.UpClaims

open Idealize.ShloMosaic Idealize.ShloMosaic.TcCoe Idealize.SL.Sem Cert.Wgrad

section reference

open Cert.UpRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v20)
      = UpVal.grad (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.UpIdeal.S4x1024x1024.Idx at y
  obtain ⟨p, a, b, rfl⟩ : ∃ (p : Fin 4) (a b : Fin 1024), y = ix3 p a b := ⟨y 0, y 1, y 2, eq_ix3 y⟩
  pointwise
  show _ = UpVal.gradAt _ _ _ p a b
  unfold UpVal.gradAt
  refine Finset.sum_congr rfl fun t _ => (mul_comm _ _).trans ?_
  simp only [Nat.mul_comm p.val 1024]
  rfl

end reference

/-- The kernel as printed ends, its arguments unchanged and every counter at zero. -/
theorem ends : quiescent_Up (hUp := Cert.Up.Gen.facts) := fun m ρ _ => Cert.Up.Gen.frame m ρ

/-- So does its exact form. -/
theorem ideal_ends : quiescent_UpIdeal (hUpIdeal := Cert.UpIdeal.Gen.facts) := fun m ρ _ => Cert.UpIdeal.Gen.frame m ρ

/-- So does the reference. -/
theorem ref_ends : quiescent_UpRefIdeal (hUpRefIdeal := Cert.UpRefIdeal.Gen.facts) := fun m ρ _ =>
  (θ_run _ _ _).mono (fun r h => ⟨fun c => (h c).2, sem_eq_zero_of_no_sems (by decide) r.2⟩) (Cert.UpRefIdeal.Value.run m ρ)

/-- Both programs' result is the gradient of the first weights, as the same function of the arguments. -/
theorem equal : algebraic_UpIdeal_UpRefIdeal (hUpIdeal := Cert.UpIdeal.Gen.facts) (hUpRefIdeal := Cert.UpRefIdeal.Gen.facts) := by
  intro m ρ m' ρ' _ hag
  refine ⟨fun c => UpVal.grad (UpVal.aA m c) (UpVal.aH m c) (UpVal.aG m c),
    (θ_run _ _ _).mono (fun _ h c => ⟨(h c).1.trans (UpVal.arr m c), (h c).2⟩) (Cert.UpIdeal.Value.run_blocks m ρ),
    (θ_run _ _ _).mono (fun _ h c => ⟨(h c).1.trans ?_, (h c).2⟩) (ref_run m' ρ')⟩
  rw [(hag c).1, (hag c).2.1, (hag c).2.2]

end Cert.UpClaims
-- ==== Proof.Segs.lean ====
/-
  A row put together from segments of one width.
-/
module

public import proofs.«01_k».proof.Proof.Wgrad

@[expose] public section

noncomputable section

namespace Cert.Segs

open Idealize.ShloMosaic

/-- Entry `n` of the row whose segment `j` is `f j`, each of width `W`. -/
def pick {K W : ℕ} (f : Fin K → Fin W → EReal) (n : ℕ) (h : n < W * K) : EReal :=
  f ⟨n / W, Nat.div_lt_of_lt_mul h⟩ ⟨n % W, Nat.mod_lt _ (Nat.pos_of_ne_zero fun e => by subst e; omega)⟩

/-- Entry `k` of segment `j`. -/
theorem pick_eq {K W : ℕ} (f : Fin K → Fin W → EReal) (n : ℕ) (h : n < W * K) (j : Fin K) (k : Fin W) (e : n = W * j.val + k.val) :
    pick f n h = f j k := by
  subst e
  have hk := k.isLt
  unfold pick
  have h1 : (W * j.val + k.val) / W = j.val := by rw [Nat.mul_add_div (by omega), Nat.div_eq_of_lt hk, Nat.add_zero]
  have h2 : (W * j.val + k.val) % W = k.val := by rw [Nat.mul_add_mod, Nat.mod_eq_of_lt hk]
  exact congrArg₂ f (Fin.ext h1) (Fin.ext h2)

/-- The sum of `N` terms over the positions from `lo` on, `w` of them. -/
def part {N : ℕ} (F : (n : ℕ) → n < N → EReal) (lo w : ℕ) : EReal := ∑ k : Fin w, if h : lo + k.val < N then F (lo + k.val) h else 0

/-- A run of terms is a part of the sum. -/
theorem part_of {N : ℕ} (F : (n : ℕ) → n < N → EReal) (lo w : ℕ) (f : Fin w → EReal)
    (h : ∀ k : Fin w, ∃ hn : lo + k.val < N, f k = F (lo + k.val) hn) : ∑ k, f k = part F lo w := by
  refine Finset.sum_congr rfl fun k _ => ?_
  obtain ⟨hn, e⟩ := h k
  rw [dif_pos hn, e]

/-- The first run. -/
theorem part_first {N : ℕ} (F : (n : ℕ) → n < N → EReal) (w : ℕ) (f : Fin w → EReal)
    (h : ∀ k : Fin w, ∃ hn : k.val < N, f k = F k.val hn) : ∑ k, f k = part F 0 w :=
  part_of F 0 w f fun k => by
    obtain ⟨hn, e⟩ := h k
    exact ⟨by omega, e.trans (by congr 1; omega)⟩

/-- One run more. -/
theorem part_step {N : ℕ} (F : (n : ℕ) → n < N → EReal) (lo w : ℕ) (s : EReal) (f : Fin w → EReal) (hs : s = part F 0 lo)
    (h : ∀ k : Fin w, ∃ hn : lo + k.val < N, f k = F (lo + k.val) hn) : s + ∑ k, f k = part F 0 (lo + w) := by
  rw [hs, part_of F lo w f h]
  unfold part
  rw [Fin.sum_univ_add]
  refine congrArg₂ (· + ·) (Finset.sum_congr rfl fun k _ => ?_) (Finset.sum_congr rfl fun k _ => ?_)
  · simp only [Fin.val_castAdd]
  · simp only [Fin.val_natAdd, Nat.zero_add]

/-- All runs together are the whole sum. -/
theorem part_all {N : ℕ} (F : (n : ℕ) → n < N → EReal) : part F 0 N = ∑ n : Fin N, F n.val n.isLt := by
  refine Finset.sum_congr rfl fun n _ => ?_
  rw [dif_pos (by omega : 0 + n.val < N)]
  congr 1
  omega

end Cert.Segs
-- ==== Proof.AinRun.lean ====
/-
  The weight gradient of the input projection of the convolution layers: what the kernel leaves in its accumulator and in the output's block.
-/
module

public import proofs.«01_k».proof.Proof.Segs
public import proofs.«01_k».proof.Proof.Gen.AinIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AinVal

open Idealize.ShloMosaic Idealize.ShloMosaic.TcCoe Idealize.SL.Sem Cert.AinIdeal Cert.AinIdeal.Gen Cert.Wgrad Cert.Segs

section blocks

variable (c : Dev nD) (i : grid0.Coords) (arg2 : Memref sig .tc .vmem S512x1024 .bf16) (harg2 : arg2.IsWhole)
  (arg3 : Memref sig .tc .vmem S1x512x1024 .bf16) (harg3 : arg3.IsWhole)
  (arg4 : Memref sig .tc .vmem S1x512x1024 .bf16) (harg4 : arg4.IsWhole)
  (arg5 : Memref sig .tc .vmem S1x512x1024 .bf16) (harg5 : arg5.IsWhole)
  (arg6 : Memref sig .tc .vmem S4x1024x768 .bf16) (harg6 : arg6.IsWhole)
  (arg7 : Memref sig .tc .vmem S4x1024x768 .f32) (harg7 : arg7.IsWhole)
  (x0 : Vec Ideal S512x1024 .bf16) (x1 : Vec Ideal S1x512x1024 .bf16) (x2 : Vec Ideal S1x512x1024 .bf16) (x3 : Vec Ideal S1x512x1024 .bf16)
  (xs : Vec Ideal S4x1024x768 .f32)

/-- Token `r`'s row of the cotangent, by segments. -/
def row (r : Fin 512) (j : Fin 3) (k : Fin 1024) : EReal := (![x1, x2, x3] j : Vec Ideal S1x512x1024 .bf16) (ix3 0 r k)

/-- What one block of tokens adds to the gradient at device `p`, channel `a`, column `b` of the device. -/
def partAt (p : Fin 4) (a : Fin 1024) (b : Fin 768) : EReal :=
  ∑ r : Fin 512, x0 (ix2 r a) * pick (row x1 x2 x3 r) (768 * p.val + b.val) (by omega)

/-- The same as a function of an index. -/
def part (y : S4x1024x768.Idx) : EReal := partAt x0 x1 x2 x3 (y 0) (y 1) (y 2)

/-- The accumulator after one block of tokens. -/
def acc : Vec Ideal S4x1024x768 .f32 := fun y => xs y + part x0 x1 x2 x3 y

/-- The same in the output's format. -/
def accHalf : Vec Ideal S4x1024x768 .bf16 := fun y => xs y + part x0 x1 x2 x3 y

/-- Its entries in one store's rectangle: columns `u` on of segment `j`. -/
theorem acc_at {p o w : ℕ} (h) (hp : p < 4) (ho : o + w ≤ 768) (a : Fin 1024) (d : Fin w) (j : Fin 3) (u : ℕ) (hu : u + w ≤ 1024)
    (e : 768 * p + o = 1024 * j.val + u) :
    acc x0 x1 x2 x3 xs ((Rect.unit (s := S4x1024x768) ![p, 0, o] ![1, 1024, w] h).emb (ix3 (0 : Fin 1) a d))
      = xs (ix3 (⟨p, hp⟩ : Fin 4) a (⟨o + d.val, by omega⟩ : Fin 768)) + ∑ r : Fin 512, x0 (ix2 r a) * row x1 x2 x3 r j ⟨u + d.val, by omega⟩ := by
  refine (congrArg (acc x0 x1 x2 x3 xs) (emb_slab _ hp 0 a d (by omega))).trans ?_
  show xs _ + partAt x0 x1 x2 x3 ⟨p, hp⟩ a ⟨o + d.val, by omega⟩ = _
  unfold partAt
  exact congrArg (xs _ + ·) (Finset.sum_congr rfl fun r _ => congrArg (x0 (ix2 r a) * ·)
    (pick_eq _ _ _ j ⟨u + d.val, by omega⟩ (by show 768 * p + (o + d.val) = 1024 * j.val + (u + d.val); omega)))

/-- The stores into the accumulator, the last first. -/
def pcs : List (View.Piece (Elt Ideal) S4x1024x768 .f32) :=
  [⟨Rect.unit ![3, 0, 0] ![1, 1024, 768] inb_S4x1024x768_S1x1024x768_3_0_0,
      k0_pay1 (k0_pay11 (k0_pay4 (View.ld x0 (Rect.unit ![0, 0] ![512, 1024] inb_S512x1024_S512x1024_0_0)))
        (View.ld x3 (Rect.unit ![0, 0, 256] ![1, 512, 768] inb_S1x512x1024_S1x512x768_0_0_256)))
        (View.ld xs (Rect.unit ![3, 0, 0] ![1, 1024, 768] inb_S4x1024x768_S1x1024x768_3_0_0))⟩,
    ⟨Rect.unit ![2, 0, 512] ![1, 1024, 256] inb_S4x1024x768_S1x1024x256_2_0_512,
      k0_pay10 (k0_pay4 (View.ld x0 (Rect.unit ![0, 0] ![512, 1024] inb_S512x1024_S512x1024_0_0)))
        (View.ld x3 (Rect.unit ![0, 0, 0] ![1, 512, 256] inb_S1x512x1024_S1x512x256_0_0_0))
        (View.ld xs (Rect.unit ![2, 0, 512] ![1, 1024, 256] inb_S4x1024x768_S1x1024x256_2_0_512))⟩,
    ⟨Rect.unit ![2, 0, 0] ![1, 1024, 512] inb_S4x1024x768_S1x1024x512_2_0_0,
      k0_pay9 (k0_pay4 (View.ld x0 (Rect.unit ![0, 0] ![512, 1024] inb_S512x1024_S512x1024_0_0)))
        (View.ld x2 (Rect.unit ![0, 0, 512] ![1, 512, 512] inb_S1x512x1024_S1x512x512_0_0_512))
        (View.ld xs (Rect.unit ![2, 0, 0] ![1, 1024, 512] inb_S4x1024x768_S1x1024x512_2_0_0))⟩,
    ⟨Rect.unit ![1, 0, 256] ![1, 1024, 512] inb_S4x1024x768_S1x1024x512_1_0_256,
      k0_pay8 (k0_pay7 (View.ld x0 (Rect.unit ![0, 0] ![512, 1024] inb_S512x1024_S512x1024_0_0))
        (View.ld x2 (Rect.unit ![0, 0, 0] ![1, 512, 512] inb_S1x512x1024_S1x512x512_0_0_0)))
        (View.ld xs (Rect.unit ![1, 0, 256] ![1, 1024, 512] inb_S4x1024x768_S1x1024x512_1_0_256))⟩,
    ⟨Rect.unit ![1, 0, 0] ![1, 1024, 256] inb_S4x1024x768_S1x1024x256_1_0_0,
      k0_pay6 (View.ld x0 (Rect.unit ![0, 0] ![512, 1024] inb_S512x1024_S512x1024_0_0))
        (View.ld x1 (Rect.unit ![0, 0, 768] ![1, 512, 256] inb_S1x512x1024_S1x512x256_0_0_768))
        (View.ld xs (Rect.unit ![1, 0, 0] ![1, 1024, 256] inb_S4x1024x768_S1x1024x256_1_0_0))⟩,
    ⟨Rect.unit ![0, 0, 0] ![1, 1024, 768] inb_S4x1024x768_S1x1024x768_0_0_0,
      k0_pay5 (View.ld x0 (Rect.unit ![0, 0] ![512, 1024] inb_S512x1024_S512x1024_0_0))
        (View.ld x1 (Rect.unit ![0, 0, 0] ![1, 512, 768] inb_S1x512x1024_S1x512x768_0_0_0))
        (View.ld xs (Rect.unit ![0, 0, 0] ![1, 1024, 768] inb_S4x1024x768_S1x1024x768_0_0_0))⟩]

/-- Each store puts the accumulator's new entries. -/
theorem pcs_acc : ∀ p ∈ pcs x0 x1 x2 x3 xs, ∀ x, p.2 x = acc x0 x1 x2 x3 xs (p.1.emb x) := by
  unfold pcs
  rw [List.forall_mem_cons, List.forall_mem_cons, List.forall_mem_cons, List.forall_mem_cons, List.forall_mem_cons, List.forall_mem_cons]
  refine ⟨?_, ?_, ?_, ?_, ?_, ?_, fun _ h => (List.not_mem_nil h).elim⟩
  · intro x
    dsimp only
    change S1x1024x768.Idx at x
    obtain ⟨q, a, d, rfl⟩ : ∃ (q : Fin 1) (a : Fin 1024) (d : Fin 768), x = ix3 q a d := ⟨x 0, x 1, x 2, eq_ix3 x⟩
    obtain rfl : q = 0 := Subsingleton.elim _ _
    refine Eq.trans ?_ (acc_at x0 x1 x2 x3 xs (p := 3) (o := 0) _ (by decide) (by decide) a d 2 256 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 xs (p := 2) (o := 512) _ (by decide) (by decide) a d 2 0 (by decide) (by decide)).symm
    unfold_payloads
    pointwise
    rfl
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 xs (p := 2) (o := 0) _ (by decide) (by decide) a d 1 512 (by decide) (by decide)).symm
    unfold_payloads
    pointwise
    rfl
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 xs (p := 1) (o := 256) _ (by decide) (by decide) a d 1 0 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 xs (p := 1) (o := 0) _ (by decide) (by decide) a d 0 768 (by decide) (by decide)).symm
    unfold_payloads
    pointwise
    rfl
  · intro x
    dsimp only
    change S1x1024x768.Idx at x
    obtain ⟨q, a, d, rfl⟩ : ∃ (q : Fin 1) (a : Fin 1024) (d : Fin 768), x = ix3 q a d := ⟨x 0, x 1, x 2, eq_ix3 x⟩
    obtain rfl : q = 0 := Subsingleton.elim _ _
    refine Eq.trans ?_ (acc_at x0 x1 x2 x3 xs (p := 0) (o := 0) _ (by decide) (by decide) a d 0 0 (by decide) (by decide)).symm
    unfold_payloads
    pointwise
    rfl

/-- They cover it. -/
theorem pcs_cover (y : S4x1024x768.Idx) : ∃ p ∈ pcs x0 x1 x2 x3 xs, y ∈ p.1.set :=
  View.cover_of_tiledBy (Val := Elt Ideal) (s := S4x1024x768) (e := .f32) (pcs x0 x1 x2 x3 xs) ![1, 1024, 256] (by sl_kernel_rfl) y

/-- So over any contents they leave its new entries. -/
theorem pcs_read (y : S4x1024x768.Idx) (f : VS0_0.ty.Contents (Elt Ideal)) :
    VS0_0.read (Elt Ideal) (VS0_0.writes (Elt Ideal) f (pcs x0 x1 x2 x3 xs)) y = acc x0 x1 x2 x3 xs y :=
  View.read_writes_apply_of_pieces VS0_0 f (acc x0 x1 x2 x3 xs) (pcs x0 x1 x2 x3 xs) (pcs_acc x0 x1 x2 x3 xs) y (pcs_cover x0 x1 x2 x3 xs y)

/-- The accumulator is zeroed with zeros. -/
theorem zero_eq (y : S4x1024x768.Idx) : (k0_pay3 (F := Ideal)) y = 0 := by
  unfold_payloads
  pointwise

/-- The first block of a run zeroes the accumulator and adds its part. -/
theorem first (hc0 : cond0_0 i) (hc1 : ¬cond0_1 i) (y : S4x1024x768.Idx) :
    sout0_A_0 c i arg2 harg2 arg3 harg3 arg4 harg4 arg5 harg5 arg6 harg6 arg7 harg7 hc0 hc1 x0 x1 x2 x3 y = 0 + part x0 x1 x2 x3 y := by
  unfold sout0_A_0 kernelRun0_A
  dsimp only
  sl_unfold_words
  simp (disch := decide) only [View.readAt_eq_ld, harg2.read_unread, harg3.read_unread, harg4.read_unread, harg5.read_unread, View.readCov_skip, View.readCov_fill]
  refine (congrFun (congrArg (VS0_0.read (Elt Ideal)) (View.writes_append VS0_0 VS0_0.junk (pcs x0 x1 x2 x3 (k0_pay3 (F := Ideal)))
    [⟨Rect.unit ![0, 0, 0] ![4, 1024, 768] inb_S4x1024x768_S4x1024x768_0_0_0, k0_pay3 (F := Ideal)⟩])) y).trans ?_
  exact (pcs_read x0 x1 x2 x3 (k0_pay3 (F := Ideal)) y _).trans (congrArg (· + part x0 x1 x2 x3 y) (zero_eq y))

/-- A block between adds its part. -/
theorem middle (hc0 : ¬cond0_0 i) (hc1 : ¬cond0_1 i) (y : S4x1024x768.Idx) :
    sout0_B_0 c i arg2 harg2 arg3 harg3 arg4 harg4 arg5 harg5 arg6 harg6 arg7 harg7 hc0 hc1 x0 x1 x2 x3 xs y = acc x0 x1 x2 x3 xs y := by
  refine View.read_writes_apply_of_pieces VS0_0 _ (acc x0 x1 x2 x3 xs) _ ?_ y (scover0_B_0 ..)
  unfold kernelRun0_B
  dsimp only
  sl_unfold_words
  simp (disch := decide) only [View.readAt_eq_ld, harg2.read_unread, harg3.read_unread, harg4.read_unread, harg5.read_unread, harg7.read_unread, View.readCov_skip, View.readCov_fill]
  exact pcs_acc x0 x1 x2 x3 xs

/-- So does the last block. -/
theorem last (hc0 : ¬cond0_0 i) (hc1 : cond0_1 i) (y : S4x1024x768.Idx) :
    sout0_C_0 c i arg2 harg2 arg3 harg3 arg4 harg4 arg5 harg5 arg6 harg6 arg7 harg7 hc0 hc1 x0 x1 x2 x3 xs y = acc x0 x1 x2 x3 xs y := by
  refine View.read_writes_apply_of_pieces VS0_0 _ (acc x0 x1 x2 x3 xs) _ ?_ y (scover0_C_0 ..)
  unfold kernelRun0_C
  dsimp only
  sl_unfold_words
  simp (disch := decide) only [View.readAt_eq_ld, harg2.read_unread, harg3.read_unread, harg4.read_unread, harg5.read_unread, harg7.read_unread, View.readCov_skip, View.readCov_fill]
  exact pcs_acc x0 x1 x2 x3 xs

/-- The last block stores the accumulator, cut to the output format. -/
theorem out (hc0 : ¬cond0_0 i) (hc1 : cond0_1 i) (y : S4x1024x768.Idx) :
    out0_C_4 c i arg2 harg2 arg3 harg3 arg4 harg4 arg5 harg5 arg6 harg6 arg7 harg7 hc0 hc1 x0 x1 x2 x3 xs y = accHalf x0 x1 x2 x3 xs y := by
  refine View.read_writes_apply_of_pieces VO0_4 _ (accHalf x0 x1 x2 x3 xs) _ ?_ y (cover0_C_4 ..)
  unfold kernelRun0_C
  dsimp only
  sl_unfold_words
  simp (disch := decide) only [View.readAt_eq_ld, harg2.read_unread, harg3.read_unread, harg4.read_unread, harg5.read_unread, harg7.read_unread, View.readCov_skip, View.readCov_fill]
  rw [List.forall_mem_cons]
  refine ⟨?_, fun _ h => (List.not_mem_nil h).elim⟩
  intro x
  exact View.read_writes_apply_of_pieces arg7.view arg7.view.junk (acc x0 x1 x2 x3 xs) (pcs x0 x1 x2 x3 xs) (pcs_acc x0 x1 x2 x3 xs) _ (pcs_cover x0 x1 x2 x3 xs _)

end blocks

variable (m : (ℓ : Loc nD τ sig) → Buf (Elt Ideal) ℓ) (c : Dev nD)

/-- The first block of a run sets the accumulator. -/
theorem outs_first (t : Fin cfg0.N) (h0 : t.val % 16 = 0) (y : S4x1024x768.Idx) :
    (outsAt0 m c t.val t.isLt).2 y = 0 + part (iblk m c 0 t) (iblk m c 1 t) (iblk m c 2 t) (iblk m c 3 t) y := by
  have h1 : ¬t.val % 16 = 15 := by omega
  rw [outsAt0_A m c t h0 h1]
  dsimp only
  apply first

/-- Every other block adds to it. -/
theorem outs_step (t : Fin cfg0.N) (h0 : ¬t.val % 16 = 0) (y : S4x1024x768.Idx) :
    (outsAt0 m c t.val t.isLt).2 y
      = (outsAt0 m c (t.val - 1) (Nat.lt_of_le_of_lt (Nat.sub_le _ _) t.isLt)).2 y + part (iblk m c 0 t) (iblk m c 1 t) (iblk m c 2 t) (iblk m c 3 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S4x1024x768.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ (fun h => h0 ((hcond0_0 t).mp h)) ((hcond0_1 t).mpr h1) y).trans
    (last c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) _ (fun h => h0 ((hcond0_0 t).mp h)) ((hcond0_1 t).mpr h1) y).symm

/-- What is copied out is the sum of a run's parts. -/
theorem outs_sum (t : Fin cfg0.N) (h1 : t.val % 16 = 16 - 1) (y : S4x1024x768.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) (iblk m c 2 ⟨16 * (t.val / 16) + s.val, Pipeline.run_point_lt_of_flush t h1 s⟩) (iblk m c 3 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) (iblk m c 2 t) (iblk m c 3 t) y) (fun t h y => outs_first m c t h y) (fun t h y => outs_step m c t h y) t h1 y)

end Cert.AinVal
-- ==== Proof.AinArr.lean ====
/-
  The weight gradient of the input projection of the convolution layers: the kernel's output array as a function of the arguments.
-/
module

public import proofs.«01_k».proof.Proof.AinRun
public import Idealize.ShloMosaic.Lib.Pipeline.ValueKit
public import Idealize.ShloMosaic.Lib.Pointwise

@[expose] public section

set_option maxRecDepth 16384

noncomputable section

namespace Cert.AinVal

open Idealize.ShloMosaic Idealize.ShloMosaic.TcCoe Idealize.SL.Sem Cert.AinIdeal Cert.AinIdeal.Gen Cert.Wgrad Cert.Segs

variable (m : (ℓ : Loc nD τ sig) → Buf (Elt Ideal) ℓ) (c : Dev nD)

/-- The windows' index maps. -/
theorem idx : ∀ t : Fin cfg0.N, win0_0.index t = ![t.val % 16, 0] ∧ win0_1.index t = ![0, t.val % 16, 0] ∧ win0_2.index t = ![1, t.val % 16, 0] ∧ win0_3.index t = ![2, t.val % 16, 0] ∧ win0_4.index t = ![0, 0, 0] :=
  (by decide +kernel : ∀ t : Fin grid0.N, win0_0.index t = ![t.val % 16, 0] ∧ win0_1.index t = ![0, t.val % 16, 0] ∧ win0_2.index t = ![1, t.val % 16, 0] ∧ win0_3.index t = ![2, t.val % 16, 0] ∧ win0_4.index t = ![0, 0, 0])

section arrays

variable (A : Vec Ideal S3x8192x1024 .bf16) (H : Vec Ideal S8192x1024 .f32) (G : Vec Ideal S1024 .f32)

/-- Token `t`'s row of the cotangent, by its three planes. -/
def cot (t : Fin 8192) (j : Fin 3) (k : Fin 1024) : EReal := A (ix3 j t k)

/-- The gradient at device `p`, channel `a`, column `b` of the device: over the tokens, the normalised token times the
    cotangent. -/
def gradAt (p : Fin 4) (a : Fin 1024) (b : Fin 768) : EReal :=
  ∑ t : Fin 8192, normed H G t a * pick (cot A t) (768 * p.val + b.val) (by omega)

/-- THE GRADIENT of the weights, by devices. -/
def grad : Vec Ideal S4x1024x768 .bf16 := fun y => gradAt A H G (y 0) (y 1) (y 2)

end arrays

/-- The cotangents. -/
abbrev aA : Vec Ideal S3x8192x1024 .bf16 := m ((c : Thread nD τ).loc main_arg0)
/-- The tokens. -/
abbrev aH : Vec Ideal S8192x1024 .f32 := m ((c : Thread nD τ).loc main_arg1)
/-- The gain. -/
abbrev aG : Vec Ideal S1024 .f32 := m ((c : Thread nD τ).loc main_arg2)

/-- Token `r` of the block at point `t`. -/
abbrev at16 (t : Fin cfg0.N) (r : Fin 512) : Fin 8192 := tok (t.val % 16) (Nat.mod_lt _ (by decide)) r

theorem read0 (t : Fin cfg0.N) (r : Fin 512) (k : Fin 1024) :
    (iblk m c 0 t : Vec Ideal S512x1024 .bf16) (ix2 r k) = normed (aH m c) (aG m c) (at16 t r) k := by
  have he : (win0_0.blk t).view.emb (ix2 r k : S512x1024.Idx) = (ix2 (at16 t r) k : S8192x1024.Idx) := by blk_ext [idx t, tok]
  blk_simp [iblk]
  rw [he]
  entry_read
  pointwise
  rfl

theorem read1 (t : Fin cfg0.N) (r : Fin 512) (k : Fin 1024) :
    (iblk m c 1 t : Vec Ideal S1x512x1024 .bf16) (ix3 0 r k) = aA m c (ix3 0 (at16 t r) k) := by
  blk_ext [iblk, V, idx t, tok]

theorem read2 (t : Fin cfg0.N) (r : Fin 512) (k : Fin 1024) :
    (iblk m c 2 t : Vec Ideal S1x512x1024 .bf16) (ix3 0 r k) = aA m c (ix3 1 (at16 t r) k) := by
  blk_ext [iblk, V, idx t, tok]

theorem read3 (t : Fin cfg0.N) (r : Fin 512) (k : Fin 1024) :
    (iblk m c 3 t : Vec Ideal S1x512x1024 .bf16) (ix3 0 r k) = aA m c (ix3 2 (at16 t r) k) := by
  blk_ext [iblk, V, idx t, tok]

/-- A block's rows are its tokens' rows. -/
theorem row_eq (t : Fin cfg0.N) (r : Fin 512) : row (iblk m c 1 t) (iblk m c 2 t) (iblk m c 3 t) r = cot (aA m c) (at16 t r) := by
  funext j k
  fin_cases j
  · exact read1 m c t r k
  · exact read2 m c t r k
  · exact read3 m c t r k

/-- A block's part is its 512 tokens' part. -/
theorem part_eq (t : Fin cfg0.N) (p : Fin 4) (a : Fin 1024) (b : Fin 768) :
    part (iblk m c 0 t) (iblk m c 1 t) (iblk m c 2 t) (iblk m c 3 t) (ix3 p a b)
      = ∑ r, normed (aH m c) (aG m c) (at16 t r) a * pick (cot (aA m c) (at16 t r)) (768 * p.val + b.val) (by omega) := by
  show partAt _ _ _ _ p a b = _
  unfold partAt
  refine Finset.sum_congr rfl fun r _ => ?_
  exact congrArg₂ (· * ·) (read0 m c t r a) (congrArg (fun f => pick f (768 * p.val + b.val) (by omega)) (row_eq m c t r))

/-- THE OUTPUT ARRAY. -/
theorem arr : (dats m 0 c).arrAt 4 cfg0.N = grad (aA m c) (aH m c) (aG m c) := by
  refine (dats m 0 c).arrAt_eq_of_covers 4 _ (by decide +kernel) fun t hf y => ?_
  blk_simp
  rw [after0_4]
  change S4x1024x768.Idx at y
  obtain ⟨p, a, b, rfl⟩ : ∃ (p : Fin 4) (a : Fin 1024) (b : Fin 768), y = ix3 p a b := ⟨y 0, y 1, y 2, eq_ix3 y⟩
  have h1 := (flush0_4 t).mp hf
  have he : (win0_4.blk t).view.emb (ix3 p a b : S4x1024x768.Idx) = (ix3 p a b : S4x1024x768.Idx) := by blk_ext [idx t]
  rw [he]
  refine sum_run (F := fun q => normed (aH m c) (aG m c) q a * pick (cot (aA m c) q) (768 * p.val + b.val) (by omega)) (outs_sum m c t h1 (ix3 p a b)) fun s => ?_
  have hs : (16 * (t.val / 16) + s.val) % 16 = s.val := by have := s.isLt; omega
  rw [part_eq]
  simp only [at16, hs]

end Cert.AinVal
-- ==== Proof.AinClaims.lean ====
/-
  The weight gradient of the input projection of the convolution layers: the reference's result, and the claims.
-/
module

public import proofs.«01_k».proof.Defs
public import proofs.«01_k».proof.Proof.Gen.Ain.Frame
public import proofs.«01_k».proof.Proof.Gen.AinRefIdeal.Run
public import proofs.«01_k».proof.Proof.AinArr
public import Idealize.ShloMosaic.Lib.Quiescent

@[expose] public section

set_option maxRecDepth 16384

noncomputable section

namespace Cert.AinClaims

open Idealize.ShloMosaic Idealize.ShloMosaic.TcCoe Idealize.SL.Sem Cert.Wgrad Cert.Segs

section reference

open Cert.AinRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v34)
      = AinVal.grad (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.AinIdeal.S4x1024x768.Idx at y
  obtain ⟨p, a, b, rfl⟩ : ∃ (p : Fin 4) (a : Fin 1024) (b : Fin 768), y = ix3 p a b := ⟨y 0, y 1, y 2, eq_ix3 y⟩
  pointwise
  show _ = AinVal.gradAt _ _ _ p a b
  unfold AinVal.gradAt
  refine Finset.sum_congr rfl fun t _ => (mul_comm _ _).trans ?_
  refine congrArg₂ (· * ·) rfl ?_
  have hp := p.isLt
  have hb := b.isLt
  have e := pick_eq (AinVal.cot (m ((c.tc : Thread nD τ).loc main_arg0)) t) (768 * p.val + b.val) (by omega)
  by_cases h : p.val * 768 + b.val < 1024
  · rw [dif_pos h]
    exact (e 0 ⟨p.val * 768 + b.val, h⟩ (by show 768 * p.val + b.val = 1024 * 0 + (p.val * 768 + b.val); omega)).symm
  · rw [dif_neg h]
    by_cases h' : p.val * 768 + b.val - 1024 < 1024
    · rw [dif_pos h']
      exact (e 1 ⟨p.val * 768 + b.val - 1024, h'⟩ (by show 768 * p.val + b.val = 1024 * 1 + (p.val * 768 + b.val - 1024); omega)).symm
    · rw [dif_neg h']
      exact (e 2 ⟨p.val * 768 + b.val - 1024 - 1024, by omega⟩
        (by show 768 * p.val + b.val = 1024 * 2 + (p.val * 768 + b.val - 1024 - 1024); omega)).symm

end reference

/-- The kernel as printed ends, its arguments unchanged and every counter at zero. -/
theorem ends : quiescent_Ain (hAin := Cert.Ain.Gen.facts) := fun m ρ _ => Cert.Ain.Gen.frame m ρ

/-- So does its exact form. -/
theorem ideal_ends : quiescent_AinIdeal (hAinIdeal := Cert.AinIdeal.Gen.facts) := fun m ρ _ => Cert.AinIdeal.Gen.frame m ρ

/-- So does the reference. -/
theorem ref_ends : quiescent_AinRefIdeal (hAinRefIdeal := Cert.AinRefIdeal.Gen.facts) := fun m ρ _ =>
  (θ_run _ _ _).mono (fun r h => ⟨fun c => (h c).2, sem_eq_zero_of_no_sems (by decide) r.2⟩) (Cert.AinRefIdeal.Value.run m ρ)

/-- Both programs' result is the gradient of the weights, as the same function of the arguments. -/
theorem equal : algebraic_AinIdeal_AinRefIdeal (hAinIdeal := Cert.AinIdeal.Gen.facts) (hAinRefIdeal := Cert.AinRefIdeal.Gen.facts) := by
  intro m ρ m' ρ' _ hag
  refine ⟨fun c => AinVal.grad (AinVal.aA m c) (AinVal.aH m c) (AinVal.aG m c),
    (θ_run _ _ _).mono (fun _ h c => ⟨(h c).1.trans (AinVal.arr m c), (h c).2⟩) (Cert.AinIdeal.Value.run_blocks m ρ),
    (θ_run _ _ _).mono (fun _ h c => ⟨(h c).1.trans ?_, (h c).2⟩) (ref_run m' ρ')⟩
  rw [(hag c).1, (hag c).2.1, (hag c).2.2]

end Cert.AinClaims
-- ==== Proof.AoutRun.lean ====
/-
  The short convolution's output projection's weight gradient: what the kernel leaves in its accumulator and in the output's block.
-/
module

public import proofs.«01_k».proof.Proof.Wgrad
public import proofs.«01_k».proof.Proof.Gen.AoutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AoutVal

open Idealize.ShloMosaic Idealize.ShloMosaic.TcCoe Idealize.SL.Sem Cert.AoutIdeal Cert.AoutIdeal.Gen Cert.Wgrad

section blocks

variable (c : Dev nD) (i : grid0.Coords) (arg2 : Memref sig .tc .vmem S512x1024 .bf16) (harg2 : arg2.IsWhole) (arg3 : Memref sig .tc .vmem S512x1024 .bf16) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S512x1024 .bf16) (x1 : Vec Ideal S512x1024 .bf16) (xs : Vec Ideal S1024x1024 .f32)

/-- What one block of tokens adds to the gradient. -/
def part (y : S1024x1024.Idx) : EReal := ∑ r : Fin 512, x0 (ix2 r (y 0)) * x1 (ix2 r (y 1))

/-- The accumulator after one block of tokens. -/
def acc : Vec Ideal S1024x1024 .f32 := fun y => xs y + part x0 x1 y

/-- The same in the output's format. -/
def accHalf : Vec Ideal S1024x1024 .bf16 := fun y => xs y + part x0 x1 y

/-- The first block of a run zeroes the accumulator and adds its part. -/
theorem first (hc0 : cond0_0 i) (hc1 : ¬cond0_1 i) (y : S1024x1024.Idx) :
    sout0_A_0 c i arg2 harg2 arg3 harg3 arg4 harg4 arg5 harg5 hc0 hc1 x0 x1 y = acc x0 x1 (fun _ => 0) y := by
  unfold sout0_A_0 kernelRun0_A
  dsimp only
  sl_unfold_words
  simp (disch := decide) only [View.readAt_eq_ld, harg2.read_unread, harg3.read_unread, View.readCov_skip, View.readCov_fill]
  refine View.read_writes_apply_of_pieces VS0_0 (VS0_0.writes (Elt Ideal) VS0_0.junk [_]) (acc x0 x1 fun _ => 0) [_] ?_ y
    (View.cover_of_tiledL (Val := Elt Ideal) (s := S1024x1024) (e := .f32) _ S1024x1024.size (by sl_kernel_rfl) y)
  rw [List.forall_mem_cons]
  refine ⟨?_, fun _ h => (List.not_mem_nil h).elim⟩
  intro x
  dsimp only
  change S1024x1024.Idx at x
  obtain ⟨f, k, rfl⟩ : ∃ (f : Fin 1024) (k : Fin 1024), x = ix2 f k := ⟨x 0, x 1, eq_ix2 x⟩
  refine Eq.trans ?_ (congrArg (acc x0 x1 fun _ => 0) (Tiles.emb_whole _ f k)).symm
  unfold_payloads
  pointwise
  exact (zero_add _).symm

/-- A block between adds its part. -/
theorem middle (hc0 : ¬cond0_0 i) (hc1 : ¬cond0_1 i) (y : S1024x1024.Idx) :
    sout0_B_0 c i arg2 harg2 arg3 harg3 arg4 harg4 arg5 harg5 hc0 hc1 x0 x1 xs y = acc x0 x1 xs y := by
  refine View.read_writes_apply_of_pieces VS0_0 _ (acc x0 x1 xs) _ ?_ y (scover0_B_0 ..)
  unfold kernelRun0_B
  dsimp only
  sl_unfold_words
  simp only [View.readAt_eq_ld, harg2.read_unread, harg3.read_unread, harg5.read_unread]
  rw [List.forall_mem_cons]
  refine ⟨?_, fun _ h => (List.not_mem_nil h).elim⟩
  intro x
  dsimp only
  change S1024x1024.Idx at x
  obtain ⟨f, k, rfl⟩ : ∃ (f : Fin 1024) (k : Fin 1024), x = ix2 f k := ⟨x 0, x 1, eq_ix2 x⟩
  refine Eq.trans ?_ (congrArg (acc x0 x1 xs) (Tiles.emb_whole _ f k)).symm
  unfold_payloads
  pointwise
  rfl

/-- So does the last block. -/
theorem last (hc0 : ¬cond0_0 i) (hc1 : cond0_1 i) (y : S1024x1024.Idx) :
    sout0_C_0 c i arg2 harg2 arg3 harg3 arg4 harg4 arg5 harg5 hc0 hc1 x0 x1 xs y = acc x0 x1 xs y := by
  refine View.read_writes_apply_of_pieces VS0_0 _ (acc x0 x1 xs) _ ?_ y (scover0_C_0 ..)
  unfold kernelRun0_C
  dsimp only
  sl_unfold_words
  simp only [View.readAt_eq_ld, harg2.read_unread, harg3.read_unread, harg5.read_unread]
  rw [List.forall_mem_cons]
  refine ⟨?_, fun _ h => (List.not_mem_nil h).elim⟩
  intro x
  dsimp only
  change S1024x1024.Idx at x
  obtain ⟨f, k, rfl⟩ : ∃ (f : Fin 1024) (k : Fin 1024), x = ix2 f k := ⟨x 0, x 1, eq_ix2 x⟩
  refine Eq.trans ?_ (congrArg (acc x0 x1 xs) (Tiles.emb_whole _ f k)).symm
  unfold_payloads
  pointwise
  rfl

/-- The last block stores the accumulator, cut to the output format. -/
theorem out (hc0 : ¬cond0_0 i) (hc1 : cond0_1 i) (y : S1024x1024.Idx) :
    out0_C_2 c i arg2 harg2 arg3 harg3 arg4 harg4 arg5 harg5 hc0 hc1 x0 x1 xs y = accHalf x0 x1 xs y := by
  refine View.read_writes_apply_of_pieces VO0_2 _ (accHalf x0 x1 xs) _ ?_ y (cover0_C_2 ..)
  unfold kernelRun0_C
  dsimp only
  sl_unfold_words
  simp (disch := decide) only [View.readAt_eq_ld, harg2.read_unread, harg3.read_unread, harg5.read_unread, View.readCov_skip, View.readCov_fill]
  rw [List.forall_mem_cons]
  refine ⟨?_, fun _ h => (List.not_mem_nil h).elim⟩
  intro x
  dsimp only
  change S1024x1024.Idx at x
  obtain ⟨f, k, rfl⟩ : ∃ (f : Fin 1024) (k : Fin 1024), x = ix2 f k := ⟨x 0, x 1, eq_ix2 x⟩
  refine Eq.trans ?_ (congrArg (accHalf x0 x1 xs) (Tiles.emb_whole _ f k)).symm
  unfold_payloads
  pointwise
  rfl

end blocks

variable (m : (ℓ : Loc nD τ sig) → Buf (Elt Ideal) ℓ) (c : Dev nD)

/-- The first block of a run sets the accumulator. -/
theorem outs_first (t : Fin cfg0.N) (h0 : t.val % 16 = 0) (y : S1024x1024.Idx) :
    (outsAt0 m c t.val t.isLt).2 y = 0 + part (iblk m c 0 t) (iblk m c 1 t) y := by
  have h1 : ¬t.val % 16 = 15 := by omega
  rw [outsAt0_A m c t h0 h1]
  dsimp only
  apply first

/-- Every other block adds to it. -/
theorem outs_step (t : Fin cfg0.N) (h0 : ¬t.val % 16 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S1024x1024.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).trans
    (last c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).symm

/-- What is copied out is the sum of a run's parts. -/
theorem outs_sum (t : Fin cfg0.N) (h1 : t.val % 16 = 16 - 1) (y : S1024x1024.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) y) (fun t h y => outs_first m c t h y) (fun t h y => outs_step m c t h y) t h1 y)

end Cert.AoutVal
-- ==== Proof.AoutArr.lean ====
/-
  The short convolution's output projection's weight gradient: the kernel's output array as a function of the arguments.
-/
module

public import proofs.«01_k».proof.Proof.AoutRun
public import Idealize.ShloMosaic.Lib.Pipeline.ValueKit
public import Idealize.ShloMosaic.Lib.Pointwise

@[expose] public section

set_option maxRecDepth 16384

noncomputable section

namespace Cert.AoutVal

open Idealize.ShloMosaic Idealize.ShloMosaic.TcCoe Idealize.SL.Sem Cert.AoutIdeal Cert.AoutIdeal.Gen Cert.Wgrad

variable (m : (ℓ : Loc nD τ sig) → Buf (Elt Ideal) ℓ) (c : Dev nD)

/-- The windows' index maps. -/
theorem idx : ∀ t : Fin cfg0.N, win0_0.index t = ![t.val % 16, 0] ∧ win0_1.index t = ![t.val % 16, 0] ∧ win0_2.index t = ![0, 0] :=
  (by decide +kernel : ∀ t : Fin grid0.N, win0_0.index t = ![t.val % 16, 0] ∧ win0_1.index t = ![t.val % 16, 0] ∧ win0_2.index t = ![0, 0])

/-- THE GRADIENT of the weights: over the tokens, the projected value times the cotangent. -/
def grad (Z : Vec Ideal S8192x1024 .f32) (X : Vec Ideal S8192x1024 .bf16) : Vec Ideal S1024x1024 .bf16 :=
  fun y => ∑ t : Fin 8192, X (ix2 t (y 0)) * Z (ix2 t (y 1))

/-- The incoming cotangent. -/
abbrev aZ : Vec Ideal S8192x1024 .f32 := m ((c : Thread nD τ).loc main_arg0)
/-- The values that are projected. -/
abbrev aX : Vec Ideal S8192x1024 .bf16 := m ((c : Thread nD τ).loc main_arg1)

/-- Token `r` of the block at point `t`. -/
abbrev at16 (t : Fin cfg0.N) (r : Fin 512) : Fin 8192 := tok (t.val % 16) (Nat.mod_lt _ (by decide)) r

theorem read0 (t : Fin cfg0.N) (r : Fin 512) (f : Fin 1024) :
    (iblk m c 0 t : Vec Ideal S512x1024 .bf16) (ix2 r f) = aX m c (ix2 (at16 t r) f) := by
  blk_ext [iblk, V, idx t, tok]

theorem read1 (t : Fin cfg0.N) (r : Fin 512) (k : Fin 1024) :
    (iblk m c 1 t : Vec Ideal S512x1024 .bf16) (ix2 r k) = aZ m c (ix2 (at16 t r) k) := by
  have he : (win0_1.blk t).view.emb (ix2 r k : S512x1024.Idx) = (ix2 (at16 t r) k : S8192x1024.Idx) := by blk_ext [idx t, tok]
  blk_simp [iblk]
  rw [he]
  entry_read
  pointwise

/-- A block's part is its 512 tokens' part. -/
theorem part_eq (t : Fin cfg0.N) (f k : Fin 1024) :
    part (iblk m c 0 t) (iblk m c 1 t) (ix2 f k) = ∑ r, aX m c (ix2 (at16 t r) f) * aZ m c (ix2 (at16 t r) k) := by
  refine Finset.sum_congr rfl fun r _ => ?_
  exact congrArg₂ (· * ·) (read0 m c t r f) (read1 m c t r k)

/-- THE OUTPUT ARRAY. -/
theorem arr : (dats m 0 c).arrAt 2 cfg0.N = grad (aZ m c) (aX m c) := by
  refine (dats m 0 c).arrAt_eq_of_covers 2 _ (by decide +kernel) fun t hf y => ?_
  blk_simp
  rw [after0_2]
  change S1024x1024.Idx at y
  obtain ⟨f, k, rfl⟩ : ∃ f k : Fin 1024, y = ix2 f k := ⟨y 0, y 1, eq_ix2 y⟩
  have h1 := (flush0_2 t).mp hf
  have he : (win0_2.blk t).view.emb (ix2 f k : S1024x1024.Idx) = (ix2 f k : S1024x1024.Idx) := by blk_ext [idx t]
  rw [he]
  refine sum_run (F := fun q => aX m c (ix2 q f) * aZ m c (ix2 q k)) (outs_sum m c t h1 (ix2 f k)) fun s => ?_
  have hs : (16 * (t.val / 16) + s.val) % 16 = s.val := by have := s.isLt; omega
  rw [part_eq]
  simp only [at16, hs]

end Cert.AoutVal
-- ==== Proof.AoutClaims.lean ====
/-
  The short convolution's output projection's weight gradient: the reference's result, and the claims.
-/
module

public import proofs.«01_k».proof.Defs
public import proofs.«01_k».proof.Proof.Gen.Aout.Frame
public import proofs.«01_k».proof.Proof.Gen.AoutRefIdeal.Run
public import proofs.«01_k».proof.Proof.AoutArr
public import Idealize.ShloMosaic.Lib.Quiescent

@[expose] public section

set_option maxRecDepth 16384

noncomputable section

namespace Cert.AoutClaims

open Idealize.ShloMosaic Idealize.ShloMosaic.TcCoe Idealize.SL.Sem Cert.Wgrad

section reference

open Cert.AoutRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v5)
      = AoutVal.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  funext y
  change Cert.AoutIdeal.S1024x1024.Idx at y
  obtain ⟨f, k, rfl⟩ : ∃ (f : Fin 1024) (k : Fin 1024), y = ix2 f k := ⟨y 0, y 1, eq_ix2 y⟩
  pointwise
  exact Finset.sum_congr rfl fun t _ => mul_comm _ _

end reference

/-- The kernel as printed ends, its arguments unchanged and every counter at zero. -/
theorem ends : quiescent_Aout (hAout := Cert.Aout.Gen.facts) := fun m ρ _ => Cert.Aout.Gen.frame m ρ

/-- So does its exact form. -/
theorem ideal_ends : quiescent_AoutIdeal (hAoutIdeal := Cert.AoutIdeal.Gen.facts) := fun m ρ _ => Cert.AoutIdeal.Gen.frame m ρ

/-- So does the reference. -/
theorem ref_ends : quiescent_AoutRefIdeal (hAoutRefIdeal := Cert.AoutRefIdeal.Gen.facts) := fun m ρ _ =>
  (θ_run _ _ _).mono (fun r h => ⟨fun c => (h c).2, sem_eq_zero_of_no_sems (by decide) r.2⟩) (Cert.AoutRefIdeal.Value.run m ρ)

/-- Both programs' result is the gradient of the output weights, as the same function of the arguments. -/
theorem equal : algebraic_AoutIdeal_AoutRefIdeal (hAoutIdeal := Cert.AoutIdeal.Gen.facts) (hAoutRefIdeal := Cert.AoutRefIdeal.Gen.facts) := by
  intro m ρ m' ρ' _ hag
  refine ⟨fun c => AoutVal.grad (AoutVal.aZ m c) (AoutVal.aX m c),
    (θ_run _ _ _).mono (fun _ h c => ⟨(h c).1.trans (AoutVal.arr m c), (h c).2⟩) (Cert.AoutIdeal.Value.run_blocks m ρ),
    (θ_run _ _ _).mono (fun _ h c => ⟨(h c).1.trans ?_, (h c).2⟩) (ref_run m' ρ')⟩
  rw [(hag c).1, (hag c).2]

end Cert.AoutClaims
-- ==== Proof.KvRun.lean ====
/-
  The weight gradient of the key and value projections: what the kernel leaves in its accumulator and in the output's block.
-/
module

public import proofs.«01_k».proof.Proof.Segs
public import proofs.«01_k».proof.Proof.Gen.KvIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KvVal

open Idealize.ShloMosaic Idealize.ShloMosaic.TcCoe Idealize.SL.Sem Cert.KvIdeal Cert.KvIdeal.Gen Cert.Wgrad Cert.Segs

section blocks

variable (c : Dev nD) (i : grid0.Coords) (arg2 : Memref sig .tc .vmem S512x1024 .bf16) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S512x512 .f32) (harg5 : arg5.IsWhole)
  (arg6 : Memref sig .tc .vmem S512x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S4x1024x768 .bf16) (harg9 : arg9.IsWhole)
  (arg10 : Memref sig .tc .vmem S4x1024x768 .f32) (harg10 : arg10.IsWhole)
  (x0 : Vec Ideal S512x1024 .bf16) (x1 : Vec Ideal S512x512 .f32) (x2 : Vec Ideal S512x512 .f32) (x3 : Vec Ideal S512x512 .f32) (x4 : Vec Ideal S512x512 .f32) (x5 : Vec Ideal S512x512 .f32) (x6 : Vec Ideal S512x512 .f32)
  (xs : Vec Ideal S4x1024x768 .f32)

/-- Token `r`'s row of the cotangent, by segments. -/
def row (r : Fin 512) (j : Fin 6) (k : Fin 512) : EReal := (![x1, x2, x3, x4, x5, x6] j : Vec Ideal S512x512 .f32) (ix2 r k)

/-- What one block of tokens adds to the gradient at device `p`, channel `a`, column `b` of the device. -/
def partAt (p : Fin 4) (a : Fin 1024) (b : Fin 768) : EReal :=
  ∑ r : Fin 512, x0 (ix2 r a) * pick (row x1 x2 x3 x4 x5 x6 r) (768 * p.val + b.val) (by omega)

/-- The same as a function of an index. -/
def part (y : S4x1024x768.Idx) : EReal := partAt x0 x1 x2 x3 x4 x5 x6 (y 0) (y 1) (y 2)

/-- The accumulator after one block of tokens. -/
def acc : Vec Ideal S4x1024x768 .f32 := fun y => xs y + part x0 x1 x2 x3 x4 x5 x6 y

/-- The same in the output's format. -/
def accHalf : Vec Ideal S4x1024x768 .bf16 := fun y => xs y + part x0 x1 x2 x3 x4 x5 x6 y

/-- Its entries in one store's rectangle: columns `u` on of segment `j`. -/
theorem acc_at {p o w : ℕ} (h) (hp : p < 4) (ho : o + w ≤ 768) (a : Fin 1024) (d : Fin w) (j : Fin 6) (u : ℕ) (hu : u + w ≤ 512)
    (e : 768 * p + o = 512 * j.val + u) :
    acc x0 x1 x2 x3 x4 x5 x6 xs ((Rect.unit (s := S4x1024x768) ![p, 0, o] ![1, 1024, w] h).emb (ix3 (0 : Fin 1) a d))
      = xs (ix3 (⟨p, hp⟩ : Fin 4) a (⟨o + d.val, by omega⟩ : Fin 768)) + ∑ r : Fin 512, x0 (ix2 r a) * row x1 x2 x3 x4 x5 x6 r j ⟨u + d.val, by omega⟩ := by
  refine (congrArg (acc x0 x1 x2 x3 x4 x5 x6 xs) (emb_slab _ hp 0 a d (by omega))).trans ?_
  show xs _ + partAt x0 x1 x2 x3 x4 x5 x6 ⟨p, hp⟩ a ⟨o + d.val, by omega⟩ = _
  unfold partAt
  exact congrArg (xs _ + ·) (Finset.sum_congr rfl fun r _ => congrArg (x0 (ix2 r a) * ·)
    (pick_eq _ _ _ j ⟨u + d.val, by omega⟩ (by show 768 * p + (o + d.val) = 512 * j.val + (u + d.val); omega)))

/-- The stores into the accumulator, the last first. -/
def pcs : List (View.Piece (Elt Ideal) S4x1024x768 .f32) :=
  [⟨Rect.unit ![3, 0, 256] ![1, 1024, 512] inb_S4x1024x768_S1x1024x512_3_0_256,
      k0_pay3 (k0_pay6 (View.ld x0 (Rect.unit ![0, 0] ![512, 1024] inb_S512x1024_S512x1024_0_0)))
        (View.ld x6 (Rect.unit ![0, 0] ![512, 512] inb_S512x512_S512x512_0_0))
        (View.ld xs (Rect.unit ![3, 0, 256] ![1, 1024, 512] inb_S4x1024x768_S1x1024x512_3_0_256))⟩,
    ⟨Rect.unit ![3, 0, 0] ![1, 1024, 256] inb_S4x1024x768_S1x1024x256_3_0_0,
      k0_pay2 (k0_pay6 (View.ld x0 (Rect.unit ![0, 0] ![512, 1024] inb_S512x1024_S512x1024_0_0)))
        (View.ld x5 (Rect.unit ![0, 256] ![512, 256] inb_S512x512_S512x256_0_256))
        (View.ld xs (Rect.unit ![3, 0, 0] ![1, 1024, 256] inb_S4x1024x768_S1x1024x256_3_0_0))⟩,
    ⟨Rect.unit ![2, 0, 512] ![1, 1024, 256] inb_S4x1024x768_S1x1024x256_2_0_512,
      k0_pay1 (k0_pay13 (k0_pay6 (View.ld x0 (Rect.unit ![0, 0] ![512, 1024] inb_S512x1024_S512x1024_0_0)))
        (View.ld x5 (Rect.unit ![0, 0] ![512, 256] inb_S512x512_S512x256_0_0))
        (View.ld xs (Rect.unit ![2, 0, 512] ![1, 1024, 256] inb_S4x1024x768_S1x1024x256_2_0_512)))⟩,
    ⟨Rect.unit ![2, 0, 0] ![1, 1024, 512] inb_S4x1024x768_S1x1024x512_2_0_0,
      k0_pay12 (k0_pay6 (View.ld x0 (Rect.unit ![0, 0] ![512, 1024] inb_S512x1024_S512x1024_0_0)))
        (View.ld x4 (Rect.unit ![0, 0] ![512, 512] inb_S512x512_S512x512_0_0))
        (View.ld xs (Rect.unit ![2, 0, 0] ![1, 1024, 512] inb_S4x1024x768_S1x1024x512_2_0_0))⟩,
    ⟨Rect.unit ![1, 0, 256] ![1, 1024, 512] inb_S4x1024x768_S1x1024x512_1_0_256,
      k0_pay11 (k0_pay6 (View.ld x0 (Rect.unit ![0, 0] ![512, 1024] inb_S512x1024_S512x1024_0_0)))
        (View.ld x3 (Rect.unit ![0, 0] ![512, 512] inb_S512x512_S512x512_0_0))
        (View.ld xs (Rect.unit ![1, 0, 256] ![1, 1024, 512] inb_S4x1024x768_S1x1024x512_1_0_256))⟩,
    ⟨Rect.unit ![1, 0, 0] ![1, 1024, 256] inb_S4x1024x768_S1x1024x256_1_0_0,
      k0_pay10 (k0_pay9 (View.ld x0 (Rect.unit ![0, 0] ![512, 1024] inb_S512x1024_S512x1024_0_0))
        (View.ld x2 (Rect.unit ![0, 256] ![512, 256] inb_S512x512_S512x256_0_256)))
        (View.ld xs (Rect.unit ![1, 0, 0] ![1, 1024, 256] inb_S4x1024x768_S1x1024x256_1_0_0))⟩,
    ⟨Rect.unit ![0, 0, 512] ![1, 1024, 256] inb_S4x1024x768_S1x1024x256_0_0_512,
      k0_pay8 (View.ld x0 (Rect.unit ![0, 0] ![512, 1024] inb_S512x1024_S512x1024_0_0))
        (View.ld x2 (Rect.unit ![0, 0] ![512, 256] inb_S512x512_S512x256_0_0))
        (View.ld xs (Rect.unit ![0, 0, 512] ![1, 1024, 256] inb_S4x1024x768_S1x1024x256_0_0_512))⟩,
    ⟨Rect.unit ![0, 0, 0] ![1, 1024, 512] inb_S4x1024x768_S1x1024x512_0_0_0,
      k0_pay7 (View.ld x0 (Rect.unit ![0, 0] ![512, 1024] inb_S512x1024_S512x1024_0_0))
        (View.ld x1 (Rect.unit ![0, 0] ![512, 512] inb_S512x512_S512x512_0_0))
        (View.ld xs (Rect.unit ![0, 0, 0] ![1, 1024, 512] inb_S4x1024x768_S1x1024x512_0_0_0))⟩]

/-- Each store puts the accumulator's new entries. -/
theorem pcs_acc : ∀ p ∈ pcs x0 x1 x2 x3 x4 x5 x6 xs, ∀ x, p.2 x = acc x0 x1 x2 x3 x4 x5 x6 xs (p.1.emb x) := by
  unfold pcs
  rw [List.forall_mem_cons, List.forall_mem_cons, List.forall_mem_cons, List.forall_mem_cons, List.forall_mem_cons, List.forall_mem_cons, List.forall_mem_cons, List.forall_mem_cons]
  refine ⟨?_, ?_, ?_, ?_, ?_, ?_, ?_, ?_, fun _ h => (List.not_mem_nil h).elim⟩
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 x4 x5 x6 xs (p := 3) (o := 256) _ (by decide) (by decide) a d 5 0 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 x4 x5 x6 xs (p := 3) (o := 0) _ (by decide) (by decide) a d 4 256 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 x4 x5 x6 xs (p := 2) (o := 512) _ (by decide) (by decide) a d 4 0 (by decide) (by decide)).symm
    unfold_payloads
    pointwise
    rfl
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 x4 x5 x6 xs (p := 2) (o := 0) _ (by decide) (by decide) a d 3 0 (by decide) (by decide)).symm
    unfold_payloads
    pointwise
    rfl
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 x4 x5 x6 xs (p := 1) (o := 256) _ (by decide) (by decide) a d 2 0 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 x4 x5 x6 xs (p := 1) (o := 0) _ (by decide) (by decide) a d 1 256 (by decide) (by decide)).symm
    unfold_payloads
    pointwise
    rfl
  · intro x
    dsimp only
    change S1x1024x256.Idx at x
    obtain ⟨q, a, d, rfl⟩ : ∃ (q : Fin 1) (a : Fin 1024) (d : Fin 256), x = ix3 q a d := ⟨x 0, x 1, x 2, eq_ix3 x⟩
    obtain rfl : q = 0 := Subsingleton.elim _ _
    refine Eq.trans ?_ (acc_at x0 x1 x2 x3 x4 x5 x6 xs (p := 0) (o := 512) _ (by decide) (by decide) a d 1 0 (by decide) (by decide)).symm
    unfold_payloads
    pointwise
    rfl
  · intro x
    dsimp only
    change S1x1024x512.Idx at x
    obtain ⟨q, a, d, rfl⟩ : ∃ (q : Fin 1) (a : Fin 1024) (d : Fin 512), x = ix3 q a d := ⟨x 0, x 1, x 2, eq_ix3 x⟩
    obtain rfl : q = 0 := Subsingleton.elim _ _
    refine Eq.trans ?_ (acc_at x0 x1 x2 x3 x4 x5 x6 xs (p := 0) (o := 0) _ (by decide) (by decide) a d 0 0 (by decide) (by decide)).symm
    unfold_payloads
    pointwise
    rfl

/-- They cover it. -/
theorem pcs_cover (y : S4x1024x768.Idx) : ∃ p ∈ pcs x0 x1 x2 x3 x4 x5 x6 xs, y ∈ p.1.set :=
  View.cover_of_tiledBy (Val := Elt Ideal) (s := S4x1024x768) (e := .f32) (pcs x0 x1 x2 x3 x4 x5 x6 xs) ![1, 1024, 256] (by sl_kernel_rfl) y

/-- So over any contents they leave its new entries. -/
theorem pcs_read (y : S4x1024x768.Idx) (f : VS0_0.ty.Contents (Elt Ideal)) :
    VS0_0.read (Elt Ideal) (VS0_0.writes (Elt Ideal) f (pcs x0 x1 x2 x3 x4 x5 x6 xs)) y = acc x0 x1 x2 x3 x4 x5 x6 xs y :=
  View.read_writes_apply_of_pieces VS0_0 f (acc x0 x1 x2 x3 x4 x5 x6 xs) (pcs x0 x1 x2 x3 x4 x5 x6 xs) (pcs_acc x0 x1 x2 x3 x4 x5 x6 xs) y (pcs_cover x0 x1 x2 x3 x4 x5 x6 xs y)

/-- The accumulator is zeroed with zeros. -/
theorem zero_eq (y : S4x1024x768.Idx) : (k0_pay5 (F := Ideal)) y = 0 := by
  unfold_payloads
  pointwise

/-- The first block of a run zeroes the accumulator and adds its part. -/
theorem first (hc0 : cond0_0 i) (hc1 : ¬cond0_1 i) (y : S4x1024x768.Idx) :
    sout0_A_0 c i arg2 harg2 arg3 harg3 arg4 harg4 arg5 harg5 arg6 harg6 arg7 harg7 arg8 harg8 arg9 harg9 arg10 harg10 hc0 hc1 x0 x1 x2 x3 x4 x5 x6 y = 0 + part x0 x1 x2 x3 x4 x5 x6 y := by
  unfold sout0_A_0 kernelRun0_A
  dsimp only
  sl_unfold_words
  simp (disch := decide) only [View.readAt_eq_ld, harg2.read_unread, harg3.read_unread, harg4.read_unread, harg5.read_unread, harg6.read_unread, harg7.read_unread, harg8.read_unread, View.readCov_skip, View.readCov_fill]
  refine (congrFun (congrArg (VS0_0.read (Elt Ideal)) (View.writes_append VS0_0 VS0_0.junk (pcs x0 x1 x2 x3 x4 x5 x6 (k0_pay5 (F := Ideal)))
    [⟨Rect.unit ![0, 0, 0] ![4, 1024, 768] inb_S4x1024x768_S4x1024x768_0_0_0, k0_pay5 (F := Ideal)⟩])) y).trans ?_
  exact (pcs_read x0 x1 x2 x3 x4 x5 x6 (k0_pay5 (F := Ideal)) y _).trans (congrArg (· + part x0 x1 x2 x3 x4 x5 x6 y) (zero_eq y))

/-- A block between adds its part. -/
theorem middle (hc0 : ¬cond0_0 i) (hc1 : ¬cond0_1 i) (y : S4x1024x768.Idx) :
    sout0_B_0 c i arg2 harg2 arg3 harg3 arg4 harg4 arg5 harg5 arg6 harg6 arg7 harg7 arg8 harg8 arg9 harg9 arg10 harg10 hc0 hc1 x0 x1 x2 x3 x4 x5 x6 xs y = acc x0 x1 x2 x3 x4 x5 x6 xs y := by
  refine View.read_writes_apply_of_pieces VS0_0 _ (acc x0 x1 x2 x3 x4 x5 x6 xs) _ ?_ y (scover0_B_0 ..)
  unfold kernelRun0_B
  dsimp only
  sl_unfold_words
  simp (disch := decide) only [View.readAt_eq_ld, harg2.read_unread, harg3.read_unread, harg4.read_unread, harg5.read_unread, harg6.read_unread, harg7.read_unread, harg8.read_unread, harg10.read_unread, View.readCov_skip, View.readCov_fill]
  exact pcs_acc x0 x1 x2 x3 x4 x5 x6 xs

/-- So does the last block. -/
theorem last (hc0 : ¬cond0_0 i) (hc1 : cond0_1 i) (y : S4x1024x768.Idx) :
    sout0_C_0 c i arg2 harg2 arg3 harg3 arg4 harg4 arg5 harg5 arg6 harg6 arg7 harg7 arg8 harg8 arg9 harg9 arg10 harg10 hc0 hc1 x0 x1 x2 x3 x4 x5 x6 xs y = acc x0 x1 x2 x3 x4 x5 x6 xs y := by
  refine View.read_writes_apply_of_pieces VS0_0 _ (acc x0 x1 x2 x3 x4 x5 x6 xs) _ ?_ y (scover0_C_0 ..)
  unfold kernelRun0_C
  dsimp only
  sl_unfold_words
  simp (disch := decide) only [View.readAt_eq_ld, harg2.read_unread, harg3.read_unread, harg4.read_unread, harg5.read_unread, harg6.read_unread, harg7.read_unread, harg8.read_unread, harg10.read_unread, View.readCov_skip, View.readCov_fill]
  exact pcs_acc x0 x1 x2 x3 x4 x5 x6 xs

/-- The last block stores the accumulator, cut to the output format. -/
theorem out (hc0 : ¬cond0_0 i) (hc1 : cond0_1 i) (y : S4x1024x768.Idx) :
    out0_C_7 c i arg2 harg2 arg3 harg3 arg4 harg4 arg5 harg5 arg6 harg6 arg7 harg7 arg8 harg8 arg9 harg9 arg10 harg10 hc0 hc1 x0 x1 x2 x3 x4 x5 x6 xs y = accHalf x0 x1 x2 x3 x4 x5 x6 xs y := by
  refine View.read_writes_apply_of_pieces VO0_7 _ (accHalf x0 x1 x2 x3 x4 x5 x6 xs) _ ?_ y (cover0_C_7 ..)
  unfold kernelRun0_C
  dsimp only
  sl_unfold_words
  simp (disch := decide) only [View.readAt_eq_ld, harg2.read_unread, harg3.read_unread, harg4.read_unread, harg5.read_unread, harg6.read_unread, harg7.read_unread, harg8.read_unread, harg10.read_unread, View.readCov_skip, View.readCov_fill]
  rw [List.forall_mem_cons]
  refine ⟨?_, fun _ h => (List.not_mem_nil h).elim⟩
  intro x
  exact View.read_writes_apply_of_pieces arg10.view arg10.view.junk (acc x0 x1 x2 x3 x4 x5 x6 xs) (pcs x0 x1 x2 x3 x4 x5 x6 xs) (pcs_acc x0 x1 x2 x3 x4 x5 x6 xs) _ (pcs_cover x0 x1 x2 x3 x4 x5 x6 xs _)

end blocks

variable (m : (ℓ : Loc nD τ sig) → Buf (Elt Ideal) ℓ) (c : Dev nD)

/-- The first block of a run sets the accumulator. -/
theorem outs_first (t : Fin cfg0.N) (h0 : t.val % 16 = 0) (y : S4x1024x768.Idx) :
    (outsAt0 m c t.val t.isLt).2 y = 0 + part (iblk m c 0 t) (iblk m c 1 t) (iblk m c 2 t) (iblk m c 3 t) (iblk m c 4 t) (iblk m c 5 t) (iblk m c 6 t) y := by
  have h1 : ¬t.val % 16 = 15 := by omega
  rw [outsAt0_A m c t h0 h1]
  dsimp only
  apply first

/-- Every other block adds to it. -/
theorem outs_step (t : Fin cfg0.N) (h0 : ¬t.val % 16 = 0) (y : S4x1024x768.Idx) :
    (outsAt0 m c t.val t.isLt).2 y
      = (outsAt0 m c (t.val - 1) (Nat.lt_of_le_of_lt (Nat.sub_le _ _) t.isLt)).2 y + part (iblk m c 0 t) (iblk m c 1 t) (iblk m c 2 t) (iblk m c 3 t) (iblk m c 4 t) (iblk m c 5 t) (iblk m c 6 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S4x1024x768.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) _ (fun h => h0 ((hcond0_0 t).mp h)) ((hcond0_1 t).mpr h1) y).trans
    (last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) _ (fun h => h0 ((hcond0_0 t).mp h)) ((hcond0_1 t).mpr h1) y).symm

/-- What is copied out is the sum of a run's parts. -/
theorem outs_sum (t : Fin cfg0.N) (h1 : t.val % 16 = 16 - 1) (y : S4x1024x768.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) (iblk m c 2 ⟨16 * (t.val / 16) + s.val, Pipeline.run_point_lt_of_flush t h1 s⟩) (iblk m c 3 ⟨16 * (t.val / 16) + s.val, Pipeline.run_point_lt_of_flush t h1 s⟩) (iblk m c 4 ⟨16 * (t.val / 16) + s.val, Pipeline.run_point_lt_of_flush t h1 s⟩) (iblk m c 5 ⟨16 * (t.val / 16) + s.val, Pipeline.run_point_lt_of_flush t h1 s⟩) (iblk m c 6 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) (iblk m c 2 t) (iblk m c 3 t) (iblk m c 4 t) (iblk m c 5 t) (iblk m c 6 t) y) (fun t h y => outs_first m c t h y) (fun t h y => outs_step m c t h y) t h1 y)

end Cert.KvVal
-- ==== Proof.KvArr.lean ====
/-
  The weight gradient of the key and value projections: the kernel's output array as a function of the arguments.
-/
module

public import proofs.«01_k».proof.Proof.KvRun
public import Idealize.ShloMosaic.Lib.Pipeline.ValueKit
public import Idealize.ShloMosaic.Lib.Pointwise

@[expose] public section

set_option maxRecDepth 16384

noncomputable section

namespace Cert.KvVal

open Idealize.ShloMosaic Idealize.ShloMosaic.TcCoe Idealize.SL.Sem Cert.KvIdeal Cert.KvIdeal.Gen Cert.Wgrad Cert.Segs

variable (m : (ℓ : Loc nD τ sig) → Buf (Elt Ideal) ℓ) (c : Dev nD)

/-- The windows' index maps. -/
theorem idx : ∀ t : Fin cfg0.N, win0_0.index t = ![t.val % 16, 0] ∧ win0_1.index t = ![t.val % 16, 0] ∧ win0_2.index t = ![t.val % 16, 0] ∧ win0_3.index t = ![t.val % 16, 1] ∧ win0_4.index t = ![t.val % 16, 1] ∧ win0_5.index t = ![t.val % 16, 2] ∧ win0_6.index t = ![t.val % 16, 2] ∧ win0_7.index t = ![0, 0, 0] :=
  (by decide +kernel : ∀ t : Fin grid0.N, win0_0.index t = ![t.val % 16, 0] ∧ win0_1.index t = ![t.val % 16, 0] ∧ win0_2.index t = ![t.val % 16, 0] ∧ win0_3.index t = ![t.val % 16, 1] ∧ win0_4.index t = ![t.val % 16, 1] ∧ win0_5.index t = ![t.val % 16, 2] ∧ win0_6.index t = ![t.val % 16, 2] ∧ win0_7.index t = ![0, 0, 0])

section arrays

variable (K V : Vec Ideal S8192x1536 .f32) (H : Vec Ideal S8192x1024 .f32) (G : Vec Ideal S1024 .f32)

/-- Token `t`'s row of the cotangent, by segments: each group's keys, then its values. -/
def cot (t : Fin 8192) (j : Fin 6) (k : Fin 512) : EReal :=
  if j.val % 2 = 0 then K (ix2 t ⟨512 * (j.val / 2) + k.val, by omega⟩) else V (ix2 t ⟨512 * (j.val / 2) + k.val, by omega⟩)

/-- The gradient at device `p`, channel `a`, column `b` of the device: over the tokens, the normalised token times the
    cotangent. -/
def gradAt (p : Fin 4) (a : Fin 1024) (b : Fin 768) : EReal :=
  ∑ t : Fin 8192, normed H G t a * pick (cot K V t) (768 * p.val + b.val) (by omega)

/-- THE GRADIENT of the weights, by devices. -/
def grad : Vec Ideal S4x1024x768 .bf16 := fun y => gradAt K V H G (y 0) (y 1) (y 2)

end arrays

/-- The keys' cotangents. -/
abbrev aK : Vec Ideal S8192x1536 .f32 := m ((c : Thread nD τ).loc main_arg0)
/-- The values' cotangents. -/
abbrev aV : Vec Ideal S8192x1536 .f32 := m ((c : Thread nD τ).loc main_arg1)
/-- The tokens. -/
abbrev aH : Vec Ideal S8192x1024 .f32 := m ((c : Thread nD τ).loc main_arg2)
/-- The gain. -/
abbrev aG : Vec Ideal S1024 .f32 := m ((c : Thread nD τ).loc main_arg3)

/-- Token `r` of the block at point `t`. -/
abbrev at16 (t : Fin cfg0.N) (r : Fin 512) : Fin 8192 := tok (t.val % 16) (Nat.mod_lt _ (by decide)) r

theorem read0 (t : Fin cfg0.N) (r : Fin 512) (k : Fin 1024) :
    (iblk m c 0 t : Vec Ideal S512x1024 .bf16) (ix2 r k) = normed (aH m c) (aG m c) (at16 t r) k := by
  have he : (win0_0.blk t).view.emb (ix2 r k : S512x1024.Idx) = (ix2 (at16 t r) k : S8192x1024.Idx) := by blk_ext [idx t, tok]
  blk_simp [iblk]
  rw [he]
  entry_read
  pointwise
  rfl

theorem read1 (t : Fin cfg0.N) (r : Fin 512) (k : Fin 512) :
    (iblk m c 1 t : Vec Ideal S512x512 .f32) (ix2 r k) = aK m c (ix2 (at16 t r) ⟨512 * 0 + k.val, by omega⟩) := by
  blk_ext [iblk, V, idx t, tok]

theorem read2 (t : Fin cfg0.N) (r : Fin 512) (k : Fin 512) :
    (iblk m c 2 t : Vec Ideal S512x512 .f32) (ix2 r k) = aV m c (ix2 (at16 t r) ⟨512 * 0 + k.val, by omega⟩) := by
  blk_ext [iblk, V, idx t, tok]

theorem read3 (t : Fin cfg0.N) (r : Fin 512) (k : Fin 512) :
    (iblk m c 3 t : Vec Ideal S512x512 .f32) (ix2 r k) = aK m c (ix2 (at16 t r) ⟨512 * 1 + k.val, by omega⟩) := by
  blk_ext [iblk, V, idx t, tok]

theorem read4 (t : Fin cfg0.N) (r : Fin 512) (k : Fin 512) :
    (iblk m c 4 t : Vec Ideal S512x512 .f32) (ix2 r k) = aV m c (ix2 (at16 t r) ⟨512 * 1 + k.val, by omega⟩) := by
  blk_ext [iblk, V, idx t, tok]

theorem read5 (t : Fin cfg0.N) (r : Fin 512) (k : Fin 512) :
    (iblk m c 5 t : Vec Ideal S512x512 .f32) (ix2 r k) = aK m c (ix2 (at16 t r) ⟨512 * 2 + k.val, by omega⟩) := by
  blk_ext [iblk, V, idx t, tok]

theorem read6 (t : Fin cfg0.N) (r : Fin 512) (k : Fin 512) :
    (iblk m c 6 t : Vec Ideal S512x512 .f32) (ix2 r k) = aV m c (ix2 (at16 t r) ⟨512 * 2 + k.val, by omega⟩) := by
  blk_ext [iblk, V, idx t, tok]

/-- A block's rows are its tokens' rows. -/
theorem row_eq (t : Fin cfg0.N) (r : Fin 512) : row (iblk m c 1 t) (iblk m c 2 t) (iblk m c 3 t) (iblk m c 4 t) (iblk m c 5 t) (iblk m c 6 t) r = cot (aK m c) (aV m c) (at16 t r) := by
  funext j k
  fin_cases j
  · exact read1 m c t r k
  · exact read2 m c t r k
  · exact read3 m c t r k
  · exact read4 m c t r k
  · exact read5 m c t r k
  · exact read6 m c t r k

/-- A block's part is its 512 tokens' part. -/
theorem part_eq (t : Fin cfg0.N) (p : Fin 4) (a : Fin 1024) (b : Fin 768) :
    part (iblk m c 0 t) (iblk m c 1 t) (iblk m c 2 t) (iblk m c 3 t) (iblk m c 4 t) (iblk m c 5 t) (iblk m c 6 t) (ix3 p a b)
      = ∑ r, normed (aH m c) (aG m c) (at16 t r) a * pick (cot (aK m c) (aV m c) (at16 t r)) (768 * p.val + b.val) (by omega) := by
  show partAt _ _ _ _ _ _ _ p a b = _
  unfold partAt
  refine Finset.sum_congr rfl fun r _ => ?_
  exact congrArg₂ (· * ·) (read0 m c t r a) (congrArg (fun f => pick f (768 * p.val + b.val) (by omega)) (row_eq m c t r))

/-- THE OUTPUT ARRAY. -/
theorem arr : (dats m 0 c).arrAt 7 cfg0.N = grad (aK m c) (aV m c) (aH m c) (aG m c) := by
  refine (dats m 0 c).arrAt_eq_of_covers 7 _ (by decide +kernel) fun t hf y => ?_
  blk_simp
  rw [after0_7]
  change S4x1024x768.Idx at y
  obtain ⟨p, a, b, rfl⟩ : ∃ (p : Fin 4) (a : Fin 1024) (b : Fin 768), y = ix3 p a b := ⟨y 0, y 1, y 2, eq_ix3 y⟩
  have h1 := (flush0_7 t).mp hf
  have he : (win0_7.blk t).view.emb (ix3 p a b : S4x1024x768.Idx) = (ix3 p a b : S4x1024x768.Idx) := by blk_ext [idx t]
  rw [he]
  refine sum_run (F := fun q => normed (aH m c) (aG m c) q a * pick (cot (aK m c) (aV m c) q) (768 * p.val + b.val) (by omega)) (outs_sum m c t h1 (ix3 p a b)) fun s => ?_
  have hs : (16 * (t.val / 16) + s.val) % 16 = s.val := by have := s.isLt; omega
  rw [part_eq]
  simp only [at16, hs]

end Cert.KvVal
-- ==== Proof.KvClaims.lean ====
/-
  The weight gradient of the key and value projections: the reference's result, and the claims.
-/
module

public import proofs.«01_k».proof.Defs
public import proofs.«01_k».proof.Proof.Gen.Kv.Frame
public import proofs.«01_k».proof.Proof.Gen.KvRefIdeal.Run
public import proofs.«01_k».proof.Proof.KvArr
public import Idealize.ShloMosaic.Lib.Quiescent

@[expose] public section

set_option maxRecDepth 16384

noncomputable section

namespace Cert.KvClaims

open Idealize.ShloMosaic Idealize.ShloMosaic.TcCoe Idealize.SL.Sem Cert.Wgrad Cert.Segs

section reference

open Cert.KvRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v34)
      = KvVal.grad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2⟩) (Value.run m ρ)
  funext y
  change Cert.KvIdeal.S4x1024x768.Idx at y
  obtain ⟨p, a, b, rfl⟩ : ∃ (p : Fin 4) (a : Fin 1024) (b : Fin 768), y = ix3 p a b := ⟨y 0, y 1, y 2, eq_ix3 y⟩
  pointwise
  show _ = KvVal.gradAt _ _ _ _ p a b
  unfold KvVal.gradAt
  refine Finset.sum_congr rfl fun t _ => (mul_comm _ _).trans ?_
  refine congrArg₂ (· * ·) rfl ?_
  have hp := p.isLt
  have hb := b.isLt
  refine Eq.trans ?_ (pick_eq _ _ _ (⟨(p.val * 768 + b.val) / 512, by omega⟩ : Fin 6) ⟨(p.val * 768 + b.val) % 512, by omega⟩
    (by show 768 * p.val + b.val = 512 * ((p.val * 768 + b.val) / 512) + (p.val * 768 + b.val) % 512; omega)).symm
  unfold KvVal.cot
  by_cases h : (p.val * 768 + b.val) / 512 % 2 = 0
  · rw [dif_neg (by omega), dif_pos (by omega), zero_add, if_pos h]
    exact congrArg (fun q => m ((c.tc : Thread nD τ).loc main_arg0) (ix2 t q)) (Fin.ext (by
      show (p.val * 768 + b.val) / 1024 * 512 + (p.val * 768 + b.val) % 512 = 512 * ((p.val * 768 + b.val) / 512 / 2) + (p.val * 768 + b.val) % 512
      omega))
  · rw [dif_pos (by omega), dif_neg (by omega), add_zero, if_neg h]
    exact congrArg (fun q => m ((c.tc : Thread nD τ).loc main_arg1) (ix2 t q)) (Fin.ext (by
      show (p.val * 768 + b.val) / 1024 * 512 + (p.val * 768 + b.val) % 512 = 512 * ((p.val * 768 + b.val) / 512 / 2) + (p.val * 768 + b.val) % 512
      omega))

end reference

/-- The kernel as printed ends, its arguments unchanged and every counter at zero. -/
theorem ends : quiescent_Kv (hKv := Cert.Kv.Gen.facts) := fun m ρ _ => Cert.Kv.Gen.frame m ρ

/-- So does its exact form. -/
theorem ideal_ends : quiescent_KvIdeal (hKvIdeal := Cert.KvIdeal.Gen.facts) := fun m ρ _ => Cert.KvIdeal.Gen.frame m ρ

/-- So does the reference. -/
theorem ref_ends : quiescent_KvRefIdeal (hKvRefIdeal := Cert.KvRefIdeal.Gen.facts) := fun m ρ _ =>
  (θ_run _ _ _).mono (fun r h => ⟨fun c => (h c).2, sem_eq_zero_of_no_sems (by decide) r.2⟩) (Cert.KvRefIdeal.Value.run m ρ)

/-- Both programs' result is the gradient of the weights, as the same function of the arguments. -/
theorem equal : algebraic_KvIdeal_KvRefIdeal (hKvIdeal := Cert.KvIdeal.Gen.facts) (hKvRefIdeal := Cert.KvRefIdeal.Gen.facts) := by
  intro m ρ m' ρ' _ hag
  refine ⟨fun c => KvVal.grad (KvVal.aK m c) (KvVal.aV m c) (KvVal.aH m c) (KvVal.aG m c),
    (θ_run _ _ _).mono (fun _ h c => ⟨(h c).1.trans (KvVal.arr m c), (h c).2⟩) (Cert.KvIdeal.Value.run_blocks m ρ),
    (θ_run _ _ _).mono (fun _ h c => ⟨(h c).1.trans ?_, (h c).2⟩) (ref_run m' ρ')⟩
  rw [(hag c).1, (hag c).2.1, (hag c).2.2.1, (hag c).2.2.2]

end Cert.KvClaims
-- ==== Proof.OwRun.lean ====
/-
  The attention's output projection's weight gradient: what the kernel leaves in its accumulator and in the output's block.
-/
module

public import proofs.«01_k».proof.Proof.Wgrad
public import proofs.«01_k».proof.Proof.Gen.OwIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OwVal

open Idealize.ShloMosaic Idealize.ShloMosaic.TcCoe Idealize.SL.Sem Cert.OwIdeal Cert.OwIdeal.Gen Cert.Wgrad

section blocks

variable (c : Dev nD) (i : grid0.Coords) (arg2 : Memref sig .tc .vmem S512x512 .f32) (harg2 : arg2.IsWhole) (arg3 : Memref sig .tc .vmem S512x1024 .bf16) (harg3 : arg3.IsWhole)
  (arg4 : Memref sig .tc .vmem S4x512x256 .bf16) (harg4 : arg4.IsWhole) (arg5 : Memref sig .tc .vmem S4x512x256 .f32) (harg5 : arg5.IsWhole)
  (x0 : Vec Ideal S512x512 .f32) (x1 : Vec Ideal S512x1024 .bf16) (xs : Vec Ideal S4x512x256 .f32)

/-- What one block of tokens adds to the gradient at device `p`, channel `a`, column `b` of the device. -/
def partAt (p : Fin 4) (a : Fin 512) (b : Fin 256) : EReal :=
  ∑ r : Fin 512, x0 (ix2 r a) * x1 (ix2 r ⟨256 * p.val + b.val, by omega⟩)

/-- The same as a function of an index. -/
def part (y : S4x512x256.Idx) : EReal := partAt x0 x1 (y 0) (y 1) (y 2)

/-- The accumulator after one block of tokens. -/
def acc : Vec Ideal S4x512x256 .f32 := fun y => xs y + part x0 x1 y

/-- The same in the output's format. -/
def accHalf : Vec Ideal S4x512x256 .bf16 := fun y => xs y + part x0 x1 y

/-- The four stores into the accumulator, the last first. -/
def pcs : List (View.Piece (Elt Ideal) S4x512x256 .f32) :=
  [⟨Rect.unit ![3, 0, 0] ![1, 512, 256] inb_S4x512x256_S1x512x256_3_0_0,
      k0_pay2 (k0_pay5 (View.ld x0 (Rect.unit ![0, 0] ![512, 512] inb_S512x512_S512x512_0_0)))
        (View.ld x1 (Rect.unit ![0, 768] ![512, 256] inb_S512x1024_S512x256_0_768))
        (View.ld xs (Rect.unit ![3, 0, 0] ![1, 512, 256] inb_S4x512x256_S1x512x256_3_0_0))⟩,
    ⟨Rect.unit ![2, 0, 0] ![1, 512, 256] inb_S4x512x256_S1x512x256_2_0_0,
      k0_pay1 (k0_pay8 (View.ld x0 (Rect.unit ![0, 0] ![512, 512] inb_S512x512_S512x512_0_0))
        (View.ld x1 (Rect.unit ![0, 512] ![512, 256] inb_S512x1024_S512x256_0_512)))
        (View.ld xs (Rect.unit ![2, 0, 0] ![1, 512, 256] inb_S4x512x256_S1x512x256_2_0_0))⟩,
    ⟨Rect.unit ![1, 0, 0] ![1, 512, 256] inb_S4x512x256_S1x512x256_1_0_0,
      k0_pay7 (View.ld x0 (Rect.unit ![0, 0] ![512, 512] inb_S512x512_S512x512_0_0))
        (View.ld x1 (Rect.unit ![0, 256] ![512, 256] inb_S512x1024_S512x256_0_256))
        (View.ld xs (Rect.unit ![1, 0, 0] ![1, 512, 256] inb_S4x512x256_S1x512x256_1_0_0))⟩,
    ⟨Rect.unit ![0, 0, 0] ![1, 512, 256] inb_S4x512x256_S1x512x256_0_0_0,
      k0_pay6 (View.ld x0 (Rect.unit ![0, 0] ![512, 512] inb_S512x512_S512x512_0_0))
        (View.ld x1 (Rect.unit ![0, 0] ![512, 256] inb_S512x1024_S512x256_0_0))
        (View.ld xs (Rect.unit ![0, 0, 0] ![1, 512, 256] inb_S4x512x256_S1x512x256_0_0_0))⟩]

/-- Each store puts the accumulator's new entries. -/
theorem pcs_acc : ∀ p ∈ pcs x0 x1 xs, ∀ x, p.2 x = acc x0 x1 xs (p.1.emb x) := by
  unfold pcs
  rw [List.forall_mem_cons, List.forall_mem_cons, List.forall_mem_cons, List.forall_mem_cons]
  refine ⟨?_, ?_, ?_, ?_, fun _ h => (List.not_mem_nil h).elim⟩
  all_goals
    intro x
    dsimp only
    change S1x512x256.Idx at x
    obtain ⟨q, a, b, rfl⟩ : ∃ (q : Fin 1) (a : Fin 512) (b : Fin 256), x = ix3 q a b := ⟨x 0, x 1, x 2, eq_ix3 x⟩
    obtain rfl : q = 0 := Subsingleton.elim _ _
    refine Eq.trans ?_ (congrArg (acc x0 x1 xs) (emb_slab _ (by decide) 0 a b (by omega))).symm
    unfold_payloads
    pointwise
  · rfl
  · rfl
  · rfl
  · exact congrArg (xs _ + ·) (Finset.sum_congr rfl fun r _ => congrArg (fun q => x0 (ix2 r a) * x1 (ix2 r q)) (Fin.ext (by show b.val = 256 * 0 + b.val; omega)))

/-- They cover it. -/
theorem pcs_cover (y : S4x512x256.Idx) : ∃ p ∈ pcs x0 x1 xs, y ∈ p.1.set :=
  View.cover_of_tiledL (Val := Elt Ideal) (s := S4x512x256) (e := .f32) (pcs x0 x1 xs) S1x512x256.size (by sl_kernel_rfl) y

/-- So over any contents they leave its new entries. -/
theorem pcs_read (y : S4x512x256.Idx) (f : VS0_0.ty.Contents (Elt Ideal)) :
    VS0_0.read (Elt Ideal) (VS0_0.writes (Elt Ideal) f (pcs x0 x1 xs)) y = acc x0 x1 xs y :=
  View.read_writes_apply_of_pieces VS0_0 f (acc x0 x1 xs) (pcs x0 x1 xs) (pcs_acc x0 x1 xs) y (pcs_cover x0 x1 xs y)

/-- The accumulator is zeroed with zeros. -/
theorem zero_eq (y : S4x512x256.Idx) : (k0_pay4 (F := Ideal)) y = 0 := by
  unfold_payloads
  pointwise

/-- The first block of a run zeroes the accumulator and adds its part. -/
theorem first (hc0 : cond0_0 i) (hc1 : ¬cond0_1 i) (y : S4x512x256.Idx) :
    sout0_A_0 c i arg2 harg2 arg3 harg3 arg4 harg4 arg5 harg5 hc0 hc1 x0 x1 y = 0 + part x0 x1 y := by
  unfold sout0_A_0 kernelRun0_A
  dsimp only
  sl_unfold_words
  simp (disch := decide) only [View.readAt_eq_ld, harg2.read_unread, harg3.read_unread, View.readCov_skip, View.readCov_fill]
  refine (congrFun (congrArg (VS0_0.read (Elt Ideal)) (View.writes_append VS0_0 VS0_0.junk (pcs x0 x1 (k0_pay4 (F := Ideal)))
    [⟨Rect.unit ![0, 0, 0] ![4, 512, 256] inb_S4x512x256_S4x512x256_0_0_0, k0_pay4 (F := Ideal)⟩])) y).trans ?_
  exact (pcs_read x0 x1 (k0_pay4 (F := Ideal)) y _).trans (congrArg (· + part x0 x1 y) (zero_eq y))

/-- A block between adds its part. -/
theorem middle (hc0 : ¬cond0_0 i) (hc1 : ¬cond0_1 i) (y : S4x512x256.Idx) :
    sout0_B_0 c i arg2 harg2 arg3 harg3 arg4 harg4 arg5 harg5 hc0 hc1 x0 x1 xs y = acc x0 x1 xs y := by
  refine View.read_writes_apply_of_pieces VS0_0 _ (acc x0 x1 xs) _ ?_ y (scover0_B_0 ..)
  unfold kernelRun0_B
  dsimp only
  sl_unfold_words
  simp (disch := decide) only [View.readAt_eq_ld, harg2.read_unread, harg3.read_unread, harg5.read_unread, View.readCov_skip, View.readCov_fill]
  exact pcs_acc x0 x1 xs

/-- So does the last block. -/
theorem last (hc0 : ¬cond0_0 i) (hc1 : cond0_1 i) (y : S4x512x256.Idx) :
    sout0_C_0 c i arg2 harg2 arg3 harg3 arg4 harg4 arg5 harg5 hc0 hc1 x0 x1 xs y = acc x0 x1 xs y := by
  refine View.read_writes_apply_of_pieces VS0_0 _ (acc x0 x1 xs) _ ?_ y (scover0_C_0 ..)
  unfold kernelRun0_C
  dsimp only
  sl_unfold_words
  simp (disch := decide) only [View.readAt_eq_ld, harg2.read_unread, harg3.read_unread, harg5.read_unread, View.readCov_skip, View.readCov_fill]
  exact pcs_acc x0 x1 xs

/-- The last block stores the accumulator, cut to the output format. -/
theorem out (hc0 : ¬cond0_0 i) (hc1 : cond0_1 i) (y : S4x512x256.Idx) :
    out0_C_2 c i arg2 harg2 arg3 harg3 arg4 harg4 arg5 harg5 hc0 hc1 x0 x1 xs y = accHalf x0 x1 xs y := by
  refine View.read_writes_apply_of_pieces VO0_2 _ (accHalf x0 x1 xs) _ ?_ y (cover0_C_2 ..)
  unfold kernelRun0_C
  dsimp only
  sl_unfold_words
  simp (disch := decide) only [View.readAt_eq_ld, harg2.read_unread, harg3.read_unread, harg5.read_unread, View.readCov_skip, View.readCov_fill]
  rw [List.forall_mem_cons]
  refine ⟨?_, fun _ h => (List.not_mem_nil h).elim⟩
  intro x
  exact View.read_writes_apply_of_pieces arg5.view arg5.view.junk (acc x0 x1 xs) (pcs x0 x1 xs) (pcs_acc x0 x1 xs) _ (pcs_cover x0 x1 xs _)

end blocks

variable (m : (ℓ : Loc nD τ sig) → Buf (Elt Ideal) ℓ) (c : Dev nD)

/-- The first block of a run sets the accumulator. -/
theorem outs_first (t : Fin cfg0.N) (h0 : t.val % 16 = 0) (y : S4x512x256.Idx) :
    (outsAt0 m c t.val t.isLt).2 y = 0 + part (iblk m c 0 t) (iblk m c 1 t) y := by
  have h1 : ¬t.val % 16 = 15 := by omega
  rw [outsAt0_A m c t h0 h1]
  dsimp only
  apply first

/-- Every other block adds to it. -/
theorem outs_step (t : Fin cfg0.N) (h0 : ¬t.val % 16 = 0) (y : S4x512x256.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S4x512x256.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).trans
    (last c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).symm

/-- What is copied out is the sum of a run's parts. -/
theorem outs_sum (t : Fin cfg0.N) (h1 : t.val % 16 = 16 - 1) (y : S4x512x256.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) y) (fun t h y => outs_first m c t h y) (fun t h y => outs_step m c t h y) t h1 y)

end Cert.OwVal
-- ==== Proof.OwArr.lean ====
/-
  The attention's output projection's weight gradient: the kernel's output array as a function of the arguments.
-/
module

public import proofs.«01_k».proof.Proof.OwRun
public import Idealize.ShloMosaic.Lib.Pipeline.ValueKit
public import Idealize.ShloMosaic.Lib.Pointwise

@[expose] public section

set_option maxRecDepth 16384

noncomputable section

namespace Cert.OwVal

open Idealize.ShloMosaic Idealize.ShloMosaic.TcCoe Idealize.SL.Sem Cert.OwIdeal Cert.OwIdeal.Gen Cert.Wgrad

variable (m : (ℓ : Loc nD τ sig) → Buf (Elt Ideal) ℓ) (c : Dev nD)

/-- The windows' index maps. -/
theorem idx : ∀ t : Fin cfg0.N, win0_0.index t = ![t.val % 16, 0] ∧ win0_1.index t = ![t.val % 16, 0] ∧ win0_2.index t = ![0, 0, 0] :=
  (by decide +kernel : ∀ t : Fin grid0.N, win0_0.index t = ![t.val % 16, 0] ∧ win0_1.index t = ![t.val % 16, 0] ∧ win0_2.index t = ![0, 0, 0])

section arrays

variable (A : Vec Ideal S8192x1024 .f32) (O : Vec Ideal S8192x512 .f32)

/-- The gradient at device `p`, channel `a`, column `b` of the device: over the tokens, the attention's output times
    the cotangent. -/
def gradAt (p : Fin 4) (a : Fin 512) (b : Fin 256) : EReal := ∑ t : Fin 8192, O (ix2 t a) * A (ix2 t ⟨256 * p.val + b.val, by omega⟩)

/-- THE GRADIENT of the weights, by devices. -/
def grad : Vec Ideal S4x512x256 .bf16 := fun y => gradAt A O (y 0) (y 1) (y 2)

end arrays

/-- The cotangents. -/
abbrev aA : Vec Ideal S8192x1024 .f32 := m ((c : Thread nD τ).loc main_arg0)
/-- The attention's outputs. -/
abbrev aO : Vec Ideal S8192x512 .f32 := m ((c : Thread nD τ).loc main_arg1)

/-- Token `r` of the block at point `t`. -/
abbrev at16 (t : Fin cfg0.N) (r : Fin 512) : Fin 8192 := tok (t.val % 16) (Nat.mod_lt _ (by decide)) r

theorem read0 (t : Fin cfg0.N) (r k : Fin 512) :
    (iblk m c 0 t : Vec Ideal S512x512 .f32) (ix2 r k) = aO m c (ix2 (at16 t r) k) := by
  blk_ext [iblk, V, idx t, tok]

theorem read1 (t : Fin cfg0.N) (r : Fin 512) (f : Fin 1024) :
    (iblk m c 1 t : Vec Ideal S512x1024 .bf16) (ix2 r f) = aA m c (ix2 (at16 t r) f) := by
  have he : (win0_1.blk t).view.emb (ix2 r f : S512x1024.Idx) = (ix2 (at16 t r) f : S8192x1024.Idx) := by blk_ext [idx t, tok]
  blk_simp [iblk]
  rw [he]
  entry_read
  pointwise

/-- A block's part is its 512 tokens' part. -/
theorem part_eq (t : Fin cfg0.N) (p : Fin 4) (a : Fin 512) (b : Fin 256) :
    part (iblk m c 0 t) (iblk m c 1 t) (ix3 p a b)
      = ∑ r, aO m c (ix2 (at16 t r) a) * aA m c (ix2 (at16 t r) ⟨256 * p.val + b.val, by omega⟩) := by
  show partAt _ _ p a b = _
  unfold partAt
  refine Finset.sum_congr rfl fun r _ => ?_
  exact congrArg₂ (· * ·) (read0 m c t r a) (read1 m c t r _)

/-- THE OUTPUT ARRAY. -/
theorem arr : (dats m 0 c).arrAt 2 cfg0.N = grad (aA m c) (aO m c) := by
  refine (dats m 0 c).arrAt_eq_of_covers 2 _ (by decide +kernel) fun t hf y => ?_
  blk_simp
  rw [after0_2]
  change S4x512x256.Idx at y
  obtain ⟨p, a, b, rfl⟩ : ∃ (p : Fin 4) (a : Fin 512) (b : Fin 256), y = ix3 p a b := ⟨y 0, y 1, y 2, eq_ix3 y⟩
  have h1 := (flush0_2 t).mp hf
  have he : (win0_2.blk t).view.emb (ix3 p a b : S4x512x256.Idx) = (ix3 p a b : S4x512x256.Idx) := by blk_ext [idx t]
  rw [he]
  refine sum_run (F := fun q => aO m c (ix2 q a) * aA m c (ix2 q ⟨256 * p.val + b.val, by omega⟩)) (outs_sum m c t h1 (ix3 p a b)) fun s => ?_
  have hs : (16 * (t.val / 16) + s.val) % 16 = s.val := by have := s.isLt; omega
  rw [part_eq]
  simp only [at16, hs]

end Cert.OwVal
-- ==== Proof.OwClaims.lean ====
/-
  The attention's output projection's weight gradient: the reference's result, and the claims.
-/
module

public import proofs.«01_k».proof.Defs
public import proofs.«01_k».proof.Proof.Gen.Ow.Frame
public import proofs.«01_k».proof.Proof.Gen.OwRefIdeal.Run
public import proofs.«01_k».proof.Proof.OwArr
public import Idealize.ShloMosaic.Lib.Quiescent

@[expose] public section

set_option maxRecDepth 16384

noncomputable section

namespace Cert.OwClaims

open Idealize.ShloMosaic Idealize.ShloMosaic.TcCoe Idealize.SL.Sem Cert.Wgrad

section reference

open Cert.OwRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v6)
      = OwVal.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  funext y
  change Cert.OwIdeal.S4x512x256.Idx at y
  obtain ⟨p, a, b, rfl⟩ : ∃ (p : Fin 4) (a : Fin 512) (b : Fin 256), y = ix3 p a b := ⟨y 0, y 1, y 2, eq_ix3 y⟩
  pointwise
  show _ = OwVal.gradAt _ _ p a b
  unfold OwVal.gradAt
  refine Finset.sum_congr rfl fun t _ => (mul_comm _ _).trans ?_
  simp only [Nat.mul_comm p.val 256]

end reference

/-- The kernel as printed ends, its arguments unchanged and every counter at zero. -/
theorem ends : quiescent_Ow (hOw := Cert.Ow.Gen.facts) := fun m ρ _ => Cert.Ow.Gen.frame m ρ

/-- So does its exact form. -/
theorem ideal_ends : quiescent_OwIdeal (hOwIdeal := Cert.OwIdeal.Gen.facts) := fun m ρ _ => Cert.OwIdeal.Gen.frame m ρ

/-- So does the reference. -/
theorem ref_ends : quiescent_OwRefIdeal (hOwRefIdeal := Cert.OwRefIdeal.Gen.facts) := fun m ρ _ =>
  (θ_run _ _ _).mono (fun r h => ⟨fun c => (h c).2, sem_eq_zero_of_no_sems (by decide) r.2⟩) (Cert.OwRefIdeal.Value.run m ρ)

/-- Both programs' result is the gradient of the weights, as the same function of the arguments. -/
theorem equal : algebraic_OwIdeal_OwRefIdeal (hOwIdeal := Cert.OwIdeal.Gen.facts) (hOwRefIdeal := Cert.OwRefIdeal.Gen.facts) := by
  intro m ρ m' ρ' _ hag
  refine ⟨fun c => OwVal.grad (OwVal.aA m c) (OwVal.aO m c),
    (θ_run _ _ _).mono (fun _ h c => ⟨(h c).1.trans (OwVal.arr m c), (h c).2⟩) (Cert.OwIdeal.Value.run_blocks m ρ),
    (θ_run _ _ _).mono (fun _ h c => ⟨(h c).1.trans ?_, (h c).2⟩) (ref_run m' ρ')⟩
  rw [(hag c).1, (hag c).2]

end Cert.OwClaims
-- ==== Proof.QwRun.lean ====
/-
  The query projection's weight gradient: what the kernel leaves in its accumulator and in the output's block.
-/
module

public import proofs.«01_k».proof.Proof.Wgrad
public import proofs.«01_k».proof.Proof.Gen.QwIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QwVal

open Idealize.ShloMosaic Idealize.ShloMosaic.TcCoe Idealize.SL.Sem Cert.QwIdeal Cert.QwIdeal.Gen Cert.Wgrad

section blocks

variable (c : Dev nD) (i : grid0.Coords) (arg2 : Memref sig .tc .vmem S512x1024 .bf16) (harg2 : arg2.IsWhole) (arg3 : Memref sig .tc .vmem S512x1536 .f32) (harg3 : arg3.IsWhole)
  (arg4 : Memref sig .tc .vmem S4x1024x384 .bf16) (harg4 : arg4.IsWhole) (arg5 : Memref sig .tc .vmem S4x1024x384 .f32) (harg5 : arg5.IsWhole)
  (x0 : Vec Ideal S512x1024 .bf16) (x1 : Vec Ideal S512x1536 .f32) (xs : Vec Ideal S4x1024x384 .f32)

/-- What one block of tokens adds to the gradient at device `p`, channel `a`, column `b` of the device. -/
def partAt (p : Fin 4) (a : Fin 1024) (b : Fin 384) : EReal :=
  ∑ r : Fin 512, x0 (ix2 r a) * x1 (ix2 r ⟨384 * p.val + b.val, by omega⟩)

/-- The same as a function of an index. -/
def part (y : S4x1024x384.Idx) : EReal := partAt x0 x1 (y 0) (y 1) (y 2)

/-- The accumulator after one block of tokens. -/
def acc : Vec Ideal S4x1024x384 .f32 := fun y => xs y + part x0 x1 y

/-- The same in the output's format. -/
def accHalf : Vec Ideal S4x1024x384 .bf16 := fun y => xs y + part x0 x1 y

/-- The four stores into the accumulator, the last first. -/
def pcs : List (View.Piece (Elt Ideal) S4x1024x384 .f32) :=
  [⟨Rect.unit ![3, 0, 0] ![1, 1024, 384] inb_S4x1024x384_S1x1024x384_3_0_0,
      k0_pay2 (k0_pay5 (View.ld x0 (Rect.unit ![0, 0] ![512, 1024] inb_S512x1024_S512x1024_0_0)))
        (View.ld x1 (Rect.unit ![0, 1152] ![512, 384] inb_S512x1536_S512x384_0_1152))
        (View.ld xs (Rect.unit ![3, 0, 0] ![1, 1024, 384] inb_S4x1024x384_S1x1024x384_3_0_0))⟩,
    ⟨Rect.unit ![2, 0, 0] ![1, 1024, 384] inb_S4x1024x384_S1x1024x384_2_0_0,
      k0_pay1 (k0_pay8 (View.ld x0 (Rect.unit ![0, 0] ![512, 1024] inb_S512x1024_S512x1024_0_0))
        (View.ld x1 (Rect.unit ![0, 768] ![512, 384] inb_S512x1536_S512x384_0_768)))
        (View.ld xs (Rect.unit ![2, 0, 0] ![1, 1024, 384] inb_S4x1024x384_S1x1024x384_2_0_0))⟩,
    ⟨Rect.unit ![1, 0, 0] ![1, 1024, 384] inb_S4x1024x384_S1x1024x384_1_0_0,
      k0_pay7 (View.ld x0 (Rect.unit ![0, 0] ![512, 1024] inb_S512x1024_S512x1024_0_0))
        (View.ld x1 (Rect.unit ![0, 384] ![512, 384] inb_S512x1536_S512x384_0_384))
        (View.ld xs (Rect.unit ![1, 0, 0] ![1, 1024, 384] inb_S4x1024x384_S1x1024x384_1_0_0))⟩,
    ⟨Rect.unit ![0, 0, 0] ![1, 1024, 384] inb_S4x1024x384_S1x1024x384_0_0_0,
      k0_pay6 (View.ld x0 (Rect.unit ![0, 0] ![512, 1024] inb_S512x1024_S512x1024_0_0))
        (View.ld x1 (Rect.unit ![0, 0] ![512, 384] inb_S512x1536_S512x384_0_0))
        (View.ld xs (Rect.unit ![0, 0, 0] ![1, 1024, 384] inb_S4x1024x384_S1x1024x384_0_0_0))⟩]

/-- Each store puts the accumulator's new entries. -/
theorem pcs_acc : ∀ p ∈ pcs x0 x1 xs, ∀ x, p.2 x = acc x0 x1 xs (p.1.emb x) := by
  unfold pcs
  rw [List.forall_mem_cons, List.forall_mem_cons, List.forall_mem_cons, List.forall_mem_cons]
  refine ⟨?_, ?_, ?_, ?_, fun _ h => (List.not_mem_nil h).elim⟩
  all_goals
    intro x
    dsimp only
    change S1x1024x384.Idx at x
    obtain ⟨q, a, b, rfl⟩ : ∃ (q : Fin 1) (a : Fin 1024) (b : Fin 384), x = ix3 q a b := ⟨x 0, x 1, x 2, eq_ix3 x⟩
    obtain rfl : q = 0 := Subsingleton.elim _ _
    refine Eq.trans ?_ (congrArg (acc x0 x1 xs) (emb_slab _ (by decide) 0 a b (by omega))).symm
    unfold_payloads
    pointwise
  · rfl
  · rfl
  · rfl
  · exact congrArg (xs _ + ·) (Finset.sum_congr rfl fun r _ => congrArg (fun q => x0 (ix2 r a) * x1 (ix2 r q)) (Fin.ext (by show b.val = 384 * 0 + b.val; omega)))

/-- They cover it. -/
theorem pcs_cover (y : S4x1024x384.Idx) : ∃ p ∈ pcs x0 x1 xs, y ∈ p.1.set :=
  View.cover_of_tiledL (Val := Elt Ideal) (s := S4x1024x384) (e := .f32) (pcs x0 x1 xs) S1x1024x384.size (by sl_kernel_rfl) y

/-- So over any contents they leave its new entries. -/
theorem pcs_read (y : S4x1024x384.Idx) (f : VS0_0.ty.Contents (Elt Ideal)) :
    VS0_0.read (Elt Ideal) (VS0_0.writes (Elt Ideal) f (pcs x0 x1 xs)) y = acc x0 x1 xs y :=
  View.read_writes_apply_of_pieces VS0_0 f (acc x0 x1 xs) (pcs x0 x1 xs) (pcs_acc x0 x1 xs) y (pcs_cover x0 x1 xs y)

/-- The accumulator is zeroed with zeros. -/
theorem zero_eq (y : S4x1024x384.Idx) : (k0_pay4 (F := Ideal)) y = 0 := by
  unfold_payloads
  pointwise

/-- The first block of a run zeroes the accumulator and adds its part. -/
theorem first (hc0 : cond0_0 i) (hc1 : ¬cond0_1 i) (y : S4x1024x384.Idx) :
    sout0_A_0 c i arg2 harg2 arg3 harg3 arg4 harg4 arg5 harg5 hc0 hc1 x0 x1 y = 0 + part x0 x1 y := by
  unfold sout0_A_0 kernelRun0_A
  dsimp only
  sl_unfold_words
  simp (disch := decide) only [View.readAt_eq_ld, harg2.read_unread, harg3.read_unread, View.readCov_skip, View.readCov_fill]
  refine (congrFun (congrArg (VS0_0.read (Elt Ideal)) (View.writes_append VS0_0 VS0_0.junk (pcs x0 x1 (k0_pay4 (F := Ideal)))
    [⟨Rect.unit ![0, 0, 0] ![4, 1024, 384] inb_S4x1024x384_S4x1024x384_0_0_0, k0_pay4 (F := Ideal)⟩])) y).trans ?_
  exact (pcs_read x0 x1 (k0_pay4 (F := Ideal)) y _).trans (congrArg (· + part x0 x1 y) (zero_eq y))

/-- A block between adds its part. -/
theorem middle (hc0 : ¬cond0_0 i) (hc1 : ¬cond0_1 i) (y : S4x1024x384.Idx) :
    sout0_B_0 c i arg2 harg2 arg3 harg3 arg4 harg4 arg5 harg5 hc0 hc1 x0 x1 xs y = acc x0 x1 xs y := by
  refine View.read_writes_apply_of_pieces VS0_0 _ (acc x0 x1 xs) _ ?_ y (scover0_B_0 ..)
  unfold kernelRun0_B
  dsimp only
  sl_unfold_words
  simp (disch := decide) only [View.readAt_eq_ld, harg2.read_unread, harg3.read_unread, harg5.read_unread, View.readCov_skip, View.readCov_fill]
  exact pcs_acc x0 x1 xs

/-- So does the last block. -/
theorem last (hc0 : ¬cond0_0 i) (hc1 : cond0_1 i) (y : S4x1024x384.Idx) :
    sout0_C_0 c i arg2 harg2 arg3 harg3 arg4 harg4 arg5 harg5 hc0 hc1 x0 x1 xs y = acc x0 x1 xs y := by
  refine View.read_writes_apply_of_pieces VS0_0 _ (acc x0 x1 xs) _ ?_ y (scover0_C_0 ..)
  unfold kernelRun0_C
  dsimp only
  sl_unfold_words
  simp (disch := decide) only [View.readAt_eq_ld, harg2.read_unread, harg3.read_unread, harg5.read_unread, View.readCov_skip, View.readCov_fill]
  exact pcs_acc x0 x1 xs

/-- The last block stores the accumulator, cut to the output format. -/
theorem out (hc0 : ¬cond0_0 i) (hc1 : cond0_1 i) (y : S4x1024x384.Idx) :
    out0_C_2 c i arg2 harg2 arg3 harg3 arg4 harg4 arg5 harg5 hc0 hc1 x0 x1 xs y = accHalf x0 x1 xs y := by
  refine View.read_writes_apply_of_pieces VO0_2 _ (accHalf x0 x1 xs) _ ?_ y (cover0_C_2 ..)
  unfold kernelRun0_C
  dsimp only
  sl_unfold_words
  simp (disch := decide) only [View.readAt_eq_ld, harg2.read_unread, harg3.read_unread, harg5.read_unread, View.readCov_skip, View.readCov_fill]
  rw [List.forall_mem_cons]
  refine ⟨?_, fun _ h => (List.not_mem_nil h).elim⟩
  intro x
  exact View.read_writes_apply_of_pieces arg5.view arg5.view.junk (acc x0 x1 xs) (pcs x0 x1 xs) (pcs_acc x0 x1 xs) _ (pcs_cover x0 x1 xs _)

end blocks

variable (m : (ℓ : Loc nD τ sig) → Buf (Elt Ideal) ℓ) (c : Dev nD)

/-- The first block of a run sets the accumulator. -/
theorem outs_first (t : Fin cfg0.N) (h0 : t.val % 16 = 0) (y : S4x1024x384.Idx) :
    (outsAt0 m c t.val t.isLt).2 y = 0 + part (iblk m c 0 t) (iblk m c 1 t) y := by
  have h1 : ¬t.val % 16 = 15 := by omega
  rw [outsAt0_A m c t h0 h1]
  dsimp only
  apply first

/-- Every other block adds to it. -/
theorem outs_step (t : Fin cfg0.N) (h0 : ¬t.val % 16 = 0) (y : S4x1024x384.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 16 = 15
  · rw [outsAt0_C m c t h0 h1]
    dsimp only
    apply last
  · rw [outsAt0_B m c t h0 h1]
    dsimp only
    apply middle

/-- The last block of a run copies it out. -/
theorem outs_copy (t : Fin cfg0.N) (h1 : t.val % 16 = 15) (y : S4x1024x384.Idx) :
    (outsAt0 m c t.val t.isLt).1 y = (outsAt0 m c t.val t.isLt).2 y := by
  have h0 : ¬t.val % 16 = 0 := by omega
  rw [outsAt0_C m c t h0 h1]
  dsimp only
  exact (out c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).trans
    (last c (grid0.coords t) (ms0_0 t) (hs0_0 t) (ms0_1 t) (hs0_1 t) (ms0_2 t) (hs0_2 t) scM0_0 (Memref.isWhole_whole _) (iblk m c 0 t) (iblk m c 1 t) _ (fun h => h0 ((hcond0_0 t).mp h)) ((hcond0_1 t).mpr h1) y).symm

/-- What is copied out is the sum of a run's parts. -/
theorem outs_sum (t : Fin cfg0.N) (h1 : t.val % 16 = 16 - 1) (y : S4x1024x384.Idx) :
    (outsAt0 m c t.val t.isLt).1 y
      = 0 + ∑ s : Fin 16, part (iblk m c 0 ⟨16 * (t.val / 16) + s.val, Pipeline.run_point_lt_of_flush t h1 s⟩) (iblk m c 1 ⟨16 * (t.val / 16) + s.val, Pipeline.run_point_lt_of_flush t h1 s⟩) y :=
  (outs_copy m c t h1 y).trans
    (Pipeline.eq_sum_fin_of_reset_step_apply_of_flush (fun n hn y => (outsAt0 m c n hn).2 y) 16 (fun _ => 0)
      (fun t y => part (iblk m c 0 t) (iblk m c 1 t) y) (fun t h y => outs_first m c t h y) (fun t h y => outs_step m c t h y) t h1 y)

end Cert.QwVal
-- ==== Proof.QwArr.lean ====
/-
  The query projection's weight gradient: the kernel's output array as a function of the arguments.
-/
module

public import proofs.«01_k».proof.Proof.QwRun
public import Idealize.ShloMosaic.Lib.Pipeline.ValueKit
public import Idealize.ShloMosaic.Lib.Pointwise

@[expose] public section

set_option maxRecDepth 16384

noncomputable section

namespace Cert.QwVal

open Idealize.ShloMosaic Idealize.ShloMosaic.TcCoe Idealize.SL.Sem Cert.QwIdeal Cert.QwIdeal.Gen Cert.Wgrad

variable (m : (ℓ : Loc nD τ sig) → Buf (Elt Ideal) ℓ) (c : Dev nD)

/-- The windows' index maps. -/
theorem idx : ∀ t : Fin cfg0.N, win0_0.index t = ![t.val % 16, 0] ∧ win0_1.index t = ![t.val % 16, 0] ∧ win0_2.index t = ![0, 0, 0] :=
  (by decide +kernel : ∀ t : Fin grid0.N, win0_0.index t = ![t.val % 16, 0] ∧ win0_1.index t = ![t.val % 16, 0] ∧ win0_2.index t = ![0, 0, 0])

section arrays

variable (A : Vec Ideal S8192x1536 .f32) (H : Vec Ideal S8192x1024 .f32) (G : Vec Ideal S1024 .f32)

/-- The gradient at device `p`, channel `a`, column `b` of the device: over the tokens, the normalised token times
    the query's cotangent. -/
def gradAt (p : Fin 4) (a : Fin 1024) (b : Fin 384) : EReal := ∑ t : Fin 8192, normed H G t a * A (ix2 t ⟨384 * p.val + b.val, by omega⟩)

/-- THE GRADIENT of the weights, by devices. -/
def grad : Vec Ideal S4x1024x384 .bf16 := fun y => gradAt A H G (y 0) (y 1) (y 2)

end arrays

/-- The queries' cotangents. -/
abbrev aA : Vec Ideal S8192x1536 .f32 := m ((c : Thread nD τ).loc main_arg0)
/-- The tokens. -/
abbrev aH : Vec Ideal S8192x1024 .f32 := m ((c : Thread nD τ).loc main_arg1)
/-- The gain. -/
abbrev aG : Vec Ideal S1024 .f32 := m ((c : Thread nD τ).loc main_arg2)

/-- Token `r` of the block at point `t`. -/
abbrev at16 (t : Fin cfg0.N) (r : Fin 512) : Fin 8192 := tok (t.val % 16) (Nat.mod_lt _ (by decide)) r

theorem read0 (t : Fin cfg0.N) (r : Fin 512) (k : Fin 1024) :
    (iblk m c 0 t : Vec Ideal S512x1024 .bf16) (ix2 r k) = normed (aH m c) (aG m c) (at16 t r) k := by
  have he : (win0_0.blk t).view.emb (ix2 r k : S512x1024.Idx) = (ix2 (at16 t r) k : S8192x1024.Idx) := by blk_ext [idx t, tok]
  blk_simp [iblk]
  rw [he]
  entry_read
  pointwise
  rfl

theorem read1 (t : Fin cfg0.N) (r : Fin 512) (f : Fin 1536) :
    (iblk m c 1 t : Vec Ideal S512x1536 .f32) (ix2 r f) = aA m c (ix2 (at16 t r) f) := by
  blk_ext [iblk, V, idx t, tok]

/-- A block's part is its 512 tokens' part. -/
theorem part_eq (t : Fin cfg0.N) (p : Fin 4) (a : Fin 1024) (b : Fin 384) :
    part (iblk m c 0 t) (iblk m c 1 t) (ix3 p a b)
      = ∑ r, normed (aH m c) (aG m c) (at16 t r) a * aA m c (ix2 (at16 t r) ⟨384 * p.val + b.val, by omega⟩) := by
  show partAt _ _ p a b = _
  unfold partAt
  refine Finset.sum_congr rfl fun r _ => ?_
  exact congrArg₂ (· * ·) (read0 m c t r a) (read1 m c t r _)

/-- THE OUTPUT ARRAY. -/
theorem arr : (dats m 0 c).arrAt 2 cfg0.N = grad (aA m c) (aH m c) (aG m c) := by
  refine (dats m 0 c).arrAt_eq_of_covers 2 _ (by decide +kernel) fun t hf y => ?_
  blk_simp
  rw [after0_2]
  change S4x1024x384.Idx at y
  obtain ⟨p, a, b, rfl⟩ : ∃ (p : Fin 4) (a : Fin 1024) (b : Fin 384), y = ix3 p a b := ⟨y 0, y 1, y 2, eq_ix3 y⟩
  have h1 := (flush0_2 t).mp hf
  have he : (win0_2.blk t).view.emb (ix3 p a b : S4x1024x384.Idx) = (ix3 p a b : S4x1024x384.Idx) := by blk_ext [idx t]
  rw [he]
  refine sum_run (F := fun q => normed (aH m c) (aG m c) q a * aA m c (ix2 q ⟨384 * p.val + b.val, by omega⟩)) (outs_sum m c t h1 (ix3 p a b)) fun s => ?_
  have hs : (16 * (t.val / 16) + s.val) % 16 = s.val := by have := s.isLt; omega
  rw [part_eq]
  simp only [at16, hs]

end Cert.QwVal
-- ==== Proof.QwClaims.lean ====
/-
  The query projection's weight gradient: the reference's result, and the claims.
-/
module

public import proofs.«01_k».proof.Defs
public import proofs.«01_k».proof.Proof.Gen.Qw.Frame
public import proofs.«01_k».proof.Proof.Gen.QwRefIdeal.Run
public import proofs.«01_k».proof.Proof.QwArr
public import Idealize.ShloMosaic.Lib.Quiescent

@[expose] public section

set_option maxRecDepth 16384

noncomputable section

namespace Cert.QwClaims

open Idealize.ShloMosaic Idealize.ShloMosaic.TcCoe Idealize.SL.Sem Cert.Wgrad

section reference

open Cert.QwRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v19)
      = QwVal.grad (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.QwIdeal.S4x1024x384.Idx at y
  obtain ⟨p, a, b, rfl⟩ : ∃ (p : Fin 4) (a : Fin 1024) (b : Fin 384), y = ix3 p a b := ⟨y 0, y 1, y 2, eq_ix3 y⟩
  pointwise
  show _ = QwVal.gradAt _ _ _ p a b
  unfold QwVal.gradAt
  refine Finset.sum_congr rfl fun t _ => (mul_comm _ _).trans ?_
  simp only [Nat.mul_comm p.val 384]
  rfl

end reference

/-- The kernel as printed ends, its arguments unchanged and every counter at zero. -/
theorem ends : quiescent_Qw (hQw := Cert.Qw.Gen.facts) := fun m ρ _ => Cert.Qw.Gen.frame m ρ

/-- So does its exact form. -/
theorem ideal_ends : quiescent_QwIdeal (hQwIdeal := Cert.QwIdeal.Gen.facts) := fun m ρ _ => Cert.QwIdeal.Gen.frame m ρ

/-- So does the reference. -/
theorem ref_ends : quiescent_QwRefIdeal (hQwRefIdeal := Cert.QwRefIdeal.Gen.facts) := fun m ρ _ =>
  (θ_run _ _ _).mono (fun r h => ⟨fun c => (h c).2, sem_eq_zero_of_no_sems (by decide) r.2⟩) (Cert.QwRefIdeal.Value.run m ρ)

/-- Both programs' result is the gradient of the weights, as the same function of the arguments. -/
theorem equal : algebraic_QwIdeal_QwRefIdeal (hQwIdeal := Cert.QwIdeal.Gen.facts) (hQwRefIdeal := Cert.QwRefIdeal.Gen.facts) := by
  intro m ρ m' ρ' _ hag
  refine ⟨fun c => QwVal.grad (QwVal.aA m c) (QwVal.aH m c) (QwVal.aG m c),
    (θ_run _ _ _).mono (fun _ h c => ⟨(h c).1.trans (QwVal.arr m c), (h c).2⟩) (Cert.QwIdeal.Value.run_blocks m ρ),
    (θ_run _ _ _).mono (fun _ h c => ⟨(h c).1.trans ?_, (h c).2⟩) (ref_run m' ρ')⟩
  rw [(hag c).1, (hag c).2.1, (hag c).2.2]

end Cert.QwClaims
-- ==== Proof.Cols.lean ====
/-
  A block written by columns, some columns at a time, and the columns' values as one function of the block.
-/
module

public import proofs.«01_k».proof.Proof.Segs
public import proofs.«01_k».proof.Proof.Tiles

@[expose] public section

noncomputable section

namespace Cert.Cols

open Idealize.ShloMosaic Cert.Segs Cert.MlpRow

/-- Pieces that are all read off one function, and cover the block, leave that function. -/
theorem canon_of_pieces {S : Shape} {e : EltTy} (L : List (View.Piece (Elt Ideal) S e)) (T : S.Idx → Elt Ideal e) (hT : ∀ p ∈ L, ∀ x, p.2 x = T (p.1.emb x))
    (y : S.Idx) (hc : ∃ p ∈ L, y ∈ p.1.set) : View.canon L y = T y :=
  View.canon_eq_of_allAt L y _ hc fun p hp x hx => (hT p hp x).trans (congrArg T hx)

variable {A B K W P : ℕ}

/-- The block whose column `W * p + b` has in row `r` the value `v r p b`. -/
def cols (hB : B ≤ W * K) (v : Fin A → Fin K → Fin W → EReal) : (⟨2, ![A, B]⟩ : Shape).Idx → EReal :=
  fun y => pick (v (y 0)) (y 1 : Fin B).val (lt_of_lt_of_le (y 1 : Fin B).isLt hB)

/-- The same read through a rectangle of some of the columns. -/
theorem cols_emb {C o : ℕ} (hB : B ≤ W * K) (v : Fin A → Fin K → Fin W → EReal) (h) (r : Fin A) (d : Fin C) (p : Fin K) (b : Fin W)
    (hb : o + d.val = W * p.val + b.val) (hd : o + d.val < B) :
    cols hB v ((Rect.unit (s := ⟨2, ![A, B]⟩) ![0, o] ![A, C] h).emb (ix2 r d)) = v r p b := by
  rw [Cert.Tiles.emb_cols h r d hd]
  exact pick_eq (v r) _ _ p b hb

/-- The block is a function of rows and columns, once the segments are its columns. -/
theorem cols_eq (hB : B ≤ W * K) (v : Fin A → Fin K → Fin W → EReal) (f : Fin B → EReal) (r : Fin A)
    (h : ∀ (p : Fin K) (b : Fin W) (hn : W * p.val + b.val < B), v r p b = f ⟨W * p.val + b.val, hn⟩) (n : Fin B) :
    cols hB v (ix2 r n) = f n := by
  have e := Nat.div_add_mod n.val W
  have hn := n.isLt
  exact (h _ _ (lt_of_eq_of_lt e hn)).trans (congrArg f (Fin.ext e))

/-- A stack of `P` planes of `B` columns each, whose column `W * p + b` counted through the planes has the value `v r p b`. -/
def planes (hB : B * P ≤ W * K) (v : Fin A → Fin K → Fin W → EReal) : (⟨3, ![P, A, B]⟩ : Shape).Idx → EReal :=
  fun y => pick (v (y 1)) (B * (y 0 : Fin P).val + (y 2 : Fin B).val) (by
    have h0 : (y 0 : Fin P).val + 1 ≤ P := (y 0 : Fin P).isLt
    have h2 : (y 2 : Fin B).val < B := (y 2 : Fin B).isLt
    have := Nat.mul_le_mul_left B h0
    rw [Nat.mul_add, Nat.mul_one] at this
    omega)

/-- The same read through a rectangle of some columns of one plane. -/
theorem planes_emb {C s o : ℕ} (hB : B * P ≤ W * K) (v : Fin A → Fin K → Fin W → EReal) (h) (hs : s < P) (k : Fin 1) (r : Fin A) (d : Fin C) (p : Fin K)
    (b : Fin W) (hb : B * s + (o + d.val) = W * p.val + b.val) (hd : o + d.val < B) :
    planes hB v ((Rect.unit (s := ⟨3, ![P, A, B]⟩) ![s, 0, o] ![1, A, C] h).emb (ix3 k r d)) = v r p b := by
  rw [Cert.Wgrad.emb_slab h hs k r d hd]
  exact pick_eq (v r) _ _ p b hb

/-- The stack is a function of planes, rows and columns, once the segments are its columns. -/
theorem planes_eq (hB : B * P ≤ W * K) (v : Fin A → Fin K → Fin W → EReal) (f : (n : ℕ) → n < B * P → EReal) (s : Fin P) (r : Fin A) (d : Fin B)
    (h : ∀ (p : Fin K) (b : Fin W) (hn : W * p.val + b.val < B * P), v r p b = f (W * p.val + b.val) hn) (hn : B * s.val + d.val < B * P) :
    planes hB v (ix3 s r d) = f (B * s.val + d.val) hn := by
  have e := Nat.div_add_mod (B * s.val + d.val) W
  refine (h _ _ (lt_of_eq_of_lt e hn)).trans ?_
  congr 1

end Cert.Cols
-- ==== Proof.AoutBRun.lean ====
/-
  The backward pass of the short convolution's output product, on one block of tokens.
-/
module

public import proofs.«01_k».proof.Proof.Cols
public import proofs.«01_k».proof.Proof.Gen.AoutBIdeal.Value
public import Idealize.ShloMosaic.Lib.Pipeline.ValueKit
public import Idealize.ShloMosaic.Lib.Pointwise

@[expose] public section

set_option maxRecDepth 16384

noncomputable section

namespace Cert.AoutBVal

open Idealize.ShloMosaic Idealize.ShloMosaic.TcCoe Idealize.SL.Sem Cert.AoutBIdeal Cert.AoutBIdeal.Gen Cert.Cols

variable (x0 : Vec Ideal S512x1024 .bf16) (x1 : Vec Ideal S4x1x256x1024 .bf16)

/-- The gradient at token `r` of the block, device `p`, the device's row `b`: the cotangent against the weights' row. -/
def val (r : Fin 512) (p : Fin 4) (b : Fin 256) : EReal := ∑ k : Fin 1024, x0 (ix2 r k) * x1 (ix4 p 0 b k)

/-- THE BLOCK the body stores. -/
theorem out_eq : out0_2 x0 x1 = cols (B := 1024) (by omega) (val x0 x1) := by
  funext y
  refine canon_of_pieces _ _ ?_ y (cover0_2 _ _ _ _ y)
  rw [List.forall_mem_cons, List.forall_mem_cons, List.forall_mem_cons, List.forall_mem_cons]
  refine ⟨?_, ?_, ?_, ?_, fun _ h => (List.not_mem_nil h).elim⟩
  all_goals
    intro x
    dsimp only
    change S512x256.Idx at x
    obtain ⟨r, d, rfl⟩ : ∃ (r : Fin 512) (d : Fin 256), x = ix2 r d := ⟨x 0, x 1, eq_ix2 x⟩
  on_goal 1 => refine Eq.trans ?_ (cols_emb (o := 768) _ (val x0 x1) _ r d 3 d rfl (by omega)).symm
  on_goal 2 => refine Eq.trans ?_ (cols_emb (o := 512) _ (val x0 x1) _ r d 2 d rfl (by omega)).symm
  on_goal 3 => refine Eq.trans ?_ (cols_emb (o := 256) _ (val x0 x1) _ r d 1 d rfl (by omega)).symm
  on_goal 4 => refine Eq.trans ?_ (cols_emb (o := 0) _ (val x0 x1) _ r d 0 d (by simp) (by omega)).symm
  all_goals
    unfold_payloads
    pointwise
    rfl

end Cert.AoutBVal
-- ==== Proof.NormBack.lean ====
/-
  The backward pass of a product of normalised tokens with weights, from the cotangent of the normalised tokens on: the
  tokens' gradient and the gain's gradient, on one block of 512 tokens and on whole arrays.
-/
module

public import proofs.«01_k».proof.Proof.MlpRow

@[expose] public section

noncomputable section

namespace Cert.NormBack

open Idealize.ShloMosaic Cert.MlpRow

/-- A block of 512 tokens. -/
abbrev Blk : Shape := ⟨2, ![512, 1024]⟩
/-- One row of 1024 channels. -/
abbrev Row : Shape := ⟨2, ![1, 1024]⟩
/-- All 8192 tokens. -/
abbrev Arr : Shape := ⟨2, ![8192, 1024]⟩
/-- A vector of 1024 channels. -/
abbrev Chan : Shape := ⟨1, ![1024]⟩

/-- The tokens' gradient of a block. -/
def blkD (z h : Blk.Idx → EReal) (g : Row.Idx → EReal) (dn : Fin 512 → Fin 1024 → EReal) : Blk.Idx → EReal :=
  fun y => rmsBack (fun k => h (ix2 (y 0) k)) (fun k => g (ix2 0 k)) (fun k => z (ix2 (y 0) k)) (fun k => dn (y 0) k) (y 1)

/-- A block's part of the gain's gradient. -/
def partG (h : Blk.Idx → EReal) (dn : Fin 512 → Fin 1024 → EReal) : Row.Idx → EReal :=
  fun y => ∑ r, dn r (y 1) * (h (ix2 r (y 1)) * scale (fun k => h (ix2 r k)))

/-- The same added to what the row held. -/
def accG (h : Blk.Idx → EReal) (dn : Fin 512 → Fin 1024 → EReal) (xo : Row.Idx → EReal) : Row.Idx → EReal :=
  fun y => xo y + partG h dn y

/-- The gradient of token `t` at channel `d`. -/
def tokBack (H : Arr.Idx → EReal) (G : Chan.Idx → EReal) (Z : Arr.Idx → EReal) (N : Fin 8192 → Fin 1024 → EReal) (t : Fin 8192) (d : Fin 1024) : EReal :=
  rmsBack (fun k => H (ix2 t k)) (fun k => G (ix1 k)) (fun k => Z (ix2 t k)) (N t) d

/-- The gradient of the gain at channel `d`. -/
def gainBack (H : Arr.Idx → EReal) (N : Fin 8192 → Fin 1024 → EReal) (d : Fin 1024) : EReal :=
  ∑ t : Fin 8192, N t d * (H (ix2 t d) * scale (fun k : Fin 1024 => H (ix2 t k)))

/-- THE TOKENS' GRADIENT as an array. -/
def tokArr (H : Arr.Idx → EReal) (G : Chan.Idx → EReal) (Z : Arr.Idx → EReal) (N : Fin 8192 → Fin 1024 → EReal) : Arr.Idx → EReal :=
  fun y => tokBack H G Z N (y 0) (y 1)

/-- THE GAIN'S GRADIENT as an array. -/
def gainArr (H : Arr.Idx → EReal) (N : Fin 8192 → Fin 1024 → EReal) : Row.Idx → EReal := fun y => gainBack H N (y 1)

/-- Token `r` of block `t`. -/
abbrev tok (t : Fin 16) (r : Fin 512) : Fin 8192 := ⟨512 * t.val + r.val, by omega⟩

/-- Sixteen blocks of 512 are the 8192 tokens. -/
theorem sum_tok (F : Fin 8192 → EReal) : ∑ t, F t = ∑ t : Fin 16, ∑ r, F (tok t r) := by
  have h := (finProdFinEquiv (m := 16) (n := 512)).sum_comp (fun f : Fin (16 * 512) => F f)
  rw [Fintype.sum_prod_type] at h
  refine h.symm.trans ?_
  exact Finset.sum_congr rfl fun t _ => Finset.sum_congr rfl fun r _ => congrArg F (Fin.ext (Nat.add_comm _ _))

/-- A block of the tokens' gradient is the array's, once its inputs are. -/
theorem blkD_eq (H : Arr.Idx → EReal) (G : Chan.Idx → EReal) (Z : Arr.Idx → EReal) (N : Fin 8192 → Fin 1024 → EReal) (t : Fin 16)
    (z h : Blk.Idx → EReal) (g : Row.Idx → EReal) (dn : Fin 512 → Fin 1024 → EReal) (hz : ∀ r k, z (ix2 r k) = Z (ix2 (tok t r) k))
    (hh : ∀ r k, h (ix2 r k) = H (ix2 (tok t r) k)) (hg : ∀ k, g (ix2 0 k) = G (ix1 k)) (hn : ∀ r k, dn r k = N (tok t r) k) (r : Fin 512) (d : Fin 1024) :
    blkD z h g dn (ix2 r d) = tokArr H G Z N (ix2 (tok t r) d) := by
  show rmsBack (fun k => h (ix2 r k)) (fun k => g (ix2 0 k)) (fun k => z (ix2 r k)) (fun k => dn r k) d
    = rmsBack (fun k => H (ix2 (tok t r) k)) (fun k => G (ix1 k)) (fun k => Z (ix2 (tok t r) k)) (N (tok t r)) d
  simp only [hz, hh, hg, hn]

/-- A block's part of the gain's gradient is its 512 tokens' part. -/
theorem partG_eq (H : Arr.Idx → EReal) (N : Fin 8192 → Fin 1024 → EReal) (t : Fin 16) (h : Blk.Idx → EReal) (dn : Fin 512 → Fin 1024 → EReal)
    (hh : ∀ r k, h (ix2 r k) = H (ix2 (tok t r) k)) (hn : ∀ r k, dn r k = N (tok t r) k) (d : Fin 1024) :
    partG h dn (ix2 0 d) = ∑ r, N (tok t r) d * (H (ix2 (tok t r) d) * scale (fun k : Fin 1024 => H (ix2 (tok t r) k))) := by
  show ∑ r, dn r d * (h (ix2 r d) * scale (fun k => h (ix2 r k))) = _
  simp only [hh, hn]

end Cert.NormBack
-- ==== Proof.AoutBArr.lean ====
/-
  The backward pass of the short convolution's output product: the kernel's output array.
-/
module

public import proofs.«01_k».proof.Proof.AoutBRun
public import proofs.«01_k».proof.Proof.NormBack
public import Idealize.ShloMosaic.Lib.Pipeline.ValueKit
public import Idealize.ShloMosaic.Lib.Pointwise

@[expose] public section

set_option maxRecDepth 16384

noncomputable section

namespace Cert.AoutBVal

open Idealize.ShloMosaic Idealize.ShloMosaic.TcCoe Idealize.SL.Sem Cert.AoutBIdeal Cert.AoutBIdeal.Gen Cert.Cols Cert.NormBack

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

/-- THE GRADIENT of the product's input: the cotangent's row against the weights' row. -/
def grad (A : Vec Ideal S8192x1024 .f32) (W : Vec Ideal S1024x1024 .f32) : Vec Ideal S8192x1024 .f32 :=
  fun y => ∑ k : Fin 1024, A (ix2 (y 0) k) * W (ix2 (y 1) k)

/-- The cotangents. -/
abbrev aA : Vec Ideal S8192x1024 .f32 := m ((c : Thread nD τ).loc main_arg0)
/-- The weights. -/
abbrev aW : Vec Ideal S1024x1024 .f32 := m ((c : Thread nD τ).loc main_arg1)

theorem read0 (t : Fin cfg0.N) (r : Fin 512) (k : Fin 1024) : (iblk m c 0 t : Vec Ideal S512x1024 .bf16) (ix2 r k) = aA m c (ix2 (tok t r) k) := by
  have he : (win0_0.blk t).view.emb (ix2 r k : S512x1024.Idx) = (ix2 (tok t r) k : S8192x1024.Idx) := by blk_ext [idx t, tok]
  blk_simp [iblk]
  rw [he]
  entry_read
  pointwise

theorem readW (t : Fin cfg0.N) (p : Fin 4) (b : Fin 256) (k : Fin 1024) :
    (iblk m c 1 t : Vec Ideal S4x1x256x1024 .bf16) (ix4 p 0 b k) = aW m c (ix2 ⟨256 * p.val + b.val, by omega⟩ k) := by
  have he : (win0_1.blk t).view.emb (ix4 p 0 b k : S4x1x256x1024.Idx) = (ix4 p 0 b k : S4x1x256x1024.Idx) := by blk_ext [idx t]
  blk_simp [iblk]
  rw [he]
  entry_read
  pointwise
  exact congrArg (fun q => aW m c (ix2 q k)) (Fin.ext (by dsimp only; omega))

/-- THE OUTPUT ARRAY. -/
theorem arr : (dats m 0 c).arrAt 2 cfg0.N = grad (aA m c) (aW m c) := by
  refine (dats m 0 c).arrAt_eq_of_covers 2 _ (by decide +kernel) fun t hf y => ?_
  blk_simp
  rw [after0_2, out_eq]
  change S512x1024.Idx at y
  obtain ⟨r, d, rfl⟩ : ∃ (r : Fin 512) (d : Fin 1024), y = ix2 r d := ⟨y 0, y 1, eq_ix2 y⟩
  have he : (win0_2.blk t).view.emb (ix2 r d : S512x1024.Idx) = (ix2 (tok t r) d : S8192x1024.Idx) := by blk_ext [idx t, tok]
  rw [he]
  refine cols_eq _ _ (fun n => grad (aA m c) (aW m c) (ix2 (tok t r) n)) r (fun p b hn => ?_) d
  exact Finset.sum_congr rfl fun k _ => congrArg₂ (· * ·) (read0 m c t r k) (readW m c t p b k)

end Cert.AoutBVal
-- ==== Proof.AoutBClaims.lean ====
/-
  The backward pass of the short convolution's output product: the reference's result, and the claims.
-/
module

public import proofs.«01_k».proof.Defs
public import proofs.«01_k».proof.Proof.Gen.AoutB.Frame
public import proofs.«01_k».proof.Proof.Gen.AoutBRefIdeal.Run
public import proofs.«01_k».proof.Proof.AoutBArr
public import Idealize.ShloMosaic.Lib.Quiescent

@[expose] public section

set_option maxRecDepth 16384

noncomputable section

namespace Cert.AoutBClaims

open Idealize.ShloMosaic Idealize.ShloMosaic.TcCoe Idealize.SL.Sem Cert.Cols

section reference

open Cert.AoutBRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2)
      = AoutBVal.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  funext y
  change Cert.AoutBIdeal.S8192x1024.Idx at y
  obtain ⟨t, d, rfl⟩ : ∃ (t : Fin 8192) (d : Fin 1024), y = ix2 t d := ⟨y 0, y 1, eq_ix2 y⟩
  pointwise
  rfl

end reference

/-- The kernel as printed ends, its arguments unchanged and every counter at zero. -/
theorem ends : quiescent_AoutB (hAoutB := Cert.AoutB.Gen.facts) := fun m ρ _ => Cert.AoutB.Gen.frame m ρ

/-- So does its exact form. -/
theorem ideal_ends : quiescent_AoutBIdeal (hAoutBIdeal := Cert.AoutBIdeal.Gen.facts) := fun m ρ _ => Cert.AoutBIdeal.Gen.frame m ρ

/-- So does the reference. -/
theorem ref_ends : quiescent_AoutBRefIdeal (hAoutBRefIdeal := Cert.AoutBRefIdeal.Gen.facts) := fun m ρ _ =>
  (θ_run _ _ _).mono (fun r h => ⟨fun c => (h c).2, sem_eq_zero_of_no_sems (by decide) r.2⟩) (Cert.AoutBRefIdeal.Value.run m ρ)

/-- Both programs' result is the gradient of the product's input, as the same function of the arguments. -/
theorem equal : algebraic_AoutBIdeal_AoutBRefIdeal (hAoutBIdeal := Cert.AoutBIdeal.Gen.facts) (hAoutBRefIdeal := Cert.AoutBRefIdeal.Gen.facts) := by
  intro m ρ m' ρ' _ hag
  refine ⟨fun c => AoutBVal.grad (AoutBVal.aA m c) (AoutBVal.aW m c),
    (θ_run _ _ _).mono (fun _ h c => ⟨(h c).1.trans (AoutBVal.arr m c), (h c).2⟩) (Cert.AoutBIdeal.Value.run_blocks m ρ),
    (θ_run _ _ _).mono (fun _ h c => ⟨(h c).1.trans ?_, (h c).2⟩) (ref_run m' ρ')⟩
  rw [(hag c).1, (hag c).2]

end Cert.AoutBClaims
-- ==== Proof.ObRun.lean ====
/-
  The backward pass of the attention's output product, on one block of tokens.
-/
module

public import proofs.«01_k».proof.Proof.Cols
public import proofs.«01_k».proof.Proof.Gen.ObIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ObVal

open Idealize.ShloMosaic Idealize.ShloMosaic.TcCoe Idealize.SL.Sem Cert.ObIdeal Cert.ObIdeal.Gen

/-- The gradient at token `r` of the block, row `d` of the weights: the cotangent against the weights' row, device by device. -/
def bdo (x0 : Vec Ideal S512x1024 .bf16) (x1 : Vec Ideal S4x1x512x256 .bf16) (r d : Fin 512) : EReal :=
  ∑ k : Fin 256, x0 (ix2 r ⟨k.val, by omega⟩) * x1 (ix4 0 0 d k) + ∑ k : Fin 256, x0 (ix2 r ⟨256 + k.val, by omega⟩) * x1 (ix4 1 0 d k)
    + ∑ k : Fin 256, x0 (ix2 r ⟨512 + k.val, by omega⟩) * x1 (ix4 2 0 d k) + ∑ k : Fin 256, x0 (ix2 r ⟨768 + k.val, by omega⟩) * x1 (ix4 3 0 d k)

/-- The same as a block. -/
def blk (x0 : Vec Ideal S512x1024 .bf16) (x1 : Vec Ideal S4x1x512x256 .bf16) : Vec Ideal S512x512 .f32 := fun y => bdo x0 x1 (y 0) (y 1)

/-- The piece stored is the closed block. -/
theorem pcs_eq (c : Dev nD) (i : grid0.Coords) (arg1 : Memref sig .tc .vmem S512x1024 .bf16) (harg1 : arg1.IsWhole) (arg2 : Memref sig .tc .vmem S4x1x512x256 .bf16) (harg2 : arg2.IsWhole)
    (arg3 : Memref sig .tc .vmem S512x512 .f32) (harg3 : arg3.IsWhole) (arg4 : Memref sig .tc .vmem S512x512 .f32) (harg4 : arg4.IsWhole)
    (x0 : Vec Ideal S512x1024 .bf16) (x1 : Vec Ideal S4x1x512x256 .bf16) :
    ∀ p ∈ (kernelRun0_A c i arg1 harg1 arg2 harg2 arg3 harg3 arg4 harg4 x0 x1).1, ∀ x, p.2 x = blk x0 x1 (p.1.emb x) := by
  unfold kernelRun0_A
  dsimp only
  sl_unfold_words
  simp (disch := decide) only [View.readAt_eq_ld, harg1.read_unread, harg2.read_unread, View.readCov_skip, View.readCov_fill]
  rw [List.forall_mem_cons]
  refine ⟨?_, fun _ h => (List.not_mem_nil h).elim⟩
  intro x
  dsimp only
  change S512x512.Idx at x
  obtain ⟨r, d, rfl⟩ : ∃ (r d : Fin 512), x = ix2 r d := ⟨x 0, x 1, eq_ix2 x⟩
  refine Eq.trans ?_ (congrArg _ (Cert.Tiles.emb_whole _ _ _).symm)
  unfold_payloads
  pointwise
  rfl

variable (m : (ℓ : Loc nD τ sig) → Buf (Elt Ideal) ℓ)

/-- After every point the block holds the gradient. -/
theorem outs_eq (c : Dev nD) (t : Fin cfg0.N) : outsAt0 m c t = blk (iblk m c 0 t) (iblk m c 1 t) := by
  unfold outsAt0 out0_A_2
  funext y
  refine View.read_writes_apply_of_pieces VO0_2 _ _ _ ?_ y (cover0_A_2 ..)
  apply pcs_eq

end Cert.ObVal
-- ==== Proof.ObArr.lean ====
/-
  The backward pass of the attention's output product: the kernel's output array.
-/
module

public import proofs.«01_k».proof.Proof.ObRun
public import proofs.«01_k».proof.Proof.NormBack
public import proofs.«01_k».proof.Proof.Segs
public import Idealize.ShloMosaic.Lib.Pipeline.ValueKit
public import Idealize.ShloMosaic.Lib.Pointwise

@[expose] public section

set_option maxRecDepth 16384

noncomputable section

namespace Cert.ObVal

open Idealize.ShloMosaic Idealize.ShloMosaic.TcCoe Idealize.SL.Sem Cert.ObIdeal Cert.ObIdeal.Gen Cert.NormBack Cert.Segs

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] :=
  (by decide +kernel : ∀ t : Fin grid0.N, win0_0.index t = ![t.val, 0] ∧ win0_1.index t = ![0, 0, 0, 0] ∧ win0_2.index t = ![t.val, 0])

/-- THE GRADIENT of the product's input: the cotangent's row against the weights' row. -/
def grad (A : Vec Ideal S8192x1024 .f32) (W : Vec Ideal S512x1024 .f32) : Vec Ideal S8192x512 .f32 :=
  fun y => ∑ k : Fin 1024, A (ix2 (y 0) k) * W (ix2 (y 1) k)

/-- The cotangents. -/
abbrev aA : Vec Ideal S8192x1024 .f32 := m ((c : Thread nD τ).loc main_arg0)
/-- The weights. -/
abbrev aW : Vec Ideal S512x1024 .f32 := m ((c : Thread nD τ).loc main_arg1)

theorem read0 (t : Fin cfg0.N) (r : Fin 512) (k : Fin 1024) : (iblk m c 0 t : Vec Ideal S512x1024 .bf16) (ix2 r k) = aA m c (ix2 (tok t r) k) := by
  have he : (win0_0.blk t).view.emb (ix2 r k : S512x1024.Idx) = (ix2 (tok t r) k : S8192x1024.Idx) := by blk_ext [idx t, tok]
  blk_simp [iblk]
  rw [he]
  entry_read
  pointwise

theorem readW (t : Fin cfg0.N) (p : Fin 4) (d : Fin 512) (b : Fin 256) :
    (iblk m c 1 t : Vec Ideal S4x1x512x256 .bf16) (ix4 p 0 d b) = aW m c (ix2 d ⟨256 * p.val + b.val, by omega⟩) := by
  have he : (win0_1.blk t).view.emb (ix4 p 0 d b : S4x1x512x256.Idx) = (ix4 p 0 d b : S4x1x512x256.Idx) := by blk_ext [idx t]
  blk_simp [iblk]
  rw [he]
  entry_read
  pointwise
  exact congrArg (fun q => aW m c (ix2 d q)) (Fin.ext (by dsimp only; omega))

/-- The devices' parts of a row are the whole row's product. -/
theorem bdo_eq (t : Fin cfg0.N) (r d : Fin 512) : bdo (iblk m c 0 t) (iblk m c 1 t) r d = grad (aA m c) (aW m c) (ix2 (tok t r) d) := by
  unfold bdo
  simp only [read0, readW]
  let F : (n : ℕ) → n < 1024 → EReal := fun n hn => aA m c (ix2 (tok t r) ⟨n, hn⟩) * aW m c (ix2 d ⟨n, hn⟩)
  exact (part_step F 768 256 _ _ (part_step F 512 256 _ _ (part_step F 256 256 _ _ (part_first F 256 _
    (fun k => ⟨by omega, congrArg₂ (· * ·) rfl (congrArg (fun q => aW m c (ix2 d q)) (Fin.ext (by show 256 * 0 + k.val = k.val; omega)))⟩))
    (fun k => ⟨by omega, congrArg₂ (· * ·) rfl (congrArg (fun q => aW m c (ix2 d q)) (Fin.ext (by show 256 * 1 + k.val = 256 + k.val; omega)))⟩))
    (fun k => ⟨by omega, congrArg₂ (· * ·) rfl (congrArg (fun q => aW m c (ix2 d q)) (Fin.ext (by show 256 * 2 + k.val = 512 + k.val; omega)))⟩))
    (fun k => ⟨by omega, congrArg₂ (· * ·) rfl (congrArg (fun q => aW m c (ix2 d q)) (Fin.ext (by show 256 * 3 + k.val = 768 + k.val; omega)))⟩)).trans (part_all F)

/-- THE OUTPUT ARRAY. -/
theorem arr : (dats m 0 c).arrAt 2 cfg0.N = grad (aA m c) (aW m c) := by
  refine (dats m 0 c).arrAt_eq_of_covers 2 _ (by decide +kernel) fun t hf y => ?_
  blk_simp
  rw [after0_2, outs_eq]
  change S512x512.Idx at y
  obtain ⟨r, d, rfl⟩ : ∃ (r d : Fin 512), y = ix2 r d := ⟨y 0, y 1, eq_ix2 y⟩
  have he : (win0_2.blk t).view.emb (ix2 r d : S512x512.Idx) = (ix2 (tok t r) d : S8192x512.Idx) := by blk_ext [idx t, tok]
  rw [he]
  exact bdo_eq m c t r d

end Cert.ObVal
-- ==== Proof.ObClaims.lean ====
/-
  The backward pass of the attention's output product: the reference's result, and the claims.
-/
module

public import proofs.«01_k».proof.Defs
public import proofs.«01_k».proof.Proof.Gen.Ob.Frame
public import proofs.«01_k».proof.Proof.Gen.ObRefIdeal.Run
public import proofs.«01_k».proof.Proof.ObArr
public import Idealize.ShloMosaic.Lib.Quiescent

@[expose] public section

set_option maxRecDepth 16384

noncomputable section

namespace Cert.ObClaims

open Idealize.ShloMosaic Idealize.ShloMosaic.TcCoe Idealize.SL.Sem

section reference

open Cert.ObRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2)
      = ObVal.grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  funext y
  change Cert.ObIdeal.S8192x512.Idx at y
  obtain ⟨t, d, rfl⟩ : ∃ (t : Fin 8192) (d : Fin 512), y = ix2 t d := ⟨y 0, y 1, eq_ix2 y⟩
  pointwise
  rfl

end reference

/-- The kernel as printed ends, its arguments unchanged and every counter at zero. -/
theorem ends : quiescent_Ob (hOb := Cert.Ob.Gen.facts) := fun m ρ _ => Cert.Ob.Gen.frame m ρ

/-- So does its exact form. -/
theorem ideal_ends : quiescent_ObIdeal (hObIdeal := Cert.ObIdeal.Gen.facts) := fun m ρ _ => Cert.ObIdeal.Gen.frame m ρ

/-- So does the reference. -/
theorem ref_ends : quiescent_ObRefIdeal (hObRefIdeal := Cert.ObRefIdeal.Gen.facts) := fun m ρ _ =>
  (θ_run _ _ _).mono (fun r h => ⟨fun c => (h c).2, sem_eq_zero_of_no_sems (by decide) r.2⟩) (Cert.ObRefIdeal.Value.run m ρ)

/-- Both programs' result is the gradient of the product's input, as the same function of the arguments. -/
theorem equal : algebraic_ObIdeal_ObRefIdeal (hObIdeal := Cert.ObIdeal.Gen.facts) (hObRefIdeal := Cert.ObRefIdeal.Gen.facts) := by
  intro m ρ m' ρ' _ hag
  refine ⟨fun c => ObVal.grad (ObVal.aA m c) (ObVal.aW m c),
    (θ_run _ _ _).mono (fun _ h c => ⟨(h c).1.trans (ObVal.arr m c), (h c).2⟩) (Cert.ObIdeal.Value.run_blocks m ρ),
    (θ_run _ _ _).mono (fun _ h c => ⟨(h c).1.trans ?_, (h c).2⟩) (ref_run m' ρ')⟩
  rw [(hag c).1, (hag c).2]

end Cert.ObClaims
-- ==== Proof.AinBRun.lean ====
/-
  The backward pass of the convolution block's first product on one block of 512 tokens: the cotangent of the normalised tokens as the sum of its pieces, and
  what each point leaves in the three outputs' blocks.
-/
module

public import proofs.«01_k».proof.Proof.NormBack
public import proofs.«01_k».proof.Proof.Tiles
public import proofs.«01_k».proof.Proof.Gen.AinBIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AinBVal

open Idealize.ShloMosaic Idealize.ShloMosaic.TcCoe Idealize.SL.Sem Cert.AinBIdeal Cert.AinBIdeal.Gen Cert.MlpRow Cert.NormBack

/-- The cotangent of normalised token `r` of the block at channel `d`, piece by piece. -/
def bdn (x0 : Vec Ideal S1x512x1024 .bf16) (x1 : Vec Ideal S1x512x1024 .bf16) (x2 : Vec Ideal S1x512x1024 .bf16) (x3 : Vec Ideal S4x1x1024x768 .bf16) (r : Fin 512) (d : Fin 1024) : EReal :=
  ∑ k : Fin 768, x0 (ix3 0 r ⟨k.val, by omega⟩) * x3 (ix4 0 0 d ⟨k.val, by omega⟩)
    + ∑ k : Fin 256, x0 (ix3 0 r ⟨768 + k.val, by omega⟩) * x3 (ix4 1 0 d ⟨k.val, by omega⟩)
    + ∑ k : Fin 512, x1 (ix3 0 r ⟨k.val, by omega⟩) * x3 (ix4 1 0 d ⟨256 + k.val, by omega⟩)
    + ∑ k : Fin 512, x1 (ix3 0 r ⟨512 + k.val, by omega⟩) * x3 (ix4 2 0 d ⟨k.val, by omega⟩)
    + ∑ k : Fin 256, x2 (ix3 0 r ⟨k.val, by omega⟩) * x3 (ix4 2 0 d ⟨512 + k.val, by omega⟩)
    + ∑ k : Fin 768, x2 (ix3 0 r ⟨256 + k.val, by omega⟩) * x3 (ix4 3 0 d ⟨k.val, by omega⟩)

section pieces

variable (c : Dev nD) (i : grid0.Coords) (arg1 : Memref sig .tc .vmem S1x512x1024 .bf16) (harg1 : arg1.IsWhole) (arg2 : Memref sig .tc .vmem S1x512x1024 .bf16) (harg2 : arg2.IsWhole) (arg3 : Memref sig .tc .vmem S1x512x1024 .bf16) (harg3 : arg3.IsWhole) (arg4 : Memref sig .tc .vmem S4x1x1024x768 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S512x1024 .f32) (harg11 : arg11.IsWhole)
    (x0 : Vec Ideal S1x512x1024 .bf16) (x1 : Vec Ideal S1x512x1024 .bf16) (x2 : Vec Ideal S1x512x1024 .bf16) (x3 : Vec Ideal S4x1x1024x768 .bf16) (x4 : Vec Ideal S512x1024 .f32) (x5 : Vec Ideal S1x1024 .f32) (x6 : Vec Ideal S512x1024 .f32)

/-- The piece stored at the first point for the tokens' gradient is its closed block. -/
theorem dh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).1, ∀ x, p.2 x = blkD x6 x4 x5 (bdn x0 x1 x2 x3) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the tokens' gradient is its closed block. -/
theorem dh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo).1, ∀ x, p.2 x = blkD x6 x4 x5 (bdn x0 x1 x2 x3) (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg10.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the half-width copy is its closed block. -/
theorem dhh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.1, ∀ x, p.2 x = blkD x6 x4 x5 (bdn x0 x1 x2 x3) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the half-width copy is its closed block. -/
theorem dhh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo).2.1, ∀ x, p.2 x = blkD x6 x4 x5 (bdn x0 x1 x2 x3) (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg10.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the gain's gradient is its closed block. -/
theorem dg_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1, ∀ x, p.2 x = partG x4 (bdn x0 x1 x2 x3) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

/-- The piece stored at a later point for the gain's gradient is its closed block. -/
theorem dg_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 xo).2.2.1, ∀ x, p.2 x = accG x4 (bdn x0 x1 x2 x3) xo (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg10.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

end pieces

variable (m : (ℓ : Loc nD τ sig) → Buf (Elt Ideal) ℓ) (c : Dev nD)

theorem case_split (t : Fin cfg0.N) : (t.val % 16 = 0 ∧ ¬1 ≤ t.val) ∨ (¬t.val % 16 = 0 ∧ 1 ≤ t.val) := by
  have : t.val < 16 := t.isLt
  omega

/-- After every point the block holds the tokens' gradient. -/
theorem outs_dh (t : Fin cfg0.N) : (outsAt0 m c t.val t.isLt).1 = blkD (iblk m c 6 t) (iblk m c 4 t) (iblk m c 5 t) (bdn (iblk m c 0 t) (iblk m c 1 t) (iblk m c 2 t) (iblk m c 3 t)) := by
  rcases case_split t with ⟨h0, h1⟩ | ⟨h0, h1⟩
  · rw [outsAt0_A m c t h0 h1]
    dsimp only
    unfold out0_A_7
    funext y
    refine View.read_writes_apply_of_pieces VO0_7 _ _ _ ?_ y (cover0_A_7 ..)
    apply dh_A
  · rw [outsAt0_B m c t h0 h1]
    dsimp only
    unfold out0_B_7
    funext y
    refine View.read_writes_apply_of_pieces VO0_7 _ _ _ ?_ y (cover0_B_7 ..)
    apply dh_B

/-- The half-width copy too. -/
theorem outs_dhh (t : Fin cfg0.N) : (outsAt0 m c t.val t.isLt).2.1 = blkD (iblk m c 6 t) (iblk m c 4 t) (iblk m c 5 t) (bdn (iblk m c 0 t) (iblk m c 1 t) (iblk m c 2 t) (iblk m c 3 t)) := by
  rcases case_split t with ⟨h0, h1⟩ | ⟨h0, h1⟩
  · rw [outsAt0_A m c t h0 h1]
    dsimp only
    unfold out0_A_8
    funext y
    refine View.read_writes_apply_of_pieces VO0_8 _ _ _ ?_ y (cover0_A_8 ..)
    apply dhh_A
  · rw [outsAt0_B m c t h0 h1]
    dsimp only
    unfold out0_B_8
    funext y
    refine View.read_writes_apply_of_pieces VO0_8 _ _ _ ?_ y (cover0_B_8 ..)
    apply dhh_B

/-- The first point sets the gain's gradient. -/
theorem outs_dg_first (t : Fin cfg0.N) (h0 : t.val % 16 = 0) (y : S1x1024.Idx) : (outsAt0 m c t.val t.isLt).2.2 y = 0 + partG (iblk m c 4 t) (bdn (iblk m c 0 t) (iblk m c 1 t) (iblk m c 2 t) (iblk m c 3 t)) y := by
  rw [zero_add]
  have h1 : ¬1 ≤ t.val := by rcases case_split t with h | h <;> omega
  rw [outsAt0_A m c t h0 h1]
  dsimp only
  unfold out0_A_9
  refine View.read_writes_apply_of_pieces VO0_9 _ _ _ ?_ y (cover0_A_9 ..)
  apply dg_A

/-- Every later point adds its part. -/
theorem outs_dg_step (t : Fin cfg0.N) (h0 : ¬t.val % 16 = 0) (y : S1x1024.Idx) :
    (outsAt0 m c t.val t.isLt).2.2 y = (outsAt0 m c (t.val - 1) (Nat.lt_of_le_of_lt (Nat.sub_le _ _) t.isLt)).2.2 y + partG (iblk m c 4 t) (bdn (iblk m c 0 t) (iblk m c 1 t) (iblk m c 2 t) (iblk m c 3 t)) y := by
  have h1 : 1 ≤ t.val := by rcases case_split t with h | h <;> omega
  rw [outsAt0_B m c t h0 h1]
  dsimp only
  unfold out0_B_9
  refine (View.read_writes_apply_of_pieces VO0_9 _ _ _ ?_ y (cover0_B_9 ..)).trans (rfl : accG (iblk m c 4 t) (bdn (iblk m c 0 t) (iblk m c 1 t) (iblk m c 2 t) (iblk m c 3 t)) _ y = _)
  apply dg_B

/-- After the last point it holds the sum of all points' parts. -/
theorem outs_dg (t : Fin cfg0.N) (ht : t.val % 16 = 15) (y : S1x1024.Idx) :
    (outsAt0 m c t.val t.isLt).2.2 y = ∑ t : Fin cfg0.N, partG (iblk m c 4 t) (bdn (iblk m c 0 t) (iblk m c 1 t) (iblk m c 2 t) (iblk m c 3 t)) y := by
  refine (Pipeline.eq_sum_fin_of_reset_step_apply_last (fun n hn y => (outsAt0 m c n hn).2.2 y) 16 (fun _ => 0)
    (fun t y => partG (iblk m c 4 t) (bdn (iblk m c 0 t) (iblk m c 1 t) (iblk m c 2 t) (iblk m c 3 t)) y) (fun t h y => outs_dg_first m c t h y) (fun t h y => outs_dg_step m c t h y) (le_of_eq (by decide +kernel)) t ?_ y).trans (zero_add _)
  have h : t.val < 16 := t.isLt
  have hN : cfg0.N = 16 := by decide +kernel
  omega

end Cert.AinBVal
-- ==== Proof.AinBArr.lean ====
/-
  The backward pass of the convolution block's first product: the kernel's three output arrays.
-/
module

public import proofs.«01_k».proof.Proof.AinBRun
public import proofs.«01_k».proof.Proof.Segs
public import Idealize.ShloMosaic.Lib.Pipeline.ValueKit
public import Idealize.ShloMosaic.Lib.Pointwise

@[expose] public section

set_option maxRecDepth 16384

noncomputable section

namespace Cert.AinBVal

open Idealize.ShloMosaic Idealize.ShloMosaic.TcCoe Idealize.SL.Sem Cert.AinBIdeal Cert.AinBIdeal.Gen Cert.MlpRow Cert.NormBack Cert.Segs

variable (m : (ℓ : Loc nD τ sig) → Buf (Elt Ideal) ℓ) (c : Dev nD)

/-- The windows' index maps. -/
theorem idx : ∀ t : Fin cfg0.N, win0_0.index t = ![0, t.val, 0] ∧ win0_1.index t = ![1, t.val, 0] ∧ win0_2.index t = ![2, t.val, 0] ∧ win0_3.index t = ![0, 0, 0, 0] ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, win0_0.index t = ![0, t.val, 0] ∧ win0_1.index t = ![1, t.val, 0] ∧ win0_2.index t = ![2, t.val, 0] ∧ win0_3.index t = ![0, 0, 0, 0] ∧ win0_4.index t = ![t.val, 0] ∧ win0_5.index t = ![0, 0] ∧ win0_6.index t = ![t.val, 0] ∧ win0_7.index t = ![t.val, 0] ∧ win0_8.index t = ![t.val, 0] ∧ win0_9.index t = ![0, 0])

/-- Token `t`'s row of the cotangent, by its three planes. -/
def cot (A : Vec Ideal S3x8192x1024 .bf16) (t : Fin 8192) (j : Fin 3) (k : Fin 1024) : EReal := A (ix3 j t k)

/-- The cotangent of normalised token `t` at channel `d`: the cotangent's row against the weights' row. -/
def normBack (A : Vec Ideal S3x8192x1024 .bf16) (W : Vec Ideal S1024x3072 .f32) (t : Fin 8192) (d : Fin 1024) : EReal :=
  ∑ n : Fin 3072, pick (cot A t) n.val (by have := n.isLt; omega) * W (ix2 d n)

/-- The cotangent of the product. -/
abbrev aA : Vec Ideal S3x8192x1024 .bf16 := m ((c : Thread nD τ).loc main_arg0)
/-- The weights. -/
abbrev aW : Vec Ideal S1024x3072 .f32 := m ((c : Thread nD τ).loc main_arg1)
/-- The tokens. -/
abbrev aH : Vec Ideal S8192x1024 .f32 := m ((c : Thread nD τ).loc main_arg2)
/-- The gain. -/
abbrev aG : Vec Ideal S1024 .f32 := m ((c : Thread nD τ).loc main_arg3)
/-- The incoming cotangent of the tokens. -/
abbrev aZ : Vec Ideal S8192x1024 .f32 := m ((c : Thread nD τ).loc main_arg4)

theorem read0 (t : Fin cfg0.N) (r : Fin 512) (k : Fin 1024) : (iblk m c 0 t : Vec Ideal S1x512x1024 .bf16) (ix3 0 r k) = cot (aA m c) (tok t r) 0 k := by
  blk_ext [iblk, V, idx t, tok]

theorem read1 (t : Fin cfg0.N) (r : Fin 512) (k : Fin 1024) : (iblk m c 1 t : Vec Ideal S1x512x1024 .bf16) (ix3 0 r k) = cot (aA m c) (tok t r) 1 k := by
  blk_ext [iblk, V, idx t, tok]

theorem read2 (t : Fin cfg0.N) (r : Fin 512) (k : Fin 1024) : (iblk m c 2 t : Vec Ideal S1x512x1024 .bf16) (ix3 0 r k) = cot (aA m c) (tok t r) 2 k := by
  blk_ext [iblk, V, idx t, tok]

theorem readW (t : Fin cfg0.N) (ch : Fin 4) (d : Fin 1024) (b : Fin 768) :
    (iblk m c 3 t : Vec Ideal S4x1x1024x768 .bf16) (ix4 ch 0 d b) = aW m c (ix2 d ⟨768 * ch.val + b.val, by omega⟩) := by
  have he : (win0_3.blk t).view.emb (ix4 ch 0 d b : S4x1x1024x768.Idx) = (ix4 ch 0 d b : S4x1x1024x768.Idx) := by blk_ext [idx t]
  blk_simp [iblk]
  rw [he]
  entry_read
  pointwise
  exact congrArg (fun q => aW m c (ix2 d q)) (Fin.ext (by dsimp only; omega))

theorem readH (t : Fin cfg0.N) (r : Fin 512) (k : Fin 1024) : (iblk m c 4 t : Vec Ideal S512x1024 .f32) (ix2 r k) = aH m c (ix2 (tok t r) k) := by
  blk_ext [iblk, V, idx t, tok]

theorem readG (t : Fin cfg0.N) (k : Fin 1024) : (iblk m c 5 t : Vec Ideal S1x1024 .f32) (ix2 0 k) = aG m c (ix1 k) := by
  have he : (win0_5.blk t).view.emb (ix2 0 k : S1x1024.Idx) = (ix2 0 k : S1x1024.Idx) := by blk_ext [idx t]
  blk_simp [iblk]
  rw [he]
  entry_read
  pointwise

theorem readZ (t : Fin cfg0.N) (r : Fin 512) (k : Fin 1024) : (iblk m c 6 t : Vec Ideal S512x1024 .f32) (ix2 r k) = aZ m c (ix2 (tok t r) k) := by
  blk_ext [iblk, V, idx t, tok]

/-- The pieces of a block's cotangent are the whole row's product. -/
theorem bdn_eq (t : Fin cfg0.N) (r : Fin 512) (d : Fin 1024) :
    bdn (iblk m c 0 t) (iblk m c 1 t) (iblk m c 2 t) (iblk m c 3 t) r d = normBack (aA m c) (aW m c) (tok t r) d := by
  unfold bdn
  simp only [read0, read1, read2, readW]
  let F : (n : ℕ) → n < 3072 → EReal := fun n hn => pick (cot (aA m c) (tok t r)) n (by omega) * aW m c (ix2 d ⟨n, hn⟩)
  exact (part_step F 2304 768 _ _ (part_step F 2048 256 _ _ (part_step F 1536 512 _ _ (part_step F 1024 512 _ _ (part_step F 768 256 _ _ (part_first F 768 _ (fun k => ⟨by omega, congrArg₂ (· * ·) ((pick_eq (cot (aA m c) (tok t r)) _ _ 0 ⟨k.val, by omega⟩ (by show k.val = 1024 * 0 + k.val; omega)).symm) (congrArg (fun q => aW m c (ix2 d q)) (Fin.ext (by show 768 * 0 + k.val = k.val; omega)))⟩))
    (fun k => ⟨by omega, congrArg₂ (· * ·) ((pick_eq (cot (aA m c) (tok t r)) _ _ 0 ⟨768 + k.val, by omega⟩ (by show 768 + k.val = 1024 * 0 + (768 + k.val); omega)).symm) (congrArg (fun q => aW m c (ix2 d q)) (Fin.ext (by show 768 * 1 + k.val = 768 + k.val; omega)))⟩))
    (fun k => ⟨by omega, congrArg₂ (· * ·) ((pick_eq (cot (aA m c) (tok t r)) _ _ 1 ⟨k.val, by omega⟩ (by show 1024 + k.val = 1024 * 1 + k.val; omega)).symm) (congrArg (fun q => aW m c (ix2 d q)) (Fin.ext (by show 768 * 1 + (256 + k.val) = 1024 + k.val; omega)))⟩))
    (fun k => ⟨by omega, congrArg₂ (· * ·) ((pick_eq (cot (aA m c) (tok t r)) _ _ 1 ⟨512 + k.val, by omega⟩ (by show 1536 + k.val = 1024 * 1 + (512 + k.val); omega)).symm) (congrArg (fun q => aW m c (ix2 d q)) (Fin.ext (by show 768 * 2 + k.val = 1536 + k.val; omega)))⟩))
    (fun k => ⟨by omega, congrArg₂ (· * ·) ((pick_eq (cot (aA m c) (tok t r)) _ _ 2 ⟨k.val, by omega⟩ (by show 2048 + k.val = 1024 * 2 + k.val; omega)).symm) (congrArg (fun q => aW m c (ix2 d q)) (Fin.ext (by show 768 * 2 + (512 + k.val) = 2048 + k.val; omega)))⟩))
    (fun k => ⟨by omega, congrArg₂ (· * ·) ((pick_eq (cot (aA m c) (tok t r)) _ _ 2 ⟨256 + k.val, by omega⟩ (by show 2304 + k.val = 1024 * 2 + (256 + k.val); omega)).symm) (congrArg (fun q => aW m c (ix2 d q)) (Fin.ext (by show 768 * 3 + k.val = 2304 + k.val; omega)))⟩)).trans (part_all F)

/-- THE TOKENS' GRADIENT. -/
theorem arr_dh : (dats m 0 c).arrAt 7 cfg0.N = tokArr (aH m c) (aG m c) (aZ m c) (normBack (aA m c) (aW m c)) := by
  refine (dats m 0 c).arrAt_eq_of_covers 7 _ (by decide +kernel) fun t hf y => ?_
  blk_simp
  rw [after0_7, outs_dh]
  change S512x1024.Idx at y
  obtain ⟨r, d, rfl⟩ : ∃ (r : Fin 512) (d : Fin 1024), y = ix2 r d := ⟨y 0, y 1, eq_ix2 y⟩
  have he : (win0_7.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- The same at half width. -/
theorem arr_dhh : (dats m 0 c).arrAt 8 cfg0.N = tokArr (aH m c) (aG m c) (aZ m c) (normBack (aA m c) (aW m c)) := by
  refine (dats m 0 c).arrAt_eq_of_covers 8 _ (by decide +kernel) fun t hf y => ?_
  blk_simp
  rw [after0_8, outs_dhh]
  change S512x1024.Idx at y
  obtain ⟨r, d, rfl⟩ : ∃ (r : Fin 512) (d : Fin 1024), y = ix2 r d := ⟨y 0, y 1, eq_ix2 y⟩
  have he : (win0_8.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- THE GAIN'S GRADIENT. -/
theorem arr_dg : (dats m 0 c).arrAt 9 cfg0.N = gainArr (aH m c) (normBack (aA m c) (aW m c)) := by
  refine (dats m 0 c).arrAt_eq_of_covers 9 _ (by decide +kernel) fun t hf y => ?_
  blk_simp
  rw [after0_9]
  change S1x1024.Idx at y
  obtain ⟨q, d, rfl⟩ : ∃ (q : Fin 1) (d : Fin 1024), y = ix2 q d := ⟨y 0, y 1, eq_ix2 y⟩
  obtain rfl : q = 0 := Subsingleton.elim _ _
  rw [outs_dg m c t ((flush0_9 t).mp hf)]
  have he : (win0_9.blk t).view.emb (ix2 0 d : S1x1024.Idx) = (ix2 0 d : S1x1024.Idx) := by blk_ext [idx t]
  rw [he]
  show _ = gainBack (aH m c) (normBack (aA m c) (aW m c)) d
  unfold gainBack
  rw [sum_tok]
  exact Finset.sum_congr rfl fun t _ => partG_eq _ _ t _ _ (readH m c t) (bdn_eq m c t) d

end Cert.AinBVal
-- ==== Proof.AinBClaims.lean ====
/-
  The claims about the backward pass of the convolution block's first product.
-/
module

public import proofs.«01_k».proof.Defs
public import proofs.«01_k».proof.Proof.Gen.AinB.Frame
public import proofs.«01_k».proof.Proof.AinBArr
public import proofs.«01_k».proof.Proof.Gen.AinBRefIdeal.Run
public import Idealize.ShloMosaic.Lib.Quiescent
public import Idealize.ShloMosaic.Lib.Claim

@[expose] public section

set_option maxRecDepth 16384

noncomputable section

namespace Cert.AinBClaims

open Idealize.ShloMosaic Idealize.ShloMosaic.TcCoe Idealize.SL.Sem Cert.MlpRow Cert.NormBack Cert.Segs

section reference

open Cert.AinBRefIdeal Cert.AinBRefIdeal.Gen

variable (m : (ℓ : Loc nD τ sig) → Buf (Elt Ideal) ℓ)

/-- Three arrays side by side are the row by planes. -/
theorem cot_cat (c : Dev nD) (t : Fin 8192) (n : Fin 3072) :
    (if h : n.val < 1024 then m ((c.tc : Thread nD τ).loc main_arg0) (ix3 0 t ⟨n.val, h⟩) else if h' : n.val - 1024 < 1024 then m ((c.tc : Thread nD τ).loc main_arg0) (ix3 1 t ⟨n.val - 1024, h'⟩)
      else m ((c.tc : Thread nD τ).loc main_arg0) (ix3 2 t ⟨n.val - 1024 - 1024, by omega⟩)) = pick (AinBVal.cot (m ((c.tc : Thread nD τ).loc main_arg0)) t) n.val (by omega) := by
  have e := pick_eq (AinBVal.cot (m ((c.tc : Thread nD τ).loc main_arg0)) t) n.val (by omega)
  by_cases h : n.val < 1024
  · rw [dif_pos h]
    exact (e 0 ⟨n.val, h⟩ (by show n.val = 1024 * 0 + n.val; omega)).symm
  · rw [dif_neg h]
    by_cases h' : n.val - 1024 < 1024
    · rw [dif_pos h']
      exact (e 1 ⟨n.val - 1024, h'⟩ (by show n.val = 1024 * 1 + (n.val - 1024); omega)).symm
    · rw [dif_neg h']
      exact (e 2 ⟨n.val - 1024 - 1024, by omega⟩ (by show n.val = 1024 * 2 + (n.val - 1024 - 1024); omega)).symm

/-- The reference's gradient of the tokens. -/
theorem ref_dh (c : Dev nD) : Value.res_main_v53 m c = tokArr (m ((c.tc : Thread nD τ).loc main_arg2)) (m ((c.tc : Thread nD τ).loc main_arg3)) (m ((c.tc : Thread nD τ).loc main_arg4)) (AinBVal.normBack (m ((c.tc : Thread nD τ).loc main_arg0)) (m ((c.tc : Thread nD τ).loc main_arg1))) := by
  funext y
  change Cert.AinBIdeal.S8192x1024.Idx at y
  obtain ⟨t, d, rfl⟩ : ∃ (t : Fin 8192) (d : Fin 1024), y = ix2 t d := ⟨y 0, y 1, eq_ix2 y⟩
  unfold Value.res_main_v53
  pointwise
  simp only [Finset.univ_unique, Finset.sum_singleton, cot_cat m c]
  exact rmsBack_chain (fun k => (m ((c.tc : Thread nD τ).loc main_arg2)) (ix2 t k)) (fun k => (m ((c.tc : Thread nD τ).loc main_arg3)) (ix1 k)) (fun k => (m ((c.tc : Thread nD τ).loc main_arg4)) (ix2 t k)) ((AinBVal.normBack (m ((c.tc : Thread nD τ).loc main_arg0)) (m ((c.tc : Thread nD τ).loc main_arg1))) t) d

/-- The same at half width. -/
theorem ref_dhh (c : Dev nD) : Value.res_main_v54 m c = tokArr (m ((c.tc : Thread nD τ).loc main_arg2)) (m ((c.tc : Thread nD τ).loc main_arg3)) (m ((c.tc : Thread nD τ).loc main_arg4)) (AinBVal.normBack (m ((c.tc : Thread nD τ).loc main_arg0)) (m ((c.tc : Thread nD τ).loc main_arg1))) := by
  funext y
  change Cert.AinBIdeal.S8192x1024.Idx at y
  obtain ⟨t, d, rfl⟩ : ∃ (t : Fin 8192) (d : Fin 1024), y = ix2 t d := ⟨y 0, y 1, eq_ix2 y⟩
  unfold Value.res_main_v54
  pointwise
  simp only [Finset.univ_unique, Finset.sum_singleton, cot_cat m c]
  exact rmsBack_chain (fun k => (m ((c.tc : Thread nD τ).loc main_arg2)) (ix2 t k)) (fun k => (m ((c.tc : Thread nD τ).loc main_arg3)) (ix1 k)) (fun k => (m ((c.tc : Thread nD τ).loc main_arg4)) (ix2 t k)) ((AinBVal.normBack (m ((c.tc : Thread nD τ).loc main_arg0)) (m ((c.tc : Thread nD τ).loc main_arg1))) t) d

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v53) = tokArr (m ((c.tc : Thread nD τ).loc main_arg2)) (m ((c.tc : Thread nD τ).loc main_arg3)) (m ((c.tc : Thread nD τ).loc main_arg4)) (AinBVal.normBack (m ((c.tc : Thread nD τ).loc main_arg0)) (m ((c.tc : Thread nD τ).loc main_arg1)))
    ∧ r.2.mem ((c.tc : Thread nD τ).loc main_v54) = tokArr (m ((c.tc : Thread nD τ).loc main_arg2)) (m ((c.tc : Thread nD τ).loc main_arg3)) (m ((c.tc : Thread nD τ).loc main_arg4)) (AinBVal.normBack (m ((c.tc : Thread nD τ).loc main_arg0)) (m ((c.tc : Thread nD τ).loc main_arg1)))
    ∧ r.2.mem ((c.tc : Thread nD τ).loc main_v55) = gainArr (m ((c.tc : Thread nD τ).loc main_arg2)) (AinBVal.normBack (m ((c.tc : Thread nD τ).loc main_arg0)) (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans (ref_dh m c), (h c).2.1.trans (ref_dhh m c), (h c).2.2.1.trans ?_, (h c).2.2.2⟩) (Value.run m ρ)
  funext y
  change Cert.AinBIdeal.S1x1024.Idx at y
  obtain ⟨q, d, rfl⟩ : ∃ (q : Fin 1) (d : Fin 1024), y = ix2 q d := ⟨y 0, y 1, eq_ix2 y⟩
  pointwise
  simp only [Finset.univ_unique, Finset.sum_singleton, cot_cat m c]
  exact Finset.sum_congr rfl fun t _ => mul_comm _ _

end reference

/-- The kernel as printed ends, its arguments unchanged and every counter at zero. -/
theorem ends : quiescent_AinB (hAinB := Cert.AinB.Gen.facts) := fun m ρ _ => Cert.AinB.Gen.frame m ρ

/-- So does its exact form. -/
theorem ideal_ends : quiescent_AinBIdeal (hAinBIdeal := Cert.AinBIdeal.Gen.facts) := fun m ρ _ => Cert.AinBIdeal.Gen.frame m ρ

/-- So does the reference. -/
theorem ref_ends : quiescent_AinBRefIdeal (hAinBRefIdeal := Cert.AinBRefIdeal.Gen.facts) := fun m ρ _ =>
  (θ_run _ _ _).mono (fun r h => ⟨fun c => (h c).2.2.2, sem_eq_zero_of_no_sems (by decide) r.2⟩) (Cert.AinBRefIdeal.Value.run m ρ)

/-- Both programs' results are the tokens' gradient at both widths and the gain's gradient, as the same functions of the
    arguments. -/
theorem equal : algebraic_AinBIdeal_AinBRefIdeal (hAinBIdeal := Cert.AinBIdeal.Gen.facts) (hAinBRefIdeal := Cert.AinBRefIdeal.Gen.facts) := by
  intro m ρ m' ρ' _ hag
  refine ⟨fun c => tokArr (AinBVal.aH m c) (AinBVal.aG m c) (AinBVal.aZ m c) (AinBVal.normBack (AinBVal.aA m c) (AinBVal.aW m c)),
    fun c => tokArr (AinBVal.aH m c) (AinBVal.aG m c) (AinBVal.aZ m c) (AinBVal.normBack (AinBVal.aA m c) (AinBVal.aW m c)),
    fun c => gainArr (AinBVal.aH m c) (AinBVal.normBack (AinBVal.aA m c) (AinBVal.aW m c)),
    (θ_run _ _ _).mono (fun _ h c => ⟨(h c).1.trans (AinBVal.arr_dh m c), (h c).2.1.trans (AinBVal.arr_dhh m c),
      (h c).2.2.1.trans (AinBVal.arr_dg m c), (h c).2.2.2⟩) (Cert.AinBIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1, (hag c).2.2.1, (hag c).2.2.2.1, (hag c).2.2.2.2]
  · rw [(hag c).1, (hag c).2.1, (hag c).2.2.1, (hag c).2.2.2.1, (hag c).2.2.2.2]
  · rw [(hag c).1, (hag c).2.1, (hag c).2.2.1]

end Cert.AinBClaims
-- ==== Proof.QbRun.lean ====
/-
  The backward pass of the queries' product on one block of 512 tokens: the cotangent of the normalised tokens as the sum of its pieces, and
  what each point leaves in the three outputs' blocks.
-/
module

public import proofs.«01_k».proof.Proof.NormBack
public import proofs.«01_k».proof.Proof.Tiles
public import proofs.«01_k».proof.Proof.Gen.QbIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QbVal

open Idealize.ShloMosaic Idealize.ShloMosaic.TcCoe Idealize.SL.Sem Cert.QbIdeal Cert.QbIdeal.Gen Cert.MlpRow Cert.NormBack

/-- The cotangent of normalised token `r` of the block at channel `d`, piece by piece. -/
def bdn (x0 : Vec Ideal S512x1536 .f32) (x1 : Vec Ideal S4x1x1024x384 .bf16) (r : Fin 512) (d : Fin 1024) : EReal :=
  ∑ k : Fin 384, x0 (ix2 r ⟨k.val, by omega⟩) * x1 (ix4 0 0 d ⟨k.val, by omega⟩)
    + ∑ k : Fin 384, x0 (ix2 r ⟨384 + k.val, by omega⟩) * x1 (ix4 1 0 d ⟨k.val, by omega⟩)
    + ∑ k : Fin 384, x0 (ix2 r ⟨768 + k.val, by omega⟩) * x1 (ix4 2 0 d ⟨k.val, by omega⟩)
    + ∑ k : Fin 384, x0 (ix2 r ⟨1152 + k.val, by omega⟩) * x1 (ix4 3 0 d ⟨k.val, by omega⟩)

section pieces

variable (c : Dev nD) (i : grid0.Coords) (arg1 : Memref sig .tc .vmem S512x1536 .f32) (harg1 : arg1.IsWhole) (arg2 : Memref sig .tc .vmem S4x1x1024x384 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S512x1024 .f32) (harg9 : arg9.IsWhole)
    (x0 : Vec Ideal S512x1536 .f32) (x1 : Vec Ideal S4x1x1024x384 .bf16) (x2 : Vec Ideal S512x1024 .f32) (x3 : Vec Ideal S1x1024 .f32) (x4 : Vec Ideal S512x1024 .f32)

/-- The piece stored at the first point for the tokens' gradient is its closed block. -/
theorem dh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 hc0 hc1 x0 x1 x2 x3 x4).1, ∀ x, p.2 x = blkD x4 x2 x3 (bdn x0 x1) (p.1.emb x) := by
  unfold kernelRun0_A
  dsimp only
  sl_unfold_words
  simp (disch := decide) only [View.readAt_eq_ld, harg1.read_unread, harg2.read_unread, harg3.read_unread, harg4.read_unread, harg5.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the tokens' gradient is its closed block. -/
theorem dh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 hc0 hc1 x0 x1 x2 x3 x4 xo).1, ∀ x, p.2 x = blkD x4 x2 x3 (bdn x0 x1) (p.1.emb x) := by
  unfold kernelRun0_B
  dsimp only
  sl_unfold_words
  simp (disch := decide) only [View.readAt_eq_ld, harg1.read_unread, harg2.read_unread, harg3.read_unread, harg4.read_unread, harg5.read_unread, harg8.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the half-width copy is its closed block. -/
theorem dhh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 hc0 hc1 x0 x1 x2 x3 x4).2.1, ∀ x, p.2 x = blkD x4 x2 x3 (bdn x0 x1) (p.1.emb x) := by
  unfold kernelRun0_A
  dsimp only
  sl_unfold_words
  simp (disch := decide) only [View.readAt_eq_ld, harg1.read_unread, harg2.read_unread, harg3.read_unread, harg4.read_unread, harg5.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the half-width copy is its closed block. -/
theorem dhh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 hc0 hc1 x0 x1 x2 x3 x4 xo).2.1, ∀ x, p.2 x = blkD x4 x2 x3 (bdn x0 x1) (p.1.emb x) := by
  unfold kernelRun0_B
  dsimp only
  sl_unfold_words
  simp (disch := decide) only [View.readAt_eq_ld, harg1.read_unread, harg2.read_unread, harg3.read_unread, harg4.read_unread, harg5.read_unread, harg8.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the gain's gradient is its closed block. -/
theorem dg_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 hc0 hc1 x0 x1 x2 x3 x4).2.2.1, ∀ x, p.2 x = partG x2 (bdn x0 x1) (p.1.emb x) := by
  unfold kernelRun0_A
  dsimp only
  sl_unfold_words
  simp (disch := decide) only [View.readAt_eq_ld, harg1.read_unread, harg2.read_unread, harg3.read_unread, harg4.read_unread, harg5.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

/-- The piece stored at a later point for the gain's gradient is its closed block. -/
theorem dg_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 hc0 hc1 x0 x1 x2 x3 x4 xo).2.2.1, ∀ x, p.2 x = accG x2 (bdn x0 x1) xo (p.1.emb x) := by
  unfold kernelRun0_B
  dsimp only
  sl_unfold_words
  simp (disch := decide) only [View.readAt_eq_ld, harg1.read_unread, harg2.read_unread, harg3.read_unread, harg4.read_unread, harg5.read_unread, harg8.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

end pieces

variable (m : (ℓ : Loc nD τ sig) → Buf (Elt Ideal) ℓ) (c : Dev nD)

theorem case_split (t : Fin cfg0.N) : (t.val % 16 = 0 ∧ ¬1 ≤ t.val) ∨ (¬t.val % 16 = 0 ∧ 1 ≤ t.val) := by
  have : t.val < 16 := t.isLt
  omega

/-- After every point the block holds the tokens' gradient. -/
theorem outs_dh (t : Fin cfg0.N) : (outsAt0 m c t.val t.isLt).1 = blkD (iblk m c 4 t) (iblk m c 2 t) (iblk m c 3 t) (bdn (iblk m c 0 t) (iblk m c 1 t)) := by
  rcases case_split t with ⟨h0, h1⟩ | ⟨h0, h1⟩
  · rw [outsAt0_A m c t h0 h1]
    dsimp only
    unfold out0_A_5
    funext y
    refine View.read_writes_apply_of_pieces VO0_5 _ _ _ ?_ y (cover0_A_5 ..)
    apply dh_A
  · rw [outsAt0_B m c t h0 h1]
    dsimp only
    unfold out0_B_5
    funext y
    refine View.read_writes_apply_of_pieces VO0_5 _ _ _ ?_ y (cover0_B_5 ..)
    apply dh_B

/-- The half-width copy too. -/
theorem outs_dhh (t : Fin cfg0.N) : (outsAt0 m c t.val t.isLt).2.1 = blkD (iblk m c 4 t) (iblk m c 2 t) (iblk m c 3 t) (bdn (iblk m c 0 t) (iblk m c 1 t)) := by
  rcases case_split t with ⟨h0, h1⟩ | ⟨h0, h1⟩
  · rw [outsAt0_A m c t h0 h1]
    dsimp only
    unfold out0_A_6
    funext y
    refine View.read_writes_apply_of_pieces VO0_6 _ _ _ ?_ y (cover0_A_6 ..)
    apply dhh_A
  · rw [outsAt0_B m c t h0 h1]
    dsimp only
    unfold out0_B_6
    funext y
    refine View.read_writes_apply_of_pieces VO0_6 _ _ _ ?_ y (cover0_B_6 ..)
    apply dhh_B

/-- The first point sets the gain's gradient. -/
theorem outs_dg_first (t : Fin cfg0.N) (h0 : t.val % 16 = 0) (y : S1x1024.Idx) : (outsAt0 m c t.val t.isLt).2.2 y = 0 + partG (iblk m c 2 t) (bdn (iblk m c 0 t) (iblk m c 1 t)) y := by
  rw [zero_add]
  have h1 : ¬1 ≤ t.val := by rcases case_split t with h | h <;> omega
  rw [outsAt0_A m c t h0 h1]
  dsimp only
  unfold out0_A_7
  refine View.read_writes_apply_of_pieces VO0_7 _ _ _ ?_ y (cover0_A_7 ..)
  apply dg_A

/-- Every later point adds its part. -/
theorem outs_dg_step (t : Fin cfg0.N) (h0 : ¬t.val % 16 = 0) (y : S1x1024.Idx) :
    (outsAt0 m c t.val t.isLt).2.2 y = (outsAt0 m c (t.val - 1) (Nat.lt_of_le_of_lt (Nat.sub_le _ _) t.isLt)).2.2 y + partG (iblk m c 2 t) (bdn (iblk m c 0 t) (iblk m c 1 t)) y := by
  have h1 : 1 ≤ t.val := by rcases case_split t with h | h <;> omega
  rw [outsAt0_B m c t h0 h1]
  dsimp only
  unfold out0_B_7
  refine (View.read_writes_apply_of_pieces VO0_7 _ _ _ ?_ y (cover0_B_7 ..)).trans (rfl : accG (iblk m c 2 t) (bdn (iblk m c 0 t) (iblk m c 1 t)) _ y = _)
  apply dg_B

/-- After the last point it holds the sum of all points' parts. -/
theorem outs_dg (t : Fin cfg0.N) (ht : t.val % 16 = 15) (y : S1x1024.Idx) :
    (outsAt0 m c t.val t.isLt).2.2 y = ∑ t : Fin cfg0.N, partG (iblk m c 2 t) (bdn (iblk m c 0 t) (iblk m c 1 t)) y := by
  refine (Pipeline.eq_sum_fin_of_reset_step_apply_last (fun n hn y => (outsAt0 m c n hn).2.2 y) 16 (fun _ => 0)
    (fun t y => partG (iblk m c 2 t) (bdn (iblk m c 0 t) (iblk m c 1 t)) y) (fun t h y => outs_dg_first m c t h y) (fun t h y => outs_dg_step m c t h y) (le_of_eq (by decide +kernel)) t ?_ y).trans (zero_add _)
  have h : t.val < 16 := t.isLt
  have hN : cfg0.N = 16 := by decide +kernel
  omega

end Cert.QbVal
-- ==== Proof.QbArr.lean ====
/-
  The backward pass of the queries' product: the kernel's three output arrays.
-/
module

public import proofs.«01_k».proof.Proof.QbRun
public import proofs.«01_k».proof.Proof.Segs
public import Idealize.ShloMosaic.Lib.Pipeline.ValueKit
public import Idealize.ShloMosaic.Lib.Pointwise

@[expose] public section

set_option maxRecDepth 16384

noncomputable section

namespace Cert.QbVal

open Idealize.ShloMosaic Idealize.ShloMosaic.TcCoe Idealize.SL.Sem Cert.QbIdeal Cert.QbIdeal.Gen Cert.MlpRow Cert.NormBack Cert.Segs

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0, 0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0])

/-- The cotangent of normalised token `t` at channel `d`: the cotangent's row against the weights' row. -/
def normBack (A : Vec Ideal S8192x1536 .f32) (W : Vec Ideal S1024x1536 .f32) (t : Fin 8192) (d : Fin 1024) : EReal :=
  ∑ n : Fin 1536, A (ix2 t n) * W (ix2 d n)

/-- The cotangent of the product. -/
abbrev aA : Vec Ideal S8192x1536 .f32 := m ((c : Thread nD τ).loc main_arg0)
/-- The weights. -/
abbrev aW : Vec Ideal S1024x1536 .f32 := m ((c : Thread nD τ).loc main_arg1)
/-- The tokens. -/
abbrev aH : Vec Ideal S8192x1024 .f32 := m ((c : Thread nD τ).loc main_arg2)
/-- The gain. -/
abbrev aG : Vec Ideal S1024 .f32 := m ((c : Thread nD τ).loc main_arg3)
/-- The incoming cotangent of the tokens. -/
abbrev aZ : Vec Ideal S8192x1024 .f32 := m ((c : Thread nD τ).loc main_arg4)

theorem read0 (t : Fin cfg0.N) (r : Fin 512) (k : Fin 1536) : (iblk m c 0 t : Vec Ideal S512x1536 .f32) (ix2 r k) = aA m c (ix2 (tok t r) k) := by
  blk_ext [iblk, V, idx t, tok]

theorem readW (t : Fin cfg0.N) (ch : Fin 4) (d : Fin 1024) (b : Fin 384) :
    (iblk m c 1 t : Vec Ideal S4x1x1024x384 .bf16) (ix4 ch 0 d b) = aW m c (ix2 d ⟨384 * ch.val + b.val, by omega⟩) := by
  have he : (win0_1.blk t).view.emb (ix4 ch 0 d b : S4x1x1024x384.Idx) = (ix4 ch 0 d b : S4x1x1024x384.Idx) := by blk_ext [idx t]
  blk_simp [iblk]
  rw [he]
  entry_read
  pointwise
  exact congrArg (fun q => aW m c (ix2 d q)) (Fin.ext (by dsimp only; omega))

theorem readH (t : Fin cfg0.N) (r : Fin 512) (k : Fin 1024) : (iblk m c 2 t : Vec Ideal S512x1024 .f32) (ix2 r k) = aH m c (ix2 (tok t r) k) := by
  blk_ext [iblk, V, idx t, tok]

theorem readG (t : Fin cfg0.N) (k : Fin 1024) : (iblk m c 3 t : Vec Ideal S1x1024 .f32) (ix2 0 k) = aG m c (ix1 k) := by
  have he : (win0_3.blk t).view.emb (ix2 0 k : S1x1024.Idx) = (ix2 0 k : S1x1024.Idx) := by blk_ext [idx t]
  blk_simp [iblk]
  rw [he]
  entry_read
  pointwise

theorem readZ (t : Fin cfg0.N) (r : Fin 512) (k : Fin 1024) : (iblk m c 4 t : Vec Ideal S512x1024 .f32) (ix2 r k) = aZ m c (ix2 (tok t r) k) := by
  blk_ext [iblk, V, idx t, tok]

/-- The pieces of a block's cotangent are the whole row's product. -/
theorem bdn_eq (t : Fin cfg0.N) (r : Fin 512) (d : Fin 1024) :
    bdn (iblk m c 0 t) (iblk m c 1 t) r d = normBack (aA m c) (aW m c) (tok t r) d := by
  unfold bdn
  simp only [read0, readW]
  let F : (n : ℕ) → n < 1536 → EReal := fun n hn => aA m c (ix2 (tok t r) ⟨n, hn⟩) * aW m c (ix2 d ⟨n, hn⟩)
  exact (part_step F 1152 384 _ _ (part_step F 768 384 _ _ (part_step F 384 384 _ _ (part_first F 384 _ (fun k => ⟨by omega, congrArg₂ (· * ·) (rfl) (congrArg (fun q => aW m c (ix2 d q)) (Fin.ext (by show 384 * 0 + k.val = k.val; omega)))⟩))
    (fun k => ⟨by omega, congrArg₂ (· * ·) (rfl) (congrArg (fun q => aW m c (ix2 d q)) (Fin.ext (by show 384 * 1 + k.val = 384 + k.val; omega)))⟩))
    (fun k => ⟨by omega, congrArg₂ (· * ·) (rfl) (congrArg (fun q => aW m c (ix2 d q)) (Fin.ext (by show 384 * 2 + k.val = 768 + k.val; omega)))⟩))
    (fun k => ⟨by omega, congrArg₂ (· * ·) (rfl) (congrArg (fun q => aW m c (ix2 d q)) (Fin.ext (by show 384 * 3 + k.val = 1152 + k.val; omega)))⟩)).trans (part_all F)

/-- THE TOKENS' GRADIENT. -/
theorem arr_dh : (dats m 0 c).arrAt 5 cfg0.N = tokArr (aH m c) (aG m c) (aZ m c) (normBack (aA m c) (aW m c)) := by
  refine (dats m 0 c).arrAt_eq_of_covers 5 _ (by decide +kernel) fun t hf y => ?_
  blk_simp
  rw [after0_5, outs_dh]
  change S512x1024.Idx at y
  obtain ⟨r, d, rfl⟩ : ∃ (r : Fin 512) (d : Fin 1024), y = ix2 r d := ⟨y 0, y 1, eq_ix2 y⟩
  have he : (win0_5.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- The same at half width. -/
theorem arr_dhh : (dats m 0 c).arrAt 6 cfg0.N = tokArr (aH m c) (aG m c) (aZ m c) (normBack (aA m c) (aW m c)) := by
  refine (dats m 0 c).arrAt_eq_of_covers 6 _ (by decide +kernel) fun t hf y => ?_
  blk_simp
  rw [after0_6, outs_dhh]
  change S512x1024.Idx at y
  obtain ⟨r, d, rfl⟩ : ∃ (r : Fin 512) (d : Fin 1024), y = ix2 r d := ⟨y 0, y 1, eq_ix2 y⟩
  have he : (win0_6.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- THE GAIN'S GRADIENT. -/
theorem arr_dg : (dats m 0 c).arrAt 7 cfg0.N = gainArr (aH m c) (normBack (aA m c) (aW m c)) := by
  refine (dats m 0 c).arrAt_eq_of_covers 7 _ (by decide +kernel) fun t hf y => ?_
  blk_simp
  rw [after0_7]
  change S1x1024.Idx at y
  obtain ⟨q, d, rfl⟩ : ∃ (q : Fin 1) (d : Fin 1024), y = ix2 q d := ⟨y 0, y 1, eq_ix2 y⟩
  obtain rfl : q = 0 := Subsingleton.elim _ _
  rw [outs_dg m c t ((flush0_7 t).mp hf)]
  have he : (win0_7.blk t).view.emb (ix2 0 d : S1x1024.Idx) = (ix2 0 d : S1x1024.Idx) := by blk_ext [idx t]
  rw [he]
  show _ = gainBack (aH m c) (normBack (aA m c) (aW m c)) d
  unfold gainBack
  rw [sum_tok]
  exact Finset.sum_congr rfl fun t _ => partG_eq _ _ t _ _ (readH m c t) (bdn_eq m c t) d

end Cert.QbVal
-- ==== Proof.QbClaims.lean ====
/-
  The claims about the backward pass of the queries' product.
-/
module

public import proofs.«01_k».proof.Defs
public import proofs.«01_k».proof.Proof.Gen.Qb.Frame
public import proofs.«01_k».proof.Proof.QbArr
public import proofs.«01_k».proof.Proof.Gen.QbRefIdeal.Run
public import Idealize.ShloMosaic.Lib.Quiescent
public import Idealize.ShloMosaic.Lib.Claim

@[expose] public section

set_option maxRecDepth 16384

noncomputable section

namespace Cert.QbClaims

open Idealize.ShloMosaic Idealize.ShloMosaic.TcCoe Idealize.SL.Sem Cert.MlpRow Cert.NormBack Cert.Segs

section reference

open Cert.QbRefIdeal Cert.QbRefIdeal.Gen

variable (m : (ℓ : Loc nD τ sig) → Buf (Elt Ideal) ℓ)

/-- The reference's gradient of the tokens. -/
theorem ref_dh (c : Dev nD) : Value.res_main_v38 m c = tokArr (m ((c.tc : Thread nD τ).loc main_arg2)) (m ((c.tc : Thread nD τ).loc main_arg3)) (m ((c.tc : Thread nD τ).loc main_arg4)) (QbVal.normBack (m ((c.tc : Thread nD τ).loc main_arg0)) (m ((c.tc : Thread nD τ).loc main_arg1))) := by
  funext y
  change Cert.QbIdeal.S8192x1024.Idx at y
  obtain ⟨t, d, rfl⟩ : ∃ (t : Fin 8192) (d : Fin 1024), y = ix2 t d := ⟨y 0, y 1, eq_ix2 y⟩
  unfold Value.res_main_v38
  pointwise
  simp only [Finset.univ_unique, Finset.sum_singleton]
  exact rmsBack_chain (fun k => (m ((c.tc : Thread nD τ).loc main_arg2)) (ix2 t k)) (fun k => (m ((c.tc : Thread nD τ).loc main_arg3)) (ix1 k)) (fun k => (m ((c.tc : Thread nD τ).loc main_arg4)) (ix2 t k)) ((QbVal.normBack (m ((c.tc : Thread nD τ).loc main_arg0)) (m ((c.tc : Thread nD τ).loc main_arg1))) t) d

/-- The same at half width. -/
theorem ref_dhh (c : Dev nD) : Value.res_main_v39 m c = tokArr (m ((c.tc : Thread nD τ).loc main_arg2)) (m ((c.tc : Thread nD τ).loc main_arg3)) (m ((c.tc : Thread nD τ).loc main_arg4)) (QbVal.normBack (m ((c.tc : Thread nD τ).loc main_arg0)) (m ((c.tc : Thread nD τ).loc main_arg1))) := by
  funext y
  change Cert.QbIdeal.S8192x1024.Idx at y
  obtain ⟨t, d, rfl⟩ : ∃ (t : Fin 8192) (d : Fin 1024), y = ix2 t d := ⟨y 0, y 1, eq_ix2 y⟩
  unfold Value.res_main_v39
  pointwise
  simp only [Finset.univ_unique, Finset.sum_singleton]
  exact rmsBack_chain (fun k => (m ((c.tc : Thread nD τ).loc main_arg2)) (ix2 t k)) (fun k => (m ((c.tc : Thread nD τ).loc main_arg3)) (ix1 k)) (fun k => (m ((c.tc : Thread nD τ).loc main_arg4)) (ix2 t k)) ((QbVal.normBack (m ((c.tc : Thread nD τ).loc main_arg0)) (m ((c.tc : Thread nD τ).loc main_arg1))) t) d

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v38) = tokArr (m ((c.tc : Thread nD τ).loc main_arg2)) (m ((c.tc : Thread nD τ).loc main_arg3)) (m ((c.tc : Thread nD τ).loc main_arg4)) (QbVal.normBack (m ((c.tc : Thread nD τ).loc main_arg0)) (m ((c.tc : Thread nD τ).loc main_arg1)))
    ∧ r.2.mem ((c.tc : Thread nD τ).loc main_v39) = tokArr (m ((c.tc : Thread nD τ).loc main_arg2)) (m ((c.tc : Thread nD τ).loc main_arg3)) (m ((c.tc : Thread nD τ).loc main_arg4)) (QbVal.normBack (m ((c.tc : Thread nD τ).loc main_arg0)) (m ((c.tc : Thread nD τ).loc main_arg1)))
    ∧ r.2.mem ((c.tc : Thread nD τ).loc main_v40) = gainArr (m ((c.tc : Thread nD τ).loc main_arg2)) (QbVal.normBack (m ((c.tc : Thread nD τ).loc main_arg0)) (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans (ref_dh m c), (h c).2.1.trans (ref_dhh m c), (h c).2.2.1.trans ?_, (h c).2.2.2⟩) (Value.run m ρ)
  funext y
  change Cert.QbIdeal.S1x1024.Idx at y
  obtain ⟨q, d, rfl⟩ : ∃ (q : Fin 1) (d : Fin 1024), y = ix2 q d := ⟨y 0, y 1, eq_ix2 y⟩
  pointwise
  simp only [Finset.univ_unique, Finset.sum_singleton]
  exact Finset.sum_congr rfl fun t _ => mul_comm _ _

end reference

/-- The kernel as printed ends, its arguments unchanged and every counter at zero. -/
theorem ends : quiescent_Qb (hQb := Cert.Qb.Gen.facts) := fun m ρ _ => Cert.Qb.Gen.frame m ρ

/-- So does its exact form. -/
theorem ideal_ends : quiescent_QbIdeal (hQbIdeal := Cert.QbIdeal.Gen.facts) := fun m ρ _ => Cert.QbIdeal.Gen.frame m ρ

/-- So does the reference. -/
theorem ref_ends : quiescent_QbRefIdeal (hQbRefIdeal := Cert.QbRefIdeal.Gen.facts) := fun m ρ _ =>
  (θ_run _ _ _).mono (fun r h => ⟨fun c => (h c).2.2.2, sem_eq_zero_of_no_sems (by decide) r.2⟩) (Cert.QbRefIdeal.Value.run m ρ)

/-- Both programs' results are the tokens' gradient at both widths and the gain's gradient, as the same functions of the
    arguments. -/
theorem equal : algebraic_QbIdeal_QbRefIdeal (hQbIdeal := Cert.QbIdeal.Gen.facts) (hQbRefIdeal := Cert.QbRefIdeal.Gen.facts) := by
  intro m ρ m' ρ' _ hag
  refine ⟨fun c => tokArr (QbVal.aH m c) (QbVal.aG m c) (QbVal.aZ m c) (QbVal.normBack (QbVal.aA m c) (QbVal.aW m c)),
    fun c => tokArr (QbVal.aH m c) (QbVal.aG m c) (QbVal.aZ m c) (QbVal.normBack (QbVal.aA m c) (QbVal.aW m c)),
    fun c => gainArr (QbVal.aH m c) (QbVal.normBack (QbVal.aA m c) (QbVal.aW m c)),
    (θ_run _ _ _).mono (fun _ h c => ⟨(h c).1.trans (QbVal.arr_dh m c), (h c).2.1.trans (QbVal.arr_dhh m c),
      (h c).2.2.1.trans (QbVal.arr_dg m c), (h c).2.2.2⟩) (Cert.QbIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1, (hag c).2.2.1, (hag c).2.2.2.1, (hag c).2.2.2.2]
  · rw [(hag c).1, (hag c).2.1, (hag c).2.2.1, (hag c).2.2.2.1, (hag c).2.2.2.2]
  · rw [(hag c).1, (hag c).2.1, (hag c).2.2.1]

end Cert.QbClaims
-- ==== Proof.KvBRun.lean ====
/-
  The backward pass of the keys' and values' product on one block of 512 tokens: the cotangent of the normalised tokens as the sum of its pieces, and
  what each point leaves in the three outputs' blocks.
-/
module

public import proofs.«01_k».proof.Proof.NormBack
public import proofs.«01_k».proof.Proof.Tiles
public import proofs.«01_k».proof.Proof.Gen.KvBIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KvBVal

open Idealize.ShloMosaic Idealize.ShloMosaic.TcCoe Idealize.SL.Sem Cert.KvBIdeal Cert.KvBIdeal.Gen Cert.MlpRow Cert.NormBack

/-- The cotangent of normalised token `r` of the block at channel `d`, piece by piece. -/
def bdn (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S4x1x1024x768 .bf16) (r : Fin 512) (d : Fin 1024) : EReal :=
  ∑ k : Fin 512, x0 (ix2 r ⟨k.val, by omega⟩) * x6 (ix4 0 0 d ⟨k.val, by omega⟩)
    + ∑ k : Fin 256, x1 (ix2 r ⟨k.val, by omega⟩) * x6 (ix4 0 0 d ⟨512 + k.val, by omega⟩)
    + ∑ k : Fin 256, x1 (ix2 r ⟨256 + k.val, by omega⟩) * x6 (ix4 1 0 d ⟨k.val, by omega⟩)
    + ∑ k : Fin 512, x2 (ix2 r ⟨k.val, by omega⟩) * x6 (ix4 1 0 d ⟨256 + k.val, by omega⟩)
    + ∑ k : Fin 512, x3 (ix2 r ⟨k.val, by omega⟩) * x6 (ix4 2 0 d ⟨k.val, by omega⟩)
    + ∑ k : Fin 256, x4 (ix2 r ⟨k.val, by omega⟩) * x6 (ix4 2 0 d ⟨512 + k.val, by omega⟩)
    + ∑ k : Fin 256, x4 (ix2 r ⟨256 + k.val, by omega⟩) * x6 (ix4 3 0 d ⟨k.val, by omega⟩)
    + ∑ k : Fin 512, x5 (ix2 r ⟨k.val, by omega⟩) * x6 (ix4 3 0 d ⟨256 + k.val, by omega⟩)

section pieces

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S4x1x1024x768 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S512x1024 .f32) (harg14 : arg14.IsWhole)
    (x0 : Vec Ideal S512x512 .f32) (x1 : Vec Ideal S512x512 .f32) (x2 : Vec Ideal S512x512 .f32) (x3 : Vec Ideal S512x512 .f32) (x4 : Vec Ideal S512x512 .f32) (x5 : Vec Ideal S512x512 .f32) (x6 : Vec Ideal S4x1x1024x768 .bf16) (x7 : Vec Ideal S512x1024 .f32) (x8 : Vec Ideal S1x1024 .f32) (x9 : Vec Ideal S512x1024 .f32)

/-- The piece stored at the first point for the tokens' gradient is its closed block. -/
theorem dh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1, ∀ x, p.2 x = blkD x9 x7 x8 (bdn x0 x1 x2 x3 x4 x5 x6) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the tokens' gradient is its closed block. -/
theorem dh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo).1, ∀ x, p.2 x = blkD x9 x7 x8 (bdn x0 x1 x2 x3 x4 x5 x6) (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg13.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the half-width copy is its closed block. -/
theorem dhh_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1, ∀ x, p.2 x = blkD x9 x7 x8 (bdn x0 x1 x2 x3 x4 x5 x6) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at a later point for the half-width copy is its closed block. -/
theorem dhh_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo).2.1, ∀ x, p.2 x = blkD x9 x7 x8 (bdn x0 x1 x2 x3 x4 x5 x6) (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg13.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The piece stored at the first point for the gain's gradient is its closed block. -/
theorem dg_A (hc0 : cond0_0 i) (hc1 : ¬cond0_1 i) : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1, ∀ x, p.2 x = partG x7 (bdn x0 x1 x2 x3 x4 x5 x6) (p.1.emb x) := by
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

/-- The piece stored at a later point for the gain's gradient is its closed block. -/
theorem dg_B (hc0 : ¬cond0_0 i) (hc1 : cond0_1 i) (xo : Vec Ideal S1x1024 .f32) : ∀ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo).2.2.1, ∀ x, p.2 x = accG x7 (bdn x0 x1 x2 x3 x4 x5 x6) xo (p.1.emb x) := by
  unfold kernelRun0_B
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg13.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

end pieces

variable (m : (ℓ : Loc nD τ sig) → Buf (Elt Ideal) ℓ) (c : Dev nD)

theorem case_split (t : Fin cfg0.N) : (t.val % 16 = 0 ∧ ¬1 ≤ t.val) ∨ (¬t.val % 16 = 0 ∧ 1 ≤ t.val) := by
  have : t.val < 16 := t.isLt
  omega

/-- After every point the block holds the tokens' gradient. -/
theorem outs_dh (t : Fin cfg0.N) : (outsAt0 m c t.val t.isLt).1 = blkD (iblk m c 9 t) (iblk m c 7 t) (iblk m c 8 t) (bdn (iblk m c 0 t) (iblk m c 1 t) (iblk m c 2 t) (iblk m c 3 t) (iblk m c 4 t) (iblk m c 5 t) (iblk m c 6 t)) := by
  rcases case_split t with ⟨h0, h1⟩ | ⟨h0, h1⟩
  · rw [outsAt0_A m c t h0 h1]
    dsimp only
    unfold out0_A_10
    funext y
    refine View.read_writes_apply_of_pieces VO0_10 _ _ _ ?_ y (cover0_A_10 ..)
    apply dh_A
  · rw [outsAt0_B m c t h0 h1]
    dsimp only
    unfold out0_B_10
    funext y
    refine View.read_writes_apply_of_pieces VO0_10 _ _ _ ?_ y (cover0_B_10 ..)
    apply dh_B

/-- The half-width copy too. -/
theorem outs_dhh (t : Fin cfg0.N) : (outsAt0 m c t.val t.isLt).2.1 = blkD (iblk m c 9 t) (iblk m c 7 t) (iblk m c 8 t) (bdn (iblk m c 0 t) (iblk m c 1 t) (iblk m c 2 t) (iblk m c 3 t) (iblk m c 4 t) (iblk m c 5 t) (iblk m c 6 t)) := by
  rcases case_split t with ⟨h0, h1⟩ | ⟨h0, h1⟩
  · rw [outsAt0_A m c t h0 h1]
    dsimp only
    unfold out0_A_11
    funext y
    refine View.read_writes_apply_of_pieces VO0_11 _ _ _ ?_ y (cover0_A_11 ..)
    apply dhh_A
  · rw [outsAt0_B m c t h0 h1]
    dsimp only
    unfold out0_B_11
    funext y
    refine View.read_writes_apply_of_pieces VO0_11 _ _ _ ?_ y (cover0_B_11 ..)
    apply dhh_B

/-- The first point sets the gain's gradient. -/
theorem outs_dg_first (t : Fin cfg0.N) (h0 : t.val % 16 = 0) (y : S1x1024.Idx) : (outsAt0 m c t.val t.isLt).2.2 y = 0 + partG (iblk m c 7 t) (bdn (iblk m c 0 t) (iblk m c 1 t) (iblk m c 2 t) (iblk m c 3 t) (iblk m c 4 t) (iblk m c 5 t) (iblk m c 6 t)) y := by
  rw [zero_add]
  have h1 : ¬1 ≤ t.val := by rcases case_split t with h | h <;> omega
  rw [outsAt0_A m c t h0 h1]
  dsimp only
  unfold out0_A_12
  refine View.read_writes_apply_of_pieces VO0_12 _ _ _ ?_ y (cover0_A_12 ..)
  apply dg_A

/-- Every later point adds its part. -/
theorem outs_dg_step (t : Fin cfg0.N) (h0 : ¬t.val % 16 = 0) (y : S1x1024.Idx) :
    (outsAt0 m c t.val t.isLt).2.2 y = (outsAt0 m c (t.val - 1) (Nat.lt_of_le_of_lt (Nat.sub_le _ _) t.isLt)).2.2 y + partG (iblk m c 7 t) (bdn (iblk m c 0 t) (iblk m c 1 t) (iblk m c 2 t) (iblk m c 3 t) (iblk m c 4 t) (iblk m c 5 t) (iblk m c 6 t)) y := by
  have h1 : 1 ≤ t.val := by rcases case_split t with h | h <;> omega
  rw [outsAt0_B m c t h0 h1]
  dsimp only
  unfold out0_B_12
  refine (View.read_writes_apply_of_pieces VO0_12 _ _ _ ?_ y (cover0_B_12 ..)).trans (rfl : accG (iblk m c 7 t) (bdn (iblk m c 0 t) (iblk m c 1 t) (iblk m c 2 t) (iblk m c 3 t) (iblk m c 4 t) (iblk m c 5 t) (iblk m c 6 t)) _ y = _)
  apply dg_B

/-- After the last point it holds the sum of all points' parts. -/
theorem outs_dg (t : Fin cfg0.N) (ht : t.val % 16 = 15) (y : S1x1024.Idx) :
    (outsAt0 m c t.val t.isLt).2.2 y = ∑ t : Fin cfg0.N, partG (iblk m c 7 t) (bdn (iblk m c 0 t) (iblk m c 1 t) (iblk m c 2 t) (iblk m c 3 t) (iblk m c 4 t) (iblk m c 5 t) (iblk m c 6 t)) y := by
  refine (Pipeline.eq_sum_fin_of_reset_step_apply_last (fun n hn y => (outsAt0 m c n hn).2.2 y) 16 (fun _ => 0)
    (fun t y => partG (iblk m c 7 t) (bdn (iblk m c 0 t) (iblk m c 1 t) (iblk m c 2 t) (iblk m c 3 t) (iblk m c 4 t) (iblk m c 5 t) (iblk m c 6 t)) y) (fun t h y => outs_dg_first m c t h y) (fun t h y => outs_dg_step m c t h y) (le_of_eq (by decide +kernel)) t ?_ y).trans (zero_add _)
  have h : t.val < 16 := t.isLt
  have hN : cfg0.N = 16 := by decide +kernel
  omega

end Cert.KvBVal
-- ==== Proof.KvBArr.lean ====
/-
  The backward pass of the keys' and values' product: the kernel's three output arrays.
-/
module

public import proofs.«01_k».proof.Proof.KvBRun
public import proofs.«01_k».proof.Proof.Segs
public import Idealize.ShloMosaic.Lib.Pipeline.ValueKit
public import Idealize.ShloMosaic.Lib.Pointwise

@[expose] public section

set_option maxRecDepth 16384

noncomputable section

namespace Cert.KvBVal

open Idealize.ShloMosaic Idealize.ShloMosaic.TcCoe Idealize.SL.Sem Cert.KvBIdeal Cert.KvBIdeal.Gen Cert.MlpRow Cert.NormBack Cert.Segs

variable (m : (ℓ : Loc nD τ sig) → Buf (Elt Ideal) ℓ) (c : Dev nD)

/-- The windows' index maps. -/
theorem idx : ∀ t : Fin cfg0.N, win0_0.index t = ![t.val, 0] ∧ win0_1.index t = ![t.val, 0] ∧ win0_2.index t = ![t.val, 1] ∧ win0_3.index t = ![t.val, 1] ∧ win0_4.index t = ![t.val, 2] ∧ win0_5.index t = ![t.val, 2] ∧ win0_6.index t = ![0, 0, 0, 0] ∧ win0_7.index t = ![t.val, 0] ∧ win0_8.index t = ![0, 0] ∧ win0_9.index t = ![t.val, 0] ∧ win0_10.index t = ![t.val, 0] ∧ win0_11.index t = ![t.val, 0] ∧ win0_12.index t = ![0, 0] :=
  (by decide +kernel : ∀ t : Fin grid0.N, win0_0.index t = ![t.val, 0] ∧ win0_1.index t = ![t.val, 0] ∧ win0_2.index t = ![t.val, 1] ∧ win0_3.index t = ![t.val, 1] ∧ win0_4.index t = ![t.val, 2] ∧ win0_5.index t = ![t.val, 2] ∧ win0_6.index t = ![0, 0, 0, 0] ∧ win0_7.index t = ![t.val, 0] ∧ win0_8.index t = ![0, 0] ∧ win0_9.index t = ![t.val, 0] ∧ win0_10.index t = ![t.val, 0] ∧ win0_11.index t = ![t.val, 0] ∧ win0_12.index t = ![0, 0])

/-- Token `t`'s row of the cotangent, by segments: each group's keys, then its values. -/
def cot (K V : Vec Ideal S8192x1536 .f32) (t : Fin 8192) (j : Fin 6) (k : Fin 512) : EReal :=
  if j.val % 2 = 0 then K (ix2 t ⟨512 * (j.val / 2) + k.val, by omega⟩) else V (ix2 t ⟨512 * (j.val / 2) + k.val, by omega⟩)

/-- The cotangent of normalised token `t` at channel `d`: the cotangent's row against the weights' row. -/
def normBack (K V : Vec Ideal S8192x1536 .f32) (W : Vec Ideal S1024x3072 .f32) (t : Fin 8192) (d : Fin 1024) : EReal :=
  ∑ n : Fin 3072, pick (cot K V t) n.val (by have := n.isLt; omega) * W (ix2 d n)

/-- The cotangent of the keys. -/
abbrev aK : Vec Ideal S8192x1536 .f32 := m ((c : Thread nD τ).loc main_arg0)
/-- The cotangent of the values. -/
abbrev aV : Vec Ideal S8192x1536 .f32 := m ((c : Thread nD τ).loc main_arg1)
/-- The weights. -/
abbrev aW : Vec Ideal S1024x3072 .f32 := m ((c : Thread nD τ).loc main_arg2)
/-- The tokens. -/
abbrev aH : Vec Ideal S8192x1024 .f32 := m ((c : Thread nD τ).loc main_arg3)
/-- The gain. -/
abbrev aG : Vec Ideal S1024 .f32 := m ((c : Thread nD τ).loc main_arg4)
/-- The incoming cotangent of the tokens. -/
abbrev aZ : Vec Ideal S8192x1024 .f32 := m ((c : Thread nD τ).loc main_arg5)

theorem read0 (t : Fin cfg0.N) (r : Fin 512) (k : Fin 512) : (iblk m c 0 t : Vec Ideal S512x512 .f32) (ix2 r k) = cot (aK m c) (aV m c) (tok t r) 0 k := by
  show _ = aK m c (ix2 (tok t r) ⟨512 * 0 + k.val, by omega⟩)
  blk_ext [iblk, V, idx t, tok]

theorem read1 (t : Fin cfg0.N) (r : Fin 512) (k : Fin 512) : (iblk m c 1 t : Vec Ideal S512x512 .f32) (ix2 r k) = cot (aK m c) (aV m c) (tok t r) 1 k := by
  show _ = aV m c (ix2 (tok t r) ⟨512 * 0 + k.val, by omega⟩)
  blk_ext [iblk, V, idx t, tok]

theorem read2 (t : Fin cfg0.N) (r : Fin 512) (k : Fin 512) : (iblk m c 2 t : Vec Ideal S512x512 .f32) (ix2 r k) = cot (aK m c) (aV m c) (tok t r) 2 k := by
  show _ = aK m c (ix2 (tok t r) ⟨512 * 1 + k.val, by omega⟩)
  blk_ext [iblk, V, idx t, tok]

theorem read3 (t : Fin cfg0.N) (r : Fin 512) (k : Fin 512) : (iblk m c 3 t : Vec Ideal S512x512 .f32) (ix2 r k) = cot (aK m c) (aV m c) (tok t r) 3 k := by
  show _ = aV m c (ix2 (tok t r) ⟨512 * 1 + k.val, by omega⟩)
  blk_ext [iblk, V, idx t, tok]

theorem read4 (t : Fin cfg0.N) (r : Fin 512) (k : Fin 512) : (iblk m c 4 t : Vec Ideal S512x512 .f32) (ix2 r k) = cot (aK m c) (aV m c) (tok t r) 4 k := by
  show _ = aK m c (ix2 (tok t r) ⟨512 * 2 + k.val, by omega⟩)
  blk_ext [iblk, V, idx t, tok]

theorem read5 (t : Fin cfg0.N) (r : Fin 512) (k : Fin 512) : (iblk m c 5 t : Vec Ideal S512x512 .f32) (ix2 r k) = cot (aK m c) (aV m c) (tok t r) 5 k := by
  show _ = aV m c (ix2 (tok t r) ⟨512 * 2 + k.val, by omega⟩)
  blk_ext [iblk, V, idx t, tok]

theorem readW (t : Fin cfg0.N) (ch : Fin 4) (d : Fin 1024) (b : Fin 768) :
    (iblk m c 6 t : Vec Ideal S4x1x1024x768 .bf16) (ix4 ch 0 d b) = aW m c (ix2 d ⟨768 * ch.val + b.val, by omega⟩) := by
  have he : (win0_6.blk t).view.emb (ix4 ch 0 d b : S4x1x1024x768.Idx) = (ix4 ch 0 d b : S4x1x1024x768.Idx) := by blk_ext [idx t]
  blk_simp [iblk]
  rw [he]
  entry_read
  pointwise
  exact congrArg (fun q => aW m c (ix2 d q)) (Fin.ext (by dsimp only; omega))

theorem readH (t : Fin cfg0.N) (r : Fin 512) (k : Fin 1024) : (iblk m c 7 t : Vec Ideal S512x1024 .f32) (ix2 r k) = aH m c (ix2 (tok t r) k) := by
  blk_ext [iblk, V, idx t, tok]

theorem readG (t : Fin cfg0.N) (k : Fin 1024) : (iblk m c 8 t : Vec Ideal S1x1024 .f32) (ix2 0 k) = aG m c (ix1 k) := by
  have he : (win0_8.blk t).view.emb (ix2 0 k : S1x1024.Idx) = (ix2 0 k : S1x1024.Idx) := by blk_ext [idx t]
  blk_simp [iblk]
  rw [he]
  entry_read
  pointwise

theorem readZ (t : Fin cfg0.N) (r : Fin 512) (k : Fin 1024) : (iblk m c 9 t : Vec Ideal S512x1024 .f32) (ix2 r k) = aZ m c (ix2 (tok t r) k) := by
  blk_ext [iblk, V, idx t, tok]

/-- The pieces of a block's cotangent are the whole row's product. -/
theorem bdn_eq (t : Fin cfg0.N) (r : Fin 512) (d : Fin 1024) :
    bdn (iblk m c 0 t) (iblk m c 1 t) (iblk m c 2 t) (iblk m c 3 t) (iblk m c 4 t) (iblk m c 5 t) (iblk m c 6 t) r d = normBack (aK m c) (aV m c) (aW m c) (tok t r) d := by
  unfold bdn
  simp only [read0, read1, read2, read3, read4, read5, readW]
  let F : (n : ℕ) → n < 3072 → EReal := fun n hn => pick (cot (aK m c) (aV m c) (tok t r)) n (by omega) * aW m c (ix2 d ⟨n, hn⟩)
  exact (part_step F 2560 512 _ _ (part_step F 2304 256 _ _ (part_step F 2048 256 _ _ (part_step F 1536 512 _ _ (part_step F 1024 512 _ _ (part_step F 768 256 _ _ (part_step F 512 256 _ _ (part_first F 512 _ (fun k => ⟨by omega, congrArg₂ (· * ·) ((pick_eq (cot (aK m c) (aV m c) (tok t r)) _ _ 0 ⟨k.val, by omega⟩ (by show k.val = 512 * 0 + k.val; omega)).symm) (congrArg (fun q => aW m c (ix2 d q)) (Fin.ext (by show 768 * 0 + k.val = k.val; omega)))⟩))
    (fun k => ⟨by omega, congrArg₂ (· * ·) ((pick_eq (cot (aK m c) (aV m c) (tok t r)) _ _ 1 ⟨k.val, by omega⟩ (by show 512 + k.val = 512 * 1 + k.val; omega)).symm) (congrArg (fun q => aW m c (ix2 d q)) (Fin.ext (by show 768 * 0 + (512 + k.val) = 512 + k.val; omega)))⟩))
    (fun k => ⟨by omega, congrArg₂ (· * ·) ((pick_eq (cot (aK m c) (aV m c) (tok t r)) _ _ 1 ⟨256 + k.val, by omega⟩ (by show 768 + k.val = 512 * 1 + (256 + k.val); omega)).symm) (congrArg (fun q => aW m c (ix2 d q)) (Fin.ext (by show 768 * 1 + k.val = 768 + k.val; omega)))⟩))
    (fun k => ⟨by omega, congrArg₂ (· * ·) ((pick_eq (cot (aK m c) (aV m c) (tok t r)) _ _ 2 ⟨k.val, by omega⟩ (by show 1024 + k.val = 512 * 2 + k.val; omega)).symm) (congrArg (fun q => aW m c (ix2 d q)) (Fin.ext (by show 768 * 1 + (256 + k.val) = 1024 + k.val; omega)))⟩))
    (fun k => ⟨by omega, congrArg₂ (· * ·) ((pick_eq (cot (aK m c) (aV m c) (tok t r)) _ _ 3 ⟨k.val, by omega⟩ (by show 1536 + k.val = 512 * 3 + k.val; omega)).symm) (congrArg (fun q => aW m c (ix2 d q)) (Fin.ext (by show 768 * 2 + k.val = 1536 + k.val; omega)))⟩))
    (fun k => ⟨by omega, congrArg₂ (· * ·) ((pick_eq (cot (aK m c) (aV m c) (tok t r)) _ _ 4 ⟨k.val, by omega⟩ (by show 2048 + k.val = 512 * 4 + k.val; omega)).symm) (congrArg (fun q => aW m c (ix2 d q)) (Fin.ext (by show 768 * 2 + (512 + k.val) = 2048 + k.val; omega)))⟩))
    (fun k => ⟨by omega, congrArg₂ (· * ·) ((pick_eq (cot (aK m c) (aV m c) (tok t r)) _ _ 4 ⟨256 + k.val, by omega⟩ (by show 2304 + k.val = 512 * 4 + (256 + k.val); omega)).symm) (congrArg (fun q => aW m c (ix2 d q)) (Fin.ext (by show 768 * 3 + k.val = 2304 + k.val; omega)))⟩))
    (fun k => ⟨by omega, congrArg₂ (· * ·) ((pick_eq (cot (aK m c) (aV m c) (tok t r)) _ _ 5 ⟨k.val, by omega⟩ (by show 2560 + k.val = 512 * 5 + k.val; omega)).symm) (congrArg (fun q => aW m c (ix2 d q)) (Fin.ext (by show 768 * 3 + (256 + k.val) = 2560 + k.val; omega)))⟩)).trans (part_all F)

/-- THE TOKENS' GRADIENT. -/
theorem arr_dh : (dats m 0 c).arrAt 10 cfg0.N = tokArr (aH m c) (aG m c) (aZ m c) (normBack (aK m c) (aV m c) (aW m c)) := by
  refine (dats m 0 c).arrAt_eq_of_covers 10 _ (by decide +kernel) fun t hf y => ?_
  blk_simp
  rw [after0_10, outs_dh]
  change S512x1024.Idx at y
  obtain ⟨r, d, rfl⟩ : ∃ (r : Fin 512) (d : Fin 1024), y = ix2 r d := ⟨y 0, y 1, eq_ix2 y⟩
  have he : (win0_10.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- The same at half width. -/
theorem arr_dhh : (dats m 0 c).arrAt 11 cfg0.N = tokArr (aH m c) (aG m c) (aZ m c) (normBack (aK m c) (aV m c) (aW m c)) := by
  refine (dats m 0 c).arrAt_eq_of_covers 11 _ (by decide +kernel) fun t hf y => ?_
  blk_simp
  rw [after0_11, outs_dhh]
  change S512x1024.Idx at y
  obtain ⟨r, d, rfl⟩ : ∃ (r : Fin 512) (d : Fin 1024), y = ix2 r d := ⟨y 0, y 1, eq_ix2 y⟩
  have he : (win0_11.blk t).view.emb (ix2 r d : S512x1024.Idx) = (ix2 (tok t r) d : S8192x1024.Idx) := by blk_ext [idx t, tok]
  rw [he]
  exact blkD_eq _ _ _ _ t _ _ _ _ (readZ m c t) (readH m c t) (readG m c t) (bdn_eq m c t) r d

/-- THE GAIN'S GRADIENT. -/
theorem arr_dg : (dats m 0 c).arrAt 12 cfg0.N = gainArr (aH m c) (normBack (aK m c) (aV m c) (aW m c)) := by
  refine (dats m 0 c).arrAt_eq_of_covers 12 _ (by decide +kernel) fun t hf y => ?_
  blk_simp
  rw [after0_12]
  change S1x1024.Idx at y
  obtain ⟨q, d, rfl⟩ : ∃ (q : Fin 1) (d : Fin 1024), y = ix2 q d := ⟨y 0, y 1, eq_ix2 y⟩
  obtain rfl : q = 0 := Subsingleton.elim _ _
  rw [outs_dg m c t ((flush0_12 t).mp hf)]
  have he : (win0_12.blk t).view.emb (ix2 0 d : S1x1024.Idx) = (ix2 0 d : S1x1024.Idx) := by blk_ext [idx t]
  rw [he]
  show _ = gainBack (aH m c) (normBack (aK m c) (aV m c) (aW m c)) d
  unfold gainBack
  rw [sum_tok]
  exact Finset.sum_congr rfl fun t _ => partG_eq _ _ t _ _ (readH m c t) (bdn_eq m c t) d

end Cert.KvBVal
-- ==== Proof.KvBClaims.lean ====
/-
  The claims about the backward pass of the keys' and values' product.
-/
module

public import proofs.«01_k».proof.Defs
public import proofs.«01_k».proof.Proof.Gen.KvB.Frame
public import proofs.«01_k».proof.Proof.KvBArr
public import proofs.«01_k».proof.Proof.Gen.KvBRefIdeal.Run
public import Idealize.ShloMosaic.Lib.Quiescent
public import Idealize.ShloMosaic.Lib.Claim

@[expose] public section

set_option maxRecDepth 16384

noncomputable section

namespace Cert.KvBClaims

open Idealize.ShloMosaic Idealize.ShloMosaic.TcCoe Idealize.SL.Sem Cert.MlpRow Cert.NormBack Cert.Segs

section reference

open Cert.KvBRefIdeal Cert.KvBRefIdeal.Gen

variable (m : (ℓ : Loc nD τ sig) → Buf (Elt Ideal) ℓ)

/-- The keys and the values, interleaved by groups of 512, are the row by segments. -/
theorem cot_cat (c : Dev nD) (t : Fin 8192) (n : Fin 3072) :
    ((if h : n.val / 1024 < 3 ∧ (1 ≤ n.val / 512 % 2 ∧ n.val / 512 % 2 - 1 < 1) ∧ n.val % 512 < 512 then m ((c.tc : Thread nD τ).loc main_arg1) (ix2 t ⟨n.val / 1024 * 512 + n.val % 512, by omega⟩) else 0 : EReal)
      + (if h : n.val / 1024 < 3 ∧ n.val / 512 % 2 < 1 ∧ n.val % 512 < 512 then m ((c.tc : Thread nD τ).loc main_arg0) (ix2 t ⟨n.val / 1024 * 512 + n.val % 512, by omega⟩) else 0 : EReal))
    = pick (KvBVal.cot (m ((c.tc : Thread nD τ).loc main_arg0)) (m ((c.tc : Thread nD τ).loc main_arg1)) t) n.val (by omega) := by
  have hn := n.isLt
  refine Eq.trans ?_ (pick_eq _ _ _ (⟨n.val / 512, by omega⟩ : Fin 6) ⟨n.val % 512, by omega⟩
    (by show n.val = 512 * (n.val / 512) + n.val % 512; omega)).symm
  unfold KvBVal.cot
  by_cases h : n.val / 512 % 2 = 0
  · rw [dif_neg (by omega), dif_pos (by omega), zero_add, if_pos h]
    exact congrArg (fun q => m ((c.tc : Thread nD τ).loc main_arg0) (ix2 t q)) (Fin.ext (by
      show n.val / 1024 * 512 + n.val % 512 = 512 * (n.val / 512 / 2) + n.val % 512
      omega))
  · rw [dif_pos (by omega), dif_neg (by omega), add_zero, if_neg h]
    exact congrArg (fun q => m ((c.tc : Thread nD τ).loc main_arg1) (ix2 t q)) (Fin.ext (by
      show n.val / 1024 * 512 + n.val % 512 = 512 * (n.val / 512 / 2) + n.val % 512
      omega))

/-- The reference's gradient of the tokens. -/
theorem ref_dh (c : Dev nD) : Value.res_main_v53 m c = tokArr (m ((c.tc : Thread nD τ).loc main_arg3)) (m ((c.tc : Thread nD τ).loc main_arg4)) (m ((c.tc : Thread nD τ).loc main_arg5)) (KvBVal.normBack (m ((c.tc : Thread nD τ).loc main_arg0)) (m ((c.tc : Thread nD τ).loc main_arg1)) (m ((c.tc : Thread nD τ).loc main_arg2))) := by
  funext y
  change Cert.KvBIdeal.S8192x1024.Idx at y
  obtain ⟨t, d, rfl⟩ : ∃ (t : Fin 8192) (d : Fin 1024), y = ix2 t d := ⟨y 0, y 1, eq_ix2 y⟩
  unfold Value.res_main_v53
  pointwise
  simp only [Finset.univ_unique, Finset.sum_singleton, cot_cat m c]
  exact rmsBack_chain (fun k => (m ((c.tc : Thread nD τ).loc main_arg3)) (ix2 t k)) (fun k => (m ((c.tc : Thread nD τ).loc main_arg4)) (ix1 k)) (fun k => (m ((c.tc : Thread nD τ).loc main_arg5)) (ix2 t k)) ((KvBVal.normBack (m ((c.tc : Thread nD τ).loc main_arg0)) (m ((c.tc : Thread nD τ).loc main_arg1)) (m ((c.tc : Thread nD τ).loc main_arg2))) t) d

/-- The same at half width. -/
theorem ref_dhh (c : Dev nD) : Value.res_main_v54 m c = tokArr (m ((c.tc : Thread nD τ).loc main_arg3)) (m ((c.tc : Thread nD τ).loc main_arg4)) (m ((c.tc : Thread nD τ).loc main_arg5)) (KvBVal.normBack (m ((c.tc : Thread nD τ).loc main_arg0)) (m ((c.tc : Thread nD τ).loc main_arg1)) (m ((c.tc : Thread nD τ).loc main_arg2))) := by
  funext y
  change Cert.KvBIdeal.S8192x1024.Idx at y
  obtain ⟨t, d, rfl⟩ : ∃ (t : Fin 8192) (d : Fin 1024), y = ix2 t d := ⟨y 0, y 1, eq_ix2 y⟩
  unfold Value.res_main_v54
  pointwise
  simp only [Finset.univ_unique, Finset.sum_singleton, cot_cat m c]
  exact rmsBack_chain (fun k => (m ((c.tc : Thread nD τ).loc main_arg3)) (ix2 t k)) (fun k => (m ((c.tc : Thread nD τ).loc main_arg4)) (ix1 k)) (fun k => (m ((c.tc : Thread nD τ).loc main_arg5)) (ix2 t k)) ((KvBVal.normBack (m ((c.tc : Thread nD τ).loc main_arg0)) (m ((c.tc : Thread nD τ).loc main_arg1)) (m ((c.tc : Thread nD τ).loc main_arg2))) t) d

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v53) = tokArr (m ((c.tc : Thread nD τ).loc main_arg3)) (m ((c.tc : Thread nD τ).loc main_arg4)) (m ((c.tc : Thread nD τ).loc main_arg5)) (KvBVal.normBack (m ((c.tc : Thread nD τ).loc main_arg0)) (m ((c.tc : Thread nD τ).loc main_arg1)) (m ((c.tc : Thread nD τ).loc main_arg2)))
    ∧ r.2.mem ((c.tc : Thread nD τ).loc main_v54) = tokArr (m ((c.tc : Thread nD τ).loc main_arg3)) (m ((c.tc : Thread nD τ).loc main_arg4)) (m ((c.tc : Thread nD τ).loc main_arg5)) (KvBVal.normBack (m ((c.tc : Thread nD τ).loc main_arg0)) (m ((c.tc : Thread nD τ).loc main_arg1)) (m ((c.tc : Thread nD τ).loc main_arg2)))
    ∧ r.2.mem ((c.tc : Thread nD τ).loc main_v55) = gainArr (m ((c.tc : Thread nD τ).loc main_arg3)) (KvBVal.normBack (m ((c.tc : Thread nD τ).loc main_arg0)) (m ((c.tc : Thread nD τ).loc main_arg1)) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  refine (θ_run defs _ _).mono (fun r h c => ⟨(h c).1.trans (ref_dh m c), (h c).2.1.trans (ref_dhh m c), (h c).2.2.1.trans ?_, (h c).2.2.2⟩) (Value.run m ρ)
  funext y
  change Cert.KvBIdeal.S1x1024.Idx at y
  obtain ⟨q, d, rfl⟩ : ∃ (q : Fin 1) (d : Fin 1024), y = ix2 q d := ⟨y 0, y 1, eq_ix2 y⟩
  pointwise
  simp only [Finset.univ_unique, Finset.sum_singleton, cot_cat m c]
  exact Finset.sum_congr rfl fun t _ => mul_comm _ _

end reference

/-- The kernel as printed ends, its arguments unchanged and every counter at zero. -/
theorem ends : quiescent_KvB (hKvB := Cert.KvB.Gen.facts) := fun m ρ _ => Cert.KvB.Gen.frame m ρ

/-- So does its exact form. -/
theorem ideal_ends : quiescent_KvBIdeal (hKvBIdeal := Cert.KvBIdeal.Gen.facts) := fun m ρ _ => Cert.KvBIdeal.Gen.frame m ρ

/-- So does the reference. -/
theorem ref_ends : quiescent_KvBRefIdeal (hKvBRefIdeal := Cert.KvBRefIdeal.Gen.facts) := fun m ρ _ =>
  (θ_run _ _ _).mono (fun r h => ⟨fun c => (h c).2.2.2, sem_eq_zero_of_no_sems (by decide) r.2⟩) (Cert.KvBRefIdeal.Value.run m ρ)

/-- Both programs' results are the tokens' gradient at both widths and the gain's gradient, as the same functions of the
    arguments. -/
theorem equal : algebraic_KvBIdeal_KvBRefIdeal (hKvBIdeal := Cert.KvBIdeal.Gen.facts) (hKvBRefIdeal := Cert.KvBRefIdeal.Gen.facts) := by
  intro m ρ m' ρ' _ hag
  refine ⟨fun c => tokArr (KvBVal.aH m c) (KvBVal.aG m c) (KvBVal.aZ m c) (KvBVal.normBack (KvBVal.aK m c) (KvBVal.aV m c) (KvBVal.aW m c)),
    fun c => tokArr (KvBVal.aH m c) (KvBVal.aG m c) (KvBVal.aZ m c) (KvBVal.normBack (KvBVal.aK m c) (KvBVal.aV m c) (KvBVal.aW m c)),
    fun c => gainArr (KvBVal.aH m c) (KvBVal.normBack (KvBVal.aK m c) (KvBVal.aV m c) (KvBVal.aW m c)),
    (θ_run _ _ _).mono (fun _ h c => ⟨(h c).1.trans (KvBVal.arr_dh m c), (h c).2.1.trans (KvBVal.arr_dhh m c),
      (h c).2.2.1.trans (KvBVal.arr_dg m c), (h c).2.2.2⟩) (Cert.KvBIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1, (hag c).2.2.1, (hag c).2.2.2.1, (hag c).2.2.2.2.1, (hag c).2.2.2.2.2]
  · rw [(hag c).1, (hag c).2.1, (hag c).2.2.1, (hag c).2.2.2.1, (hag c).2.2.2.2.1, (hag c).2.2.2.2.2]
  · rw [(hag c).1, (hag c).2.1, (hag c).2.2.1, (hag c).2.2.2.1]

end Cert.KvBClaims
-- ==== Proof.NormFwd.lean ====
/-
  A product of normalised tokens with weights: one block of 512 tokens, and whole arrays.
-/
module

public import proofs.«01_k».proof.Proof.NormBack
public import proofs.«01_k».proof.Proof.Cols

@[expose] public section

set_option maxRecDepth 16384

noncomputable section

namespace Cert.NormFwd

open Idealize.ShloMosaic Cert.MlpRow Cert.NormBack

/-- The normalised tokens of a block. -/
def blkN (h : Blk.Idx → EReal) (g : Row.Idx → EReal) : Blk.Idx → EReal :=
  fun y => h (ix2 (y 0) (y 1)) * scale (fun k => h (ix2 (y 0) k)) * g (ix2 0 (y 1))

/-- The product at token `r` of a block, device `p`, column `b` of the device. -/
def val {W : ℕ} (h : Blk.Idx → EReal) (g : Row.Idx → EReal) (w : (⟨4, ![4, 1, 1024, W]⟩ : Shape).Idx → EReal) (r : Fin 512) (p : Fin 4) (b : Fin W) : EReal :=
  act (fun x => h (ix2 r x)) (fun x => g (ix2 0 x)) (fun x : Fin 1024 => w (ix4 p 0 x b))

/-- THE NORMALISED TOKENS as an array. -/
def normArr (H : Arr.Idx → EReal) (G : Chan.Idx → EReal) : Arr.Idx → EReal :=
  fun y => H (ix2 (y 0) (y 1)) * scale (fun k => H (ix2 (y 0) k)) * G (ix1 (y 1))

/-- The product at token `t`, column `n`. -/
def prodAt {N : ℕ} (H : Arr.Idx → EReal) (G : Chan.Idx → EReal) (W : (⟨2, ![1024, N]⟩ : Shape).Idx → EReal) (t : Fin 8192) (n : Fin N) : EReal :=
  act (fun x => H (ix2 t x)) (fun x => G (ix1 x)) (fun x : Fin 1024 => W (ix2 x n))

/-- The column of the product that plane `s` holds at its column `d`. -/
theorem col_lt {P B N : ℕ} (hN : B * P = N) (s : Fin P) (d : Fin B) : B * s.val + d.val < N := by
  have h := Nat.mul_le_mul_left B (Nat.succ_le_of_lt s.isLt)
  have hd := d.isLt
  rw [Nat.mul_succ] at h
  omega

/-- THE PRODUCT as a stack of `P` planes of `B` columns. -/
def prodArr {P B N : ℕ} (hN : B * P = N) (H : Arr.Idx → EReal) (G : Chan.Idx → EReal) (W : (⟨2, ![1024, N]⟩ : Shape).Idx → EReal) :
    (⟨3, ![P, 8192, B]⟩ : Shape).Idx → EReal :=
  fun y => prodAt H G W (y 1) ⟨B * (y 0 : Fin P).val + (y 2 : Fin B).val, col_lt hN (y 0) (y 2)⟩

/-- A block of the normalised tokens is the array's, once its inputs are. -/
theorem blkN_eq (H : Arr.Idx → EReal) (G : Chan.Idx → EReal) (t : Fin 16) (h : Blk.Idx → EReal) (g : Row.Idx → EReal)
    (hh : ∀ r k, h (ix2 r k) = H (ix2 (tok t r) k)) (hg : ∀ k, g (ix2 0 k) = G (ix1 k)) (r : Fin 512) (d : Fin 1024) :
    blkN h g (ix2 r d) = normArr H G (ix2 (tok t r) d) := by
  show h (ix2 r d) * scale (fun k => h (ix2 r k)) * g (ix2 0 d) = H (ix2 (tok t r) d) * scale (fun k => H (ix2 (tok t r) k)) * G (ix1 d)
  simp only [hh, hg]

/-- A block's products are the array's, once its inputs are. -/
theorem val_eq {W N : ℕ} (H : Arr.Idx → EReal) (G : Chan.Idx → EReal) (V : (⟨2, ![1024, N]⟩ : Shape).Idx → EReal) (t : Fin 16) (h : Blk.Idx → EReal)
    (g : Row.Idx → EReal) (w : (⟨4, ![4, 1, 1024, W]⟩ : Shape).Idx → EReal) (hh : ∀ r k, h (ix2 r k) = H (ix2 (tok t r) k)) (hg : ∀ k, g (ix2 0 k) = G (ix1 k))
    (r : Fin 512) (p : Fin 4) (b : Fin W) (n : Fin N) (hw : ∀ k, w (ix4 p 0 k b) = V (ix2 k n)) :
    val h g w r p b = prodAt H G V (tok t r) n := by
  show act (fun x => h (ix2 r x)) (fun x => g (ix2 0 x)) (fun x : Fin 1024 => w (ix4 p 0 x b)) = act (fun x => H (ix2 (tok t r) x)) (fun x => G (ix1 x)) (fun x : Fin 1024 => V (ix2 x n))
  simp only [hh, hg, hw]

end Cert.NormFwd
-- ==== Proof.MlpFRun.lean ====
/-
  The feed-forward block on normalised tokens with its residual, on one block of tokens.
-/
module

public import proofs.«01_k».proof.Proof.NormFwd
public import proofs.«01_k».proof.Proof.Gen.MlpFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpFVal

open Idealize.ShloMosaic Idealize.ShloMosaic.TcCoe Idealize.SL.Sem Cert.MlpFIdeal Cert.MlpFIdeal.Gen Cert.MlpRow Cert.Wgrad Cert.NormFwd Cert.Cols

variable (x0 : Vec Ideal S512x1024 .f32) (x1 : Vec Ideal S1x1024 .f32) (x2 x3 : Vec Ideal S4x1x1024x1024 .bf16)

/-- The block's result at token `r`, channel `d`: the residual and the squared ramps' product, chunk by chunk. -/
def res (r : Fin 512) (d : Fin 1024) : EReal :=
  x0 (ix2 r d) + ∑ k : Fin 1024, ramp2 (val x0 x1 x2 r 0 k) * x3 (ix4 0 0 k d) + ∑ k : Fin 1024, ramp2 (val x0 x1 x2 r 1 k) * x3 (ix4 1 0 k d)
    + ∑ k : Fin 1024, ramp2 (val x0 x1 x2 r 2 k) * x3 (ix4 2 0 k d) + ∑ k : Fin 1024, ramp2 (val x0 x1 x2 r 3 k) * x3 (ix4 3 0 k d)

/-- The same as a block. -/
def blkOut : Vec Ideal S512x1024 .f32 := fun y => res x0 x1 x2 x3 (y 0) (y 1)

/-- The block of normalised tokens the body stores. -/
theorem outN_eq : out0_4 x0 x1 x2 x3 = blkN x0 x1 := by
  funext y
  refine canon_of_pieces _ _ ?_ y (cover0_4 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The block of hidden units the body stores. -/
theorem outA_eq : out0_5 x0 x1 x2 x3 = cols (B := 4096) (by omega) (val x0 x1 x2) := by
  funext y
  unfold_out out0_5
  refine canon_of_pieces _ _ ?_ y (cover0_5 _ _ _ _ y)
  rw [List.forall_mem_cons, List.forall_mem_cons, List.forall_mem_cons, List.forall_mem_cons]
  refine ⟨?_, ?_, ?_, ?_, fun _ h => (List.not_mem_nil h).elim⟩
  all_goals
    intro x
    dsimp only
    change S512x1024.Idx at x
    obtain ⟨r, d, rfl⟩ : ∃ (r : Fin 512) (d : Fin 1024), x = ix2 r d := ⟨x 0, x 1, eq_ix2 x⟩
  on_goal 1 => refine Eq.trans ?_ (cols_emb (o := 3072) _ (val x0 x1 x2) _ r d 3 d (by show 3072 + d.val = 1024 * 3 + d.val; omega) (by omega)).symm
  on_goal 2 => refine Eq.trans ?_ (cols_emb (o := 2048) _ (val x0 x1 x2) _ r d 2 d (by show 2048 + d.val = 1024 * 2 + d.val; omega) (by omega)).symm
  on_goal 3 => refine Eq.trans ?_ (cols_emb (o := 1024) _ (val x0 x1 x2) _ r d 1 d (by show 1024 + d.val = 1024 * 1 + d.val; omega) (by omega)).symm
  on_goal 4 => refine Eq.trans ?_ (cols_emb (o := 0) _ (val x0 x1 x2) _ r d 0 d (by show 0 + d.val = 1024 * 0 + d.val; omega) (by omega)).symm
  all_goals
    unfold_payloads
    pointwise
    rfl

/-- The block of results the body stores. -/
theorem outO_eq : out0_6 x0 x1 x2 x3 = blkOut x0 x1 x2 x3 := by
  funext y
  unfold_out out0_6
  refine canon_of_pieces _ _ ?_ y (cover0_6 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

end Cert.MlpFVal
-- ==== Proof.ResFwd.lean ====
/-
  A product added to a residual, its terms summed in four runs.
-/
module

public import proofs.«01_k».proof.Proof.Segs

@[expose] public section

set_option maxRecDepth 16384

noncomputable section

namespace Cert.ResFwd

open Idealize.ShloMosaic Cert.Segs

/-- Four runs of terms added one after the other to a residual are the whole sum added to it. -/
theorem res_eq {N : ℕ} (F : (n : ℕ) → n < N → EReal) (K : ℕ) (hN : K + K + K + K = N) (h : EReal) (f0 f1 f2 f3 : Fin K → EReal)
    (h0 : ∀ k : Fin K, ∃ hn : k.val < N, f0 k = F k.val hn) (h1 : ∀ k : Fin K, ∃ hn : K + k.val < N, f1 k = F (K + k.val) hn)
    (h2 : ∀ k : Fin K, ∃ hn : K + K + k.val < N, f2 k = F (K + K + k.val) hn) (h3 : ∀ k : Fin K, ∃ hn : K + K + K + k.val < N, f3 k = F (K + K + K + k.val) hn) :
    h + ∑ k, f0 k + ∑ k, f1 k + ∑ k, f2 k + ∑ k, f3 k = h + ∑ n : Fin N, F n.val n.isLt := by
  have e : ∑ k, f0 k + ∑ k, f1 k + ∑ k, f2 k + ∑ k, f3 k = part F 0 (K + K + K + K) :=
    part_step F _ K _ _ (part_step F _ K _ _ (part_step F _ K _ _ (part_first F K _ h0) h1) h2) h3
  rw [hN, part_all] at e
  rw [← e]
  simp only [add_assoc]

end Cert.ResFwd
-- ==== Proof.MlpFArr.lean ====
/-
  The feed-forward block on normalised tokens with its residual: the kernel's three output arrays.
-/
module

public import proofs.«01_k».proof.Proof.MlpFRun
public import proofs.«01_k».proof.Proof.ResFwd
public import Idealize.ShloMosaic.Lib.Pipeline.ValueKit
public import Idealize.ShloMosaic.Lib.Pointwise

@[expose] public section

set_option maxRecDepth 16384

noncomputable section

namespace Cert.MlpFVal

open Cert.Wgrad (ramp2)
open Idealize.ShloMosaic Idealize.ShloMosaic.TcCoe Idealize.SL.Sem Cert.MlpFIdeal Cert.MlpFIdeal.Gen Cert.MlpRow Cert.NormBack Cert.ResFwd Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![0, 0, 0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0, 0, 0] ∧ win0_3.index t = ![0, 0, 0, 0] ∧ win0_4.index t = ![t.val, 0] ∧ win0_5.index t = ![t.val, 0] ∧ win0_6.index t = ![t.val, 0])

/-- THE HIDDEN UNITS before the ramp. -/
def hidden (H : Vec Ideal S8192x1024 .f32) (G : Vec Ideal S1024 .f32) (W : Vec Ideal S1024x4096 .f32) : Vec Ideal S8192x4096 .bf16 :=
  fun y => prodAt H G W (y 0) (y 1)

/-- THE BLOCK'S RESULT: the residual and the product of the squared ramps with the second weights. -/
def total (H : Vec Ideal S8192x1024 .f32) (G : Vec Ideal S1024 .f32) (W : Vec Ideal S1024x4096 .f32) (D : Vec Ideal S4096x1024 .f32) : Vec Ideal S8192x1024 .f32 :=
  fun y => H (ix2 (y 0) (y 1)) + ∑ n : Fin 4096, ramp2 (prodAt H G W (y 0) n) * D (ix2 n (y 1))

/-- The tokens. -/
abbrev aH : Vec Ideal S8192x1024 .f32 := m ((c : Thread nD τ).loc main_arg0)
/-- The gain. -/
abbrev aG : Vec Ideal S1024 .f32 := m ((c : Thread nD τ).loc main_arg1)
/-- The first weights. -/
abbrev aW : Vec Ideal S1024x4096 .f32 := m ((c : Thread nD τ).loc main_arg2)
/-- The second weights. -/
abbrev aD : Vec Ideal S4096x1024 .f32 := m ((c : Thread nD τ).loc main_arg3)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readW (t : Fin cfg0.N) (p : Fin 4) (k : Fin 1024) (b : Fin 1024) :
    (iblk m c 2 t : Vec Ideal S4x1x1024x1024 .bf16) (ix4 p 0 k b) = aW m c (ix2 k ⟨1024 * p.val + b.val, by omega⟩) := by
  have he : (win0_2.blk t).view.emb (ix4 p 0 k b : S4x1x1024x1024.Idx) = (ix4 p 0 k b : S4x1x1024x1024.Idx) := by blk_ext [idx t]
  blk_simp [iblk]
  rw [he]
  entry_read
  pointwise
  exact congrArg (fun q => aW m c (ix2 k q)) (Fin.ext (by dsimp only; omega))

theorem readD (t : Fin cfg0.N) (p : Fin 4) (k : Fin 1024) (d : Fin 1024) :
    (iblk m c 3 t : Vec Ideal S4x1x1024x1024 .bf16) (ix4 p 0 k d) = aD m c (ix2 ⟨1024 * p.val + k.val, by omega⟩ d) := by
  have he : (win0_3.blk t).view.emb (ix4 p 0 k d : S4x1x1024x1024.Idx) = (ix4 p 0 k d : S4x1x1024x1024.Idx) := by blk_ext [idx t]
  blk_simp [iblk]
  rw [he]
  entry_read
  pointwise
  exact congrArg (fun q => aD m c (ix2 q d)) (Fin.ext (by dsimp only; omega))

/-- A block's hidden units are the array's. -/
theorem hid_eq (t : Fin cfg0.N) (r : Fin 512) (p : Fin 4) (k : Fin 1024) :
    val (iblk m c 0 t) (iblk m c 1 t) (iblk m c 2 t : Vec Ideal S4x1x1024x1024 .bf16) r p k = prodAt (aH m c) (aG m c) (aW m c) (tok t r) ⟨1024 * p.val + k.val, by omega⟩ :=
  val_eq _ _ _ t _ _ _ (readH m c t) (readG m c t) r p k _ fun x => readW m c t p x k

/-- THE NORMALISED TOKENS. -/
theorem arr_n : (dats m 0 c).arrAt 4 cfg0.N = normArr (aH m c) (aG m c) := by
  refine (dats m 0 c).arrAt_eq_of_covers 4 _ (by decide +kernel) fun t hf y => ?_
  blk_simp
  rw [after0_4, outN_eq]
  change S512x1024.Idx at y
  obtain ⟨r, d, rfl⟩ : ∃ (r : Fin 512) (d : Fin 1024), y = ix2 r d := ⟨y 0, y 1, eq_ix2 y⟩
  have he : (win0_4.blk t).view.emb (ix2 r d : S512x1024.Idx) = (ix2 (tok t r) d : S8192x1024.Idx) := by blk_ext [idx t, tok]
  rw [he]
  exact blkN_eq _ _ t _ _ (readH m c t) (readG m c t) r d

/-- THE HIDDEN UNITS. -/
theorem arr_a : (dats m 0 c).arrAt 5 cfg0.N = hidden (aH m c) (aG m c) (aW m c) := by
  refine (dats m 0 c).arrAt_eq_of_covers 5 _ (by decide +kernel) fun t hf y => ?_
  blk_simp
  rw [after0_5, outA_eq]
  change S512x4096.Idx at y
  obtain ⟨r, d, rfl⟩ : ∃ (r : Fin 512) (d : Fin 4096), y = ix2 r d := ⟨y 0, y 1, eq_ix2 y⟩
  have he : (win0_5.blk t).view.emb (ix2 r d : S512x4096.Idx) = (ix2 (tok t r) d : S8192x4096.Idx) := by blk_ext [idx t, tok]
  rw [he]
  exact cols_eq _ _ (fun n => prodAt (aH m c) (aG m c) (aW m c) (tok t r) n) r (fun p b hn => hid_eq m c t r p b) d

/-- THE RESULT. -/
theorem arr_o : (dats m 0 c).arrAt 6 cfg0.N = total (aH m c) (aG m c) (aW m c) (aD m c) := by
  refine (dats m 0 c).arrAt_eq_of_covers 6 _ (by decide +kernel) fun t hf y => ?_
  blk_simp
  rw [after0_6, outO_eq]
  change S512x1024.Idx at y
  obtain ⟨r, d, rfl⟩ : ∃ (r : Fin 512) (d : Fin 1024), y = ix2 r d := ⟨y 0, y 1, eq_ix2 y⟩
  have he : (win0_6.blk t).view.emb (ix2 r d : S512x1024.Idx) = (ix2 (tok t r) d : S8192x1024.Idx) := by blk_ext [idx t, tok]
  rw [he]
  show res _ _ _ _ r d = _
  unfold res
  simp only [hid_eq, readD, readH]
  exact res_eq (fun n hn => ramp2 (prodAt (aH m c) (aG m c) (aW m c) (tok t r) ⟨n, hn⟩) * aD m c (ix2 ⟨n, hn⟩ d)) 1024 rfl _ _ _ _ _
    (fun k => ⟨by omega, congrArg (fun q => ramp2 (prodAt (aH m c) (aG m c) (aW m c) (tok t r) q) * aD m c (ix2 q d)) (Fin.ext (by show 1024 * 0 + k.val = k.val; omega))⟩)
    (fun k => ⟨by omega, congrArg (fun q => ramp2 (prodAt (aH m c) (aG m c) (aW m c) (tok t r) q) * aD m c (ix2 q d)) (Fin.ext (by show 1024 * 1 + k.val = 1024 + k.val; omega))⟩)
    (fun k => ⟨by omega, congrArg (fun q => ramp2 (prodAt (aH m c) (aG m c) (aW m c) (tok t r) q) * aD m c (ix2 q d)) (Fin.ext (by show 1024 * 2 + k.val = 2048 + k.val; omega))⟩)
    (fun k => ⟨by omega, congrArg (fun q => ramp2 (prodAt (aH m c) (aG m c) (aW m c) (tok t r) q) * aD m c (ix2 q d)) (Fin.ext (by show 1024 * 3 + k.val = 3072 + k.val; omega))⟩)

end Cert.MlpFVal
-- ==== Proof.MlpFClaims.lean ====
/-
  The feed-forward block on normalised tokens with its residual: the reference's results, and the claims.
-/
module

public import proofs.«01_k».proof.Defs
public import proofs.«01_k».proof.Proof.Gen.MlpF.Frame
public import proofs.«01_k».proof.Proof.Gen.MlpFRefIdeal.Run
public import proofs.«01_k».proof.Proof.MlpFArr
public import Idealize.ShloMosaic.Lib.Quiescent

@[expose] public section

set_option maxRecDepth 16384

noncomputable section

namespace Cert.MlpFClaims

open Idealize.ShloMosaic Idealize.ShloMosaic.TcCoe Idealize.SL.Sem Cert.MlpRow Cert.Wgrad Cert.NormFwd

section reference

open Cert.MlpFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v14) = normArr (m ((c.tc : Thread nD τ).loc main_arg0)) (m ((c.tc : Thread nD τ).loc main_arg1))
    ∧ r.2.mem ((c.tc : Thread nD τ).loc main_v15) = MlpFVal.hidden (m ((c.tc : Thread nD τ).loc main_arg0)) (m ((c.tc : Thread nD τ).loc main_arg1)) (m ((c.tc : Thread nD τ).loc main_arg2))
    ∧ r.2.mem ((c.tc : Thread nD τ).loc main_v19) = MlpFVal.total (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (Value.run m ρ)
  · funext y
    change Cert.MlpFIdeal.S8192x1024.Idx at y
    obtain ⟨t, d, rfl⟩ : ∃ (t : Fin 8192) (d : Fin 1024), y = ix2 t d := ⟨y 0, y 1, eq_ix2 y⟩
    pointwise
    rfl
  · funext y
    change Cert.MlpFIdeal.S8192x4096.Idx at y
    obtain ⟨t, d, rfl⟩ : ∃ (t : Fin 8192) (d : Fin 4096), y = ix2 t d := ⟨y 0, y 1, eq_ix2 y⟩
    pointwise
    rfl
  · funext y
    change Cert.MlpFIdeal.S8192x1024.Idx at y
    obtain ⟨t, d, rfl⟩ : ∃ (t : Fin 8192) (d : Fin 1024), y = ix2 t d := ⟨y 0, y 1, eq_ix2 y⟩
    pointwise
    rfl

end reference

/-- The kernel as printed ends, its arguments unchanged and every counter at zero. -/
theorem ends : quiescent_MlpF (hMlpF := Cert.MlpF.Gen.facts) := fun m ρ _ => Cert.MlpF.Gen.frame m ρ

/-- So does its exact form. -/
theorem ideal_ends : quiescent_MlpFIdeal (hMlpFIdeal := Cert.MlpFIdeal.Gen.facts) := fun m ρ _ => Cert.MlpFIdeal.Gen.frame m ρ

/-- So does the reference. -/
theorem ref_ends : quiescent_MlpFRefIdeal (hMlpFRefIdeal := Cert.MlpFRefIdeal.Gen.facts) := fun m ρ _ =>
  (θ_run _ _ _).mono (fun r h => ⟨fun c => (h c).2.2.2, sem_eq_zero_of_no_sems (by decide) r.2⟩) (Cert.MlpFRefIdeal.Value.run m ρ)

/-- Both programs' results are the normalised tokens, the hidden units and the block's result, as the same functions of the arguments. -/
theorem equal : algebraic_MlpFIdeal_MlpFRefIdeal (hMlpFIdeal := Cert.MlpFIdeal.Gen.facts) (hMlpFRefIdeal := Cert.MlpFRefIdeal.Gen.facts) := by
  intro m ρ m' ρ' _ hag
  refine ⟨fun c => normArr (MlpFVal.aH m c) (MlpFVal.aG m c), fun c => MlpFVal.hidden (MlpFVal.aH m c) (MlpFVal.aG m c) (MlpFVal.aW m c), fun c => MlpFVal.total (MlpFVal.aH m c) (MlpFVal.aG m c) (MlpFVal.aW m c) (MlpFVal.aD m c),
    (θ_run _ _ _).mono (fun _ h c => ⟨(h c).1.trans (MlpFVal.arr_n m c), (h c).2.1.trans (MlpFVal.arr_a m c), (h c).2.2.1.trans (MlpFVal.arr_o m c), (h c).2.2.2⟩) (Cert.MlpFIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1]
  · rw [(hag c).1, (hag c).2.1, (hag c).2.2.1]
  · rw [(hag c).1, (hag c).2.1, (hag c).2.2.1, (hag c).2.2.2]

end Cert.MlpFClaims
-- ==== Proof.UpFRun.lean ====
/-
  The first feed-forward product on normalised tokens, on one block of tokens.
-/
module

public import proofs.«01_k».proof.Proof.NormFwd
public import proofs.«01_k».proof.Proof.Gen.UpFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpFVal

open Idealize.ShloMosaic Idealize.ShloMosaic.TcCoe Idealize.SL.Sem Cert.UpFIdeal Cert.UpFIdeal.Gen Cert.MlpRow Cert.NormFwd Cert.Cols

variable (x0 : Vec Ideal S512x1024 .f32) (x1 : Vec Ideal S1x1024 .f32) (x2 : Vec Ideal S4x1x1024x1024 .bf16)

/-- The block of normalised tokens the body stores. -/
theorem outN_eq : out0_3 x0 x1 x2 = blkN x0 x1 := by
  funext y
  refine canon_of_pieces _ _ ?_ y (cover0_3 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The block of products the body stores. -/
theorem outO_eq : out0_4 x0 x1 x2 = planes (B := 4096) (P := 1) (by omega) (val x0 x1 x2) := by
  funext y
  unfold_out out0_4
  refine canon_of_pieces _ _ ?_ y (cover0_4 _ _ _ _ _ _ _ _ y)
  rw [List.forall_mem_cons, List.forall_mem_cons, List.forall_mem_cons, List.forall_mem_cons, List.forall_mem_cons, List.forall_mem_cons, List.forall_mem_cons, List.forall_mem_cons]
  refine ⟨?_, ?_, ?_, ?_, ?_, ?_, ?_, ?_, fun _ h => (List.not_mem_nil h).elim⟩
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 3584) _ (val x0 x1 x2) _ (by omega) 0 r d 3 ⟨512 + d.val, by omega⟩ (by show 4096 * 0 + (3584 + d.val) = 1024 * 3 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 3072) _ (val x0 x1 x2) _ (by omega) 0 r d 3 ⟨d.val, by omega⟩ (by show 4096 * 0 + (3072 + d.val) = 1024 * 3 + d.val; omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 2560) _ (val x0 x1 x2) _ (by omega) 0 r d 2 ⟨512 + d.val, by omega⟩ (by show 4096 * 0 + (2560 + d.val) = 1024 * 2 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 2048) _ (val x0 x1 x2) _ (by omega) 0 r d 2 ⟨d.val, by omega⟩ (by show 4096 * 0 + (2048 + d.val) = 1024 * 2 + d.val; omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 1536) _ (val x0 x1 x2) _ (by omega) 0 r d 1 ⟨512 + d.val, by omega⟩ (by show 4096 * 0 + (1536 + d.val) = 1024 * 1 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 1024) _ (val x0 x1 x2) _ (by omega) 0 r d 1 ⟨d.val, by omega⟩ (by show 4096 * 0 + (1024 + d.val) = 1024 * 1 + d.val; omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 512) _ (val x0 x1 x2) _ (by omega) 0 r d 0 ⟨512 + d.val, by omega⟩ (by show 4096 * 0 + (512 + d.val) = 1024 * 0 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 4096) (s := 0) (o := 0) _ (val x0 x1 x2) _ (by omega) 0 r d 0 ⟨d.val, by omega⟩ (by show 4096 * 0 + (0 + d.val) = 1024 * 0 + d.val; omega) (by omega)).symm
    unfold_payloads
    pointwise
    rfl

end Cert.UpFVal
-- ==== Proof.UpFArr.lean ====
/-
  The first feed-forward product on normalised tokens: the kernel's two output arrays.
-/
module

public import proofs.«01_k».proof.Proof.UpFRun
public import Idealize.ShloMosaic.Lib.Pipeline.ValueKit
public import Idealize.ShloMosaic.Lib.Pointwise

@[expose] public section

set_option maxRecDepth 16384

noncomputable section

namespace Cert.UpFVal

open Idealize.ShloMosaic Idealize.ShloMosaic.TcCoe Idealize.SL.Sem Cert.UpFIdeal Cert.UpFIdeal.Gen Cert.MlpRow Cert.NormBack Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![t.val, 0] ∧ win0_4.index t = ![0, t.val, 0] :=
  (by decide +kernel : ∀ t : Fin grid0.N, win0_0.index t = ![t.val, 0] ∧ win0_1.index t = ![0, 0] ∧ win0_2.index t = ![0, 0, 0, 0] ∧ win0_3.index t = ![t.val, 0] ∧ win0_4.index t = ![0, t.val, 0])

/-- The tokens. -/
abbrev aH : Vec Ideal S8192x1024 .f32 := m ((c : Thread nD τ).loc main_arg0)
/-- The gain. -/
abbrev aG : Vec Ideal S1024 .f32 := m ((c : Thread nD τ).loc main_arg1)
/-- The weights. -/
abbrev aW : Vec Ideal S1024x4096 .f32 := m ((c : Thread nD τ).loc main_arg2)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readW (t : Fin cfg0.N) (p : Fin 4) (d : Fin 1024) (b : Fin 1024) :
    (iblk m c 2 t : Vec Ideal S4x1x1024x1024 .bf16) (ix4 p 0 d b) = aW m c (ix2 d ⟨1024 * p.val + b.val, by omega⟩) := by
  have he : (win0_2.blk t).view.emb (ix4 p 0 d b : S4x1x1024x1024.Idx) = (ix4 p 0 d b : S4x1x1024x1024.Idx) := by blk_ext [idx t]
  blk_simp [iblk]
  rw [he]
  entry_read
  pointwise
  exact congrArg (fun q => aW m c (ix2 d q)) (Fin.ext (by dsimp only; omega))

/-- THE NORMALISED TOKENS. -/
theorem arr_n : (dats m 0 c).arrAt 3 cfg0.N = normArr (aH m c) (aG m c) := by
  refine (dats m 0 c).arrAt_eq_of_covers 3 _ (by decide +kernel) fun t hf y => ?_
  blk_simp
  rw [after0_3, outN_eq]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  exact blkN_eq _ _ t _ _ (readH m c t) (readG m c t) r d

/-- THE PRODUCTS. -/
theorem arr_o : (dats m 0 c).arrAt 4 cfg0.N = prodArr (P := 1) (B := 4096) rfl (aH m c) (aG m c) (aW m c) := by
  refine (dats m 0 c).arrAt_eq_of_covers 4 _ (by decide +kernel) fun t hf y => ?_
  blk_simp
  rw [after0_4, outO_eq]
  change S1x512x4096.Idx at y
  obtain ⟨s, r, d, rfl⟩ : ∃ (s : Fin 1) (r : Fin 512) (d : Fin 4096), y = ix3 s r d := ⟨y 0, y 1, y 2, eq_ix3 y⟩
  have he : (win0_4.blk t).view.emb (ix3 s r d : S1x512x4096.Idx) = (ix3 s (tok t r) d : S1x8192x4096.Idx) := by blk_ext [idx t, tok]
  rw [he]
  exact planes_eq _ _ (fun n hn => prodAt (aH m c) (aG m c) (aW m c) (tok t r) ⟨n, hn⟩) s r d
    (fun p b hn => val_eq _ _ _ t _ _ _ (readH m c t) (readG m c t) r p b _ fun k => readW m c t p k b) (by omega)

end Cert.UpFVal
-- ==== Proof.UpFClaims.lean ====
/-
  The first feed-forward product on normalised tokens: the reference's results, and the claims.
-/
module

public import proofs.«01_k».proof.Defs
public import proofs.«01_k».proof.Proof.Gen.UpF.Frame
public import proofs.«01_k».proof.Proof.Gen.UpFRefIdeal.Run
public import proofs.«01_k».proof.Proof.UpFArr
public import Idealize.ShloMosaic.Lib.Quiescent

@[expose] public section

set_option maxRecDepth 16384

noncomputable section

namespace Cert.UpFClaims

open Idealize.ShloMosaic Idealize.ShloMosaic.TcCoe Idealize.SL.Sem Cert.MlpRow Cert.NormBack Cert.NormFwd

section reference

open Cert.UpFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_v16) = prodArr (P := 1) (B := 4096) (N := 4096) rfl (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · funext y
    change Cert.UpFIdeal.S8192x1024.Idx at y
    obtain ⟨t, d, rfl⟩ : ∃ (t : Fin 8192) (d : Fin 1024), y = ix2 t d := ⟨y 0, y 1, eq_ix2 y⟩
    pointwise
    rfl
  · funext y
    change Cert.UpFIdeal.S1x8192x4096.Idx at y
    obtain ⟨s, t, d, rfl⟩ : ∃ (s : Fin 1) (t : Fin 8192) (d : Fin 4096), y = ix3 s t d := ⟨y 0, y 1, y 2, eq_ix3 y⟩
    obtain rfl : s = 0 := Subsingleton.elim _ _
    pointwise
    exact congrArg (prodAt (m ((c.tc : Thread nD τ).loc main_arg0)) (m ((c.tc : Thread nD τ).loc main_arg1)) (m ((c.tc : Thread nD τ).loc main_arg2)) t)
      (Fin.ext (by show d.val = 4096 * 0 + d.val; omega))

end reference

/-- The kernel as printed ends, its arguments unchanged and every counter at zero. -/
theorem ends : quiescent_UpF (hUpF := Cert.UpF.Gen.facts) := fun m ρ _ => Cert.UpF.Gen.frame m ρ

/-- So does its exact form. -/
theorem ideal_ends : quiescent_UpFIdeal (hUpFIdeal := Cert.UpFIdeal.Gen.facts) := fun m ρ _ => Cert.UpFIdeal.Gen.frame m ρ

/-- So does the reference. -/
theorem ref_ends : quiescent_UpFRefIdeal (hUpFRefIdeal := Cert.UpFRefIdeal.Gen.facts) := fun m ρ _ =>
  (θ_run _ _ _).mono (fun r h => ⟨fun c => (h c).2.2, sem_eq_zero_of_no_sems (by decide) r.2⟩) (Cert.UpFRefIdeal.Value.run m ρ)

/-- Both programs' results are the normalised tokens and their product with the weights, as the same functions of the arguments. -/
theorem equal : algebraic_UpFIdeal_UpFRefIdeal (hUpFIdeal := Cert.UpFIdeal.Gen.facts) (hUpFRefIdeal := Cert.UpFRefIdeal.Gen.facts) := by
  intro m ρ m' ρ' _ hag
  refine ⟨fun c => normArr (UpFVal.aH m c) (UpFVal.aG m c), fun c => prodArr (P := 1) (B := 4096) (N := 4096) rfl (UpFVal.aH m c) (UpFVal.aG m c) (UpFVal.aW m c),
    (θ_run _ _ _).mono (fun _ h c => ⟨(h c).1.trans (UpFVal.arr_n m c), (h c).2.1.trans (UpFVal.arr_o m c), (h c).2.2⟩) (Cert.UpFIdeal.Value.run_blocks m ρ),
    (θ_run _ _ _).mono (fun _ h c => ⟨(h c).1.trans ?_, (h c).2.1.trans ?_, (h c).2.2⟩) (ref_run m' ρ')⟩
  · rw [(hag c).1, (hag c).2.1]
  · rw [(hag c).1, (hag c).2.1, (hag c).2.2]

end Cert.UpFClaims
-- ==== Proof.DownFRun.lean ====
/-
  The second feed-forward product with its residual, on one block of tokens.
-/
module

public import proofs.«01_k».proof.Proof.Cols
public import proofs.«01_k».proof.Proof.Gen.DownFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownFVal

open Idealize.ShloMosaic Idealize.ShloMosaic.TcCoe Idealize.SL.Sem Cert.DownFIdeal Cert.DownFIdeal.Gen Cert.Cols Cert.Wgrad

variable (x0 : Vec Ideal S512x4096 .bf16) (x1 : Vec Ideal S4x1x1024x1024 .bf16) (x2 : Vec Ideal S512x1024 .f32)

/-- The sum at token `r` of the block, channel `d`: the residual and the product, device by device. -/
def res (r : Fin 512) (d : Fin 1024) : EReal :=
  x2 (ix2 r d) + ∑ k : Fin 1024, ramp2 (x0 (ix2 r ⟨k.val, by omega⟩)) * x1 (ix4 0 0 k d) + ∑ k : Fin 1024, ramp2 (x0 (ix2 r ⟨1024 + k.val, by omega⟩)) * x1 (ix4 1 0 k d)
    + ∑ k : Fin 1024, ramp2 (x0 (ix2 r ⟨2048 + k.val, by omega⟩)) * x1 (ix4 2 0 k d) + ∑ k : Fin 1024, ramp2 (x0 (ix2 r ⟨3072 + k.val, by omega⟩)) * x1 (ix4 3 0 k d)

/-- The same as a block. -/
def blk : Vec Ideal S512x1024 .f32 := fun y => res x0 x1 x2 (y 0) (y 1)

/-- THE BLOCK the body stores. -/
theorem out_eq : out0_3 x0 x1 x2 = blk x0 x1 x2 := by
  funext y
  refine canon_of_pieces _ _ ?_ y (cover0_3 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

end Cert.DownFVal
-- ==== Proof.DownFArr.lean ====
/-
  The second feed-forward product with its residual: the kernel's output array.
-/
module

public import proofs.«01_k».proof.Proof.DownFRun
public import proofs.«01_k».proof.Proof.ResFwd
public import proofs.«01_k».proof.Proof.NormBack
public import Idealize.ShloMosaic.Lib.Pipeline.ValueKit
public import Idealize.ShloMosaic.Lib.Pointwise

@[expose] public section

set_option maxRecDepth 16384

noncomputable section

namespace Cert.DownFVal

open Cert.Wgrad (ramp2)
open Idealize.ShloMosaic Idealize.ShloMosaic.TcCoe Idealize.SL.Sem Cert.DownFIdeal Cert.DownFIdeal.Gen Cert.MlpRow Cert.NormBack Cert.ResFwd

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, win0_0.index t = ![t.val, 0] ∧ win0_1.index t = ![0, 0, 0, 0] ∧ win0_2.index t = ![t.val, 0] ∧ win0_3.index t = ![t.val, 0])

/-- THE SUM: the residual and the product of the row with the weights' column. -/
def total (A : Vec Ideal S8192x4096 .bf16) (W : Vec Ideal S4096x1024 .f32) (H : Vec Ideal S8192x1024 .f32) : Vec Ideal S8192x1024 .f32 :=
  fun y => H (ix2 (y 0) (y 1)) + ∑ n : Fin 4096, ramp2 (A (ix2 (y 0) n)) * W (ix2 n (y 1))

/-- The rows. -/
abbrev aA : Vec Ideal S8192x4096 .bf16 := m ((c : Thread nD τ).loc main_arg0)
/-- The weights. -/
abbrev aW : Vec Ideal S4096x1024 .f32 := m ((c : Thread nD τ).loc main_arg1)
/-- The residual. -/
abbrev aH : Vec Ideal S8192x1024 .f32 := m ((c : Thread nD τ).loc main_arg2)

theorem readA (t : Fin cfg0.N) (r : Fin 512) (k : Fin 4096) : (iblk m c 0 t : Vec Ideal S512x4096 .bf16) (ix2 r k) = aA m c (ix2 (tok t r) k) := by
  blk_ext [iblk, V, idx t, tok]

theorem readW (t : Fin cfg0.N) (p : Fin 4) (k : Fin 1024) (d : Fin 1024) :
    (iblk m c 1 t : Vec Ideal S4x1x1024x1024 .bf16) (ix4 p 0 k d) = aW m c (ix2 ⟨1024 * p.val + k.val, by omega⟩ d) := by
  have he : (win0_1.blk t).view.emb (ix4 p 0 k d : S4x1x1024x1024.Idx) = (ix4 p 0 k d : S4x1x1024x1024.Idx) := by blk_ext [idx t]
  blk_simp [iblk]
  rw [he]
  entry_read
  pointwise
  exact congrArg (fun q => aW m c (ix2 q d)) (Fin.ext (by dsimp only; omega))

theorem readH (t : Fin cfg0.N) (r : Fin 512) (k : Fin 1024) : (iblk m c 2 t : Vec Ideal S512x1024 .f32) (ix2 r k) = aH m c (ix2 (tok t r) k) := by
  blk_ext [iblk, V, idx t, tok]

/-- THE OUTPUT ARRAY. -/
theorem arr : (dats m 0 c).arrAt 3 cfg0.N = total (aA m c) (aW m c) (aH m c) := by
  refine (dats m 0 c).arrAt_eq_of_covers 3 _ (by decide +kernel) fun t hf y => ?_
  blk_simp
  rw [after0_3, out_eq]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  show res _ _ _ r d = _
  unfold res
  simp only [readA, readW, readH]
  exact res_eq (fun n hn => ramp2 (aA m c (ix2 (tok t r) ⟨n, hn⟩)) * aW m c (ix2 ⟨n, hn⟩ d)) 1024 rfl _ _ _ _ _
    (fun k => ⟨by omega, congrArg₂ (· * ·) rfl (congrArg (fun q => aW m c (ix2 q d)) (Fin.ext (by show 1024 * 0 + k.val = k.val; omega)))⟩)
    (fun k => ⟨by omega, congrArg₂ (· * ·) rfl (congrArg (fun q => aW m c (ix2 q d)) (Fin.ext (by show 1024 * 1 + k.val = 1024 + k.val; omega)))⟩)
    (fun k => ⟨by omega, congrArg₂ (· * ·) rfl (congrArg (fun q => aW m c (ix2 q d)) (Fin.ext (by show 1024 * 2 + k.val = 2048 + k.val; omega)))⟩)
    (fun k => ⟨by omega, congrArg₂ (· * ·) rfl (congrArg (fun q => aW m c (ix2 q d)) (Fin.ext (by show 1024 * 3 + k.val = 3072 + k.val; omega)))⟩)

end Cert.DownFVal
-- ==== Proof.DownFClaims.lean ====
/-
  The second feed-forward product with its residual: the reference's results, and the claims.
-/
module

public import proofs.«01_k».proof.Defs
public import proofs.«01_k».proof.Proof.Gen.DownF.Frame
public import proofs.«01_k».proof.Proof.Gen.DownFRefIdeal.Run
public import proofs.«01_k».proof.Proof.DownFArr
public import Idealize.ShloMosaic.Lib.Quiescent

@[expose] public section

set_option maxRecDepth 16384

noncomputable section

namespace Cert.DownFClaims

open Idealize.ShloMosaic Idealize.ShloMosaic.TcCoe Idealize.SL.Sem Cert.Wgrad

section reference

open Cert.DownFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v4) = DownFVal.total (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.DownFIdeal.S8192x1024.Idx at y
  obtain ⟨t, d, rfl⟩ : ∃ (t : Fin 8192) (d : Fin 1024), y = ix2 t d := ⟨y 0, y 1, eq_ix2 y⟩
  pointwise
  rfl

end reference

/-- The kernel as printed ends, its arguments unchanged and every counter at zero. -/
theorem ends : quiescent_DownF (hDownF := Cert.DownF.Gen.facts) := fun m ρ _ => Cert.DownF.Gen.frame m ρ

/-- So does its exact form. -/
theorem ideal_ends : quiescent_DownFIdeal (hDownFIdeal := Cert.DownFIdeal.Gen.facts) := fun m ρ _ => Cert.DownFIdeal.Gen.frame m ρ

/-- So does the reference. -/
theorem ref_ends : quiescent_DownFRefIdeal (hDownFRefIdeal := Cert.DownFRefIdeal.Gen.facts) := fun m ρ _ =>
  (θ_run _ _ _).mono (fun r h => ⟨fun c => (h c).2, sem_eq_zero_of_no_sems (by decide) r.2⟩) (Cert.DownFRefIdeal.Value.run m ρ)

/-- Both programs' result is the residual with the product added, as the same function of the arguments. -/
theorem equal : algebraic_DownFIdeal_DownFRefIdeal (hDownFIdeal := Cert.DownFIdeal.Gen.facts) (hDownFRefIdeal := Cert.DownFRefIdeal.Gen.facts) := by
  intro m ρ m' ρ' _ hag
  refine ⟨fun c => DownFVal.total (DownFVal.aA m c) (DownFVal.aW m c) (DownFVal.aH m c),
    (θ_run _ _ _).mono (fun _ h c => ⟨(h c).1.trans (DownFVal.arr m c), (h c).2⟩) (Cert.DownFIdeal.Value.run_blocks m ρ),
    (θ_run _ _ _).mono (fun _ h c => ⟨(h c).1.trans ?_, (h c).2⟩) (ref_run m' ρ')⟩
  rw [(hag c).1, (hag c).2.1, (hag c).2.2]

end Cert.DownFClaims
-- ==== Proof.AinFRun.lean ====
/-
  The short convolution's input product on normalised tokens, on one block of tokens.
-/
module

public import proofs.«01_k».proof.Proof.NormFwd
public import proofs.«01_k».proof.Proof.Gen.AinFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AinFVal

open Idealize.ShloMosaic Idealize.ShloMosaic.TcCoe Idealize.SL.Sem Cert.AinFIdeal Cert.AinFIdeal.Gen Cert.MlpRow Cert.NormFwd Cert.Cols

section pieces

variable (c : Dev nD) (i : grid0.Coords) (arg1 : Memref sig .tc .vmem S512x1024 .f32) (harg1 : arg1.IsWhole) (arg2 : Memref sig .tc .vmem S1x1024 .f32) (harg2 : arg2.IsWhole)
    (arg3 : Memref sig .tc .vmem S4x1x1024x768 .bf16) (harg3 : arg3.IsWhole) (arg4 : Memref sig .tc .vmem S512x1024 .bf16) (harg4 : arg4.IsWhole)
    (arg5 : Memref sig .tc .vmem S3x512x1024 .bf16) (harg5 : arg5.IsWhole)
    (x0 : Vec Ideal S512x1024 .f32) (x1 : Vec Ideal S1x1024 .f32) (x2 : Vec Ideal S4x1x1024x768 .bf16)

/-- The piece stored for the normalised tokens is their closed block. -/
theorem pcsN_eq : ∀ p ∈ (kernelRun0_A c i arg1 harg1 arg2 harg2 arg3 harg3 arg4 harg4 arg5 harg5 x0 x1 x2).1, ∀ x, p.2 x = blkN x0 x1 (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The pieces stored for the products are their closed block. -/
theorem pcsO_eq : ∀ p ∈ (kernelRun0_A c i arg1 harg1 arg2 harg2 arg3 harg3 arg4 harg4 arg5 harg5 x0 x1 x2).2.1, ∀ x, p.2 x = planes (B := 1024) (P := 3) (by omega) (val x0 x1 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons, List.forall_mem_cons, List.forall_mem_cons, List.forall_mem_cons, List.forall_mem_cons, List.forall_mem_cons, List.forall_mem_cons, List.forall_mem_cons]
  refine ⟨?_, ?_, ?_, ?_, ?_, ?_, ?_, ?_, fun _ h => (List.not_mem_nil h).elim⟩
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 2) (o := 768) _ (val x0 x1 x2) _ (by omega) 0 r d 3 ⟨512 + d.val, by omega⟩ (by show 1024 * 2 + (768 + d.val) = 768 * 3 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 2) (o := 256) _ (val x0 x1 x2) _ (by omega) 0 r d 3 ⟨d.val, by omega⟩ (by show 1024 * 2 + (256 + d.val) = 768 * 3 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 2) (o := 0) _ (val x0 x1 x2) _ (by omega) 0 r d 2 ⟨512 + d.val, by omega⟩ (by show 1024 * 2 + (0 + d.val) = 768 * 2 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 1) (o := 512) _ (val x0 x1 x2) _ (by omega) 0 r d 2 ⟨d.val, by omega⟩ (by show 1024 * 1 + (512 + d.val) = 768 * 2 + d.val; omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 1) (o := 0) _ (val x0 x1 x2) _ (by omega) 0 r d 1 ⟨256 + d.val, by omega⟩ (by show 1024 * 1 + (0 + d.val) = 768 * 1 + (256 + d.val); omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 0) (o := 768) _ (val x0 x1 x2) _ (by omega) 0 r d 1 ⟨d.val, by omega⟩ (by show 1024 * 0 + (768 + d.val) = 768 * 1 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 0) (o := 512) _ (val x0 x1 x2) _ (by omega) 0 r d 0 ⟨512 + d.val, by omega⟩ (by show 1024 * 0 + (512 + d.val) = 768 * 0 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 0) (o := 0) _ (val x0 x1 x2) _ (by omega) 0 r d 0 ⟨d.val, by omega⟩ (by show 1024 * 0 + (0 + d.val) = 768 * 0 + d.val; omega) (by omega)).symm
    unfold_payloads
    pointwise
    rfl

end pieces

variable (m : (ℓ : Loc nD τ sig) → Buf (Elt Ideal) ℓ)

/-- After every point the block holds the normalised tokens. -/
theorem outsN (c : Dev nD) (t : Fin cfg0.N) : (outsAt0 m c t).1 = blkN (iblk m c 0 t) (iblk m c 1 t) := by
  unfold outsAt0
  dsimp only
  unfold out0_A_3
  funext y
  refine View.read_writes_apply_of_pieces VO0_3 _ _ _ ?_ y (cover0_A_3 ..)
  apply pcsN_eq

/-- After every point the block holds the products. -/
theorem outsO (c : Dev nD) (t : Fin cfg0.N) : (outsAt0 m c t).2 = planes (B := 1024) (P := 3) (by omega) (val (iblk m c 0 t) (iblk m c 1 t) (iblk m c 2 t)) := by
  unfold outsAt0
  dsimp only
  unfold out0_A_4
  funext y
  refine View.read_writes_apply_of_pieces VO0_4 _ _ _ ?_ y (cover0_A_4 ..)
  apply pcsO_eq

end Cert.AinFVal
-- ==== Proof.AinFArr.lean ====
/-
  The short convolution's input product on normalised tokens: the kernel's two output arrays.
-/
module

public import proofs.«01_k».proof.Proof.AinFRun
public import Idealize.ShloMosaic.Lib.Pipeline.ValueKit
public import Idealize.ShloMosaic.Lib.Pointwise

@[expose] public section

set_option maxRecDepth 16384

noncomputable section

namespace Cert.AinFVal

open Idealize.ShloMosaic Idealize.ShloMosaic.TcCoe Idealize.SL.Sem Cert.AinFIdeal Cert.AinFIdeal.Gen Cert.MlpRow Cert.NormBack Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![t.val, 0] ∧ win0_4.index t = ![0, t.val, 0] :=
  (by decide +kernel : ∀ t : Fin grid0.N, win0_0.index t = ![t.val, 0] ∧ win0_1.index t = ![0, 0] ∧ win0_2.index t = ![0, 0, 0, 0] ∧ win0_3.index t = ![t.val, 0] ∧ win0_4.index t = ![0, t.val, 0])

/-- The tokens. -/
abbrev aH : Vec Ideal S8192x1024 .f32 := m ((c : Thread nD τ).loc main_arg0)
/-- The gain. -/
abbrev aG : Vec Ideal S1024 .f32 := m ((c : Thread nD τ).loc main_arg1)
/-- The weights. -/
abbrev aW : Vec Ideal S1024x3072 .f32 := m ((c : Thread nD τ).loc main_arg2)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readW (t : Fin cfg0.N) (p : Fin 4) (d : Fin 1024) (b : Fin 768) :
    (iblk m c 2 t : Vec Ideal S4x1x1024x768 .bf16) (ix4 p 0 d b) = aW m c (ix2 d ⟨768 * p.val + b.val, by omega⟩) := by
  have he : (win0_2.blk t).view.emb (ix4 p 0 d b : S4x1x1024x768.Idx) = (ix4 p 0 d b : S4x1x1024x768.Idx) := by blk_ext [idx t]
  blk_simp [iblk]
  rw [he]
  entry_read
  pointwise
  exact congrArg (fun q => aW m c (ix2 d q)) (Fin.ext (by dsimp only; omega))

/-- THE NORMALISED TOKENS. -/
theorem arr_n : (dats m 0 c).arrAt 3 cfg0.N = normArr (aH m c) (aG m c) := by
  refine (dats m 0 c).arrAt_eq_of_covers 3 _ (by decide +kernel) fun t hf y => ?_
  blk_simp
  rw [after0_3, outsN]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  exact blkN_eq _ _ t _ _ (readH m c t) (readG m c t) r d

/-- THE PRODUCTS. -/
theorem arr_o : (dats m 0 c).arrAt 4 cfg0.N = prodArr (P := 3) (B := 1024) rfl (aH m c) (aG m c) (aW m c) := by
  refine (dats m 0 c).arrAt_eq_of_covers 4 _ (by decide +kernel) fun t hf y => ?_
  blk_simp
  rw [after0_4, outsO]
  change S3x512x1024.Idx at y
  obtain ⟨s, r, d, rfl⟩ : ∃ (s : Fin 3) (r : Fin 512) (d : Fin 1024), y = ix3 s r d := ⟨y 0, y 1, y 2, eq_ix3 y⟩
  have he : (win0_4.blk t).view.emb (ix3 s r d : S3x512x1024.Idx) = (ix3 s (tok t r) d : S3x8192x1024.Idx) := by blk_ext [idx t, tok]
  rw [he]
  exact planes_eq _ _ (fun n hn => prodAt (aH m c) (aG m c) (aW m c) (tok t r) ⟨n, hn⟩) s r d
    (fun p b hn => val_eq _ _ _ t _ _ _ (readH m c t) (readG m c t) r p b _ fun k => readW m c t p k b) (by omega)

end Cert.AinFVal
-- ==== Proof.AinFClaims.lean ====
/-
  The short convolution's input product on normalised tokens: the reference's results, and the claims.
-/
module

public import proofs.«01_k».proof.Defs
public import proofs.«01_k».proof.Proof.Gen.AinF.Frame
public import proofs.«01_k».proof.Proof.Gen.AinFRefIdeal.Run
public import proofs.«01_k».proof.Proof.AinFArr
public import Idealize.ShloMosaic.Lib.Quiescent

@[expose] public section

set_option maxRecDepth 16384

noncomputable section

namespace Cert.AinFClaims

open Idealize.ShloMosaic Idealize.ShloMosaic.TcCoe Idealize.SL.Sem Cert.MlpRow Cert.NormBack Cert.NormFwd

section reference

open Cert.AinFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_v22) = prodArr (P := 3) (B := 1024) (N := 3072) rfl (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · funext y
    change Cert.AinFIdeal.S8192x1024.Idx at y
    obtain ⟨t, d, rfl⟩ : ∃ (t : Fin 8192) (d : Fin 1024), y = ix2 t d := ⟨y 0, y 1, eq_ix2 y⟩
    pointwise
    rfl
  · funext y
    change Cert.AinFIdeal.S3x8192x1024.Idx at y
    obtain ⟨s, t, d, rfl⟩ : ∃ (s : Fin 3) (t : Fin 8192) (d : Fin 1024), y = ix3 s t d := ⟨y 0, y 1, y 2, eq_ix3 y⟩
    fin_cases s
    all_goals pointwise
    · exact congrArg (prodAt (m ((c.tc : Thread nD τ).loc main_arg0)) (m ((c.tc : Thread nD τ).loc main_arg1)) (m ((c.tc : Thread nD τ).loc main_arg2)) t) (Fin.ext (by show d.val = 1024 * 0 + d.val; omega))
    · exact congrArg (prodAt (m ((c.tc : Thread nD τ).loc main_arg0)) (m ((c.tc : Thread nD τ).loc main_arg1)) (m ((c.tc : Thread nD τ).loc main_arg2)) t) (Fin.ext (by show 1024 + d.val = 1024 * 1 + d.val; omega))
    · exact congrArg (prodAt (m ((c.tc : Thread nD τ).loc main_arg0)) (m ((c.tc : Thread nD τ).loc main_arg1)) (m ((c.tc : Thread nD τ).loc main_arg2)) t) (Fin.ext (by show 2048 + d.val = 1024 * 2 + d.val; omega))

end reference

/-- The kernel as printed ends, its arguments unchanged and every counter at zero. -/
theorem ends : quiescent_AinF (hAinF := Cert.AinF.Gen.facts) := fun m ρ _ => Cert.AinF.Gen.frame m ρ

/-- So does its exact form. -/
theorem ideal_ends : quiescent_AinFIdeal (hAinFIdeal := Cert.AinFIdeal.Gen.facts) := fun m ρ _ => Cert.AinFIdeal.Gen.frame m ρ

/-- So does the reference. -/
theorem ref_ends : quiescent_AinFRefIdeal (hAinFRefIdeal := Cert.AinFRefIdeal.Gen.facts) := fun m ρ _ =>
  (θ_run _ _ _).mono (fun r h => ⟨fun c => (h c).2.2, sem_eq_zero_of_no_sems (by decide) r.2⟩) (Cert.AinFRefIdeal.Value.run m ρ)

/-- Both programs' results are the normalised tokens and their product with the weights, as the same functions of the arguments. -/
theorem equal : algebraic_AinFIdeal_AinFRefIdeal (hAinFIdeal := Cert.AinFIdeal.Gen.facts) (hAinFRefIdeal := Cert.AinFRefIdeal.Gen.facts) := by
  intro m ρ m' ρ' _ hag
  refine ⟨fun c => normArr (AinFVal.aH m c) (AinFVal.aG m c), fun c => prodArr (P := 3) (B := 1024) (N := 3072) rfl (AinFVal.aH m c) (AinFVal.aG m c) (AinFVal.aW m c),
    (θ_run _ _ _).mono (fun _ h c => ⟨(h c).1.trans (AinFVal.arr_n m c), (h c).2.1.trans (AinFVal.arr_o m c), (h c).2.2⟩) (Cert.AinFIdeal.Value.run_blocks m ρ),
    (θ_run _ _ _).mono (fun _ h c => ⟨(h c).1.trans ?_, (h c).2.1.trans ?_, (h c).2.2⟩) (ref_run m' ρ')⟩
  · rw [(hag c).1, (hag c).2.1]
  · rw [(hag c).1, (hag c).2.1, (hag c).2.2]

end Cert.AinFClaims
-- ==== Proof.AoutFRun.lean ====
/-
  The short convolution's output product with its residual, on one block of tokens.
-/
module

public import proofs.«01_k».proof.Proof.Cols
public import proofs.«01_k».proof.Proof.Gen.AoutFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AoutFVal

open Idealize.ShloMosaic Idealize.ShloMosaic.TcCoe Idealize.SL.Sem Cert.AoutFIdeal Cert.AoutFIdeal.Gen Cert.Cols Cert.Wgrad

variable (x0 : Vec Ideal S512x1024 .bf16) (x1 : Vec Ideal S4x1x256x1024 .bf16) (x2 : Vec Ideal S512x1024 .f32)

/-- The sum at token `r` of the block, channel `d`: the residual and the product, device by device. -/
def res (r : Fin 512) (d : Fin 1024) : EReal :=
  x2 (ix2 r d) + ∑ k : Fin 256, x0 (ix2 r ⟨k.val, by omega⟩) * x1 (ix4 0 0 k d) + ∑ k : Fin 256, x0 (ix2 r ⟨256 + k.val, by omega⟩) * x1 (ix4 1 0 k d)
    + ∑ k : Fin 256, x0 (ix2 r ⟨512 + k.val, by omega⟩) * x1 (ix4 2 0 k d) + ∑ k : Fin 256, x0 (ix2 r ⟨768 + k.val, by omega⟩) * x1 (ix4 3 0 k d)

/-- The same as a block. -/
def blk : Vec Ideal S512x1024 .f32 := fun y => res x0 x1 x2 (y 0) (y 1)

/-- THE BLOCK the body stores. -/
theorem out_eq : out0_3 x0 x1 x2 = blk x0 x1 x2 := by
  funext y
  refine canon_of_pieces _ _ ?_ y (cover0_3 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

end Cert.AoutFVal
-- ==== Proof.AoutFArr.lean ====
/-
  The short convolution's output product with its residual: the kernel's output array.
-/
module

public import proofs.«01_k».proof.Proof.AoutFRun
public import proofs.«01_k».proof.Proof.ResFwd
public import proofs.«01_k».proof.Proof.NormBack
public import Idealize.ShloMosaic.Lib.Pipeline.ValueKit
public import Idealize.ShloMosaic.Lib.Pointwise

@[expose] public section

set_option maxRecDepth 16384

noncomputable section

namespace Cert.AoutFVal

open Cert.Wgrad (ramp2)
open Idealize.ShloMosaic Idealize.ShloMosaic.TcCoe Idealize.SL.Sem Cert.AoutFIdeal Cert.AoutFIdeal.Gen Cert.MlpRow Cert.NormBack Cert.ResFwd

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, win0_0.index t = ![t.val, 0] ∧ win0_1.index t = ![0, 0, 0, 0] ∧ win0_2.index t = ![t.val, 0] ∧ win0_3.index t = ![t.val, 0])

/-- THE SUM: the residual and the product of the row with the weights' column. -/
def total (A : Vec Ideal S8192x1024 .bf16) (W : Vec Ideal S1024x1024 .f32) (H : Vec Ideal S8192x1024 .f32) : Vec Ideal S8192x1024 .f32 :=
  fun y => H (ix2 (y 0) (y 1)) + ∑ n : Fin 1024, A (ix2 (y 0) n) * W (ix2 n (y 1))

/-- The rows. -/
abbrev aA : Vec Ideal S8192x1024 .bf16 := m ((c : Thread nD τ).loc main_arg0)
/-- The weights. -/
abbrev aW : Vec Ideal S1024x1024 .f32 := m ((c : Thread nD τ).loc main_arg1)
/-- The residual. -/
abbrev aH : Vec Ideal S8192x1024 .f32 := m ((c : Thread nD τ).loc main_arg2)

theorem readA (t : Fin cfg0.N) (r : Fin 512) (k : Fin 1024) : (iblk m c 0 t : Vec Ideal S512x1024 .bf16) (ix2 r k) = aA m c (ix2 (tok t r) k) := by
  blk_ext [iblk, V, idx t, tok]

theorem readW (t : Fin cfg0.N) (p : Fin 4) (k : Fin 256) (d : Fin 1024) :
    (iblk m c 1 t : Vec Ideal S4x1x256x1024 .bf16) (ix4 p 0 k d) = aW m c (ix2 ⟨256 * p.val + k.val, by omega⟩ d) := by
  have he : (win0_1.blk t).view.emb (ix4 p 0 k d : S4x1x256x1024.Idx) = (ix4 p 0 k d : S4x1x256x1024.Idx) := by blk_ext [idx t]
  blk_simp [iblk]
  rw [he]
  entry_read
  pointwise
  exact congrArg (fun q => aW m c (ix2 q d)) (Fin.ext (by dsimp only; omega))

theorem readH (t : Fin cfg0.N) (r : Fin 512) (k : Fin 1024) : (iblk m c 2 t : Vec Ideal S512x1024 .f32) (ix2 r k) = aH m c (ix2 (tok t r) k) := by
  blk_ext [iblk, V, idx t, tok]

/-- THE OUTPUT ARRAY. -/
theorem arr : (dats m 0 c).arrAt 3 cfg0.N = total (aA m c) (aW m c) (aH m c) := by
  refine (dats m 0 c).arrAt_eq_of_covers 3 _ (by decide +kernel) fun t hf y => ?_
  blk_simp
  rw [after0_3, out_eq]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  show res _ _ _ r d = _
  unfold res
  simp only [readA, readW, readH]
  exact res_eq (fun n hn => aA m c (ix2 (tok t r) ⟨n, hn⟩) * aW m c (ix2 ⟨n, hn⟩ d)) 256 rfl _ _ _ _ _
    (fun k => ⟨by omega, congrArg₂ (· * ·) rfl (congrArg (fun q => aW m c (ix2 q d)) (Fin.ext (by show 256 * 0 + k.val = k.val; omega)))⟩)
    (fun k => ⟨by omega, congrArg₂ (· * ·) rfl (congrArg (fun q => aW m c (ix2 q d)) (Fin.ext (by show 256 * 1 + k.val = 256 + k.val; omega)))⟩)
    (fun k => ⟨by omega, congrArg₂ (· * ·) rfl (congrArg (fun q => aW m c (ix2 q d)) (Fin.ext (by show 256 * 2 + k.val = 512 + k.val; omega)))⟩)
    (fun k => ⟨by omega, congrArg₂ (· * ·) rfl (congrArg (fun q => aW m c (ix2 q d)) (Fin.ext (by show 256 * 3 + k.val = 768 + k.val; omega)))⟩)

end Cert.AoutFVal
-- ==== Proof.AoutFClaims.lean ====
/-
  The short convolution's output product with its residual: the reference's results, and the claims.
-/
module

public import proofs.«01_k».proof.Defs
public import proofs.«01_k».proof.Proof.Gen.AoutF.Frame
public import proofs.«01_k».proof.Proof.Gen.AoutFRefIdeal.Run
public import proofs.«01_k».proof.Proof.AoutFArr
public import Idealize.ShloMosaic.Lib.Quiescent

@[expose] public section

set_option maxRecDepth 16384

noncomputable section

namespace Cert.AoutFClaims

open Idealize.ShloMosaic Idealize.ShloMosaic.TcCoe Idealize.SL.Sem Cert.Wgrad

section reference

open Cert.AoutFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2) = AoutFVal.total (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.AoutFIdeal.S8192x1024.Idx at y
  obtain ⟨t, d, rfl⟩ : ∃ (t : Fin 8192) (d : Fin 1024), y = ix2 t d := ⟨y 0, y 1, eq_ix2 y⟩
  pointwise
  rfl

end reference

/-- The kernel as printed ends, its arguments unchanged and every counter at zero. -/
theorem ends : quiescent_AoutF (hAoutF := Cert.AoutF.Gen.facts) := fun m ρ _ => Cert.AoutF.Gen.frame m ρ

/-- So does its exact form. -/
theorem ideal_ends : quiescent_AoutFIdeal (hAoutFIdeal := Cert.AoutFIdeal.Gen.facts) := fun m ρ _ => Cert.AoutFIdeal.Gen.frame m ρ

/-- So does the reference. -/
theorem ref_ends : quiescent_AoutFRefIdeal (hAoutFRefIdeal := Cert.AoutFRefIdeal.Gen.facts) := fun m ρ _ =>
  (θ_run _ _ _).mono (fun r h => ⟨fun c => (h c).2, sem_eq_zero_of_no_sems (by decide) r.2⟩) (Cert.AoutFRefIdeal.Value.run m ρ)

/-- Both programs' result is the residual with the product added, as the same function of the arguments. -/
theorem equal : algebraic_AoutFIdeal_AoutFRefIdeal (hAoutFIdeal := Cert.AoutFIdeal.Gen.facts) (hAoutFRefIdeal := Cert.AoutFRefIdeal.Gen.facts) := by
  intro m ρ m' ρ' _ hag
  refine ⟨fun c => AoutFVal.total (AoutFVal.aA m c) (AoutFVal.aW m c) (AoutFVal.aH m c),
    (θ_run _ _ _).mono (fun _ h c => ⟨(h c).1.trans (AoutFVal.arr m c), (h c).2⟩) (Cert.AoutFIdeal.Value.run_blocks m ρ),
    (θ_run _ _ _).mono (fun _ h c => ⟨(h c).1.trans ?_, (h c).2⟩) (ref_run m' ρ')⟩
  rw [(hag c).1, (hag c).2.1, (hag c).2.2]

end Cert.AoutFClaims
-- ==== Proof.KvFRun.lean ====
/-
  The keys' and values' product on normalised tokens, on one block of tokens.
-/
module

public import proofs.«01_k».proof.Proof.NormFwd
public import proofs.«01_k».proof.Proof.Gen.KvFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KvFVal

open Idealize.ShloMosaic Idealize.ShloMosaic.TcCoe Idealize.SL.Sem Cert.KvFIdeal Cert.KvFIdeal.Gen Cert.MlpRow Cert.NormFwd Cert.Cols

section pieces

variable (c : Dev nD) (i : grid0.Coords) (arg1 : Memref sig .tc .vmem S512x1024 .f32) (harg1 : arg1.IsWhole) (arg2 : Memref sig .tc .vmem S1x1024 .f32) (harg2 : arg2.IsWhole)
    (arg3 : Memref sig .tc .vmem S4x1x1024x768 .bf16) (harg3 : arg3.IsWhole) (arg4 : Memref sig .tc .vmem S512x1024 .bf16) (harg4 : arg4.IsWhole)
    (arg5 : Memref sig .tc .vmem S1x512x3072 .f32) (harg5 : arg5.IsWhole)
    (x0 : Vec Ideal S512x1024 .f32) (x1 : Vec Ideal S1x1024 .f32) (x2 : Vec Ideal S4x1x1024x768 .bf16)

/-- The piece stored for the normalised tokens is their closed block. -/
theorem pcsN_eq : ∀ p ∈ (kernelRun0_A c i arg1 harg1 arg2 harg2 arg3 harg3 arg4 harg4 arg5 harg5 x0 x1 x2).1, ∀ x, p.2 x = blkN x0 x1 (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The pieces stored for the products are their closed block. -/
theorem pcsO_eq : ∀ p ∈ (kernelRun0_A c i arg1 harg1 arg2 harg2 arg3 harg3 arg4 harg4 arg5 harg5 x0 x1 x2).2.1, ∀ x, p.2 x = planes (B := 3072) (P := 1) (by omega) (val x0 x1 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons, List.forall_mem_cons, List.forall_mem_cons, List.forall_mem_cons, List.forall_mem_cons, List.forall_mem_cons, List.forall_mem_cons, List.forall_mem_cons]
  refine ⟨?_, ?_, ?_, ?_, ?_, ?_, ?_, ?_, fun _ h => (List.not_mem_nil h).elim⟩
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 3072) (s := 0) (o := 2816) _ (val x0 x1 x2) _ (by omega) 0 r d 3 ⟨512 + d.val, by omega⟩ (by show 3072 * 0 + (2816 + d.val) = 768 * 3 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 3072) (s := 0) (o := 2304) _ (val x0 x1 x2) _ (by omega) 0 r d 3 ⟨d.val, by omega⟩ (by show 3072 * 0 + (2304 + d.val) = 768 * 3 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 3072) (s := 0) (o := 2048) _ (val x0 x1 x2) _ (by omega) 0 r d 2 ⟨512 + d.val, by omega⟩ (by show 3072 * 0 + (2048 + d.val) = 768 * 2 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 3072) (s := 0) (o := 1536) _ (val x0 x1 x2) _ (by omega) 0 r d 2 ⟨d.val, by omega⟩ (by show 3072 * 0 + (1536 + d.val) = 768 * 2 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 3072) (s := 0) (o := 1280) _ (val x0 x1 x2) _ (by omega) 0 r d 1 ⟨512 + d.val, by omega⟩ (by show 3072 * 0 + (1280 + d.val) = 768 * 1 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 3072) (s := 0) (o := 768) _ (val x0 x1 x2) _ (by omega) 0 r d 1 ⟨d.val, by omega⟩ (by show 3072 * 0 + (768 + d.val) = 768 * 1 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 3072) (s := 0) (o := 512) _ (val x0 x1 x2) _ (by omega) 0 r d 0 ⟨512 + d.val, by omega⟩ (by show 3072 * 0 + (512 + d.val) = 768 * 0 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 3072) (s := 0) (o := 0) _ (val x0 x1 x2) _ (by omega) 0 r d 0 ⟨d.val, by omega⟩ (by show 3072 * 0 + (0 + d.val) = 768 * 0 + d.val; omega) (by omega)).symm
    unfold_payloads
    pointwise
    rfl

end pieces

variable (m : (ℓ : Loc nD τ sig) → Buf (Elt Ideal) ℓ)

/-- After every point the block holds the normalised tokens. -/
theorem outsN (c : Dev nD) (t : Fin cfg0.N) : (outsAt0 m c t).1 = blkN (iblk m c 0 t) (iblk m c 1 t) := by
  unfold outsAt0
  dsimp only
  unfold out0_A_3
  funext y
  refine View.read_writes_apply_of_pieces VO0_3 _ _ _ ?_ y (cover0_A_3 ..)
  apply pcsN_eq

/-- After every point the block holds the products. -/
theorem outsO (c : Dev nD) (t : Fin cfg0.N) : (outsAt0 m c t).2 = planes (B := 3072) (P := 1) (by omega) (val (iblk m c 0 t) (iblk m c 1 t) (iblk m c 2 t)) := by
  unfold outsAt0
  dsimp only
  unfold out0_A_4
  funext y
  refine View.read_writes_apply_of_pieces VO0_4 _ _ _ ?_ y (cover0_A_4 ..)
  apply pcsO_eq

end Cert.KvFVal
-- ==== Proof.KvFArr.lean ====
/-
  The keys' and values' product on normalised tokens: the kernel's two output arrays.
-/
module

public import proofs.«01_k».proof.Proof.KvFRun
public import Idealize.ShloMosaic.Lib.Pipeline.ValueKit
public import Idealize.ShloMosaic.Lib.Pointwise

@[expose] public section

set_option maxRecDepth 16384

noncomputable section

namespace Cert.KvFVal

open Idealize.ShloMosaic Idealize.ShloMosaic.TcCoe Idealize.SL.Sem Cert.KvFIdeal Cert.KvFIdeal.Gen Cert.MlpRow Cert.NormBack Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![t.val, 0] ∧ win0_4.index t = ![0, t.val, 0] :=
  (by decide +kernel : ∀ t : Fin grid0.N, win0_0.index t = ![t.val, 0] ∧ win0_1.index t = ![0, 0] ∧ win0_2.index t = ![0, 0, 0, 0] ∧ win0_3.index t = ![t.val, 0] ∧ win0_4.index t = ![0, t.val, 0])

/-- The tokens. -/
abbrev aH : Vec Ideal S8192x1024 .f32 := m ((c : Thread nD τ).loc main_arg0)
/-- The gain. -/
abbrev aG : Vec Ideal S1024 .f32 := m ((c : Thread nD τ).loc main_arg1)
/-- The weights. -/
abbrev aW : Vec Ideal S1024x3072 .f32 := m ((c : Thread nD τ).loc main_arg2)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readW (t : Fin cfg0.N) (p : Fin 4) (d : Fin 1024) (b : Fin 768) :
    (iblk m c 2 t : Vec Ideal S4x1x1024x768 .bf16) (ix4 p 0 d b) = aW m c (ix2 d ⟨768 * p.val + b.val, by omega⟩) := by
  have he : (win0_2.blk t).view.emb (ix4 p 0 d b : S4x1x1024x768.Idx) = (ix4 p 0 d b : S4x1x1024x768.Idx) := by blk_ext [idx t]
  blk_simp [iblk]
  rw [he]
  entry_read
  pointwise
  exact congrArg (fun q => aW m c (ix2 d q)) (Fin.ext (by dsimp only; omega))

/-- THE NORMALISED TOKENS. -/
theorem arr_n : (dats m 0 c).arrAt 3 cfg0.N = normArr (aH m c) (aG m c) := by
  refine (dats m 0 c).arrAt_eq_of_covers 3 _ (by decide +kernel) fun t hf y => ?_
  blk_simp
  rw [after0_3, outsN]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  exact blkN_eq _ _ t _ _ (readH m c t) (readG m c t) r d

/-- THE PRODUCTS. -/
theorem arr_o : (dats m 0 c).arrAt 4 cfg0.N = prodArr (P := 1) (B := 3072) rfl (aH m c) (aG m c) (aW m c) := by
  refine (dats m 0 c).arrAt_eq_of_covers 4 _ (by decide +kernel) fun t hf y => ?_
  blk_simp
  rw [after0_4, outsO]
  change S1x512x3072.Idx at y
  obtain ⟨s, r, d, rfl⟩ : ∃ (s : Fin 1) (r : Fin 512) (d : Fin 3072), y = ix3 s r d := ⟨y 0, y 1, y 2, eq_ix3 y⟩
  have he : (win0_4.blk t).view.emb (ix3 s r d : S1x512x3072.Idx) = (ix3 s (tok t r) d : S1x8192x3072.Idx) := by blk_ext [idx t, tok]
  rw [he]
  exact planes_eq _ _ (fun n hn => prodAt (aH m c) (aG m c) (aW m c) (tok t r) ⟨n, hn⟩) s r d
    (fun p b hn => val_eq _ _ _ t _ _ _ (readH m c t) (readG m c t) r p b _ fun k => readW m c t p k b) (by omega)

end Cert.KvFVal
-- ==== Proof.KvFClaims.lean ====
/-
  The keys' and values' product on normalised tokens: the reference's results, and the claims.
-/
module

public import proofs.«01_k».proof.Defs
public import proofs.«01_k».proof.Proof.Gen.KvF.Frame
public import proofs.«01_k».proof.Proof.Gen.KvFRefIdeal.Run
public import proofs.«01_k».proof.Proof.KvFArr
public import Idealize.ShloMosaic.Lib.Quiescent

@[expose] public section

set_option maxRecDepth 16384

noncomputable section

namespace Cert.KvFClaims

open Idealize.ShloMosaic Idealize.ShloMosaic.TcCoe Idealize.SL.Sem Cert.MlpRow Cert.NormBack Cert.NormFwd

section reference

open Cert.KvFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_v15) = prodArr (P := 1) (B := 3072) (N := 3072) rfl (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · funext y
    change Cert.KvFIdeal.S8192x1024.Idx at y
    obtain ⟨t, d, rfl⟩ : ∃ (t : Fin 8192) (d : Fin 1024), y = ix2 t d := ⟨y 0, y 1, eq_ix2 y⟩
    pointwise
    rfl
  · funext y
    change Cert.KvFIdeal.S1x8192x3072.Idx at y
    obtain ⟨s, t, d, rfl⟩ : ∃ (s : Fin 1) (t : Fin 8192) (d : Fin 3072), y = ix3 s t d := ⟨y 0, y 1, y 2, eq_ix3 y⟩
    obtain rfl : s = 0 := Subsingleton.elim _ _
    pointwise
    exact congrArg (prodAt (m ((c.tc : Thread nD τ).loc main_arg0)) (m ((c.tc : Thread nD τ).loc main_arg1)) (m ((c.tc : Thread nD τ).loc main_arg2)) t)
      (Fin.ext (by show d.val = 3072 * 0 + d.val; omega))

end reference

/-- The kernel as printed ends, its arguments unchanged and every counter at zero. -/
theorem ends : quiescent_KvF (hKvF := Cert.KvF.Gen.facts) := fun m ρ _ => Cert.KvF.Gen.frame m ρ

/-- So does its exact form. -/
theorem ideal_ends : quiescent_KvFIdeal (hKvFIdeal := Cert.KvFIdeal.Gen.facts) := fun m ρ _ => Cert.KvFIdeal.Gen.frame m ρ

/-- So does the reference. -/
theorem ref_ends : quiescent_KvFRefIdeal (hKvFRefIdeal := Cert.KvFRefIdeal.Gen.facts) := fun m ρ _ =>
  (θ_run _ _ _).mono (fun r h => ⟨fun c => (h c).2.2, sem_eq_zero_of_no_sems (by decide) r.2⟩) (Cert.KvFRefIdeal.Value.run m ρ)

/-- Both programs' results are the normalised tokens and their product with the weights, as the same functions of the arguments. -/
theorem equal : algebraic_KvFIdeal_KvFRefIdeal (hKvFIdeal := Cert.KvFIdeal.Gen.facts) (hKvFRefIdeal := Cert.KvFRefIdeal.Gen.facts) := by
  intro m ρ m' ρ' _ hag
  refine ⟨fun c => normArr (KvFVal.aH m c) (KvFVal.aG m c), fun c => prodArr (P := 1) (B := 3072) (N := 3072) rfl (KvFVal.aH m c) (KvFVal.aG m c) (KvFVal.aW m c),
    (θ_run _ _ _).mono (fun _ h c => ⟨(h c).1.trans (KvFVal.arr_n m c), (h c).2.1.trans (KvFVal.arr_o m c), (h c).2.2⟩) (Cert.KvFIdeal.Value.run_blocks m ρ),
    (θ_run _ _ _).mono (fun _ h c => ⟨(h c).1.trans ?_, (h c).2.1.trans ?_, (h c).2.2⟩) (ref_run m' ρ')⟩
  · rw [(hag c).1, (hag c).2.1]
  · rw [(hag c).1, (hag c).2.1, (hag c).2.2]

end Cert.KvFClaims
-- ==== Proof.QFRun.lean ====
/-
  The queries' product on normalised tokens, on one block of tokens.
-/
module

public import proofs.«01_k».proof.Proof.NormFwd
public import proofs.«01_k».proof.Proof.Gen.QFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QFVal

open Idealize.ShloMosaic Idealize.ShloMosaic.TcCoe Idealize.SL.Sem Cert.QFIdeal Cert.QFIdeal.Gen Cert.MlpRow Cert.NormFwd Cert.Cols

variable (x0 : Vec Ideal S512x1024 .f32) (x1 : Vec Ideal S1x1024 .f32) (x2 : Vec Ideal S4x1x1024x384 .bf16)

/-- The block of normalised tokens the body stores. -/
theorem outN_eq : out0_3 x0 x1 x2 = blkN x0 x1 := by
  funext y
  refine canon_of_pieces _ _ ?_ y (cover0_3 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

/-- The block of products the body stores. -/
theorem outO_eq : out0_4 x0 x1 x2 = planes (B := 1536) (P := 1) (by omega) (val x0 x1 x2) := by
  funext y
  unfold_out out0_4
  refine canon_of_pieces _ _ ?_ y (cover0_4 _ _ _ _ y)
  rw [List.forall_mem_cons, List.forall_mem_cons, List.forall_mem_cons, List.forall_mem_cons]
  refine ⟨?_, ?_, ?_, ?_, fun _ h => (List.not_mem_nil h).elim⟩
  · intro x
    dsimp only
    change S1x512x384.Idx at x
    obtain ⟨k, r, d, rfl⟩ : ∃ (k : Fin 1) (r : Fin 512) (d : Fin 384), x = ix3 k r d := ⟨x 0, x 1, x 2, eq_ix3 x⟩
    obtain rfl : k = 0 := Subsingleton.elim _ _
    refine Eq.trans ?_ (planes_emb (B := 1536) (s := 0) (o := 1152) _ (val x0 x1 x2) _ (by omega) 0 r d 3 d (by show 1536 * 0 + (1152 + d.val) = 384 * 3 + d.val; omega) (by omega)).symm
    unfold_payloads
    pointwise
    rfl
  · intro x
    dsimp only
    change S1x512x384.Idx at x
    obtain ⟨k, r, d, rfl⟩ : ∃ (k : Fin 1) (r : Fin 512) (d : Fin 384), x = ix3 k r d := ⟨x 0, x 1, x 2, eq_ix3 x⟩
    obtain rfl : k = 0 := Subsingleton.elim _ _
    refine Eq.trans ?_ (planes_emb (B := 1536) (s := 0) (o := 768) _ (val x0 x1 x2) _ (by omega) 0 r d 2 d (by show 1536 * 0 + (768 + d.val) = 384 * 2 + d.val; omega) (by omega)).symm
    unfold_payloads
    pointwise
    rfl
  · intro x
    dsimp only
    change S1x512x384.Idx at x
    obtain ⟨k, r, d, rfl⟩ : ∃ (k : Fin 1) (r : Fin 512) (d : Fin 384), x = ix3 k r d := ⟨x 0, x 1, x 2, eq_ix3 x⟩
    obtain rfl : k = 0 := Subsingleton.elim _ _
    refine Eq.trans ?_ (planes_emb (B := 1536) (s := 0) (o := 384) _ (val x0 x1 x2) _ (by omega) 0 r d 1 d (by show 1536 * 0 + (384 + d.val) = 384 * 1 + d.val; omega) (by omega)).symm
    unfold_payloads
    pointwise
    rfl
  · intro x
    dsimp only
    change S1x512x384.Idx at x
    obtain ⟨k, r, d, rfl⟩ : ∃ (k : Fin 1) (r : Fin 512) (d : Fin 384), x = ix3 k r d := ⟨x 0, x 1, x 2, eq_ix3 x⟩
    obtain rfl : k = 0 := Subsingleton.elim _ _
    refine Eq.trans ?_ (planes_emb (B := 1536) (s := 0) (o := 0) _ (val x0 x1 x2) _ (by omega) 0 r d 0 d (by show 1536 * 0 + (0 + d.val) = 384 * 0 + d.val; omega) (by omega)).symm
    unfold_payloads
    pointwise
    rfl

end Cert.QFVal
-- ==== Proof.QFArr.lean ====
/-
  The queries' product on normalised tokens: the kernel's two output arrays.
-/
module

public import proofs.«01_k».proof.Proof.QFRun
public import Idealize.ShloMosaic.Lib.Pipeline.ValueKit
public import Idealize.ShloMosaic.Lib.Pointwise

@[expose] public section

set_option maxRecDepth 16384

noncomputable section

namespace Cert.QFVal

open Idealize.ShloMosaic Idealize.ShloMosaic.TcCoe Idealize.SL.Sem Cert.QFIdeal Cert.QFIdeal.Gen Cert.MlpRow Cert.NormBack Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![t.val, 0] ∧ win0_4.index t = ![0, t.val, 0] :=
  (by decide +kernel : ∀ t : Fin grid0.N, win0_0.index t = ![t.val, 0] ∧ win0_1.index t = ![0, 0] ∧ win0_2.index t = ![0, 0, 0, 0] ∧ win0_3.index t = ![t.val, 0] ∧ win0_4.index t = ![0, t.val, 0])

/-- The tokens. -/
abbrev aH : Vec Ideal S8192x1024 .f32 := m ((c : Thread nD τ).loc main_arg0)
/-- The gain. -/
abbrev aG : Vec Ideal S1024 .f32 := m ((c : Thread nD τ).loc main_arg1)
/-- The weights. -/
abbrev aW : Vec Ideal S1024x1536 .f32 := m ((c : Thread nD τ).loc main_arg2)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readW (t : Fin cfg0.N) (p : Fin 4) (d : Fin 1024) (b : Fin 384) :
    (iblk m c 2 t : Vec Ideal S4x1x1024x384 .bf16) (ix4 p 0 d b) = aW m c (ix2 d ⟨384 * p.val + b.val, by omega⟩) := by
  have he : (win0_2.blk t).view.emb (ix4 p 0 d b : S4x1x1024x384.Idx) = (ix4 p 0 d b : S4x1x1024x384.Idx) := by blk_ext [idx t]
  blk_simp [iblk]
  rw [he]
  entry_read
  pointwise
  exact congrArg (fun q => aW m c (ix2 d q)) (Fin.ext (by dsimp only; omega))

/-- THE NORMALISED TOKENS. -/
theorem arr_n : (dats m 0 c).arrAt 3 cfg0.N = normArr (aH m c) (aG m c) := by
  refine (dats m 0 c).arrAt_eq_of_covers 3 _ (by decide +kernel) fun t hf y => ?_
  blk_simp
  rw [after0_3, outN_eq]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  exact blkN_eq _ _ t _ _ (readH m c t) (readG m c t) r d

/-- THE PRODUCTS. -/
theorem arr_o : (dats m 0 c).arrAt 4 cfg0.N = prodArr (P := 1) (B := 1536) rfl (aH m c) (aG m c) (aW m c) := by
  refine (dats m 0 c).arrAt_eq_of_covers 4 _ (by decide +kernel) fun t hf y => ?_
  blk_simp
  rw [after0_4, outO_eq]
  change S1x512x1536.Idx at y
  obtain ⟨s, r, d, rfl⟩ : ∃ (s : Fin 1) (r : Fin 512) (d : Fin 1536), y = ix3 s r d := ⟨y 0, y 1, y 2, eq_ix3 y⟩
  have he : (win0_4.blk t).view.emb (ix3 s r d : S1x512x1536.Idx) = (ix3 s (tok t r) d : S1x8192x1536.Idx) := by blk_ext [idx t, tok]
  rw [he]
  exact planes_eq _ _ (fun n hn => prodAt (aH m c) (aG m c) (aW m c) (tok t r) ⟨n, hn⟩) s r d
    (fun p b hn => val_eq _ _ _ t _ _ _ (readH m c t) (readG m c t) r p b _ fun k => readW m c t p k b) (by omega)

end Cert.QFVal
-- ==== Proof.QFClaims.lean ====
/-
  The queries' product on normalised tokens: the reference's results, and the claims.
-/
module

public import proofs.«01_k».proof.Defs
public import proofs.«01_k».proof.Proof.Gen.QF.Frame
public import proofs.«01_k».proof.Proof.Gen.QFRefIdeal.Run
public import proofs.«01_k».proof.Proof.QFArr
public import Idealize.ShloMosaic.Lib.Quiescent

@[expose] public section

set_option maxRecDepth 16384

noncomputable section

namespace Cert.QFClaims

open Idealize.ShloMosaic Idealize.ShloMosaic.TcCoe Idealize.SL.Sem Cert.MlpRow Cert.NormBack Cert.NormFwd

section reference

open Cert.QFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_v15) = prodArr (P := 1) (B := 1536) (N := 1536) rfl (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · funext y
    change Cert.QFIdeal.S8192x1024.Idx at y
    obtain ⟨t, d, rfl⟩ : ∃ (t : Fin 8192) (d : Fin 1024), y = ix2 t d := ⟨y 0, y 1, eq_ix2 y⟩
    pointwise
    rfl
  · funext y
    change Cert.QFIdeal.S1x8192x1536.Idx at y
    obtain ⟨s, t, d, rfl⟩ : ∃ (s : Fin 1) (t : Fin 8192) (d : Fin 1536), y = ix3 s t d := ⟨y 0, y 1, y 2, eq_ix3 y⟩
    obtain rfl : s = 0 := Subsingleton.elim _ _
    pointwise
    exact congrArg (prodAt (m ((c.tc : Thread nD τ).loc main_arg0)) (m ((c.tc : Thread nD τ).loc main_arg1)) (m ((c.tc : Thread nD τ).loc main_arg2)) t)
      (Fin.ext (by show d.val = 1536 * 0 + d.val; omega))

end reference

/-- The kernel as printed ends, its arguments unchanged and every counter at zero. -/
theorem ends : quiescent_QF (hQF := Cert.QF.Gen.facts) := fun m ρ _ => Cert.QF.Gen.frame m ρ

/-- So does its exact form. -/
theorem ideal_ends : quiescent_QFIdeal (hQFIdeal := Cert.QFIdeal.Gen.facts) := fun m ρ _ => Cert.QFIdeal.Gen.frame m ρ

/-- So does the reference. -/
theorem ref_ends : quiescent_QFRefIdeal (hQFRefIdeal := Cert.QFRefIdeal.Gen.facts) := fun m ρ _ =>
  (θ_run _ _ _).mono (fun r h => ⟨fun c => (h c).2.2, sem_eq_zero_of_no_sems (by decide) r.2⟩) (Cert.QFRefIdeal.Value.run m ρ)

/-- Both programs' results are the normalised tokens and their product with the weights, as the same functions of the arguments. -/
theorem equal : algebraic_QFIdeal_QFRefIdeal (hQFIdeal := Cert.QFIdeal.Gen.facts) (hQFRefIdeal := Cert.QFRefIdeal.Gen.facts) := by
  intro m ρ m' ρ' _ hag
  refine ⟨fun c => normArr (QFVal.aH m c) (QFVal.aG m c), fun c => prodArr (P := 1) (B := 1536) (N := 1536) rfl (QFVal.aH m c) (QFVal.aG m c) (QFVal.aW m c),
    (θ_run _ _ _).mono (fun _ h c => ⟨(h c).1.trans (QFVal.arr_n m c), (h c).2.1.trans (QFVal.arr_o m c), (h c).2.2⟩) (Cert.QFIdeal.Value.run_blocks m ρ),
    (θ_run _ _ _).mono (fun _ h c => ⟨(h c).1.trans ?_, (h c).2.1.trans ?_, (h c).2.2⟩) (ref_run m' ρ')⟩
  · rw [(hag c).1, (hag c).2.1]
  · rw [(hag c).1, (hag c).2.1, (hag c).2.2]

end Cert.QFClaims
-- ==== Proof.OFRun.lean ====
/-
  The attention's output product with its residual, on one block of tokens.
-/
module

public import proofs.«01_k».proof.Proof.Cols
public import proofs.«01_k».proof.Proof.Gen.OFIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OFVal

open Idealize.ShloMosaic Idealize.ShloMosaic.TcCoe Idealize.SL.Sem Cert.OFIdeal Cert.OFIdeal.Gen Cert.Cols

variable (x0 : Vec Ideal S512x512 .f32) (x1 : Vec Ideal S4x1x512x256 .bf16) (x2 : Vec Ideal S512x1024 .f32)

/-- Column `b` of device `p`, counted through the devices. -/
def col (p : Fin 4) (b : Fin 256) : Fin 1024 := (![⟨b.val, by omega⟩, ⟨256 + b.val, by omega⟩, ⟨512 + b.val, by omega⟩, ⟨768 + b.val, by omega⟩] : Fin 4 → Fin 1024) p

theorem col_eq (p : Fin 4) (b : Fin 256) : (col p b).val = 256 * p.val + b.val := by
  fin_cases p <;> simp [col]

/-- The sum at token `r` of the block, device `p`, column `b` of the device: the residual and the product. -/
def val (r : Fin 512) (p : Fin 4) (b : Fin 256) : EReal := x2 (ix2 r (col p b)) + ∑ k : Fin 512, x0 (ix2 r k) * x1 (ix4 p 0 k b)

/-- THE BLOCK the body stores. -/
theorem out_eq : out0_3 x0 x1 x2 = cols (B := 1024) (by omega) (val x0 x1 x2) := by
  funext y
  refine canon_of_pieces _ _ ?_ y (cover0_3 _ _ _ _ y)
  rw [List.forall_mem_cons, List.forall_mem_cons, List.forall_mem_cons, List.forall_mem_cons]
  refine ⟨?_, ?_, ?_, ?_, fun _ h => (List.not_mem_nil h).elim⟩
  all_goals
    intro x
    dsimp only
    change S512x256.Idx at x
    obtain ⟨r, d, rfl⟩ : ∃ (r : Fin 512) (d : Fin 256), x = ix2 r d := ⟨x 0, x 1, eq_ix2 x⟩
  on_goal 1 => refine Eq.trans ?_ (cols_emb (o := 768) _ (val x0 x1 x2) _ r d 3 d (by show 768 + d.val = 256 * 3 + d.val; omega) (by omega)).symm
  on_goal 2 => refine Eq.trans ?_ (cols_emb (o := 512) _ (val x0 x1 x2) _ r d 2 d (by show 512 + d.val = 256 * 2 + d.val; omega) (by omega)).symm
  on_goal 3 => refine Eq.trans ?_ (cols_emb (o := 256) _ (val x0 x1 x2) _ r d 1 d (by show 256 + d.val = 256 * 1 + d.val; omega) (by omega)).symm
  on_goal 4 => refine Eq.trans ?_ (cols_emb (o := 0) _ (val x0 x1 x2) _ r d 0 d (by show 0 + d.val = 256 * 0 + d.val; omega) (by omega)).symm
  all_goals
    unfold_payloads
    pointwise
    rfl

end Cert.OFVal
-- ==== Proof.OFArr.lean ====
/-
  The attention's output product with its residual: the kernel's output array.
-/
module

public import proofs.«01_k».proof.Proof.OFRun
public import proofs.«01_k».proof.Proof.NormBack
public import Idealize.ShloMosaic.Lib.Pipeline.ValueKit
public import Idealize.ShloMosaic.Lib.Pointwise

@[expose] public section

set_option maxRecDepth 16384

noncomputable section

namespace Cert.OFVal

open Cert.Wgrad (ramp2)
open Idealize.ShloMosaic Idealize.ShloMosaic.TcCoe Idealize.SL.Sem Cert.OFIdeal Cert.OFIdeal.Gen Cert.MlpRow Cert.NormBack Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, win0_0.index t = ![t.val, 0] ∧ win0_1.index t = ![0, 0, 0, 0] ∧ win0_2.index t = ![t.val, 0] ∧ win0_3.index t = ![t.val, 0])

/-- THE SUM: the residual and the product of the row with the weights' column. -/
def total (A : Vec Ideal S8192x512 .f32) (W : Vec Ideal S512x1024 .f32) (H : Vec Ideal S8192x1024 .f32) : Vec Ideal S8192x1024 .f32 :=
  fun y => H (ix2 (y 0) (y 1)) + ∑ k : Fin 512, A (ix2 (y 0) k) * W (ix2 k (y 1))

/-- The attention's outputs. -/
abbrev aA : Vec Ideal S8192x512 .f32 := m ((c : Thread nD τ).loc main_arg0)
/-- The weights. -/
abbrev aW : Vec Ideal S512x1024 .f32 := m ((c : Thread nD τ).loc main_arg1)
/-- The residual. -/
abbrev aH : Vec Ideal S8192x1024 .f32 := m ((c : Thread nD τ).loc main_arg2)

theorem readA (t : Fin cfg0.N) (r : Fin 512) (k : Fin 512) : (iblk m c 0 t : Vec Ideal S512x512 .f32) (ix2 r k) = aA m c (ix2 (tok t r) k) := by
  blk_ext [iblk, V, idx t, tok]

theorem readW (t : Fin cfg0.N) (p : Fin 4) (k : Fin 512) (b : Fin 256) :
    (iblk m c 1 t : Vec Ideal S4x1x512x256 .bf16) (ix4 p 0 k b) = aW m c (ix2 k ⟨256 * p.val + b.val, by omega⟩) := by
  have he : (win0_1.blk t).view.emb (ix4 p 0 k b : S4x1x512x256.Idx) = (ix4 p 0 k b : S4x1x512x256.Idx) := by blk_ext [idx t]
  blk_simp [iblk]
  rw [he]
  entry_read
  pointwise
  exact congrArg (fun q => aW m c (ix2 k q)) (Fin.ext (by dsimp only; omega))

theorem readH (t : Fin cfg0.N) (r : Fin 512) (k : Fin 1024) : (iblk m c 2 t : Vec Ideal S512x1024 .f32) (ix2 r k) = aH m c (ix2 (tok t r) k) := by
  blk_ext [iblk, V, idx t, tok]

/-- THE OUTPUT ARRAY. -/
theorem arr : (dats m 0 c).arrAt 3 cfg0.N = total (aA m c) (aW m c) (aH m c) := by
  refine (dats m 0 c).arrAt_eq_of_covers 3 _ (by decide +kernel) fun t hf y => ?_
  blk_simp
  rw [after0_3, out_eq]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  refine cols_eq _ _ (fun n => total (aA m c) (aW m c) (aH m c) (ix2 (tok t r) n)) r (fun p b hn => ?_) d
  refine congrArg₂ (· + ·) ((readH m c t r (col p b)).trans (congrArg (fun q => aH m c (ix2 (tok t r) q)) (Fin.ext (col_eq p b)))) ?_
  exact Finset.sum_congr rfl fun k _ => congrArg₂ (· * ·) (readA m c t r k) (readW m c t p k b)

end Cert.OFVal
-- ==== Proof.OFClaims.lean ====
/-
  The attention's output product with its residual: the reference's results, and the claims.
-/
module

public import proofs.«01_k».proof.Defs
public import proofs.«01_k».proof.Proof.Gen.OF.Frame
public import proofs.«01_k».proof.Proof.Gen.OFRefIdeal.Run
public import proofs.«01_k».proof.Proof.OFArr
public import Idealize.ShloMosaic.Lib.Quiescent

@[expose] public section

set_option maxRecDepth 16384

noncomputable section

namespace Cert.OFClaims

open Idealize.ShloMosaic Idealize.ShloMosaic.TcCoe Idealize.SL.Sem Cert.MlpRow

section reference

open Cert.OFRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v1) = OFVal.total (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  change Cert.OFIdeal.S8192x1024.Idx at y
  obtain ⟨t, d, rfl⟩ : ∃ (t : Fin 8192) (d : Fin 1024), y = ix2 t d := ⟨y 0, y 1, eq_ix2 y⟩
  pointwise
  rfl

end reference

/-- The kernel as printed ends, its arguments unchanged and every counter at zero. -/
theorem ends : quiescent_OF (hOF := Cert.OF.Gen.facts) := fun m ρ _ => Cert.OF.Gen.frame m ρ

/-- So does its exact form. -/
theorem ideal_ends : quiescent_OFIdeal (hOFIdeal := Cert.OFIdeal.Gen.facts) := fun m ρ _ => Cert.OFIdeal.Gen.frame m ρ

/-- So does the reference. -/
theorem ref_ends : quiescent_OFRefIdeal (hOFRefIdeal := Cert.OFRefIdeal.Gen.facts) := fun m ρ _ =>
  (θ_run _ _ _).mono (fun r h => ⟨fun c => (h c).2, sem_eq_zero_of_no_sems (by decide) r.2⟩) (Cert.OFRefIdeal.Value.run m ρ)

/-- Both programs' result is the residual with the product added, as the same function of the arguments. -/
theorem equal : algebraic_OFIdeal_OFRefIdeal (hOFIdeal := Cert.OFIdeal.Gen.facts) (hOFRefIdeal := Cert.OFRefIdeal.Gen.facts) := by
  intro m ρ m' ρ' _ hag
  refine ⟨fun c => OFVal.total (OFVal.aA m c) (OFVal.aW m c) (OFVal.aH m c),
    (θ_run _ _ _).mono (fun _ h c => ⟨(h c).1.trans (OFVal.arr m c), (h c).2⟩) (Cert.OFIdeal.Value.run_blocks m ρ),
    (θ_run _ _ _).mono (fun _ h c => ⟨(h c).1.trans ?_, (h c).2⟩) (ref_run m' ρ')⟩
  rw [(hag c).1, (hag c).2.1, (hag c).2.2]

end Cert.OFClaims
-- ==== Proof.LossBRun.lean ====
/-
  The loss head on one block of 512 tokens: the error of the normalised tokens against the target, the block's part of the
  loss, and what each point leaves in the four outputs' blocks.
-/
module

public import proofs.«01_k».proof.Proof.NormBack
public import proofs.«01_k».proof.Proof.Tiles
public import proofs.«01_k».proof.Proof.Gen.LossBIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossBVal

open Idealize.ShloMosaic Idealize.ShloMosaic.TcCoe Idealize.SL.Sem Cert.LossBIdeal Cert.LossBIdeal.Gen Cert.MlpRow Cert.NormBack

/-- One half, as the programs spell it. -/
abbrev half : EReal := Ideal.ofBits .f32 1056964608#32
/-- One over the width. -/
abbrev inv : EReal := Ideal.ofBits .f32 981467136#32

/-- The error of a normalised token against its target. -/
def err {n : ℕ} (h g t : Fin n → EReal) (d : Fin n) : EReal := h d * scale h * g d - t d

/-- The mean squared error of a token. -/
def errSq {n : ℕ} (h g t : Fin n → EReal) : EReal := Ideal.div (∑ d, err h g t d * err h g t d) width

/-- The error of token `r` of the block. -/
def berr (x0 : Vec Ideal S512x1024 .f32) (x1 : Vec Ideal S1x1024 .f32) (x2 : Vec Ideal S512x1024 .f32) (r : Fin 512) (d : Fin 1024) : EReal :=
  err (fun k : Fin 1024 => x0 (ix2 r k)) (fun k => x1 (ix2 0 k)) (fun k => x2 (ix2 r k)) d

/-- The cotangent of normalised token `r` of the block. -/
def bdn (x0 : Vec Ideal S512x1024 .f32) (x1 : Vec Ideal S1x1024 .f32) (x2 : Vec Ideal S512x1024 .f32) (r : Fin 512) (d : Fin 1024) : EReal := berr x0 x1 x2 r d * inv

/-- The block's part of the loss. -/
def partL (x0 : Vec Ideal S512x1024 .f32) (x1 : Vec Ideal S1x1024 .f32) (x2 : Vec Ideal S512x1024 .f32) : S1x1.Idx → EReal :=
  fun _ => half * ∑ r : Fin 512, errSq (fun k : Fin 1024 => x0 (ix2 r k)) (fun k => x1 (ix2 0 k)) (fun k => x2 (ix2 r k))

/-- The same added to what the entry held. -/
def accL (x0 : Vec Ideal S512x1024 .f32) (x1 : Vec Ideal S1x1024 .f32) (x2 : Vec Ideal S512x1024 .f32) (xo : S1x1.Idx → EReal) : S1x1.Idx → EReal :=
  fun y => xo y + partL x0 x1 x2 y

section pieces

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1x1 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole)
    (x0 : Vec Ideal S512x1024 .f32) (x1 : Vec Ideal S1x1024 .f32) (x2 : Vec Ideal S512x1024 .f32)

/-- The piece stored at the first point for the loss is its closed block. -/
theorem l_A (hc0 : cond0_0 i) (hc1 : ¬cond0_1 i) : ∀ p ∈ (kernelRun0_A c i arg1 harg1 arg2 harg2 arg3 harg3 arg4 harg4 arg5 harg5 arg6 harg6 arg7 harg7 hc0 hc1 x0 x1 x2).1, ∀ x, p.2 x = partL x0 x1 x2 (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S1x1.Idx at x
  obtain ⟨r, d, rfl⟩ : ∃ (r : Fin 1) (d : Fin 1), x = ix2 r d := ⟨x 0, x 1, eq_ix2 x⟩
  obtain rfl : r = 0 := Subsingleton.elim _ _
  obtain rfl : d = 0 := Subsingleton.elim _ _
  refine Eq.trans ?_ (congrArg _ (Cert.Tiles.emb_whole _ _ _).symm)
  unfold_payloads
  pointwise
  rfl

/-- The piece stored at a later point for the loss is its closed block. -/
theorem l_B (hc0 : ¬cond0_0 i) (hc1 : cond0_1 i) (xo3 : Vec Ideal S1x1 .f32) (xo6 : Vec Ideal S1x1024 .f32) : ∀ p ∈ (kernelRun0_B c i arg1 harg1 arg2 harg2 arg3 harg3 arg4 harg4 arg5 harg5 arg6 harg6 arg7 harg7 hc0 hc1 x0 x1 x2 xo3 xo6).1, ∀ x, p.2 x = accL x0 x1 x2 xo3 (p.1.emb x) := by
  unfold kernelRun0_B
  dsimp only
  sl_unfold_words
  simp (disch := decide) only [View.readAt_eq_ld, harg1.read_unread, harg2.read_unread, harg3.read_unread, harg4.read_unread, harg7.read_unread, View.readCov_skip, View.readCov_fill]
  rw [List.forall_mem_cons]
  refine ⟨?_, fun _ h => (List.not_mem_nil h).elim⟩
  intro x
  dsimp only
  change S1x1.Idx at x
  obtain ⟨r, d, rfl⟩ : ∃ (r : Fin 1) (d : Fin 1), x = ix2 r d := ⟨x 0, x 1, eq_ix2 x⟩
  obtain rfl : r = 0 := Subsingleton.elim _ _
  obtain rfl : d = 0 := Subsingleton.elim _ _
  refine Eq.trans ?_ (congrArg _ (Cert.Tiles.emb_whole _ _ _).symm)
  unfold_payloads
  pointwise
  rfl

/-- The piece stored at the first point for the tokens' gradient is its closed block. -/
theorem dh_A (hc0 : cond0_0 i) (hc1 : ¬cond0_1 i) : ∀ p ∈ (kernelRun0_A c i arg1 harg1 arg2 harg2 arg3 harg3 arg4 harg4 arg5 harg5 arg6 harg6 arg7 harg7 hc0 hc1 x0 x1 x2).2.1, ∀ x, p.2 x = blkD (fun _ => 0) x0 x1 (bdn x0 x1 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  refine (Eq.trans ?_ (zero_add _).symm)
  unfold_payloads
  pointwise
  rfl

/-- The piece stored at a later point for the tokens' gradient is its closed block. -/
theorem dh_B (hc0 : ¬cond0_0 i) (hc1 : cond0_1 i) (xo3 : Vec Ideal S1x1 .f32) (xo6 : Vec Ideal S1x1024 .f32) : ∀ p ∈ (kernelRun0_B c i arg1 harg1 arg2 harg2 arg3 harg3 arg4 harg4 arg5 harg5 arg6 harg6 arg7 harg7 hc0 hc1 x0 x1 x2 xo3 xo6).2.1, ∀ x, p.2 x = blkD (fun _ => 0) x0 x1 (bdn x0 x1 x2) (p.1.emb x) := by
  unfold kernelRun0_B
  dsimp only
  sl_unfold_words
  simp (disch := decide) only [View.readAt_eq_ld, harg1.read_unread, harg2.read_unread, harg3.read_unread, harg4.read_unread, harg7.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  refine (Eq.trans ?_ (zero_add _).symm)
  unfold_payloads
  pointwise
  rfl

/-- The piece stored at the first point for the half-width copy is its closed block. -/
theorem dhh_A (hc0 : cond0_0 i) (hc1 : ¬cond0_1 i) : ∀ p ∈ (kernelRun0_A c i arg1 harg1 arg2 harg2 arg3 harg3 arg4 harg4 arg5 harg5 arg6 harg6 arg7 harg7 hc0 hc1 x0 x1 x2).2.2.1, ∀ x, p.2 x = blkD (fun _ => 0) x0 x1 (bdn x0 x1 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  refine (Eq.trans ?_ (zero_add _).symm)
  unfold_payloads
  pointwise
  rfl

/-- The piece stored at a later point for the half-width copy is its closed block. -/
theorem dhh_B (hc0 : ¬cond0_0 i) (hc1 : cond0_1 i) (xo3 : Vec Ideal S1x1 .f32) (xo6 : Vec Ideal S1x1024 .f32) : ∀ p ∈ (kernelRun0_B c i arg1 harg1 arg2 harg2 arg3 harg3 arg4 harg4 arg5 harg5 arg6 harg6 arg7 harg7 hc0 hc1 x0 x1 x2 xo3 xo6).2.2.1, ∀ x, p.2 x = blkD (fun _ => 0) x0 x1 (bdn x0 x1 x2) (p.1.emb x) := by
  unfold kernelRun0_B
  dsimp only
  sl_unfold_words
  simp (disch := decide) only [View.readAt_eq_ld, harg1.read_unread, harg2.read_unread, harg3.read_unread, harg4.read_unread, harg7.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  refine (Eq.trans ?_ (zero_add _).symm)
  unfold_payloads
  pointwise
  rfl

/-- The piece stored at the first point for the gain's gradient is its closed block. -/
theorem dg_A (hc0 : cond0_0 i) (hc1 : ¬cond0_1 i) : ∀ p ∈ (kernelRun0_A c i arg1 harg1 arg2 harg2 arg3 harg3 arg4 harg4 arg5 harg5 arg6 harg6 arg7 harg7 hc0 hc1 x0 x1 x2).2.2.2.1, ∀ x, p.2 x = partG x0 (bdn x0 x1 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

/-- The piece stored at a later point for the gain's gradient is its closed block. -/
theorem dg_B (hc0 : ¬cond0_0 i) (hc1 : cond0_1 i) (xo3 : Vec Ideal S1x1 .f32) (xo6 : Vec Ideal S1x1024 .f32) : ∀ p ∈ (kernelRun0_B c i arg1 harg1 arg2 harg2 arg3 harg3 arg4 harg4 arg5 harg5 arg6 harg6 arg7 harg7 hc0 hc1 x0 x1 x2 xo3 xo6).2.2.2.1, ∀ x, p.2 x = accG x0 (bdn x0 x1 x2) xo6 (p.1.emb x) := by
  unfold kernelRun0_B
  dsimp only
  sl_unfold_words
  simp (disch := decide) only [View.readAt_eq_ld, harg1.read_unread, harg2.read_unread, harg3.read_unread, harg4.read_unread, harg7.read_unread, View.readCov_skip, View.readCov_fill]
  rw [List.forall_mem_cons]
  refine ⟨?_, fun _ h => (List.not_mem_nil h).elim⟩
  intro x
  dsimp only
  change S1x1024.Idx at x
  obtain ⟨r, d, rfl⟩ : ∃ (r : Fin 1) (d : Fin 1024), x = ix2 r d := ⟨x 0, x 1, eq_ix2 x⟩
  obtain rfl : r = 0 := Subsingleton.elim _ _
  refine Eq.trans ?_ (congrArg _ (Cert.Tiles.emb_whole _ _ _).symm)
  unfold_payloads
  pointwise
  rfl

end pieces

variable (m : (ℓ : Loc nD τ sig) → Buf (Elt Ideal) ℓ) (c : Dev nD)

theorem case_split (t : Fin cfg0.N) : (t.val % 16 = 0 ∧ ¬1 ≤ t.val) ∨ (¬t.val % 16 = 0 ∧ 1 ≤ t.val) := by
  have : t.val < 16 := t.isLt
  omega

/-- After every point the block holds the tokens' gradient. -/
theorem outs_dh (t : Fin cfg0.N) : (outsAt0 m c t.val t.isLt).2.1 = blkD (fun _ => 0) (iblk m c 0 t) (iblk m c 1 t) (bdn (iblk m c 0 t) (iblk m c 1 t) (iblk m c 2 t)) := by
  rcases case_split t with ⟨h0, h1⟩ | ⟨h0, h1⟩
  · rw [outsAt0_A m c t h0 h1]
    dsimp only
    unfold out0_A_4
    funext y
    refine View.read_writes_apply_of_pieces VO0_4 _ _ _ ?_ y (cover0_A_4 ..)
    apply dh_A
  · rw [outsAt0_B m c t h0 h1]
    dsimp only
    unfold out0_B_4
    funext y
    refine View.read_writes_apply_of_pieces VO0_4 _ _ _ ?_ y (cover0_B_4 ..)
    apply dh_B

/-- After every point the block holds the half-width copy. -/
theorem outs_dhh (t : Fin cfg0.N) : (outsAt0 m c t.val t.isLt).2.2.1 = blkD (fun _ => 0) (iblk m c 0 t) (iblk m c 1 t) (bdn (iblk m c 0 t) (iblk m c 1 t) (iblk m c 2 t)) := by
  rcases case_split t with ⟨h0, h1⟩ | ⟨h0, h1⟩
  · rw [outsAt0_A m c t h0 h1]
    dsimp only
    unfold out0_A_5
    funext y
    refine View.read_writes_apply_of_pieces VO0_5 _ _ _ ?_ y (cover0_A_5 ..)
    apply dhh_A
  · rw [outsAt0_B m c t h0 h1]
    dsimp only
    unfold out0_B_5
    funext y
    refine View.read_writes_apply_of_pieces VO0_5 _ _ _ ?_ y (cover0_B_5 ..)
    apply dhh_B

/-- The first point sets the loss. -/
theorem outs_l_first (t : Fin cfg0.N) (h0 : t.val % 16 = 0) (y : S1x1.Idx) : (outsAt0 m c t.val t.isLt).1 y = 0 + partL (iblk m c 0 t) (iblk m c 1 t) (iblk m c 2 t) y := by
  rw [zero_add]
  have h1 : ¬1 ≤ t.val := by rcases case_split t with h | h <;> omega
  rw [outsAt0_A m c t h0 h1]
  dsimp only
  unfold out0_A_3
  refine View.read_writes_apply_of_pieces VO0_3 _ _ _ ?_ y (cover0_A_3 ..)
  apply l_A

/-- Every later point adds its part. -/
theorem outs_l_step (t : Fin cfg0.N) (h0 : ¬t.val % 16 = 0) (y : S1x1.Idx) :
    (outsAt0 m c t.val t.isLt).1 y = (outsAt0 m c (t.val - 1) (Nat.lt_of_le_of_lt (Nat.sub_le _ _) t.isLt)).1 y + partL (iblk m c 0 t) (iblk m c 1 t) (iblk m c 2 t) y := by
  have h1 : 1 ≤ t.val := by rcases case_split t with h | h <;> omega
  rw [outsAt0_B m c t h0 h1]
  dsimp only
  unfold out0_B_3
  refine (View.read_writes_apply_of_pieces VO0_3 _ _ _ ?_ y (cover0_B_3 ..)).trans (rfl : accL (iblk m c 0 t) (iblk m c 1 t) (iblk m c 2 t) _ y = _)
  apply l_B

/-- After the last point it holds the sum of all points' parts. -/
theorem outs_l (t : Fin cfg0.N) (ht : t.val % 16 = 15) (y : S1x1.Idx) :
    (outsAt0 m c t.val t.isLt).1 y = ∑ t : Fin cfg0.N, partL (iblk m c 0 t) (iblk m c 1 t) (iblk m c 2 t) y := by
  refine (Pipeline.eq_sum_fin_of_reset_step_apply_last (fun n hn y => (outsAt0 m c n hn).1 y) 16 (fun _ => 0)
    (fun t y => partL (iblk m c 0 t) (iblk m c 1 t) (iblk m c 2 t) y) (fun t h y => outs_l_first m c t h y) (fun t h y => outs_l_step m c t h y) (le_of_eq (by decide +kernel)) t ?_ y).trans (zero_add _)
  have h : t.val < 16 := t.isLt
  have hN : cfg0.N = 16 := by decide +kernel
  omega

/-- The first point sets the gain's gradient. -/
theorem outs_dg_first (t : Fin cfg0.N) (h0 : t.val % 16 = 0) (y : S1x1024.Idx) : (outsAt0 m c t.val t.isLt).2.2.2 y = 0 + partG (iblk m c 0 t) (bdn (iblk m c 0 t) (iblk m c 1 t) (iblk m c 2 t)) y := by
  rw [zero_add]
  have h1 : ¬1 ≤ t.val := by rcases case_split t with h | h <;> omega
  rw [outsAt0_A m c t h0 h1]
  dsimp only
  unfold out0_A_6
  refine View.read_writes_apply_of_pieces VO0_6 _ _ _ ?_ y (cover0_A_6 ..)
  apply dg_A

/-- Every later point adds its part. -/
theorem outs_dg_step (t : Fin cfg0.N) (h0 : ¬t.val % 16 = 0) (y : S1x1024.Idx) :
    (outsAt0 m c t.val t.isLt).2.2.2 y = (outsAt0 m c (t.val - 1) (Nat.lt_of_le_of_lt (Nat.sub_le _ _) t.isLt)).2.2.2 y + partG (iblk m c 0 t) (bdn (iblk m c 0 t) (iblk m c 1 t) (iblk m c 2 t)) y := by
  have h1 : 1 ≤ t.val := by rcases case_split t with h | h <;> omega
  rw [outsAt0_B m c t h0 h1]
  dsimp only
  unfold out0_B_6
  refine (View.read_writes_apply_of_pieces VO0_6 _ _ _ ?_ y (cover0_B_6 ..)).trans (rfl : accG (iblk m c 0 t) (bdn (iblk m c 0 t) (iblk m c 1 t) (iblk m c 2 t)) _ y = _)
  apply dg_B

/-- After the last point it holds the sum of all points' parts. -/
theorem outs_dg (t : Fin cfg0.N) (ht : t.val % 16 = 15) (y : S1x1024.Idx) :
    (outsAt0 m c t.val t.isLt).2.2.2 y = ∑ t : Fin cfg0.N, partG (iblk m c 0 t) (bdn (iblk m c 0 t) (iblk m c 1 t) (iblk m c 2 t)) y := by
  refine (Pipeline.eq_sum_fin_of_reset_step_apply_last (fun n hn y => (outsAt0 m c n hn).2.2.2 y) 16 (fun _ => 0)
    (fun t y => partG (iblk m c 0 t) (bdn (iblk m c 0 t) (iblk m c 1 t) (iblk m c 2 t)) y) (fun t h y => outs_dg_first m c t h y) (fun t h y => outs_dg_step m c t h y) (le_of_eq (by decide +kernel)) t ?_ y).trans (zero_add _)
  have h : t.val < 16 := t.isLt
  have hN : cfg0.N = 16 := by decide +kernel
  omega

end Cert.LossBVal
-- ==== Proof.LossBArr.lean ====
/-
  The loss head: the kernel's four output arrays.
-/
module

public import proofs.«01_k».proof.Proof.LossBRun
public import Idealize.ShloMosaic.Lib.Pipeline.ValueKit
public import Idealize.ShloMosaic.Lib.Pointwise

@[expose] public section

set_option maxRecDepth 16384

noncomputable section

namespace Cert.LossBVal

open Idealize.ShloMosaic Idealize.ShloMosaic.TcCoe Idealize.SL.Sem Cert.LossBIdeal Cert.LossBIdeal.Gen Cert.MlpRow Cert.NormBack

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0])

/-- The error of token `t` at channel `d`. -/
def tokErr (H : Arr.Idx → EReal) (G : Chan.Idx → EReal) (T : Arr.Idx → EReal) (t : Fin 8192) (d : Fin 1024) : EReal :=
  err (fun k : Fin 1024 => H (ix2 t k)) (fun k => G (ix1 k)) (fun k => T (ix2 t k)) d

/-- The cotangent of normalised token `t` at channel `d`. -/
def lossBack (H : Arr.Idx → EReal) (G : Chan.Idx → EReal) (T : Arr.Idx → EReal) (t : Fin 8192) (d : Fin 1024) : EReal := tokErr H G T t d * inv

/-- THE LOSS: half the sum of the tokens' mean squared errors. -/
def lossArr (H : Arr.Idx → EReal) (G : Chan.Idx → EReal) (T : Arr.Idx → EReal) : S1x1.Idx → EReal :=
  fun _ => half * ∑ t : Fin 8192, errSq (fun k : Fin 1024 => H (ix2 t k)) (fun k => G (ix1 k)) (fun k => T (ix2 t k))

theorem half_eq : half = ((1 / 2 : ℝ) : EReal) := by
  simp [half, Ideal.ofBits, Ideal.ieee, -EReal.coe_mul] <;> norm_num

/-- The tokens. -/
abbrev aH : Vec Ideal S8192x1024 .f32 := m ((c : Thread nD τ).loc main_arg0)
/-- The gain. -/
abbrev aG : Vec Ideal S1024 .f32 := m ((c : Thread nD τ).loc main_arg1)
/-- The target. -/
abbrev aT : Vec Ideal S8192x1024 .f32 := m ((c : Thread nD τ).loc main_arg2)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

theorem readT (t : Fin cfg0.N) (r : Fin 512) (k : Fin 1024) : (iblk m c 2 t : Vec Ideal S512x1024 .f32) (ix2 r k) = aT m c (ix2 (tok t r) k) := by
  blk_ext [iblk, V, idx t, tok]

theorem bdn_eq (t : Fin cfg0.N) (r : Fin 512) (d : Fin 1024) :
    bdn (iblk m c 0 t) (iblk m c 1 t) (iblk m c 2 t) r d = lossBack (aH m c) (aG m c) (aT m c) (tok t r) d := by
  unfold bdn berr lossBack tokErr
  simp only [readH, readG, readT]

/-- THE LOSS. -/
theorem arr_l : (dats m 0 c).arrAt 3 cfg0.N = lossArr (aH m c) (aG m c) (aT m c) := by
  refine (dats m 0 c).arrAt_eq_of_covers 3 _ (by decide +kernel) fun t hf y => ?_
  blk_simp
  rw [after0_3]
  rw [outs_l m c t ((flush0_3 t).mp hf)]
  show _ = half * ∑ t : Fin 8192, errSq (fun k : Fin 1024 => aH m c (ix2 t k)) (fun k => aG m c (ix1 k)) (fun k => aT m c (ix2 t k))
  rw [half_eq, mul_sum_coe _ _ (by norm_num), sum_tok]
  refine Finset.sum_congr rfl fun t _ => ?_
  rw [← mul_sum_coe _ _ (by norm_num), ← half_eq]
  unfold partL
  simp only [readH, readG, readT]

/-- The tokens' gradient. -/
theorem arr_dh : (dats m 0 c).arrAt 4 cfg0.N = tokArr (aH m c) (aG m c) (fun _ => 0) (lossBack (aH m c) (aG m c) (aT m c)) := by
  refine (dats m 0 c).arrAt_eq_of_covers 4 _ (by decide +kernel) fun t hf y => ?_
  blk_simp
  rw [after0_4, outs_dh]
  change S512x1024.Idx at y
  obtain ⟨r, d, rfl⟩ : ∃ (r : Fin 512) (d : Fin 1024), y = ix2 r d := ⟨y 0, y 1, eq_ix2 y⟩
  have he : (win0_4.blk t).view.emb (ix2 r d : S512x1024.Idx) = (ix2 (tok t r) d : S8192x1024.Idx) := by blk_ext [idx t, tok]
  rw [he]
  exact blkD_eq _ _ _ _ t _ _ _ _ (fun _ _ => rfl) (readH m c t) (readG m c t) (bdn_eq m c t) r d

/-- The half-width copy. -/
theorem arr_dhh : (dats m 0 c).arrAt 5 cfg0.N = tokArr (aH m c) (aG m c) (fun _ => 0) (lossBack (aH m c) (aG m c) (aT m c)) := by
  refine (dats m 0 c).arrAt_eq_of_covers 5 _ (by decide +kernel) fun t hf y => ?_
  blk_simp
  rw [after0_5, outs_dhh]
  change S512x1024.Idx at y
  obtain ⟨r, d, rfl⟩ : ∃ (r : Fin 512) (d : Fin 1024), y = ix2 r d := ⟨y 0, y 1, eq_ix2 y⟩
  have he : (win0_5.blk t).view.emb (ix2 r d : S512x1024.Idx) = (ix2 (tok t r) d : S8192x1024.Idx) := by blk_ext [idx t, tok]
  rw [he]
  exact blkD_eq _ _ _ _ t _ _ _ _ (fun _ _ => rfl) (readH m c t) (readG m c t) (bdn_eq m c t) r d

/-- The gain's gradient. -/
theorem arr_dg : (dats m 0 c).arrAt 6 cfg0.N = gainArr (aH m c) (lossBack (aH m c) (aG m c) (aT m c)) := by
  refine (dats m 0 c).arrAt_eq_of_covers 6 _ (by decide +kernel) fun t hf y => ?_
  blk_simp
  rw [after0_6]
  change S1x1024.Idx at y
  obtain ⟨q, d, rfl⟩ : ∃ (q : Fin 1) (d : Fin 1024), y = ix2 q d := ⟨y 0, y 1, eq_ix2 y⟩
  obtain rfl : q = 0 := Subsingleton.elim _ _
  rw [outs_dg m c t ((flush0_6 t).mp hf)]
  have he : (win0_6.blk t).view.emb (ix2 0 d : S1x1024.Idx) = (ix2 0 d : S1x1024.Idx) := by blk_ext [idx t]
  rw [he]
  show _ = gainBack (aH m c) (lossBack (aH m c) (aG m c) (aT m c)) d
  unfold gainBack
  rw [sum_tok]
  exact Finset.sum_congr rfl fun t _ => partG_eq _ _ t _ _ (readH m c t) (bdn_eq m c t) d

end Cert.LossBVal
-- ==== Proof.LossBClaims.lean ====
/-
  The claims about the loss head.
-/
module

public import proofs.«01_k».proof.Defs
public import proofs.«01_k».proof.Proof.Gen.LossB.Frame
public import proofs.«01_k».proof.Proof.LossBArr
public import proofs.«01_k».proof.Proof.Gen.LossBRefIdeal.Run
public import Idealize.ShloMosaic.Lib.Quiescent
public import Idealize.ShloMosaic.Lib.Claim

@[expose] public section

set_option maxRecDepth 16384

noncomputable section

namespace Cert.LossBClaims

open Idealize.ShloMosaic Idealize.ShloMosaic.TcCoe Idealize.SL.Sem Cert.MlpRow Cert.NormBack

section reference

open Cert.LossBRefIdeal Cert.LossBRefIdeal.Gen

/-- The chain rule's factor is one over the width. -/
theorem back_factor (x : EReal) : Ideal.div LossBVal.half width * (two * x) = x * LossBVal.inv := by
  have h2 : two = ((2 : ℝ) : EReal) := by
    simp [two, Ideal.ofBits, Ideal.ieee, -EReal.coe_mul] <;> norm_num
  have h3 : LossBVal.inv = ((1 / 1024 : ℝ) : EReal) := by
    simp [LossBVal.inv, Ideal.ofBits, Ideal.ieee, -EReal.coe_mul] <;> norm_num
  rw [LossBVal.half_eq, h2, h3, width_eq, Ideal.div_coe (by norm_num : (1024 : ℝ) ≠ 0), ← mul_assoc, ← EReal.coe_mul, ← EReal.coe_mul, mul_comm]
  congr 2
  norm_num

/-- The reference's way to write the tokens' gradient. -/
theorem head_chain {n : ℕ} (h g t : Fin n → EReal) (dn : Fin n → EReal) (d : Fin n) :
    dn d * g d * scale h + h d * Ideal.div ((∑ x, h x * (dn x * g x)) * (mhalf * Ideal.div (scale h) (meanSq h))) width
      + Ideal.div ((∑ x, h x * (dn x * g x)) * (mhalf * Ideal.div (scale h) (meanSq h))) width * h d = rmsBack h g (fun _ => 0) dn d := by
  rw [← rmsBack_chain, zero_add]

variable (m : (ℓ : Loc nD τ sig) → Buf (Elt Ideal) ℓ)

/-- The reference's gradient of the tokens. -/
theorem ref_dh (c : Dev nD) : Value.res_main_v50 m c = tokArr (m ((c.tc : Thread nD τ).loc main_arg0)) (m ((c.tc : Thread nD τ).loc main_arg1)) (fun _ => 0) (LossBVal.lossBack (m ((c.tc : Thread nD τ).loc main_arg0)) (m ((c.tc : Thread nD τ).loc main_arg1)) (m ((c.tc : Thread nD τ).loc main_arg2))) := by
  funext y
  change Cert.LossBIdeal.S8192x1024.Idx at y
  obtain ⟨t, d, rfl⟩ : ∃ (t : Fin 8192) (d : Fin 1024), y = ix2 t d := ⟨y 0, y 1, eq_ix2 y⟩
  unfold Value.res_main_v50
  pointwise
  simp only [Finset.univ_unique, Finset.sum_singleton, back_factor]
  exact head_chain (fun k => (m ((c.tc : Thread nD τ).loc main_arg0)) (ix2 t k)) (fun k => (m ((c.tc : Thread nD τ).loc main_arg1)) (ix1 k)) (fun k => (m ((c.tc : Thread nD τ).loc main_arg2)) (ix2 t k)) ((LossBVal.lossBack (m ((c.tc : Thread nD τ).loc main_arg0)) (m ((c.tc : Thread nD τ).loc main_arg1)) (m ((c.tc : Thread nD τ).loc main_arg2))) t) d

/-- The reference's gradient of the tokens at half width. -/
theorem ref_dhh (c : Dev nD) : Value.res_main_v52 m c = tokArr (m ((c.tc : Thread nD τ).loc main_arg0)) (m ((c.tc : Thread nD τ).loc main_arg1)) (fun _ => 0) (LossBVal.lossBack (m ((c.tc : Thread nD τ).loc main_arg0)) (m ((c.tc : Thread nD τ).loc main_arg1)) (m ((c.tc : Thread nD τ).loc main_arg2))) := by
  funext y
  change Cert.LossBIdeal.S8192x1024.Idx at y
  obtain ⟨t, d, rfl⟩ : ∃ (t : Fin 8192) (d : Fin 1024), y = ix2 t d := ⟨y 0, y 1, eq_ix2 y⟩
  unfold Value.res_main_v52
  pointwise
  simp only [Finset.univ_unique, Finset.sum_singleton, back_factor]
  exact head_chain (fun k => (m ((c.tc : Thread nD τ).loc main_arg0)) (ix2 t k)) (fun k => (m ((c.tc : Thread nD τ).loc main_arg1)) (ix1 k)) (fun k => (m ((c.tc : Thread nD τ).loc main_arg2)) (ix2 t k)) ((LossBVal.lossBack (m ((c.tc : Thread nD τ).loc main_arg0)) (m ((c.tc : Thread nD τ).loc main_arg1)) (m ((c.tc : Thread nD τ).loc main_arg2))) t) d

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v51) = LossBVal.lossArr (m ((c.tc : Thread nD τ).loc main_arg0)) (m ((c.tc : Thread nD τ).loc main_arg1)) (m ((c.tc : Thread nD τ).loc main_arg2))
    ∧ r.2.mem ((c.tc : Thread nD τ).loc main_v50) = tokArr (m ((c.tc : Thread nD τ).loc main_arg0)) (m ((c.tc : Thread nD τ).loc main_arg1)) (fun _ => 0) (LossBVal.lossBack (m ((c.tc : Thread nD τ).loc main_arg0)) (m ((c.tc : Thread nD τ).loc main_arg1)) (m ((c.tc : Thread nD τ).loc main_arg2)))
    ∧ r.2.mem ((c.tc : Thread nD τ).loc main_v52) = tokArr (m ((c.tc : Thread nD τ).loc main_arg0)) (m ((c.tc : Thread nD τ).loc main_arg1)) (fun _ => 0) (LossBVal.lossBack (m ((c.tc : Thread nD τ).loc main_arg0)) (m ((c.tc : Thread nD τ).loc main_arg1)) (m ((c.tc : Thread nD τ).loc main_arg2)))
    ∧ r.2.mem ((c.tc : Thread nD τ).loc main_v53) = gainArr (m ((c.tc : Thread nD τ).loc main_arg0)) (LossBVal.lossBack (m ((c.tc : Thread nD τ).loc main_arg0)) (m ((c.tc : Thread nD τ).loc main_arg1)) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans (ref_dh m c), (h c).2.2.1.trans (ref_dhh m c), (h c).2.2.2.1.trans ?_, (h c).2.2.2.2⟩) (Value.run m ρ)
  · funext y
    change Cert.LossBIdeal.S1x1.Idx at y
    obtain ⟨q, d, rfl⟩ : ∃ (q : Fin 1) (d : Fin 1), y = ix2 q d := ⟨y 0, y 1, eq_ix2 y⟩
    pointwise
    rfl
  · funext y
    change Cert.LossBIdeal.S1x1024.Idx at y
    obtain ⟨q, d, rfl⟩ : ∃ (q : Fin 1) (d : Fin 1024), y = ix2 q d := ⟨y 0, y 1, eq_ix2 y⟩
    pointwise
    simp only [Finset.univ_unique, Finset.sum_singleton, back_factor]
    exact Finset.sum_congr rfl fun t _ => mul_comm _ _

end reference

/-- The kernel as printed ends, its arguments unchanged and every counter at zero. -/
theorem ends : quiescent_LossB (hLossB := Cert.LossB.Gen.facts) := fun m ρ _ => Cert.LossB.Gen.frame m ρ

/-- So does its exact form. -/
theorem ideal_ends : quiescent_LossBIdeal (hLossBIdeal := Cert.LossBIdeal.Gen.facts) := fun m ρ _ => Cert.LossBIdeal.Gen.frame m ρ

/-- So does the reference. -/
theorem ref_ends : quiescent_LossBRefIdeal (hLossBRefIdeal := Cert.LossBRefIdeal.Gen.facts) := fun m ρ _ =>
  (θ_run _ _ _).mono (fun r h => ⟨fun c => (h c).2.2.2.2, sem_eq_zero_of_no_sems (by decide) r.2⟩) (Cert.LossBRefIdeal.Value.run m ρ)

/-- Both programs' results are the loss, the tokens' gradient at both widths and the gain's gradient, as the same functions of
    the arguments. -/
theorem equal : algebraic_LossBIdeal_LossBRefIdeal (hLossBIdeal := Cert.LossBIdeal.Gen.facts) (hLossBRefIdeal := Cert.LossBRefIdeal.Gen.facts) := by
  intro m ρ m' ρ' _ hag
  refine ⟨fun c => LossBVal.lossArr (LossBVal.aH m c) (LossBVal.aG m c) (LossBVal.aT m c),
    fun c => tokArr (LossBVal.aH m c) (LossBVal.aG m c) (fun _ => 0) (LossBVal.lossBack (LossBVal.aH m c) (LossBVal.aG m c) (LossBVal.aT m c)),
    fun c => tokArr (LossBVal.aH m c) (LossBVal.aG m c) (fun _ => 0) (LossBVal.lossBack (LossBVal.aH m c) (LossBVal.aG m c) (LossBVal.aT m c)),
    fun c => gainArr (LossBVal.aH m c) (LossBVal.lossBack (LossBVal.aH m c) (LossBVal.aG m c) (LossBVal.aT m c)),
    (θ_run _ _ _).mono (fun _ h c => ⟨(h c).1.trans (LossBVal.arr_l m c), (h c).2.1.trans (LossBVal.arr_dh m c), (h c).2.2.1.trans (LossBVal.arr_dhh m c),
      (h c).2.2.2.1.trans (LossBVal.arr_dg m c), (h c).2.2.2.2⟩) (Cert.LossBIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩ <;>
  rw [(hag c).1, (hag c).2.1, (hag c).2.2]

end Cert.LossBClaims
-- ==== Proof.AinNRun.lean ====
/-
  The first short convolution's input product, on tokens normalised before the call, on one block of tokens.
-/
module

public import proofs.«01_k».proof.Proof.NormFwd
public import proofs.«01_k».proof.Proof.Gen.AinNIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AinNVal

open Idealize.ShloMosaic Idealize.ShloMosaic.TcCoe Idealize.SL.Sem Cert.AinNIdeal Cert.AinNIdeal.Gen Cert.MlpRow Cert.NormFwd Cert.Cols

/-- The product of the normalised token `r` of a block with column `b` of device `p`. -/
def dotN (x0 : Vec Ideal S512x1024 .bf16) (x2 : Vec Ideal S4x1x1024x768 .bf16) (r : Fin 512) (p : Fin 4) (b : Fin 768) : EReal :=
  ∑ k : Fin 1024, x0 (ix2 r k) * x2 (ix4 p 0 k b)

section pieces

variable (c : Dev nD) (i : grid0.Coords) (arg1 : Memref sig .tc .vmem S512x1024 .bf16) (harg1 : arg1.IsWhole) (arg2 : Memref sig .tc .vmem S1x1024 .f32) (harg2 : arg2.IsWhole)
    (arg3 : Memref sig .tc .vmem S4x1x1024x768 .bf16) (harg3 : arg3.IsWhole) (arg4 : Memref sig .tc .vmem S512x1024 .bf16) (harg4 : arg4.IsWhole)
    (arg5 : Memref sig .tc .vmem S3x512x1024 .bf16) (harg5 : arg5.IsWhole)
    (x0 : Vec Ideal S512x1024 .bf16) (x1 : Vec Ideal S1x1024 .f32) (x2 : Vec Ideal S4x1x1024x768 .bf16)

/-- The piece stored for the normalised tokens is the block as it came. -/
theorem pcsN_eq : ∀ p ∈ (kernelRun0_A c i arg1 harg1 arg2 harg2 arg3 harg3 arg4 harg4 arg5 harg5 x0 x1 x2).1, ∀ x, p.2 x = x0 (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise

/-- The pieces stored for the products are their closed block. -/
theorem pcsO_eq : ∀ p ∈ (kernelRun0_A c i arg1 harg1 arg2 harg2 arg3 harg3 arg4 harg4 arg5 harg5 x0 x1 x2).2.1, ∀ x, p.2 x = planes (B := 1024) (P := 3) (by omega) (dotN x0 x2) (p.1.emb x) := by
  unfold kernelRun0_A
  dsimp only
  sl_unfold_words
  simp (disch := decide) only [View.readAt_eq_ld, harg1.read_unread, harg2.read_unread, harg3.read_unread, View.readCov_skip, View.readCov_fill]
  rw [List.forall_mem_cons, List.forall_mem_cons, List.forall_mem_cons, List.forall_mem_cons, List.forall_mem_cons, List.forall_mem_cons, List.forall_mem_cons, List.forall_mem_cons]
  refine ⟨?_, ?_, ?_, ?_, ?_, ?_, ?_, ?_, fun _ h => (List.not_mem_nil h).elim⟩
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 2) (o := 768) _ (dotN x0 x2) _ (by omega) 0 r d 3 ⟨512 + d.val, by omega⟩ (by show 1024 * 2 + (768 + d.val) = 768 * 3 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 2) (o := 256) _ (dotN x0 x2) _ (by omega) 0 r d 3 ⟨d.val, by omega⟩ (by show 1024 * 2 + (256 + d.val) = 768 * 3 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 2) (o := 0) _ (dotN x0 x2) _ (by omega) 0 r d 2 ⟨512 + d.val, by omega⟩ (by show 1024 * 2 + (0 + d.val) = 768 * 2 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 1) (o := 512) _ (dotN x0 x2) _ (by omega) 0 r d 2 ⟨d.val, by omega⟩ (by show 1024 * 1 + (512 + d.val) = 768 * 2 + d.val; omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 1) (o := 0) _ (dotN x0 x2) _ (by omega) 0 r d 1 ⟨256 + d.val, by omega⟩ (by show 1024 * 1 + (0 + d.val) = 768 * 1 + (256 + d.val); omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 0) (o := 768) _ (dotN x0 x2) _ (by omega) 0 r d 1 ⟨d.val, by omega⟩ (by show 1024 * 0 + (768 + d.val) = 768 * 1 + d.val; omega) (by omega)).symm
    unfold_payloads
    pointwise
    rfl
  · intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (planes_emb (B := 1024) (s := 0) (o := 512) _ (dotN x0 x2) _ (by omega) 0 r d 0 ⟨512 + d.val, by omega⟩ (by show 1024 * 0 + (512 + d.val) = 768 * 0 + (512 + d.val); omega) (by omega)).symm
    unfold_payloads
    pointwise
    rfl
  · intro x
    dsimp only
    change S1x512x512.Idx at x
    obtain ⟨k, r, d, rfl⟩ : ∃ (k : Fin 1) (r : Fin 512) (d : Fin 512), x = ix3 k r d := ⟨x 0, x 1, x 2, eq_ix3 x⟩
    obtain rfl : k = 0 := Subsingleton.elim _ _
    refine Eq.trans ?_ (planes_emb (B := 1024) (s := 0) (o := 0) _ (dotN x0 x2) _ (by omega) 0 r d 0 ⟨d.val, by omega⟩ (by show 1024 * 0 + (0 + d.val) = 768 * 0 + d.val; omega) (by omega)).symm
    unfold_payloads
    pointwise
    rfl

end pieces

variable (m : (ℓ : Loc nD τ sig) → Buf (Elt Ideal) ℓ)

/-- After every point the block holds the normalised tokens. -/
theorem outsN (c : Dev nD) (t : Fin cfg0.N) : (outsAt0 m c t).1 = iblk m c 0 t := by
  unfold outsAt0
  dsimp only
  unfold out0_A_3
  funext y
  refine View.read_writes_apply_of_pieces VO0_3 _ _ _ ?_ y (cover0_A_3 ..)
  apply pcsN_eq

/-- After every point the block holds the products. -/
theorem outsO (c : Dev nD) (t : Fin cfg0.N) : (outsAt0 m c t).2 = planes (B := 1024) (P := 3) (by omega) (dotN (iblk m c 0 t) (iblk m c 2 t)) := by
  unfold outsAt0
  dsimp only
  unfold out0_A_4
  funext y
  refine View.read_writes_apply_of_pieces VO0_4 _ _ _ ?_ y (cover0_A_4 ..)
  apply pcsO_eq

end Cert.AinNVal
-- ==== Proof.AinNArr.lean ====
/-
  The first short convolution's input product, on tokens normalised before the call: the kernel's two output arrays.
-/
module

public import proofs.«01_k».proof.Proof.AinNRun
public import Idealize.ShloMosaic.Lib.Pipeline.ValueKit
public import Idealize.ShloMosaic.Lib.Pointwise

@[expose] public section

set_option maxRecDepth 16384

noncomputable section

namespace Cert.AinNVal

open Idealize.ShloMosaic Idealize.ShloMosaic.TcCoe Idealize.SL.Sem Cert.AinNIdeal Cert.AinNIdeal.Gen Cert.MlpRow Cert.NormBack Cert.NormFwd Cert.Cols

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![0, 0, 0, 0] ∧ win0_3.index t = ![t.val, 0] ∧ win0_4.index t = ![0, t.val, 0] :=
  (by decide +kernel : ∀ t : Fin grid0.N, win0_0.index t = ![t.val, 0] ∧ win0_1.index t = ![0, 0] ∧ win0_2.index t = ![0, 0, 0, 0] ∧ win0_3.index t = ![t.val, 0] ∧ win0_4.index t = ![0, t.val, 0])

/-- The tokens. -/
abbrev aH : Vec Ideal S8192x1024 .f32 := m ((c : Thread nD τ).loc main_arg0)
/-- The gain. -/
abbrev aG : Vec Ideal S1024 .f32 := m ((c : Thread nD τ).loc main_arg1)
/-- The weights. -/
abbrev aW : Vec Ideal S1024x3072 .f32 := m ((c : Thread nD τ).loc main_arg2)

/-- The block of normalised tokens, which the program makes before the call. -/
theorem readN (t : Fin cfg0.N) (r : Fin 512) (k : Fin 1024) : (iblk m c 0 t : Vec Ideal S512x1024 .bf16) (ix2 r k) = normArr (aH m c) (aG m c) (ix2 (tok t r) k) := by
  have he : (win0_0.blk t).view.emb (ix2 r k : S512x1024.Idx) = (ix2 (tok t r) k : S8192x1024.Idx) := by blk_ext [idx t, tok]
  blk_simp [iblk]
  rw [he]
  entry_read
  pointwise
  rfl

theorem readW (t : Fin cfg0.N) (p : Fin 4) (d : Fin 1024) (b : Fin 768) :
    (iblk m c 2 t : Vec Ideal S4x1x1024x768 .bf16) (ix4 p 0 d b) = aW m c (ix2 d ⟨768 * p.val + b.val, by omega⟩) := by
  have he : (win0_2.blk t).view.emb (ix4 p 0 d b : S4x1x1024x768.Idx) = (ix4 p 0 d b : S4x1x1024x768.Idx) := by blk_ext [idx t]
  blk_simp [iblk]
  rw [he]
  entry_read
  pointwise
  exact congrArg (fun q => aW m c (ix2 d q)) (Fin.ext (by dsimp only; omega))

/-- THE NORMALISED TOKENS. -/
theorem arr_n : (dats m 0 c).arrAt 3 cfg0.N = normArr (aH m c) (aG m c) := by
  refine (dats m 0 c).arrAt_eq_of_covers 3 _ (by decide +kernel) fun t hf y => ?_
  blk_simp
  rw [after0_3, outsN]
  change S512x1024.Idx at y
  obtain ⟨r, d, rfl⟩ : ∃ (r : Fin 512) (d : Fin 1024), y = ix2 r d := ⟨y 0, y 1, eq_ix2 y⟩
  have he : (win0_3.blk t).view.emb (ix2 r d : S512x1024.Idx) = (ix2 (tok t r) d : S8192x1024.Idx) := by blk_ext [idx t, tok]
  rw [he]
  exact readN m c t r d

/-- THE PRODUCTS. -/
theorem arr_o : (dats m 0 c).arrAt 4 cfg0.N = prodArr (P := 3) (B := 1024) rfl (aH m c) (aG m c) (aW m c) := by
  refine (dats m 0 c).arrAt_eq_of_covers 4 _ (by decide +kernel) fun t hf y => ?_
  blk_simp
  rw [after0_4, outsO]
  change S3x512x1024.Idx at y
  obtain ⟨s, r, d, rfl⟩ : ∃ (s : Fin 3) (r : Fin 512) (d : Fin 1024), y = ix3 s r d := ⟨y 0, y 1, y 2, eq_ix3 y⟩
  have he : (win0_4.blk t).view.emb (ix3 s r d : S3x512x1024.Idx) = (ix3 s (tok t r) d : S3x8192x1024.Idx) := by blk_ext [idx t, tok]
  rw [he]
  exact planes_eq _ _ (fun n hn => prodAt (aH m c) (aG m c) (aW m c) (tok t r) ⟨n, hn⟩) s r d
    (fun p b hn => Finset.sum_congr rfl fun k _ => congrArg₂ _ (readN m c t r k) (readW m c t p k b)) (by omega)

end Cert.AinNVal
-- ==== Proof.AinNClaims.lean ====
/-
  The first short convolution's input product, on tokens normalised before the call: the reference's results, and the claims.
-/
module

public import proofs.«01_k».proof.Defs
public import proofs.«01_k».proof.Proof.Gen.AinN.Frame
public import proofs.«01_k».proof.Proof.Gen.AinNRefIdeal.Run
public import proofs.«01_k».proof.Proof.AinNArr
public import Idealize.ShloMosaic.Lib.Quiescent

@[expose] public section

set_option maxRecDepth 16384

noncomputable section

namespace Cert.AinNClaims

open Idealize.ShloMosaic Idealize.ShloMosaic.TcCoe Idealize.SL.Sem Cert.MlpRow Cert.NormBack Cert.NormFwd

section reference

open Cert.AinNRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_v22) = prodArr (P := 3) (B := 1024) (N := 3072) rfl (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · funext y
    change Cert.AinNIdeal.S8192x1024.Idx at y
    obtain ⟨t, d, rfl⟩ : ∃ (t : Fin 8192) (d : Fin 1024), y = ix2 t d := ⟨y 0, y 1, eq_ix2 y⟩
    pointwise
    rfl
  · funext y
    change Cert.AinNIdeal.S3x8192x1024.Idx at y
    obtain ⟨s, t, d, rfl⟩ : ∃ (s : Fin 3) (t : Fin 8192) (d : Fin 1024), y = ix3 s t d := ⟨y 0, y 1, y 2, eq_ix3 y⟩
    fin_cases s
    all_goals pointwise
    · exact congrArg (prodAt (m ((c.tc : Thread nD τ).loc main_arg0)) (m ((c.tc : Thread nD τ).loc main_arg1)) (m ((c.tc : Thread nD τ).loc main_arg2)) t) (Fin.ext (by show d.val = 1024 * 0 + d.val; omega))
    · exact congrArg (prodAt (m ((c.tc : Thread nD τ).loc main_arg0)) (m ((c.tc : Thread nD τ).loc main_arg1)) (m ((c.tc : Thread nD τ).loc main_arg2)) t) (Fin.ext (by show 1024 + d.val = 1024 * 1 + d.val; omega))
    · exact congrArg (prodAt (m ((c.tc : Thread nD τ).loc main_arg0)) (m ((c.tc : Thread nD τ).loc main_arg1)) (m ((c.tc : Thread nD τ).loc main_arg2)) t) (Fin.ext (by show 2048 + d.val = 1024 * 2 + d.val; omega))

end reference

/-- The kernel as printed ends, its arguments unchanged and every counter at zero. -/
theorem ends : quiescent_AinN (hAinN := Cert.AinN.Gen.facts) := fun m ρ _ => Cert.AinN.Gen.frame m ρ

/-- So does its exact form. -/
theorem ideal_ends : quiescent_AinNIdeal (hAinNIdeal := Cert.AinNIdeal.Gen.facts) := fun m ρ _ => Cert.AinNIdeal.Gen.frame m ρ

/-- So does the reference. -/
theorem ref_ends : quiescent_AinNRefIdeal (hAinNRefIdeal := Cert.AinNRefIdeal.Gen.facts) := fun m ρ _ =>
  (θ_run _ _ _).mono (fun r h => ⟨fun c => (h c).2.2, sem_eq_zero_of_no_sems (by decide) r.2⟩) (Cert.AinNRefIdeal.Value.run m ρ)

/-- Both programs' results are the normalised tokens and their product with the weights, as the same functions of the arguments. -/
theorem equal : algebraic_AinNIdeal_AinNRefIdeal (hAinNIdeal := Cert.AinNIdeal.Gen.facts) (hAinNRefIdeal := Cert.AinNRefIdeal.Gen.facts) := by
  intro m ρ m' ρ' _ hag
  refine ⟨fun c => normArr (AinNVal.aH m c) (AinNVal.aG m c), fun c => prodArr (P := 3) (B := 1024) (N := 3072) rfl (AinNVal.aH m c) (AinNVal.aG m c) (AinNVal.aW m c),
    (θ_run _ _ _).mono (fun _ h c => ⟨(h c).1.trans (AinNVal.arr_n m c), (h c).2.1.trans (AinNVal.arr_o m c), (h c).2.2⟩) (Cert.AinNIdeal.Value.run_blocks m ρ),
    (θ_run _ _ _).mono (fun _ h c => ⟨(h c).1.trans ?_, (h c).2.1.trans ?_, (h c).2.2⟩) (ref_run m' ρ')⟩
  · rw [(hag c).1, (hag c).2.1]
  · rw [(hag c).1, (hag c).2.1, (hag c).2.2]

end Cert.AinNClaims
-- ==== Proof.RmsArr.lean ====
/-
  The normalisation before the first layer: the kernel's output array.
-/
module

public import proofs.«01_k».proof.Proof.NormFwd
public import proofs.«01_k».proof.Proof.Tiles
public import proofs.«01_k».proof.Proof.Cols
public import proofs.«01_k».proof.Proof.Gen.RmsIdeal.Value
public import Idealize.ShloMosaic.Lib.Pipeline.ValueKit
public import Idealize.ShloMosaic.Lib.Pointwise

@[expose] public section

set_option maxRecDepth 16384

noncomputable section

namespace Cert.RmsVal

open Idealize.ShloMosaic Idealize.ShloMosaic.TcCoe Idealize.SL.Sem Cert.RmsIdeal Cert.RmsIdeal.Gen Cert.MlpRow Cert.NormBack Cert.NormFwd Cert.Cols

/-- THE BLOCK the body stores. -/
theorem out_eq (x0 : Vec Ideal S512x1024 .f32) (x1 : Vec Ideal S1x1024 .f32) : out0_2 x0 x1 = blkN x0 x1 := by
  funext y
  refine canon_of_pieces _ _ ?_ y (cover0_2 _ y)
  rw [List.forall_mem_cons]
  refine ⟨?_, fun _ h => (List.not_mem_nil h).elim⟩
  intro x
  dsimp only
  change S512x1024.Idx at x
  obtain ⟨r, d, rfl⟩ : ∃ (r : Fin 512) (d : Fin 1024), x = ix2 r d := ⟨x 0, x 1, eq_ix2 x⟩
  refine Eq.trans ?_ (congrArg _ (Cert.Tiles.emb_whole _ _ _).symm)
  unfold_payloads
  pointwise
  rfl

variable (m : (ℓ : Loc nD τ sig) → Buf (Elt Ideal) ℓ) (c : Dev nD)

/-- The windows' index maps. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The tokens. -/
abbrev aH : Vec Ideal S8192x1024 .f32 := m ((c : Thread nD τ).loc main_arg0)
/-- The gain. -/
abbrev aG : Vec Ideal S1024 .f32 := m ((c : Thread nD τ).loc main_arg1)

theorem readH (t : Fin cfg0.N) (r : Fin 512) (k : Fin 1024) : (iblk m c 0 t : Vec Ideal S512x1024 .f32) (ix2 r k) = aH m c (ix2 (tok t r) k) := by
  blk_ext [iblk, V, idx t, tok]

theorem readG (t : Fin cfg0.N) (k : Fin 1024) : (iblk m c 1 t : Vec Ideal S1x1024 .f32) (ix2 0 k) = aG m c (ix1 k) := by
  have he : (win0_1.blk t).view.emb (ix2 0 k : S1x1024.Idx) = (ix2 0 k : S1x1024.Idx) := by blk_ext [idx t]
  blk_simp [iblk]
  rw [he]
  entry_read
  pointwise

/-- THE NORMALISED TOKENS. -/
theorem arr_n : (dats m 0 c).arrAt 2 cfg0.N = normArr (aH m c) (aG m c) := by
  refine (dats m 0 c).arrAt_eq_of_covers 2 _ (by decide +kernel) fun t hf y => ?_
  blk_simp
  rw [after0_2, out_eq]
  change S512x1024.Idx at y
  obtain ⟨r, d, rfl⟩ : ∃ (r : Fin 512) (d : Fin 1024), y = ix2 r d := ⟨y 0, y 1, eq_ix2 y⟩
  have he : (win0_2.blk t).view.emb (ix2 r d : S512x1024.Idx) = (ix2 (tok t r) d : S8192x1024.Idx) := by blk_ext [idx t, tok]
  rw [he]
  exact blkN_eq _ _ t _ _ (readH m c t) (readG m c t) r d

end Cert.RmsVal
-- ==== Proof.RmsClaims.lean ====
/-
  The normalisation before the first layer: the reference's result, and the claims.
-/
module

public import proofs.«01_k».proof.Defs
public import proofs.«01_k».proof.Proof.Gen.Rms.Frame
public import proofs.«01_k».proof.Proof.Gen.RmsRefIdeal.Run
public import proofs.«01_k».proof.Proof.RmsArr
public import Idealize.ShloMosaic.Lib.Quiescent

@[expose] public section

set_option maxRecDepth 16384

noncomputable section

namespace Cert.RmsClaims

open Idealize.ShloMosaic Idealize.ShloMosaic.TcCoe Idealize.SL.Sem Cert.MlpRow Cert.NormBack Cert.NormFwd

section reference

open Cert.RmsRefIdeal

variable (m : (ℓ : Loc nD τ sig) → Buf (Elt Ideal) ℓ)

/-- THE REFERENCE'S RUN: its result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v13) = normArr (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨(h c).1.trans ?_, (h c).2⟩) (Value.run m ρ)
  funext y
  change Cert.RmsIdeal.S8192x1024.Idx at y
  obtain ⟨t, d, rfl⟩ : ∃ (t : Fin 8192) (d : Fin 1024), y = ix2 t d := ⟨y 0, y 1, eq_ix2 y⟩
  pointwise
  rfl

end reference

/-- The kernel as printed ends, its arguments unchanged and every counter at zero. -/
theorem ends : quiescent_Rms (hRms := Cert.Rms.Gen.facts) := fun m ρ _ => Cert.Rms.Gen.frame m ρ

/-- So does its exact form. -/
theorem ideal_ends : quiescent_RmsIdeal (hRmsIdeal := Cert.RmsIdeal.Gen.facts) := fun m ρ _ => Cert.RmsIdeal.Gen.frame m ρ

/-- So does the reference. -/
theorem ref_ends : quiescent_RmsRefIdeal (hRmsRefIdeal := Cert.RmsRefIdeal.Gen.facts) := fun m ρ _ =>
  (θ_run _ _ _).mono (fun r h => ⟨fun c => (h c).2, sem_eq_zero_of_no_sems (by decide) r.2⟩) (Cert.RmsRefIdeal.Value.run m ρ)

/-- Both programs' results are the normalised tokens, as the same function of the arguments. -/
theorem equal : algebraic_RmsIdeal_RmsRefIdeal (hRmsIdeal := Cert.RmsIdeal.Gen.facts) (hRmsRefIdeal := Cert.RmsRefIdeal.Gen.facts) := by
  intro m ρ m' ρ' _ hag
  refine ⟨fun c => normArr (RmsVal.aH m c) (RmsVal.aG m c),
    (θ_run _ _ _).mono (fun _ h c => ⟨(h c).1.trans (RmsVal.arr_n m c), (h c).2⟩) (Cert.RmsIdeal.Value.run_blocks m ρ),
    (θ_run _ _ _).mono (fun _ h c => ⟨(h c).1.trans ?_, (h c).2⟩) (ref_run m' ρ')⟩
  rw [(hag c).1, (hag c).2]

end Cert.RmsClaims
-- ==== Proof.Adam.lean ====
/-
  The optimiser's step on one weight, and on a stack of layers.
-/
module

public import proofs.«01_k».proof.Proof.Wgrad
public import proofs.«01_k».proof.Proof.Cols
public import proofs.«01_k».proof.Proof.Tiles

@[expose] public section

set_option maxRecDepth 16384

noncomputable section

namespace Cert.Adam

open Idealize.ShloMosaic

/-- The new first moment of a weight with gradient `g`. -/
def mom (g m : EReal) : EReal := Ideal.ofBits .f32 1063675494#32 * m + Ideal.ofBits .f32 1036831949#32 * g

/-- The new second moment. -/
def sec (g v : EReal) : EReal := Ideal.ofBits .f32 1065336439#32 * v + Ideal.ofBits .f32 981668463#32 * (g * g)

/-- The change of the weight `w`. -/
def step (w g m v : EReal) : EReal :=
  Ideal.ofBits .f32 3129152111#32 * (Ideal.div (Ideal.div (mom g m) (Ideal.ofBits .f32 1059503362#32)) (Ideal.sqrt (Ideal.div (sec g v) (Ideal.ofBits .f32 1008933580#32)) + Ideal.ofBits .f32 841731191#32) + Ideal.ofBits .f32 1008981770#32 * w)

variable {L R B A : ℕ}

/-- A stack of matrices. -/
abbrev Stk (L R B : ℕ) : Type := (⟨3, ![L, R, B]⟩ : Shape).Idx → EReal
/-- One matrix per layer. -/
abbrev Lay (L R B : ℕ) : Type := Fin L → (⟨2, ![R, B]⟩ : Shape).Idx → EReal

/-- A stack by its entries. -/
def stk (f : Fin L → Fin R → Fin B → EReal) : Stk L R B := fun y => f (y 0) (y 1) (y 2)

/-- A stack read through the rectangle that is one layer. -/
theorem stk_emb {p : ℕ} (f : Fin L → Fin R → Fin B → EReal) (h) (hp : p < L) (k : Fin 1) (r : Fin R) (d : Fin B) :
    stk f ((Rect.unit (s := ⟨3, ![L, R, B]⟩) ![p, 0, 0] ![1, R, B] h).emb (ix3 k r d)) = f ⟨p, hp⟩ r d := by
  rw [Cert.Wgrad.emb_slab h hp k r d (by omega)]
  exact congrArg (f ⟨p, hp⟩ r) (Fin.ext (Nat.zero_add d.val))

/-- The layers' gradients, stacked. -/
def grads (G : Lay L R B) : Stk L R B := stk fun l r d => G l (ix2 r d)
/-- The stack's change. -/
def steps (W M V : Stk L R B) (G : Lay L R B) : Stk L R B := stk fun l r d => step (W (ix3 l r d)) (G l (ix2 r d)) (M (ix3 l r d)) (V (ix3 l r d))
/-- The stack's new first moments. -/
def moms (M : Stk L R B) (G : Lay L R B) : Stk L R B := stk fun l r d => mom (G l (ix2 r d)) (M (ix3 l r d))
/-- The stack's new second moments. -/
def secs (V : Stk L R B) (G : Lay L R B) : Stk L R B := stk fun l r d => sec (G l (ix2 r d)) (V (ix3 l r d))

/-- A block of rows of the stacked gradients is the stack's, once the layers' blocks are. -/
theorem grads_eq (g : Lay L A B) (G : Lay L R B) (f : Fin A → Fin R) (hg : ∀ l r d, g l (ix2 r d) = G l (ix2 (f r) d)) (l : Fin L) (r : Fin A) (d : Fin B) :
    grads g (ix3 l r d) = grads G (ix3 l (f r) d) := hg l r d

/-- So is a block of the change. -/
theorem steps_eq (w m v : Stk L A B) (W M V : Stk L R B) (g : Lay L A B) (G : Lay L R B) (f : Fin A → Fin R) (hg : ∀ l r d, g l (ix2 r d) = G l (ix2 (f r) d))
    (hw : ∀ l r d, w (ix3 l r d) = W (ix3 l (f r) d)) (hm : ∀ l r d, m (ix3 l r d) = M (ix3 l (f r) d)) (hv : ∀ l r d, v (ix3 l r d) = V (ix3 l (f r) d))
    (l : Fin L) (r : Fin A) (d : Fin B) : steps w m v g (ix3 l r d) = steps W M V G (ix3 l (f r) d) := by
  show step (w (ix3 l r d)) (g l (ix2 r d)) (m (ix3 l r d)) (v (ix3 l r d)) = step (W (ix3 l (f r) d)) (G l (ix2 (f r) d)) (M (ix3 l (f r) d)) (V (ix3 l (f r) d))
  rw [hg, hw, hm, hv]

/-- So is a block of the first moments. -/
theorem moms_eq (m : Stk L A B) (M : Stk L R B) (g : Lay L A B) (G : Lay L R B) (f : Fin A → Fin R) (hg : ∀ l r d, g l (ix2 r d) = G l (ix2 (f r) d))
    (hm : ∀ l r d, m (ix3 l r d) = M (ix3 l (f r) d)) (l : Fin L) (r : Fin A) (d : Fin B) : moms m g (ix3 l r d) = moms M G (ix3 l (f r) d) := by
  show mom (g l (ix2 r d)) (m (ix3 l r d)) = mom (G l (ix2 (f r) d)) (M (ix3 l (f r) d))
  rw [hg, hm]

/-- So is a block of the second moments. -/
theorem secs_eq (v : Stk L A B) (V : Stk L R B) (g : Lay L A B) (G : Lay L R B) (f : Fin A → Fin R) (hg : ∀ l r d, g l (ix2 r d) = G l (ix2 (f r) d))
    (hv : ∀ l r d, v (ix3 l r d) = V (ix3 l (f r) d)) (l : Fin L) (r : Fin A) (d : Fin B) : secs v g (ix3 l r d) = secs V G (ix3 l (f r) d) := by
  show sec (g l (ix2 r d)) (v (ix3 l r d)) = sec (G l (ix2 (f r) d)) (V (ix3 l (f r) d))
  rw [hg, hv]

/-- A matrix of weights, gradients or moments. -/
abbrev Mat (R B : ℕ) : Type := (⟨2, ![R, B]⟩ : Shape).Idx → EReal

/-- A matrix's change. -/
def step2 (w g m v : Mat R B) : Mat R B := fun y => step (w y) (g y) (m y) (v y)
/-- Its new first moments. -/
def mom2 (g m : Mat R B) : Mat R B := fun y => mom (g y) (m y)
/-- Its new second moments. -/
def sec2 (g v : Mat R B) : Mat R B := fun y => sec (g y) (v y)

end Cert.Adam
-- ==== Proof.AdUpArr.lean ====
/-
  The optimiser's step on the first feed-forward weights: the kernel's four output arrays.
-/
module

public import proofs.«01_k».proof.Proof.Adam
public import proofs.«01_k».proof.Proof.Gen.AdUpIdeal.Value
public import Idealize.ShloMosaic.Lib.Pipeline.ValueKit
public import Idealize.ShloMosaic.Lib.Pointwise

@[expose] public section

set_option maxRecDepth 16384

noncomputable section

namespace Cert.AdUpVal

open Idealize.ShloMosaic Idealize.ShloMosaic.TcCoe Idealize.SL.Sem Cert.AdUpIdeal Cert.AdUpIdeal.Gen Cert.Adam Cert.Cols

section block

variable (x0 : Vec Ideal S4x64x1024 .f32) (x1 : Vec Ideal S4x64x1024 .f32) (x2 : Vec Ideal S4x64x1024 .f32) (x3 : Vec Ideal S64x1024 .f32) (x4 : Vec Ideal S64x1024 .f32) (x5 : Vec Ideal S64x1024 .f32) (x6 : Vec Ideal S64x1024 .f32)

/-- What the body stores: the stacked gradients, the change, and the new moments. -/
theorem outs : out0_7 x0 x1 x2 x3 x4 x5 x6 = (grads (L := 4) (R := 64) (B := 1024) ![x3, x4, x5, x6] : Vec Ideal S4x64x1024 .f32) ∧
    out0_8 x0 x1 x2 x3 x4 x5 x6 = (steps (L := 4) (R := 64) (B := 1024) x0 x1 x2 ![x3, x4, x5, x6] : Vec Ideal S4x64x1024 .f32) ∧
    out0_9 x0 x1 x2 x3 x4 x5 x6 = (moms (L := 4) (R := 64) (B := 1024) x1 ![x3, x4, x5, x6] : Vec Ideal S4x64x1024 .f32) ∧
    out0_10 x0 x1 x2 x3 x4 x5 x6 = (secs (L := 4) (R := 64) (B := 1024) x2 ![x3, x4, x5, x6] : Vec Ideal S4x64x1024 .f32) := by
  refine ⟨?_, ?_, ?_, ?_⟩
  on_goal 1 => (unfold_out out0_7; refine funext fun y => canon_of_pieces _ _ ?_ y (cover0_7 _ _ _ _ y))
  on_goal 2 => (unfold_out out0_8; refine funext fun y => canon_of_pieces _ _ ?_ y (cover0_8 _ _ _ _ y))
  on_goal 3 => (unfold_out out0_9; refine funext fun y => canon_of_pieces _ _ ?_ y (cover0_9 _ _ _ _ y))
  on_goal 4 => (unfold_out out0_10; refine funext fun y => canon_of_pieces _ _ ?_ y (cover0_10 _ _ _ _ y))
  all_goals
    rw [List.forall_mem_cons, List.forall_mem_cons, List.forall_mem_cons, List.forall_mem_cons]
    refine ⟨?_, ?_, ?_, ?_, fun _ h => (List.not_mem_nil h).elim⟩
  all_goals
    intro x
    dsimp only
    change S1x64x1024.Idx at x
    obtain ⟨k, r, d, rfl⟩ : ∃ (k : Fin 1) (r : Fin 64) (d : Fin 1024), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![t.val, 0] ∧ win0_6.index t = ![t.val, 0] ∧ win0_7.index t = ![0, t.val, 0] ∧ win0_8.index t = ![0, t.val, 0] ∧ win0_9.index t = ![0, t.val, 0] ∧ win0_10.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![t.val, 0] ∧ win0_6.index t = ![t.val, 0] ∧ win0_7.index t = ![0, t.val, 0] ∧ win0_8.index t = ![0, t.val, 0] ∧ win0_9.index t = ![0, t.val, 0] ∧ win0_10.index t = ![0, t.val, 0])

/-- Row `r` of block `t`. -/
def row (t : Fin 16) (r : Fin 64) : Fin 1024 := ⟨64 * t.val + r.val, by omega⟩

/-- The weights. -/
abbrev aW : Vec Ideal S4x1024x1024 .f32 := m ((c : Thread nD τ).loc main_arg0)
/-- The first moments. -/
abbrev aM : Vec Ideal S4x1024x1024 .f32 := m ((c : Thread nD τ).loc main_arg1)
/-- The second moments. -/
abbrev aV : Vec Ideal S4x1024x1024 .f32 := m ((c : Thread nD τ).loc main_arg2)
/-- The layers' gradients. -/
abbrev aG : Lay 4 1024 1024 := ![(m ((c : Thread nD τ).loc main_arg3) : Vec Ideal S1024x1024 .f32), (m ((c : Thread nD τ).loc main_arg4) : Vec Ideal S1024x1024 .f32), (m ((c : Thread nD τ).loc main_arg5) : Vec Ideal S1024x1024 .f32), (m ((c : Thread nD τ).loc main_arg6) : Vec Ideal S1024x1024 .f32)]

/-- The blocks of the weights and of the moments are blocks of rows. -/
theorem read (t : Fin cfg0.N) : (∀ (l : Fin 4) (r : Fin 64) (d : Fin 1024), (iblk m c 0 t : Vec Ideal S4x64x1024 .f32) (ix3 l r d) = aW m c (ix3 l (row t r) d)) ∧
    (∀ (l : Fin 4) (r : Fin 64) (d : Fin 1024), (iblk m c 1 t : Vec Ideal S4x64x1024 .f32) (ix3 l r d) = aM m c (ix3 l (row t r) d)) ∧
    (∀ (l : Fin 4) (r : Fin 64) (d : Fin 1024), (iblk m c 2 t : Vec Ideal S4x64x1024 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 4) (r : Fin 64) (d : Fin 1024), (![(iblk m c 3 t : Vec Ideal S64x1024 .f32), (iblk m c 4 t : Vec Ideal S64x1024 .f32), (iblk m c 5 t : Vec Ideal S64x1024 .f32), (iblk m c 6 t : Vec Ideal S64x1024 .f32)] : Lay 4 64 1024) l (ix2 r d) = aG m c l (ix2 (row t r) d) := by
  intro l r d
  fin_cases l
  · show (iblk m c 3 t : Vec Ideal S64x1024 .f32) _ = (m ((c : Thread nD τ).loc main_arg3) : Vec Ideal S1024x1024 .f32) _
    blk_ext [iblk, V, idx t, row]
  · show (iblk m c 4 t : Vec Ideal S64x1024 .f32) _ = (m ((c : Thread nD τ).loc main_arg4) : Vec Ideal S1024x1024 .f32) _
    blk_ext [iblk, V, idx t, row]
  · show (iblk m c 5 t : Vec Ideal S64x1024 .f32) _ = (m ((c : Thread nD τ).loc main_arg5) : Vec Ideal S1024x1024 .f32) _
    blk_ext [iblk, V, idx t, row]
  · show (iblk m c 6 t : Vec Ideal S64x1024 .f32) _ = (m ((c : Thread nD τ).loc main_arg6) : Vec Ideal S1024x1024 .f32) _
    blk_ext [iblk, V, idx t, row]

/-- So are those of the four output arrays. -/
theorem emb (t : Fin cfg0.N) (l : Fin 4) (r : Fin 64) (d : Fin 1024) : (win0_7.blk t).view.emb (ix3 l r d : S4x64x1024.Idx) = (ix3 l (row t r) d : S4x1024x1024.Idx) ∧ (win0_8.blk t).view.emb (ix3 l r d : S4x64x1024.Idx) = (ix3 l (row t r) d : S4x1024x1024.Idx) ∧ (win0_9.blk t).view.emb (ix3 l r d : S4x64x1024.Idx) = (ix3 l (row t r) d : S4x1024x1024.Idx) ∧ (win0_10.blk t).view.emb (ix3 l r d : S4x64x1024.Idx) = (ix3 l (row t r) d : S4x1024x1024.Idx) := by
  refine ⟨?_, ?_, ?_, ?_⟩ <;> blk_ext [idx t, row]

/-- THE OUTPUT ARRAYS: the stacked gradients, the change, and the new moments. -/
theorem arrs : (dats m 0 c).arrAt 7 cfg0.N = grads (aG m c) ∧ (dats m 0 c).arrAt 8 cfg0.N = steps (aW m c) (aM m c) (aV m c) (aG m c) ∧ (dats m 0 c).arrAt 9 cfg0.N = moms (aM m c) (aG m c) ∧ (dats m 0 c).arrAt 10 cfg0.N = secs (aV m c) (aG m c) := by
  refine ⟨(dats m 0 c).arrAt_eq_of_covers 7 _ (by decide +kernel) fun t hf y => ?_, (dats m 0 c).arrAt_eq_of_covers 8 _ (by decide +kernel) fun t hf y => ?_, (dats m 0 c).arrAt_eq_of_covers 9 _ (by decide +kernel) fun t hf y => ?_, (dats m 0 c).arrAt_eq_of_covers 10 _ (by decide +kernel) fun t hf y => ?_⟩
  all_goals
    blk_simp
    change S4x64x1024.Idx at y
    obtain ⟨l, r, d, rfl⟩ : ∃ (l : Fin 4) (r : Fin 64) (d : Fin 1024), y = ix3 l r d := ⟨y 0, y 1, y 2, eq_ix3 y⟩
  · rw [after0_7, (outs _ _ _ _ _ _ _).1, (emb t l r d).1]
    exact grads_eq _ _ (row t) (readG m c t) l r d
  · rw [after0_8, (outs _ _ _ _ _ _ _).2.1, (emb t l r d).2.1]
    exact steps_eq _ _ _ _ _ _ _ _ (row t) (readG m c t) (read m c t).1 (read m c t).2.1 (read m c t).2.2 l r d
  · rw [after0_9, (outs _ _ _ _ _ _ _).2.2.1, (emb t l r d).2.2.1]
    exact moms_eq _ _ _ _ (row t) (readG m c t) (read m c t).2.1 l r d
  · rw [after0_10, (outs _ _ _ _ _ _ _).2.2.2, (emb t l r d).2.2.2]
    exact secs_eq _ _ _ _ (row t) (readG m c t) (read m c t).2.2 l r d

end Cert.AdUpVal
-- ==== Proof.AdUpClaims.lean ====
/-
  The optimiser's step on the first feed-forward weights: the reference's results, and the claims.
-/
module

public import proofs.«01_k».proof.Defs
public import proofs.«01_k».proof.Proof.Gen.AdUp.Frame
public import proofs.«01_k».proof.Proof.Gen.AdUpRefIdeal.Run
public import proofs.«01_k».proof.Proof.AdUpArr
public import Idealize.ShloMosaic.Lib.Quiescent

@[expose] public section

set_option maxRecDepth 16384

noncomputable section

namespace Cert.AdUpClaims

open Idealize.ShloMosaic Idealize.ShloMosaic.TcCoe Idealize.SL.Sem Cert.Adam

section reference

open Cert.AdUpRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v4) = grads (L := 4) (R := 1024) (B := 1024) ![(m ((c.tc : Thread nD τ).loc main_arg3)), (m ((c.tc : Thread nD τ).loc main_arg4)), (m ((c.tc : Thread nD τ).loc main_arg5)), (m ((c.tc : Thread nD τ).loc main_arg6))]
    ∧ r.2.mem ((c.tc : Thread nD τ).loc main_v28) = steps (L := 4) (R := 1024) (B := 1024) (m ((c.tc : Thread nD τ).loc main_arg0)) (m ((c.tc : Thread nD τ).loc main_arg1)) (m ((c.tc : Thread nD τ).loc main_arg2)) ![(m ((c.tc : Thread nD τ).loc main_arg3)), (m ((c.tc : Thread nD τ).loc main_arg4)), (m ((c.tc : Thread nD τ).loc main_arg5)), (m ((c.tc : Thread nD τ).loc main_arg6))]
    ∧ r.2.mem ((c.tc : Thread nD τ).loc main_v9) = moms (L := 4) (R := 1024) (B := 1024) (m ((c.tc : Thread nD τ).loc main_arg1)) ![(m ((c.tc : Thread nD τ).loc main_arg3)), (m ((c.tc : Thread nD τ).loc main_arg4)), (m ((c.tc : Thread nD τ).loc main_arg5)), (m ((c.tc : Thread nD τ).loc main_arg6))]
    ∧ r.2.mem ((c.tc : Thread nD τ).loc main_v15) = secs (L := 4) (R := 1024) (B := 1024) (m ((c.tc : Thread nD τ).loc main_arg2)) ![(m ((c.tc : Thread nD τ).loc main_arg3)), (m ((c.tc : Thread nD τ).loc main_arg4)), (m ((c.tc : Thread nD τ).loc main_arg5)), (m ((c.tc : Thread nD τ).loc main_arg6))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdUpIdeal.S4x1024x1024.Idx at y
    obtain ⟨l, r, d, rfl⟩ : ∃ (l : Fin 4) (r : Fin 1024) (d : Fin 1024), y = ix3 l r d := ⟨y 0, y 1, y 2, eq_ix3 y⟩
    fin_cases l
    all_goals pointwise
    all_goals rfl

end reference

/-- The kernel as printed ends, its arguments unchanged and every counter at zero. -/
theorem ends : quiescent_AdUp (hAdUp := Cert.AdUp.Gen.facts) := fun m ρ _ => Cert.AdUp.Gen.frame m ρ

/-- So does its exact form. -/
theorem ideal_ends : quiescent_AdUpIdeal (hAdUpIdeal := Cert.AdUpIdeal.Gen.facts) := fun m ρ _ => Cert.AdUpIdeal.Gen.frame m ρ

/-- So does the reference. -/
theorem ref_ends : quiescent_AdUpRefIdeal (hAdUpRefIdeal := Cert.AdUpRefIdeal.Gen.facts) := fun m ρ _ =>
  (θ_run _ _ _).mono (fun r h => ⟨fun c => (h c).2.2.2.2, sem_eq_zero_of_no_sems (by decide) r.2⟩) (Cert.AdUpRefIdeal.Value.run m ρ)

/-- Both programs' results are the stacked gradients, the change and the new moments, as the same functions of the arguments. -/
theorem equal : algebraic_AdUpIdeal_AdUpRefIdeal (hAdUpIdeal := Cert.AdUpIdeal.Gen.facts) (hAdUpRefIdeal := Cert.AdUpRefIdeal.Gen.facts) := by
  intro m ρ m' ρ' _ hag
  refine ⟨fun c => grads (AdUpVal.aG m c), fun c => steps (AdUpVal.aW m c) (AdUpVal.aM m c) (AdUpVal.aV m c) (AdUpVal.aG m c), fun c => moms (AdUpVal.aM m c) (AdUpVal.aG m c), fun c => secs (AdUpVal.aV m c) (AdUpVal.aG m c),
    (θ_run _ _ _).mono (fun _ h c => ⟨(h c).1.trans (AdUpVal.arrs m c).1, (h c).2.1.trans (AdUpVal.arrs m c).2.1, (h c).2.2.1.trans (AdUpVal.arrs m c).2.2.1, (h c).2.2.2.1.trans (AdUpVal.arrs m c).2.2.2, (h c).2.2.2.2⟩) (Cert.AdUpIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2.1, (hag c).2.2.2.2.1, (hag c).2.2.2.2.2.1, (hag c).2.2.2.2.2.2]
  · rw [(hag c).1, (hag c).2.1, (hag c).2.2.1, (hag c).2.2.2.1, (hag c).2.2.2.2.1, (hag c).2.2.2.2.2.1, (hag c).2.2.2.2.2.2]
  · rw [(hag c).2.1, (hag c).2.2.2.1, (hag c).2.2.2.2.1, (hag c).2.2.2.2.2.1, (hag c).2.2.2.2.2.2]
  · rw [(hag c).2.2.1, (hag c).2.2.2.1, (hag c).2.2.2.2.1, (hag c).2.2.2.2.2.1, (hag c).2.2.2.2.2.2]

end Cert.AdUpClaims
-- ==== Proof.AdInArr.lean ====
/-
  The optimiser's step on the short convolution's input weights: the kernel's four output arrays.
-/
module

public import proofs.«01_k».proof.Proof.Adam
public import proofs.«01_k».proof.Proof.Gen.AdInIdeal.Value
public import Idealize.ShloMosaic.Lib.Pipeline.ValueKit
public import Idealize.ShloMosaic.Lib.Pointwise

@[expose] public section

set_option maxRecDepth 16384

noncomputable section

namespace Cert.AdInVal

open Idealize.ShloMosaic Idealize.ShloMosaic.TcCoe Idealize.SL.Sem Cert.AdInIdeal Cert.AdInIdeal.Gen Cert.Adam Cert.Cols

section block

variable (x0 : Vec Ideal S2x128x768 .f32) (x1 : Vec Ideal S2x128x768 .f32) (x2 : Vec Ideal S2x128x768 .f32) (x3 : Vec Ideal S128x768 .f32) (x4 : Vec Ideal S128x768 .f32)

/-- What the body stores: the stacked gradients, the change, and the new moments. -/
theorem outs : out0_5 x0 x1 x2 x3 x4 = (grads (L := 2) (R := 128) (B := 768) ![x3, x4] : Vec Ideal S2x128x768 .f32) ∧
    out0_6 x0 x1 x2 x3 x4 = (steps (L := 2) (R := 128) (B := 768) x0 x1 x2 ![x3, x4] : Vec Ideal S2x128x768 .f32) ∧
    out0_7 x0 x1 x2 x3 x4 = (moms (L := 2) (R := 128) (B := 768) x1 ![x3, x4] : Vec Ideal S2x128x768 .f32) ∧
    out0_8 x0 x1 x2 x3 x4 = (secs (L := 2) (R := 128) (B := 768) x2 ![x3, x4] : Vec Ideal S2x128x768 .f32) := by
  refine ⟨?_, ?_, ?_, ?_⟩
  on_goal 1 => (unfold_out out0_5; refine funext fun y => canon_of_pieces _ _ ?_ y (cover0_5 _ _ y))
  on_goal 2 => (unfold_out out0_6; refine funext fun y => canon_of_pieces _ _ ?_ y (cover0_6 _ _ y))
  on_goal 3 => (unfold_out out0_7; refine funext fun y => canon_of_pieces _ _ ?_ y (cover0_7 _ _ y))
  on_goal 4 => (unfold_out out0_8; refine funext fun y => canon_of_pieces _ _ ?_ y (cover0_8 _ _ y))
  all_goals
    rw [List.forall_mem_cons, List.forall_mem_cons]
    refine ⟨?_, ?_, fun _ h => (List.not_mem_nil h).elim⟩
  all_goals
    intro x
    dsimp only
    change S1x128x768.Idx at x
    obtain ⟨k, r, d, rfl⟩ : ∃ (k : Fin 1) (r : Fin 128) (d : Fin 768), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0])

/-- Row `r` of block `t`. -/
def row (t : Fin 8) (r : Fin 128) : Fin 1024 := ⟨128 * t.val + r.val, by omega⟩

/-- The weights. -/
abbrev aW : Vec Ideal S2x1024x768 .f32 := m ((c : Thread nD τ).loc main_arg0)
/-- The first moments. -/
abbrev aM : Vec Ideal S2x1024x768 .f32 := m ((c : Thread nD τ).loc main_arg1)
/-- The second moments. -/
abbrev aV : Vec Ideal S2x1024x768 .f32 := m ((c : Thread nD τ).loc main_arg2)
/-- The layers' gradients. -/
abbrev aG : Lay 2 1024 768 := ![(m ((c : Thread nD τ).loc main_arg3) : Vec Ideal S1024x768 .f32), (m ((c : Thread nD τ).loc main_arg4) : Vec Ideal S1024x768 .f32)]

/-- The blocks of the weights and of the moments are blocks of rows. -/
theorem read (t : Fin cfg0.N) : (∀ (l : Fin 2) (r : Fin 128) (d : Fin 768), (iblk m c 0 t : Vec Ideal S2x128x768 .f32) (ix3 l r d) = aW m c (ix3 l (row t r) d)) ∧
    (∀ (l : Fin 2) (r : Fin 128) (d : Fin 768), (iblk m c 1 t : Vec Ideal S2x128x768 .f32) (ix3 l r d) = aM m c (ix3 l (row t r) d)) ∧
    (∀ (l : Fin 2) (r : Fin 128) (d : Fin 768), (iblk m c 2 t : Vec Ideal S2x128x768 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 2) (r : Fin 128) (d : Fin 768), (![(iblk m c 3 t : Vec Ideal S128x768 .f32), (iblk m c 4 t : Vec Ideal S128x768 .f32)] : Lay 2 128 768) l (ix2 r d) = aG m c l (ix2 (row t r) d) := by
  intro l r d
  fin_cases l
  · show (iblk m c 3 t : Vec Ideal S128x768 .f32) _ = (m ((c : Thread nD τ).loc main_arg3) : Vec Ideal S1024x768 .f32) _
    blk_ext [iblk, V, idx t, row]
  · show (iblk m c 4 t : Vec Ideal S128x768 .f32) _ = (m ((c : Thread nD τ).loc main_arg4) : Vec Ideal S1024x768 .f32) _
    blk_ext [iblk, V, idx t, row]

/-- So are those of the four output arrays. -/
theorem emb (t : Fin cfg0.N) (l : Fin 2) (r : Fin 128) (d : Fin 768) : (win0_5.blk t).view.emb (ix3 l r d : S2x128x768.Idx) = (ix3 l (row t r) d : S2x1024x768.Idx) ∧ (win0_6.blk t).view.emb (ix3 l r d : S2x128x768.Idx) = (ix3 l (row t r) d : S2x1024x768.Idx) ∧ (win0_7.blk t).view.emb (ix3 l r d : S2x128x768.Idx) = (ix3 l (row t r) d : S2x1024x768.Idx) ∧ (win0_8.blk t).view.emb (ix3 l r d : S2x128x768.Idx) = (ix3 l (row t r) d : S2x1024x768.Idx) := by
  refine ⟨?_, ?_, ?_, ?_⟩ <;> blk_ext [idx t, row]

/-- THE OUTPUT ARRAYS: the stacked gradients, the change, and the new moments. -/
theorem arrs : (dats m 0 c).arrAt 5 cfg0.N = grads (aG m c) ∧ (dats m 0 c).arrAt 6 cfg0.N = steps (aW m c) (aM m c) (aV m c) (aG m c) ∧ (dats m 0 c).arrAt 7 cfg0.N = moms (aM m c) (aG m c) ∧ (dats m 0 c).arrAt 8 cfg0.N = secs (aV m c) (aG m c) := by
  refine ⟨(dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_, (dats m 0 c).arrAt_eq_of_covers 8 _ (by decide +kernel) fun t hf y => ?_⟩
  all_goals
    blk_simp
    change S2x128x768.Idx at y
    obtain ⟨l, r, d, rfl⟩ : ∃ (l : Fin 2) (r : Fin 128) (d : Fin 768), y = ix3 l r d := ⟨y 0, y 1, y 2, eq_ix3 y⟩
  · rw [after0_5, (outs _ _ _ _ _).1, (emb t l r d).1]
    exact grads_eq _ _ (row t) (readG m c t) l r d
  · rw [after0_6, (outs _ _ _ _ _).2.1, (emb t l r d).2.1]
    exact steps_eq _ _ _ _ _ _ _ _ (row t) (readG m c t) (read m c t).1 (read m c t).2.1 (read m c t).2.2 l r d
  · rw [after0_7, (outs _ _ _ _ _).2.2.1, (emb t l r d).2.2.1]
    exact moms_eq _ _ _ _ (row t) (readG m c t) (read m c t).2.1 l r d
  · rw [after0_8, (outs _ _ _ _ _).2.2.2, (emb t l r d).2.2.2]
    exact secs_eq _ _ _ _ (row t) (readG m c t) (read m c t).2.2 l r d

end Cert.AdInVal
-- ==== Proof.AdInClaims.lean ====
/-
  The optimiser's step on the short convolution's input weights: the reference's results, and the claims.
-/
module

public import proofs.«01_k».proof.Defs
public import proofs.«01_k».proof.Proof.Gen.AdIn.Frame
public import proofs.«01_k».proof.Proof.Gen.AdInRefIdeal.Run
public import proofs.«01_k».proof.Proof.AdInArr
public import Idealize.ShloMosaic.Lib.Quiescent

@[expose] public section

set_option maxRecDepth 16384

noncomputable section

namespace Cert.AdInClaims

open Idealize.ShloMosaic Idealize.ShloMosaic.TcCoe Idealize.SL.Sem Cert.Adam

section reference

open Cert.AdInRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2) = grads (L := 2) (R := 1024) (B := 768) ![(m ((c.tc : Thread nD τ).loc main_arg3)), (m ((c.tc : Thread nD τ).loc main_arg4))]
    ∧ r.2.mem ((c.tc : Thread nD τ).loc main_v26) = steps (L := 2) (R := 1024) (B := 768) (m ((c.tc : Thread nD τ).loc main_arg0)) (m ((c.tc : Thread nD τ).loc main_arg1)) (m ((c.tc : Thread nD τ).loc main_arg2)) ![(m ((c.tc : Thread nD τ).loc main_arg3)), (m ((c.tc : Thread nD τ).loc main_arg4))]
    ∧ r.2.mem ((c.tc : Thread nD τ).loc main_v7) = moms (L := 2) (R := 1024) (B := 768) (m ((c.tc : Thread nD τ).loc main_arg1)) ![(m ((c.tc : Thread nD τ).loc main_arg3)), (m ((c.tc : Thread nD τ).loc main_arg4))]
    ∧ r.2.mem ((c.tc : Thread nD τ).loc main_v13) = secs (L := 2) (R := 1024) (B := 768) (m ((c.tc : Thread nD τ).loc main_arg2)) ![(m ((c.tc : Thread nD τ).loc main_arg3)), (m ((c.tc : Thread nD τ).loc main_arg4))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdInIdeal.S2x1024x768.Idx at y
    obtain ⟨l, r, d, rfl⟩ : ∃ (l : Fin 2) (r : Fin 1024) (d : Fin 768), y = ix3 l r d := ⟨y 0, y 1, y 2, eq_ix3 y⟩
    fin_cases l
    all_goals pointwise
    all_goals rfl

end reference

/-- The kernel as printed ends, its arguments unchanged and every counter at zero. -/
theorem ends : quiescent_AdIn (hAdIn := Cert.AdIn.Gen.facts) := fun m ρ _ => Cert.AdIn.Gen.frame m ρ

/-- So does its exact form. -/
theorem ideal_ends : quiescent_AdInIdeal (hAdInIdeal := Cert.AdInIdeal.Gen.facts) := fun m ρ _ => Cert.AdInIdeal.Gen.frame m ρ

/-- So does the reference. -/
theorem ref_ends : quiescent_AdInRefIdeal (hAdInRefIdeal := Cert.AdInRefIdeal.Gen.facts) := fun m ρ _ =>
  (θ_run _ _ _).mono (fun r h => ⟨fun c => (h c).2.2.2.2, sem_eq_zero_of_no_sems (by decide) r.2⟩) (Cert.AdInRefIdeal.Value.run m ρ)

/-- Both programs' results are the stacked gradients, the change and the new moments, as the same functions of the arguments. -/
theorem equal : algebraic_AdInIdeal_AdInRefIdeal (hAdInIdeal := Cert.AdInIdeal.Gen.facts) (hAdInRefIdeal := Cert.AdInRefIdeal.Gen.facts) := by
  intro m ρ m' ρ' _ hag
  refine ⟨fun c => grads (AdInVal.aG m c), fun c => steps (AdInVal.aW m c) (AdInVal.aM m c) (AdInVal.aV m c) (AdInVal.aG m c), fun c => moms (AdInVal.aM m c) (AdInVal.aG m c), fun c => secs (AdInVal.aV m c) (AdInVal.aG m c),
    (θ_run _ _ _).mono (fun _ h c => ⟨(h c).1.trans (AdInVal.arrs m c).1, (h c).2.1.trans (AdInVal.arrs m c).2.1, (h c).2.2.1.trans (AdInVal.arrs m c).2.2.1, (h c).2.2.2.1.trans (AdInVal.arrs m c).2.2.2, (h c).2.2.2.2⟩) (Cert.AdInIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2.1, (hag c).2.2.2.2]
  · rw [(hag c).1, (hag c).2.1, (hag c).2.2.1, (hag c).2.2.2.1, (hag c).2.2.2.2]
  · rw [(hag c).2.1, (hag c).2.2.2.1, (hag c).2.2.2.2]
  · rw [(hag c).2.2.1, (hag c).2.2.2.1, (hag c).2.2.2.2]

end Cert.AdInClaims
-- ==== Proof.AdOutArr.lean ====
/-
  The optimiser's step on the short convolution's output weights: the kernel's four output arrays.
-/
module

public import proofs.«01_k».proof.Proof.Adam
public import proofs.«01_k».proof.Proof.Gen.AdOutIdeal.Value
public import Idealize.ShloMosaic.Lib.Pipeline.ValueKit
public import Idealize.ShloMosaic.Lib.Pointwise

@[expose] public section

set_option maxRecDepth 16384

noncomputable section

namespace Cert.AdOutVal

open Idealize.ShloMosaic Idealize.ShloMosaic.TcCoe Idealize.SL.Sem Cert.AdOutIdeal Cert.AdOutIdeal.Gen Cert.Adam Cert.Cols

section block

variable (x0 : Vec Ideal S2x128x1024 .f32) (x1 : Vec Ideal S2x128x1024 .f32) (x2 : Vec Ideal S2x128x1024 .f32) (x3 : Vec Ideal S128x1024 .f32) (x4 : Vec Ideal S128x1024 .f32)

/-- What the body stores: the stacked gradients, the change, and the new moments. -/
theorem outs : out0_5 x0 x1 x2 x3 x4 = (grads (L := 2) (R := 128) (B := 1024) ![x3, x4] : Vec Ideal S2x128x1024 .f32) ∧
    out0_6 x0 x1 x2 x3 x4 = (steps (L := 2) (R := 128) (B := 1024) x0 x1 x2 ![x3, x4] : Vec Ideal S2x128x1024 .f32) ∧
    out0_7 x0 x1 x2 x3 x4 = (moms (L := 2) (R := 128) (B := 1024) x1 ![x3, x4] : Vec Ideal S2x128x1024 .f32) ∧
    out0_8 x0 x1 x2 x3 x4 = (secs (L := 2) (R := 128) (B := 1024) x2 ![x3, x4] : Vec Ideal S2x128x1024 .f32) := by
  refine ⟨?_, ?_, ?_, ?_⟩
  on_goal 1 => (unfold_out out0_5; refine funext fun y => canon_of_pieces _ _ ?_ y (cover0_5 _ _ y))
  on_goal 2 => (unfold_out out0_6; refine funext fun y => canon_of_pieces _ _ ?_ y (cover0_6 _ _ y))
  on_goal 3 => (unfold_out out0_7; refine funext fun y => canon_of_pieces _ _ ?_ y (cover0_7 _ _ y))
  on_goal 4 => (unfold_out out0_8; refine funext fun y => canon_of_pieces _ _ ?_ y (cover0_8 _ _ y))
  all_goals
    rw [List.forall_mem_cons, List.forall_mem_cons]
    refine ⟨?_, ?_, fun _ h => (List.not_mem_nil h).elim⟩
  all_goals
    intro x
    dsimp only
    change S1x128x1024.Idx at x
    obtain ⟨k, r, d, rfl⟩ : ∃ (k : Fin 1) (r : Fin 128) (d : Fin 1024), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0])

/-- Row `r` of block `t`. -/
def row (t : Fin 2) (r : Fin 128) : Fin 256 := ⟨128 * t.val + r.val, by omega⟩

/-- The weights. -/
abbrev aW : Vec Ideal S2x256x1024 .f32 := m ((c : Thread nD τ).loc main_arg0)
/-- The first moments. -/
abbrev aM : Vec Ideal S2x256x1024 .f32 := m ((c : Thread nD τ).loc main_arg1)
/-- The second moments. -/
abbrev aV : Vec Ideal S2x256x1024 .f32 := m ((c : Thread nD τ).loc main_arg2)
/-- The layers' gradients. -/
abbrev aG : Lay 2 256 1024 := ![(m ((c : Thread nD τ).loc main_arg3) : Vec Ideal S256x1024 .f32), (m ((c : Thread nD τ).loc main_arg4) : Vec Ideal S256x1024 .f32)]

/-- The blocks of the weights and of the moments are blocks of rows. -/
theorem read (t : Fin cfg0.N) : (∀ (l : Fin 2) (r : Fin 128) (d : Fin 1024), (iblk m c 0 t : Vec Ideal S2x128x1024 .f32) (ix3 l r d) = aW m c (ix3 l (row t r) d)) ∧
    (∀ (l : Fin 2) (r : Fin 128) (d : Fin 1024), (iblk m c 1 t : Vec Ideal S2x128x1024 .f32) (ix3 l r d) = aM m c (ix3 l (row t r) d)) ∧
    (∀ (l : Fin 2) (r : Fin 128) (d : Fin 1024), (iblk m c 2 t : Vec Ideal S2x128x1024 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 2) (r : Fin 128) (d : Fin 1024), (![(iblk m c 3 t : Vec Ideal S128x1024 .f32), (iblk m c 4 t : Vec Ideal S128x1024 .f32)] : Lay 2 128 1024) l (ix2 r d) = aG m c l (ix2 (row t r) d) := by
  intro l r d
  fin_cases l
  · show (iblk m c 3 t : Vec Ideal S128x1024 .f32) _ = (m ((c : Thread nD τ).loc main_arg3) : Vec Ideal S256x1024 .f32) _
    blk_ext [iblk, V, idx t, row]
  · show (iblk m c 4 t : Vec Ideal S128x1024 .f32) _ = (m ((c : Thread nD τ).loc main_arg4) : Vec Ideal S256x1024 .f32) _
    blk_ext [iblk, V, idx t, row]

/-- So are those of the four output arrays. -/
theorem emb (t : Fin cfg0.N) (l : Fin 2) (r : Fin 128) (d : Fin 1024) : (win0_5.blk t).view.emb (ix3 l r d : S2x128x1024.Idx) = (ix3 l (row t r) d : S2x256x1024.Idx) ∧ (win0_6.blk t).view.emb (ix3 l r d : S2x128x1024.Idx) = (ix3 l (row t r) d : S2x256x1024.Idx) ∧ (win0_7.blk t).view.emb (ix3 l r d : S2x128x1024.Idx) = (ix3 l (row t r) d : S2x256x1024.Idx) ∧ (win0_8.blk t).view.emb (ix3 l r d : S2x128x1024.Idx) = (ix3 l (row t r) d : S2x256x1024.Idx) := by
  refine ⟨?_, ?_, ?_, ?_⟩ <;> blk_ext [idx t, row]

/-- THE OUTPUT ARRAYS: the stacked gradients, the change, and the new moments. -/
theorem arrs : (dats m 0 c).arrAt 5 cfg0.N = grads (aG m c) ∧ (dats m 0 c).arrAt 6 cfg0.N = steps (aW m c) (aM m c) (aV m c) (aG m c) ∧ (dats m 0 c).arrAt 7 cfg0.N = moms (aM m c) (aG m c) ∧ (dats m 0 c).arrAt 8 cfg0.N = secs (aV m c) (aG m c) := by
  refine ⟨(dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_, (dats m 0 c).arrAt_eq_of_covers 8 _ (by decide +kernel) fun t hf y => ?_⟩
  all_goals
    blk_simp
    change S2x128x1024.Idx at y
    obtain ⟨l, r, d, rfl⟩ : ∃ (l : Fin 2) (r : Fin 128) (d : Fin 1024), y = ix3 l r d := ⟨y 0, y 1, y 2, eq_ix3 y⟩
  · rw [after0_5, (outs _ _ _ _ _).1, (emb t l r d).1]
    exact grads_eq _ _ (row t) (readG m c t) l r d
  · rw [after0_6, (outs _ _ _ _ _).2.1, (emb t l r d).2.1]
    exact steps_eq _ _ _ _ _ _ _ _ (row t) (readG m c t) (read m c t).1 (read m c t).2.1 (read m c t).2.2 l r d
  · rw [after0_7, (outs _ _ _ _ _).2.2.1, (emb t l r d).2.2.1]
    exact moms_eq _ _ _ _ (row t) (readG m c t) (read m c t).2.1 l r d
  · rw [after0_8, (outs _ _ _ _ _).2.2.2, (emb t l r d).2.2.2]
    exact secs_eq _ _ _ _ (row t) (readG m c t) (read m c t).2.2 l r d

end Cert.AdOutVal
-- ==== Proof.AdOutClaims.lean ====
/-
  The optimiser's step on the short convolution's output weights: the reference's results, and the claims.
-/
module

public import proofs.«01_k».proof.Defs
public import proofs.«01_k».proof.Proof.Gen.AdOut.Frame
public import proofs.«01_k».proof.Proof.Gen.AdOutRefIdeal.Run
public import proofs.«01_k».proof.Proof.AdOutArr
public import Idealize.ShloMosaic.Lib.Quiescent

@[expose] public section

set_option maxRecDepth 16384

noncomputable section

namespace Cert.AdOutClaims

open Idealize.ShloMosaic Idealize.ShloMosaic.TcCoe Idealize.SL.Sem Cert.Adam

section reference

open Cert.AdOutRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2) = grads (L := 2) (R := 256) (B := 1024) ![(m ((c.tc : Thread nD τ).loc main_arg3)), (m ((c.tc : Thread nD τ).loc main_arg4))]
    ∧ r.2.mem ((c.tc : Thread nD τ).loc main_v26) = steps (L := 2) (R := 256) (B := 1024) (m ((c.tc : Thread nD τ).loc main_arg0)) (m ((c.tc : Thread nD τ).loc main_arg1)) (m ((c.tc : Thread nD τ).loc main_arg2)) ![(m ((c.tc : Thread nD τ).loc main_arg3)), (m ((c.tc : Thread nD τ).loc main_arg4))]
    ∧ r.2.mem ((c.tc : Thread nD τ).loc main_v7) = moms (L := 2) (R := 256) (B := 1024) (m ((c.tc : Thread nD τ).loc main_arg1)) ![(m ((c.tc : Thread nD τ).loc main_arg3)), (m ((c.tc : Thread nD τ).loc main_arg4))]
    ∧ r.2.mem ((c.tc : Thread nD τ).loc main_v13) = secs (L := 2) (R := 256) (B := 1024) (m ((c.tc : Thread nD τ).loc main_arg2)) ![(m ((c.tc : Thread nD τ).loc main_arg3)), (m ((c.tc : Thread nD τ).loc main_arg4))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdOutIdeal.S2x256x1024.Idx at y
    obtain ⟨l, r, d, rfl⟩ : ∃ (l : Fin 2) (r : Fin 256) (d : Fin 1024), y = ix3 l r d := ⟨y 0, y 1, y 2, eq_ix3 y⟩
    fin_cases l
    all_goals pointwise
    all_goals rfl

end reference

/-- The kernel as printed ends, its arguments unchanged and every counter at zero. -/
theorem ends : quiescent_AdOut (hAdOut := Cert.AdOut.Gen.facts) := fun m ρ _ => Cert.AdOut.Gen.frame m ρ

/-- So does its exact form. -/
theorem ideal_ends : quiescent_AdOutIdeal (hAdOutIdeal := Cert.AdOutIdeal.Gen.facts) := fun m ρ _ => Cert.AdOutIdeal.Gen.frame m ρ

/-- So does the reference. -/
theorem ref_ends : quiescent_AdOutRefIdeal (hAdOutRefIdeal := Cert.AdOutRefIdeal.Gen.facts) := fun m ρ _ =>
  (θ_run _ _ _).mono (fun r h => ⟨fun c => (h c).2.2.2.2, sem_eq_zero_of_no_sems (by decide) r.2⟩) (Cert.AdOutRefIdeal.Value.run m ρ)

/-- Both programs' results are the stacked gradients, the change and the new moments, as the same functions of the arguments. -/
theorem equal : algebraic_AdOutIdeal_AdOutRefIdeal (hAdOutIdeal := Cert.AdOutIdeal.Gen.facts) (hAdOutRefIdeal := Cert.AdOutRefIdeal.Gen.facts) := by
  intro m ρ m' ρ' _ hag
  refine ⟨fun c => grads (AdOutVal.aG m c), fun c => steps (AdOutVal.aW m c) (AdOutVal.aM m c) (AdOutVal.aV m c) (AdOutVal.aG m c), fun c => moms (AdOutVal.aM m c) (AdOutVal.aG m c), fun c => secs (AdOutVal.aV m c) (AdOutVal.aG m c),
    (θ_run _ _ _).mono (fun _ h c => ⟨(h c).1.trans (AdOutVal.arrs m c).1, (h c).2.1.trans (AdOutVal.arrs m c).2.1, (h c).2.2.1.trans (AdOutVal.arrs m c).2.2.1, (h c).2.2.2.1.trans (AdOutVal.arrs m c).2.2.2, (h c).2.2.2.2⟩) (Cert.AdOutIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2.1, (hag c).2.2.2.2]
  · rw [(hag c).1, (hag c).2.1, (hag c).2.2.1, (hag c).2.2.2.1, (hag c).2.2.2.2]
  · rw [(hag c).2.1, (hag c).2.2.2.1, (hag c).2.2.2.2]
  · rw [(hag c).2.2.1, (hag c).2.2.2.1, (hag c).2.2.2.2]

end Cert.AdOutClaims
-- ==== Proof.AdKvArr.lean ====
/-
  The optimiser's step on the key and value weights: the kernel's four output arrays.
-/
module

public import proofs.«01_k».proof.Proof.Adam
public import proofs.«01_k».proof.Proof.Gen.AdKvIdeal.Value
public import Idealize.ShloMosaic.Lib.Pipeline.ValueKit
public import Idealize.ShloMosaic.Lib.Pointwise

@[expose] public section

set_option maxRecDepth 16384

noncomputable section

namespace Cert.AdKvVal

open Idealize.ShloMosaic Idealize.ShloMosaic.TcCoe Idealize.SL.Sem Cert.AdKvIdeal Cert.AdKvIdeal.Gen Cert.Adam Cert.Cols

section block

variable (x0 : Vec Ideal S1x256x768 .f32) (x1 : Vec Ideal S1x256x768 .f32) (x2 : Vec Ideal S1x256x768 .f32) (x3 : Vec Ideal S256x768 .f32)

/-- What the body stores: the stacked gradients, the change, and the new moments. -/
theorem outs : out0_4 x0 x1 x2 x3 = (grads (L := 1) (R := 256) (B := 768) ![x3] : Vec Ideal S1x256x768 .f32) ∧
    out0_5 x0 x1 x2 x3 = (steps (L := 1) (R := 256) (B := 768) x0 x1 x2 ![x3] : Vec Ideal S1x256x768 .f32) ∧
    out0_6 x0 x1 x2 x3 = (moms (L := 1) (R := 256) (B := 768) x1 ![x3] : Vec Ideal S1x256x768 .f32) ∧
    out0_7 x0 x1 x2 x3 = (secs (L := 1) (R := 256) (B := 768) x2 ![x3] : Vec Ideal S1x256x768 .f32) := by
  refine ⟨?_, ?_, ?_, ?_⟩
  on_goal 1 => (unfold out0_4; refine funext fun y => canon_of_pieces _ _ ?_ y (cover0_4 _ y))
  on_goal 2 => (unfold out0_5; refine funext fun y => canon_of_pieces _ _ ?_ y (cover0_5 _ y))
  on_goal 3 => (unfold out0_6; refine funext fun y => canon_of_pieces _ _ ?_ y (cover0_6 _ y))
  on_goal 4 => (unfold out0_7; refine funext fun y => canon_of_pieces _ _ ?_ y (cover0_7 _ y))
  all_goals
    rw [List.forall_mem_cons]
    refine ⟨?_, fun _ h => (List.not_mem_nil h).elim⟩
  all_goals
    intro x
    dsimp only
    change S1x256x768.Idx at x
    obtain ⟨k, r, d, rfl⟩ : ∃ (k : Fin 1) (r : Fin 256) (d : Fin 768), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![0, t.val, 0] ∧ win0_5.index t = ![0, t.val, 0] ∧ win0_6.index t = ![0, t.val, 0] ∧ win0_7.index t = ![0, t.val, 0])

/-- Row `r` of block `t`. -/
def row (t : Fin 4) (r : Fin 256) : Fin 1024 := ⟨256 * t.val + r.val, by omega⟩

/-- The weights. -/
abbrev aW : Vec Ideal S1x1024x768 .f32 := m ((c : Thread nD τ).loc main_arg0)
/-- The first moments. -/
abbrev aM : Vec Ideal S1x1024x768 .f32 := m ((c : Thread nD τ).loc main_arg1)
/-- The second moments. -/
abbrev aV : Vec Ideal S1x1024x768 .f32 := m ((c : Thread nD τ).loc main_arg2)
/-- The layers' gradients. -/
abbrev aG : Lay 1 1024 768 := ![(m ((c : Thread nD τ).loc main_arg3) : Vec Ideal S1024x768 .f32)]

/-- The blocks of the weights and of the moments are blocks of rows. -/
theorem read (t : Fin cfg0.N) : (∀ (l : Fin 1) (r : Fin 256) (d : Fin 768), (iblk m c 0 t : Vec Ideal S1x256x768 .f32) (ix3 l r d) = aW m c (ix3 l (row t r) d)) ∧
    (∀ (l : Fin 1) (r : Fin 256) (d : Fin 768), (iblk m c 1 t : Vec Ideal S1x256x768 .f32) (ix3 l r d) = aM m c (ix3 l (row t r) d)) ∧
    (∀ (l : Fin 1) (r : Fin 256) (d : Fin 768), (iblk m c 2 t : Vec Ideal S1x256x768 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 1) (r : Fin 256) (d : Fin 768), (![(iblk m c 3 t : Vec Ideal S256x768 .f32)] : Lay 1 256 768) l (ix2 r d) = aG m c l (ix2 (row t r) d) := by
  intro l r d
  fin_cases l
  · show (iblk m c 3 t : Vec Ideal S256x768 .f32) _ = (m ((c : Thread nD τ).loc main_arg3) : Vec Ideal S1024x768 .f32) _
    blk_ext [iblk, V, idx t, row]

/-- So are those of the four output arrays. -/
theorem emb (t : Fin cfg0.N) (l : Fin 1) (r : Fin 256) (d : Fin 768) : (win0_4.blk t).view.emb (ix3 l r d : S1x256x768.Idx) = (ix3 l (row t r) d : S1x1024x768.Idx) ∧ (win0_5.blk t).view.emb (ix3 l r d : S1x256x768.Idx) = (ix3 l (row t r) d : S1x1024x768.Idx) ∧ (win0_6.blk t).view.emb (ix3 l r d : S1x256x768.Idx) = (ix3 l (row t r) d : S1x1024x768.Idx) ∧ (win0_7.blk t).view.emb (ix3 l r d : S1x256x768.Idx) = (ix3 l (row t r) d : S1x1024x768.Idx) := by
  refine ⟨?_, ?_, ?_, ?_⟩ <;> blk_ext [idx t, row]

/-- THE OUTPUT ARRAYS: the stacked gradients, the change, and the new moments. -/
theorem arrs : (dats m 0 c).arrAt 4 cfg0.N = grads (aG m c) ∧ (dats m 0 c).arrAt 5 cfg0.N = steps (aW m c) (aM m c) (aV m c) (aG m c) ∧ (dats m 0 c).arrAt 6 cfg0.N = moms (aM m c) (aG m c) ∧ (dats m 0 c).arrAt 7 cfg0.N = secs (aV m c) (aG m c) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_⟩
  all_goals
    blk_simp
    change S1x256x768.Idx at y
    obtain ⟨l, r, d, rfl⟩ : ∃ (l : Fin 1) (r : Fin 256) (d : Fin 768), y = ix3 l r d := ⟨y 0, y 1, y 2, eq_ix3 y⟩
  · rw [after0_4, (outs _ _ _ _).1, (emb t l r d).1]
    exact grads_eq _ _ (row t) (readG m c t) l r d
  · rw [after0_5, (outs _ _ _ _).2.1, (emb t l r d).2.1]
    exact steps_eq _ _ _ _ _ _ _ _ (row t) (readG m c t) (read m c t).1 (read m c t).2.1 (read m c t).2.2 l r d
  · rw [after0_6, (outs _ _ _ _).2.2.1, (emb t l r d).2.2.1]
    exact moms_eq _ _ _ _ (row t) (readG m c t) (read m c t).2.1 l r d
  · rw [after0_7, (outs _ _ _ _).2.2.2, (emb t l r d).2.2.2]
    exact secs_eq _ _ _ _ (row t) (readG m c t) (read m c t).2.2 l r d

end Cert.AdKvVal
-- ==== Proof.AdKvClaims.lean ====
/-
  The optimiser's step on the key and value weights: the reference's results, and the claims.
-/
module

public import proofs.«01_k».proof.Defs
public import proofs.«01_k».proof.Proof.Gen.AdKv.Frame
public import proofs.«01_k».proof.Proof.Gen.AdKvRefIdeal.Run
public import proofs.«01_k».proof.Proof.AdKvArr
public import Idealize.ShloMosaic.Lib.Quiescent

@[expose] public section

set_option maxRecDepth 16384

noncomputable section

namespace Cert.AdKvClaims

open Idealize.ShloMosaic Idealize.ShloMosaic.TcCoe Idealize.SL.Sem Cert.Adam

section reference

open Cert.AdKvRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v0) = grads (L := 1) (R := 1024) (B := 768) ![(m ((c.tc : Thread nD τ).loc main_arg3))]
    ∧ r.2.mem ((c.tc : Thread nD τ).loc main_v24) = steps (L := 1) (R := 1024) (B := 768) (m ((c.tc : Thread nD τ).loc main_arg0)) (m ((c.tc : Thread nD τ).loc main_arg1)) (m ((c.tc : Thread nD τ).loc main_arg2)) ![(m ((c.tc : Thread nD τ).loc main_arg3))]
    ∧ r.2.mem ((c.tc : Thread nD τ).loc main_v5) = moms (L := 1) (R := 1024) (B := 768) (m ((c.tc : Thread nD τ).loc main_arg1)) ![(m ((c.tc : Thread nD τ).loc main_arg3))]
    ∧ r.2.mem ((c.tc : Thread nD τ).loc main_v11) = secs (L := 1) (R := 1024) (B := 768) (m ((c.tc : Thread nD τ).loc main_arg2)) ![(m ((c.tc : Thread nD τ).loc main_arg3))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdKvIdeal.S1x1024x768.Idx at y
    obtain ⟨l, r, d, rfl⟩ : ∃ (l : Fin 1) (r : Fin 1024) (d : Fin 768), y = ix3 l r d := ⟨y 0, y 1, y 2, eq_ix3 y⟩
    fin_cases l
    all_goals pointwise
    all_goals rfl

end reference

/-- The kernel as printed ends, its arguments unchanged and every counter at zero. -/
theorem ends : quiescent_AdKv (hAdKv := Cert.AdKv.Gen.facts) := fun m ρ _ => Cert.AdKv.Gen.frame m ρ

/-- So does its exact form. -/
theorem ideal_ends : quiescent_AdKvIdeal (hAdKvIdeal := Cert.AdKvIdeal.Gen.facts) := fun m ρ _ => Cert.AdKvIdeal.Gen.frame m ρ

/-- So does the reference. -/
theorem ref_ends : quiescent_AdKvRefIdeal (hAdKvRefIdeal := Cert.AdKvRefIdeal.Gen.facts) := fun m ρ _ =>
  (θ_run _ _ _).mono (fun r h => ⟨fun c => (h c).2.2.2.2, sem_eq_zero_of_no_sems (by decide) r.2⟩) (Cert.AdKvRefIdeal.Value.run m ρ)

/-- Both programs' results are the stacked gradients, the change and the new moments, as the same functions of the arguments. -/
theorem equal : algebraic_AdKvIdeal_AdKvRefIdeal (hAdKvIdeal := Cert.AdKvIdeal.Gen.facts) (hAdKvRefIdeal := Cert.AdKvRefIdeal.Gen.facts) := by
  intro m ρ m' ρ' _ hag
  refine ⟨fun c => grads (AdKvVal.aG m c), fun c => steps (AdKvVal.aW m c) (AdKvVal.aM m c) (AdKvVal.aV m c) (AdKvVal.aG m c), fun c => moms (AdKvVal.aM m c) (AdKvVal.aG m c), fun c => secs (AdKvVal.aV m c) (AdKvVal.aG m c),
    (θ_run _ _ _).mono (fun _ h c => ⟨(h c).1.trans (AdKvVal.arrs m c).1, (h c).2.1.trans (AdKvVal.arrs m c).2.1, (h c).2.2.1.trans (AdKvVal.arrs m c).2.2.1, (h c).2.2.2.1.trans (AdKvVal.arrs m c).2.2.2, (h c).2.2.2.2⟩) (Cert.AdKvIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2]
  · rw [(hag c).1, (hag c).2.1, (hag c).2.2.1, (hag c).2.2.2]
  · rw [(hag c).2.1, (hag c).2.2.2]
  · rw [(hag c).2.2.1, (hag c).2.2.2]

end Cert.AdKvClaims
-- ==== Proof.AdQArr.lean ====
/-
  The optimiser's step on the query weights: the kernel's four output arrays.
-/
module

public import proofs.«01_k».proof.Proof.Adam
public import proofs.«01_k».proof.Proof.Gen.AdQIdeal.Value
public import Idealize.ShloMosaic.Lib.Pipeline.ValueKit
public import Idealize.ShloMosaic.Lib.Pointwise

@[expose] public section

set_option maxRecDepth 16384

noncomputable section

namespace Cert.AdQVal

open Idealize.ShloMosaic Idealize.ShloMosaic.TcCoe Idealize.SL.Sem Cert.AdQIdeal Cert.AdQIdeal.Gen Cert.Adam Cert.Cols

section block

variable (x0 : Vec Ideal S2x256x384 .f32) (x1 : Vec Ideal S2x256x384 .f32) (x2 : Vec Ideal S2x256x384 .f32) (x3 : Vec Ideal S256x384 .f32) (x4 : Vec Ideal S256x384 .f32)

/-- What the body stores: the stacked gradients, the change, and the new moments. -/
theorem outs : out0_5 x0 x1 x2 x3 x4 = (grads (L := 2) (R := 256) (B := 384) ![x3, x4] : Vec Ideal S2x256x384 .f32) ∧
    out0_6 x0 x1 x2 x3 x4 = (steps (L := 2) (R := 256) (B := 384) x0 x1 x2 ![x3, x4] : Vec Ideal S2x256x384 .f32) ∧
    out0_7 x0 x1 x2 x3 x4 = (moms (L := 2) (R := 256) (B := 384) x1 ![x3, x4] : Vec Ideal S2x256x384 .f32) ∧
    out0_8 x0 x1 x2 x3 x4 = (secs (L := 2) (R := 256) (B := 384) x2 ![x3, x4] : Vec Ideal S2x256x384 .f32) := by
  refine ⟨?_, ?_, ?_, ?_⟩
  on_goal 1 => (unfold_out out0_5; refine funext fun y => canon_of_pieces _ _ ?_ y (cover0_5 _ _ y))
  on_goal 2 => (unfold_out out0_6; refine funext fun y => canon_of_pieces _ _ ?_ y (cover0_6 _ _ y))
  on_goal 3 => (unfold_out out0_7; refine funext fun y => canon_of_pieces _ _ ?_ y (cover0_7 _ _ y))
  on_goal 4 => (unfold_out out0_8; refine funext fun y => canon_of_pieces _ _ ?_ y (cover0_8 _ _ y))
  all_goals
    rw [List.forall_mem_cons, List.forall_mem_cons]
    refine ⟨?_, ?_, fun _ h => (List.not_mem_nil h).elim⟩
  all_goals
    intro x
    dsimp only
    change S1x256x384.Idx at x
    obtain ⟨k, r, d, rfl⟩ : ∃ (k : Fin 1) (r : Fin 256) (d : Fin 384), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0])

/-- Row `r` of block `t`. -/
def row (t : Fin 4) (r : Fin 256) : Fin 1024 := ⟨256 * t.val + r.val, by omega⟩

/-- The weights. -/
abbrev aW : Vec Ideal S2x1024x384 .f32 := m ((c : Thread nD τ).loc main_arg0)
/-- The first moments. -/
abbrev aM : Vec Ideal S2x1024x384 .f32 := m ((c : Thread nD τ).loc main_arg1)
/-- The second moments. -/
abbrev aV : Vec Ideal S2x1024x384 .f32 := m ((c : Thread nD τ).loc main_arg2)
/-- The layers' gradients. -/
abbrev aG : Lay 2 1024 384 := ![(m ((c : Thread nD τ).loc main_arg3) : Vec Ideal S1024x384 .f32), (m ((c : Thread nD τ).loc main_arg4) : Vec Ideal S1024x384 .f32)]

/-- The blocks of the weights and of the moments are blocks of rows. -/
theorem read (t : Fin cfg0.N) : (∀ (l : Fin 2) (r : Fin 256) (d : Fin 384), (iblk m c 0 t : Vec Ideal S2x256x384 .f32) (ix3 l r d) = aW m c (ix3 l (row t r) d)) ∧
    (∀ (l : Fin 2) (r : Fin 256) (d : Fin 384), (iblk m c 1 t : Vec Ideal S2x256x384 .f32) (ix3 l r d) = aM m c (ix3 l (row t r) d)) ∧
    (∀ (l : Fin 2) (r : Fin 256) (d : Fin 384), (iblk m c 2 t : Vec Ideal S2x256x384 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 2) (r : Fin 256) (d : Fin 384), (![(iblk m c 3 t : Vec Ideal S256x384 .f32), (iblk m c 4 t : Vec Ideal S256x384 .f32)] : Lay 2 256 384) l (ix2 r d) = aG m c l (ix2 (row t r) d) := by
  intro l r d
  fin_cases l
  · show (iblk m c 3 t : Vec Ideal S256x384 .f32) _ = (m ((c : Thread nD τ).loc main_arg3) : Vec Ideal S1024x384 .f32) _
    blk_ext [iblk, V, idx t, row]
  · show (iblk m c 4 t : Vec Ideal S256x384 .f32) _ = (m ((c : Thread nD τ).loc main_arg4) : Vec Ideal S1024x384 .f32) _
    blk_ext [iblk, V, idx t, row]

/-- So are those of the four output arrays. -/
theorem emb (t : Fin cfg0.N) (l : Fin 2) (r : Fin 256) (d : Fin 384) : (win0_5.blk t).view.emb (ix3 l r d : S2x256x384.Idx) = (ix3 l (row t r) d : S2x1024x384.Idx) ∧ (win0_6.blk t).view.emb (ix3 l r d : S2x256x384.Idx) = (ix3 l (row t r) d : S2x1024x384.Idx) ∧ (win0_7.blk t).view.emb (ix3 l r d : S2x256x384.Idx) = (ix3 l (row t r) d : S2x1024x384.Idx) ∧ (win0_8.blk t).view.emb (ix3 l r d : S2x256x384.Idx) = (ix3 l (row t r) d : S2x1024x384.Idx) := by
  refine ⟨?_, ?_, ?_, ?_⟩ <;> blk_ext [idx t, row]

/-- THE OUTPUT ARRAYS: the stacked gradients, the change, and the new moments. -/
theorem arrs : (dats m 0 c).arrAt 5 cfg0.N = grads (aG m c) ∧ (dats m 0 c).arrAt 6 cfg0.N = steps (aW m c) (aM m c) (aV m c) (aG m c) ∧ (dats m 0 c).arrAt 7 cfg0.N = moms (aM m c) (aG m c) ∧ (dats m 0 c).arrAt 8 cfg0.N = secs (aV m c) (aG m c) := by
  refine ⟨(dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_, (dats m 0 c).arrAt_eq_of_covers 8 _ (by decide +kernel) fun t hf y => ?_⟩
  all_goals
    blk_simp
    change S2x256x384.Idx at y
    obtain ⟨l, r, d, rfl⟩ : ∃ (l : Fin 2) (r : Fin 256) (d : Fin 384), y = ix3 l r d := ⟨y 0, y 1, y 2, eq_ix3 y⟩
  · rw [after0_5, (outs _ _ _ _ _).1, (emb t l r d).1]
    exact grads_eq _ _ (row t) (readG m c t) l r d
  · rw [after0_6, (outs _ _ _ _ _).2.1, (emb t l r d).2.1]
    exact steps_eq _ _ _ _ _ _ _ _ (row t) (readG m c t) (read m c t).1 (read m c t).2.1 (read m c t).2.2 l r d
  · rw [after0_7, (outs _ _ _ _ _).2.2.1, (emb t l r d).2.2.1]
    exact moms_eq _ _ _ _ (row t) (readG m c t) (read m c t).2.1 l r d
  · rw [after0_8, (outs _ _ _ _ _).2.2.2, (emb t l r d).2.2.2]
    exact secs_eq _ _ _ _ (row t) (readG m c t) (read m c t).2.2 l r d

end Cert.AdQVal
-- ==== Proof.AdQClaims.lean ====
/-
  The optimiser's step on the query weights: the reference's results, and the claims.
-/
module

public import proofs.«01_k».proof.Defs
public import proofs.«01_k».proof.Proof.Gen.AdQ.Frame
public import proofs.«01_k».proof.Proof.Gen.AdQRefIdeal.Run
public import proofs.«01_k».proof.Proof.AdQArr
public import Idealize.ShloMosaic.Lib.Quiescent

@[expose] public section

set_option maxRecDepth 16384

noncomputable section

namespace Cert.AdQClaims

open Idealize.ShloMosaic Idealize.ShloMosaic.TcCoe Idealize.SL.Sem Cert.Adam

section reference

open Cert.AdQRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2) = grads (L := 2) (R := 1024) (B := 384) ![(m ((c.tc : Thread nD τ).loc main_arg3)), (m ((c.tc : Thread nD τ).loc main_arg4))]
    ∧ r.2.mem ((c.tc : Thread nD τ).loc main_v26) = steps (L := 2) (R := 1024) (B := 384) (m ((c.tc : Thread nD τ).loc main_arg0)) (m ((c.tc : Thread nD τ).loc main_arg1)) (m ((c.tc : Thread nD τ).loc main_arg2)) ![(m ((c.tc : Thread nD τ).loc main_arg3)), (m ((c.tc : Thread nD τ).loc main_arg4))]
    ∧ r.2.mem ((c.tc : Thread nD τ).loc main_v7) = moms (L := 2) (R := 1024) (B := 384) (m ((c.tc : Thread nD τ).loc main_arg1)) ![(m ((c.tc : Thread nD τ).loc main_arg3)), (m ((c.tc : Thread nD τ).loc main_arg4))]
    ∧ r.2.mem ((c.tc : Thread nD τ).loc main_v13) = secs (L := 2) (R := 1024) (B := 384) (m ((c.tc : Thread nD τ).loc main_arg2)) ![(m ((c.tc : Thread nD τ).loc main_arg3)), (m ((c.tc : Thread nD τ).loc main_arg4))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdQIdeal.S2x1024x384.Idx at y
    obtain ⟨l, r, d, rfl⟩ : ∃ (l : Fin 2) (r : Fin 1024) (d : Fin 384), y = ix3 l r d := ⟨y 0, y 1, y 2, eq_ix3 y⟩
    fin_cases l
    all_goals pointwise
    all_goals rfl

end reference

/-- The kernel as printed ends, its arguments unchanged and every counter at zero. -/
theorem ends : quiescent_AdQ (hAdQ := Cert.AdQ.Gen.facts) := fun m ρ _ => Cert.AdQ.Gen.frame m ρ

/-- So does its exact form. -/
theorem ideal_ends : quiescent_AdQIdeal (hAdQIdeal := Cert.AdQIdeal.Gen.facts) := fun m ρ _ => Cert.AdQIdeal.Gen.frame m ρ

/-- So does the reference. -/
theorem ref_ends : quiescent_AdQRefIdeal (hAdQRefIdeal := Cert.AdQRefIdeal.Gen.facts) := fun m ρ _ =>
  (θ_run _ _ _).mono (fun r h => ⟨fun c => (h c).2.2.2.2, sem_eq_zero_of_no_sems (by decide) r.2⟩) (Cert.AdQRefIdeal.Value.run m ρ)

/-- Both programs' results are the stacked gradients, the change and the new moments, as the same functions of the arguments. -/
theorem equal : algebraic_AdQIdeal_AdQRefIdeal (hAdQIdeal := Cert.AdQIdeal.Gen.facts) (hAdQRefIdeal := Cert.AdQRefIdeal.Gen.facts) := by
  intro m ρ m' ρ' _ hag
  refine ⟨fun c => grads (AdQVal.aG m c), fun c => steps (AdQVal.aW m c) (AdQVal.aM m c) (AdQVal.aV m c) (AdQVal.aG m c), fun c => moms (AdQVal.aM m c) (AdQVal.aG m c), fun c => secs (AdQVal.aV m c) (AdQVal.aG m c),
    (θ_run _ _ _).mono (fun _ h c => ⟨(h c).1.trans (AdQVal.arrs m c).1, (h c).2.1.trans (AdQVal.arrs m c).2.1, (h c).2.2.1.trans (AdQVal.arrs m c).2.2.1, (h c).2.2.2.1.trans (AdQVal.arrs m c).2.2.2, (h c).2.2.2.2⟩) (Cert.AdQIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2.1, (hag c).2.2.2.2]
  · rw [(hag c).1, (hag c).2.1, (hag c).2.2.1, (hag c).2.2.2.1, (hag c).2.2.2.2]
  · rw [(hag c).2.1, (hag c).2.2.2.1, (hag c).2.2.2.2]
  · rw [(hag c).2.2.1, (hag c).2.2.2.1, (hag c).2.2.2.2]

end Cert.AdQClaims
-- ==== Proof.AdOArr.lean ====
/-
  The optimiser's step on the attention's output weights: the kernel's four output arrays.
-/
module

public import proofs.«01_k».proof.Proof.Adam
public import proofs.«01_k».proof.Proof.Gen.AdOIdeal.Value
public import Idealize.ShloMosaic.Lib.Pipeline.ValueKit
public import Idealize.ShloMosaic.Lib.Pointwise

@[expose] public section

set_option maxRecDepth 16384

noncomputable section

namespace Cert.AdOVal

open Idealize.ShloMosaic Idealize.ShloMosaic.TcCoe Idealize.SL.Sem Cert.AdOIdeal Cert.AdOIdeal.Gen Cert.Adam Cert.Cols

section block

variable (x0 : Vec Ideal S2x512x256 .f32) (x1 : Vec Ideal S2x512x256 .f32) (x2 : Vec Ideal S2x512x256 .f32) (x3 : Vec Ideal S512x256 .f32) (x4 : Vec Ideal S512x256 .f32)

/-- What the body stores: the stacked gradients, the change, and the new moments. -/
theorem outs : out0_5 x0 x1 x2 x3 x4 = (grads (L := 2) (R := 512) (B := 256) ![x3, x4] : Vec Ideal S2x512x256 .f32) ∧
    out0_6 x0 x1 x2 x3 x4 = (steps (L := 2) (R := 512) (B := 256) x0 x1 x2 ![x3, x4] : Vec Ideal S2x512x256 .f32) ∧
    out0_7 x0 x1 x2 x3 x4 = (moms (L := 2) (R := 512) (B := 256) x1 ![x3, x4] : Vec Ideal S2x512x256 .f32) ∧
    out0_8 x0 x1 x2 x3 x4 = (secs (L := 2) (R := 512) (B := 256) x2 ![x3, x4] : Vec Ideal S2x512x256 .f32) := by
  refine ⟨?_, ?_, ?_, ?_⟩
  on_goal 1 => (unfold_out out0_5; refine funext fun y => canon_of_pieces _ _ ?_ y (cover0_5 _ _ y))
  on_goal 2 => (unfold_out out0_6; refine funext fun y => canon_of_pieces _ _ ?_ y (cover0_6 _ _ y))
  on_goal 3 => (unfold_out out0_7; refine funext fun y => canon_of_pieces _ _ ?_ y (cover0_7 _ _ y))
  on_goal 4 => (unfold_out out0_8; refine funext fun y => canon_of_pieces _ _ ?_ y (cover0_8 _ _ y))
  all_goals
    rw [List.forall_mem_cons, List.forall_mem_cons]
    refine ⟨?_, ?_, fun _ h => (List.not_mem_nil h).elim⟩
  all_goals
    intro x
    dsimp only
    change S1x512x256.Idx at x
    obtain ⟨k, r, d, rfl⟩ : ∃ (k : Fin 1) (r : Fin 512) (d : Fin 256), x = ix3 k r d := ⟨x 0, x 1, x 2, eq_ix3 x⟩
    obtain rfl : k = 0 := Subsingleton.elim _ _
    refine Eq.trans ?_ (stk_emb _ _ (by decide) 0 r d).symm
    unfold_payloads
    pointwise
    try rfl

end block

variable (m : (ℓ : Loc nD τ sig) → Buf (Elt Ideal) ℓ) (c : Dev nD)

/-- The windows' index maps. -/
theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0])

/-- Row `r` of block `t`. -/
def row (t : Fin 1) (r : Fin 512) : Fin 512 := ⟨512 * t.val + r.val, by omega⟩

/-- The weights. -/
abbrev aW : Vec Ideal S2x512x256 .f32 := m ((c : Thread nD τ).loc main_arg0)
/-- The first moments. -/
abbrev aM : Vec Ideal S2x512x256 .f32 := m ((c : Thread nD τ).loc main_arg1)
/-- The second moments. -/
abbrev aV : Vec Ideal S2x512x256 .f32 := m ((c : Thread nD τ).loc main_arg2)
/-- The layers' gradients. -/
abbrev aG : Lay 2 512 256 := ![(m ((c : Thread nD τ).loc main_arg3) : Vec Ideal S512x256 .f32), (m ((c : Thread nD τ).loc main_arg4) : Vec Ideal S512x256 .f32)]

/-- The blocks of the weights and of the moments are blocks of rows. -/
theorem read (t : Fin cfg0.N) : (∀ (l : Fin 2) (r : Fin 512) (d : Fin 256), (iblk m c 0 t : Vec Ideal S2x512x256 .f32) (ix3 l r d) = aW m c (ix3 l (row t r) d)) ∧
    (∀ (l : Fin 2) (r : Fin 512) (d : Fin 256), (iblk m c 1 t : Vec Ideal S2x512x256 .f32) (ix3 l r d) = aM m c (ix3 l (row t r) d)) ∧
    (∀ (l : Fin 2) (r : Fin 512) (d : Fin 256), (iblk m c 2 t : Vec Ideal S2x512x256 .f32) (ix3 l r d) = aV m c (ix3 l (row t r) d)) := by
  refine ⟨?_, ?_, ?_⟩
  all_goals
    intro l r d
    blk_ext [iblk, V, idx t, row]

/-- So are those of the layers' gradients. -/
theorem readG (t : Fin cfg0.N) : ∀ (l : Fin 2) (r : Fin 512) (d : Fin 256), (![(iblk m c 3 t : Vec Ideal S512x256 .f32), (iblk m c 4 t : Vec Ideal S512x256 .f32)] : Lay 2 512 256) l (ix2 r d) = aG m c l (ix2 (row t r) d) := by
  intro l r d
  fin_cases l
  · show (iblk m c 3 t : Vec Ideal S512x256 .f32) _ = (m ((c : Thread nD τ).loc main_arg3) : Vec Ideal S512x256 .f32) _
    blk_ext [iblk, V, idx t, row]
  · show (iblk m c 4 t : Vec Ideal S512x256 .f32) _ = (m ((c : Thread nD τ).loc main_arg4) : Vec Ideal S512x256 .f32) _
    blk_ext [iblk, V, idx t, row]

/-- So are those of the four output arrays. -/
theorem emb (t : Fin cfg0.N) (l : Fin 2) (r : Fin 512) (d : Fin 256) : (win0_5.blk t).view.emb (ix3 l r d : S2x512x256.Idx) = (ix3 l (row t r) d : S2x512x256.Idx) ∧ (win0_6.blk t).view.emb (ix3 l r d : S2x512x256.Idx) = (ix3 l (row t r) d : S2x512x256.Idx) ∧ (win0_7.blk t).view.emb (ix3 l r d : S2x512x256.Idx) = (ix3 l (row t r) d : S2x512x256.Idx) ∧ (win0_8.blk t).view.emb (ix3 l r d : S2x512x256.Idx) = (ix3 l (row t r) d : S2x512x256.Idx) := by
  refine ⟨?_, ?_, ?_, ?_⟩ <;> blk_ext [idx t, row]

/-- THE OUTPUT ARRAYS: the stacked gradients, the change, and the new moments. -/
theorem arrs : (dats m 0 c).arrAt 5 cfg0.N = grads (aG m c) ∧ (dats m 0 c).arrAt 6 cfg0.N = steps (aW m c) (aM m c) (aV m c) (aG m c) ∧ (dats m 0 c).arrAt 7 cfg0.N = moms (aM m c) (aG m c) ∧ (dats m 0 c).arrAt 8 cfg0.N = secs (aV m c) (aG m c) := by
  refine ⟨(dats m 0 c).arrAt_eq_of_covers 5 _ (by decide +kernel) fun t hf y => ?_, (dats m 0 c).arrAt_eq_of_covers 6 _ (by decide +kernel) fun t hf y => ?_, (dats m 0 c).arrAt_eq_of_covers 7 _ (by decide +kernel) fun t hf y => ?_, (dats m 0 c).arrAt_eq_of_covers 8 _ (by decide +kernel) fun t hf y => ?_⟩
  all_goals
    blk_simp
    change S2x512x256.Idx at y
    obtain ⟨l, r, d, rfl⟩ : ∃ (l : Fin 2) (r : Fin 512) (d : Fin 256), y = ix3 l r d := ⟨y 0, y 1, y 2, eq_ix3 y⟩
  · rw [after0_5, (outs _ _ _ _ _).1, (emb t l r d).1]
    exact grads_eq _ _ (row t) (readG m c t) l r d
  · rw [after0_6, (outs _ _ _ _ _).2.1, (emb t l r d).2.1]
    exact steps_eq _ _ _ _ _ _ _ _ (row t) (readG m c t) (read m c t).1 (read m c t).2.1 (read m c t).2.2 l r d
  · rw [after0_7, (outs _ _ _ _ _).2.2.1, (emb t l r d).2.2.1]
    exact moms_eq _ _ _ _ (row t) (readG m c t) (read m c t).2.1 l r d
  · rw [after0_8, (outs _ _ _ _ _).2.2.2, (emb t l r d).2.2.2]
    exact secs_eq _ _ _ _ (row t) (readG m c t) (read m c t).2.2 l r d

end Cert.AdOVal
-- ==== Proof.AdOClaims.lean ====
/-
  The optimiser's step on the attention's output weights: the reference's results, and the claims.
-/
module

public import proofs.«01_k».proof.Defs
public import proofs.«01_k».proof.Proof.Gen.AdO.Frame
public import proofs.«01_k».proof.Proof.Gen.AdORefIdeal.Run
public import proofs.«01_k».proof.Proof.AdOArr
public import Idealize.ShloMosaic.Lib.Quiescent

@[expose] public section

set_option maxRecDepth 16384

noncomputable section

namespace Cert.AdOClaims

open Idealize.ShloMosaic Idealize.ShloMosaic.TcCoe Idealize.SL.Sem Cert.Adam

section reference

open Cert.AdORefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v2) = grads (L := 2) (R := 512) (B := 256) ![(m ((c.tc : Thread nD τ).loc main_arg3)), (m ((c.tc : Thread nD τ).loc main_arg4))]
    ∧ r.2.mem ((c.tc : Thread nD τ).loc main_v26) = steps (L := 2) (R := 512) (B := 256) (m ((c.tc : Thread nD τ).loc main_arg0)) (m ((c.tc : Thread nD τ).loc main_arg1)) (m ((c.tc : Thread nD τ).loc main_arg2)) ![(m ((c.tc : Thread nD τ).loc main_arg3)), (m ((c.tc : Thread nD τ).loc main_arg4))]
    ∧ r.2.mem ((c.tc : Thread nD τ).loc main_v7) = moms (L := 2) (R := 512) (B := 256) (m ((c.tc : Thread nD τ).loc main_arg1)) ![(m ((c.tc : Thread nD τ).loc main_arg3)), (m ((c.tc : Thread nD τ).loc main_arg4))]
    ∧ r.2.mem ((c.tc : Thread nD τ).loc main_v13) = secs (L := 2) (R := 512) (B := 256) (m ((c.tc : Thread nD τ).loc main_arg2)) ![(m ((c.tc : Thread nD τ).loc main_arg3)), (m ((c.tc : Thread nD τ).loc main_arg4))]
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (Value.run m ρ)
  all_goals
    funext y
    change Cert.AdOIdeal.S2x512x256.Idx at y
    obtain ⟨l, r, d, rfl⟩ : ∃ (l : Fin 2) (r : Fin 512) (d : Fin 256), y = ix3 l r d := ⟨y 0, y 1, y 2, eq_ix3 y⟩
    fin_cases l
    all_goals pointwise
    all_goals rfl

end reference

/-- The kernel as printed ends, its arguments unchanged and every counter at zero. -/
theorem ends : quiescent_AdO (hAdO := Cert.AdO.Gen.facts) := fun m ρ _ => Cert.AdO.Gen.frame m ρ

/-- So does its exact form. -/
theorem ideal_ends : quiescent_AdOIdeal (hAdOIdeal := Cert.AdOIdeal.Gen.facts) := fun m ρ _ => Cert.AdOIdeal.Gen.frame m ρ

/-- So does the reference. -/
theorem ref_ends : quiescent_AdORefIdeal (hAdORefIdeal := Cert.AdORefIdeal.Gen.facts) := fun m ρ _ =>
  (θ_run _ _ _).mono (fun r h => ⟨fun c => (h c).2.2.2.2, sem_eq_zero_of_no_sems (by decide) r.2⟩) (Cert.AdORefIdeal.Value.run m ρ)

/-- Both programs' results are the stacked gradients, the change and the new moments, as the same functions of the arguments. -/
theorem equal : algebraic_AdOIdeal_AdORefIdeal (hAdOIdeal := Cert.AdOIdeal.Gen.facts) (hAdORefIdeal := Cert.AdORefIdeal.Gen.facts) := by
  intro m ρ m' ρ' _ hag
  refine ⟨fun c => grads (AdOVal.aG m c), fun c => steps (AdOVal.aW m c) (AdOVal.aM m c) (AdOVal.aV m c) (AdOVal.aG m c), fun c => moms (AdOVal.aM m c) (AdOVal.aG m c), fun c => secs (AdOVal.aV m c) (AdOVal.aG m c),
    (θ_run _ _ _).mono (fun _ h c => ⟨(h c).1.trans (AdOVal.arrs m c).1, (h c).2.1.trans (AdOVal.arrs m c).2.1, (h c).2.2.1.trans (AdOVal.arrs m c).2.2.1, (h c).2.2.2.1.trans (AdOVal.arrs m c).2.2.2, (h c).2.2.2.2⟩) (Cert.AdOIdeal.Value.run_blocks m ρ),
    (θ_run _ _ _).mono (fun _ h c => ⟨(h c).1.trans ?_, (h c).2.1.trans ?_, (h c).2.2.1.trans ?_, (h c).2.2.2.1.trans ?_, (h c).2.2.2.2⟩) (ref_run m' ρ')⟩
  · rw [(hag c).2.2.2.1, (hag c).2.2.2.2]
  · rw [(hag c).1, (hag c).2.1, (hag c).2.2.1, (hag c).2.2.2.1, (hag c).2.2.2.2]
  · rw [(hag c).2.1, (hag c).2.2.2.1, (hag c).2.2.2.2]
  · rw [(hag c).2.2.1, (hag c).2.2.2.1, (hag c).2.2.2.2]

end Cert.AdOClaims
-- ==== Proof.AdNormArr.lean ====
/-
  The optimiser's step on the gains: the kernel's three output arrays.
-/
module

public import proofs.«01_k».proof.Proof.Adam
public import proofs.«01_k».proof.Proof.Gen.AdNormIdeal.Value
public import Idealize.ShloMosaic.Lib.Pipeline.ValueKit
public import Idealize.ShloMosaic.Lib.Pointwise

@[expose] public section

set_option maxRecDepth 16384

noncomputable section

namespace Cert.AdNormVal

open Idealize.ShloMosaic Idealize.ShloMosaic.TcCoe Idealize.SL.Sem Cert.AdNormIdeal Cert.AdNormIdeal.Gen Cert.Adam Cert.Cols

section block

variable (x0 x1 x2 x3 : Vec Ideal S16x1024 .f32)

/-- What the body stores: the change, and the new moments. -/
theorem outs : out0_4 x0 x1 x2 x3 = (step2 (R := 16) (B := 1024) x0 x1 x2 x3 : Vec Ideal S16x1024 .f32) ∧
    out0_5 x0 x1 x2 x3 = (mom2 (R := 16) (B := 1024) x1 x2 : Vec Ideal S16x1024 .f32) ∧
    out0_6 x0 x1 x2 x3 = (sec2 (R := 16) (B := 1024) x1 x3 : Vec Ideal S16x1024 .f32) := by
  refine ⟨funext fun y => canon_of_pieces _ _ ?_ y (cover0_4 _ y), funext fun y => canon_of_pieces _ _ ?_ y (cover0_5 _ y), funext fun y => canon_of_pieces _ _ ?_ y (cover0_6 _ y)⟩
  all_goals
    rw [List.forall_mem_cons]
    refine ⟨?_, fun _ h => (List.not_mem_nil h).elim⟩
    intro x
    dsimp only
    change S16x1024.Idx at x
    obtain ⟨r, d, rfl⟩ : ∃ (r : Fin 16) (d : Fin 1024), x = ix2 r d := ⟨x 0, x 1, eq_ix2 x⟩
    refine Eq.trans ?_ (congrArg _ (Cert.Tiles.emb_whole _ _ _).symm)
    unfold_payloads
    pointwise
    rfl

end block

variable (m : (ℓ : Loc nD τ sig) → Buf (Elt Ideal) ℓ) (c : Dev nD)

/-- The windows' index maps. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

/-- The weights. -/
abbrev aW : Vec Ideal S16x1024 .f32 := m ((c : Thread nD τ).loc main_arg0)
/-- The gradients. -/
abbrev aG : Vec Ideal S16x1024 .f32 := m ((c : Thread nD τ).loc main_arg1)
/-- The first moments. -/
abbrev aM : Vec Ideal S16x1024 .f32 := m ((c : Thread nD τ).loc main_arg2)
/-- The second moments. -/
abbrev aV : Vec Ideal S16x1024 .f32 := m ((c : Thread nD τ).loc main_arg3)

/-- The blocks are the whole arrays. -/
theorem read (t : Fin cfg0.N) (r : Fin 16) (d : Fin 1024) : (iblk m c 0 t : Vec Ideal S16x1024 .f32) (ix2 r d) = aW m c (ix2 r d) ∧ (iblk m c 1 t : Vec Ideal S16x1024 .f32) (ix2 r d) = aG m c (ix2 r d) ∧ (iblk m c 2 t : Vec Ideal S16x1024 .f32) (ix2 r d) = aM m c (ix2 r d) ∧ (iblk m c 3 t : Vec Ideal S16x1024 .f32) (ix2 r d) = aV m c (ix2 r d) := by
  refine ⟨?_, ?_, ?_, ?_⟩ <;> blk_ext [iblk, V, idx t]

/-- So are those of the three output arrays. -/
theorem emb (t : Fin cfg0.N) (r : Fin 16) (d : Fin 1024) : (win0_4.blk t).view.emb (ix2 r d : S16x1024.Idx) = (ix2 r d : S16x1024.Idx) ∧ (win0_5.blk t).view.emb (ix2 r d : S16x1024.Idx) = (ix2 r d : S16x1024.Idx) ∧ (win0_6.blk t).view.emb (ix2 r d : S16x1024.Idx) = (ix2 r d : S16x1024.Idx) := by
  refine ⟨?_, ?_, ?_⟩ <;> blk_ext [idx t]

/-- THE OUTPUT ARRAYS: the change, and the new moments. -/
theorem arrs : (dats m 0 c).arrAt 4 cfg0.N = step2 (R := 16) (B := 1024) (aW m c) (aG m c) (aM m c) (aV m c) ∧ (dats m 0 c).arrAt 5 cfg0.N = mom2 (R := 16) (B := 1024) (aG m c) (aM m c) ∧ (dats m 0 c).arrAt 6 cfg0.N = sec2 (R := 16) (B := 1024) (aG m c) (aV m c) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩
  all_goals
    blk_simp
    change S16x1024.Idx at y
    obtain ⟨r, d, rfl⟩ : ∃ (r : Fin 16) (d : Fin 1024), y = ix2 r d := ⟨y 0, y 1, eq_ix2 y⟩
  · rw [after0_4, (outs _ _ _ _).1, (emb t r d).1]
    show step2 (iblk m c 0 t : Vec Ideal S16x1024 .f32) (iblk m c 1 t : Vec Ideal S16x1024 .f32) (iblk m c 2 t : Vec Ideal S16x1024 .f32) (iblk m c 3 t : Vec Ideal S16x1024 .f32) (ix2 r d) = _
    simp only [step2, read m c t r d]
  · rw [after0_5, (outs _ _ _ _).2.1, (emb t r d).2.1]
    show mom2 (iblk m c 1 t : Vec Ideal S16x1024 .f32) (iblk m c 2 t : Vec Ideal S16x1024 .f32) (ix2 r d) = _
    simp only [mom2, read m c t r d]
  · rw [after0_6, (outs _ _ _ _).2.2, (emb t r d).2.2]
    show sec2 (iblk m c 1 t : Vec Ideal S16x1024 .f32) (iblk m c 3 t : Vec Ideal S16x1024 .f32) (ix2 r d) = _
    simp only [sec2, read m c t r d]

end Cert.AdNormVal
-- ==== Proof.AdNormClaims.lean ====
/-
  The optimiser's step on the gains: the reference's results, and the claims.
-/
module

public import proofs.«01_k».proof.Defs
public import proofs.«01_k».proof.Proof.Gen.AdNorm.Frame
public import proofs.«01_k».proof.Proof.Gen.AdNormRefIdeal.Run
public import proofs.«01_k».proof.Proof.AdNormArr
public import Idealize.ShloMosaic.Lib.Quiescent

@[expose] public section

set_option maxRecDepth 16384

noncomputable section

namespace Cert.AdNormClaims

open Idealize.ShloMosaic Idealize.ShloMosaic.TcCoe Idealize.SL.Sem Cert.Adam

section reference

open Cert.AdNormRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v23) = step2 (R := 16) (B := 1024) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4) = mom2 (R := 16) (B := 1024) (m ((c.tc : Thread nD τ).loc main_arg1)) (m ((c.tc : Thread nD τ).loc main_arg2))
    ∧ r.2.mem ((c.tc : Thread nD τ).loc main_v10) = sec2 (R := 16) (B := 1024) (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (Value.run m ρ)
  all_goals
    funext y
    change Cert.AdNormIdeal.S16x1024.Idx at y
    obtain ⟨r, d, rfl⟩ : ∃ (r : Fin 16) (d : Fin 1024), y = ix2 r d := ⟨y 0, y 1, eq_ix2 y⟩
    pointwise
    rfl

end reference

/-- The kernel as printed ends, its arguments unchanged and every counter at zero. -/
theorem ends : quiescent_AdNorm (hAdNorm := Cert.AdNorm.Gen.facts) := fun m ρ _ => Cert.AdNorm.Gen.frame m ρ

/-- So does its exact form. -/
theorem ideal_ends : quiescent_AdNormIdeal (hAdNormIdeal := Cert.AdNormIdeal.Gen.facts) := fun m ρ _ => Cert.AdNormIdeal.Gen.frame m ρ

/-- So does the reference. -/
theorem ref_ends : quiescent_AdNormRefIdeal (hAdNormRefIdeal := Cert.AdNormRefIdeal.Gen.facts) := fun m ρ _ =>
  (θ_run _ _ _).mono (fun r h => ⟨fun c => (h c).2.2.2, sem_eq_zero_of_no_sems (by decide) r.2⟩) (Cert.AdNormRefIdeal.Value.run m ρ)

/-- Both programs' results are the change and the new moments, as the same functions of the arguments. -/
theorem equal : algebraic_AdNormIdeal_AdNormRefIdeal (hAdNormIdeal := Cert.AdNormIdeal.Gen.facts) (hAdNormRefIdeal := Cert.AdNormRefIdeal.Gen.facts) := by
  intro m ρ m' ρ' _ hag
  refine ⟨fun c => step2 (R := 16) (B := 1024) (AdNormVal.aW m c) (AdNormVal.aG m c) (AdNormVal.aM m c) (AdNormVal.aV m c), fun c => mom2 (R := 16) (B := 1024) (AdNormVal.aG m c) (AdNormVal.aM m c), fun c => sec2 (R := 16) (B := 1024) (AdNormVal.aG m c) (AdNormVal.aV m c),
    (θ_run _ _ _).mono (fun _ h c => ⟨(h c).1.trans (AdNormVal.arrs m c).1, (h c).2.1.trans (AdNormVal.arrs m c).2.1, (h c).2.2.1.trans (AdNormVal.arrs m c).2.2, (h c).2.2.2⟩) (Cert.AdNormIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1, (hag c).2.2.1, (hag c).2.2.2]
  · rw [(hag c).2.1, (hag c).2.2.1]
  · rw [(hag c).2.1, (hag c).2.2.2]

end Cert.AdNormClaims
-- ==== Proof.AdConvArr.lean ====
/-
  The optimiser's step on the short convolution's taps: the kernel's three output arrays.
-/
module

public import proofs.«01_k».proof.Proof.Adam
public import proofs.«01_k».proof.Proof.Gen.AdConvIdeal.Value
public import Idealize.ShloMosaic.Lib.Pipeline.ValueKit
public import Idealize.ShloMosaic.Lib.Pointwise

@[expose] public section

set_option maxRecDepth 16384

noncomputable section

namespace Cert.AdConvVal

open Idealize.ShloMosaic Idealize.ShloMosaic.TcCoe Idealize.SL.Sem Cert.AdConvIdeal Cert.AdConvIdeal.Gen Cert.Adam Cert.Cols

section block

variable (x0 x1 x2 x3 : Vec Ideal S8x256 .f32)

/-- What the body stores: the change, and the new moments. -/
theorem outs : out0_4 x0 x1 x2 x3 = (step2 (R := 8) (B := 256) x0 x1 x2 x3 : Vec Ideal S8x256 .f32) ∧
    out0_5 x0 x1 x2 x3 = (mom2 (R := 8) (B := 256) x1 x2 : Vec Ideal S8x256 .f32) ∧
    out0_6 x0 x1 x2 x3 = (sec2 (R := 8) (B := 256) x1 x3 : Vec Ideal S8x256 .f32) := by
  refine ⟨funext fun y => canon_of_pieces _ _ ?_ y (cover0_4 _ y), funext fun y => canon_of_pieces _ _ ?_ y (cover0_5 _ y), funext fun y => canon_of_pieces _ _ ?_ y (cover0_6 _ y)⟩
  all_goals
    rw [List.forall_mem_cons]
    refine ⟨?_, fun _ h => (List.not_mem_nil h).elim⟩
    intro x
    dsimp only
    change S8x256.Idx at x
    obtain ⟨r, d, rfl⟩ : ∃ (r : Fin 8) (d : Fin 256), x = ix2 r d := ⟨x 0, x 1, eq_ix2 x⟩
    refine Eq.trans ?_ (congrArg _ (Cert.Tiles.emb_whole _ _ _).symm)
    unfold_payloads
    pointwise
    rfl

end block

variable (m : (ℓ : Loc nD τ sig) → Buf (Elt Ideal) ℓ) (c : Dev nD)

/-- The windows' index maps. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

/-- The weights. -/
abbrev aW : Vec Ideal S8x256 .f32 := m ((c : Thread nD τ).loc main_arg0)
/-- The gradients. -/
abbrev aG : Vec Ideal S8x256 .f32 := m ((c : Thread nD τ).loc main_arg1)
/-- The first moments. -/
abbrev aM : Vec Ideal S8x256 .f32 := m ((c : Thread nD τ).loc main_arg2)
/-- The second moments. -/
abbrev aV : Vec Ideal S8x256 .f32 := m ((c : Thread nD τ).loc main_arg3)

/-- The blocks are the whole arrays. -/
theorem read (t : Fin cfg0.N) (r : Fin 8) (d : Fin 256) : (iblk m c 0 t : Vec Ideal S8x256 .f32) (ix2 r d) = aW m c (ix2 r d) ∧ (iblk m c 1 t : Vec Ideal S8x256 .f32) (ix2 r d) = aG m c (ix2 r d) ∧ (iblk m c 2 t : Vec Ideal S8x256 .f32) (ix2 r d) = aM m c (ix2 r d) ∧ (iblk m c 3 t : Vec Ideal S8x256 .f32) (ix2 r d) = aV m c (ix2 r d) := by
  refine ⟨?_, ?_, ?_, ?_⟩ <;> blk_ext [iblk, V, idx t]

/-- So are those of the three output arrays. -/
theorem emb (t : Fin cfg0.N) (r : Fin 8) (d : Fin 256) : (win0_4.blk t).view.emb (ix2 r d : S8x256.Idx) = (ix2 r d : S8x256.Idx) ∧ (win0_5.blk t).view.emb (ix2 r d : S8x256.Idx) = (ix2 r d : S8x256.Idx) ∧ (win0_6.blk t).view.emb (ix2 r d : S8x256.Idx) = (ix2 r d : S8x256.Idx) := by
  refine ⟨?_, ?_, ?_⟩ <;> blk_ext [idx t]

/-- THE OUTPUT ARRAYS: the change, and the new moments. -/
theorem arrs : (dats m 0 c).arrAt 4 cfg0.N = step2 (R := 8) (B := 256) (aW m c) (aG m c) (aM m c) (aV m c) ∧ (dats m 0 c).arrAt 5 cfg0.N = mom2 (R := 8) (B := 256) (aG m c) (aM m c) ∧ (dats m 0 c).arrAt 6 cfg0.N = sec2 (R := 8) (B := 256) (aG m c) (aV m c) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩
  all_goals
    blk_simp
    change S8x256.Idx at y
    obtain ⟨r, d, rfl⟩ : ∃ (r : Fin 8) (d : Fin 256), y = ix2 r d := ⟨y 0, y 1, eq_ix2 y⟩
  · rw [after0_4, (outs _ _ _ _).1, (emb t r d).1]
    show step2 (iblk m c 0 t : Vec Ideal S8x256 .f32) (iblk m c 1 t : Vec Ideal S8x256 .f32) (iblk m c 2 t : Vec Ideal S8x256 .f32) (iblk m c 3 t : Vec Ideal S8x256 .f32) (ix2 r d) = _
    simp only [step2, read m c t r d]
  · rw [after0_5, (outs _ _ _ _).2.1, (emb t r d).2.1]
    show mom2 (iblk m c 1 t : Vec Ideal S8x256 .f32) (iblk m c 2 t : Vec Ideal S8x256 .f32) (ix2 r d) = _
    simp only [mom2, read m c t r d]
  · rw [after0_6, (outs _ _ _ _).2.2, (emb t r d).2.2]
    show sec2 (iblk m c 1 t : Vec Ideal S8x256 .f32) (iblk m c 3 t : Vec Ideal S8x256 .f32) (ix2 r d) = _
    simp only [sec2, read m c t r d]

end Cert.AdConvVal
-- ==== Proof.AdConvClaims.lean ====
/-
  The optimiser's step on the short convolution's taps: the reference's results, and the claims.
-/
module

public import proofs.«01_k».proof.Defs
public import proofs.«01_k».proof.Proof.Gen.AdConv.Frame
public import proofs.«01_k».proof.Proof.Gen.AdConvRefIdeal.Run
public import proofs.«01_k».proof.Proof.AdConvArr
public import Idealize.ShloMosaic.Lib.Quiescent

@[expose] public section

set_option maxRecDepth 16384

noncomputable section

namespace Cert.AdConvClaims

open Idealize.ShloMosaic Idealize.ShloMosaic.TcCoe Idealize.SL.Sem Cert.Adam

section reference

open Cert.AdConvRefIdeal

variable (m : (ℓ : Loc nD τ sig) → Buf (Elt Ideal) ℓ)

/-- THE REFERENCE'S RUN: each result is the array of the same function. -/
theorem ref_run (ρ : Dev nD → PrngReg) : θ_run defs (onTc (τ := τ) (main (F := Ideal))) ⟨m, fun _ => 0, ρ⟩ fun r => ∀ c : Dev nD,
    r.2.mem ((c.tc : Thread nD τ).loc main_v23) = step2 (R := 8) (B := 256) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4) = mom2 (R := 8) (B := 256) (m ((c.tc : Thread nD τ).loc main_arg1)) (m ((c.tc : Thread nD τ).loc main_arg2))
    ∧ r.2.mem ((c.tc : Thread nD τ).loc main_v10) = sec2 (R := 8) (B := 256) (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (Value.run m ρ)
  all_goals
    funext y
    change Cert.AdConvIdeal.S8x256.Idx at y
    obtain ⟨r, d, rfl⟩ : ∃ (r : Fin 8) (d : Fin 256), y = ix2 r d := ⟨y 0, y 1, eq_ix2 y⟩
    pointwise
    rfl

end reference

/-- The kernel as printed ends, its arguments unchanged and every counter at zero. -/
theorem ends : quiescent_AdConv (hAdConv := Cert.AdConv.Gen.facts) := fun m ρ _ => Cert.AdConv.Gen.frame m ρ

/-- So does its exact form. -/
theorem ideal_ends : quiescent_AdConvIdeal (hAdConvIdeal := Cert.AdConvIdeal.Gen.facts) := fun m ρ _ => Cert.AdConvIdeal.Gen.frame m ρ

/-- So does the reference. -/
theorem ref_ends : quiescent_AdConvRefIdeal (hAdConvRefIdeal := Cert.AdConvRefIdeal.Gen.facts) := fun m ρ _ =>
  (θ_run _ _ _).mono (fun r h => ⟨fun c => (h c).2.2.2, sem_eq_zero_of_no_sems (by decide) r.2⟩) (Cert.AdConvRefIdeal.Value.run m ρ)

/-- Both programs' results are the change and the new moments, as the same functions of the arguments. -/
theorem equal : algebraic_AdConvIdeal_AdConvRefIdeal (hAdConvIdeal := Cert.AdConvIdeal.Gen.facts) (hAdConvRefIdeal := Cert.AdConvRefIdeal.Gen.facts) := by
  intro m ρ m' ρ' _ hag
  refine ⟨fun c => step2 (R := 8) (B := 256) (AdConvVal.aW m c) (AdConvVal.aG m c) (AdConvVal.aM m c) (AdConvVal.aV m c), fun c => mom2 (R := 8) (B := 256) (AdConvVal.aG m c) (AdConvVal.aM m c), fun c => sec2 (R := 8) (B := 256) (AdConvVal.aG m c) (AdConvVal.aV m c),
    (θ_run _ _ _).mono (fun _ h c => ⟨(h c).1.trans (AdConvVal.arrs m c).1, (h c).2.1.trans (AdConvVal.arrs m c).2.1, (h c).2.2.1.trans (AdConvVal.arrs m c).2.2, (h c).2.2.2⟩) (Cert.AdConvIdeal.Value.run_blocks m ρ),
    (θ_run _ _ _).mono (fun _ h c => ⟨(h c).1.trans ?_, (h c).2.1.trans ?_, (h c).2.2.1.trans ?_, (h c).2.2.2⟩) (ref_run m' ρ')⟩
  · rw [(hag c).1, (hag c).2.1, (hag c).2.2.1, (hag c).2.2.2]
  · rw [(hag c).2.1, (hag c).2.2.1]
  · rw [(hag c).2.1, (hag c).2.2.2]

end Cert.AdConvClaims
-- ==== Proof.lean ====
/-
  The claims of the calls, put together.
-/
module

public import proofs.«01_k».proof.Defs
public import proofs.«01_k».proof.Proof.ConvClaims
public import proofs.«01_k».proof.Proof.MlpClaims
public import proofs.«01_k».proof.Proof.DownClaims
public import proofs.«01_k».proof.Proof.UpClaims
public import proofs.«01_k».proof.Proof.AinClaims
public import proofs.«01_k».proof.Proof.AoutClaims
public import proofs.«01_k».proof.Proof.KvClaims
public import proofs.«01_k».proof.Proof.OwClaims
public import proofs.«01_k».proof.Proof.QwClaims
public import proofs.«01_k».proof.Proof.AoutBClaims
public import proofs.«01_k».proof.Proof.ObClaims
public import proofs.«01_k».proof.Proof.AinBClaims
public import proofs.«01_k».proof.Proof.QbClaims
public import proofs.«01_k».proof.Proof.KvBClaims
public import proofs.«01_k».proof.Proof.MlpFClaims
public import proofs.«01_k».proof.Proof.UpFClaims
public import proofs.«01_k».proof.Proof.DownFClaims
public import proofs.«01_k».proof.Proof.AinFClaims
public import proofs.«01_k».proof.Proof.AoutFClaims
public import proofs.«01_k».proof.Proof.KvFClaims
public import proofs.«01_k».proof.Proof.QFClaims
public import proofs.«01_k».proof.Proof.OFClaims
public import proofs.«01_k».proof.Proof.LossBClaims
public import proofs.«01_k».proof.Proof.AinNClaims
public import proofs.«01_k».proof.Proof.RmsClaims
public import proofs.«01_k».proof.Proof.AdUpClaims
public import proofs.«01_k».proof.Proof.AdInClaims
public import proofs.«01_k».proof.Proof.AdOutClaims
public import proofs.«01_k».proof.Proof.AdKvClaims
public import proofs.«01_k».proof.Proof.AdQClaims
public import proofs.«01_k».proof.Proof.AdOClaims
public import proofs.«01_k».proof.Proof.AdNormClaims
public import proofs.«01_k».proof.Proof.AdConvClaims
public import Idealize.ShloMosaic.Adequacy
public import Idealize.ShloMosaic.Init

@[expose] public section

noncomputable section

namespace Cert.Proof

open Idealize.ShloMosaic Idealize.SL.Sem Cert.Conv

theorem claim : Cert.Claim := ⟨Cert.Conv.Gen.facts, Cert.ConvIdeal.Gen.facts, Cert.ConvRefIdeal.Gen.facts, Cert.Mlp.Gen.facts, Cert.MlpIdeal.Gen.facts, Cert.MlpRefIdeal.Gen.facts, Cert.Down.Gen.facts, Cert.DownIdeal.Gen.facts, Cert.DownRefIdeal.Gen.facts, Cert.Up.Gen.facts, Cert.UpIdeal.Gen.facts, Cert.UpRefIdeal.Gen.facts, Cert.Ain.Gen.facts, Cert.AinIdeal.Gen.facts, Cert.AinRefIdeal.Gen.facts, Cert.Aout.Gen.facts, Cert.AoutIdeal.Gen.facts, Cert.AoutRefIdeal.Gen.facts, Cert.Kv.Gen.facts, Cert.KvIdeal.Gen.facts, Cert.KvRefIdeal.Gen.facts, Cert.Ow.Gen.facts, Cert.OwIdeal.Gen.facts, Cert.OwRefIdeal.Gen.facts, Cert.Qw.Gen.facts, Cert.QwIdeal.Gen.facts, Cert.QwRefIdeal.Gen.facts, Cert.AoutB.Gen.facts, Cert.AoutBIdeal.Gen.facts, Cert.AoutBRefIdeal.Gen.facts, Cert.Ob.Gen.facts, Cert.ObIdeal.Gen.facts, Cert.ObRefIdeal.Gen.facts, Cert.AinB.Gen.facts, Cert.AinBIdeal.Gen.facts, Cert.AinBRefIdeal.Gen.facts, Cert.Qb.Gen.facts, Cert.QbIdeal.Gen.facts, Cert.QbRefIdeal.Gen.facts, Cert.KvB.Gen.facts, Cert.KvBIdeal.Gen.facts, Cert.KvBRefIdeal.Gen.facts, Cert.MlpF.Gen.facts, Cert.MlpFIdeal.Gen.facts, Cert.MlpFRefIdeal.Gen.facts, Cert.UpF.Gen.facts, Cert.UpFIdeal.Gen.facts, Cert.UpFRefIdeal.Gen.facts, Cert.DownF.Gen.facts, Cert.DownFIdeal.Gen.facts, Cert.DownFRefIdeal.Gen.facts, Cert.AinF.Gen.facts, Cert.AinFIdeal.Gen.facts, Cert.AinFRefIdeal.Gen.facts, Cert.AoutF.Gen.facts, Cert.AoutFIdeal.Gen.facts, Cert.AoutFRefIdeal.Gen.facts, Cert.KvF.Gen.facts, Cert.KvFIdeal.Gen.facts, Cert.KvFRefIdeal.Gen.facts, Cert.QF.Gen.facts, Cert.QFIdeal.Gen.facts, Cert.QFRefIdeal.Gen.facts, Cert.OF.Gen.facts, Cert.OFIdeal.Gen.facts, Cert.OFRefIdeal.Gen.facts, Cert.LossB.Gen.facts, Cert.LossBIdeal.Gen.facts, Cert.LossBRefIdeal.Gen.facts, Cert.AinN.Gen.facts, Cert.AinNIdeal.Gen.facts, Cert.AinNRefIdeal.Gen.facts, Cert.Rms.Gen.facts, Cert.RmsIdeal.Gen.facts, Cert.RmsRefIdeal.Gen.facts, Cert.AdUp.Gen.facts, Cert.AdUpIdeal.Gen.facts, Cert.AdUpRefIdeal.Gen.facts, Cert.AdIn.Gen.facts, Cert.AdInIdeal.Gen.facts, Cert.AdInRefIdeal.Gen.facts, Cert.AdOut.Gen.facts, Cert.AdOutIdeal.Gen.facts, Cert.AdOutRefIdeal.Gen.facts, Cert.AdKv.Gen.facts, Cert.AdKvIdeal.Gen.facts, Cert.AdKvRefIdeal.Gen.facts, Cert.AdQ.Gen.facts, Cert.AdQIdeal.Gen.facts, Cert.AdQRefIdeal.Gen.facts, Cert.AdO.Gen.facts, Cert.AdOIdeal.Gen.facts, Cert.AdORefIdeal.Gen.facts, Cert.AdNorm.Gen.facts, Cert.AdNormIdeal.Gen.facts, Cert.AdNormRefIdeal.Gen.facts, Cert.AdConv.Gen.facts, Cert.AdConvIdeal.Gen.facts, Cert.AdConvRefIdeal.Gen.facts,
  ConvClaims.ends, ConvClaims.ideal_ends, ConvClaims.ref_ends, MlpClaims.ends, MlpClaims.ideal_ends, MlpClaims.ref_ends, DownClaims.ends, DownClaims.ideal_ends, DownClaims.ref_ends, UpClaims.ends, UpClaims.ideal_ends, UpClaims.ref_ends, AinClaims.ends, AinClaims.ideal_ends, AinClaims.ref_ends, AoutClaims.ends, AoutClaims.ideal_ends, AoutClaims.ref_ends, KvClaims.ends, KvClaims.ideal_ends, KvClaims.ref_ends, OwClaims.ends, OwClaims.ideal_ends, OwClaims.ref_ends, QwClaims.ends, QwClaims.ideal_ends, QwClaims.ref_ends, AoutBClaims.ends, AoutBClaims.ideal_ends, AoutBClaims.ref_ends, ObClaims.ends, ObClaims.ideal_ends, ObClaims.ref_ends, AinBClaims.ends, AinBClaims.ideal_ends, AinBClaims.ref_ends, QbClaims.ends, QbClaims.ideal_ends, QbClaims.ref_ends, KvBClaims.ends, KvBClaims.ideal_ends, KvBClaims.ref_ends, MlpFClaims.ends, MlpFClaims.ideal_ends, MlpFClaims.ref_ends, UpFClaims.ends, UpFClaims.ideal_ends, UpFClaims.ref_ends, DownFClaims.ends, DownFClaims.ideal_ends, DownFClaims.ref_ends, AinFClaims.ends, AinFClaims.ideal_ends, AinFClaims.ref_ends, AoutFClaims.ends, AoutFClaims.ideal_ends, AoutFClaims.ref_ends, KvFClaims.ends, KvFClaims.ideal_ends, KvFClaims.ref_ends, QFClaims.ends, QFClaims.ideal_ends, QFClaims.ref_ends, OFClaims.ends, OFClaims.ideal_ends, OFClaims.ref_ends, LossBClaims.ends, LossBClaims.ideal_ends, LossBClaims.ref_ends, AinNClaims.ends, AinNClaims.ideal_ends, AinNClaims.ref_ends, RmsClaims.ends, RmsClaims.ideal_ends, RmsClaims.ref_ends, AdUpClaims.ends, AdUpClaims.ideal_ends, AdUpClaims.ref_ends, AdInClaims.ends, AdInClaims.ideal_ends, AdInClaims.ref_ends, AdOutClaims.ends, AdOutClaims.ideal_ends, AdOutClaims.ref_ends, AdKvClaims.ends, AdKvClaims.ideal_ends, AdKvClaims.ref_ends, AdQClaims.ends, AdQClaims.ideal_ends, AdQClaims.ref_ends, AdOClaims.ends, AdOClaims.ideal_ends, AdOClaims.ref_ends, AdNormClaims.ends, AdNormClaims.ideal_ends, AdNormClaims.ref_ends, AdConvClaims.ends, AdConvClaims.ideal_ends, AdConvClaims.ref_ends, trivial, ConvClaims.equal, trivial, MlpClaims.equal, trivial, DownClaims.equal, trivial, UpClaims.equal, trivial, AinClaims.equal, trivial, AoutClaims.equal, trivial, KvClaims.equal, trivial, OwClaims.equal, trivial, QwClaims.equal, trivial, AoutBClaims.equal, trivial, ObClaims.equal, trivial, AinBClaims.equal, trivial, QbClaims.equal, trivial, KvBClaims.equal, trivial, MlpFClaims.equal, trivial, UpFClaims.equal, trivial, DownFClaims.equal, trivial, AinFClaims.equal, trivial, AoutFClaims.equal, trivial, KvFClaims.equal, trivial, QFClaims.equal, trivial, OFClaims.equal, trivial, LossBClaims.equal, trivial, AinNClaims.equal, trivial, RmsClaims.equal, trivial, AdUpClaims.equal, trivial, AdInClaims.equal, trivial, AdOutClaims.equal, trivial, AdKvClaims.equal, trivial, AdQClaims.equal, trivial, AdOClaims.equal, trivial, AdNormClaims.equal, trivial, AdConvClaims.equal⟩

end Cert.Proof

end
